-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.2.2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite12 [hPre_finite12 : Cert.Pre_finite12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6))).1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5)) (m ((c.tc : Thread Cert.Kernel12Ideal.nD Cert.Kernel12Ideal.τ).loc Cert.Kernel12Ideal.main_arg6))).2 = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite12 [hPre_finite12 : Cert.Pre_finite12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6))).1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5)) (m ((c.tc : Thread Cert.Reference12Ideal.nD Cert.Reference12Ideal.τ).loc Cert.Reference12Ideal.main_arg6))).2 = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite13 [hPre_finite13 : Cert.Pre_finite13.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4))).1 = (fun _ => 1#1)
    ∧ (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4))).2.1 = (fun _ => 1#1)
    ∧ (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4))).2.2.1 = (fun _ => 1#1)
    ∧ (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4))).2.2.2.1 = (fun _ => 1#1)
    ∧ (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4))).2.2.2.2 = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite13 [hPre_finite13 : Cert.Pre_finite13.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4))).1 = (fun _ => 1#1)
    ∧ (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4))).2.1 = (fun _ => 1#1)
    ∧ (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4))).2.2.1 = (fun _ => 1#1)
    ∧ (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4))).2.2.2.1 = (fun _ => 1#1)
    ∧ (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4))).2.2.2.2 = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite14 [hPre_finite14 : Cert.Pre_finite14.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5)) (m ((c.tc : Thread Cert.Kernel14Ideal.nD Cert.Kernel14Ideal.τ).loc Cert.Kernel14Ideal.main_arg6)) (m ((c.tc : Thread Cert.Kernel14Ideal.nD Cert.Kernel14Ideal.τ).loc Cert.Kernel14Ideal.main_arg7))).1 = (fun _ => 1#1)
    ∧ (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5)) (m ((c.tc : Thread Cert.Kernel14Ideal.nD Cert.Kernel14Ideal.τ).loc Cert.Kernel14Ideal.main_arg6)) (m ((c.tc : Thread Cert.Kernel14Ideal.nD Cert.Kernel14Ideal.τ).loc Cert.Kernel14Ideal.main_arg7))).2.1 = (fun _ => 1#1)
    ∧ (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5)) (m ((c.tc : Thread Cert.Kernel14Ideal.nD Cert.Kernel14Ideal.τ).loc Cert.Kernel14Ideal.main_arg6)) (m ((c.tc : Thread Cert.Kernel14Ideal.nD Cert.Kernel14Ideal.τ).loc Cert.Kernel14Ideal.main_arg7))).2.2 = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite14 [hPre_finite14 : Cert.Pre_finite14.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4)) (m ((c.tc : Thread Cert.Reference14Ideal.nD Cert.Reference14Ideal.τ).loc Cert.Reference14Ideal.main_arg5)) (m ((c.tc : Thread Cert.Reference14Ideal.nD Cert.Reference14Ideal.τ).loc Cert.Reference14Ideal.main_arg6)) (m ((c.tc : Thread Cert.Reference14Ideal.nD Cert.Reference14Ideal.τ).loc Cert.Reference14Ideal.main_arg7))).1 = (fun _ => 1#1)
    ∧ (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4)) (m ((c.tc : Thread Cert.Reference14Ideal.nD Cert.Reference14Ideal.τ).loc Cert.Reference14Ideal.main_arg5)) (m ((c.tc : Thread Cert.Reference14Ideal.nD Cert.Reference14Ideal.τ).loc Cert.Reference14Ideal.main_arg6)) (m ((c.tc : Thread Cert.Reference14Ideal.nD Cert.Reference14Ideal.τ).loc Cert.Reference14Ideal.main_arg7))).2.1 = (fun _ => 1#1)
    ∧ (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4)) (m ((c.tc : Thread Cert.Reference14Ideal.nD Cert.Reference14Ideal.τ).loc Cert.Reference14Ideal.main_arg5)) (m ((c.tc : Thread Cert.Reference14Ideal.nD Cert.Reference14Ideal.τ).loc Cert.Reference14Ideal.main_arg6)) (m ((c.tc : Thread Cert.Reference14Ideal.nD Cert.Reference14Ideal.τ).loc Cert.Reference14Ideal.main_arg7))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ r.2.sem = fun _ => 0)

def quiescent_Kernel12Ideal_pre_finite12 [hKernel12Ideal : Cert.Kernel12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite12 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6))
      ∧ r.2.sem = fun _ => 0)

def quiescent_Reference12Ideal_pre_finite12 [hReference12Ideal : Cert.Reference12Ideal.Facts] [hPre_finite12 : Cert.Pre_finite12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Kernel13Ideal_pre_finite13 [hKernel13Ideal : Cert.Kernel13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite13 m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Reference13Ideal_pre_finite13 [hReference13Ideal : Cert.Reference13Ideal.Facts] [hPre_finite13 : Cert.Pre_finite13.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite13 m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7))
      ∧ r.2.sem = fun _ => 0)

def quiescent_Kernel14Ideal_pre_finite14 [hKernel14Ideal : Cert.Kernel14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite14 m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7))
      ∧ r.2.sem = fun _ => 0)

def quiescent_Reference14Ideal_pre_finite14 [hReference14Ideal : Cert.Reference14Ideal.Facts] [hPre_finite14 : Cert.Pre_finite14.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite14 m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_v73) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  IdealRules.named_const.Statement Cert.Kernel2Ideal.κ "mask" .f32 0xF149F2CA#32 ⊥

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v105_0)) (v1 : (c : Dev Cert.Kernel2Ideal.nD) → Buf (Elt Ideal) ((c.tc : Thread Cert.Kernel2Ideal.nD Cert.Kernel2Ideal.τ).loc Cert.Kernel2Ideal.main_v105_1)) (v2 : (c : Dev Cert.Kernel2Ideal.nD) → Buf (Elt Ideal) ((c.tc : Thread Cert.Kernel2Ideal.nD Cert.Kernel2Ideal.τ).loc Cert.Kernel2Ideal.main_v105_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v105_0) = v0 c
          ∧ r.2.mem ((c.tc : Thread Cert.Kernel2Ideal.nD Cert.Kernel2Ideal.τ).loc Cert.Kernel2Ideal.main_v105_1) = v1 c
          ∧ r.2.mem ((c.tc : Thread Cert.Kernel2Ideal.nD Cert.Kernel2Ideal.τ).loc Cert.Kernel2Ideal.main_v105_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v211) = v0 c
          ∧ r.2.mem ((c.tc : Thread Cert.Reference2Ideal.nD Cert.Reference2Ideal.τ).loc Cert.Reference2Ideal.main_v212) = v1 c
          ∧ r.2.mem ((c.tc : Thread Cert.Reference2Ideal.nD Cert.Reference2Ideal.τ).loc Cert.Reference2Ideal.main_v213) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)) (v2 : (c : Dev Cert.Kernel7Ideal.nD) → Buf (Elt Ideal) ((c.tc : Thread Cert.Kernel7Ideal.nD Cert.Kernel7Ideal.τ).loc Cert.Kernel7Ideal.main_v1_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_v1_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v38) = v0 c
          ∧ r.2.mem ((c.tc : Thread Cert.Reference7Ideal.nD Cert.Reference7Ideal.τ).loc Cert.Reference7Ideal.main_v39) = v1 c
          ∧ r.2.mem ((c.tc : Thread Cert.Reference7Ideal.nD Cert.Reference7Ideal.τ).loc Cert.Reference7Ideal.main_v21) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v40) = v0 c
          ∧ r.2.mem ((c.tc : Thread Cert.Reference8Ideal.nD Cert.Reference8Ideal.τ).loc Cert.Reference8Ideal.main_v41) = v1 c
          ∧ r.2.mem ((c.tc : Thread Cert.Reference8Ideal.nD Cert.Reference8Ideal.τ).loc Cert.Reference8Ideal.main_v23) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_v16) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v18) = v0 c
          ∧ r.2.mem ((c.tc : Thread Cert.Reference11Ideal.nD Cert.Reference11Ideal.τ).loc Cert.Reference11Ideal.main_v19) = v1 c
          ∧ r.2.mem ((c.tc : Thread Cert.Reference11Ideal.nD Cert.Reference11Ideal.τ).loc Cert.Reference11Ideal.main_v20) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal_pre_finite12 [hKernel12Ideal : Cert.Kernel12Ideal.Facts] [hReference12Ideal : Cert.Reference12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite12 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)) →
    ∃ (v0 : (c : Dev Cert.Kernel12Ideal.nD) → Buf (Elt Ideal) ((c.tc : Thread Cert.Kernel12Ideal.nD Cert.Kernel12Ideal.τ).loc Cert.Kernel12Ideal.main_v20_0)) (v1 : (c : Dev Cert.Kernel12Ideal.nD) → Buf (Elt Ideal) ((c.tc : Thread Cert.Kernel12Ideal.nD Cert.Kernel12Ideal.τ).loc Cert.Kernel12Ideal.main_v20_1)) (v2 : (c : Dev Cert.Kernel12Ideal.nD) → Buf (Elt Ideal) ((c.tc : Thread Cert.Kernel12Ideal.nD Cert.Kernel12Ideal.τ).loc Cert.Kernel12Ideal.main_v20_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v20_0) = v0 c
          ∧ r.2.mem ((c.tc : Thread Cert.Kernel12Ideal.nD Cert.Kernel12Ideal.τ).loc Cert.Kernel12Ideal.main_v20_1) = v1 c
          ∧ r.2.mem ((c.tc : Thread Cert.Kernel12Ideal.nD Cert.Kernel12Ideal.τ).loc Cert.Kernel12Ideal.main_v20_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v15) = v0 c
          ∧ r.2.mem ((c.tc : Thread Cert.Reference12Ideal.nD Cert.Reference12Ideal.τ).loc Cert.Reference12Ideal.main_v78) = v1 c
          ∧ r.2.mem ((c.tc : Thread Cert.Reference12Ideal.nD Cert.Reference12Ideal.τ).loc Cert.Reference12Ideal.main_v79) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6))

def preserves_Kernel13_Kernel13Ideal : Prop :=
  True

def algebraic_Kernel13Ideal_Reference13Ideal_pre_finite13 [hKernel13Ideal : Cert.Kernel13Ideal.Facts] [hReference13Ideal : Cert.Reference13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite13 m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)) (v4 : (c : Dev Cert.Kernel13Ideal.nD) → Buf (Elt Ideal) ((c.tc : Thread Cert.Kernel13Ideal.nD Cert.Kernel13Ideal.τ).loc Cert.Kernel13Ideal.main_v0_4)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_v0_4) = v4 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v53) = v0 c
          ∧ r.2.mem ((c.tc : Thread Cert.Reference13Ideal.nD Cert.Reference13Ideal.τ).loc Cert.Reference13Ideal.main_v43) = v1 c
          ∧ r.2.mem ((c.tc : Thread Cert.Reference13Ideal.nD Cert.Reference13Ideal.τ).loc Cert.Reference13Ideal.main_v52) = v2 c
          ∧ r.2.mem ((c.tc : Thread Cert.Reference13Ideal.nD Cert.Reference13Ideal.τ).loc Cert.Reference13Ideal.main_v54) = v3 c
          ∧ r.2.mem ((c.tc : Thread Cert.Reference13Ideal.nD Cert.Reference13Ideal.τ).loc Cert.Reference13Ideal.main_v45) = v4 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal_pre_finite14 [hKernel14Ideal : Cert.Kernel14Ideal.Facts] [hReference14Ideal : Cert.Reference14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite14 m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)) →
    ∃ (v0 : (c : Dev Cert.Kernel14Ideal.nD) → Buf (Elt Ideal) ((c.tc : Thread Cert.Kernel14Ideal.nD Cert.Kernel14Ideal.τ).loc Cert.Kernel14Ideal.main_v9_0)) (v1 : (c : Dev Cert.Kernel14Ideal.nD) → Buf (Elt Ideal) ((c.tc : Thread Cert.Kernel14Ideal.nD Cert.Kernel14Ideal.τ).loc Cert.Kernel14Ideal.main_v9_1)) (v2 : (c : Dev Cert.Kernel14Ideal.nD) → Buf (Elt Ideal) ((c.tc : Thread Cert.Kernel14Ideal.nD Cert.Kernel14Ideal.τ).loc Cert.Kernel14Ideal.main_v9_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v9_0) = v0 c
          ∧ r.2.mem ((c.tc : Thread Cert.Kernel14Ideal.nD Cert.Kernel14Ideal.τ).loc Cert.Kernel14Ideal.main_v9_1) = v1 c
          ∧ r.2.mem ((c.tc : Thread Cert.Kernel14Ideal.nD Cert.Kernel14Ideal.τ).loc Cert.Kernel14Ideal.main_v9_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v75) = v0 c
          ∧ r.2.mem ((c.tc : Thread Cert.Reference14Ideal.nD Cert.Reference14Ideal.τ).loc Cert.Reference14Ideal.main_v33) = v1 c
          ∧ r.2.mem ((c.tc : Thread Cert.Reference14Ideal.nD Cert.Reference14Ideal.τ).loc Cert.Reference14Ideal.main_v78) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite : Cert.Pre_finite.Facts) (hPre_finite12 : Cert.Pre_finite12.Facts) (hPre_finite13 : Cert.Pre_finite13.Facts) (hPre_finite14 : Cert.Pre_finite14.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel12Ideal_pre_finite12 (hKernel12Ideal := hKernel12Ideal) (hPre_finite12 := hPre_finite12)
    ∧ quiescent_Reference12Ideal (hReference12Ideal := hReference12Ideal)
    ∧ quiescent_Reference12Ideal_pre_finite12 (hReference12Ideal := hReference12Ideal) (hPre_finite12 := hPre_finite12)
    ∧ quiescent_Kernel13 (hKernel13 := hKernel13)
    ∧ quiescent_Kernel13Ideal (hKernel13Ideal := hKernel13Ideal)
    ∧ quiescent_Kernel13Ideal_pre_finite13 (hKernel13Ideal := hKernel13Ideal) (hPre_finite13 := hPre_finite13)
    ∧ quiescent_Reference13Ideal (hReference13Ideal := hReference13Ideal)
    ∧ quiescent_Reference13Ideal_pre_finite13 (hReference13Ideal := hReference13Ideal) (hPre_finite13 := hPre_finite13)
    ∧ quiescent_Kernel14 (hKernel14 := hKernel14)
    ∧ quiescent_Kernel14Ideal (hKernel14Ideal := hKernel14Ideal)
    ∧ quiescent_Kernel14Ideal_pre_finite14 (hKernel14Ideal := hKernel14Ideal) (hPre_finite14 := hPre_finite14)
    ∧ quiescent_Reference14Ideal (hReference14Ideal := hReference14Ideal)
    ∧ quiescent_Reference14Ideal_pre_finite14 (hReference14Ideal := hReference14Ideal) (hPre_finite14 := hPre_finite14)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal_pre_finite12 (hKernel12Ideal := hKernel12Ideal) (hReference12Ideal := hReference12Ideal) (hPre_finite12 := hPre_finite12)
    ∧ preserves_Kernel13_Kernel13Ideal
    ∧ algebraic_Kernel13Ideal_Reference13Ideal_pre_finite13 (hKernel13Ideal := hKernel13Ideal) (hReference13Ideal := hReference13Ideal) (hPre_finite13 := hPre_finite13)
    ∧ preserves_Kernel14_Kernel14Ideal
    ∧ algebraic_Kernel14Ideal_Reference14Ideal_pre_finite14 (hKernel14Ideal := hKernel14Ideal) (hReference14Ideal := hReference14Ideal) (hPre_finite14 := hPre_finite14)
-- ==== Pre_finite.lean ====
abbrev S8192x3072 : Shape := ⟨2, ![8192, 3072]⟩
abbrev S8192x7168 : Shape := ⟨2, ![8192, 7168]⟩
abbrev S8192x512 : Shape := ⟨2, ![8192, 512]⟩
abbrev S8192x8 : Shape := ⟨2, ![8192, 8]⟩
abbrev S_ : Shape := ⟨0, ![]⟩

class Facts : Prop where
  bcast_S_S8192x3072 : S_.BroadcastsInDim S8192x3072 (![] : Fin 0 → Fin S8192x3072.rank)
  bcast_S_S8192x7168 : S_.BroadcastsInDim S8192x7168 (![] : Fin 0 → Fin S8192x7168.rank)
  bcast_S_S8192x512 : S_.BroadcastsInDim S8192x512 (![] : Fin 0 → Fin S8192x512.rank)
  bcast_S_S8192x8 : S_.BroadcastsInDim S8192x8 (![] : Fin 0 → Fin S8192x8.rank)

variable [Facts]

def fn_part1 {F : FTy → Type} [FloatOps F] (main_arg6 : FVec F S8192x512 .f32) (main_v2 : IVec S8192x3072 1) (main_v5 : IVec S8192x7168 1) (main_v8 : IVec S8192x512 1) (main_v11 : IVec S8192x8 1) (main_v14 : IVec S8192x512 1) (main_v17 : IVec S8192x8 1) : IVec S8192x3072 1 × IVec S8192x7168 1 × IVec S8192x512 1 × IVec S8192x8 1 × IVec S8192x512 1 × IVec S8192x8 1 × IVec S8192x512 1 :=
  let main_v18 : FVec F S8192x512 .f32 := Host.absf main_arg6
  let main_cst_5 : FVec F S_ .f32 := constant S_ .f32 0x7F800000#32
  let main_v19 : FVec F S8192x512 .f32 := broadcastInDim S8192x512 ![] bcast_S_S8192x512 main_cst_5
  let main_v20 : IVec S8192x512 1 := cmpf .olt main_v18 main_v19
  (main_v2, main_v5, main_v8, main_v11, main_v14, main_v17, main_v20)

def fn {F : FTy → Type} [FloatOps F] (main_arg0 : FVec F S8192x3072 .f32) (main_arg1 : FVec F S8192x7168 .f32) (main_arg2 : FVec F S8192x512 .f32) (main_arg3 : FVec F S8192x8 .f32) (main_arg4 : FVec F S8192x512 .f32) (main_arg5 : FVec F S8192x8 .f32) (main_arg6 : FVec F S8192x512 .f32) : IVec S8192x3072 1 × IVec S8192x7168 1 × IVec S8192x512 1 × IVec S8192x8 1 × IVec S8192x512 1 × IVec S8192x8 1 × IVec S8192x512 1 :=
  let main_v0 : FVec F S8192x3072 .f32 := Host.absf main_arg0
  let main_cst : FVec F S_ .f32 := constant S_ .f32 0x7F800000#32
  let main_v1 : FVec F S8192x3072 .f32 := broadcastInDim S8192x3072 ![] bcast_S_S8192x3072 main_cst
  let main_v2 : IVec S8192x3072 1 := cmpf .olt main_v0 main_v1
  let main_v3 : FVec F S8192x7168 .f32 := Host.absf main_arg1
  let main_cst_0 : FVec F S_ .f32 := constant S_ .f32 0x7F800000#32
  let main_v4 : FVec F S8192x7168 .f32 := broadcastInDim S8192x7168 ![] bcast_S_S8192x7168 main_cst_0
  let main_v5 : IVec S8192x7168 1 := cmpf .olt main_v3 main_v4
  let main_v6 : FVec F S8192x512 .f32 := Host.absf main_arg2
  let main_cst_1 : FVec F S_ .f32 := constant S_ .f32 0x7F800000#32
  let main_v7 : FVec F S8192x512 .f32 := broadcastInDim S8192x512 ![] bcast_S_S8192x512 main_cst_1
  let main_v8 : IVec S8192x512 1 := cmpf .olt main_v6 main_v7
  let main_v9 : FVec F S8192x8 .f32 := Host.absf main_arg3
  let main_cst_2 : FVec F S_ .f32 := constant S_ .f32 0x7F800000#32
  let main_v10 : FVec F S8192x8 .f32 := broadcastInDim S8192x8 ![] bcast_S_S8192x8 main_cst_2
  let main_v11 : IVec S8192x8 1 := cmpf .olt main_v9 main_v10
  let main_v12 : FVec F S8192x512 .f32 := Host.absf main_arg4
  let main_cst_3 : FVec F S_ .f32 := constant S_ .f32 0x7F800000#32
  let main_v13 : FVec F S8192x512 .f32 := broadcastInDim S8192x512 ![] bcast_S_S8192x512 main_cst_3
  let main_v14 : IVec S8192x512 1 := cmpf .olt main_v12 main_v13
  let main_v15 : FVec F S8192x8 .f32 := Host.absf main_arg5
  let main_cst_4 : FVec F S_ .f32 := constant S_ .f32 0x7F800000#32
  let main_v16 : FVec F S8192x8 .f32 := broadcastInDim S8192x8 ![] bcast_S_S8192x8 main_cst_4
  let main_v17 : IVec S8192x8 1 := cmpf .olt main_v15 main_v16
  fn_part1 (F := F) main_arg6 main_v2 main_v5 main_v8 main_v11 main_v14 main_v17
-- ==== Pre_finite12.lean ====
abbrev S8192x1024 : Shape := ⟨2, ![8192, 1024]⟩
abbrev S1x1024 : Shape := ⟨2, ![1, 1024]⟩
abbrev S8x1024x896 : Shape := ⟨3, ![8, 1024, 896]⟩
abbrev S8192x8 : Shape := ⟨2, ![8192, 8]⟩
abbrev S1x64 : Shape := ⟨2, ![1, 64]⟩
abbrev S_ : Shape := ⟨0, ![]⟩

class Facts : Prop where
  bcast_S_S1x1024 : S_.BroadcastsInDim S1x1024 (![] : Fin 0 → Fin S1x1024.rank)
  bitsLt_bf16_f32 : FTy.bits .bf16 < FTy.bits .f32
  bcast_S_S8x1024x896 : S_.BroadcastsInDim S8x1024x896 (![] : Fin 0 → Fin S8x1024x896.rank)

variable [Facts]

def fn {F : FTy → Type} [FloatOps F] (main_arg0 : FVec F S8192x1024 .f32) (main_arg1 : FVec F S1x1024 .f32) (main_arg2 : FVec F S8x1024x896 .bf16) (main_arg3 : FVec F S8192x8 .f32) (main_arg4 : FVec F S8192x8 .f32) (main_arg5 : FVec F S1x64 .f32) (main_arg6 : FVec F S1x64 .f32) : IVec S1x1024 1 × IVec S8x1024x896 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S8x1024x896 .f32 := (extf .f32 · bitsLt_bf16_f32) main_arg2
  let main_v4 : FVec F S8x1024x896 .f32 := Host.absf main_v3
  let main_cst_0 : FVec F S_ .f32 := constant S_ .f32 0x7F800000#32
  let main_v5 : FVec F S8x1024x896 .f32 := broadcastInDim S8x1024x896 ![] bcast_S_S8x1024x896 main_cst_0
  let main_v6 : IVec S8x1024x896 1 := cmpf .olt main_v4 main_v5
  (main_v2, main_v6)
-- ==== Pre_finite13.lean ====
abbrev S8192x1024 : Shape := ⟨2, ![8192, 1024]⟩
abbrev S1024x1024 : Shape := ⟨2, ![1024, 1024]⟩
abbrev S8192x7168 : Shape := ⟨2, ![8192, 7168]⟩
abbrev S8192x512 : Shape := ⟨2, ![8192, 512]⟩
abbrev S3x512 : Shape := ⟨2, ![3, 512]⟩
abbrev S8192x1536 : Shape := ⟨2, ![8192, 1536]⟩
abbrev S_ : Shape := ⟨0, ![]⟩

class Facts : Prop where
  slices_S8192x7168_S8192x1536_0_4608 : S8192x7168.Slices ![0, 4608] S8192x1536
  bitsLt_bf16_f32 : FTy.bits .bf16 < FTy.bits .f32
  bcast_S_S8192x1024 : S_.BroadcastsInDim S8192x1024 (![] : Fin 0 → Fin S8192x1024.rank)
  bcast_S_S1024x1024 : S_.BroadcastsInDim S1024x1024 (![] : Fin 0 → Fin S1024x1024.rank)
  bcast_S_S8192x1536 : S_.BroadcastsInDim S8192x1536 (![] : Fin 0 → Fin S8192x1536.rank)
  bcast_S_S8192x512 : S_.BroadcastsInDim S8192x512 (![] : Fin 0 → Fin S8192x512.rank)
  bcast_S_S3x512 : S_.BroadcastsInDim S3x512 (![] : Fin 0 → Fin S3x512.rank)

variable [Facts]

def fn {F : FTy → Type} [FloatOps F] (main_arg0 : FVec F S8192x1024 .bf16) (main_arg1 : FVec F S1024x1024 .bf16) (main_arg2 : FVec F S8192x7168 .f32) (main_arg3 : FVec F S8192x512 .f32) (main_arg4 : FVec F S3x512 .f32) : IVec S8192x1024 1 × IVec S1024x1024 1 × IVec S8192x1536 1 × IVec S8192x512 1 × IVec S3x512 1 :=
  let main_v0 : FVec F S8192x1536 .f32 := (extractStridedSlice S8192x1536 ![0, 4608] · slices_S8192x7168_S8192x1536_0_4608) main_arg2
  let main_v1 : FVec F S8192x1024 .f32 := (extf .f32 · bitsLt_bf16_f32) main_arg0
  let main_v2 : FVec F S8192x1024 .f32 := Host.absf main_v1
  let main_cst : FVec F S_ .f32 := constant S_ .f32 0x7F800000#32
  let main_v3 : FVec F S8192x1024 .f32 := broadcastInDim S8192x1024 ![] bcast_S_S8192x1024 main_cst
  let main_v4 : IVec S8192x1024 1 := cmpf .olt main_v2 main_v3
  let main_v5 : FVec F S1024x1024 .f32 := (extf .f32 · bitsLt_bf16_f32) main_arg1
  let main_v6 : FVec F S1024x1024 .f32 := Host.absf main_v5
  let main_cst_0 : FVec F S_ .f32 := constant S_ .f32 0x7F800000#32
  let main_v7 : FVec F S1024x1024 .f32 := broadcastInDim S1024x1024 ![] bcast_S_S1024x1024 main_cst_0
  let main_v8 : IVec S1024x1024 1 := cmpf .olt main_v6 main_v7
  let main_v9 : FVec F S8192x1536 .f32 := Host.absf main_v0
  let main_cst_1 : FVec F S_ .f32 := constant S_ .f32 0x7F800000#32
  let main_v10 : FVec F S8192x1536 .f32 := broadcastInDim S8192x1536 ![] bcast_S_S8192x1536 main_cst_1
  let main_v11 : IVec S8192x1536 1 := cmpf .olt main_v9 main_v10
  let main_v12 : FVec F S8192x512 .f32 := Host.absf main_arg3
  let main_cst_2 : FVec F S_ .f32 := constant S_ .f32 0x7F800000#32
  let main_v13 : FVec F S8192x512 .f32 := broadcastInDim S8192x512 ![] bcast_S_S8192x512 main_cst_2
  let main_v14 : IVec S8192x512 1 := cmpf .olt main_v12 main_v13
  let main_v15 : FVec F S3x512 .f32 := Host.absf main_arg4
  let main_cst_3 : FVec F S_ .f32 := constant S_ .f32 0x7F800000#32
  let main_v16 : FVec F S3x512 .f32 := broadcastInDim S3x512 ![] bcast_S_S3x512 main_cst_3
  let main_v17 : IVec S3x512 1 := cmpf .olt main_v15 main_v16
  (main_v4, main_v8, main_v11, main_v14, main_v17)
-- ==== Pre_finite14.lean ====
abbrev S8192x512 : Shape := ⟨2, ![8192, 512]⟩
abbrev S8192x8 : Shape := ⟨2, ![8192, 8]⟩
abbrev S8192x7168 : Shape := ⟨2, ![8192, 7168]⟩
abbrev S3x512 : Shape := ⟨2, ![3, 512]⟩
abbrev S_ : Shape := ⟨0, ![]⟩

class Facts : Prop where
  bcast_S_S8192x8 : S_.BroadcastsInDim S8192x8 (![] : Fin 0 → Fin S8192x8.rank)

variable [Facts]

def fn {F : FTy → Type} [FloatOps F] (main_arg0 : FVec F S8192x512 .f32) (main_arg1 : FVec F S8192x8 .f32) (main_arg2 : FVec F S8192x512 .f32) (main_arg3 : FVec F S8192x8 .f32) (main_arg4 : FVec F S8192x512 .f32) (main_arg5 : FVec F S8192x8 .f32) (main_arg6 : FVec F S8192x7168 .f32) (main_arg7 : FVec F S3x512 .f32) : IVec S8192x8 1 × IVec S8192x8 1 × IVec S8192x8 1 :=
  let main_v0 : FVec F S8192x8 .f32 := Host.absf main_arg1
  let main_cst : FVec F S_ .f32 := constant S_ .f32 0x7F800000#32
  let main_v1 : FVec F S8192x8 .f32 := broadcastInDim S8192x8 ![] bcast_S_S8192x8 main_cst
  let main_v2 : IVec S8192x8 1 := cmpf .olt main_v0 main_v1
  let main_v3 : FVec F S8192x8 .f32 := Host.absf main_arg3
  let main_cst_0 : FVec F S_ .f32 := constant S_ .f32 0x7F800000#32
  let main_v4 : FVec F S8192x8 .f32 := broadcastInDim S8192x8 ![] bcast_S_S8192x8 main_cst_0
  let main_v5 : IVec S8192x8 1 := cmpf .olt main_v3 main_v4
  let main_v6 : FVec F S8192x8 .f32 := Host.absf main_arg5
  let main_cst_1 : FVec F S_ .f32 := constant S_ .f32 0x7F800000#32
  let main_v7 : FVec F S8192x8 .f32 := broadcastInDim S8192x8 ![] bcast_S_S8192x8 main_cst_1
  let main_v8 : IVec S8192x8 1 := cmpf .olt main_v6 main_v7
  (main_v2, main_v5, main_v8)
-- ==== Kernel.lean ====
abbrev S8192x512 : Shape := ⟨2, ![8192, 512]⟩
abbrev S8192x7168 : Shape := ⟨2, ![8192, 7168]⟩
abbrev S3x512 : Shape := ⟨2, ![3, 512]⟩
abbrev S8x512 : Shape := ⟨2, ![8, 512]⟩
abbrev S256x512 : Shape := ⟨2, ![256, 512]⟩
abbrev S264x512 : Shape := ⟨2, ![264, 512]⟩
abbrev S1x512 : Shape := ⟨2, ![1, 512]⟩
abbrev S512 : Shape := ⟨1, ![512]⟩
abbrev S5x512 : Shape := ⟨2, ![5, 512]⟩

abbrev nBuf : Space → Nat
  | .hbm => 6
  | .vmem => 20
  | .smem => 0
  | _ => 0

abbrev bufTy : (tb : Table) → Fin (tcTables nBuf tb) → BufTy
  | .hbm, ⟨0, _⟩ => ⟨S8192x512, .f32⟩
  | .hbm, ⟨1, _⟩ => ⟨S8192x7168, .f32⟩
  | .hbm, ⟨2, _⟩ => ⟨S3x512, .f32⟩
  | .hbm, ⟨3, _⟩ => ⟨S8192x512, .bf16⟩
  | .hbm, ⟨4, _⟩ => ⟨S8192x512, .bf16⟩
  | .hbm, ⟨5, _⟩ => ⟨S8x512, .f32⟩
  | .local _ .vmem, ⟨0, _⟩ => ⟨S256x512, .f32⟩
  | .local _ .vmem, ⟨1, _⟩ => ⟨S256x512, .f32⟩
  | .local _ .vmem, ⟨2, _⟩ => ⟨S8x512, .f32⟩
  | .local _ .vmem, ⟨3, _⟩ => ⟨S8x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S3x512, .f32⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x512, .bf16⟩
  | .local _ .vmem, ⟨17, _⟩ => ⟨S8x512, .f32⟩
  | .local _ .vmem, ⟨18, _⟩ => ⟨S264x512, .f32⟩
  | .local _ .vmem, ⟨19, _⟩ => ⟨S264x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32_36 : BitVec 32 := 0#32
  let v58 : BitVec 1 := Scalar.cmpi .eq arg0 c0_i32_36
  let v59 : BitVec 32 := Scalar.extui v58
  let c0_i32_37 : BitVec 32 := 0#32
  let v60 : BitVec 1 := Scalar.cmpi .ne v59 c0_i32_37
  v60

def k0_cond2 (i : grid0.Coords) : BitVec 1 :=
  let arg0 : BitVec 32 := BitVec.ofNat 32 (i 0).val
  let c0_i32_38 : BitVec 32 := 0#32
  let v61 : BitVec 1 := Scalar.cmpi .sgt arg0 c0_i32_38
  let v62 : BitVec 32 := Scalar.extui v61
  let c0_i32_39 : BitVec 32 := 0#32
  let v63 : BitVec 1 := Scalar.cmpi .ne v62 c0_i32_39
  v63

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_3 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c10_i32 : BitVec 32 := 10#32
  let c0_i32_0 : BitVec 32 := 0#32
  ![v2.toNat, c10_i32.toNat]

def cc0_transform_5 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c11_i32 : BitVec 32 := 11#32
  let c0_i32_0 : BitVec 32 := 0#32
  ![v2.toNat, c11_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S8192x512 : Shape := ⟨2, ![8192, 512]⟩
abbrev S8192x7168 : Shape := ⟨2, ![8192, 7168]⟩
abbrev S3x512 : Shape := ⟨2, ![3, 512]⟩
abbrev S8192x1536 : Shape := ⟨2, ![8192, 1536]⟩
abbrev S8192x1024 : Shape := ⟨2, ![8192, 1024]⟩
abbrev S_ : Shape := ⟨0, ![]⟩
abbrev S2x512 : Shape := ⟨2, ![2, 512]⟩
abbrev S8194x512 : Shape := ⟨2, ![8194, 512]⟩
abbrev S1x512 : Shape := ⟨2, ![1, 512]⟩
abbrev S512 : Shape := ⟨1, ![512]⟩
abbrev S5x512 : Shape := ⟨2, ![5, 512]⟩
abbrev S8x512 : Shape := ⟨2, ![8, 512]⟩

abbrev nBuf : Space → Nat
  | .hbm => 93
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x7168, .f32⟩
  | .hbm, ⟨2, _⟩ => ⟨S3x512, .f32⟩
  | .hbm, ⟨3, _⟩ => ⟨S8192x1536, .f32⟩
  | .hbm, ⟨4, _⟩ => ⟨S8192x1536, .f32⟩
  | .hbm, ⟨5, _⟩ => ⟨S8192x1536, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x1024, .f32⟩
  | .hbm, ⟨10, _⟩ => ⟨S8192x512, .f32⟩
  | .hbm, ⟨11, _⟩ => ⟨S_, .f32⟩
  | .hbm, ⟨12, _⟩ => ⟨S2x512, .f32⟩
  | .hbm, ⟨13, _⟩ => ⟨S8194x512, .f32⟩
  | .hbm, ⟨14, _⟩ => ⟨S_, .f32⟩
  | .hbm, ⟨15, _⟩ => ⟨S2x512, .f32⟩
  | .hbm, ⟨16, _⟩ => ⟨S1x512, .f32⟩
  | .hbm, ⟨17, _⟩ => ⟨S512, .f32⟩
  | .hbm, ⟨18, _⟩ => ⟨S1x512, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S_, .f32⟩
  | .hbm, ⟨23, _⟩ => ⟨S8192x512, .f32⟩
  | .hbm, ⟨24, _⟩ => ⟨S8192x512, .f32⟩
  | .hbm, ⟨25, _⟩ => ⟨S1x512, .f32⟩
  | .hbm, ⟨26, _⟩ => ⟨S512, .f32⟩
  | .hbm, ⟨27, _⟩ => ⟨S1x512, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S1x512, .f32⟩
  | .hbm, ⟨33, _⟩ => ⟨S512, .f32⟩
  | .hbm, ⟨34, _⟩ => ⟨S1x512, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S8192x512, .f32⟩
  | .hbm, ⟨44, _⟩ => ⟨S_, .f32⟩
  | .hbm, ⟨45, _⟩ => ⟨S512, .f32⟩
  | .hbm, ⟨46, _⟩ => ⟨S1x512, .f32⟩
  | .hbm, ⟨47, _⟩ => ⟨S_, .f32⟩
  | .hbm, ⟨48, _⟩ => ⟨S8194x512, .f32⟩
  | .hbm, ⟨49, _⟩ => ⟨S_, .f32⟩
  | .hbm, ⟨50, _⟩ => ⟨S512, .f32⟩
  | .hbm, ⟨51, _⟩ => ⟨S1x512, .f32⟩
  | .hbm, ⟨52, _⟩ => ⟨S_, .f32⟩
  | .hbm, ⟨53, _⟩ => ⟨S3x512, .f32⟩
  | .hbm, ⟨54, _⟩ => ⟨S8192x512, .f32⟩
  | .hbm, ⟨55, _⟩ => ⟨S8192x512, .f32⟩
  | .hbm, ⟨56, _⟩ => ⟨S8192x512, .f32⟩
  | .hbm, ⟨57, _⟩ => ⟨S_, .f32⟩
  | .hbm, ⟨58, _⟩ => ⟨S512, .f32⟩
  | .hbm, ⟨59, _⟩ => ⟨S1x512, .f32⟩
  | .hbm, ⟨60, _⟩ => ⟨S_, .f32⟩
  | .hbm, ⟨61, _⟩ => ⟨S8194x512, .f32⟩
  | .hbm, ⟨62, _⟩ => ⟨S8194x512, .f32⟩
  | .hbm, ⟨63, _⟩ => ⟨S_, .f32⟩
  | .hbm, ⟨64, _⟩ => ⟨S512, .f32⟩
  | .hbm, ⟨65, _⟩ => ⟨S1x512, .f32⟩
  | .hbm, ⟨66, _⟩ => ⟨S_, .f32⟩
  | .hbm, ⟨67, _⟩ => ⟨S3x512, .f32⟩
  | .hbm, ⟨68, _⟩ => ⟨S3x512, .f32⟩
  | .hbm, ⟨69, _⟩ => ⟨S8192x512, .f32⟩
  | .hbm, ⟨70, _⟩ => ⟨S8192x512, .f32⟩
  | .hbm, ⟨71, _⟩ => ⟨S8192x512, .f32⟩
  | .hbm, ⟨72, _⟩ => ⟨S_, .f32⟩
  | .hbm, ⟨73, _⟩ => ⟨S512, .f32⟩
  | .hbm, ⟨74, _⟩ => ⟨S1x512, .f32⟩
  | .hbm, ⟨75, _⟩ => ⟨S_, .f32⟩
  | .hbm, ⟨76, _⟩ => ⟨S8194x512, .f32⟩
  | .hbm, ⟨77, _⟩ => ⟨S8194x512, .f32⟩
  | .hbm, ⟨78, _⟩ => ⟨S_, .f32⟩
  | .hbm, ⟨79, _⟩ => ⟨S512, .f32⟩
  | .hbm, ⟨80, _⟩ => ⟨S1x512, .f32⟩
  | .hbm, ⟨81, _⟩ => ⟨S_, .f32⟩
  | .hbm, ⟨82, _⟩ => ⟨S3x512, .f32⟩
  | .hbm, ⟨83, _⟩ => ⟨S3x512, .f32⟩
  | .hbm, ⟨84, _⟩ => ⟨S2x512, .f32⟩
  | .hbm, ⟨85, _⟩ => ⟨S8192x512, .f32⟩
  | .hbm, ⟨86, _⟩ => ⟨S8192x512, .f32⟩
  | .hbm, ⟨87, _⟩ => ⟨S8192x512, .f32⟩
  | .hbm, ⟨88, _⟩ => ⟨S8192x512, .bf16⟩
  | .hbm, ⟨89, _⟩ => ⟨S8192x512, .bf16⟩
  | .hbm, ⟨90, _⟩ => ⟨S_, .f32⟩
  | .hbm, ⟨91, _⟩ => ⟨S5x512, .f32⟩
  | .hbm, ⟨92, _⟩ => ⟨S8x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_2 : Ref sig .tc := ⟨.hbm, 44, rfl⟩
abbrev main_v38 : Ref sig .tc := ⟨.hbm, 45, rfl⟩
abbrev main_v39 : Ref sig .tc := ⟨.hbm, 46, rfl⟩
abbrev main_cst_3 : Ref sig .tc := ⟨.hbm, 47, rfl⟩
abbrev main_v40 : Ref sig .tc := ⟨.hbm, 48, rfl⟩
abbrev main_cst_4 : Ref sig .tc := ⟨.hbm, 49, rfl⟩
abbrev main_v41 : Ref sig .tc := ⟨.hbm, 50, rfl⟩
abbrev main_v42 : Ref sig .tc := ⟨.hbm, 51, rfl⟩
abbrev main_cst_5 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_6 : Ref sig .tc := ⟨.hbm, 57, rfl⟩
abbrev main_v47 : Ref sig .tc := ⟨.hbm, 58, rfl⟩
abbrev main_v48 : Ref sig .tc := ⟨.hbm, 59, rfl⟩
abbrev main_cst_7 : Ref sig .tc := ⟨.hbm, 60, rfl⟩
abbrev main_v49 : Ref sig .tc := ⟨.hbm, 61, rfl⟩
abbrev main_v50 : Ref sig .tc := ⟨.hbm, 62, rfl⟩
abbrev main_cst_8 : Ref sig .tc := ⟨.hbm, 63, rfl⟩
abbrev main_v51 : Ref sig .tc := ⟨.hbm, 64, rfl⟩
abbrev main_v52 : Ref sig .tc := ⟨.hbm, 65, rfl⟩
abbrev main_cst_9 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_10 : Ref sig .tc := ⟨.hbm, 72, rfl⟩
abbrev main_v58 : Ref sig .tc := ⟨.hbm, 73, rfl⟩
abbrev main_v59 : Ref sig .tc := ⟨.hbm, 74, rfl⟩
abbrev main_cst_11 : Ref sig .tc := ⟨.hbm, 75, rfl⟩
abbrev main_v60 : Ref sig .tc := ⟨.hbm, 76, rfl⟩
abbrev main_v61 : Ref sig .tc := ⟨.hbm, 77, rfl⟩
abbrev main_cst_12 : Ref sig .tc := ⟨.hbm, 78, rfl⟩
abbrev main_v62 : Ref sig .tc := ⟨.hbm, 79, rfl⟩
abbrev main_v63 : Ref sig .tc := ⟨.hbm, 80, rfl⟩
abbrev main_cst_13 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_cst_14 : Ref sig .tc := ⟨.hbm, 90, rfl⟩
abbrev main_v72 : Ref sig .tc := ⟨.hbm, 91, rfl⟩
abbrev main_v73 : Ref sig .tc := ⟨.hbm, 92, rfl⟩

abbrev nD : Nat := 1
abbrev τ : Topo := Topo.v7x

variable {F : FTy → Type} [FloatOps F]
-- ==== Kernel2.lean ====
abbrev S8192x3072 : Shape := ⟨2, ![8192, 3072]⟩
abbrev S8192x7168 : Shape := ⟨2, ![8192, 7168]⟩
abbrev S8192x512 : Shape := ⟨2, ![8192, 512]⟩
abbrev S8192x8 : Shape := ⟨2, ![8192, 8]⟩
abbrev S8192x8x64 : Shape := ⟨3, ![8192, 8, 64]⟩
abbrev S64x128x8x64 : Shape := ⟨4, ![64, 128, 8, 64]⟩
abbrev S8x64x128x64 : Shape := ⟨4, ![8, 64, 128, 64]⟩
abbrev S_ : Shape := ⟨0, ![]⟩
abbrev S8x1x128x64 : Shape := ⟨4, ![8, 1, 128, 64]⟩
abbrev S8x63x128x64 : Shape := ⟨4, ![8, 63, 128, 64]⟩
abbrev S8x64x256x64 : Shape := ⟨4, ![8, 64, 256, 64]⟩
abbrev S8x64x128x256 : Shape := ⟨4, ![8, 64, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x128x256 : Shape := ⟨3, ![1, 128, 256]⟩
abbrev S1x1x256 : Shape := ⟨3, ![1, 1, 256]⟩
abbrev S64x1x256 : Shape := ⟨3, ![64, 1, 256]⟩
abbrev S64x128x256 : Shape := ⟨3, ![64, 128, 256]⟩
abbrev S8x64x128 : Shape := ⟨3, ![8, 64, 128]⟩
abbrev S8x64x128x1 : Shape := ⟨4, ![8, 64, 128, 1]⟩
abbrev S64x128x8 : Shape := ⟨3, ![64, 128, 8]⟩
abbrev S8192x8x1 : Shape := ⟨3, ![8192, 8, 1]⟩
abbrev S1024x256 : Shape := ⟨2, ![1024, 256]⟩
abbrev S1280x256 : Shape := ⟨2, ![1280, 256]⟩
abbrev S256x256 : Shape := ⟨2, ![256, 256]⟩
abbrev S128x128 : Shape := ⟨2, ![128, 128]⟩
abbrev S256x128 : Shape := ⟨2, ![256, 128]⟩

abbrev nBuf : Space → Nat
  | .hbm => 129
  | .vmem => 34
  | .smem => 0
  | _ => 0

abbrev hbmTy0_0 (i : Nat) : BufTy := match i % 128 with
  | 0 => ⟨S8192x3072, .f32⟩
  | 1 => ⟨S8192x7168, .f32⟩
  | 2 => ⟨S8192x512, .f32⟩
  | 3 => ⟨S8192x8, .f32⟩
  | 4 => ⟨S8192x512, .f32⟩
  | 5 => ⟨S8192x8, .f32⟩
  | 6 => ⟨S8192x512, .f32⟩
  | 7 => ⟨S8192x512, .f32⟩
  | 8 => ⟨S8192x512, .f32⟩
  | 9 => ⟨S8192x512, .f32⟩
  | 10 => ⟨S8192x8x64, .f32⟩
  | 11 => ⟨S8192x8x64, .f32⟩
  | 12 => ⟨S8192x8x64, .f32⟩
  | 13 => ⟨S64x128x8x64, .f32⟩
  | 14 => ⟨S8x64x128x64, .f32⟩
  | 15 => ⟨S64x128x8x64, .f32⟩
  | 16 => ⟨S8x64x128x64, .f32⟩
  | 17 => ⟨S_, .f32⟩
  | 18 => ⟨S8x1x128x64, .f32⟩
  | 19 => ⟨S8x63x128x64, .f32⟩
  | 20 => ⟨S8x64x128x64, .f32⟩
  | 21 => ⟨S8x64x256x64, .f32⟩
  | 22 => ⟨S64x128x8x64, .f32⟩
  | 23 => ⟨S8x64x128x64, .f32⟩
  | 24 => ⟨S_, .f32⟩
  | 25 => ⟨S8x1x128x64, .f32⟩
  | 26 => ⟨S8x63x128x64, .f32⟩
  | 27 => ⟨S8x64x128x64, .f32⟩
  | 28 => ⟨S8x64x256x64, .f32⟩
  | 29 => ⟨S8x64x128x256, .f32⟩
  | 30 => ⟨S_, .f32⟩
  | 31 => ⟨S8x64x128x256, .f32⟩
  | 32 => ⟨S8x64x128x256, .f32⟩
  | 33 => ⟨S128, .i32⟩
  | 34 => ⟨S128x1, .i32⟩
  | 35 => ⟨S_, .i32⟩
  | 36 => ⟨S128x1, .i32⟩
  | 37 => ⟨S128x1, .i32⟩
  | 38 => ⟨S256, .i32⟩
  | 39 => ⟨S1x256, .i32⟩
  | 40 => ⟨S128x256, .i32⟩
  | 41 => ⟨S128x256, .i32⟩
  | 42 => ⟨S128x256, .i32⟩
  | 43 => ⟨S_, .i32⟩
  | 44 => ⟨S128x256, .i32⟩
  | 45 => ⟨S128x256, .i1⟩
  | 46 => ⟨S_, .i32⟩
  | 47 => ⟨S128x256, .i32⟩
  | 48 => ⟨S128x256, .i1⟩
  | 49 => ⟨S128x256, .i1⟩
  | 50 => ⟨S64, .i32⟩
  | 51 => ⟨S64x1x1, .i32⟩
  | 52 => ⟨S1x128x256, .i1⟩
  | 53 => ⟨S_, .i32⟩
  | 54 => ⟨S64x1x1, .i32⟩
  | 55 => ⟨S64x1x1, .i1⟩
  | 56 => ⟨S1x1x256, .i32⟩
  | 57 => ⟨S_, .i32⟩
  | 58 => ⟨S1x1x256, .i32⟩
  | 59 => ⟨S1x1x256, .i1⟩
  | 60 => ⟨S64x1x256, .i1⟩
  | 61 => ⟨S64x1x256, .i1⟩
  | 62 => ⟨S64x1x256, .i1⟩
  | 63 => ⟨S64x128x256, .i1⟩
  | 64 => ⟨S64x128x256, .i1⟩
  | 65 => ⟨S64x128x256, .i1⟩
  | 66 => ⟨S_, .f32⟩
  | 67 => ⟨S_, .f32⟩
  | 68 => ⟨S8x64x128x256, .i1⟩
  | 69 => ⟨S8x64x128x256, .f32⟩
  | 70 => ⟨S8x64x128x256, .f32⟩
  | 71 => ⟨S_, .f32⟩
  | 72 => ⟨S8x64x128, .f32⟩
  | 73 => ⟨S8x64x128x1, .f32⟩
  | 74 => ⟨S8x64x128x256, .f32⟩
  | 75 => ⟨S8x64x128x256, .f32⟩
  | 76 => ⟨S8x64x128x256, .f32⟩
  | 77 => ⟨S_, .f32⟩
  | 78 => ⟨S8x64x128, .f32⟩
  | 79 => ⟨S8x64x128x1, .f32⟩
  | 80 => ⟨S8x64x128x256, .f32⟩
  | 81 => ⟨S8x64x128x256, .f32⟩
  | 82 => ⟨S8x64x128x64, .f32⟩
  | 83 => ⟨S8x64x128x1, .f32⟩
  | 84 => ⟨S8x64x128x1, .f32⟩
  | 85 => ⟨S8x64x128, .f32⟩
  | 86 => ⟨S64x128x8x64, .f32⟩
  | 87 => ⟨S8192x8x64, .f32⟩
  | 88 => ⟨S64x128x8, .f32⟩
  | 89 => ⟨S8192x8, .f32⟩
  | 90 => ⟨S8192x8x64, .f32⟩
  | 91 => ⟨S8192x8x64, .f32⟩
  | 92 => ⟨S8192x8x64, .f32⟩
  | 93 => ⟨S8192x8, .f32⟩
  | 94 => ⟨S8192x8, .f32⟩
  | 95 => ⟨S8192x8, .f32⟩
  | 96 => ⟨S8192x8, .f32⟩
  | 97 => ⟨S8192x8, .f32⟩
  | 98 => ⟨S8192x8, .f32⟩
  | 99 => ⟨S8192x8, .f32⟩
  | 100 => ⟨S8192x8, .f32⟩
  | 101 => ⟨S8192x8, .f32⟩
  | 102 => ⟨S8192x8, .f32⟩
  | 103 => ⟨S8192x8, .f32⟩
  | 104 => ⟨S8192x8, .f32⟩
  | 105 => ⟨S8192x8, .f32⟩
  | 106 => ⟨S8192x8x1, .f32⟩
  | 107 => ⟨S8192x8x64, .f32⟩
  | 108 => ⟨S8192x8x64, .f32⟩
  | 109 => ⟨S8192x8, .f32⟩
  | 110 => ⟨S8192x8x1, .f32⟩
  | 111 => ⟨S8192x8x64, .f32⟩
  | 112 => ⟨S8192x8x64, .f32⟩
  | 113 => ⟨S8192x8x64, .f32⟩
  | 114 => ⟨S8192x8, .f32⟩
  | 115 => ⟨S8192x8x1, .f32⟩
  | 116 => ⟨S8192x8x64, .f32⟩
  | 117 => ⟨S8192x8x64, .f32⟩
  | 118 => ⟨S8192x8x64, .f32⟩
  | 119 => ⟨S8192x8, .f32⟩
  | 120 => ⟨S8192x8x1, .f32⟩
  | 121 => ⟨S8192x8x64, .f32⟩
  | 122 => ⟨S8192x512, .f32⟩
  | 123 => ⟨S8192x8x1, .f32⟩
  | 124 => ⟨S8192x8x64, .f32⟩
  | 125 => ⟨S8192x512, .f32⟩
  | 126 => ⟨S8192x512, .f32⟩
  | 127 => ⟨S8192x512, .f32⟩
  | _ => ⟨S8192x3072, .f32⟩

abbrev hbmTy0_1 (i : Nat) : BufTy := match i % 128 with
  | 0 => ⟨S8192x512, .f32⟩
  | _ => ⟨S8192x3072, .f32⟩

abbrev hbmTy (i : Nat) : BufTy := match i / 128 with
  | 0 => hbmTy0_0 i
  | 1 => hbmTy0_1 i
  | _ => ⟨S8192x3072, .f32⟩

abbrev bufTy : (tb : Table) → Fin (tcTables nBuf tb) → BufTy
  | .hbm, ⟨i, _⟩ => hbmTy i
  | .local _ .vmem, ⟨0, _⟩ => ⟨S1024x256, .f32⟩
  | .local _ .vmem, ⟨1, _⟩ => ⟨S1024x256, .f32⟩
  | .local _ .vmem, ⟨2, _⟩ => ⟨S128x256, .f32⟩
  | .local _ .vmem, ⟨3, _⟩ => ⟨S128x256, .f32⟩
  | .local _ .vmem, ⟨4, _⟩ => ⟨S1024x256, .f32⟩
  | .local _ .vmem, ⟨5, _⟩ => ⟨S1024x256, .f32⟩
  | .local _ .vmem, ⟨6, _⟩ => ⟨S128x256, .f32⟩
  | .local _ .vmem, ⟨7, _⟩ => ⟨S128x256, .f32⟩
  | .local _ .vmem, ⟨8, _⟩ => ⟨S1024x256, .f32⟩
  | .local _ .vmem, ⟨9, _⟩ => ⟨S1024x256, .f32⟩
  | .local _ .vmem, ⟨10, _⟩ => ⟨S128x256, .f32⟩
  | .local _ .vmem, ⟨11, _⟩ => ⟨S128x256, .f32⟩
  | .local _ .vmem, ⟨12, _⟩ => ⟨S1024x256, .f32⟩
  | .local _ .vmem, ⟨13, _⟩ => ⟨S1024x256, .f32⟩
  | .local _ .vmem, ⟨14, _⟩ => ⟨S128x256, .f32⟩
  | .local _ .vmem, ⟨15, _⟩ => ⟨S128x256, .f32⟩
  | .local _ .vmem, ⟨16, _⟩ => ⟨S1024x256, .f32⟩
  | .local _ .vmem, ⟨17, _⟩ => ⟨S1024x256, .f32⟩
  | .local _ .vmem, ⟨18, _⟩ => ⟨S128x256, .f32⟩
  | .local _ .vmem, ⟨19, _⟩ => ⟨S128x256, .f32⟩
  | .local _ .vmem, ⟨20, _⟩ => ⟨S1024x256, .f32⟩
  | .local _ .vmem, ⟨21, _⟩ => ⟨S1024x256, .f32⟩
  | .local _ .vmem, ⟨22, _⟩ => ⟨S128x256, .f32⟩
  | .local _ .vmem, ⟨23, _⟩ => ⟨S128x256, .f32⟩
  | .local _ .vmem, ⟨24, _⟩ => ⟨S1024x256, .f32⟩
  | .local _ .vmem, ⟨25, _⟩ => ⟨S1024x256, .f32⟩
  | .local _ .vmem, ⟨26, _⟩ => ⟨S1024x256, .f32⟩
  | .local _ .vmem, ⟨27, _⟩ => ⟨S1024x256, .f32⟩
  | .local _ .vmem, ⟨28, _⟩ => ⟨S1024x256, .f32⟩
  | .local _ .vmem, ⟨29, _⟩ => ⟨S1024x256, .f32⟩
  | .local _ .vmem, ⟨30, _⟩ => ⟨S1280x256, .f32⟩
  | .local _ .vmem, ⟨31, _⟩ => ⟨S1280x256, .f32⟩
  | .local _ .vmem, ⟨32, _⟩ => ⟨S1280x256, .f32⟩
  | .local _ .vmem, ⟨33, _⟩ => ⟨S1280x256, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_c : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_2 : Ref sig .tc := ⟨.hbm, 43, rfl⟩
abbrev main_v32 : Ref sig .tc := ⟨.hbm, 44, rfl⟩
abbrev main_v33 : Ref sig .tc := ⟨.hbm, 45, rfl⟩
abbrev main_c_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_c_4 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_c_5 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_6 : Ref sig .tc := ⟨.hbm, 66, rfl⟩
abbrev main_call0_v0 : Ref sig .tc := ⟨.hbm, 67, rfl⟩
abbrev main_call0_v1 : Ref sig .tc := ⟨.hbm, 68, rfl⟩
abbrev main_call0_v2 : Ref sig .tc := ⟨.hbm, 69, rfl⟩
abbrev main_v51 : Ref sig .tc := ⟨.hbm, 70, rfl⟩
abbrev main_cst_7 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_8 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105_0 : Ref sig .tc := ⟨.hbm, 126, rfl⟩
abbrev main_v105_1 : Ref sig .tc := ⟨.hbm, 127, rfl⟩
abbrev main_v105_2 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_scratch1 : Ref sig .tc := ⟨.vmem, 31, rfl⟩
abbrev cc0_scratch2 : Ref sig .tc := ⟨.vmem, 32, rfl⟩
abbrev cc0_scratch3 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![8, 2], ![false, false]⟩

def k0_mult1 : BitVec 32 :=
  let c0_i32_61 : BitVec 32 := 0#32
  let c128_i32_62 : BitVec 32 := 128#32
  let v155 : BitVec 32 := Scalar.muli c0_i32_61 c128_i32_62
  v155
def k0_off1 (c0_i32_61 : BitVec 32) : Fin 2 → Nat :=
  let c128_i32_62 : BitVec 32 := 128#32
  let v155 : BitVec 32 := Scalar.muli c0_i32_61 c128_i32_62
  let v156 : BitVec 32 := v155
  let v166 : Index := Scalar.indexCast v156
  let c0_68 : Index := 0#32
  ![v166.toNat, 0]
def k0_off2 (c0_i32_61 : BitVec 32) : Fin 2 → Nat :=
  let c128_i32_62 : BitVec 32 := 128#32
  let v155 : BitVec 32 := Scalar.muli c0_i32_61 c128_i32_62
  let v156 : BitVec 32 := v155
  let v172 : Index := Scalar.indexCast v156
  let c0_70 : Index := 0#32
  ![v172.toNat, 0]
def k0_off3 (c0_i32_61 : BitVec 32) : Fin 2 → Nat :=
  let c128_i32_62 : BitVec 32 := 128#32
  let v155 : BitVec 32 := Scalar.muli c0_i32_61 c128_i32_62
  let v156 : BitVec 32 := v155
  let v238 : Index := Scalar.indexCast v156
  let c128_91 : Index := 128#32
  ![v238.toNat, 128]
def k0_off4 (c0_i32_61 : BitVec 32) : Fin 2 → Nat :=
  let c128_i32_62 : BitVec 32 := 128#32
  let v155 : BitVec 32 := Scalar.muli c0_i32_61 c128_i32_62
  let v156 : BitVec 32 := v155
  let v244 : Index := Scalar.indexCast v156
  let c128_93 : Index := 128#32
  ![v244.toNat, 128]
def k0_mult2 : BitVec 32 :=
  let c1_i32_114 : BitVec 32 := 1#32
  let c128_i32_115 : BitVec 32 := 128#32
  let v310 : BitVec 32 := Scalar.muli c1_i32_114 c128_i32_115
  v310
def k0_mult3 : BitVec 32 :=
  let c2_i32 : BitVec 32 := 2#32
  let c128_i32_167 : BitVec 32 := 128#32
  let v465 : BitVec 32 := Scalar.muli c2_i32 c128_i32_167
  v465
def k0_mult4 : BitVec 32 :=
  let c3_i32 : BitVec 32 := 3#32
  let c128_i32_219 : BitVec 32 := 128#32
  let v620 : BitVec 32 := Scalar.muli c3_i32 c128_i32_219
  v620
def k0_mult5 : BitVec 32 :=
  let c4_i32 : BitVec 32 := 4#32
  let c128_i32_271 : BitVec 32 := 128#32
  let v775 : BitVec 32 := Scalar.muli c4_i32 c128_i32_271
  v775
def k0_mult6 : BitVec 32 :=
  let c5_i32 : BitVec 32 := 5#32
  let c128_i32_323 : BitVec 32 := 128#32
  let v930 : BitVec 32 := Scalar.muli c5_i32 c128_i32_323
  v930
def k0_mult7 : BitVec 32 :=
  let c6_i32 : BitVec 32 := 6#32
  let c128_i32_375 : BitVec 32 := 128#32
  let v1085 : BitVec 32 := Scalar.muli c6_i32 c128_i32_375
  v1085
def k0_mult8 : BitVec 32 :=
  let c7_i32 : BitVec 32 := 7#32
  let c128_i32_427 : BitVec 32 := 128#32
  let v1240 : BitVec 32 := Scalar.muli c7_i32 c128_i32_427
  v1240
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c8_i32 : BitVec 32 := 8#32
  let v1 : BitVec 32 := Scalar.muli v0 c8_i32
  let c63_i32 : BitVec 32 := 63#32
  let v2 : BitVec 32 := Scalar.minsi v1 c63_i32
  let c0_i32 : BitVec 32 := 0#32
  let v3 : BitVec 32 := Scalar.addi c0_i32 arg1
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c8_i32 : BitVec 32 := 8#32
  let v1 : BitVec 32 := Scalar.muli v0 c8_i32
  let c63_i32 : BitVec 32 := 63#32
  let v2 : BitVec 32 := Scalar.minsi v1 c63_i32
  let c0_i32 : BitVec 32 := 0#32
  let v3 : BitVec 32 := Scalar.addi c0_i32 arg1
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c8_i32 : BitVec 32 := 8#32
  let v1 : BitVec 32 := Scalar.muli v0 c8_i32
  let c63_i32 : BitVec 32 := 63#32
  let v2 : BitVec 32 := Scalar.minsi v1 c63_i32
  let c0_i32 : BitVec 32 := 0#32
  let v3 : BitVec 32 := Scalar.addi c0_i32 arg1
  let c0_i32_0 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c8_i32 : BitVec 32 := 8#32
  let v1 : BitVec 32 := Scalar.muli v0 c8_i32
  let c63_i32 : BitVec 32 := 63#32
  let v2 : BitVec 32 := Scalar.minsi v1 c63_i32
  let c0_i32 : BitVec 32 := 0#32
  let v3 : BitVec 32 := Scalar.addi c0_i32 arg1
  let c0_i32_0 : BitVec 32 := 0#32
  ![v2.toNat, v3.toNat]

def cc0_transform_8 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let v3 : BitVec 32 := Scalar.addi c6_i32 arg1
  let c0_i32_0 : BitVec 32 := 0#32
  ![v2.toNat, v3.toNat]

def cc0_transform_10 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c12_i32 : BitVec 32 := 12#32
  let v3 : BitVec 32 := Scalar.addi c12_i32 arg1
  let c0_i32_0 : BitVec 32 := 0#32
  ![v2.toNat, v3.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1024x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1024x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Kernel2Ideal.lean ====
variable {F : FTy → Type} [FloatOps F] [Named F]
def κ : String → Option EReal := fun
  | "mask" => some ⊥
  | _ => none
-- ==== Reference2Ideal.lean ====
abbrev S8192x3072 : Shape := ⟨2, ![8192, 3072]⟩
abbrev S8192x7168 : Shape := ⟨2, ![8192, 7168]⟩
abbrev S8192x512 : Shape := ⟨2, ![8192, 512]⟩
abbrev S8192x8 : Shape := ⟨2, ![8192, 8]⟩
abbrev S8192x8x64 : Shape := ⟨3, ![8192, 8, 64]⟩
abbrev S64x128x8x64 : Shape := ⟨4, ![64, 128, 8, 64]⟩
abbrev S8x64x128x64 : Shape := ⟨4, ![8, 64, 128, 64]⟩
abbrev S_ : Shape := ⟨0, ![]⟩
abbrev S8x1x128x64 : Shape := ⟨4, ![8, 1, 128, 64]⟩
abbrev S8x63x128x64 : Shape := ⟨4, ![8, 63, 128, 64]⟩
abbrev S8x64x256x64 : Shape := ⟨4, ![8, 64, 256, 64]⟩
abbrev S8x64x128x256 : Shape := ⟨4, ![8, 64, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x128x256 : Shape := ⟨3, ![1, 128, 256]⟩
abbrev S1x1x256 : Shape := ⟨3, ![1, 1, 256]⟩
abbrev S64x1x256 : Shape := ⟨3, ![64, 1, 256]⟩
abbrev S64x128x256 : Shape := ⟨3, ![64, 128, 256]⟩
abbrev S8x64x128 : Shape := ⟨3, ![8, 64, 128]⟩
abbrev S8x64x128x1 : Shape := ⟨4, ![8, 64, 128, 1]⟩
abbrev S64x128x8 : Shape := ⟨3, ![64, 128, 8]⟩
abbrev S1x8192x8 : Shape := ⟨3, ![1, 8192, 8]⟩
abbrev S3x8192x8 : Shape := ⟨3, ![3, 8192, 8]⟩
abbrev S3x8192x8x1 : Shape := ⟨4, ![3, 8192, 8, 1]⟩
abbrev S1x8192x8x64 : Shape := ⟨4, ![1, 8192, 8, 64]⟩
abbrev S3x8192x8x64 : Shape := ⟨4, ![3, 8192, 8, 64]⟩
abbrev S8x64x64x256 : Shape := ⟨4, ![8, 64, 64, 256]⟩

abbrev nBuf : Space → Nat
  | .hbm => 269
  | .vmem => 0
  | .smem => 0
  | _ => 0

abbrev hbmTy0_0 (i : Nat) : BufTy := match i % 128 with
  | 0 => ⟨S8192x3072, .f32⟩
  | 1 => ⟨S8192x7168, .f32⟩
  | 2 => ⟨S8192x512, .f32⟩
  | 3 => ⟨S8192x8, .f32⟩
  | 4 => ⟨S8192x512, .f32⟩
  | 5 => ⟨S8192x8, .f32⟩
  | 6 => ⟨S8192x512, .f32⟩
  | 7 => ⟨S8192x8x64, .f32⟩
  | 8 => ⟨S8192x8x64, .f32⟩
  | 9 => ⟨S8192x8x64, .f32⟩
  | 10 => ⟨S8192x512, .f32⟩
  | 11 => ⟨S8192x512, .f32⟩
  | 12 => ⟨S8192x512, .f32⟩
  | 13 => ⟨S8192x8x64, .f32⟩
  | 14 => ⟨S8192x8x64, .f32⟩
  | 15 => ⟨S8192x8x64, .f32⟩
  | 16 => ⟨S64x128x8x64, .f32⟩
  | 17 => ⟨S8x64x128x64, .f32⟩
  | 18 => ⟨S64x128x8x64, .f32⟩
  | 19 => ⟨S8x64x128x64, .f32⟩
  | 20 => ⟨S_, .f32⟩
  | 21 => ⟨S8x1x128x64, .f32⟩
  | 22 => ⟨S8x63x128x64, .f32⟩
  | 23 => ⟨S8x64x128x64, .f32⟩
  | 24 => ⟨S_, .f32⟩
  | 25 => ⟨S8x1x128x64, .f32⟩
  | 26 => ⟨S8x64x256x64, .f32⟩
  | 27 => ⟨S64x128x8x64, .f32⟩
  | 28 => ⟨S8x64x128x64, .f32⟩
  | 29 => ⟨S_, .f32⟩
  | 30 => ⟨S8x1x128x64, .f32⟩
  | 31 => ⟨S8x63x128x64, .f32⟩
  | 32 => ⟨S8x64x128x64, .f32⟩
  | 33 => ⟨S_, .f32⟩
  | 34 => ⟨S8x1x128x64, .f32⟩
  | 35 => ⟨S8x64x256x64, .f32⟩
  | 36 => ⟨S8x64x128x256, .f32⟩
  | 37 => ⟨S_, .f32⟩
  | 38 => ⟨S8x64x128x256, .f32⟩
  | 39 => ⟨S8x64x128x256, .f32⟩
  | 40 => ⟨S128, .i32⟩
  | 41 => ⟨S128x1, .i32⟩
  | 42 => ⟨S_, .i32⟩
  | 43 => ⟨S128x1, .i32⟩
  | 44 => ⟨S128x1, .i32⟩
  | 45 => ⟨S256, .i32⟩
  | 46 => ⟨S1x256, .i32⟩
  | 47 => ⟨S128x256, .i32⟩
  | 48 => ⟨S128x256, .i32⟩
  | 49 => ⟨S128x256, .i32⟩
  | 50 => ⟨S_, .i32⟩
  | 51 => ⟨S128x256, .i32⟩
  | 52 => ⟨S128x256, .i1⟩
  | 53 => ⟨S_, .i32⟩
  | 54 => ⟨S128x256, .i32⟩
  | 55 => ⟨S128x256, .i1⟩
  | 56 => ⟨S128x256, .i1⟩
  | 57 => ⟨S64, .i32⟩
  | 58 => ⟨S64x1x1, .i32⟩
  | 59 => ⟨S1x128x256, .i1⟩
  | 60 => ⟨S_, .i32⟩
  | 61 => ⟨S64x1x1, .i32⟩
  | 62 => ⟨S64x1x1, .i1⟩
  | 63 => ⟨S1x1x256, .i32⟩
  | 64 => ⟨S_, .i32⟩
  | 65 => ⟨S1x1x256, .i32⟩
  | 66 => ⟨S1x1x256, .i1⟩
  | 67 => ⟨S64x1x256, .i1⟩
  | 68 => ⟨S64x1x256, .i1⟩
  | 69 => ⟨S64x1x256, .i1⟩
  | 70 => ⟨S64x128x256, .i1⟩
  | 71 => ⟨S64x128x256, .i1⟩
  | 72 => ⟨S64x128x256, .i1⟩
  | 73 => ⟨S_, .f32⟩
  | 74 => ⟨S_, .f32⟩
  | 75 => ⟨S8x64x128x256, .i1⟩
  | 76 => ⟨S8x64x128x256, .f32⟩
  | 77 => ⟨S8x64x128x256, .f32⟩
  | 78 => ⟨S_, .f32⟩
  | 79 => ⟨S8x64x128x256, .f32⟩
  | 80 => ⟨S_, .f32⟩
  | 81 => ⟨S8x64x128, .f32⟩
  | 82 => ⟨S8x64x128x1, .f32⟩
  | 83 => ⟨S8x64x128x256, .f32⟩
  | 84 => ⟨S8x64x128x256, .i1⟩
  | 85 => ⟨S8x64x128x256, .f32⟩
  | 86 => ⟨S_, .f32⟩
  | 87 => ⟨S8x64x128, .f32⟩
  | 88 => ⟨S8x64x128x1, .f32⟩
  | 89 => ⟨S8x64x128x256, .f32⟩
  | 90 => ⟨S8x64x128x256, .f32⟩
  | 91 => ⟨S8x64x128x256, .f32⟩
  | 92 => ⟨S_, .f32⟩
  | 93 => ⟨S8x64x128, .f32⟩
  | 94 => ⟨S8x64x128x1, .f32⟩
  | 95 => ⟨S8x64x128x256, .f32⟩
  | 96 => ⟨S8x64x128x256, .f32⟩
  | 97 => ⟨S8x64x128x1, .f32⟩
  | 98 => ⟨S_, .f32⟩
  | 99 => ⟨S8x64x128x1, .f32⟩
  | 100 => ⟨S8x64x128x1, .f32⟩
  | 101 => ⟨S8x64x128x64, .f32⟩
  | 102 => ⟨S8x64x128x1, .f32⟩
  | 103 => ⟨S8x64x128x1, .f32⟩
  | 104 => ⟨S8x64x128, .f32⟩
  | 105 => ⟨S64x128x8x64, .f32⟩
  | 106 => ⟨S8192x8x64, .f32⟩
  | 107 => ⟨S64x128x8, .f32⟩
  | 108 => ⟨S8192x8, .f32⟩
  | 109 => ⟨S1x8192x8, .f32⟩
  | 110 => ⟨S1x8192x8, .f32⟩
  | 111 => ⟨S1x8192x8, .f32⟩
  | 112 => ⟨S3x8192x8, .f32⟩
  | 113 => ⟨S_, .f32⟩
  | 114 => ⟨S8192x8, .f32⟩
  | 115 => ⟨S_, .f32⟩
  | 116 => ⟨S8192x8, .f32⟩
  | 117 => ⟨S_, .f32⟩
  | 118 => ⟨S8192x8, .f32⟩
  | 119 => ⟨S1x8192x8, .f32⟩
  | 120 => ⟨S3x8192x8, .f32⟩
  | 121 => ⟨S3x8192x8, .i1⟩
  | 122 => ⟨S3x8192x8, .f32⟩
  | 123 => ⟨S_, .f32⟩
  | 124 => ⟨S8192x8, .f32⟩
  | 125 => ⟨S_, .f32⟩
  | 126 => ⟨S8192x8, .f32⟩
  | 127 => ⟨S8192x8, .f32⟩
  | _ => ⟨S8192x3072, .f32⟩

abbrev hbmTy0_1 (i : Nat) : BufTy := match i % 128 with
  | 0 => ⟨S_, .f32⟩
  | 1 => ⟨S8192x8, .f32⟩
  | 2 => ⟨S8192x8, .i1⟩
  | 3 => ⟨S_, .f32⟩
  | 4 => ⟨S8192x8, .f32⟩
  | 5 => ⟨S8192x8, .i1⟩
  | 6 => ⟨S_, .f32⟩
  | 7 => ⟨S8192x8, .f32⟩
  | 8 => ⟨S_, .f32⟩
  | 9 => ⟨S8192x8, .f32⟩
  | 10 => ⟨S_, .f32⟩
  | 11 => ⟨S8192x8, .f32⟩
  | 12 => ⟨S8192x8, .f32⟩
  | 13 => ⟨S8192x8, .f32⟩
  | 14 => ⟨S1x8192x8, .f32⟩
  | 15 => ⟨S3x8192x8, .f32⟩
  | 16 => ⟨S3x8192x8, .f32⟩
  | 17 => ⟨S3x8192x8, .f32⟩
  | 18 => ⟨S_, .f32⟩
  | 19 => ⟨S8192x8, .f32⟩
  | 20 => ⟨S1x8192x8, .f32⟩
  | 21 => ⟨S3x8192x8, .f32⟩
  | 22 => ⟨S3x8192x8, .f32⟩
  | 23 => ⟨S1x8192x8, .f32⟩
  | 24 => ⟨S_, .f32⟩
  | 25 => ⟨S1x8192x8, .f32⟩
  | 26 => ⟨S1x8192x8, .f32⟩
  | 27 => ⟨S3x8192x8x1, .f32⟩
  | 28 => ⟨S1x8192x8x64, .f32⟩
  | 29 => ⟨S1x8192x8x64, .f32⟩
  | 30 => ⟨S1x8192x8x64, .f32⟩
  | 31 => ⟨S3x8192x8x64, .f32⟩
  | 32 => ⟨S_, .f32⟩
  | 33 => ⟨S8192x8x64, .f32⟩
  | 34 => ⟨S_, .f32⟩
  | 35 => ⟨S8192x8x64, .f32⟩
  | 36 => ⟨S3x8192x8x64, .f32⟩
  | 37 => ⟨S3x8192x8x64, .f32⟩
  | 38 => ⟨S_, .f32⟩
  | 39 => ⟨S8192x8x64, .f32⟩
  | 40 => ⟨S3x8192x8x64, .f32⟩
  | 41 => ⟨S3x8192x8x64, .f32⟩
  | 42 => ⟨S3x8192x8x64, .f32⟩
  | 43 => ⟨S3x8192x8x64, .f32⟩
  | 44 => ⟨S_, .f32⟩
  | 45 => ⟨S3x8192x8, .f32⟩
  | 46 => ⟨S3x8192x8x1, .f32⟩
  | 47 => ⟨S1x8192x8x64, .f32⟩
  | 48 => ⟨S8192x8x64, .f32⟩
  | 49 => ⟨S1x8192x8x64, .f32⟩
  | 50 => ⟨S8192x8x64, .f32⟩
  | 51 => ⟨S1x8192x8x64, .f32⟩
  | 52 => ⟨S8192x8x64, .f32⟩
  | 53 => ⟨S_, .f32⟩
  | 54 => ⟨S3x8192x8, .f32⟩
  | 55 => ⟨S3x8192x8, .f32⟩
  | 56 => ⟨S3x8192x8, .f32⟩
  | 57 => ⟨S3x8192x8, .f32⟩
  | 58 => ⟨S_, .f32⟩
  | 59 => ⟨S8192x8, .f32⟩
  | 60 => ⟨S1x8192x8, .f32⟩
  | 61 => ⟨S1x8192x8, .f32⟩
  | 62 => ⟨S3x8192x8, .f32⟩
  | 63 => ⟨S3x8192x8, .f32⟩
  | 64 => ⟨S_, .f32⟩
  | 65 => ⟨S8192x8, .f32⟩
  | 66 => ⟨S3x8192x8, .f32⟩
  | 67 => ⟨S3x8192x8, .f32⟩
  | 68 => ⟨S3x8192x8, .f32⟩
  | 69 => ⟨S1x8192x8, .f32⟩
  | 70 => ⟨S8192x8, .f32⟩
  | 71 => ⟨S1x8192x8, .f32⟩
  | 72 => ⟨S8192x8, .f32⟩
  | 73 => ⟨S1x8192x8, .f32⟩
  | 74 => ⟨S8192x8, .f32⟩
  | 75 => ⟨S64x128x8, .f32⟩
  | 76 => ⟨S8x64x128, .f32⟩
  | 77 => ⟨S64x128x8x64, .f32⟩
  | 78 => ⟨S8x64x128x64, .f32⟩
  | 79 => ⟨S8x64x128x1, .f32⟩
  | 80 => ⟨S8x64x128x1, .f32⟩
  | 81 => ⟨S8x64x64x256, .f32⟩
  | 82 => ⟨S8x64x256x64, .f32⟩
  | 83 => ⟨S8x64x128x256, .f32⟩
  | 84 => ⟨S8x64x128x256, .f32⟩
  | 85 => ⟨S8x64x128x256, .f32⟩
  | 86 => ⟨S8x64x128x256, .f32⟩
  | 87 => ⟨S_, .f32⟩
  | 88 => ⟨S8x64x128, .f32⟩
  | 89 => ⟨S8x64x128x1, .f32⟩
  | 90 => ⟨S8x64x128x1, .f32⟩
  | 91 => ⟨S8x64x128x1, .f32⟩
  | 92 => ⟨S8x64x128x256, .f32⟩
  | 93 => ⟨S8x64x128x256, .f32⟩
  | 94 => ⟨S_, .f32⟩
  | 95 => ⟨S8x64x128, .f32⟩
  | 96 => ⟨S8x64x128x256, .f32⟩
  | 97 => ⟨S8x64x128x256, .f32⟩
  | 98 => ⟨S8x64x128x256, .f32⟩
  | 99 => ⟨S8x64x128x256, .f32⟩
  | 100 => ⟨S_, .f32⟩
  | 101 => ⟨S8x64x128, .f32⟩
  | 102 => ⟨S8x64x128x1, .f32⟩
  | 103 => ⟨S8x64x128x1, .f32⟩
  | 104 => ⟨S_, .f32⟩
  | 105 => ⟨S8x64x128, .f32⟩
  | 106 => ⟨S8x64x128, .f32⟩
  | 107 => ⟨S8x64x128x256, .f32⟩
  | 108 => ⟨S8x64x128x256, .f32⟩
  | 109 => ⟨S8x64x128x256, .f32⟩
  | 110 => ⟨S_, .f32⟩
  | 111 => ⟨S8x64x128x256, .f32⟩
  | 112 => ⟨S8x64x128x256, .f32⟩
  | 113 => ⟨S_, .f32⟩
  | 114 => ⟨S8x64x128x256, .f32⟩
  | 115 => ⟨S8x64x128x256, .f32⟩
  | 116 => ⟨S8x64x256x64, .f32⟩
  | 117 => ⟨S8x64x128x64, .f32⟩
  | 118 => ⟨S8x64x128x64, .f32⟩
  | 119 => ⟨S8x64x128x64, .f32⟩
  | 120 => ⟨S8x1x128x64, .f32⟩
  | 121 => ⟨S8x63x128x64, .f32⟩
  | 122 => ⟨S_, .f32⟩
  | 123 => ⟨S8x64x128x64, .f32⟩
  | 124 => ⟨S8x64x128x64, .f32⟩
  | 125 => ⟨S64x128x8x64, .f32⟩
  | 126 => ⟨S8192x8x64, .f32⟩
  | 127 => ⟨S8x64x128x64, .f32⟩
  | _ => ⟨S8192x3072, .f32⟩

abbrev hbmTy0_2 (i : Nat) : BufTy := match i % 128 with
  | 0 => ⟨S8x64x128x64, .f32⟩
  | 1 => ⟨S8x1x128x64, .f32⟩
  | 2 => ⟨S8x63x128x64, .f32⟩
  | 3 => ⟨S_, .f32⟩
  | 4 => ⟨S8x64x128x64, .f32⟩
  | 5 => ⟨S8x64x128x64, .f32⟩
  | 6 => ⟨S64x128x8x64, .f32⟩
  | 7 => ⟨S8192x8x64, .f32⟩
  | 8 => ⟨S64x128x8x64, .f32⟩
  | 9 => ⟨S8192x8x64, .f32⟩
  | 10 => ⟨S8192x512, .f32⟩
  | 11 => ⟨S8192x512, .f32⟩
  | 12 => ⟨S8192x512, .f32⟩
  | _ => ⟨S8192x3072, .f32⟩

abbrev hbmTy (i : Nat) : BufTy := match i / 128 with
  | 0 => hbmTy0_0 i
  | 1 => hbmTy0_1 i
  | 2 => hbmTy0_2 i
  | _ => ⟨S8192x3072, .f32⟩

abbrev bufTy : (tb : Table) → Fin (tcTables nBuf tb) → BufTy
  | .hbm, ⟨i, _⟩ => hbmTy i
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_c_4 : Ref sig .tc := ⟨.hbm, 50, rfl⟩
abbrev main_v37 : Ref sig .tc := ⟨.hbm, 51, rfl⟩
abbrev main_v38 : Ref sig .tc := ⟨.hbm, 52, rfl⟩
abbrev main_c_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_6 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_c_7 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_8 : Ref sig .tc := ⟨.hbm, 73, rfl⟩
abbrev main_call0_v0 : Ref sig .tc := ⟨.hbm, 74, rfl⟩
abbrev main_v56_1 : Ref sig .tc := ⟨.hbm, 75, rfl⟩
abbrev main_call0_v2 : Ref sig .tc := ⟨.hbm, 76, rfl⟩
abbrev main_v56_0 : Ref sig .tc := ⟨.hbm, 77, rfl⟩
abbrev main_call0_cst : Ref sig .tc := ⟨.hbm, 78, rfl⟩
abbrev main_v56_2 : Ref sig .tc := ⟨.hbm, 79, rfl⟩
abbrev main_cst_9 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_10 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_11 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_12 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_13 : Ref sig .tc := ⟨.hbm, 113, rfl⟩
abbrev main_v86 : Ref sig .tc := ⟨.hbm, 114, rfl⟩
abbrev main_cst_14 : Ref sig .tc := ⟨.hbm, 115, rfl⟩
abbrev main_v87 : Ref sig .tc := ⟨.hbm, 116, rfl⟩
abbrev main_cst_15 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_cst_16 : Ref sig .tc := ⟨.hbm, 123, rfl⟩
abbrev main_v93 : Ref sig .tc := ⟨.hbm, 124, rfl⟩
abbrev main_cst_17 : Ref sig .tc := ⟨.hbm, 125, rfl⟩
abbrev main_v94 : Ref sig .tc := ⟨.hbm, 126, rfl⟩
abbrev main_v95 : Ref sig .tc := ⟨.hbm, 127, rfl⟩
abbrev main_cst_18 : Ref sig .tc := ⟨.hbm, 128, rfl⟩
abbrev main_v96 : Ref sig .tc := ⟨.hbm, 129, rfl⟩
abbrev main_v97 : Ref sig .tc := ⟨.hbm, 130, rfl⟩
abbrev main_cst_19 : Ref sig .tc := ⟨.hbm, 131, rfl⟩
abbrev main_v98 : Ref sig .tc := ⟨.hbm, 132, rfl⟩
abbrev main_v99 : Ref sig .tc := ⟨.hbm, 133, rfl⟩
abbrev main_cst_20 : Ref sig .tc := ⟨.hbm, 134, rfl⟩
abbrev main_v100 : Ref sig .tc := ⟨.hbm, 135, rfl⟩
abbrev main_cst_21 : Ref sig .tc := ⟨.hbm, 136, rfl⟩
abbrev main_v101 : Ref sig .tc := ⟨.hbm, 137, rfl⟩
abbrev main_cst_22 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_cst_23 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_cst_24 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_cst_25 : Ref sig .tc := ⟨.hbm, 160, rfl⟩
abbrev main_v121 : Ref sig .tc := ⟨.hbm, 161, rfl⟩
abbrev main_cst_26 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_cst_27 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_cst_28 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_cst_29 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_cst_30 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_cst_31 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_cst_32 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_cst_33 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_cst_34 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_cst_35 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_call1_cst : Ref sig .tc := ⟨.hbm, 238, rfl⟩
abbrev main_call1_v0 : Ref sig .tc := ⟨.hbm, 239, rfl⟩
abbrev main_v188 : Ref sig .tc := ⟨.hbm, 240, rfl⟩
abbrev main_cst_36 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_cst_37 : Ref sig .tc := ⟨.hbm, 250, rfl⟩
abbrev main_v197 : Ref sig .tc := ⟨.hbm, 251, rfl⟩
abbrev main_v198 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_v202 : Ref sig .tc := ⟨.hbm, 256, rfl⟩
abbrev main_v203 : Ref sig .tc := ⟨.hbm, 257, rfl⟩
abbrev main_v204 : Ref sig .tc := ⟨.hbm, 258, rfl⟩
abbrev main_cst_38 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_v208 : Ref sig .tc := ⟨.hbm, 263, rfl⟩
abbrev main_v209 : Ref sig .tc := ⟨.hbm, 264, rfl⟩
abbrev main_v210 : Ref sig .tc := ⟨.hbm, 265, rfl⟩
abbrev main_v211 : Ref sig .tc := ⟨.hbm, 266, rfl⟩
abbrev main_v212 : Ref sig .tc := ⟨.hbm, 267, rfl⟩
abbrev main_v213 : Ref sig .tc := ⟨.hbm, 268, rfl⟩

abbrev nD : Nat := 1
abbrev τ : Topo := Topo.v7x

variable {F : FTy → Type} [FloatOps F]
-- ==== Kernel3.lean ====
abbrev S8192x1024 : Shape := ⟨2, ![8192, 1024]⟩
abbrev S8192x7168 : Shape := ⟨2, ![8192, 7168]⟩
abbrev S8x512x896 : Shape := ⟨3, ![8, 512, 896]⟩
abbrev S4096x512 : Shape := ⟨2, ![4096, 512]⟩
abbrev S4096x896 : Shape := ⟨2, ![4096, 896]⟩
abbrev S1x512x896 : Shape := ⟨3, ![1, 512, 896]⟩
abbrev S512x896 : Shape := ⟨2, ![512, 896]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x7168, .bf16⟩
  | .hbm, ⟨2, _⟩ => ⟨S8x512x896, .bf16⟩
  | .local _ .vmem, ⟨0, _⟩ => ⟨S4096x512, .bf16⟩
  | .local _ .vmem, ⟨1, _⟩ => ⟨S4096x512, .bf16⟩
  | .local _ .vmem, ⟨2, _⟩ => ⟨S4096x896, .bf16⟩
  | .local _ .vmem, ⟨3, _⟩ => ⟨S4096x896, .bf16⟩
  | .local _ .vmem, ⟨4, _⟩ => ⟨S1x512x896, .bf16⟩
  | .local _ .vmem, ⟨5, _⟩ => ⟨S1x512x896, .bf16⟩
  | .local _ .vmem, ⟨6, _⟩ => ⟨S512x896, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32 : BitVec 32 := 1#32
  let v9 : BitVec 1 := Scalar.cmpi .eq arg1 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S8192x1024 : Shape := ⟨2, ![8192, 1024]⟩
abbrev S8192x7168 : Shape := ⟨2, ![8192, 7168]⟩
abbrev S_ : Shape := ⟨0, ![]⟩
abbrev S1024x7168 : Shape := ⟨2, ![1024, 7168]⟩
abbrev S7168x1024 : Shape := ⟨2, ![7168, 1024]⟩
abbrev S512x7168 : Shape := ⟨2, ![512, 7168]⟩
abbrev S512x8x896 : Shape := ⟨3, ![512, 8, 896]⟩
abbrev S8x512x896 : Shape := ⟨3, ![8, 512, 896]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x7168, .bf16⟩
  | .hbm, ⟨2, _⟩ => ⟨S_, .f32⟩
  | .hbm, ⟨3, _⟩ => ⟨S1024x7168, .f32⟩
  | .hbm, ⟨4, _⟩ => ⟨S8192x1024, .f32⟩
  | .hbm, ⟨5, _⟩ => ⟨S8192x7168, .f32⟩
  | .hbm, ⟨6, _⟩ => ⟨S8192x7168, .f32⟩
  | .hbm, ⟨7, _⟩ => ⟨S7168x1024, .f32⟩
  | .hbm, ⟨8, _⟩ => ⟨S1024x7168, .f32⟩
  | .hbm, ⟨9, _⟩ => ⟨S512x7168, .f32⟩
  | .hbm, ⟨10, _⟩ => ⟨S512x8x896, .f32⟩
  | .hbm, ⟨11, _⟩ => ⟨S8x512x896, .f32⟩
  | .hbm, ⟨12, _⟩ => ⟨S8x512x896, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel4.lean ====
abbrev S8192x1024 : Shape := ⟨2, ![8192, 1024]⟩
abbrev S8192x7168 : Shape := ⟨2, ![8192, 7168]⟩
abbrev S8x512x896 : Shape := ⟨3, ![8, 512, 896]⟩
abbrev S4096x512 : Shape := ⟨2, ![4096, 512]⟩
abbrev S4096x896 : Shape := ⟨2, ![4096, 896]⟩
abbrev S1x512x896 : Shape := ⟨3, ![1, 512, 896]⟩
abbrev S512x896 : Shape := ⟨2, ![512, 896]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x7168, .bf16⟩
  | .hbm, ⟨2, _⟩ => ⟨S8x512x896, .bf16⟩
  | .local _ .vmem, ⟨0, _⟩ => ⟨S4096x512, .bf16⟩
  | .local _ .vmem, ⟨1, _⟩ => ⟨S4096x512, .bf16⟩
  | .local _ .vmem, ⟨2, _⟩ => ⟨S4096x896, .bf16⟩
  | .local _ .vmem, ⟨3, _⟩ => ⟨S4096x896, .bf16⟩
  | .local _ .vmem, ⟨4, _⟩ => ⟨S1x512x896, .bf16⟩
  | .local _ .vmem, ⟨5, _⟩ => ⟨S1x512x896, .bf16⟩
  | .local _ .vmem, ⟨6, _⟩ => ⟨S512x896, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32 : BitVec 32 := 1#32
  let v9 : BitVec 1 := Scalar.cmpi .eq arg1 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S8192x1024 : Shape := ⟨2, ![8192, 1024]⟩
abbrev S8192x7168 : Shape := ⟨2, ![8192, 7168]⟩
abbrev S_ : Shape := ⟨0, ![]⟩
abbrev S1024x7168 : Shape := ⟨2, ![1024, 7168]⟩
abbrev S7168x1024 : Shape := ⟨2, ![7168, 1024]⟩
abbrev S512x7168 : Shape := ⟨2, ![512, 7168]⟩
abbrev S512x8x896 : Shape := ⟨3, ![512, 8, 896]⟩
abbrev S8x512x896 : Shape := ⟨3, ![8, 512, 896]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x7168, .bf16⟩
  | .hbm, ⟨2, _⟩ => ⟨S_, .f32⟩
  | .hbm, ⟨3, _⟩ => ⟨S1024x7168, .f32⟩
  | .hbm, ⟨4, _⟩ => ⟨S8192x1024, .f32⟩
  | .hbm, ⟨5, _⟩ => ⟨S8192x7168, .f32⟩
  | .hbm, ⟨6, _⟩ => ⟨S8192x7168, .f32⟩
  | .hbm, ⟨7, _⟩ => ⟨S7168x1024, .f32⟩
  | .hbm, ⟨8, _⟩ => ⟨S1024x7168, .f32⟩
  | .hbm, ⟨9, _⟩ => ⟨S512x7168, .f32⟩
  | .hbm, ⟨10, _⟩ => ⟨S512x8x896, .f32⟩
  | .hbm, ⟨11, _⟩ => ⟨S8x512x896, .f32⟩
  | .hbm, ⟨12, _⟩ => ⟨S8x512x896, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel5.lean ====
abbrev S8192x1024 : Shape := ⟨2, ![8192, 1024]⟩
abbrev S8192x2560 : Shape := ⟨2, ![8192, 2560]⟩
abbrev S1024x2560 : Shape := ⟨2, ![1024, 2560]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x2560, .bf16⟩
  | .hbm, ⟨2, _⟩ => ⟨S1024x2560, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 2], ![false, false]⟩

def k0_cond3 (i : grid0.Coords) : BitVec 1 :=
  let arg1 : BitVec 32 := BitVec.ofNat 32 (i 1).val
  let c1_i32 : BitVec 32 := 1#32
  let v9 : BitVec 1 := Scalar.cmpi .eq arg1 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S8192x1024 : Shape := ⟨2, ![8192, 1024]⟩
abbrev S8192x2560 : Shape := ⟨2, ![8192, 2560]⟩
abbrev S_ : Shape := ⟨0, ![]⟩
abbrev S1024x2560 : Shape := ⟨2, ![1024, 2560]⟩
abbrev S2560x1024 : Shape := ⟨2, ![2560, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2560, .bf16⟩
  | .hbm, ⟨2, _⟩ => ⟨S_, .f32⟩
  | .hbm, ⟨3, _⟩ => ⟨S1024x2560, .f32⟩
  | .hbm, ⟨4, _⟩ => ⟨S8192x1024, .f32⟩
  | .hbm, ⟨5, _⟩ => ⟨S8192x2560, .f32⟩
  | .hbm, ⟨6, _⟩ => ⟨S8192x2560, .f32⟩
  | .hbm, ⟨7, _⟩ => ⟨S2560x1024, .f32⟩
  | .hbm, ⟨8, _⟩ => ⟨S1024x2560, .f32⟩
  | .hbm, ⟨9, _⟩ => ⟨S1024x2560, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S8192x1024 : Shape := ⟨2, ![8192, 1024]⟩
abbrev S1024x1024 : Shape := ⟨2, ![1024, 1024]⟩
abbrev S4096x1024 : Shape := ⟨2, ![4096, 1024]⟩
abbrev S4096x512 : Shape := ⟨2, ![4096, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond3 (i : grid0.Coords) : BitVec 1 :=
  let arg1 : BitVec 32 := BitVec.ofNat 32 (i 1).val
  let c1_i32 : BitVec 32 := 1#32
  let v9 : BitVec 1 := Scalar.cmpi .eq arg1 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference6Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S8192x2560 : Shape := ⟨2, ![8192, 2560]⟩
abbrev S1024x2560 : Shape := ⟨2, ![1024, 2560]⟩
abbrev S8192x1024 : Shape := ⟨2, ![8192, 1024]⟩
abbrev S1x1024 : Shape := ⟨2, ![1, 1024]⟩
abbrev S1x1024x2560 : Shape := ⟨3, ![1, 1024, 2560]⟩
abbrev S512x2560 : Shape := ⟨2, ![512, 2560]⟩
abbrev S512x1024 : Shape := ⟨2, ![512, 1024]⟩
abbrev S_ : Shape := ⟨0, ![]⟩
abbrev S512 : Shape := ⟨1, ![512]⟩
abbrev S512x1 : Shape := ⟨2, ![512, 1]⟩
abbrev S1024 : Shape := ⟨1, ![1024]⟩

abbrev nBuf : Space → Nat
  | .hbm => 9
  | .vmem => 13
  | .smem => 0
  | _ => 0

abbrev bufTy : (tb : Table) → Fin (tcTables nBuf tb) → BufTy
  | .hbm, ⟨0, _⟩ => ⟨S8192x2560, .bf16⟩
  | .hbm, ⟨1, _⟩ => ⟨S1024x2560, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1x1024x2560, .bf16⟩
  | .hbm, ⟨6, _⟩ => ⟨S8192x1024, .f32⟩
  | .hbm, ⟨7, _⟩ => ⟨S8192x1024, .bf16⟩
  | .hbm, ⟨8, _⟩ => ⟨S1x1024, .f32⟩
  | .local _ .vmem, ⟨0, _⟩ => ⟨S512x2560, .bf16⟩
  | .local _ .vmem, ⟨1, _⟩ => ⟨S512x2560, .bf16⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | .local _ .vmem, ⟨12, _⟩ => ⟨S1x1024x2560, .bf16⟩
  | _, _ => ⟨S8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c0_i32_21 : BitVec 32 := 0#32
  let v39 : BitVec 1 := Scalar.cmpi .eq arg0 c0_i32_21
  let v40 : BitVec 32 := Scalar.extui v39
  let c0_i32_22 : BitVec 32 := 0#32
  let v41 : BitVec 1 := Scalar.cmpi .ne v40 c0_i32_22
  v41

def k0_cond3 (i : grid0.Coords) : BitVec 1 :=
  let arg0 : BitVec 32 := BitVec.ofNat 32 (i 0).val
  let c0_i32_23 : BitVec 32 := 0#32
  let v42 : BitVec 1 := Scalar.cmpi .sgt arg0 c0_i32_23
  let v43 : BitVec 32 := Scalar.extui v42
  let c0_i32_24 : BitVec 32 := 0#32
  let v44 : BitVec 1 := Scalar.cmpi .ne v43 c0_i32_24
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference7Ideal.lean ====
abbrev S8192x2560 : Shape := ⟨2, ![8192, 2560]⟩
abbrev S1024x2560 : Shape := ⟨2, ![1024, 2560]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S8192x2560, .bf16⟩
  | .hbm, ⟨1, _⟩ => ⟨S1024x2560, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S1024x2560, .f32⟩
  | .hbm, ⟨25, _⟩ => ⟨S8192x2560, .f32⟩
  | .hbm, ⟨26, _⟩ => ⟨S8192x2560, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .bf16⟩
  | _, _ => ⟨S8192x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel8.lean ====
abbrev S8192x7168 : Shape := ⟨2, ![8192, 7168]⟩
abbrev S8x1024x896 : Shape := ⟨3, ![8, 1024, 896]⟩
abbrev S8192x1024 : Shape := ⟨2, ![8192, 1024]⟩
abbrev S1x1024 : Shape := ⟨2, ![1, 1024]⟩
abbrev S512x7168 : Shape := ⟨2, ![512, 7168]⟩
abbrev S512x1024 : Shape := ⟨2, ![512, 1024]⟩
abbrev S_ : Shape := ⟨0, ![]⟩
abbrev S512x896 : Shape := ⟨2, ![512, 896]⟩
abbrev S1x1024x896 : Shape := ⟨3, ![1, 1024, 896]⟩
abbrev S1024x896 : Shape := ⟨2, ![1024, 896]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S8192x7168, .bf16⟩
  | .hbm, ⟨1, _⟩ => ⟨S8x1024x896, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | .hbm, ⟨7, _⟩ => ⟨S1x1024, .f32⟩
  | .local _ .vmem, ⟨0, _⟩ => ⟨S512x7168, .bf16⟩
  | .local _ .vmem, ⟨1, _⟩ => ⟨S512x7168, .bf16⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | .local _ .vmem, ⟨12, _⟩ => ⟨S8x1024x896, .bf16⟩
  | _, _ => ⟨S8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c0_i32_49 : BitVec 32 := 0#32
  let v74 : BitVec 1 := Scalar.cmpi .eq arg0 c0_i32_49
  let v75 : BitVec 32 := Scalar.extui v74
  let c0_i32_50 : BitVec 32 := 0#32
  let v76 : BitVec 1 := Scalar.cmpi .ne v75 c0_i32_50
  v76

def k0_cond3 (i : grid0.Coords) : BitVec 1 :=
  let arg0 : BitVec 32 := BitVec.ofNat 32 (i 0).val
  let c0_i32_51 : BitVec 32 := 0#32
  let v77 : BitVec 1 := Scalar.cmpi .sgt arg0 c0_i32_51
  let v78 : BitVec 32 := Scalar.extui v77
  let c0_i32_52 : BitVec 32 := 0#32
  let v79 : BitVec 1 := Scalar.cmpi .ne v78 c0_i32_52
  v79

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference8Ideal.lean ====
abbrev S8192x7168 : Shape := ⟨2, ![8192, 7168]⟩
abbrev S8x1024x896 : Shape := ⟨3, ![8, 1024, 896]⟩
abbrev S8192x1024 : Shape := ⟨2, ![8192, 1024]⟩
abbrev S1x1024 : Shape := ⟨2, ![1, 1024]⟩
abbrev S1024x8x896 : Shape := ⟨3, ![1024, 8, 896]⟩
abbrev S1024x7168 : Shape := ⟨2, ![1024, 7168]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 55
  | .vmem => 0
  | .smem => 0
  | _ => 0

abbrev bufTy : (tb : Table) → Fin (tcTables nBuf tb) → BufTy
  | .hbm, ⟨0, _⟩ => ⟨S8192x7168, .bf16⟩
  | .hbm, ⟨1, _⟩ => ⟨S8x1024x896, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024x8x896, .bf16⟩
  | .hbm, ⟨6, _⟩ => ⟨S1024x7168, .bf16⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S1024x7168, .f32⟩
  | .hbm, ⟨27, _⟩ => ⟨S8192x7168, .f32⟩
  | .hbm, ⟨28, _⟩ => ⟨S8192x7168, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .bf16⟩
  | _, _ => ⟨S8192x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== Kernel9.lean ====
abbrev S8192x1024 : Shape := ⟨2, ![8192, 1024]⟩
abbrev S1024x2560 : Shape := ⟨2, ![1024, 2560]⟩
abbrev S1x1024x2560 : Shape := ⟨3, ![1, 1024, 2560]⟩
abbrev S8192x2560 : Shape := ⟨2, ![8192, 2560]⟩
abbrev S512x1024 : Shape := ⟨2, ![512, 1024]⟩
abbrev S512x2560 : Shape := ⟨2, ![512, 2560]⟩
abbrev S_ : Shape := ⟨0, ![]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x2560, .bf16⟩
  | .hbm, ⟨2, _⟩ => ⟨S1x1024x2560, .bf16⟩
  | .hbm, ⟨3, _⟩ => ⟨S8192x2560, .f32⟩
  | .local _ .vmem, ⟨0, _⟩ => ⟨S512x1024, .bf16⟩
  | .local _ .vmem, ⟨1, _⟩ => ⟨S512x1024, .bf16⟩
  | .local _ .vmem, ⟨2, _⟩ => ⟨S512x2560, .f32⟩
  | .local _ .vmem, ⟨3, _⟩ => ⟨S512x2560, .f32⟩
  | .local _ .vmem, ⟨4, _⟩ => ⟨S1x1024x2560, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2560 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference9Ideal.lean ====
abbrev S8192x1024 : Shape := ⟨2, ![8192, 1024]⟩
abbrev S1024x2560 : Shape := ⟨2, ![1024, 2560]⟩
abbrev S8192x2560 : Shape := ⟨2, ![8192, 2560]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x2560, .bf16⟩
  | .hbm, ⟨2, _⟩ => ⟨S8192x1024, .f32⟩
  | .hbm, ⟨3, _⟩ => ⟨S1024x2560, .f32⟩
  | .hbm, ⟨4, _⟩ => ⟨S8192x2560, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel10.lean ====
abbrev S8192x1024 : Shape := ⟨2, ![8192, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference10Ideal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel11.lean ====
abbrev S8192x1024 : Shape := ⟨2, ![8192, 1024]⟩
abbrev S1024x1024 : Shape := ⟨2, ![1024, 1024]⟩
abbrev S8x128 : Shape := ⟨2, ![8, 128]⟩
abbrev S512x1024 : Shape := ⟨2, ![512, 1024]⟩
abbrev S1x1024 : Shape := ⟨2, ![1, 1024]⟩
abbrev S1024 : Shape := ⟨1, ![1024]⟩
abbrev S1 : Shape := ⟨1, ![1]⟩
abbrev S1x1 : Shape := ⟨2, ![1, 1]⟩

abbrev nBuf : Space → Nat
  | .hbm => 7
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | .hbm, ⟨6, _⟩ => ⟨S8x128, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S8x128, .f32⟩
  | .local _ .vmem, ⟨12, _⟩ => ⟨S1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c15_i32 : BitVec 32 := 15#32
  let v21 : BitVec 1 := Scalar.cmpi .eq arg0 c15_i32
  let v22 : BitVec 32 := Scalar.extui v21
  let c0_i32_16 : BitVec 32 := 0#32
  let v23 : BitVec 1 := Scalar.cmpi .ne v22 c0_i32_16
  v23

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference11Ideal.lean ====
abbrev S8192x1024 : Shape := ⟨2, ![8192, 1024]⟩
abbrev S1024x1024 : Shape := ⟨2, ![1024, 1024]⟩
abbrev S_ : Shape := ⟨0, ![]⟩
abbrev S8192 : Shape := ⟨1, ![8192]⟩
abbrev S8x128 : Shape := ⟨2, ![8, 128]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S8192x1024, .f32⟩
  | .hbm, ⟨30, _⟩ => ⟨S8192x1024, .f32⟩
  | .hbm, ⟨31, _⟩ => ⟨S8192x1024, .bf16⟩
  | .hbm, ⟨32, _⟩ => ⟨S8x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]
-- ==== Kernel12.lean ====
abbrev S8192x1024 : Shape := ⟨2, ![8192, 1024]⟩
abbrev S1x1024 : Shape := ⟨2, ![1, 1024]⟩
abbrev S8x1024x896 : Shape := ⟨3, ![8, 1024, 896]⟩
abbrev S8192x8 : Shape := ⟨2, ![8192, 8]⟩
abbrev S1x64 : Shape := ⟨2, ![1, 64]⟩
abbrev S_ : Shape := ⟨0, ![]⟩
abbrev S64x64 : Shape := ⟨2, ![64, 64]⟩
abbrev S64x128 : Shape := ⟨2, ![64, 128]⟩
abbrev S128x128 : Shape := ⟨2, ![128, 128]⟩
abbrev S1x1x1x64 : Shape := ⟨4, ![1, 1, 1, 64]⟩
abbrev S1x1x2x64 : Shape := ⟨4, ![1, 1, 2, 64]⟩
abbrev S1x128 : Shape := ⟨2, ![1, 128]⟩
abbrev S2x128 : Shape := ⟨2, ![2, 128]⟩
abbrev S8192x48 : Shape := ⟨2, ![8192, 48]⟩
abbrev S8192x128 : Shape := ⟨2, ![8192, 128]⟩
abbrev S8192x56 : Shape := ⟨2, ![8192, 56]⟩
abbrev S8192x7168 : Shape := ⟨2, ![8192, 7168]⟩
abbrev S8192x3072 : Shape := ⟨2, ![8192, 3072]⟩
abbrev S256x1024 : Shape := ⟨2, ![256, 1024]⟩
abbrev S256x128 : Shape := ⟨2, ![256, 128]⟩
abbrev S256x7168 : Shape := ⟨2, ![256, 7168]⟩
abbrev S256x3072 : Shape := ⟨2, ![256, 3072]⟩
abbrev S256 : Shape := ⟨1, ![256]⟩
abbrev S256x1 : Shape := ⟨2, ![256, 1]⟩
abbrev S1x1024x896 : Shape := ⟨3, ![1, 1024, 896]⟩
abbrev S1024x896 : Shape := ⟨2, ![1024, 896]⟩
abbrev S256x896 : Shape := ⟨2, ![256, 896]⟩

abbrev nBuf : Space → Nat
  | .hbm => 36
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8x1024x896, .bf16⟩
  | .hbm, ⟨3, _⟩ => ⟨S8192x8, .f32⟩
  | .hbm, ⟨4, _⟩ => ⟨S8192x8, .f32⟩
  | .hbm, ⟨5, _⟩ => ⟨S1x64, .f32⟩
  | .hbm, ⟨6, _⟩ => ⟨S1x64, .f32⟩
  | .hbm, ⟨7, _⟩ => ⟨S_, .bf16⟩
  | .hbm, ⟨8, _⟩ => ⟨S64x64, .bf16⟩
  | .hbm, ⟨9, _⟩ => ⟨S_, .bf16⟩
  | .hbm, ⟨10, _⟩ => ⟨S64x64, .bf16⟩
  | .hbm, ⟨11, _⟩ => ⟨S64x128, .bf16⟩
  | .hbm, ⟨12, _⟩ => ⟨S64x128, .bf16⟩
  | .hbm, ⟨13, _⟩ => ⟨S128x128, .bf16⟩
  | .hbm, ⟨14, _⟩ => ⟨S1x1x1x64, .f32⟩
  | .hbm, ⟨15, _⟩ => ⟨S1x1x2x64, .f32⟩
  | .hbm, ⟨16, _⟩ => ⟨S1x128, .f32⟩
  | .hbm, ⟨17, _⟩ => ⟨S1x1x1x64, .f32⟩
  | .hbm, ⟨18, _⟩ => ⟨S1x1x2x64, .f32⟩
  | .hbm, ⟨19, _⟩ => ⟨S1x128, .f32⟩
  | .hbm, ⟨20, _⟩ => ⟨S2x128, .f32⟩
  | .hbm, ⟨21, _⟩ => ⟨S_, .f32⟩
  | .hbm, ⟨22, _⟩ => ⟨S8192x48, .f32⟩
  | .hbm, ⟨23, _⟩ => ⟨S8192x128, .f32⟩
  | .hbm, ⟨24, _⟩ => ⟨S_, .f32⟩
  | .hbm, ⟨25, _⟩ => ⟨S8192x8, .f32⟩
  | .hbm, ⟨26, _⟩ => ⟨S_, .f32⟩
  | .hbm, ⟨27, _⟩ => ⟨S8192x48, .f32⟩
  | .hbm, ⟨28, _⟩ => ⟨S8192x128, .f32⟩
  | .hbm, ⟨29, _⟩ => ⟨S8192x8, .f32⟩
  | .hbm, ⟨30, _⟩ => ⟨S_, .f32⟩
  | .hbm, ⟨31, _⟩ => ⟨S8192x56, .f32⟩
  | .hbm, ⟨32, _⟩ => ⟨S8192x128, .f32⟩
  | .hbm, ⟨33, _⟩ => ⟨S8192x7168, .f32⟩
  | .hbm, ⟨34, _⟩ => ⟨S8192x3072, .f32⟩
  | .hbm, ⟨35, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S2x128, .f32⟩
  | .local _ .vmem, ⟨10, _⟩ => ⟨S128x128, .bf16⟩
  | .local _ .vmem, ⟨11, _⟩ => ⟨S256x7168, .f32⟩
  | .local _ .vmem, ⟨12, _⟩ => ⟨S256x7168, .f32⟩
  | .local _ .vmem, ⟨13, _⟩ => ⟨S256x3072, .f32⟩
  | .local _ .vmem, ⟨14, _⟩ => ⟨S256x3072, .f32⟩
  | .local _ .vmem, ⟨15, _⟩ => ⟨S256x1024, .bf16⟩
  | .local _ .vmem, ⟨16, _⟩ => ⟨S256x1024, .bf16⟩
  | .local _ .vmem, ⟨17, _⟩ => ⟨S8x1024x896, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20_0 : Ref sig .tc := ⟨.hbm, 33, rfl⟩
abbrev main_v20_1 : Ref sig .tc := ⟨.hbm, 34, rfl⟩
abbrev main_v20_2 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x7168 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x3072 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference12Ideal.lean ====
abbrev S8192x1024 : Shape := ⟨2, ![8192, 1024]⟩
abbrev S1x1024 : Shape := ⟨2, ![1, 1024]⟩
abbrev S8x1024x896 : Shape := ⟨3, ![8, 1024, 896]⟩
abbrev S8192x8 : Shape := ⟨2, ![8192, 8]⟩
abbrev S1x64 : Shape := ⟨2, ![1, 64]⟩
abbrev S_ : Shape := ⟨0, ![]⟩
abbrev S8192 : Shape := ⟨1, ![8192]⟩
abbrev S8192x1 : Shape := ⟨2, ![8192, 1]⟩
abbrev S1024x8x896 : Shape := ⟨3, ![1024, 8, 896]⟩
abbrev S1024x7168 : Shape := ⟨2, ![1024, 7168]⟩
abbrev S8192x7168 : Shape := ⟨2, ![8192, 7168]⟩
abbrev S8192x1536 : Shape := ⟨2, ![8192, 1536]⟩
abbrev S8192x24x64 : Shape := ⟨3, ![8192, 24, 64]⟩
abbrev S8192x1x8 : Shape := ⟨3, ![8192, 1, 8]⟩
abbrev S8192x24 : Shape := ⟨2, ![8192, 24]⟩
abbrev S8192x24x1 : Shape := ⟨3, ![8192, 24, 1]⟩
abbrev S1x1x64 : Shape := ⟨3, ![1, 1, 64]⟩
abbrev S8192x24x8 : Shape := ⟨3, ![8192, 24, 8]⟩
abbrev S8192x24x48 : Shape := ⟨3, ![8192, 24, 48]⟩
abbrev S8192x3072 : Shape := ⟨2, ![8192, 3072]⟩

abbrev nBuf : Space → Nat
  | .hbm => 96
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8x1024x896, .bf16⟩
  | .hbm, ⟨3, _⟩ => ⟨S8192x8, .f32⟩
  | .hbm, ⟨4, _⟩ => ⟨S8192x8, .f32⟩
  | .hbm, ⟨5, _⟩ => ⟨S1x64, .f32⟩
  | .hbm, ⟨6, _⟩ => ⟨S1x64, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S1024x8x896, .bf16⟩
  | .hbm, ⟨23, _⟩ => ⟨S1024x7168, .bf16⟩
  | .hbm, ⟨24, _⟩ => ⟨S1024x7168, .f32⟩
  | .hbm, ⟨25, _⟩ => ⟨S8192x7168, .f32⟩
  | .hbm, ⟨26, _⟩ => ⟨S8192x1536, .f32⟩
  | .hbm, ⟨27, _⟩ => ⟨S8192x24x64, .f32⟩
  | .hbm, ⟨28, _⟩ => ⟨S8192x1536, .f32⟩
  | .hbm, ⟨29, _⟩ => ⟨S8192x24x64, .f32⟩
  | .hbm, ⟨30, _⟩ => ⟨S8192x1x8, .f32⟩
  | .hbm, ⟨31, _⟩ => ⟨S8192x1x8, .f32⟩
  | .hbm, ⟨32, _⟩ => ⟨S8192x24x64, .f32⟩
  | .hbm, ⟨33, _⟩ => ⟨S_, .f32⟩
  | .hbm, ⟨34, _⟩ => ⟨S8192x24, .f32⟩
  | .hbm, ⟨35, _⟩ => ⟨S8192x24x1, .f32⟩
  | .hbm, ⟨36, _⟩ => ⟨S_, .f32⟩
  | .hbm, ⟨37, _⟩ => ⟨S8192x24x1, .f32⟩
  | .hbm, ⟨38, _⟩ => ⟨S8192x24x1, .f32⟩
  | .hbm, ⟨39, _⟩ => ⟨S_, .f32⟩
  | .hbm, ⟨40, _⟩ => ⟨S8192x24x1, .f32⟩
  | .hbm, ⟨41, _⟩ => ⟨S8192x24x1, .f32⟩
  | .hbm, ⟨42, _⟩ => ⟨S8192x24x1, .f32⟩
  | .hbm, ⟨43, _⟩ => ⟨S8192x24x64, .f32⟩
  | .hbm, ⟨44, _⟩ => ⟨S8192x24x64, .f32⟩
  | .hbm, ⟨45, _⟩ => ⟨S1x1x64, .f32⟩
  | .hbm, ⟨46, _⟩ => ⟨S8192x24x64, .f32⟩
  | .hbm, ⟨47, _⟩ => ⟨S8192x24x64, .f32⟩
  | .hbm, ⟨48, _⟩ => ⟨S8192x24x8, .f32⟩
  | .hbm, ⟨49, _⟩ => ⟨S8192x24x8, .f32⟩
  | .hbm, ⟨50, _⟩ => ⟨S8192x24x8, .f32⟩
  | .hbm, ⟨51, _⟩ => ⟨S8192x24x8, .f32⟩
  | .hbm, ⟨52, _⟩ => ⟨S8192x24x8, .f32⟩
  | .hbm, ⟨53, _⟩ => ⟨S8192x24x8, .f32⟩
  | .hbm, ⟨54, _⟩ => ⟨S8192x24x8, .f32⟩
  | .hbm, ⟨55, _⟩ => ⟨S8192x24x8, .f32⟩
  | .hbm, ⟨56, _⟩ => ⟨S8192x24x8, .f32⟩
  | .hbm, ⟨57, _⟩ => ⟨S8192x24x8, .f32⟩
  | .hbm, ⟨58, _⟩ => ⟨S8192x24x8, .f32⟩
  | .hbm, ⟨59, _⟩ => ⟨S8192x24x8, .f32⟩
  | .hbm, ⟨60, _⟩ => ⟨S8192x24x48, .f32⟩
  | .hbm, ⟨61, _⟩ => ⟨S8192x24x64, .f32⟩
  | .hbm, ⟨62, _⟩ => ⟨S8192x24x64, .f32⟩
  | .hbm, ⟨63, _⟩ => ⟨S_, .f32⟩
  | .hbm, ⟨64, _⟩ => ⟨S8192x24, .f32⟩
  | .hbm, ⟨65, _⟩ => ⟨S8192x24x1, .f32⟩
  | .hbm, ⟨66, _⟩ => ⟨S_, .f32⟩
  | .hbm, ⟨67, _⟩ => ⟨S8192x24x1, .f32⟩
  | .hbm, ⟨68, _⟩ => ⟨S8192x24x1, .f32⟩
  | .hbm, ⟨69, _⟩ => ⟨S_, .f32⟩
  | .hbm, ⟨70, _⟩ => ⟨S8192x24x1, .f32⟩
  | .hbm, ⟨71, _⟩ => ⟨S8192x24x1, .f32⟩
  | .hbm, ⟨72, _⟩ => ⟨S8192x24x1, .f32⟩
  | .hbm, ⟨73, _⟩ => ⟨S8192x24x64, .f32⟩
  | .hbm, ⟨74, _⟩ => ⟨S8192x24x64, .f32⟩
  | .hbm, ⟨75, _⟩ => ⟨S1x1x64, .f32⟩
  | .hbm, ⟨76, _⟩ => ⟨S8192x24x64, .f32⟩
  | .hbm, ⟨77, _⟩ => ⟨S8192x24x64, .f32⟩
  | .hbm, ⟨78, _⟩ => ⟨S8192x24x8, .f32⟩
  | .hbm, ⟨79, _⟩ => ⟨S8192x24x8, .f32⟩
  | .hbm, ⟨80, _⟩ => ⟨S8192x24x8, .f32⟩
  | .hbm, ⟨81, _⟩ => ⟨S8192x24x8, .f32⟩
  | .hbm, ⟨82, _⟩ => ⟨S8192x24x8, .f32⟩
  | .hbm, ⟨83, _⟩ => ⟨S8192x24x8, .f32⟩
  | .hbm, ⟨84, _⟩ => ⟨S8192x24x8, .f32⟩
  | .hbm, ⟨85, _⟩ => ⟨S8192x24x8, .f32⟩
  | .hbm, ⟨86, _⟩ => ⟨S8192x24x8, .f32⟩
  | .hbm, ⟨87, _⟩ => ⟨S8192x24x8, .f32⟩
  | .hbm, ⟨88, _⟩ => ⟨S8192x24x8, .f32⟩
  | .hbm, ⟨89, _⟩ => ⟨S8192x24x8, .f32⟩
  | .hbm, ⟨90, _⟩ => ⟨S8192x24x48, .f32⟩
  | .hbm, ⟨91, _⟩ => ⟨S8192x24x64, .f32⟩
  | .hbm, ⟨92, _⟩ => ⟨S8192x1536, .f32⟩
  | .hbm, ⟨93, _⟩ => ⟨S8192x1536, .f32⟩
  | .hbm, ⟨94, _⟩ => ⟨S8192x3072, .f32⟩
  | .hbm, ⟨95, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_5 : Ref sig .tc := ⟨.hbm, 63, rfl⟩
abbrev main_v50 : Ref sig .tc := ⟨.hbm, 64, rfl⟩
abbrev main_v51 : Ref sig .tc := ⟨.hbm, 65, rfl⟩
abbrev main_cst_6 : Ref sig .tc := ⟨.hbm, 66, rfl⟩
abbrev main_v52 : Ref sig .tc := ⟨.hbm, 67, rfl⟩
abbrev main_v53 : Ref sig .tc := ⟨.hbm, 68, rfl⟩
abbrev main_cst_7 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩

abbrev nD : Nat := 1
abbrev τ : Topo := Topo.v7x

variable {F : FTy → Type} [FloatOps F]
-- ==== Kernel13.lean ====
abbrev S8192x1024 : Shape := ⟨2, ![8192, 1024]⟩
abbrev S1024x1024 : Shape := ⟨2, ![1024, 1024]⟩
abbrev S8192x7168 : Shape := ⟨2, ![8192, 7168]⟩
abbrev S8192x512 : Shape := ⟨2, ![8192, 512]⟩
abbrev S3x512 : Shape := ⟨2, ![3, 512]⟩
abbrev S256x1024 : Shape := ⟨2, ![256, 1024]⟩
abbrev S256x512 : Shape := ⟨2, ![256, 512]⟩
abbrev S8x512 : Shape := ⟨2, ![8, 512]⟩
abbrev S264x512 : Shape := ⟨2, ![264, 512]⟩
abbrev S256x128 : Shape := ⟨2, ![256, 128]⟩
abbrev S1x512 : Shape := ⟨2, ![1, 512]⟩
abbrev S256 : Shape := ⟨1, ![256]⟩
abbrev S256x1 : Shape := ⟨2, ![256, 1]⟩

abbrev nBuf : Space → Nat
  | .hbm => 10
  | .vmem => 29
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x7168, .f32⟩
  | .hbm, ⟨3, _⟩ => ⟨S8192x512, .f32⟩
  | .hbm, ⟨4, _⟩ => ⟨S3x512, .f32⟩
  | .hbm, ⟨5, _⟩ => ⟨S8192x1024, .bf16⟩
  | .hbm, ⟨6, _⟩ => ⟨S8192x512, .f32⟩
  | .hbm, ⟨7, _⟩ => ⟨S8192x512, .f32⟩
  | .hbm, ⟨8, _⟩ => ⟨S8192x512, .bf16⟩
  | .hbm, ⟨9, _⟩ => ⟨S8192x512, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x1024, .f32⟩
  | .local _ .vmem, ⟨10, _⟩ => ⟨S256x1024, .f32⟩
  | .local _ .vmem, ⟨11, _⟩ => ⟨S8x512, .f32⟩
  | .local _ .vmem, ⟨12, _⟩ => ⟨S8x512, .f32⟩
  | .local _ .vmem, ⟨13, _⟩ => ⟨S8x512, .f32⟩
  | .local _ .vmem, ⟨14, _⟩ => ⟨S8x512, .f32⟩
  | .local _ .vmem, ⟨15, _⟩ => ⟨S256x512, .f32⟩
  | .local _ .vmem, ⟨16, _⟩ => ⟨S256x512, .f32⟩
  | .local _ .vmem, ⟨17, _⟩ => ⟨S3x512, .f32⟩
  | .local _ .vmem, ⟨18, _⟩ => ⟨S256x1024, .bf16⟩
  | .local _ .vmem, ⟨19, _⟩ => ⟨S256x1024, .bf16⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x512, .bf16⟩
  | .local _ .vmem, ⟨25, _⟩ => ⟨S256x512, .bf16⟩
  | .local _ .vmem, ⟨26, _⟩ => ⟨S256x512, .f32⟩
  | .local _ .vmem, ⟨27, _⟩ => ⟨S256x512, .f32⟩
  | .local _ .vmem, ⟨28, _⟩ => ⟨S264x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_3 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_4 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_5 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_6 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c10_i32 : BitVec 32 := 10#32
  let c0_i32_0 : BitVec 32 := 0#32
  ![v2.toNat, c10_i32.toNat]

def cc0_transform_7 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c11_i32 : BitVec 32 := 11#32
  let c0_i32_0 : BitVec 32 := 0#32
  ![v2.toNat, c11_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S3x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference13Ideal.lean ====
abbrev S8192x1024 : Shape := ⟨2, ![8192, 1024]⟩
abbrev S1024x1024 : Shape := ⟨2, ![1024, 1024]⟩
abbrev S8192x7168 : Shape := ⟨2, ![8192, 7168]⟩
abbrev S8192x512 : Shape := ⟨2, ![8192, 512]⟩
abbrev S3x512 : Shape := ⟨2, ![3, 512]⟩
abbrev S8192x1536 : Shape := ⟨2, ![8192, 1536]⟩
abbrev S_ : Shape := ⟨0, ![]⟩
abbrev S2x512 : Shape := ⟨2, ![2, 512]⟩
abbrev S8194x512 : Shape := ⟨2, ![8194, 512]⟩
abbrev S1x512 : Shape := ⟨2, ![1, 512]⟩
abbrev S512 : Shape := ⟨1, ![512]⟩
abbrev S8192x8x64 : Shape := ⟨3, ![8192, 8, 64]⟩
abbrev S8192x8 : Shape := ⟨2, ![8192, 8]⟩
abbrev S8192x8x1 : Shape := ⟨3, ![8192, 8, 1]⟩

abbrev nBuf : Space → Nat
  | .hbm => 78
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x7168, .f32⟩
  | .hbm, ⟨3, _⟩ => ⟨S8192x512, .f32⟩
  | .hbm, ⟨4, _⟩ => ⟨S3x512, .f32⟩
  | .hbm, ⟨5, _⟩ => ⟨S8192x1536, .f32⟩
  | .hbm, ⟨6, _⟩ => ⟨S8192x1536, .f32⟩
  | .hbm, ⟨7, _⟩ => ⟨S8192x1536, .f32⟩
  | .hbm, ⟨8, _⟩ => ⟨S8192x512, .f32⟩
  | .hbm, ⟨9, _⟩ => ⟨S8192x512, .f32⟩
  | .hbm, ⟨10, _⟩ => ⟨S8192x512, .f32⟩
  | .hbm, ⟨11, _⟩ => ⟨S8192x1024, .f32⟩
  | .hbm, ⟨12, _⟩ => ⟨S8192x512, .f32⟩
  | .hbm, ⟨13, _⟩ => ⟨S_, .f32⟩
  | .hbm, ⟨14, _⟩ => ⟨S2x512, .f32⟩
  | .hbm, ⟨15, _⟩ => ⟨S8194x512, .f32⟩
  | .hbm, ⟨16, _⟩ => ⟨S1x512, .f32⟩
  | .hbm, ⟨17, _⟩ => ⟨S512, .f32⟩
  | .hbm, ⟨18, _⟩ => ⟨S1x512, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S_, .f32⟩
  | .hbm, ⟨23, _⟩ => ⟨S8192x512, .f32⟩
  | .hbm, ⟨24, _⟩ => ⟨S8192x512, .f32⟩
  | .hbm, ⟨25, _⟩ => ⟨S1x512, .f32⟩
  | .hbm, ⟨26, _⟩ => ⟨S512, .f32⟩
  | .hbm, ⟨27, _⟩ => ⟨S1x512, .f32⟩
  | .hbm, ⟨28, _⟩ => ⟨S8192x512, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S1x512, .f32⟩
  | .hbm, ⟨33, _⟩ => ⟨S512, .f32⟩
  | .hbm, ⟨34, _⟩ => ⟨S1x512, .f32⟩
  | .hbm, ⟨35, _⟩ => ⟨S8192x512, .f32⟩
  | .hbm, ⟨36, _⟩ => ⟨S8192x512, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S1024x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x512, .f32⟩
  | .hbm, ⟨66, _⟩ => ⟨S8192x512, .f32⟩
  | .hbm, ⟨67, _⟩ => ⟨S8192x512, .f32⟩
  | .hbm, ⟨68, _⟩ => ⟨S8192x512, .f32⟩
  | .hbm, ⟨69, _⟩ => ⟨S8192x512, .f32⟩
  | .hbm, ⟨70, _⟩ => ⟨S8192x8x64, .f32⟩
  | .hbm, ⟨71, _⟩ => ⟨S_, .f32⟩
  | .hbm, ⟨72, _⟩ => ⟨S8192x8, .f32⟩
  | .hbm, ⟨73, _⟩ => ⟨S8192x8x1, .f32⟩
  | .hbm, ⟨74, _⟩ => ⟨S8192x8x64, .f32⟩
  | .hbm, ⟨75, _⟩ => ⟨S8192x512, .f32⟩
  | .hbm, ⟨76, _⟩ => ⟨S8192x1024, .bf16⟩
  | .hbm, ⟨77, _⟩ => ⟨S8192x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_v34_2 : Ref sig .tc := ⟨.hbm, 48, rfl⟩
abbrev main_call0_cst_1 : Ref sig .tc := ⟨.hbm, 49, rfl⟩
abbrev main_call0_v6 : Ref sig .tc := ⟨.hbm, 50, rfl⟩
abbrev main_call0_v7 : Ref sig .tc := ⟨.hbm, 51, rfl⟩
abbrev main_v34_1 : Ref sig .tc := ⟨.hbm, 52, rfl⟩
abbrev main_v34_0 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_1 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩

abbrev nD : Nat := 1
abbrev τ : Topo := Topo.v7x

variable {F : FTy → Type} [FloatOps F]
-- ==== Kernel14.lean ====
abbrev S8192x512 : Shape := ⟨2, ![8192, 512]⟩
abbrev S8192x8 : Shape := ⟨2, ![8192, 8]⟩
abbrev S8192x7168 : Shape := ⟨2, ![8192, 7168]⟩
abbrev S3x512 : Shape := ⟨2, ![3, 512]⟩
abbrev S8192x8x1 : Shape := ⟨3, ![8192, 8, 1]⟩
abbrev S8192x8x64 : Shape := ⟨3, ![8192, 8, 64]⟩
abbrev S8192x1024 : Shape := ⟨2, ![8192, 1024]⟩
abbrev S256x512 : Shape := ⟨2, ![256, 512]⟩
abbrev S256x1024 : Shape := ⟨2, ![256, 1024]⟩
abbrev S8x512 : Shape := ⟨2, ![8, 512]⟩
abbrev S264x512 : Shape := ⟨2, ![264, 512]⟩
abbrev S1x512 : Shape := ⟨2, ![1, 512]⟩

abbrev nBuf : Space → Nat
  | .hbm => 20
  | .vmem => 32
  | .smem => 0
  | _ => 0

abbrev bufTy : (tb : Table) → Fin (tcTables nBuf tb) → BufTy
  | .hbm, ⟨0, _⟩ => ⟨S8192x512, .f32⟩
  | .hbm, ⟨1, _⟩ => ⟨S8192x8, .f32⟩
  | .hbm, ⟨2, _⟩ => ⟨S8192x512, .f32⟩
  | .hbm, ⟨3, _⟩ => ⟨S8192x8, .f32⟩
  | .hbm, ⟨4, _⟩ => ⟨S8192x512, .f32⟩
  | .hbm, ⟨5, _⟩ => ⟨S8192x8, .f32⟩
  | .hbm, ⟨6, _⟩ => ⟨S8192x7168, .f32⟩
  | .hbm, ⟨7, _⟩ => ⟨S3x512, .f32⟩
  | .hbm, ⟨8, _⟩ => ⟨S8192x8x1, .f32⟩
  | .hbm, ⟨9, _⟩ => ⟨S8192x8x64, .f32⟩
  | .hbm, ⟨10, _⟩ => ⟨S8192x512, .f32⟩
  | .hbm, ⟨11, _⟩ => ⟨S8192x8x1, .f32⟩
  | .hbm, ⟨12, _⟩ => ⟨S8192x8x64, .f32⟩
  | .hbm, ⟨13, _⟩ => ⟨S8192x512, .f32⟩
  | .hbm, ⟨14, _⟩ => ⟨S8192x8x1, .f32⟩
  | .hbm, ⟨15, _⟩ => ⟨S8192x8x64, .f32⟩
  | .hbm, ⟨16, _⟩ => ⟨S8192x512, .f32⟩
  | .hbm, ⟨17, _⟩ => ⟨S8192x1024, .bf16⟩
  | .hbm, ⟨18, _⟩ => ⟨S8192x512, .f32⟩
  | .hbm, ⟨19, _⟩ => ⟨S8192x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .f32⟩
  | .local _ .vmem, ⟨17, _⟩ => ⟨S256x512, .f32⟩
  | .local _ .vmem, ⟨18, _⟩ => ⟨S256x1024, .f32⟩
  | .local _ .vmem, ⟨19, _⟩ => ⟨S256x1024, .f32⟩
  | .local _ .vmem, ⟨20, _⟩ => ⟨S8x512, .f32⟩
  | .local _ .vmem, ⟨21, _⟩ => ⟨S8x512, .f32⟩
  | .local _ .vmem, ⟨22, _⟩ => ⟨S8x512, .f32⟩
  | .local _ .vmem, ⟨23, _⟩ => ⟨S8x512, .f32⟩
  | .local _ .vmem, ⟨24, _⟩ => ⟨S3x512, .f32⟩
  | .local _ .vmem, ⟨25, _⟩ => ⟨S256x1024, .bf16⟩
  | .local _ .vmem, ⟨26, _⟩ => ⟨S256x1024, .bf16⟩
  | .local _ .vmem, ⟨27, _⟩ => ⟨S256x512, .f32⟩
  | .local _ .vmem, ⟨28, _⟩ => ⟨S256x512, .f32⟩
  | .local _ .vmem, ⟨29, _⟩ => ⟨S256x512, .f32⟩
  | .local _ .vmem, ⟨30, _⟩ => ⟨S256x512, .f32⟩
  | .local _ .vmem, ⟨31, _⟩ => ⟨S264x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_scratch0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_7 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_8 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_9 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_10 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c10_i32 : BitVec 32 := 10#32
  let c0_i32_0 : BitVec 32 := 0#32
  ![v2.toNat, c10_i32.toNat]

def cc0_transform_11 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c11_i32 : BitVec 32 := 11#32
  let c0_i32_0 : BitVec 32 := 0#32
  ![v2.toNat, c11_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S3x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference14Ideal.lean ====
abbrev S8192x512 : Shape := ⟨2, ![8192, 512]⟩
abbrev S8192x8 : Shape := ⟨2, ![8192, 8]⟩
abbrev S8192x7168 : Shape := ⟨2, ![8192, 7168]⟩
abbrev S3x512 : Shape := ⟨2, ![3, 512]⟩
abbrev S8192x1536 : Shape := ⟨2, ![8192, 1536]⟩
abbrev S8192x1024 : Shape := ⟨2, ![8192, 1024]⟩
abbrev S8192x8x64 : Shape := ⟨3, ![8192, 8, 64]⟩
abbrev S1x8192x8 : Shape := ⟨3, ![1, 8192, 8]⟩
abbrev S3x8192x8 : Shape := ⟨3, ![3, 8192, 8]⟩
abbrev S_ : Shape := ⟨0, ![]⟩
abbrev S3x8192x8x1 : Shape := ⟨4, ![3, 8192, 8, 1]⟩
abbrev S1x8192x8x64 : Shape := ⟨4, ![1, 8192, 8, 64]⟩
abbrev S3x8192x8x64 : Shape := ⟨4, ![3, 8192, 8, 64]⟩
abbrev S2x512 : Shape := ⟨2, ![2, 512]⟩
abbrev S8194x512 : Shape := ⟨2, ![8194, 512]⟩
abbrev S1x512 : Shape := ⟨2, ![1, 512]⟩
abbrev S512 : Shape := ⟨1, ![512]⟩
abbrev S8192x8x1 : Shape := ⟨3, ![8192, 8, 1]⟩

abbrev nBuf : Space → Nat
  | .hbm => 103
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8, .f32⟩
  | .hbm, ⟨2, _⟩ => ⟨S8192x512, .f32⟩
  | .hbm, ⟨3, _⟩ => ⟨S8192x8, .f32⟩
  | .hbm, ⟨4, _⟩ => ⟨S8192x512, .f32⟩
  | .hbm, ⟨5, _⟩ => ⟨S8192x8, .f32⟩
  | .hbm, ⟨6, _⟩ => ⟨S8192x7168, .f32⟩
  | .hbm, ⟨7, _⟩ => ⟨S3x512, .f32⟩
  | .hbm, ⟨8, _⟩ => ⟨S8192x1536, .f32⟩
  | .hbm, ⟨9, _⟩ => ⟨S8192x1536, .f32⟩
  | .hbm, ⟨10, _⟩ => ⟨S8192x1536, .f32⟩
  | .hbm, ⟨11, _⟩ => ⟨S8192x512, .f32⟩
  | .hbm, ⟨12, _⟩ => ⟨S8192x512, .f32⟩
  | .hbm, ⟨13, _⟩ => ⟨S8192x512, .f32⟩
  | .hbm, ⟨14, _⟩ => ⟨S8192x1024, .f32⟩
  | .hbm, ⟨15, _⟩ => ⟨S8192x8x64, .f32⟩
  | .hbm, ⟨16, _⟩ => ⟨S8192x8x64, .f32⟩
  | .hbm, ⟨17, _⟩ => ⟨S8192x8x64, .f32⟩
  | .hbm, ⟨18, _⟩ => ⟨S1x8192x8, .f32⟩
  | .hbm, ⟨19, _⟩ => ⟨S1x8192x8, .f32⟩
  | .hbm, ⟨20, _⟩ => ⟨S1x8192x8, .f32⟩
  | .hbm, ⟨21, _⟩ => ⟨S3x8192x8, .f32⟩
  | .hbm, ⟨22, _⟩ => ⟨S_, .f32⟩
  | .hbm, ⟨23, _⟩ => ⟨S8192x8, .f32⟩
  | .hbm, ⟨24, _⟩ => ⟨S_, .f32⟩
  | .hbm, ⟨25, _⟩ => ⟨S8192x8, .f32⟩
  | .hbm, ⟨26, _⟩ => ⟨S8192x8, .f32⟩
  | .hbm, ⟨27, _⟩ => ⟨S1x8192x8, .f32⟩
  | .hbm, ⟨28, _⟩ => ⟨S3x8192x8, .f32⟩
  | .hbm, ⟨29, _⟩ => ⟨S3x8192x8, .f32⟩
  | .hbm, ⟨30, _⟩ => ⟨S3x8192x8, .f32⟩
  | .hbm, ⟨31, _⟩ => ⟨S_, .f32⟩
  | .hbm, ⟨32, _⟩ => ⟨S8192x8, .f32⟩
  | .hbm, ⟨33, _⟩ => ⟨S1x8192x8, .f32⟩
  | .hbm, ⟨34, _⟩ => ⟨S3x8192x8, .f32⟩
  | .hbm, ⟨35, _⟩ => ⟨S3x8192x8, .f32⟩
  | .hbm, ⟨36, _⟩ => ⟨S3x8192x8x1, .f32⟩
  | .hbm, ⟨37, _⟩ => ⟨S1x8192x8x64, .f32⟩
  | .hbm, ⟨38, _⟩ => ⟨S1x8192x8x64, .f32⟩
  | .hbm, ⟨39, _⟩ => ⟨S1x8192x8x64, .f32⟩
  | .hbm, ⟨40, _⟩ => ⟨S3x8192x8x64, .f32⟩
  | .hbm, ⟨41, _⟩ => ⟨S3x8192x8x64, .f32⟩
  | .hbm, ⟨42, _⟩ => ⟨S3x8192x8x64, .f32⟩
  | .hbm, ⟨43, _⟩ => ⟨S_, .f32⟩
  | .hbm, ⟨44, _⟩ => ⟨S8192x8x64, .f32⟩
  | .hbm, ⟨45, _⟩ => ⟨S8192x512, .f32⟩
  | .hbm, ⟨46, _⟩ => ⟨S8192x512, .f32⟩
  | .hbm, ⟨47, _⟩ => ⟨S_, .f32⟩
  | .hbm, ⟨48, _⟩ => ⟨S2x512, .f32⟩
  | .hbm, ⟨49, _⟩ => ⟨S8194x512, .f32⟩
  | .hbm, ⟨50, _⟩ => ⟨S1x512, .f32⟩
  | .hbm, ⟨51, _⟩ => ⟨S512, .f32⟩
  | .hbm, ⟨52, _⟩ => ⟨S1x512, .f32⟩
  | .hbm, ⟨53, _⟩ => ⟨S8192x512, .f32⟩
  | .hbm, ⟨54, _⟩ => ⟨S8192x512, .f32⟩
  | .hbm, ⟨55, _⟩ => ⟨S8192x512, .f32⟩
  | .hbm, ⟨56, _⟩ => ⟨S_, .f32⟩
  | .hbm, ⟨57, _⟩ => ⟨S8192x512, .f32⟩
  | .hbm, ⟨58, _⟩ => ⟨S8192x512, .f32⟩
  | .hbm, ⟨59, _⟩ => ⟨S1x512, .f32⟩
  | .hbm, ⟨60, _⟩ => ⟨S512, .f32⟩
  | .hbm, ⟨61, _⟩ => ⟨S1x512, .f32⟩
  | .hbm, ⟨62, _⟩ => ⟨S8192x512, .f32⟩
  | .hbm, ⟨63, _⟩ => ⟨S8192x512, .f32⟩
  | .hbm, ⟨64, _⟩ => ⟨S8192x512, .f32⟩
  | .hbm, ⟨65, _⟩ => ⟨S8192x512, .f32⟩
  | .hbm, ⟨66, _⟩ => ⟨S1x512, .f32⟩
  | .hbm, ⟨67, _⟩ => ⟨S512, .f32⟩
  | .hbm, ⟨68, _⟩ => ⟨S1x512, .f32⟩
  | .hbm, ⟨69, _⟩ => ⟨S8192x512, .f32⟩
  | .hbm, ⟨70, _⟩ => ⟨S8192x512, .f32⟩
  | .hbm, ⟨71, _⟩ => ⟨S8192x512, .f32⟩
  | .hbm, ⟨72, _⟩ => ⟨S8192x512, .f32⟩
  | .hbm, ⟨73, _⟩ => ⟨S8192x512, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S_, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S1x8192x8, .f32⟩
  | .hbm, ⟨86, _⟩ => ⟨S1x8192x8, .f32⟩
  | .hbm, ⟨87, _⟩ => ⟨S1x8192x8, .f32⟩
  | .hbm, ⟨88, _⟩ => ⟨S3x8192x8, .f32⟩
  | .hbm, ⟨89, _⟩ => ⟨S_, .f32⟩
  | .hbm, ⟨90, _⟩ => ⟨S8192x8, .f32⟩
  | .hbm, ⟨91, _⟩ => ⟨S1x8192x8, .f32⟩
  | .hbm, ⟨92, _⟩ => ⟨S3x8192x8, .f32⟩
  | .hbm, ⟨93, _⟩ => ⟨S3x8192x8, .f32⟩
  | .hbm, ⟨94, _⟩ => ⟨S3x8192x8, .f32⟩
  | .hbm, ⟨95, _⟩ => ⟨S_, .f32⟩
  | .hbm, ⟨96, _⟩ => ⟨S8192x8, .f32⟩
  | .hbm, ⟨97, _⟩ => ⟨S8192x8, .f32⟩
  | .hbm, ⟨98, _⟩ => ⟨S8192x8, .f32⟩
  | .hbm, ⟨99, _⟩ => ⟨S8192x1024, .bf16⟩
  | .hbm, ⟨100, _⟩ => ⟨S8192x8x1, .f32⟩
  | .hbm, ⟨101, _⟩ => ⟨S8192x8x64, .f32⟩
  | .hbm, ⟨102, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_4 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_call0_v0 : Ref sig .tc := ⟨.hbm, 75, rfl⟩
abbrev main_call0_v1 : Ref sig .tc := ⟨.hbm, 76, rfl⟩
abbrev main_call0_cst : Ref sig .tc := ⟨.hbm, 77, rfl⟩
abbrev main_call0_v2 : Ref sig .tc := ⟨.hbm, 78, rfl⟩
abbrev main_call0_v3 : Ref sig .tc := ⟨.hbm, 79, rfl⟩
abbrev main_call0_cst_0 : Ref sig .tc := ⟨.hbm, 80, rfl⟩
abbrev main_call0_v4 : Ref sig .tc := ⟨.hbm, 81, rfl⟩
abbrev main_call0_v5 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_5 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_6 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩

abbrev nD : Nat := 1
abbrev τ : Topo := Topo.v7x

variable {F : FTy → Type} [FloatOps F]
-- ==== Proof.Rows.lean ====
/- Buffers written in bands of rows: what a list of such writes leaves at a row and a column. -/
module

public import Idealize.ShloMosaic.Lib.Pipeline.Value
public import Idealize.ShloMosaic.Lib.Pointwise

@[expose] public section

noncomputable section

namespace Idealize.ShloMosaic.Bands

variable {Val : EltTy → Type} {e : EltTy}

/-- The offsets of a rectangle that starts at the corner, as a constant function. -/
theorem corner : (![0, 0] : Fin 2 → Nat) = fun _ => 0 := by decide

/-- Reading a whole two-axis buffer gives its contents. -/
theorem ld_all {a b : Nat} (X : (⟨2, ![a, b]⟩ : Shape).Idx → Val e)
    (inb : ∀ k, (![0, 0] : Fin 2 → Nat) k + (![a, b] : Fin 2 → Nat) k ≤ (![a, b] : Fin 2 → Nat) k) :
    View.ld X (Rect.unit (s := (⟨2, ![a, b]⟩ : Shape)) ![0, 0] ![a, b] inb) = X :=
  View.ld_unit_zero (S := (⟨2, ![a, b]⟩ : Shape)) corner inb X

/-- Writing a whole two-axis buffer last leaves what was written. -/
theorem canon_all [∀ e, Nonempty (Val e)] {a b : Nat}
    (inb : ∀ k, (![0, 0] : Fin 2 → Nat) k + (![a, b] : Fin 2 → Nat) k ≤ (![a, b] : Fin 2 → Nat) k)
    (w : (⟨2, ![a, b]⟩ : Shape).Idx → Val e) (L : List (View.Piece Val (⟨2, ![a, b]⟩ : Shape) e)) :
    View.canon ((⟨Rect.unit (s := (⟨2, ![a, b]⟩ : Shape)) ![0, 0] ![a, b] inb, w⟩ : View.Piece Val (⟨2, ![a, b]⟩ : Shape) e) :: L)
      = w :=
  View.canon_cons_unit_zero (S := (⟨2, ![a, b]⟩ : Shape)) corner inb w L

/-- A band of `b` rows written last, from row `o` on: inside the band its own contents, outside what was there. -/
theorem canon_band [∀ e, Nonempty (Val e)] {a n o b : Nat}
    (inb : ∀ k, (![o, 0] : Fin 2 → Nat) k + (![b, n] : Fin 2 → Nat) k ≤ (![a, n] : Fin 2 → Nat) k)
    (w : (⟨2, ![b, n]⟩ : Shape).Idx → Val e) (L : List (View.Piece Val (⟨2, ![a, n]⟩ : Shape) e)) (r : Fin a) (l : Fin n) :
    View.canon ((⟨Rect.unit (s := (⟨2, ![a, n]⟩ : Shape)) ![o, 0] ![b, n] inb, w⟩ : View.Piece Val (⟨2, ![a, n]⟩ : Shape) e) :: L)
      (ix2 r l) = if h : o ≤ r.val ∧ r.val - o < b then w (ix2 ⟨r.val - o, h.2⟩ l) else View.canon L (ix2 r l) := by
  split
  · rename_i h
    have e1 : (Rect.unit (s := (⟨2, ![a, n]⟩ : Shape)) ![o, 0] ![b, n] inb).emb (ix2 ⟨r.val - o, h.2⟩ l) = ix2 r l := by
      funext k
      match k with
      | ⟨0, _⟩ => exact Fin.ext (by show o + 1 * (r.val - o) = r.val; omega)
      | ⟨1, _⟩ => exact Fin.ext (by show 0 + 1 * l.val = l.val; omega)
    rw [← e1]
    exact View.canon_cons_emb (Rect.unit (s := (⟨2, ![a, n]⟩ : Shape)) ![o, 0] ![b, n] inb) w L _
  · rename_i h
    refine View.canon_cons_of_not_mem _ L fun hm => h ?_
    obtain ⟨x, hx⟩ := LoadRect.exists_idx_of_mem _ hm
    have h0 : o + 1 * (x 0).val = r.val := congrArg (fun i : (⟨2, ![a, n]⟩ : Shape).Idx => (i 0).val) hx
    have hb : (x 0).val < b := (x 0).isLt
    omega

end Idealize.ShloMosaic.Bands

end
-- ==== Proof.ConvBody.lean ====
/- The short convolution's backward body: what one grid point leaves in its three output buffers, element by element,
   from the blocks it reads. -/
module

public import proofs.«01_k».proof.Proof.Gen.KernelIdeal.Value
public import proofs.«01_k».proof.Proof.Rows

@[expose] public section

noncomputable section

namespace Cert.KernelIdeal.Gen

open Idealize.ShloMosaic Idealize.SL.Sem Idealize.ShloMosaic.Bands

/-- The comparison "this is not the first grid point", on the grid's words. -/
theorem notFirst (k : Fin 32) : (Scalar.cmpi .sgt (BitVec.ofNat 32 k.val) 0#32 = (1 : BitVec 1)) ↔ 0 < k.val := by
  revert k; decide

/-- The comparison "this is not the last grid point". -/
theorem notLast (k : Fin 32) : (Scalar.cmpi .slt (BitVec.ofNat 32 k.val) 31#32 = (1 : BitVec 1)) ↔ k.val < 31 := by
  revert k; decide

/-- The gated product `t` with the eight rows before the block put in front of it: zero before the first block. -/
def before (k : ℕ) (x2 x3 : S256x512.Idx → EReal) (x4 x5 : S8x512.Idx → EReal) (r : Fin 264) (l : Fin 512) : EReal :=
  if h : 8 ≤ r.val ∧ r.val - 8 < 256 then x2 (ix2 ⟨r.val - 8, h.2⟩ l) * x3 (ix2 ⟨r.val - 8, h.2⟩ l)
  else if h : 0 ≤ r.val ∧ r.val - 0 < 8 then
    if 0 < k then x4 (ix2 ⟨r.val - 0, h.2⟩ l) * x5 (ix2 ⟨r.val - 0, h.2⟩ l) else 0
  else Classical.arbitrary _

/-- The incoming gradient with the eight rows after the block put behind it: zero after the last block. -/
def after' (k : ℕ) (x0 : S256x512.Idx → EReal) (x1 : S8x512.Idx → EReal) (r : Fin 264) (l : Fin 512) : EReal :=
  if h : 256 ≤ r.val ∧ r.val - 256 < 8 then
    if k < 31 then x1 (ix2 ⟨r.val - 256, h.2⟩ l) else 0
  else if h : 0 ≤ r.val ∧ r.val - 0 < 256 then x0 (ix2 ⟨r.val - 0, h.2⟩ l)
  else Classical.arbitrary _

/-- The gradient of the gated product in a block: the incoming gradient at the row and the two rows after it,
    weighted by the taps from the last to the first. -/
def blockDt (k : ℕ) (x0 : S256x512.Idx → EReal) (x1 : S8x512.Idx → EReal) (x6 : S3x512.Idx → EReal) (r : Fin 256)
    (l : Fin 512) : EReal :=
  x6 (ix2 2 l) * x0 (ix2 r l) + x6 (ix2 1 l) * after' k x0 x1 ⟨1 + r.val, by omega⟩ l
    + x6 (ix2 0 l) * after' k x0 x1 ⟨2 + r.val, by omega⟩ l

/-- A block's part of the taps' gradient: for the taps 0, 1, 2 the sum over the block's rows of the incoming gradient
    times `t` two rows, one row, no row before; zero in the five rows of padding. -/
def blockDw (k : ℕ) (x0 x2 x3 : S256x512.Idx → EReal) (x4 x5 : S8x512.Idx → EReal) (r : Fin 8) (l : Fin 512) : EReal :=
  if r.val < 1 then ∑ q : Fin 256, x0 (ix2 q l) * before k x2 x3 x4 x5 ⟨6 + q.val, by omega⟩ l
  else if r.val < 2 then ∑ q : Fin 256, x0 (ix2 q l) * before k x2 x3 x4 x5 ⟨7 + q.val, by omega⟩ l
  else if r.val < 3 then ∑ q : Fin 256, x0 (ix2 q l) * (x2 (ix2 q l) * x3 (ix2 q l))
  else 0

variable (c : Dev nD) (i : grid0.Coords) {arg1 : Memref sig .tc .vmem S256x512 .f32} {harg1 : arg1.IsWhole} {arg2 : Memref sig .tc .vmem S8x512 .f32} {harg2 : arg2.IsWhole} {arg3 : Memref sig .tc .vmem S256x512 .f32} {harg3 : arg3.IsWhole} {arg4 : Memref sig .tc .vmem S256x512 .f32} {harg4 : arg4.IsWhole} {arg5 : Memref sig .tc .vmem S8x512 .f32} {harg5 : arg5.IsWhole} {arg6 : Memref sig .tc .vmem S8x512 .f32} {harg6 : arg6.IsWhole} {arg7 : Memref sig .tc .vmem S3x512 .f32} {harg7 : arg7.IsWhole} {arg8 : Memref sig .tc .vmem S256x512 .bf16} {harg8 : arg8.IsWhole} {arg9 : Memref sig .tc .vmem S256x512 .bf16} {harg9 : arg9.IsWhole} {arg10 : Memref sig .tc .vmem S8x512 .f32} {harg10 : arg10.IsWhole} {arg11 : Memref sig .tc .vmem S264x512 .f32} {harg11 : arg11.IsWhole} {arg12 : Memref sig .tc .vmem S264x512 .f32} {harg12 : arg12.IsWhole}
    (x0 : Vec Ideal S256x512 .f32) (x1 : Vec Ideal S8x512 .f32) (x2 : Vec Ideal S256x512 .f32) (x3 : Vec Ideal S256x512 .f32) (x4 : Vec Ideal S8x512 .f32) (x5 : Vec Ideal S8x512 .f32) (x6 : Vec Ideal S3x512 .f32)

/-- What the rows-before buffer holds once both bands are written. -/
theorem canon_before (r : Fin 264) (l : Fin 512) :
    View.canon (Val := Elt Ideal) (s := S264x512) (e := .f32)
      [⟨Rect.unit (s := S264x512) ![8, 0] ![256, 512] inb_S264x512_S256x512_8_0, k0_pay4 x2 x3⟩,
       ⟨Rect.unit (s := S264x512) ![0, 0] ![8, 512] inb_S264x512_S8x512_0_0, k0_pay3 i x4 x5⟩] (ix2 r l)
      = before (i 0).val x2 x3 x4 x5 r l := by
  rw [canon_band, canon_band]
  unfold before
  unfold k0_pay3 k0_pay4 k0_pay2
  have hn' : (i 0).val < 32 := (i 0).isLt
  generalize (i 0).val = n at hn' ⊢
  have hk : (Scalar.cmpi .sgt (BitVec.ofNat 32 n) 0#32 = (1 : BitVec 1)) ↔ 0 < n := notFirst ⟨n, hn'⟩
  pointwise []
  simp only [Scalar.select, hk]
  rfl

/-- What the rows-after buffer holds once both bands are written. -/
theorem canon_after (r : Fin 264) (l : Fin 512) :
    View.canon (Val := Elt Ideal) (s := S264x512) (e := .f32)
      [⟨Rect.unit (s := S264x512) ![256, 0] ![8, 512] inb_S264x512_S8x512_256_0, k0_pay6 i x1⟩,
       ⟨Rect.unit (s := S264x512) ![0, 0] ![256, 512] inb_S264x512_S256x512_0_0, k0_pay5 x0⟩] (ix2 r l)
      = after' (i 0).val x0 x1 r l := by
  rw [canon_band, canon_band]
  unfold after'
  unfold k0_pay5 k0_pay6
  have hn' : (i 0).val < 32 := (i 0).isLt
  generalize (i 0).val = n at hn' ⊢
  have hk : (Scalar.cmpi .slt (BitVec.ofNat 32 n) 31#32 = (1 : BitVec 1)) ↔ n < 31 := notLast ⟨n, hn'⟩
  pointwise []
  simp only [Scalar.select, hk]
  rfl

/-- The gate's gradient at the first grid point. -/
theorem left7_A (hc0 : cond0_0 i) (hc1 : ¬cond0_1 i) (r : Fin 256) (l : Fin 512) :
    out0_A_7 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 (ix2 r l)
      = blockDt (i 0).val x0 x1 x6 r l * x3 (ix2 r l) := by
  unfold out0_A_7
  rw [View.read_writes_junk_eq_canon]
  unfold kernelRun0_A
  dsimp only
  simp only [kernelRun0_A.sl.r_1, kernelRun0_A.sl.r_4, kernelRun0_A.sl.v30, kernelRun0_A.sl.v35, kernelRun0_A.sl.HS1_2, View.readCov_eq_canon', View.readAt_eq_ld, Memref.IsWhole.read_unread, ld_all, canon_all]
  pointwise [k0_pay9, k0_pay8, k0_pay7]
  simp only [canon_after]
  rfl

/-- The value's gradient at the first grid point. -/
theorem left8_A (hc0 : cond0_0 i) (hc1 : ¬cond0_1 i) (r : Fin 256) (l : Fin 512) :
    out0_A_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 (ix2 r l)
      = blockDt (i 0).val x0 x1 x6 r l * x2 (ix2 r l) := by
  unfold out0_A_8
  rw [View.read_writes_junk_eq_canon]
  unfold kernelRun0_A
  dsimp only
  simp only [kernelRun0_A.sl.r, kernelRun0_A.sl.r_4, kernelRun0_A.sl.v30, kernelRun0_A.sl.v35, kernelRun0_A.sl.HS1_2, View.readCov_eq_canon', View.readAt_eq_ld, Memref.IsWhole.read_unread, ld_all, canon_all]
  pointwise [k0_pay10, k0_pay8, k0_pay7]
  simp only [canon_after]
  rfl

/-- The taps' gradient at the first grid point. -/
theorem left9_A (hc0 : cond0_0 i) (hc1 : ¬cond0_1 i) (r : Fin 8) (l : Fin 512) :
    out0_A_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 (ix2 r l)
      = blockDw (i 0).val x0 x2 x3 x4 x5 r l := by
  unfold out0_A_9
  rw [View.read_writes_junk_eq_canon]
  unfold kernelRun0_A
  dsimp only
  simp only [kernelRun0_A.sl.r_2, kernelRun0_A.sl.r_3, kernelRun0_A.sl.v48, kernelRun0_A.sl.v52, kernelRun0_A.sl.HS0_2, View.readCov_eq_canon', View.readAt_eq_ld, Memref.IsWhole.read_unread, ld_all, canon_all]
  unfold blockDw
  pointwise [k0_pay1, k0_pay11, k0_pay2]
  simp only [canon_before]
  simp only [show (r.val - 1 < 1) = (r.val < 2) from propext (by omega), show (r.val - 1 - 1 < 1) = (r.val < 3) from propext (by omega)]
  rfl

/-- The gate's gradient at a later grid point. -/
theorem left7_B (hc0 : ¬cond0_0 i) (hc1 : cond0_1 i) (xo9 : Vec Ideal S8x512 .f32) (r : Fin 256) (l : Fin 512) :
    out0_B_7 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xo9 (ix2 r l)
      = blockDt (i 0).val x0 x1 x6 r l * x3 (ix2 r l) := by
  unfold out0_B_7
  rw [View.read_writes_junk_eq_canon]
  unfold kernelRun0_B
  dsimp only
  simp only [kernelRun0_B.sl.r_1, kernelRun0_B.sl.r_4, kernelRun0_B.sl.v30, kernelRun0_B.sl.v35, kernelRun0_B.sl.HS1_2, View.readCov_eq_canon', View.readAt_eq_ld, Memref.IsWhole.read_unread, ld_all, canon_all]
  pointwise [k0_pay9, k0_pay8, k0_pay7]
  simp only [canon_after]
  rfl

/-- The value's gradient at a later grid point. -/
theorem left8_B (hc0 : ¬cond0_0 i) (hc1 : cond0_1 i) (xo9 : Vec Ideal S8x512 .f32) (r : Fin 256) (l : Fin 512) :
    out0_B_8 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xo9 (ix2 r l)
      = blockDt (i 0).val x0 x1 x6 r l * x2 (ix2 r l) := by
  unfold out0_B_8
  rw [View.read_writes_junk_eq_canon]
  unfold kernelRun0_B
  dsimp only
  simp only [kernelRun0_B.sl.r, kernelRun0_B.sl.r_4, kernelRun0_B.sl.v30, kernelRun0_B.sl.v35, kernelRun0_B.sl.HS1_2, View.readCov_eq_canon', View.readAt_eq_ld, Memref.IsWhole.read_unread, ld_all, canon_all]
  pointwise [k0_pay10, k0_pay8, k0_pay7]
  simp only [canon_after]
  rfl

/-- The taps' gradient at a later grid point. -/
theorem left9_B (hc0 : ¬cond0_0 i) (hc1 : cond0_1 i) (xo9 : Vec Ideal S8x512 .f32) (r : Fin 8) (l : Fin 512) :
    out0_B_9 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 x6 xo9 (ix2 r l)
      = xo9 (ix2 r l) + blockDw (i 0).val x0 x2 x3 x4 x5 r l := by
  unfold out0_B_9
  rw [View.read_writes_junk_eq_canon]
  unfold kernelRun0_B
  dsimp only
  simp only [kernelRun0_B.sl.r_5, kernelRun0_B.sl.r_2, kernelRun0_B.sl.r_3, kernelRun0_B.sl.v48, kernelRun0_B.sl.v52, kernelRun0_B.sl.HS0_2, View.readCov_eq_canon', View.readAt_eq_ld, Memref.IsWhole.read_unread, ld_all, canon_all]
  unfold blockDw
  pointwise [k0_pay1, k0_pay11, k0_pay2]
  simp only [canon_before]
  simp only [show (r.val - 1 < 1) = (r.val < 2) from propext (by omega), show (r.val - 1 - 1 < 1) = (r.val < 3) from propext (by omega)]
  rfl

end Cert.KernelIdeal.Gen

end
-- ==== Proof.ConvSpec.lean ====
/- The short gated convolution's backward pass as mathematics, on the whole arrays: `D` the gradient of the
   convolution's output, `P` the projections (whose columns from 5120 on are the gate `cg`, from 5632 on the value
   `hb`), `W` the three taps. -/
module

public import proofs.«01_k».proof.Proof.ConvBody

@[expose] public section

noncomputable section

namespace Cert.Conv

open Idealize.ShloMosaic

abbrev Rows : Shape := ⟨2, ![8192, 512]⟩
abbrev Proj : Shape := ⟨2, ![8192, 7168]⟩
abbrev Taps : Shape := ⟨2, ![3, 512]⟩
abbrev Taps8 : Shape := ⟨2, ![8, 512]⟩

variable (D : Rows.Idx → EReal) (P : Proj.Idx → EReal) (W : Taps.Idx → EReal)

/-- The gate at a row and a channel. -/
def cg (r : Fin 8192) (l : Fin 512) : EReal := P (ix2 r ⟨5120 + l.val, by omega⟩)

/-- The gated value at a row and a channel. -/
def hb (r : Fin 8192) (l : Fin 512) : EReal := P (ix2 r ⟨5632 + l.val, by omega⟩)

/-- The incoming gradient at any row, zero beyond the last. -/
def dAt (r : ℕ) (l : Fin 512) : EReal := if h : r < 8192 then D (ix2 ⟨r, h⟩ l) else 0

/-- The convolution's input `cg * hb` at row `r - j`, zero before the first row. -/
def tBack (j r : ℕ) (l : Fin 512) : EReal :=
  if h : j ≤ r ∧ r - j < 8192 then cg P ⟨r - j, h.2⟩ l * hb P ⟨r - j, h.2⟩ l else 0

/-- The gradient of the convolution's input. -/
def dt (r : ℕ) (l : Fin 512) : EReal :=
  W (ix2 2 l) * dAt D r l + W (ix2 1 l) * dAt D (r + 1) l + W (ix2 0 l) * dAt D (r + 2) l

/-- The gate's gradient. -/
def dcg : Rows.Idx → EReal := fun i => dt D W (i 0).val (i 1) * hb P (i 0) (i 1)

/-- The value's gradient. -/
def dhb : Rows.Idx → EReal := fun i => dt D W (i 0).val (i 1) * cg P (i 0) (i 1)

/-- A row's term of the gradient of the tap `j` rows back. -/
def tapTerm (j : ℕ) (l : Fin 512) (r : ℕ) : EReal := dAt D r l * tBack P j r l

/-- The taps' gradient summed over the first `n` rows, with five rows of zeros below it. -/
def dwUpTo (n : ℕ) : Taps8.Idx → EReal := fun i =>
  if (i 0).val < 1 then ∑ r ∈ Finset.range n, tapTerm D P 2 (i 1) r
  else if (i 0).val < 2 then ∑ r ∈ Finset.range n, tapTerm D P 1 (i 1) r
  else if (i 0).val < 3 then ∑ r ∈ Finset.range n, tapTerm D P 0 (i 1) r
  else 0

end Cert.Conv

end
-- ==== Proof.ConvValue.lean ====
/- The short convolution's backward call on its grid of 32 blocks of 256 rows: its three results, as the whole arrays
   of ConvSpec. -/
module

public import proofs.«01_k».proof.Proof.ConvSpec

@[expose] public section

noncomputable section

namespace Cert.KernelIdeal.Conv

open Cert.KernelIdeal Cert.KernelIdeal.Gen Cert.KernelIdeal.Value Cert.Conv
open Idealize.ShloMosaic Idealize.ShloMosaic.TcCoe Idealize.SL.Sem
open Idealize.ShloMosaic.Pipeline (Dat)

variable (m : (ℓ : Loc nD τ sig) → Buf (Elt Ideal) ℓ) (c : Dev nD)

/-- The incoming gradient, the projections and the taps at launch. -/
abbrev aD : Rows.Idx → EReal := m ((c : Thread nD τ).loc main_arg0)
abbrev aP : Proj.Idx → EReal := m ((c : Thread nD τ).loc main_arg1)
abbrev aW : Taps.Idx → EReal := m ((c : Thread nD τ).loc main_arg2)

/-! ## Which block each window stages at a grid point -/

theorem point (t : Fin cfg0.N) : ((grid0.coords t) 0).val = t.val :=
  (by decide +kernel : ∀ t : Fin grid0.N, ((grid0.coords t) 0).val = t.val) t

theorem lt_N (t : Fin cfg0.N) : t.val < 32 := t.isLt

theorem at0 (t : Fin cfg0.N) (r : Fin 256) (l : Fin 512) :
    iblk m c 0 t (ix2 r l) = dAt (aD m c) (256 * t.val + r.val) l := by
  have ht := lt_N t
  have h0 := (by decide +kernel : ∀ t : Fin grid0.N, win0_0.index t 0 = t.val) t
  have h1 := (by decide +kernel : ∀ t : Fin grid0.N, win0_0.index t 1 = 0) t
  unfold dAt
  rw [dif_pos (by omega)]
  show V m c main_arg0 (((cfg0.win 0).blk t).view.emb (ix2 r l)) = _
  rw [V_main_arg0]
  refine congrArg (m ((c : Thread nD τ).loc main_arg0)) (funext fun a => ?_)
  match a with
  | ⟨0, _⟩ => exact Fin.ext (by show win0_0.index t 0 * 256 + 1 * r.val = 256 * t.val + r.val; omega)
  | ⟨1, _⟩ => exact Fin.ext (by show win0_0.index t 1 * 512 + 1 * l.val = l.val; omega)

theorem at1 (t : Fin cfg0.N) (ht : t.val < 31) (r : Fin 8) (l : Fin 512) :
    iblk m c 1 t (ix2 r l) = dAt (aD m c) (256 * t.val + (256 + r.val)) l := by
  have h0 := (by decide +kernel : ∀ t : Fin grid0.N, t.val < 31 → win0_1.index t 0 = (t.val + 1) * 32) t ht
  have h1 := (by decide +kernel : ∀ t : Fin grid0.N, win0_1.index t 1 = 0) t
  unfold dAt
  rw [dif_pos (by omega)]
  show V m c main_arg0 (((cfg0.win 1).blk t).view.emb (ix2 r l)) = _
  rw [V_main_arg0]
  refine congrArg (m ((c : Thread nD τ).loc main_arg0)) (funext fun a => ?_)
  match a with
  | ⟨0, _⟩ => exact Fin.ext (by show win0_1.index t 0 * 8 + 1 * r.val = 256 * t.val + (256 + r.val); omega)
  | ⟨1, _⟩ => exact Fin.ext (by show win0_1.index t 1 * 512 + 1 * l.val = l.val; omega)

theorem at2 (t : Fin cfg0.N) (r : Fin 256) (l : Fin 512) (h : 256 * t.val + r.val < 8192) :
    iblk m c 2 t (ix2 r l) = cg (aP m c) ⟨256 * t.val + r.val, h⟩ l := by
  have h0 := (by decide +kernel : ∀ t : Fin grid0.N, win0_2.index t 0 = t.val) t
  have h1 := (by decide +kernel : ∀ t : Fin grid0.N, win0_2.index t 1 = 10) t
  show V m c main_arg1 (((cfg0.win 2).blk t).view.emb (ix2 r l)) = _
  rw [V_main_arg1]
  refine congrArg (m ((c : Thread nD τ).loc main_arg1)) (funext fun a => ?_)
  match a with
  | ⟨0, _⟩ => exact Fin.ext (by show win0_2.index t 0 * 256 + 1 * r.val = 256 * t.val + r.val; omega)
  | ⟨1, _⟩ => exact Fin.ext (by show win0_2.index t 1 * 512 + 1 * l.val = 5120 + l.val; omega)

theorem at3 (t : Fin cfg0.N) (r : Fin 256) (l : Fin 512) (h : 256 * t.val + r.val < 8192) :
    iblk m c 3 t (ix2 r l) = hb (aP m c) ⟨256 * t.val + r.val, h⟩ l := by
  have h0 := (by decide +kernel : ∀ t : Fin grid0.N, win0_3.index t 0 = t.val) t
  have h1 := (by decide +kernel : ∀ t : Fin grid0.N, win0_3.index t 1 = 11) t
  show V m c main_arg1 (((cfg0.win 3).blk t).view.emb (ix2 r l)) = _
  rw [V_main_arg1]
  refine congrArg (m ((c : Thread nD τ).loc main_arg1)) (funext fun a => ?_)
  match a with
  | ⟨0, _⟩ => exact Fin.ext (by show win0_3.index t 0 * 256 + 1 * r.val = 256 * t.val + r.val; omega)
  | ⟨1, _⟩ => exact Fin.ext (by show win0_3.index t 1 * 512 + 1 * l.val = 5632 + l.val; omega)

theorem at4 (t : Fin cfg0.N) (ht : 0 < t.val) (r : Fin 8) (l : Fin 512) (h : 256 * t.val + r.val - 8 < 8192) :
    iblk m c 4 t (ix2 r l) = cg (aP m c) ⟨256 * t.val + r.val - 8, h⟩ l := by
  have h0 := (by decide +kernel : ∀ t : Fin grid0.N, 0 < t.val → win0_4.index t 0 = t.val * 32 - 1) t ht
  have h1 := (by decide +kernel : ∀ t : Fin grid0.N, win0_4.index t 1 = 10) t
  show V m c main_arg1 (((cfg0.win 4).blk t).view.emb (ix2 r l)) = _
  rw [V_main_arg1]
  refine congrArg (m ((c : Thread nD τ).loc main_arg1)) (funext fun a => ?_)
  match a with
  | ⟨0, _⟩ => exact Fin.ext (by show win0_4.index t 0 * 8 + 1 * r.val = 256 * t.val + r.val - 8; omega)
  | ⟨1, _⟩ => exact Fin.ext (by show win0_4.index t 1 * 512 + 1 * l.val = 5120 + l.val; omega)

theorem at5 (t : Fin cfg0.N) (ht : 0 < t.val) (r : Fin 8) (l : Fin 512) (h : 256 * t.val + r.val - 8 < 8192) :
    iblk m c 5 t (ix2 r l) = hb (aP m c) ⟨256 * t.val + r.val - 8, h⟩ l := by
  have h0 := (by decide +kernel : ∀ t : Fin grid0.N, 0 < t.val → win0_5.index t 0 = t.val * 32 - 1) t ht
  have h1 := (by decide +kernel : ∀ t : Fin grid0.N, win0_5.index t 1 = 11) t
  show V m c main_arg1 (((cfg0.win 5).blk t).view.emb (ix2 r l)) = _
  rw [V_main_arg1]
  refine congrArg (m ((c : Thread nD τ).loc main_arg1)) (funext fun a => ?_)
  match a with
  | ⟨0, _⟩ => exact Fin.ext (by show win0_5.index t 0 * 8 + 1 * r.val = 256 * t.val + r.val - 8; omega)
  | ⟨1, _⟩ => exact Fin.ext (by show win0_5.index t 1 * 512 + 1 * l.val = 5632 + l.val; omega)

theorem at6 (t : Fin cfg0.N) (r : Fin 3) (l : Fin 512) : iblk m c 6 t (ix2 r l) = aW m c (ix2 r l) := by
  have h0 := (by decide +kernel : ∀ t : Fin grid0.N, win0_6.index t 0 = 0) t
  have h1 := (by decide +kernel : ∀ t : Fin grid0.N, win0_6.index t 1 = 0) t
  show V m c main_arg2 (((cfg0.win 6).blk t).view.emb (ix2 r l)) = _
  rw [V_main_arg2]
  refine congrArg (m ((c : Thread nD τ).loc main_arg2)) (funext fun a => ?_)
  match a with
  | ⟨0, _⟩ => exact Fin.ext (by show win0_6.index t 0 * 3 + 1 * r.val = r.val; omega)
  | ⟨1, _⟩ => exact Fin.ext (by show win0_6.index t 1 * 512 + 1 * l.val = l.val; omega)

/-! ## The buffers with the neighbouring rows, as rows of the whole arrays -/

theorem before_eq (t : Fin cfg0.N) (r : Fin 264) (l : Fin 512) (j q : ℕ) (hr : r.val + j = q + 8) (hj : j ≤ 8) :
    before t.val (iblk m c 2 t) (iblk m c 3 t) (iblk m c 4 t) (iblk m c 5 t) r l
      = tBack (aP m c) j (256 * t.val + q) l := by
  have ht := lt_N t
  unfold before tBack
  by_cases h8 : 8 ≤ r.val
  · rw [dif_pos ⟨h8, by omega⟩, dif_pos (by omega), at2 m c t _ l (by dsimp only; omega), at3 m c t _ l (by dsimp only; omega)]
    have e : 256 * t.val + (r.val - 8) = 256 * t.val + q - j := by omega
    simp only [e]
  · rw [dif_neg (by omega), dif_pos ⟨by omega, by omega⟩]
    by_cases h0 : 0 < t.val
    · rw [if_pos h0, dif_pos (by omega), at4 m c t h0 _ l (by dsimp only; omega), at5 m c t h0 _ l (by dsimp only; omega)]
      have e : 256 * t.val + (r.val - 0) - 8 = 256 * t.val + q - j := by omega
      simp only [e]
    · rw [if_neg h0, dif_neg (by omega)]

theorem after_eq (t : Fin cfg0.N) (r : Fin 264) (l : Fin 512) :
    after' t.val (iblk m c 0 t) (iblk m c 1 t) r l = dAt (aD m c) (256 * t.val + r.val) l := by
  have ht := lt_N t
  unfold after'
  by_cases h8 : 256 ≤ r.val
  · rw [dif_pos ⟨h8, by omega⟩]
    by_cases h0 : t.val < 31
    · rw [if_pos h0, at1 m c t h0]
      have e : 256 * t.val + (256 + (r.val - 256)) = 256 * t.val + r.val := by omega
      simp only [e]
    · rw [if_neg h0]
      unfold dAt
      rw [dif_neg (by omega)]
  · rw [dif_neg (by omega), dif_pos ⟨by omega, by omega⟩, at0]
    rfl

theorem blockDt_eq (t : Fin cfg0.N) (r : Fin 256) (l : Fin 512) :
    blockDt t.val (iblk m c 0 t) (iblk m c 1 t) (iblk m c 6 t) r l = dt (aD m c) (aW m c) (256 * t.val + r.val) l := by
  unfold blockDt dt
  rw [after_eq, after_eq, at0, at6, at6, at6]
  have e1 : 256 * t.val + (1 + r.val) = 256 * t.val + r.val + 1 := by omega
  have e2 : 256 * t.val + (2 + r.val) = 256 * t.val + r.val + 2 := by omega
  simp only [e1, e2]

theorem blockDw_eq (t : Fin cfg0.N) (r : Fin 8) (l : Fin 512) :
    blockDw t.val (iblk m c 0 t) (iblk m c 2 t) (iblk m c 3 t) (iblk m c 4 t) (iblk m c 5 t) r l
      = if r.val < 1 then ∑ q ∈ Finset.range 256, tapTerm (aD m c) (aP m c) 2 l (256 * t.val + q)
        else if r.val < 2 then ∑ q ∈ Finset.range 256, tapTerm (aD m c) (aP m c) 1 l (256 * t.val + q)
        else if r.val < 3 then ∑ q ∈ Finset.range 256, tapTerm (aD m c) (aP m c) 0 l (256 * t.val + q)
        else 0 := by
  have ht := lt_N t
  unfold blockDw tapTerm
  simp only [Finset.sum_range]
  congr 1
  · exact Finset.sum_congr rfl fun q _ => by
      rw [at0, before_eq m c t _ l 2 q.val (by dsimp only; omega) (by omega)]
  · congr 1
    · exact Finset.sum_congr rfl fun q _ => by
        rw [at0, before_eq m c t _ l 1 q.val (by dsimp only; omega) (by omega)]
    · congr 1
      refine Finset.sum_congr rfl fun q _ => ?_
      have hq : 256 * t.val + q.val < 8192 := by omega
      rw [at0, at2 m c t q l hq, at3 m c t q l hq]
      unfold tBack
      rw [dif_pos ⟨Nat.zero_le _, by omega⟩]
      rfl

/-! ## What the outputs' buffers hold after a point -/

theorem left7 (t : Fin cfg0.N) (r : Fin 256) (l : Fin 512) :
    (outsAt0 m c t.val t.isLt).1 (ix2 r l)
      = dt (aD m c) (aW m c) (256 * t.val + r.val) l * hb (aP m c) ⟨256 * t.val + r.val, by have := lt_N t; omega⟩ l := by
  have ht := lt_N t
  by_cases h : t.val = 0
  · rw [outsAt0_A m c t (by omega) (by omega)]
    dsimp only
    rw [left7_A, point, blockDt_eq, at3]
  · rw [outsAt0_B m c t (by omega) (by omega)]
    dsimp only
    rw [left7_B, point, blockDt_eq, at3]

theorem left8 (t : Fin cfg0.N) (r : Fin 256) (l : Fin 512) :
    (outsAt0 m c t.val t.isLt).2.1 (ix2 r l)
      = dt (aD m c) (aW m c) (256 * t.val + r.val) l * cg (aP m c) ⟨256 * t.val + r.val, by have := lt_N t; omega⟩ l := by
  have ht := lt_N t
  by_cases h : t.val = 0
  · rw [outsAt0_A m c t (by omega) (by omega)]
    dsimp only
    rw [left8_A, point, blockDt_eq, at2]
  · rw [outsAt0_B m c t (by omega) (by omega)]
    dsimp only
    rw [left8_B, point, blockDt_eq, at2]

/-- After point `n` the accumulator holds the taps' gradient summed over the rows of the blocks so far. -/
theorem left9 : ∀ (n : ℕ) (hn : n < cfg0.N) (r : Fin 8) (l : Fin 512),
    (outsAt0 m c n hn).2.2 (ix2 r l) = dwUpTo (aD m c) (aP m c) (256 * n + 256) (ix2 r l)
  | 0, hn, r, l => by
    have h := outsAt0_A m c ⟨0, hn⟩ rfl (by dsimp only; omega)
    dsimp only at h
    rw [h]
    dsimp only
    rw [left9_A, point, blockDw_eq]
    unfold dwUpTo
    simp
  | n + 1, hn, r, l => by
    have hN : n + 1 < 32 := hn
    have h := outsAt0_B m c ⟨n + 1, hn⟩ (by dsimp only; omega) (by dsimp only; omega)
    dsimp only at h
    rw [h]
    dsimp only
    rw [left9_B, point, blockDw_eq]
    refine (congrArg (· + _) (left9 n _ r l)).trans ?_
    unfold dwUpTo
    have e : 256 * (n + 1) + 256 = (256 * n + 256) + 256 := by ring
    have e' : 256 * (n + 1) = 256 * n + 256 := by ring
    simp only [e, e', Finset.sum_range_add]
    pointwise []
    split_ifs <;> simp

/-! ## The three result arrays -/

theorem final7 : (dats m 0 c).arrAt 7 cfg0.N = dcg (aD m c) (aP m c) (aW m c) := by
  refine (dats m 0 c).arrAt_eq_of_cover 7 (dcg (aD m c) (aP m c) (aW m c)) (fun t _ => ?_) (fun i => ?_)
  · rw [flushed7]
    funext j
    obtain ⟨r, l, rfl⟩ : ∃ (r : Fin 256) (l : Fin 512), j = ix2 r l := ⟨j 0, j 1, eq_ix2 j⟩
    have h0 := (by decide +kernel : ∀ t : Fin grid0.N, win0_7.index t 0 = t.val) t
    have h1 := (by decide +kernel : ∀ t : Fin grid0.N, win0_7.index t 1 = 0) t
    have ht := lt_N t
    refine (left7 m c t r l).trans ?_
    show _ = dcg (aD m c) (aP m c) (aW m c) (((cfg0.win 7).blk t).view.emb (ix2 r l))
    have e : ((cfg0.win 7).blk t).view.emb (ix2 r l) = (ix2 ⟨256 * t.val + r.val, by omega⟩ l : Rows.Idx) := by
      funext a
      match a with
      | ⟨0, _⟩ => exact Fin.ext (by show win0_7.index t 0 * 256 + 1 * r.val = 256 * t.val + r.val; omega)
      | ⟨1, _⟩ => exact Fin.ext (by show win0_7.index t 1 * 512 + 1 * l.val = l.val; omega)
    rw [e]
    rfl
  · have hi : (i 0).val < 8192 := (i 0).isLt
    have hj : (i 1).val < 512 := (i 1).isLt
    let t : Fin cfg0.N := ⟨(i 0).val / 256, show (i 0).val / 256 < 32 by omega⟩
    have ht : t.val = (i 0).val / 256 := rfl
    have h0 := (by decide +kernel : ∀ t : Fin grid0.N, win0_7.index t 0 = t.val) t
    have h1 := (by decide +kernel : ∀ t : Fin grid0.N, win0_7.index t 1 = 0) t
    refine ⟨t, flush0_7 t, ?_⟩
    show i ∈ ((View.whole main_v0_0).slice (win0_7.rect t)).set
    rw [View.set_slice_whole, Rect.mem_set_unit]
    intro a
    match a with
    | ⟨0, _⟩ => show win0_7.index t 0 * 256 ≤ (i 0).val ∧ (i 0).val < win0_7.index t 0 * 256 + 256; omega
    | ⟨1, _⟩ => show win0_7.index t 1 * 512 ≤ (i 1).val ∧ (i 1).val < win0_7.index t 1 * 512 + 512; omega

theorem final8 : (dats m 0 c).arrAt 8 cfg0.N = dhb (aD m c) (aP m c) (aW m c) := by
  refine (dats m 0 c).arrAt_eq_of_cover 8 (dhb (aD m c) (aP m c) (aW m c)) (fun t _ => ?_) (fun i => ?_)
  · rw [flushed8]
    funext j
    obtain ⟨r, l, rfl⟩ : ∃ (r : Fin 256) (l : Fin 512), j = ix2 r l := ⟨j 0, j 1, eq_ix2 j⟩
    have h0 := (by decide +kernel : ∀ t : Fin grid0.N, win0_8.index t 0 = t.val) t
    have h1 := (by decide +kernel : ∀ t : Fin grid0.N, win0_8.index t 1 = 0) t
    have ht := lt_N t
    refine (left8 m c t r l).trans ?_
    show _ = dhb (aD m c) (aP m c) (aW m c) (((cfg0.win 8).blk t).view.emb (ix2 r l))
    have e : ((cfg0.win 8).blk t).view.emb (ix2 r l) = (ix2 ⟨256 * t.val + r.val, by omega⟩ l : Rows.Idx) := by
      funext a
      match a with
      | ⟨0, _⟩ => exact Fin.ext (by show win0_8.index t 0 * 256 + 1 * r.val = 256 * t.val + r.val; omega)
      | ⟨1, _⟩ => exact Fin.ext (by show win0_8.index t 1 * 512 + 1 * l.val = l.val; omega)
    rw [e]
    rfl
  · have hi : (i 0).val < 8192 := (i 0).isLt
    have hj : (i 1).val < 512 := (i 1).isLt
    let t : Fin cfg0.N := ⟨(i 0).val / 256, show (i 0).val / 256 < 32 by omega⟩
    have ht : t.val = (i 0).val / 256 := rfl
    have h0 := (by decide +kernel : ∀ t : Fin grid0.N, win0_8.index t 0 = t.val) t
    have h1 := (by decide +kernel : ∀ t : Fin grid0.N, win0_8.index t 1 = 0) t
    refine ⟨t, flush0_8 t, ?_⟩
    show i ∈ ((View.whole main_v0_1).slice (win0_8.rect t)).set
    rw [View.set_slice_whole, Rect.mem_set_unit]
    intro a
    match a with
    | ⟨0, _⟩ => show win0_8.index t 0 * 256 ≤ (i 0).val ∧ (i 0).val < win0_8.index t 0 * 256 + 256; omega
    | ⟨1, _⟩ => show win0_8.index t 1 * 512 ≤ (i 1).val ∧ (i 1).val < win0_8.index t 1 * 512 + 512; omega

theorem final9 : (dats m 0 c).arrAt 9 cfg0.N = dwUpTo (aD m c) (aP m c) 8192 := by
  have i0 := (by decide +kernel : ∀ t : Fin grid0.N, win0_9.index t 0 = 0)
  have i1 := (by decide +kernel : ∀ t : Fin grid0.N, win0_9.index t 1 = 0)
  refine (dats m 0 c).arrAt_eq_of_cover 9 (dwUpTo (aD m c) (aP m c) 8192) (fun t hf => ?_) (fun i => ?_)
  · rw [flushed9]
    funext j
    obtain ⟨r, l, rfl⟩ : ∃ (r : Fin 8) (l : Fin 512), j = ix2 r l := ⟨j 0, j 1, eq_ix2 j⟩
    have h0 := i0 t
    have h1 := i1 t
    have ht := lt_N t
    have h31 : t.val = 31 := by have := (flush0_9 t).mp hf; omega
    refine (left9 m c t.val t.isLt r l).trans ?_
    show _ = dwUpTo (aD m c) (aP m c) 8192 (((cfg0.win 9).blk t).view.emb (ix2 r l))
    have e : ((cfg0.win 9).blk t).view.emb (ix2 r l) = (ix2 r l : Taps8.Idx) := by
      funext a
      match a with
      | ⟨0, _⟩ => exact Fin.ext (by show win0_9.index t 0 * 8 + 1 * r.val = r.val; omega)
      | ⟨1, _⟩ => exact Fin.ext (by show win0_9.index t 1 * 512 + 1 * l.val = l.val; omega)
    rw [e, h31]
  · have hi : (i 0).val < 8 := (i 0).isLt
    have hj : (i 1).val < 512 := (i 1).isLt
    let t : Fin cfg0.N := ⟨31, show 31 < 32 by omega⟩
    have h0 := i0 t
    have h1 := i1 t
    refine ⟨t, (flush0_9 t).mpr rfl, ?_⟩
    show i ∈ ((View.whole main_v0_2).slice (win0_9.rect t)).set
    rw [View.set_slice_whole, Rect.mem_set_unit]
    intro a
    match a with
    | ⟨0, _⟩ => show win0_9.index t 0 * 8 ≤ (i 0).val ∧ (i 0).val < win0_9.index t 0 * 8 + 8; omega
    | ⟨1, _⟩ => show win0_9.index t 1 * 512 ≤ (i 1).val ∧ (i 1).val < win0_9.index t 1 * 512 + 512; omega

end Cert.KernelIdeal.Conv

end
-- ==== Proof.ConvRef.lean ====
/- What the reference's gradient of the short convolution computes, as the whole arrays of ConvSpec. -/
module

public import proofs.«01_k».proof.Proof.ConvSpec
public import proofs.«01_k».proof.Proof.Gen.ReferenceIdeal.Read
public import Idealize.ShloMosaic.Lib.Pointwise

@[expose] public section

noncomputable section

namespace Cert.ReferenceIdeal.Conv

open Cert.ReferenceIdeal Cert.ReferenceIdeal.Gen Cert.ReferenceIdeal.Read Cert.Conv
open Idealize.ShloMosaic

variable (D : Rows.Idx → EReal) (P : Proj.Idx → EReal) (W : Taps.Idx → EReal)

/-- The gradient of the convolution's input: the three shifted products' transposes summed. -/
theorem dt_eq (r : Fin 8192) (l : Fin 512) : val_main_v67 (F := Ideal) D W (ix2 r l) = dt D W r.val l := by
  pointwise [val_main_v67, val_main_v61, val_main_v50, val_main_v40, val_main_v36, val_main_v35, val_main_v28,
    val_main_v27, val_main_v26, val_main_v34, val_main_cst_3, val_main_v49, val_main_v45, val_main_v44,
    val_main_v21, val_main_v20, val_main_v19, val_main_v33, val_main_cst_7, val_main_v60, val_main_v56,
    val_main_v55, val_main_v13, val_main_v12, val_main_v11, val_main_cst_11]
  unfold dt dAt
  rw [dif_pos r.isLt]
  congr 1
  · congr 1
    by_cases h : r.val + 1 < 8192
    · rw [dif_pos (by omega), dif_pos h]
      have e : 2 + r.val - 1 = r.val + 1 := by omega
      simp only [e]
    · rw [dif_neg (by omega), dif_neg h, mul_zero]
  · by_cases h : r.val + 2 < 8192
    · rw [dif_pos (by omega), dif_pos h]
      have e : 2 + r.val = r.val + 2 := by omega
      simp only [e]
    · rw [dif_neg (by omega), dif_neg h, mul_zero]

theorem dcg_eq : val_main_v70 (F := Ideal) D P W = dcg D P W := by
  funext j
  obtain ⟨r, l, rfl⟩ : ∃ (r : Fin 8192) (l : Fin 512), j = ix2 r l := ⟨j 0, j 1, eq_ix2 j⟩
  have h : val_main_v70 (F := Ideal) D P W (ix2 r l)
      = val_main_v67 (F := Ideal) D W (ix2 r l) * P (ix2 r ⟨5632 + l.val, by omega⟩) := by
    pointwise [val_main_v70, val_main_v69, val_main_v5]
  rw [h, dt_eq]
  rfl

theorem dhb_eq : val_main_v71 (F := Ideal) D P W = dhb D P W := by
  funext j
  obtain ⟨r, l, rfl⟩ : ∃ (r : Fin 8192) (l : Fin 512), j = ix2 r l := ⟨j 0, j 1, eq_ix2 j⟩
  have h : val_main_v71 (F := Ideal) D P W (ix2 r l)
      = P (ix2 r ⟨5120 + l.val, by omega⟩) * val_main_v67 (F := Ideal) D W (ix2 r l) := by
    pointwise [val_main_v71, val_main_v68, val_main_v4]
  rw [h, dt_eq, mul_comm]
  rfl

/-- A sum over the first `n` numbers, cut after the first `a` of them. -/
theorem sum_cut (f : ℕ → EReal) {a b n : ℕ} (h : a + b = n) :
    ∑ q ∈ Finset.range n, f q = ∑ x : Fin a, f x.val + ∑ x : Fin b, f (a + x.val) := by
  subst h
  rw [Finset.sum_range_add, Finset.sum_range, Finset.sum_range]

/-- The taps' gradient: each tap's sum over all rows, put at its row. -/
theorem dw_eq : val_main_v73 (F := Ideal) D P = dwUpTo D P 8192 := by
  funext j
  obtain ⟨r, l, rfl⟩ : ∃ (r : Fin 8) (l : Fin 512), j = ix2 r l := ⟨j 0, j 1, eq_ix2 j⟩
  have s0 : ∑ x : Fin 8192, D (ix2 x l) * (P (ix2 x ⟨5120 + l.val, by omega⟩) * P (ix2 x ⟨5632 + l.val, by omega⟩))
      = ∑ q ∈ Finset.range 8192, tapTerm D P 0 l q := by
    rw [Finset.sum_range]
    refine Finset.sum_congr rfl fun q _ => ?_
    unfold tapTerm dAt tBack
    rw [dif_pos q.isLt, dif_pos ⟨Nat.zero_le _, by omega⟩]
    rfl
  have s1 : ∑ x : Fin 8192, D (ix2 x l) * (if h : 1 + x.val < 2 then 0
        else P (ix2 ⟨1 + x.val - 2, by omega⟩ ⟨5120 + l.val, by omega⟩) * P (ix2 ⟨1 + x.val - 2, by omega⟩ ⟨5632 + l.val, by omega⟩))
      = ∑ q ∈ Finset.range 8192, tapTerm D P 1 l q := by
    rw [Finset.sum_range]
    refine Finset.sum_congr rfl fun q _ => ?_
    unfold tapTerm dAt tBack
    rw [dif_pos q.isLt]
    by_cases h : 1 + q.val < 2
    · rw [dif_pos h, dif_neg (by omega)]
    · rw [dif_neg h, dif_pos ⟨by omega, by omega⟩]
      have e : 1 + q.val - 2 = q.val - 1 := by omega
      simp only [e]
      rfl
  have s2 : (∑ x : Fin 2, D (ix2 ⟨x.val, by omega⟩ l) * 0)
        + ∑ x : Fin 8190, D (ix2 ⟨2 + x.val, by omega⟩ l) * (P (ix2 ⟨x.val, by omega⟩ ⟨5120 + l.val, by omega⟩) * P (ix2 ⟨x.val, by omega⟩ ⟨5632 + l.val, by omega⟩))
      = ∑ q ∈ Finset.range 8192, tapTerm D P 2 l q := by
    rw [sum_cut (tapTerm D P 2 l) (show 2 + 8190 = 8192 by norm_num)]
    refine congrArg₂ (· + ·) ?_ ?_
    · refine Finset.sum_congr rfl fun q _ => ?_
      unfold tapTerm tBack
      rw [dif_neg (by omega), mul_zero, mul_zero]
    · refine Finset.sum_congr rfl fun q _ => ?_
      unfold tapTerm dAt tBack
      rw [dif_pos (by omega), dif_pos ⟨by omega, by omega⟩]
      have e : 2 + q.val - 2 = q.val := by omega
      simp only [e]
      rfl
  pointwise [val_main_v73, val_main_v65, val_main_v54, val_main_v43, val_main_v42, val_main_v41, val_main_v39,
    val_main_v38, val_main_v37, val_main_v34, val_main_v29, val_main_v9, val_main_v8, val_main_cst,
    val_main_v7, val_main_v4, val_main_v5, val_main_cst_2, val_main_cst_4, val_main_cst_5, val_main_v53,
    val_main_v52, val_main_v51, val_main_v48, val_main_v47, val_main_v46, val_main_v33, val_main_v22,
    val_main_cst_6, val_main_cst_8, val_main_cst_9, val_main_v64, val_main_v63, val_main_v62, val_main_v59,
    val_main_v58, val_main_v57, val_main_v14, val_main_cst_10, val_main_cst_12, val_main_cst_13, val_main_v72,
    val_main_cst_14]
  unfold dwUpTo
  pointwise []
  rw [s0, s1, s2]
  fin_cases r <;> simp

end Cert.ReferenceIdeal.Conv

end
-- ==== Proof.AttnBlock.lean ====
/- One attention block of the backward kernel: 128 query rows of a pair of heads against their 256 key rows, as vector
   operations in the kernel's own order. -/
module

public import proofs.«01_k».proof.Proof.Gen.Kernel2Ideal.Skeleton

@[expose] public section

noncomputable section

namespace Cert.Kernel2Ideal.Attn

open Cert.Kernel2Ideal Cert.Kernel2Ideal.Gen Idealize.ShloMosaic Idealize.SL.Sem

variable {F : FTy → Type} [FloatOps F] [Named F]

/-- The lanes of the first head of the pair. -/
abbrev lowV : IVec S128x128 1 := k0_pay42

abbrev lanesV : IVec S256x256 32 := iota .tc S256x256 32 [1] iota_S256x256_d1_w32

/-- Which keys lie in the band of a query row. -/
abbrev bandV : IVec S256x256 1 :=
  k0_pay40 lanesV (k0_pay35 k0_pay31 128#32 k0_pay32 k0_pay33 k0_pay34) 256#32 (k0_pay36 lanesV) (k0_pay37 lanesV)
    (k0_pay38 lanesV)

/-- Which keys belong to the block before. -/
abbrev prevV : IVec S256x256 32 := k0_pay41 256#32 (k0_pay36 lanesV) (k0_pay37 lanesV) (k0_pay38 lanesV)

/-- The mask of block `a` of grid row `n`. -/
abbrev maskV (n : ℕ) (a : BitVec 32) : IVec S256x256 1 := k0_pay43 (BitVec.ofNat 32 n) bandV prevV a 0#32

/-- The mask of the block after the tile, restricted to keys of the tile. -/
abbrev maskNextV : IVec S256x256 1 := k0_pay2 bandV prevV

/-- The two heads of a block on top of each other, each with the other's lanes zeroed. -/
def stackV (q : Vec F S128x128 .f32) : FVec F S256x128 .bf16 :=
  concatenate S256x128 0
    [⟨S128x128, select lowV (truncf .bf16 q bitsLt_bf16_f32) (broadcast S128x128 (Scalar.ofBits .bf16 0x0000#16))⟩,
     ⟨S128x128, select lowV (broadcast S128x128 (Scalar.ofBits .bf16 0x0000#16)) (truncf .bf16 q bitsLt_bf16_f32)⟩]
    concatenates_S128x128_S128x128_S256x128_d0

/-- A value per row and head, spread over the 256 lanes of the stacked block. -/
def spreadV (t : Vec F S128x128 .f32) : FVec F S256x256 .f32 :=
  have t1 : FVec F S128x128 .f32 := shapeCast S128x128 t shapeCasts_S128x128_S128x128
  have t2 : FVec F S128x128 .f32 := dynamicRotate 1 64#32 none t1 rotates_S128x128_d1
  have t3 : FVec F S256x128 .f32 := concatenate S256x128 0 [⟨S128x128, select lowV t1 t2⟩, ⟨S128x128, select lowV t2 t1⟩]
    concatenates_S128x128_S128x128_S256x128_d0
  concatenate S256x256 1 [⟨S256x128, t3⟩, ⟨S256x128, t3⟩] concatenates_S256x128_S256x128_S256x256_d1

variable (mk : IVec S256x256 1) (q d : Vec F S128x128 .f32) (k v : Vec F S256x128 .f32) (lt ds : Vec F S128x128 .f32)

/-- The masked scores of the stacked block. -/
def scoreV : FVec F S256x256 .f32 :=
  select mk
    (mulf (matmul dot_S256x128_S256x128_S256x256_1_1_0_0_n_n none (stackV q) (truncf .bf16 k bitsLt_bf16_f32)
        (constant S256x256 .f32 0x00000000#32))
      (broadcast S256x256 (Scalar.ofBits .f32 0x3E000000#32)))
    (broadcast S256x256 (Named.named κ "mask" 0xF149F2CA#32))

/-- The attention weights of the stacked block. -/
def probV : FVec F S256x256 .f32 := exp (subf (scoreV mk q k) (spreadV lt))

/-- The gradient of the scores of the stacked block. -/
def dscoreV : FVec F S256x256 .bf16 :=
  truncf .bf16
    (mulf
      (mulf (probV mk q k lt)
        (subf (matmul dot_S256x128_S256x128_S256x256_1_1_0_0_n_n none (stackV d) (truncf .bf16 v bitsLt_bf16_f32)
          (constant S256x256 .f32 0x00000000#32)) (spreadV ds)))
      (broadcast S256x256 (Scalar.ofBits .f32 0x3E000000#32))) bitsLt_bf16_f32

/-- The queries' gradient of a block. -/
def dqV : FVec F S128x128 .f32 :=
  have s : FVec F S256x128 .f32 := matmul dot_S256x256_S256x128_S256x128_1_0_0_1_n_n none (dscoreV mk q d k v lt ds)
    (truncf .bf16 k bitsLt_bf16_f32) (constant S256x128 .f32 0x00000000#32)
  select lowV (extractStridedSlice S128x128 ![0, 0] s slices_S256x128_o0_0_S128x128)
    (extractStridedSlice S128x128 ![128, 0] s slices_S256x128_o128_0_S128x128)

/-- The keys' gradient of a block. -/
def dkV : FVec F S256x128 .f32 :=
  matmul dot_S256x256_S256x128_S256x128_0_0_1_1_n_n none (dscoreV mk q d k v lt ds) (stackV q)
    (constant S256x128 .f32 0x00000000#32)

/-- The values' gradient of a block. -/
def dvV : FVec F S256x128 .f32 :=
  matmul dot_S256x256_S256x128_S256x128_0_0_1_1_n_n none (truncf .bf16 (probV mk q k lt) bitsLt_bf16_f32) (stackV d)
    (constant S256x128 .f32 0x00000000#32)

/-- A gradient added to what a buffer held. -/
def plusV (old x : FVec F S256x128 .f32) : FVec F S256x128 .f32 :=
  shapeCast S256x128 (addf old x) shapeCasts_S256x128_S256x128

end Cert.Kernel2Ideal.Attn

end
-- ==== Proof.AttnPoint.lean ====
/- One attention block of the backward kernel, element by element: for a head of the pair, a query row and a key row, the
   score, the weight and its gradient, and the three gradients as sums over rows. -/
module

public import proofs.«01_k».proof.Proof.AttnBlock
public import Idealize.ShloMosaic.Lib.Pipeline.Value
public import Idealize.ShloMosaic.Lib.Pointwise

@[expose] public section

noncomputable section

namespace Cert.Kernel2Ideal.Attn

open Cert.Kernel2Ideal Cert.Kernel2Ideal.Gen Idealize.ShloMosaic Idealize.SL.Sem

/-- Lane `c` of head `h` of the pair. -/
abbrev hl (h : Fin 2) (c : Fin 64) : Fin 128 := ⟨64 * h.val + c.val, by omega⟩

/-- Row `r` of head `h` in the stacked block. -/
abbrev st (h : Fin 2) (r : Fin 128) : Fin 256 := ⟨128 * h.val + r.val, by omega⟩

/-- A sum over the lanes in which only head `h` counts is a sum over its lanes. -/
theorem sum_lanes (h : Fin 2) (f : Fin 128 → EReal) :
    (∑ x : Fin 128, if x.val / 64 = h.val then f x else 0) = ∑ c : Fin 64, f (hl h c) := by
  have e := Fin.sum_univ_add (M := EReal) (a := 64) (b := 64) (fun x : Fin (64 + 64) => if x.val / 64 = h.val then f x else 0)
  refine e.trans ?_
  match h with
  | ⟨0, _⟩ =>
    have z : (∑ c : Fin 64, (fun x : Fin (64 + 64) => if x.val / 64 = 0 then f x else 0) (Fin.natAdd 64 c)) = 0 :=
      Finset.sum_eq_zero fun c _ => if_neg (by show ¬ (64 + c.val) / 64 = 0; omega)
    refine (congrArg₂ (· + ·) (Finset.sum_congr rfl fun c _ => ?_) z).trans (add_zero _)
    exact (if_pos (by show c.val / 64 = 0; omega)).trans (congrArg f (Fin.ext (by show c.val = 64 * 0 + c.val; omega)))
  | ⟨1, _⟩ =>
    have z : (∑ c : Fin 64, (fun x : Fin (64 + 64) => if x.val / 64 = 1 then f x else 0) (Fin.castAdd 64 c)) = 0 :=
      Finset.sum_eq_zero fun c _ => if_neg (by show ¬ c.val / 64 = 1; omega)
    refine (congrArg₂ (· + ·) z (Finset.sum_congr rfl fun c _ => ?_)).trans (zero_add _)
    exact (if_pos (by show (64 + c.val) / 64 = 1; omega)).trans (congrArg f (Fin.ext (by show 64 + c.val = 64 * 1 + c.val; omega)))

/-- A sum over the stacked rows in which only head `h` counts is a sum over its rows. -/
theorem sum_rows (h : Fin 2) (f : Fin 256 → EReal) :
    (∑ x : Fin 256, if x.val / 128 = h.val then f x else 0) = ∑ r : Fin 128, f (st h r) := by
  have e := Fin.sum_univ_add (M := EReal) (a := 128) (b := 128) (fun x : Fin (128 + 128) => if x.val / 128 = h.val then f x else 0)
  refine e.trans ?_
  match h with
  | ⟨0, _⟩ =>
    have z : (∑ c : Fin 128, (fun x : Fin (128 + 128) => if x.val / 128 = 0 then f x else 0) (Fin.natAdd 128 c)) = 0 :=
      Finset.sum_eq_zero fun c _ => if_neg (by show ¬ (128 + c.val) / 128 = 0; omega)
    refine (congrArg₂ (· + ·) (Finset.sum_congr rfl fun c _ => ?_) z).trans (add_zero _)
    exact (if_pos (by show c.val / 128 = 0; omega)).trans (congrArg f (Fin.ext (by show c.val = 128 * 0 + c.val; omega)))
  | ⟨1, _⟩ =>
    have z : (∑ c : Fin 128, (fun x : Fin (128 + 128) => if x.val / 128 = 1 then f x else 0) (Fin.castAdd 128 c)) = 0 :=
      Finset.sum_eq_zero fun c _ => if_neg (by show ¬ c.val / 128 = 1; omega)
    refine (congrArg₂ (· + ·) z (Finset.sum_congr rfl fun c _ => ?_)).trans (zero_add _)
    exact (if_pos (by show (128 + c.val) / 128 = 1; omega)).trans (congrArg f (Fin.ext (by show 128 + c.val = 128 * 1 + c.val; omega)))

/-- The comparison "this lane belongs to the first head". -/
theorem low_iff (l : Fin 128) : IntOp.cmpi .slt (BitVec.ofNat 32 l.val) 64#32 = (1 : BitVec 1) ↔ l.val / 64 = 0 := by
  revert l; decide

variable (mk : IVec S256x256 1) (q d : Vec Ideal S128x128 .f32) (k v : Vec Ideal S256x128 .f32) (lt ds : Vec Ideal S128x128 .f32)

theorem stack_at (r : Fin 256) (l : Fin 128) :
    stackV q (ix2 r l) = if l.val / 64 = r.val / 128 then q (ix2 ⟨r.val % 128, by omega⟩ l) else 0 := by
  unfold stackV
  pointwise [k0_pay42]
  simp only [Scalar.select, low_iff]
  have key : ∀ a b : Fin 128, a = b → q (ix2 a l) = q (ix2 b l) := fun a b h => by rw [h]
  by_cases hr : r.val < 128
  · rw [dif_pos hr]
    by_cases hl : l.val / 64 = 0
    · rw [if_pos hl]
      refine Eq.trans ?_ (if_pos (by omega)).symm
      exact key _ _ (Fin.ext (by show r.val = r.val % 128; omega))
    · rw [if_neg hl]
      exact (if_neg (by omega)).symm
  · rw [dif_neg hr]
    by_cases hl : l.val / 64 = 0
    · rw [if_pos hl]
      exact (if_neg (by omega)).symm
    · rw [if_neg hl]
      refine Eq.trans ?_ (if_pos (by omega)).symm
      exact key _ _ (Fin.ext (by show r.val - 128 = r.val % 128; omega))

theorem stack_mul (h : Fin 2) (r : Fin 128) (l : Fin 128) (y : EReal) :
    stackV q (ix2 (st h r) l) * y = if l.val / 64 = h.val then q (ix2 r l) * y else 0 := by
  rw [stack_at]
  have e : (st h r).val / 128 = h.val := by show (128 * h.val + r.val) / 128 = h.val; omega
  have e' : (⟨(st h r).val % 128, by omega⟩ : Fin 128) = r := Fin.ext (by show (128 * h.val + r.val) % 128 = r.val; omega)
  rw [e, e']
  split
  · rfl
  · exact zero_mul y

theorem mul_stack (h : Fin 2) (r : Fin 256) (c : Fin 64) (y : EReal) :
    y * stackV q (ix2 r (hl h c)) = if r.val / 128 = h.val then y * q (ix2 ⟨r.val % 128, by omega⟩ (hl h c)) else 0 := by
  rw [stack_at]
  have e : (hl h c).val / 64 = h.val := by show (64 * h.val + c.val) / 64 = h.val; omega
  rw [e]
  by_cases hh : h.val = r.val / 128
  · rw [if_pos hh, if_pos hh.symm]
  · rw [if_neg hh, if_neg (Ne.symm hh)]; exact mul_zero y

/-- Lane `κ % 64` of head `h`. -/
abbrev hk (h : Fin 2) (κ : Fin 256) : Fin 128 := hl h ⟨κ.val % 64, by omega⟩

theorem spread_at (h : Fin 2) (r : Fin 128) (κ : Fin 256) : spreadV lt (ix2 (st h r) κ) = lt (ix2 r (hk h κ)) := by
  have low' : ∀ n : ℕ, n < 128 → (IntOp.cmpi .slt (BitVec.ofNat 32 n) 64#32 = (1 : BitVec 1) ↔ n / 64 = 0) :=
    fun n hn => low_iff ⟨n, hn⟩
  unfold spreadV
  pointwise [k0_pay42]
  simp only [Scalar.select]
  have key : ∀ a b : Fin 128, ∀ x y : Fin 128, a = x → b = y → lt (ix2 a b) = lt (ix2 x y) := fun a b x y h1 h2 => by rw [h1, h2]
  have hh := h.isLt
  have hr := r.isLt
  have hκ := κ.isLt
  by_cases h1 : κ.val < 128
  · simp only [dif_pos h1, low' κ.val h1]
    by_cases h2 : 128 * h.val + r.val < 128
    · rw [dif_pos h2]
      by_cases h3 : κ.val / 64 = 0
      · rw [if_pos h3]; exact key _ _ _ _ (Fin.ext (by show 128 * h.val + r.val = r.val; omega)) (Fin.ext (by show κ.val = 64 * h.val + κ.val % 64; omega))
      · rw [if_neg h3]; exact key _ _ _ _ (Fin.ext (by show 128 * h.val + r.val = r.val; omega)) (Fin.ext (by show (κ.val + 128 - 64) % 128 = 64 * h.val + κ.val % 64; omega))
    · rw [dif_neg h2]
      by_cases h3 : κ.val / 64 = 0
      · rw [if_pos h3]; exact key _ _ _ _ (Fin.ext (by show 128 * h.val + r.val - 128 = r.val; omega)) (Fin.ext (by show (κ.val + 128 - 64) % 128 = 64 * h.val + κ.val % 64; omega))
      · rw [if_neg h3]; exact key _ _ _ _ (Fin.ext (by show 128 * h.val + r.val - 128 = r.val; omega)) (Fin.ext (by show κ.val = 64 * h.val + κ.val % 64; omega))
  · simp only [dif_neg h1, low' (κ.val - 128) (by omega)]
    by_cases h2 : 128 * h.val + r.val < 128
    · rw [dif_pos h2]
      by_cases h3 : (κ.val - 128) / 64 = 0
      · rw [if_pos h3]; exact key _ _ _ _ (Fin.ext (by show 128 * h.val + r.val = r.val; omega)) (Fin.ext (by show κ.val - 128 = 64 * h.val + κ.val % 64; omega))
      · rw [if_neg h3]; exact key _ _ _ _ (Fin.ext (by show 128 * h.val + r.val = r.val; omega)) (Fin.ext (by show (κ.val - 128 + 128 - 64) % 128 = 64 * h.val + κ.val % 64; omega))
    · rw [dif_neg h2]
      by_cases h3 : (κ.val - 128) / 64 = 0
      · rw [if_pos h3]; exact key _ _ _ _ (Fin.ext (by show 128 * h.val + r.val - 128 = r.val; omega)) (Fin.ext (by show (κ.val - 128 + 128 - 64) % 128 = 64 * h.val + κ.val % 64; omega))
      · rw [if_neg h3]; exact key _ _ _ _ (Fin.ext (by show 128 * h.val + r.val - 128 = r.val; omega)) (Fin.ext (by show κ.val - 128 = 64 * h.val + κ.val % 64; omega))

/-- The score scale 1/8. -/
abbrev eighth : EReal := Ideal.ofBits .f32 0x3E000000#32

/-- The product of a query row with a key row over the lanes of a head. -/
def dotH (h : Fin 2) (r : Fin 128) (κ : Fin 256) : EReal := ∑ c : Fin 64, q (ix2 r (hl h c)) * k (ix2 κ (hl h c))

/-- The weight of a key row for a query row. -/
def probH (h : Fin 2) (r : Fin 128) (κ : Fin 256) : EReal :=
  Ideal.exp ((if mk (ix2 (st h r) κ) = 1 then dotH q k h r κ * eighth else ⊥) - lt (ix2 r (hk h κ)))

/-- The gradient of the product of a query row with a key row. -/
def dscoreH (h : Fin 2) (r : Fin 128) (κ : Fin 256) : EReal :=
  probH mk q k lt h r κ * (dotH d v h r κ - ds (ix2 r (hk h κ))) * eighth

theorem dot_at (h : Fin 2) (r : Fin 128) (κ : Fin 256) :
    (∑ x : Fin 128, stackV q (ix2 (st h r) x) * k (ix2 κ x)) = dotH q k h r κ :=
  (Finset.sum_congr rfl fun x _ => stack_mul q h r x _).trans (sum_lanes h fun x => q (ix2 r x) * k (ix2 κ x))

theorem score_at (h : Fin 2) (r : Fin 128) (κ : Fin 256) :
    scoreV mk q k (ix2 (st h r) κ) = if mk (ix2 (st h r) κ) = 1 then dotH q k h r κ * eighth else ⊥ := by
  unfold scoreV
  pointwise []
  rw [dot_at]
  have e : (Named.named Cert.Kernel2Ideal.κ "mask" (φ := .f32) 0xF149F2CA#32 : Ideal .f32) = (⊥ : EReal) :=
    IdealRules.named_const.ideal_named_scalar _ _ _ _ rfl
  rw [e]
  rfl

theorem prob_at (h : Fin 2) (r : Fin 128) (κ : Fin 256) : probV mk q k lt (ix2 (st h r) κ) = probH mk q k lt h r κ := by
  unfold probV
  pointwise []
  rw [spread_at, score_at]
  rfl

theorem dscore_at (h : Fin 2) (r : Fin 128) (κ : Fin 256) :
    dscoreV mk q d k v lt ds (ix2 (st h r) κ) = dscoreH mk q d k v lt ds h r κ := by
  unfold dscoreV
  pointwise []
  rw [spread_at, prob_at, dot_at]
  rfl

theorem dq_at (h : Fin 2) (r : Fin 128) (c : Fin 64) :
    dqV mk q d k v lt ds (ix2 r (hl h c)) = ∑ κ : Fin 256, dscoreH mk q d k v lt ds h r κ * k (ix2 κ (hl h c)) := by
  unfold dqV
  pointwise [k0_pay42]
  simp only [Scalar.select, low_iff (hl h c)]
  match h with
  | ⟨0, _⟩ =>
    rw [if_pos (by show (64 * 0 + c.val) / 64 = 0; omega)]
    refine Finset.sum_congr rfl fun κ _ => ?_
    rw [← dscore_at]
    exact congrArg (fun z : Fin 256 => dscoreV mk q d k v lt ds (ix2 z κ) * _) (Fin.ext (by show r.val = 128 * 0 + r.val; omega))
  | ⟨1, _⟩ =>
    rw [if_neg (by show ¬ (64 * 1 + c.val) / 64 = 0; omega)]
    refine Finset.sum_congr rfl fun κ _ => ?_
    rw [← dscore_at]
    rfl

theorem dk_at (h : Fin 2) (κ : Fin 256) (c : Fin 64) :
    dkV mk q d k v lt ds (ix2 κ (hl h c)) = ∑ r : Fin 128, dscoreH mk q d k v lt ds h r κ * q (ix2 r (hl h c)) := by
  unfold dkV
  pointwise []
  refine (Finset.sum_congr rfl fun x _ => mul_stack q h x c _).trans ?_
  refine (sum_rows h fun x => dscoreV mk q d k v lt ds (ix2 x κ) * q (ix2 ⟨x.val % 128, by omega⟩ (hl h c))).trans ?_
  refine Finset.sum_congr rfl fun r _ => ?_
  rw [dscore_at]
  exact congrArg (fun z : Fin 128 => _ * q (ix2 z (hl h c))) (Fin.ext (by show (128 * h.val + r.val) % 128 = r.val; omega))

theorem dv_at (h : Fin 2) (κ : Fin 256) (c : Fin 64) :
    dvV mk q d k lt (ix2 κ (hl h c)) = ∑ r : Fin 128, probH mk q k lt h r κ * d (ix2 r (hl h c)) := by
  unfold dvV
  pointwise []
  refine (Finset.sum_congr rfl fun x _ => mul_stack d h x c _).trans ?_
  refine (sum_rows h fun x => probV mk q k lt (ix2 x κ) * d (ix2 ⟨x.val % 128, by omega⟩ (hl h c))).trans ?_
  refine Finset.sum_congr rfl fun r _ => ?_
  rw [prob_at]
  exact congrArg (fun z : Fin 128 => _ * d (ix2 z (hl h c))) (Fin.ext (by show (128 * h.val + r.val) % 128 = r.val; omega))

/-! ## The masks -/

theorem row_word (r κ : Fin 256) :
    k0_pay35 k0_pay31 128#32 k0_pay32 k0_pay33 k0_pay34 (ix2 r κ) = BitVec.ofNat 32 (128 + r.val % 128) := by
  pointwise [k0_pay35, k0_pay31, k0_pay32, k0_pay33, k0_pay34]
  revert r
  decide +kernel

theorem key_word (r κ : Fin 256) :
    k0_pay39 256#32 (k0_pay36 lanesV) (k0_pay37 lanesV) (k0_pay38 lanesV) (ix2 r κ) = BitVec.ofNat 32 κ.val := by
  pointwise [k0_pay39, k0_pay36, k0_pay37, k0_pay38]
  revert κ
  decide +kernel

/-- The band: a query row sees the 128 key rows before its own and its own. -/
theorem band_at (r κ : Fin 256) : bandV (ix2 r κ) = 1 ↔ r.val % 128 ≤ κ.val ∧ κ.val ≤ 128 + r.val % 128 := by
  unfold bandV
  pointwise [k0_pay40]
  rw [row_word, key_word]
  have hκ : IntOp.addi (IntOp.muli (1#32) (BitVec.ofNat 32 κ.val))
      (Scalar.select
        (IntOp.andi
          (IntOp.cmpi CmpIPredicate.ne
            (IntOp.subi (BitVec.setWidth 32 (IntOp.cmpi CmpIPredicate.sgt (BitVec.ofNat 32 κ.val) 0#32))
              (BitVec.setWidth 32 (IntOp.cmpi CmpIPredicate.slt (BitVec.ofNat 32 κ.val) 0#32)))
            (Scalar.subi (Scalar.extui (Scalar.cmpi CmpIPredicate.sgt 256#32 0#32))
              (Scalar.extui (Scalar.cmpi CmpIPredicate.slt 256#32 0#32))))
          (IntOp.cmpi CmpIPredicate.ne (IntOp.remsi ArithUnit.vector (BitVec.ofNat 32 κ.val) 256#32) 0#32))
        (IntOp.subi (IntOp.divsi ArithUnit.vector (BitVec.ofNat 32 κ.val) 256#32) 1#32)
        (IntOp.divsi ArithUnit.vector (BitVec.ofNat 32 κ.val) 256#32)) = BitVec.ofNat 32 κ.val := by
    revert κ
    decide +kernel
  rw [hκ]
  clear hκ
  have hr : r.val % 128 < 128 := Nat.mod_lt _ (by decide)
  generalize hA : (⟨r.val % 128, hr⟩ : Fin 128) = A
  have hA' : r.val % 128 = A.val := congrArg Fin.val hA
  rw [hA']
  clear hA' hA hr r
  revert A κ
  decide +kernel

theorem prev_word (r κ : Fin 256) : prevV (ix2 r κ) = if κ.val < 128 then 1#32 else 0#32 := by
  unfold prevV
  pointwise [k0_pay41]
  rw [key_word]
  revert κ
  decide +kernel

end Cert.Kernel2Ideal.Attn

end
-- ==== Proof.AttnSpec.lean ====
/- The backward pass of block-local attention over the whole sequence, for any queries, keys, values, incoming gradients,
   row log-sums and row sums: which keys a query sees, the probability of a pair, and the three gradients. The blocks the
   kernel computes are these. -/
module

public import proofs.«01_k».proof.Proof.AttnPoint

@[expose] public section

noncomputable section

namespace Cert.Kernel2Ideal.Attn

open Cert.Kernel2Ideal Cert.Kernel2Ideal.Gen Idealize.ShloMosaic Idealize.SL.Sem

/-- Query `ρ` of block `B` sees key `κ` of the block before it and its own, counted from the start of the block before. -/
def seen (B ρ κ : ℕ) : Prop := (ρ ≤ κ ∧ κ ≤ 128 + ρ) ∧ (0 < B ∨ 128 ≤ κ)

instance (B ρ κ : ℕ) : Decidable (seen B ρ κ) := inferInstanceAs (Decidable (_ ∧ _))

/-- Two rows multiplied over the lanes of head `H`. -/
def dotR (X Y : ℕ → ℕ → EReal) (H r s : ℕ) : EReal := ∑ c : Fin 64, X r (64 * H + c.val) * Y s (64 * H + c.val)

/-- The probability query `r` gives key `s`, from the saved row log-sums. -/
def prR (Q K L : ℕ → ℕ → EReal) (H r s : ℕ) : EReal := Ideal.exp (dotR Q K H r s * eighth - L r H)

/-- The gradient of the scaled score of query `r` and key `s`. -/
def dsR (Q K V D L S : ℕ → ℕ → EReal) (H r s : ℕ) : EReal := prR Q K L H r s * (dotR D V H r s - S r H) * eighth

/-- A query's gradient: the sum of `F` times the keys it sees. -/
def rowR (F : ℕ → ℕ → EReal) (K : ℕ → ℕ → EReal) (B ρ l : ℕ) : EReal :=
  ∑ κ : Fin 256, if seen B ρ κ.val then F (128 * B + ρ) (128 * B + κ.val - 128) * K (128 * B + κ.val - 128) l else 0

/-- What the queries of block `B` give to key `κ`. -/
def colR (F : ℕ → ℕ → EReal) (X : ℕ → ℕ → EReal) (B κ l : ℕ) : EReal :=
  ∑ r : Fin 128, if seen B r.val κ then F (128 * B + r.val) (128 * B + κ - 128) * X (128 * B + r.val) l else 0

/-- A key's gradient: from its own block and from the block after. -/
def bothR (F : ℕ → ℕ → EReal) (X : ℕ → ℕ → EReal) (B ρ l : ℕ) : EReal :=
  colR F X B (128 + ρ) l + if B < 63 then colR F X (B + 1) ρ l else 0

/-! ## The masks -/

theorem mask_at (n a : ℕ) (hn : n < 8) (ha : a < 8) (h : Fin 2) (r : Fin 128) (κ : Fin 256) :
    maskV n (BitVec.ofNat 32 a) (ix2 (st h r) κ) = 1 ↔ seen (8 * n + a) r.val κ.val := by
  have hb := band_at (st h r) κ
  have e : (st h r).val % 128 = r.val := by show (128 * h.val + r.val) % 128 = r.val; omega
  rw [e] at hb
  unfold maskV seen
  rw [← hb]
  have hp := prev_word (st h r) κ
  pointwise [k0_pay43]
  rw [hp]
  generalize bandV (ix2 (st h r) κ) = b
  by_cases hκ : κ.val < 128
  · rw [if_pos hκ]
    have key : ∀ n a : Fin 8, ∀ b : BitVec 1,
        (IntOp.andi b (IntOp.cmpi .eq (IntOp.muli 1#32 (Scalar.select
          (Scalar.andi (Scalar.cmpi .eq (BitVec.ofNat 32 a.val) 0#32) (Scalar.cmpi .eq (BitVec.ofNat 32 n.val) 0#32))
          1#32 0#32)) 0#32) = 1) ↔ b = 1 ∧ 0 < 8 * n.val + a.val := by decide
    rw [key ⟨n, hn⟩ ⟨a, ha⟩ b]
    refine and_congr_right fun _ => ?_
    show 0 < 8 * n + a ↔ _
    omega
  · rw [if_neg hκ]
    have key : ∀ n a : Fin 8, ∀ b : BitVec 1,
        (IntOp.andi b (IntOp.cmpi .eq (IntOp.muli 0#32 (Scalar.select
          (Scalar.andi (Scalar.cmpi .eq (BitVec.ofNat 32 a.val) 0#32) (Scalar.cmpi .eq (BitVec.ofNat 32 n.val) 0#32))
          1#32 0#32)) 0#32) = 1) ↔ b = 1 := by decide
    rw [key ⟨n, hn⟩ ⟨a, ha⟩ b]
    exact ⟨fun h => ⟨h, Or.inr (by omega)⟩, fun h => h.1⟩

theorem maskNext_at (h : Fin 2) (r : Fin 128) (κ : Fin 256) (hκ : κ.val < 128) (B : ℕ) :
    maskNextV (ix2 (st h r) κ) = 1 ↔ seen (B + 1) r.val κ.val := by
  have hb := band_at (st h r) κ
  have e : (st h r).val % 128 = r.val := by show (128 * h.val + r.val) % 128 = r.val; omega
  rw [e] at hb
  unfold maskNextV seen
  rw [← hb]
  have hp := prev_word (st h r) κ
  pointwise [k0_pay2]
  rw [hp]
  generalize bandV (ix2 (st h r) κ) = b
  rw [if_pos hκ]
  have key : ∀ b : BitVec 1, (IntOp.andi b (IntOp.cmpi .eq 1#32 1#32) = 1) ↔ b = 1 := by decide
  rw [key b]
  exact ⟨fun h => ⟨h, Or.inl (by omega)⟩, fun h => h.1⟩

/-! ## A block of the kernel inside the sequence -/

variable {q d : Vec Ideal S128x128 .f32} {k v : Vec Ideal S256x128 .f32} {lt ds : Vec Ideal S128x128 .f32}
  {mk : IVec S256x256 1} {Q K V D L S : ℕ → ℕ → EReal} {B H : ℕ} {h : Fin 2}

/-- The query rows of a block, in one head of the pair, are the sequence's rows from `128 * B` in head `H`. -/
structure QueriesAt (h : Fin 2) (B H : ℕ) (q d lt ds : Vec Ideal S128x128 .f32) (Q D L S : ℕ → ℕ → EReal) : Prop where
  q : ∀ (r : Fin 128) (c : Fin 64), q (ix2 r (hl h c)) = Q (128 * B + r.val) (64 * H + c.val)
  d : ∀ (r : Fin 128) (c : Fin 64), d (ix2 r (hl h c)) = D (128 * B + r.val) (64 * H + c.val)
  lt : ∀ (r : Fin 128) (c : Fin 64), lt (ix2 r (hl h c)) = L (128 * B + r.val) H
  ds : ∀ (r : Fin 128) (c : Fin 64), ds (ix2 r (hl h c)) = S (128 * B + r.val) H

/-- Key row `κ` of a block is row `128 * B + κ - 128` of the sequence, and the mask says who sees it. -/
structure KeyAt (h : Fin 2) (B H : ℕ) (κ : Fin 256) (mk : IVec S256x256 1) (k v : Vec Ideal S256x128 .f32)
    (K V : ℕ → ℕ → EReal) : Prop where
  mask : ∀ r : Fin 128, mk (ix2 (st h r) κ) = 1 ↔ seen B r.val κ.val
  k : (0 < B ∨ 128 ≤ κ.val) → ∀ c : Fin 64, k (ix2 κ (hl h c)) = K (128 * B + κ.val - 128) (64 * H + c.val)
  v : (0 < B ∨ 128 ≤ κ.val) → ∀ c : Fin 64, v (ix2 κ (hl h c)) = V (128 * B + κ.val - 128) (64 * H + c.val)

theorem prob_block (hq : QueriesAt h B H q d lt ds Q D L S) {κ : Fin 256} (hk' : KeyAt h B H κ mk k v K V) (r : Fin 128) :
    probH mk q k lt h r κ
      = if seen B r.val κ.val then prR Q K L H (128 * B + r.val) (128 * B + κ.val - 128) else 0 := by
  unfold probH
  by_cases hs : seen B r.val κ.val
  · rw [if_pos ((hk'.mask r).mpr hs), if_pos hs, hq.lt]
    unfold prR dotH dotR
    simp only [hq.q, hk'.k hs.2]
  · rw [if_neg (fun e => hs ((hk'.mask r).mp e)), if_neg hs]
    have e : (⊥ : EReal) - lt (ix2 r (hk h κ)) = ⊥ := EReal.bot_sub _
    rw [e]
    exact Ideal.exp_bot

theorem dscore_block (hq : QueriesAt h B H q d lt ds Q D L S) {κ : Fin 256} (hk' : KeyAt h B H κ mk k v K V) (r : Fin 128) :
    dscoreH mk q d k v lt ds h r κ
      = if seen B r.val κ.val then dsR Q K V D L S H (128 * B + r.val) (128 * B + κ.val - 128) else 0 := by
  unfold dscoreH
  rw [prob_block hq hk' r]
  by_cases hs : seen B r.val κ.val
  · rw [if_pos hs, if_pos hs, hq.ds]
    unfold dsR dotH dotR
    simp only [hq.d, hk'.v hs.2]
  · rw [if_neg hs, if_neg hs, zero_mul, zero_mul]

theorem dq_block (hq : QueriesAt h B H q d lt ds Q D L S) (hk' : ∀ κ : Fin 256, KeyAt h B H κ mk k v K V) (r : Fin 128)
    (c : Fin 64) :
    dqV mk q d k v lt ds (ix2 r (hl h c)) = rowR (dsR Q K V D L S H) K B r.val (64 * H + c.val) := by
  rw [dq_at]
  unfold rowR
  refine Finset.sum_congr rfl fun κ _ => ?_
  rw [dscore_block hq (hk' κ) r]
  by_cases hs : seen B r.val κ.val
  · rw [if_pos hs, if_pos hs, (hk' κ).k hs.2]
  · rw [if_neg hs, if_neg hs, zero_mul]

theorem dk_block (hq : QueriesAt h B H q d lt ds Q D L S) {κ : Fin 256} (hk' : KeyAt h B H κ mk k v K V) (c : Fin 64) :
    dkV mk q d k v lt ds (ix2 κ (hl h c)) = colR (dsR Q K V D L S H) Q B κ.val (64 * H + c.val) := by
  rw [dk_at]
  unfold colR
  refine Finset.sum_congr rfl fun r _ => ?_
  rw [dscore_block hq hk' r, hq.q]
  by_cases hs : seen B r.val κ.val
  · rw [if_pos hs, if_pos hs]
  · rw [if_neg hs, if_neg hs, zero_mul]

theorem dv_block (hq : QueriesAt h B H q d lt ds Q D L S) {κ : Fin 256} (hk' : KeyAt h B H κ mk k v K V) (c : Fin 64) :
    dvV mk q d k lt (ix2 κ (hl h c)) = colR (prR Q K L H) D B κ.val (64 * H + c.val) := by
  rw [dv_at]
  unfold colR
  refine Finset.sum_congr rfl fun r _ => ?_
  rw [prob_block hq hk' r, hq.d]
  by_cases hs : seen B r.val κ.val
  · rw [if_pos hs, if_pos hs]
  · rw [if_neg hs, if_neg hs, zero_mul]

end Cert.Kernel2Ideal.Attn

end
-- ==== Proof.AttnReal.lean ====
/- The softmax arithmetic behind the gradient of block-local attention, in real numbers: one query's row of keys, and
   the merge of three groups of heads by their row log-sums. -/
module

public import proofs.«01_k».proof.Proof.AttnSpec

@[expose] public section

noncomputable section

namespace Cert.Kernel2Ideal.Attn

open Idealize.ShloMosaic

/-! ## Extended reals that are real -/

theorem sum_real {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem div_real (x y : ℝ) (h : y ≠ 0) : Ideal.div (x : EReal) (y : EReal) = ((x / y : ℝ) : EReal) := by
  rw [Ideal.div_coe h, ← EReal.coe_mul, mul_one_div]

theorem log_real (x : ℝ) (h : 0 < x) : Ideal.log (x : EReal) = ((Real.log x : ℝ) : EReal) := by
  rw [Ideal.log_coe, if_neg (not_le.mpr h)]

theorem sub_real (x y : ℝ) : (x : EReal) - (y : EReal) = ((x - y : ℝ) : EReal) := (EReal.coe_sub x y).symm

/-- The largest of a row of reals and minus infinities with a real among them is a real, and is one of them. -/
theorem fold_max_real {ι : Type} (s : Finset ι) (f : ι → EReal) (hf : ∀ i ∈ s, f i ≠ ⊤) (i0 : ι) (h0 : i0 ∈ s) (x0 : ℝ)
    (hx : f i0 = (x0 : EReal)) :
    ∃ M : ℝ, s.fold max (⊥ : EReal) f = (M : EReal) ∧ ∃ i ∈ s, f i = (M : EReal) := by
  classical
  have attained : ∀ t : Finset ι, t.fold max (⊥ : EReal) f = ⊥ ∨ ∃ i ∈ t, f i = t.fold max (⊥ : EReal) f := by
    intro t
    induction t using Finset.induction_on with
    | empty => exact Or.inl (by simp)
    | insert a t ha ih =>
      rw [Finset.fold_insert ha]
      rcases le_total (f a) (t.fold max (⊥ : EReal) f) with h | h
      · rw [max_eq_right h]
        rcases ih with h' | ⟨i, hi, h'⟩
        · exact Or.inl h'
        · exact Or.inr ⟨i, Finset.mem_insert_of_mem hi, h'⟩
      · rw [max_eq_left h]
        exact Or.inr ⟨a, Finset.mem_insert_self _ _, rfl⟩
  have above : f i0 ≤ s.fold max (⊥ : EReal) f := by
    rw [Finset.le_fold_max]
    exact Or.inr ⟨i0, h0, le_rfl⟩
  rcases attained s with h | ⟨i, hi, h⟩
  · rw [h, hx] at above
    exact absurd above (not_le.mpr (EReal.bot_lt_coe _))
  · have hbot : s.fold max (⊥ : EReal) f ≠ ⊥ := by
      intro hb
      rw [hb, hx] at above
      exact absurd above (not_le.mpr (EReal.bot_lt_coe _))
    have htop : s.fold max (⊥ : EReal) f ≠ ⊤ := by rw [← h]; exact hf i hi
    exact ⟨(s.fold max (⊥ : EReal) f).toReal, (EReal.coe_toReal htop hbot).symm, i, hi, h.trans (EReal.coe_toReal htop hbot).symm⟩

/-! ## The two softmax derivatives

`E` is a row of exponentials with sum `Z`, `c` the factor the subtracted maximum takes out of them; `T` the sum of the
three groups' exponentials, `C` the factor of their maximum. `A κ` is the incoming gradient times key `κ`'s value. -/

/-- The derivative through the merge: what reaches the first group's row log-sum. -/
theorem merge_step (C T Z G0 G1 G2 x1 x2 : ℝ) (hC : C ≠ 0) (hT : T ≠ 0) :
    (G0 / (C * T) + -(G0 * (1 / (C * T * (C * T))) * (C * Z) + G1 * (1 / (C * T * (C * T))) * (C * x1)
        + G2 * (1 / (C * T * (C * T))) * (C * x2))) * (C * Z)
      = Z / T * (G0 - (Z / T * G0 + x1 / T * G1 + x2 / T * G2)) := by
  field_simp
  ring

/-- The derivative through the softmax of one row. -/
theorem row_step (E A : Fin 256 → ℝ) (c Z T G0 D W : ℝ) (hc : c ≠ 0) (hZ : Z ≠ 0) (hT : T ≠ 0) (hW : W = Z / T)
    (hG : ∑ κ, E κ / Z * A κ = G0) (κ : Fin 256) :
    (W * A κ / (c * Z) + (W * (G0 - D) / (c * Z) + -(∑ κ, W * A κ * (1 / (c * Z * (c * Z))) * (c * E κ)))) * (c * E κ)
      = E κ / T * (A κ - D) := by
  have h : ∑ κ, W * A κ * (1 / (c * Z * (c * Z))) * (c * E κ) = W / (c * Z) * G0 := by
    rw [← hG, Finset.mul_sum]
    refine Finset.sum_congr rfl fun κ _ => ?_
    field_simp
  rw [h, hW]
  field_simp
  ring

/-- What is left for the row's maximum: nothing. -/
theorem max_step (E A : Fin 256 → ℝ) (Z T G0 D : ℝ) (hZ : Z ≠ 0) (hT : T ≠ 0) (hs : ∑ κ, E κ = Z)
    (hG : ∑ κ, E κ / Z * A κ = G0) :
    Z / T * (G0 - D) + ∑ κ, -(E κ / T * (A κ - D)) = 0 := by
  have h : ∑ κ, -(E κ / T * (A κ - D)) = -(Z / T * ∑ κ, E κ / Z * A κ) + (∑ κ, E κ) * (D / T) := by
    rw [Finset.mul_sum, Finset.sum_mul, ← Finset.sum_neg_distrib, ← Finset.sum_add_distrib]
    refine Finset.sum_congr rfl fun κ _ => ?_
    field_simp
    ring
  rw [h, hG, hs]
  field_simp
  ring

/-! ## One head, one query -/

section Row

variable (q k v d o1 o2 l1 l2 : ℕ → ℕ → ℝ)

/-- Two rows multiplied over the lanes of head `H`. -/
def dotF (X Y : ℕ → ℕ → ℝ) (H r s : ℕ) : ℝ := ∑ c : Fin 64, X r (64 * H + c.val) * Y s (64 * H + c.val)

/-- The keys and values of the block before and of the block itself; zeros before the first block. -/
def withPrev (X : ℕ → ℕ → ℝ) (B κ l : ℕ) : ℝ := if 128 ≤ 128 * B + κ then X (128 * B + κ - 128) l else 0

theorem withPrev_seen (X : ℕ → ℕ → ℝ) (B ρ κ l : ℕ) (h : seen B ρ κ) : withPrev X B κ l = X (128 * B + κ - 128) l := by
  obtain ⟨_, h⟩ := h
  exact if_pos (by omega)

/-- The scaled score. -/
def scoreF (H B ρ κ : ℕ) : ℝ := dotF q k H (128 * B + ρ) (128 * B + κ - 128) * (1 / 8)

/-- Its exponential, where the query sees the key. -/
def expF (H B ρ κ : ℕ) : ℝ := if seen B ρ κ then Real.exp (scoreF q k H B ρ κ) else 0

def rowSum (H B ρ : ℕ) : ℝ := ∑ κ : Fin 256, expF q k H B ρ κ.val

theorem expF_nonneg (H B ρ κ : ℕ) : 0 ≤ expF q k H B ρ κ := by
  unfold expF
  split
  · exact (Real.exp_pos _).le
  · exact le_rfl

theorem seen_self (B ρ : ℕ) : seen B ρ (128 + ρ) := ⟨⟨by omega, by omega⟩, Or.inr (by omega)⟩

theorem rowSum_pos (H B ρ : ℕ) (hρ : ρ < 128) : 0 < rowSum q k H B ρ := by
  unfold rowSum
  refine Finset.sum_pos' (fun κ _ => expF_nonneg q k H B ρ κ.val) ⟨⟨128 + ρ, by omega⟩, Finset.mem_univ _, ?_⟩
  show 0 < expF q k H B ρ (128 + ρ)
  unfold expF
  rw [if_pos (seen_self B ρ)]
  exact Real.exp_pos _

/-- The first group's output. -/
def outF (H B ρ x : ℕ) : ℝ := ∑ κ : Fin 256, expF q k H B ρ κ.val / rowSum q k H B ρ * withPrev v B κ.val (64 * H + x)

/-- The three groups' sums of exponentials together. -/
def total (H B ρ : ℕ) : ℝ := rowSum q k H B ρ + Real.exp (l1 (128 * B + ρ) H) + Real.exp (l2 (128 * B + ρ) H)

theorem total_pos (H B ρ : ℕ) (hρ : ρ < 128) : 0 < total q k l1 l2 H B ρ :=
  add_pos (add_pos (rowSum_pos q k H B ρ hρ) (Real.exp_pos _)) (Real.exp_pos _)

/-- The incoming gradient times one group's output, over the lanes of head `H`. -/
def gOut (o : ℕ → ℝ) (H B ρ : ℕ) : ℝ := ∑ x : Fin 64, d (128 * B + ρ) (64 * H + x.val) * o x.val

def g0 (H B ρ : ℕ) : ℝ := gOut d (fun x => outF q k v H B ρ x) H B ρ
def g1 (H B ρ : ℕ) : ℝ := gOut d (fun x => o1 (128 * B + ρ) (64 * H + x)) H B ρ
def g2 (H B ρ : ℕ) : ℝ := gOut d (fun x => o2 (128 * B + ρ) (64 * H + x)) H B ρ

/-- The incoming gradient times the merged output. -/
def gAll (H B ρ : ℕ) : ℝ :=
  rowSum q k H B ρ / total q k l1 l2 H B ρ * g0 q k v d H B ρ
    + Real.exp (l1 (128 * B + ρ) H) / total q k l1 l2 H B ρ * g1 d o1 H B ρ
    + Real.exp (l2 (128 * B + ρ) H) / total q k l1 l2 H B ρ * g2 d o2 H B ρ

/-- The incoming gradient times a key's value. -/
def gVal (H B ρ κ : ℕ) : ℝ := ∑ x : Fin 64, d (128 * B + ρ) (64 * H + x.val) * withPrev v B κ (64 * H + x.val)

theorem g0_eq (H B ρ : ℕ) :
    ∑ κ : Fin 256, expF q k H B ρ κ.val / rowSum q k H B ρ * gVal v d H B ρ κ.val = g0 q k v d H B ρ := by
  unfold g0 gOut gVal outF
  simp only [Finset.mul_sum]
  rw [Finset.sum_comm]
  refine Finset.sum_congr rfl fun x _ => Finset.sum_congr rfl fun κ _ => ?_
  ring

/-- The gradient of the scaled score. -/
def dScore (H B ρ κ : ℕ) : ℝ :=
  expF q k H B ρ κ / total q k l1 l2 H B ρ * (gVal v d H B ρ κ - gAll q k v d o1 o2 l1 l2 H B ρ)

end Row

end Cert.Kernel2Ideal.Attn
-- ==== Proof.AttnSlots.lean ====
/- The rectangles the backward kernel reads and stores: a block's queries in the tile, the queries after the tile, and a block's
   keys in the buffers. -/
module

public import proofs.«01_k».proof.Proof.AttnBlock
public import proofs.«01_k».proof.Proof.Gen.Kernel2Ideal.Frame.Runs

@[expose] public section

noncomputable section

namespace Cert.Kernel2Ideal.Attn

open Cert.Kernel2Ideal Cert.Kernel2Ideal.Gen Idealize.ShloMosaic Idealize.SL.Sem

variable {F : FTy → Type} [FloatOps F] [Named F]

theorem insideB (c : Fin 9) (p : Fin 2) :
    ∀ k, (![128 * c.val, 128 * p.val] : Fin 2 → Nat) k + (![256, 128] : Fin 2 → Nat) k ≤ S1280x256.size k := by
  revert c p; decide

theorem insideQ (c : Fin 8) (p : Fin 2) :
    ∀ k, (![128 * c.val, 128 * p.val] : Fin 2 → Nat) k + (![128, 128] : Fin 2 → Nat) k ≤ S1024x256.size k := by
  revert c p; decide

theorem insideN (p : Fin 2) :
    ∀ k, (![0, 128 * p.val] : Fin 2 → Nat) k + (![128, 128] : Fin 2 → Nat) k ≤ S128x256.size k := by
  revert p; decide

/-- The 256 key rows of block `c`, in the lanes of the pair of heads `p`. -/
abbrev rectB (c : Fin 9) (p : Fin 2) : Rect S1280x256 :=
  Rect.unit (s := S1280x256) ![128 * c.val, 128 * p.val] ![256, 128] (insideB c p)

/-- The 128 query rows of block `c`. -/
abbrev rectQ (c : Fin 8) (p : Fin 2) : Rect S1024x256 :=
  Rect.unit (s := S1024x256) ![128 * c.val, 128 * p.val] ![128, 128] (insideQ c p)

/-- The 128 query rows after the tile. -/
abbrev rectN (p : Fin 2) : Rect S128x256 := Rect.unit (s := S128x256) ![0, 128 * p.val] ![128, 128] (insideN p)

abbrev rdQ {arg : Memref sig .tc .vmem S1024x256 .f32} (harg : arg.IsWhole) (x : Vec F S1024x256 .f32) (c : Fin 8)
    (p : Fin 2) : Vec F S128x128 .f32 := View.readAt (Elt F) arg.view (rectQ c p).toLoadRect (harg.unread x)

abbrev rdN {arg : Memref sig .tc .vmem S128x256 .f32} (harg : arg.IsWhole) (x : Vec F S128x256 .f32)
    (p : Fin 2) : Vec F S128x128 .f32 := View.readAt (Elt F) arg.view (rectN p).toLoadRect (harg.unread x)

abbrev rdB (arg : Memref sig .tc .vmem S1280x256 .f32) (L : List (View.Piece (Elt F) S1280x256 .f32)) (c : Fin 9)
    (p : Fin 2) : Vec F S256x128 .f32 := arg.view.readCov L (rectB c p).toLoadRect

end Cert.Kernel2Ideal.Attn

end
-- ==== Proof.AttnTower.lean ====
/- Blocks added one after the other into a buffer of 1280 rows, each over its 256 rows: what a row of the buffer holds in
   the end. And blocks of 128 rows stored side by side. -/
module

public import proofs.«01_k».proof.Proof.AttnSlots
public import proofs.«01_k».proof.Proof.AttnPoint
public import proofs.«01_k».proof.Proof.Rows

@[expose] public section

noncomputable section

namespace Cert.Kernel2Ideal.Attn

open Cert.Kernel2Ideal Cert.Kernel2Ideal.Gen Idealize.ShloMosaic Idealize.SL.Sem Idealize.ShloMosaic.Bands

/-- What block `c` of the pair of heads `p` adds to an element of the buffer. -/
def part (X : Vec Ideal S256x128 .f32) (c : Fin 9) (p : Fin 2) (r : Fin 1280) (l : Fin 256) : EReal :=
  if h : (128 * c.val ≤ r.val ∧ r.val - 128 * c.val < 256) ∧ (128 * p.val ≤ l.val ∧ l.val - 128 * p.val < 128)
  then X (ix2 ⟨r.val - 128 * c.val, h.1.2⟩ ⟨l.val - 128 * p.val, h.2.2⟩) else 0

/-- Adding a block onto the buffer adds its part to every element. -/
theorem canon_plus (arg : Memref sig .tc .vmem S1280x256 .f32) (L : List (View.Piece (Elt Ideal) S1280x256 .f32))
    (X : Vec Ideal S256x128 .f32) (c : Fin 9) (p : Fin 2) (r : Fin 1280) (l : Fin 256) :
    View.canon ((⟨rectB c p, plusV (rdB arg L c p) X⟩ : View.Piece (Elt Ideal) S1280x256 .f32) :: L) (ix2 r l)
      = (View.canon L (ix2 r l) : EReal) + part X c p r l := by
  unfold part
  split
  · rename_i h
    have e1 : (rectB c p).emb (ix2 ⟨r.val - 128 * c.val, h.1.2⟩ ⟨l.val - 128 * p.val, h.2.2⟩) = ix2 r l := by
      funext k
      match k with
      | ⟨0, _⟩ => exact Fin.ext (by show 128 * c.val + 1 * (r.val - 128 * c.val) = r.val; omega)
      | ⟨1, _⟩ => exact Fin.ext (by show 128 * p.val + 1 * (l.val - 128 * p.val) = l.val; omega)
    have e2 : rdB arg L c p (ix2 ⟨r.val - 128 * c.val, h.1.2⟩ ⟨l.val - 128 * p.val, h.2.2⟩) = View.canon L (ix2 r l) := by
      unfold rdB
      rw [View.readCov_eq_canon']
      exact congrArg (View.canon L) e1
    refine ((congrArg (View.canon _) e1.symm).trans (View.canon_cons_emb (rectB c p) _ L _)).trans ?_
    pointwise [plusV]
    rw [e2]
  · rename_i h
    rw [add_zero]
    refine View.canon_cons_of_not_mem _ L fun hm => h ?_
    obtain ⟨x, hx⟩ := LoadRect.exists_idx_of_mem _ hm
    have h0 : 128 * c.val + 1 * (x 0).val = r.val := congrArg (fun i : S1280x256.Idx => (i 0).val) hx
    have h1 : 128 * p.val + 1 * (x 1).val = l.val := congrArg (fun i : S1280x256.Idx => (i 1).val) hx
    have hb0 : (x 0).val < 256 := (x 0).isLt
    have hb1 : (x 1).val < 128 := (x 1).isLt
    omega

/-- Row `ρ` of key block `g` of the tile in the buffer, which starts with the block before the tile. -/
abbrev bufRow (g : Fin 8) (ρ : Fin 128) : Fin 1280 := ⟨128 * (g.val + 1) + ρ.val, by omega⟩

/-- Lane `x` of the pair of heads `p`. -/
abbrev pairLane (p : Fin 2) (x : Fin 128) : Fin 256 := ⟨128 * p.val + x.val, by omega⟩

abbrev upper (ρ : Fin 128) : Fin 256 := ⟨128 + ρ.val, by omega⟩
abbrev lower (ρ : Fin 128) : Fin 256 := ⟨ρ.val, by omega⟩

theorem part_eq (X : Vec Ideal S256x128 .f32) (c : Fin 9) (p' : Fin 2) (g : Fin 8) (p : Fin 2) (ρ : Fin 128) (x : Fin 128) :
    part X c p' (bufRow g ρ) (pairLane p x)
      = if p'.val = p.val then
          (if c.val = g.val then X (ix2 (upper ρ) x) else if c.val = g.val + 1 then X (ix2 (lower ρ) x) else 0)
        else 0 := by
  have hx := x.isLt
  have hρ := ρ.isLt
  have key : ∀ a a' : Fin 256, ∀ b b' : Fin 128, a = a' → b = b' → X (ix2 a b) = X (ix2 a' b') := fun a a' b b' h h' => by rw [h, h']
  unfold part
  by_cases hp : p'.val = p.val
  · rw [if_pos hp]
    by_cases h1 : c.val = g.val
    · rw [if_pos h1]
      refine (dif_pos (by simp only; omega)).trans (key _ _ _ _ (Fin.ext ?_) (Fin.ext ?_))
      · show 128 * (g.val + 1) + ρ.val - 128 * c.val = 128 + ρ.val; omega
      · show 128 * p.val + x.val - 128 * p'.val = x.val; omega
    · rw [if_neg h1]
      by_cases h2 : c.val = g.val + 1
      · rw [if_pos h2]
        refine (dif_pos (by simp only; omega)).trans (key _ _ _ _ (Fin.ext ?_) (Fin.ext ?_))
        · show 128 * (g.val + 1) + ρ.val - 128 * c.val = ρ.val; omega
        · show 128 * p.val + x.val - 128 * p'.val = x.val; omega
      · rw [if_neg h2]
        exact dif_neg (by simp only; omega)
  · rw [if_neg hp]
    exact dif_neg (by simp only; omega)

/-- The blocks' parts added up in the kernel's order: of the tile's key block `g` only the query blocks `g` and `g + 1`
    contribute. -/
theorem tower (X : Fin 9 → Fin 2 → Vec Ideal S256x128 .f32) (g : Fin 8) (p : Fin 2) (ρ : Fin 128) (x : Fin 128) :
    (0 + part (X 0 0) 0 0 (bufRow g ρ) (pairLane p x) + part (X 0 1) 0 1 (bufRow g ρ) (pairLane p x)
      + part (X 1 0) 1 0 (bufRow g ρ) (pairLane p x) + part (X 1 1) 1 1 (bufRow g ρ) (pairLane p x)
      + part (X 2 0) 2 0 (bufRow g ρ) (pairLane p x) + part (X 2 1) 2 1 (bufRow g ρ) (pairLane p x)
      + part (X 3 0) 3 0 (bufRow g ρ) (pairLane p x) + part (X 3 1) 3 1 (bufRow g ρ) (pairLane p x)
      + part (X 4 0) 4 0 (bufRow g ρ) (pairLane p x) + part (X 4 1) 4 1 (bufRow g ρ) (pairLane p x)
      + part (X 5 0) 5 0 (bufRow g ρ) (pairLane p x) + part (X 5 1) 5 1 (bufRow g ρ) (pairLane p x)
      + part (X 6 0) 6 0 (bufRow g ρ) (pairLane p x) + part (X 6 1) 6 1 (bufRow g ρ) (pairLane p x)
      + part (X 7 0) 7 0 (bufRow g ρ) (pairLane p x) + part (X 7 1) 7 1 (bufRow g ρ) (pairLane p x)
      + part (X 8 0) 8 0 (bufRow g ρ) (pairLane p x) + part (X 8 1) 8 1 (bufRow g ρ) (pairLane p x) : EReal)
      = X g.castSucc p (ix2 (upper ρ) x) + X g.succ p (ix2 (lower ρ) x) := by
  simp only [part_eq]
  fin_cases g <;> fin_cases p <;> simp <;> rfl

/-- A block of 128 rows stored on top of what is there. -/
theorem canon_block (X : Vec Ideal S128x128 .f32) (L : List (View.Piece (Elt Ideal) S1024x256 .f32)) (c : Fin 8) (p' : Fin 2)
    (g : Fin 8) (p : Fin 2) (ρ : Fin 128) (x : Fin 128) :
    View.canon ((⟨rectQ c p', X⟩ : View.Piece (Elt Ideal) S1024x256 .f32) :: L)
        (ix2 (⟨128 * g.val + ρ.val, by omega⟩ : Fin 1024) (pairLane p x))
      = if c.val = g.val ∧ p'.val = p.val then X (ix2 ρ x)
        else View.canon L (ix2 (⟨128 * g.val + ρ.val, by omega⟩ : Fin 1024) (pairLane p x)) := by
  have hx := x.isLt
  have hρ := ρ.isLt
  split
  · rename_i h
    have e1 : (rectQ c p').emb (ix2 ρ x) = ix2 (⟨128 * g.val + ρ.val, by omega⟩ : Fin 1024) (pairLane p x) := by
      funext k
      match k with
      | ⟨0, _⟩ => exact Fin.ext (by show 128 * c.val + 1 * ρ.val = 128 * g.val + ρ.val; omega)
      | ⟨1, _⟩ => exact Fin.ext (by show 128 * p'.val + 1 * x.val = 128 * p.val + x.val; omega)
    exact (congrArg (View.canon _) e1.symm).trans (View.canon_cons_emb (rectQ c p') X L _)
  · rename_i h
    refine View.canon_cons_of_not_mem _ L fun hm => h ?_
    obtain ⟨y, hy⟩ := LoadRect.exists_idx_of_mem _ hm
    have h0 : 128 * c.val + 1 * (y 0).val = 128 * g.val + ρ.val := congrArg (fun i : S1024x256.Idx => (i 0).val) hy
    have h1 : 128 * p'.val + 1 * (y 1).val = 128 * p.val + x.val := congrArg (fun i : S1024x256.Idx => (i 1).val) hy
    have hb0 : (y 0).val < 128 := (y 0).isLt
    have hb1 : (y 1).val < 128 := (y 1).isLt
    omega

end Cert.Kernel2Ideal.Attn

end
-- ==== Proof.AttnForms.lean ====
/- What the backward kernel's blocks read: the tile's queries, the queries after the tile, and the keys of a buffer that
   holds the block before the tile, the tile, and a block of zeros; and the gradients of a block in these terms. -/
module

public import proofs.«01_k».proof.Proof.AttnTower

@[expose] public section

noncomputable section

namespace Cert.Kernel2Ideal.Attn

open Cert.Kernel2Ideal Cert.Kernel2Ideal.Gen Idealize.ShloMosaic Idealize.SL.Sem Idealize.ShloMosaic.Bands

/-- Block `c` of a tile, in the lanes of the pair of heads `p`. -/
def tileBlk (x : Vec Ideal S1024x256 .f32) (c : Fin 8) (p : Fin 2) : Vec Ideal S128x128 .f32 :=
  fun i => x (ix2 (⟨128 * c.val + (i 0).val, by have := (i 0).isLt; have : (i 0).val < 128 := this; omega⟩ : Fin 1024)
    (⟨128 * p.val + (i 1).val, by have := (i 1).isLt; have : (i 1).val < 128 := this; omega⟩ : Fin 256))

/-- The block after the tile. -/
def nextBlk (x : Vec Ideal S128x256 .f32) (p : Fin 2) : Vec Ideal S128x128 .f32 :=
  fun i => x (ix2 (⟨(i 0).val, (i 0).isLt⟩ : Fin 128)
    (⟨128 * p.val + (i 1).val, by have := (i 1).isLt; have : (i 1).val < 128 := this; omega⟩ : Fin 256))

/-- The rows of a buffer that block `c` reads. -/
def bufBlk (f : Fin 1280 → Fin 256 → EReal) (c : Fin 9) (p : Fin 2) : Vec Ideal S256x128 .f32 :=
  fun i => f ⟨128 * c.val + (i 0).val, by have := (i 0).isLt; have : (i 0).val < 256 := this; omega⟩
    ⟨128 * p.val + (i 1).val, by have := (i 1).isLt; have : (i 1).val < 128 := this; omega⟩

/-- The keys' buffer at grid row `n`: the block before the tile (zero before the first tile), the tile, zeros. -/
def keyBuf (n : ℕ) (h : Vec Ideal S128x256 .f32) (x : Vec Ideal S1024x256 .f32) (r : Fin 1280) (l : Fin 256) : EReal :=
  if _ : 1152 ≤ r.val ∧ r.val - 1152 < 128 then 0
  else if h' : 128 ≤ r.val ∧ r.val - 128 < 1024 then x (ix2 ⟨r.val - 128, h'.2⟩ l)
  else if h' : r.val < 128 then if 0 < n then h (ix2 ⟨r.val, h'⟩ l) else 0
  else Classical.arbitrary _

theorem rdQ_eq {arg : Memref sig .tc .vmem S1024x256 .f32} (harg : arg.IsWhole) (x : Vec Ideal S1024x256 .f32) (c : Fin 8)
    (p : Fin 2) : rdQ harg x c p = tileBlk x c p := by
  unfold rdQ
  rw [View.readAt_eq_ld, Memref.IsWhole.read_unread]
  funext i
  refine congrArg x (funext fun a => ?_)
  match a with
  | ⟨0, _⟩ => exact Fin.ext (by show 128 * c.val + 1 * (i 0).val = 128 * c.val + (i 0).val; omega)
  | ⟨1, _⟩ => exact Fin.ext (by show 128 * p.val + 1 * (i 1).val = 128 * p.val + (i 1).val; omega)

theorem rdN_eq {arg : Memref sig .tc .vmem S128x256 .f32} (harg : arg.IsWhole) (x : Vec Ideal S128x256 .f32) (p : Fin 2) :
    rdN harg x p = nextBlk x p := by
  unfold rdN
  rw [View.readAt_eq_ld, Memref.IsWhole.read_unread]
  funext i
  refine congrArg x (funext fun a => ?_)
  match a with
  | ⟨0, _⟩ => exact Fin.ext (by show 0 + 1 * (i 0).val = (i 0).val; omega)
  | ⟨1, _⟩ => exact Fin.ext (by show 128 * p.val + 1 * (i 1).val = 128 * p.val + (i 1).val; omega)

theorem rdB_eq (arg : Memref sig .tc .vmem S1280x256 .f32) (L : List (View.Piece (Elt Ideal) S1280x256 .f32))
    (f : Fin 1280 → Fin 256 → EReal) (hf : ∀ r l, View.canon L (ix2 r l) = f r l) (c : Fin 9) (p : Fin 2) :
    rdB arg L c p = bufBlk f c p := by
  unfold rdB
  rw [View.readCov_eq_canon']
  funext i
  have hi0 : (i 0).val < 256 := (i 0).isLt
  have hi1 : (i 1).val < 128 := (i 1).isLt
  refine Eq.trans ?_ (hf ⟨128 * c.val + (i 0).val, by omega⟩ ⟨128 * p.val + (i 1).val, by omega⟩)
  refine congrArg (View.canon L) (funext fun a => ?_)
  match a with
  | ⟨0, _⟩ => exact Fin.ext (by show 128 * c.val + 1 * (i 0).val = 128 * c.val + (i 0).val; omega)
  | ⟨1, _⟩ => exact Fin.ext (by show 128 * p.val + 1 * (i 1).val = 128 * p.val + (i 1).val; omega)

/-- The comparison "this is not the first grid row", on the grid's words. -/
theorem notFirst (k : Fin 8) : (Scalar.cmpi .sgt (BitVec.ofNat 32 k.val) 0#32 = (1 : BitVec 1)) ↔ 0 < k.val := by
  revert k; decide

/-- Reading the buffer below its first 128 rows. -/
theorem ld_tile (arg : Memref sig .tc .vmem S1280x256 .f32) (L : List (View.Piece (Elt Ideal) S1280x256 .f32))
    (inb : ∀ k, (![128, 0] : Fin 2 → Nat) k + (![1024, 256] : Fin 2 → Nat) k ≤ S1280x256.size k)
    (g : Fin 8) (ρ : Fin 128) (l : Fin 256) :
    arg.view.readCov L (Rect.unit (s := S1280x256) ![128, 0] ![1024, 256] inb).toLoadRect
        (ix2 (⟨128 * g.val + ρ.val, by omega⟩ : Fin 1024) l)
      = View.canon L (ix2 (bufRow g ρ) l) := by
  rw [View.readCov_eq_canon']
  refine congrArg (View.canon L) (funext fun a => ?_)
  match a with
  | ⟨0, _⟩ => exact Fin.ext (by show 128 + 1 * (128 * g.val + ρ.val) = 128 * (g.val + 1) + ρ.val; omega)
  | ⟨1, _⟩ => exact Fin.ext (by show 0 + 1 * l.val = l.val; omega)

variable (n : ℕ) (x0 : Vec Ideal S1024x256 .f32) (x1 : Vec Ideal S128x256 .f32) (x2 : Vec Ideal S1024x256 .f32) (x3 : Vec Ideal S128x256 .f32) (x4 : Vec Ideal S1024x256 .f32) (x5 : Vec Ideal S128x256 .f32) (x6 : Vec Ideal S1024x256 .f32) (x7 : Vec Ideal S128x256 .f32) (x8 : Vec Ideal S1024x256 .f32) (x9 : Vec Ideal S128x256 .f32) (x10 : Vec Ideal S1024x256 .f32) (x11 : Vec Ideal S128x256 .f32)

/-- The queries' gradient of the tile's block `g`. -/
def tileDq (g : Fin 8) (p : Fin 2) : Vec Ideal S128x128 .f32 :=
  dqV (maskV n (BitVec.ofNat 32 g.val)) (tileBlk x0 g p) (tileBlk x2 g p) (bufBlk (keyBuf n x9 x8) g.castSucc p)
    (bufBlk (keyBuf n x11 x10) g.castSucc p) (tileBlk x4 g p) (tileBlk x6 g p)

/-- The keys' gradient of the tile's block `c`, or for `c = 8` of the block after the tile. -/
def tileDk (c : Fin 9) (p : Fin 2) : Vec Ideal S256x128 .f32 :=
  if h : c.val < 8 then
    dkV (maskV n (BitVec.ofNat 32 c.val)) (tileBlk x0 ⟨c.val, h⟩ p) (tileBlk x2 ⟨c.val, h⟩ p) (bufBlk (keyBuf n x9 x8) c p)
      (bufBlk (keyBuf n x11 x10) c p) (tileBlk x4 ⟨c.val, h⟩ p) (tileBlk x6 ⟨c.val, h⟩ p)
  else
    dkV maskNextV (nextBlk x1 p) (nextBlk x3 p) (bufBlk (keyBuf n x9 x8) c p)
      (bufBlk (keyBuf n x11 x10) c p) (nextBlk x5 p) (nextBlk x7 p)

/-- The values' gradient of the tile's block `c`, or for `c = 8` of the block after the tile. -/
def tileDv (c : Fin 9) (p : Fin 2) : Vec Ideal S256x128 .f32 :=
  if h : c.val < 8 then
    dvV (maskV n (BitVec.ofNat 32 c.val)) (tileBlk x0 ⟨c.val, h⟩ p) (tileBlk x2 ⟨c.val, h⟩ p) (bufBlk (keyBuf n x9 x8) c p)
      (tileBlk x4 ⟨c.val, h⟩ p)
  else
    dvV maskNextV (nextBlk x1 p) (nextBlk x3 p) (bufBlk (keyBuf n x9 x8) c p) (nextBlk x5 p)

/-- The same for the last tile, which has no block after it. -/
def lastOnly (X : Fin 9 → Fin 2 → Vec Ideal S256x128 .f32) (c : Fin 9) (p : Fin 2) : Vec Ideal S256x128 .f32 :=
  if c.val < 8 then X c p else fun _ => (0 : EReal)

theorem part_zero (c : Fin 9) (p : Fin 2) (r : Fin 1280) (l : Fin 256) : part (fun _ => (0 : EReal)) c p r l = 0 := by
  unfold part
  split <;> rfl

end Cert.Kernel2Ideal.Attn

end
-- ==== Proof.AttnRunA.lean ====
/- What the stores of the backward kernel's body leave in its two accumulators, one store at a time, at the grid points before the last row. -/
module

public import proofs.«01_k».proof.Proof.AttnSlots
public import proofs.«01_k».proof.Proof.Gen.Kernel2Ideal.Frame.RunA

@[expose] public section

noncomputable section

namespace Cert.Kernel2Ideal.Attn

open Cert.Kernel2Ideal Cert.Kernel2Ideal.Gen Idealize.ShloMosaic Idealize.SL.Sem

variable {F : FTy → Type} [FloatOps F] [Named F]

variable (c : Dev nD) (i : grid0.Coords) {arg2 : Memref sig .tc .vmem S1024x256 .f32} {harg2 : arg2.IsWhole} {arg3 : Memref sig .tc .vmem S128x256 .f32} {harg3 : arg3.IsWhole} {arg4 : Memref sig .tc .vmem S1024x256 .f32} {harg4 : arg4.IsWhole} {arg5 : Memref sig .tc .vmem S128x256 .f32} {harg5 : arg5.IsWhole} {arg6 : Memref sig .tc .vmem S1024x256 .f32} {harg6 : arg6.IsWhole} {arg7 : Memref sig .tc .vmem S128x256 .f32} {harg7 : arg7.IsWhole} {arg8 : Memref sig .tc .vmem S1024x256 .f32} {harg8 : arg8.IsWhole} {arg9 : Memref sig .tc .vmem S128x256 .f32} {harg9 : arg9.IsWhole} {arg10 : Memref sig .tc .vmem S1024x256 .f32} {harg10 : arg10.IsWhole} {arg11 : Memref sig .tc .vmem S128x256 .f32} {harg11 : arg11.IsWhole} {arg12 : Memref sig .tc .vmem S1024x256 .f32} {harg12 : arg12.IsWhole} {arg13 : Memref sig .tc .vmem S128x256 .f32} {harg13 : arg13.IsWhole} {arg14 : Memref sig .tc .vmem S1024x256 .f32} {harg14 : arg14.IsWhole} {arg15 : Memref sig .tc .vmem S1024x256 .f32} {harg15 : arg15.IsWhole} {arg16 : Memref sig .tc .vmem S1024x256 .f32} {harg16 : arg16.IsWhole} {arg17 : Memref sig .tc .vmem S1280x256 .f32} {harg17 : arg17.IsWhole} {arg18 : Memref sig .tc .vmem S1280x256 .f32} {harg18 : arg18.IsWhole} {arg19 : Memref sig .tc .vmem S1280x256 .f32} {harg19 : arg19.IsWhole} {arg20 : Memref sig .tc .vmem S1280x256 .f32} {harg20 : arg20.IsWhole}
  (x0 : Vec F S1024x256 .f32) (x1 : Vec F S128x256 .f32) (x2 : Vec F S1024x256 .f32) (x3 : Vec F S128x256 .f32) (x4 : Vec F S1024x256 .f32) (x5 : Vec F S128x256 .f32) (x6 : Vec F S1024x256 .f32) (x7 : Vec F S128x256 .f32) (x8 : Vec F S1024x256 .f32) (x9 : Vec F S128x256 .f32) (x10 : Vec F S1024x256 .f32) (x11 : Vec F S128x256 .f32)

theorem dk2_A : (kernelRun0_A.sl.HS2_2 c i arg2 harg2 arg4 harg4 arg6 harg6 arg8 harg8 arg10 harg10 arg11 harg11 arg12 harg12 arg13 harg13 arg17 arg18 arg19 x0 x2 x4 x6 x8 x9 x10 x11)
    = ⟨rectB 0 0, plusV (rdB arg19 (kernelRun0_A.sl.HS2_1 (F := F)) 0 0) (dkV (maskV (i 0).val 0#32) (rdQ harg2 x0 0 0) (rdQ harg4 x2 0 0)
        (rdB arg17 (kernelRun0_A.sl.HS0_3 c i arg10 harg10 arg11 harg11 x8 x9) 0 0)
        (rdB arg18 (kernelRun0_A.sl.HS1_3 c i arg12 harg12 arg13 harg13 x10 x11) 0 0)
        (rdQ harg6 x4 0 0) (rdQ harg8 x6 0 0))⟩
      :: (kernelRun0_A.sl.HS2_1 (F := F)) := rfl

theorem dk3_A : (kernelRun0_A.sl.HS2_3 c i arg2 harg2 arg4 harg4 arg6 harg6 arg8 harg8 arg10 harg10 arg11 harg11 arg12 harg12 arg13 harg13 arg17 arg18 arg19 x0 x2 x4 x6 x8 x9 x10 x11)
    = ⟨rectB 0 1, plusV (rdB arg19 (kernelRun0_A.sl.HS2_2 c i arg2 harg2 arg4 harg4 arg6 harg6 arg8 harg8 arg10 harg10 arg11 harg11 arg12 harg12 arg13 harg13 arg17 arg18 arg19 x0 x2 x4 x6 x8 x9 x10 x11) 0 1) (dkV (maskV (i 0).val 0#32) (rdQ harg2 x0 0 1) (rdQ harg4 x2 0 1)
        (rdB arg17 (kernelRun0_A.sl.HS0_3 c i arg10 harg10 arg11 harg11 x8 x9) 0 1)
        (rdB arg18 (kernelRun0_A.sl.HS1_3 c i arg12 harg12 arg13 harg13 x10 x11) 0 1)
        (rdQ harg6 x4 0 1) (rdQ harg8 x6 0 1))⟩
      :: (kernelRun0_A.sl.HS2_2 c i arg2 harg2 arg4 harg4 arg6 harg6 arg8 harg8 arg10 harg10 arg11 harg11 arg12 harg12 arg13 harg13 arg17 arg18 arg19 x0 x2 x4 x6 x8 x9 x10 x11) := rfl

theorem dk4_A : (kernelRun0_A.sl.HS2_4 c i arg2 harg2 arg4 harg4 arg6 harg6 arg8 harg8 arg10 harg10 arg11 harg11 arg12 harg12 arg13 harg13 arg17 arg18 arg19 x0 x2 x4 x6 x8 x9 x10 x11)
    = ⟨rectB 1 0, plusV (rdB arg19 (kernelRun0_A.sl.HS2_3 c i arg2 harg2 arg4 harg4 arg6 harg6 arg8 harg8 arg10 harg10 arg11 harg11 arg12 harg12 arg13 harg13 arg17 arg18 arg19 x0 x2 x4 x6 x8 x9 x10 x11) 1 0) (dkV (maskV (i 0).val 1#32) (rdQ harg2 x0 1 0) (rdQ harg4 x2 1 0)
        (rdB arg17 (kernelRun0_A.sl.HS0_3 c i arg10 harg10 arg11 harg11 x8 x9) 1 0)
        (rdB arg18 (kernelRun0_A.sl.HS1_3 c i arg12 harg12 arg13 harg13 x10 x11) 1 0)
        (rdQ harg6 x4 1 0) (rdQ harg8 x6 1 0))⟩
      :: (kernelRun0_A.sl.HS2_3 c i arg2 harg2 arg4 harg4 arg6 harg6 arg8 harg8 arg10 harg10 arg11 harg11 arg12 harg12 arg13 harg13 arg17 arg18 arg19 x0 x2 x4 x6 x8 x9 x10 x11) := rfl

theorem dk5_A : (kernelRun0_A.sl.HS2_5 c i arg2 harg2 arg4 harg4 arg6 harg6 arg8 harg8 arg10 harg10 arg11 harg11 arg12 harg12 arg13 harg13 arg17 arg18 arg19 x0 x2 x4 x6 x8 x9 x10 x11)
    = ⟨rectB 1 1, plusV (rdB arg19 (kernelRun0_A.sl.HS2_4 c i arg2 harg2 arg4 harg4 arg6 harg6 arg8 harg8 arg10 harg10 arg11 harg11 arg12 harg12 arg13 harg13 arg17 arg18 arg19 x0 x2 x4 x6 x8 x9 x10 x11) 1 1) (dkV (maskV (i 0).val 1#32) (rdQ harg2 x0 1 1) (rdQ harg4 x2 1 1)
        (rdB arg17 (kernelRun0_A.sl.HS0_3 c i arg10 harg10 arg11 harg11 x8 x9) 1 1)
        (rdB arg18 (kernelRun0_A.sl.HS1_3 c i arg12 harg12 arg13 harg13 x10 x11) 1 1)
        (rdQ harg6 x4 1 1) (rdQ harg8 x6 1 1))⟩
      :: (kernelRun0_A.sl.HS2_4 c i arg2 harg2 arg4 harg4 arg6 harg6 arg8 harg8 arg10 harg10 arg11 harg11 arg12 harg12 arg13 harg13 arg17 arg18 arg19 x0 x2 x4 x6 x8 x9 x10 x11) := rfl

theorem dk6_A : (kernelRun0_A.sl.HS2_6 c i arg2 harg2 arg4 harg4 arg6 harg6 arg8 harg8 arg10 harg10 arg11 harg11 arg12 harg12 arg13 harg13 arg17 arg18 arg19 x0 x2 x4 x6 x8 x9 x10 x11)
    = ⟨rectB 2 0, plusV (rdB arg19 (kernelRun0_A.sl.HS2_5 c i arg2 harg2 arg4 harg4 arg6 harg6 arg8 harg8 arg10 harg10 arg11 harg11 arg12 harg12 arg13 harg13 arg17 arg18 arg19 x0 x2 x4 x6 x8 x9 x10 x11) 2 0) (dkV (maskV (i 0).val 2#32) (rdQ harg2 x0 2 0) (rdQ harg4 x2 2 0)
        (rdB arg17 (kernelRun0_A.sl.HS0_3 c i arg10 harg10 arg11 harg11 x8 x9) 2 0)
        (rdB arg18 (kernelRun0_A.sl.HS1_3 c i arg12 harg12 arg13 harg13 x10 x11) 2 0)
        (rdQ harg6 x4 2 0) (rdQ harg8 x6 2 0))⟩
      :: (kernelRun0_A.sl.HS2_5 c i arg2 harg2 arg4 harg4 arg6 harg6 arg8 harg8 arg10 harg10 arg11 harg11 arg12 harg12 arg13 harg13 arg17 arg18 arg19 x0 x2 x4 x6 x8 x9 x10 x11) := rfl

theorem dk7_A : (kernelRun0_A.sl.HS2_7 c i arg2 harg2 arg4 harg4 arg6 harg6 arg8 harg8 arg10 harg10 arg11 harg11 arg12 harg12 arg13 harg13 arg17 arg18 arg19 x0 x2 x4 x6 x8 x9 x10 x11)
    = ⟨rectB 2 1, plusV (rdB arg19 (kernelRun0_A.sl.HS2_6 c i arg2 harg2 arg4 harg4 arg6 harg6 arg8 harg8 arg10 harg10 arg11 harg11 arg12 harg12 arg13 harg13 arg17 arg18 arg19 x0 x2 x4 x6 x8 x9 x10 x11) 2 1) (dkV (maskV (i 0).val 2#32) (rdQ harg2 x0 2 1) (rdQ harg4 x2 2 1)
        (rdB arg17 (kernelRun0_A.sl.HS0_3 c i arg10 harg10 arg11 harg11 x8 x9) 2 1)
        (rdB arg18 (kernelRun0_A.sl.HS1_3 c i arg12 harg12 arg13 harg13 x10 x11) 2 1)
        (rdQ harg6 x4 2 1) (rdQ harg8 x6 2 1))⟩
      :: (kernelRun0_A.sl.HS2_6 c i arg2 harg2 arg4 harg4 arg6 harg6 arg8 harg8 arg10 harg10 arg11 harg11 arg12 harg12 arg13 harg13 arg17 arg18 arg19 x0 x2 x4 x6 x8 x9 x10 x11) := rfl

theorem dk8_A : (kernelRun0_A.sl.HS2_8 c i arg2 harg2 arg4 harg4 arg6 harg6 arg8 harg8 arg10 harg10 arg11 harg11 arg12 harg12 arg13 harg13 arg17 arg18 arg19 x0 x2 x4 x6 x8 x9 x10 x11)
    = ⟨rectB 3 0, plusV (rdB arg19 (kernelRun0_A.sl.HS2_7 c i arg2 harg2 arg4 harg4 arg6 harg6 arg8 harg8 arg10 harg10 arg11 harg11 arg12 harg12 arg13 harg13 arg17 arg18 arg19 x0 x2 x4 x6 x8 x9 x10 x11) 3 0) (dkV (maskV (i 0).val 3#32) (rdQ harg2 x0 3 0) (rdQ harg4 x2 3 0)
        (rdB arg17 (kernelRun0_A.sl.HS0_3 c i arg10 harg10 arg11 harg11 x8 x9) 3 0)
        (rdB arg18 (kernelRun0_A.sl.HS1_3 c i arg12 harg12 arg13 harg13 x10 x11) 3 0)
        (rdQ harg6 x4 3 0) (rdQ harg8 x6 3 0))⟩
      :: (kernelRun0_A.sl.HS2_7 c i arg2 harg2 arg4 harg4 arg6 harg6 arg8 harg8 arg10 harg10 arg11 harg11 arg12 harg12 arg13 harg13 arg17 arg18 arg19 x0 x2 x4 x6 x8 x9 x10 x11) := rfl

theorem dk9_A : (kernelRun0_A.sl.HS2_9 c i arg2 harg2 arg4 harg4 arg6 harg6 arg8 harg8 arg10 harg10 arg11 harg11 arg12 harg12 arg13 harg13 arg17 arg18 arg19 x0 x2 x4 x6 x8 x9 x10 x11)
    = ⟨rectB 3 1, plusV (rdB arg19 (kernelRun0_A.sl.HS2_8 c i arg2 harg2 arg4 harg4 arg6 harg6 arg8 harg8 arg10 harg10 arg11 harg11 arg12 harg12 arg13 harg13 arg17 arg18 arg19 x0 x2 x4 x6 x8 x9 x10 x11) 3 1) (dkV (maskV (i 0).val 3#32) (rdQ harg2 x0 3 1) (rdQ harg4 x2 3 1)
        (rdB arg17 (kernelRun0_A.sl.HS0_3 c i arg10 harg10 arg11 harg11 x8 x9) 3 1)
        (rdB arg18 (kernelRun0_A.sl.HS1_3 c i arg12 harg12 arg13 harg13 x10 x11) 3 1)
        (rdQ harg6 x4 3 1) (rdQ harg8 x6 3 1))⟩
      :: (kernelRun0_A.sl.HS2_8 c i arg2 harg2 arg4 harg4 arg6 harg6 arg8 harg8 arg10 harg10 arg11 harg11 arg12 harg12 arg13 harg13 arg17 arg18 arg19 x0 x2 x4 x6 x8 x9 x10 x11) := rfl

theorem dk10_A : (kernelRun0_A.sl.HS2_10 c i arg2 harg2 arg4 harg4 arg6 harg6 arg8 harg8 arg10 harg10 arg11 harg11 arg12 harg12 arg13 harg13 arg17 arg18 arg19 x0 x2 x4 x6 x8 x9 x10 x11)
    = ⟨rectB 4 0, plusV (rdB arg19 (kernelRun0_A.sl.HS2_9 c i arg2 harg2 arg4 harg4 arg6 harg6 arg8 harg8 arg10 harg10 arg11 harg11 arg12 harg12 arg13 harg13 arg17 arg18 arg19 x0 x2 x4 x6 x8 x9 x10 x11) 4 0) (dkV (maskV (i 0).val 4#32) (rdQ harg2 x0 4 0) (rdQ harg4 x2 4 0)
        (rdB arg17 (kernelRun0_A.sl.HS0_3 c i arg10 harg10 arg11 harg11 x8 x9) 4 0)
        (rdB arg18 (kernelRun0_A.sl.HS1_3 c i arg12 harg12 arg13 harg13 x10 x11) 4 0)
        (rdQ harg6 x4 4 0) (rdQ harg8 x6 4 0))⟩
      :: (kernelRun0_A.sl.HS2_9 c i arg2 harg2 arg4 harg4 arg6 harg6 arg8 harg8 arg10 harg10 arg11 harg11 arg12 harg12 arg13 harg13 arg17 arg18 arg19 x0 x2 x4 x6 x8 x9 x10 x11) := rfl

theorem dk11_A : (kernelRun0_A.sl.HS2_11 c i arg2 harg2 arg4 harg4 arg6 harg6 arg8 harg8 arg10 harg10 arg11 harg11 arg12 harg12 arg13 harg13 arg17 arg18 arg19 x0 x2 x4 x6 x8 x9 x10 x11)
    = ⟨rectB 4 1, plusV (rdB arg19 (kernelRun0_A.sl.HS2_10 c i arg2 harg2 arg4 harg4 arg6 harg6 arg8 harg8 arg10 harg10 arg11 harg11 arg12 harg12 arg13 harg13 arg17 arg18 arg19 x0 x2 x4 x6 x8 x9 x10 x11) 4 1) (dkV (maskV (i 0).val 4#32) (rdQ harg2 x0 4 1) (rdQ harg4 x2 4 1)
        (rdB arg17 (kernelRun0_A.sl.HS0_3 c i arg10 harg10 arg11 harg11 x8 x9) 4 1)
        (rdB arg18 (kernelRun0_A.sl.HS1_3 c i arg12 harg12 arg13 harg13 x10 x11) 4 1)
        (rdQ harg6 x4 4 1) (rdQ harg8 x6 4 1))⟩
      :: (kernelRun0_A.sl.HS2_10 c i arg2 harg2 arg4 harg4 arg6 harg6 arg8 harg8 arg10 harg10 arg11 harg11 arg12 harg12 arg13 harg13 arg17 arg18 arg19 x0 x2 x4 x6 x8 x9 x10 x11) := rfl

theorem dk12_A : (kernelRun0_A.sl.HS2_12 c i arg2 harg2 arg4 harg4 arg6 harg6 arg8 harg8 arg10 harg10 arg11 harg11 arg12 harg12 arg13 harg13 arg17 arg18 arg19 x0 x2 x4 x6 x8 x9 x10 x11)
    = ⟨rectB 5 0, plusV (rdB arg19 (kernelRun0_A.sl.HS2_11 c i arg2 harg2 arg4 harg4 arg6 harg6 arg8 harg8 arg10 harg10 arg11 harg11 arg12 harg12 arg13 harg13 arg17 arg18 arg19 x0 x2 x4 x6 x8 x9 x10 x11) 5 0) (dkV (maskV (i 0).val 5#32) (rdQ harg2 x0 5 0) (rdQ harg4 x2 5 0)
        (rdB arg17 (kernelRun0_A.sl.HS0_3 c i arg10 harg10 arg11 harg11 x8 x9) 5 0)
        (rdB arg18 (kernelRun0_A.sl.HS1_3 c i arg12 harg12 arg13 harg13 x10 x11) 5 0)
        (rdQ harg6 x4 5 0) (rdQ harg8 x6 5 0))⟩
      :: (kernelRun0_A.sl.HS2_11 c i arg2 harg2 arg4 harg4 arg6 harg6 arg8 harg8 arg10 harg10 arg11 harg11 arg12 harg12 arg13 harg13 arg17 arg18 arg19 x0 x2 x4 x6 x8 x9 x10 x11) := rfl

theorem dk13_A : (kernelRun0_A.sl.HS2_13 c i arg2 harg2 arg4 harg4 arg6 harg6 arg8 harg8 arg10 harg10 arg11 harg11 arg12 harg12 arg13 harg13 arg17 arg18 arg19 x0 x2 x4 x6 x8 x9 x10 x11)
    = ⟨rectB 5 1, plusV (rdB arg19 (kernelRun0_A.sl.HS2_12 c i arg2 harg2 arg4 harg4 arg6 harg6 arg8 harg8 arg10 harg10 arg11 harg11 arg12 harg12 arg13 harg13 arg17 arg18 arg19 x0 x2 x4 x6 x8 x9 x10 x11) 5 1) (dkV (maskV (i 0).val 5#32) (rdQ harg2 x0 5 1) (rdQ harg4 x2 5 1)
        (rdB arg17 (kernelRun0_A.sl.HS0_3 c i arg10 harg10 arg11 harg11 x8 x9) 5 1)
        (rdB arg18 (kernelRun0_A.sl.HS1_3 c i arg12 harg12 arg13 harg13 x10 x11) 5 1)
        (rdQ harg6 x4 5 1) (rdQ harg8 x6 5 1))⟩
      :: (kernelRun0_A.sl.HS2_12 c i arg2 harg2 arg4 harg4 arg6 harg6 arg8 harg8 arg10 harg10 arg11 harg11 arg12 harg12 arg13 harg13 arg17 arg18 arg19 x0 x2 x4 x6 x8 x9 x10 x11) := rfl

theorem dk14_A : (kernelRun0_A.sl.HS2_14 c i arg2 harg2 arg4 harg4 arg6 harg6 arg8 harg8 arg10 harg10 arg11 harg11 arg12 harg12 arg13 harg13 arg17 arg18 arg19 x0 x2 x4 x6 x8 x9 x10 x11)
    = ⟨rectB 6 0, plusV (rdB arg19 (kernelRun0_A.sl.HS2_13 c i arg2 harg2 arg4 harg4 arg6 harg6 arg8 harg8 arg10 harg10 arg11 harg11 arg12 harg12 arg13 harg13 arg17 arg18 arg19 x0 x2 x4 x6 x8 x9 x10 x11) 6 0) (dkV (maskV (i 0).val 6#32) (rdQ harg2 x0 6 0) (rdQ harg4 x2 6 0)
        (rdB arg17 (kernelRun0_A.sl.HS0_3 c i arg10 harg10 arg11 harg11 x8 x9) 6 0)
        (rdB arg18 (kernelRun0_A.sl.HS1_3 c i arg12 harg12 arg13 harg13 x10 x11) 6 0)
        (rdQ harg6 x4 6 0) (rdQ harg8 x6 6 0))⟩
      :: (kernelRun0_A.sl.HS2_13 c i arg2 harg2 arg4 harg4 arg6 harg6 arg8 harg8 arg10 harg10 arg11 harg11 arg12 harg12 arg13 harg13 arg17 arg18 arg19 x0 x2 x4 x6 x8 x9 x10 x11) := rfl

theorem dk15_A : (kernelRun0_A.sl.HS2_15 c i arg2 harg2 arg4 harg4 arg6 harg6 arg8 harg8 arg10 harg10 arg11 harg11 arg12 harg12 arg13 harg13 arg17 arg18 arg19 x0 x2 x4 x6 x8 x9 x10 x11)
    = ⟨rectB 6 1, plusV (rdB arg19 (kernelRun0_A.sl.HS2_14 c i arg2 harg2 arg4 harg4 arg6 harg6 arg8 harg8 arg10 harg10 arg11 harg11 arg12 harg12 arg13 harg13 arg17 arg18 arg19 x0 x2 x4 x6 x8 x9 x10 x11) 6 1) (dkV (maskV (i 0).val 6#32) (rdQ harg2 x0 6 1) (rdQ harg4 x2 6 1)
        (rdB arg17 (kernelRun0_A.sl.HS0_3 c i arg10 harg10 arg11 harg11 x8 x9) 6 1)
        (rdB arg18 (kernelRun0_A.sl.HS1_3 c i arg12 harg12 arg13 harg13 x10 x11) 6 1)
        (rdQ harg6 x4 6 1) (rdQ harg8 x6 6 1))⟩
      :: (kernelRun0_A.sl.HS2_14 c i arg2 harg2 arg4 harg4 arg6 harg6 arg8 harg8 arg10 harg10 arg11 harg11 arg12 harg12 arg13 harg13 arg17 arg18 arg19 x0 x2 x4 x6 x8 x9 x10 x11) := rfl

theorem dk16_A : (kernelRun0_A.sl.HS2_16 c i arg2 harg2 arg4 harg4 arg6 harg6 arg8 harg8 arg10 harg10 arg11 harg11 arg12 harg12 arg13 harg13 arg17 arg18 arg19 x0 x2 x4 x6 x8 x9 x10 x11)
    = ⟨rectB 7 0, plusV (rdB arg19 (kernelRun0_A.sl.HS2_15 c i arg2 harg2 arg4 harg4 arg6 harg6 arg8 harg8 arg10 harg10 arg11 harg11 arg12 harg12 arg13 harg13 arg17 arg18 arg19 x0 x2 x4 x6 x8 x9 x10 x11) 7 0) (dkV (maskV (i 0).val 7#32) (rdQ harg2 x0 7 0) (rdQ harg4 x2 7 0)
        (rdB arg17 (kernelRun0_A.sl.HS0_3 c i arg10 harg10 arg11 harg11 x8 x9) 7 0)
        (rdB arg18 (kernelRun0_A.sl.HS1_3 c i arg12 harg12 arg13 harg13 x10 x11) 7 0)
        (rdQ harg6 x4 7 0) (rdQ harg8 x6 7 0))⟩
      :: (kernelRun0_A.sl.HS2_15 c i arg2 harg2 arg4 harg4 arg6 harg6 arg8 harg8 arg10 harg10 arg11 harg11 arg12 harg12 arg13 harg13 arg17 arg18 arg19 x0 x2 x4 x6 x8 x9 x10 x11) := rfl

theorem dk17_A : (kernelRun0_A.sl.HS2_17 c i arg2 harg2 arg4 harg4 arg6 harg6 arg8 harg8 arg10 harg10 arg11 harg11 arg12 harg12 arg13 harg13 arg17 arg18 arg19 x0 x2 x4 x6 x8 x9 x10 x11)
    = ⟨rectB 7 1, plusV (rdB arg19 (kernelRun0_A.sl.HS2_16 c i arg2 harg2 arg4 harg4 arg6 harg6 arg8 harg8 arg10 harg10 arg11 harg11 arg12 harg12 arg13 harg13 arg17 arg18 arg19 x0 x2 x4 x6 x8 x9 x10 x11) 7 1) (dkV (maskV (i 0).val 7#32) (rdQ harg2 x0 7 1) (rdQ harg4 x2 7 1)
        (rdB arg17 (kernelRun0_A.sl.HS0_3 c i arg10 harg10 arg11 harg11 x8 x9) 7 1)
        (rdB arg18 (kernelRun0_A.sl.HS1_3 c i arg12 harg12 arg13 harg13 x10 x11) 7 1)
        (rdQ harg6 x4 7 1) (rdQ harg8 x6 7 1))⟩
      :: (kernelRun0_A.sl.HS2_16 c i arg2 harg2 arg4 harg4 arg6 harg6 arg8 harg8 arg10 harg10 arg11 harg11 arg12 harg12 arg13 harg13 arg17 arg18 arg19 x0 x2 x4 x6 x8 x9 x10 x11) := rfl

theorem dk18_A : (kernelRun0_A.sl.HS2_18 c i arg2 harg2 arg3 harg3 arg4 harg4 arg5 harg5 arg6 harg6 arg7 harg7 arg8 harg8 arg9 harg9 arg10 harg10 arg11 harg11 arg12 harg12 arg13 harg13 arg17 arg18 arg19 x0 x1 x2 x3 x4 x5 x6 x7 x8 x9 x10 x11)
    = ⟨rectB 8 0, plusV (rdB arg19 (kernelRun0_A.sl.HS2_17 c i arg2 harg2 arg4 harg4 arg6 harg6 arg8 harg8 arg10 harg10 arg11 harg11 arg12 harg12 arg13 harg13 arg17 arg18 arg19 x0 x2 x4 x6 x8 x9 x10 x11) 8 0) (dkV maskNextV (rdN harg3 x1 0) (rdN harg5 x3 0)
        (rdB arg17 (kernelRun0_A.sl.HS0_3 c i arg10 harg10 arg11 harg11 x8 x9) 8 0)
        (rdB arg18 (kernelRun0_A.sl.HS1_3 c i arg12 harg12 arg13 harg13 x10 x11) 8 0)
        (rdN harg7 x5 0) (rdN harg9 x7 0))⟩
      :: (kernelRun0_A.sl.HS2_17 c i arg2 harg2 arg4 harg4 arg6 harg6 arg8 harg8 arg10 harg10 arg11 harg11 arg12 harg12 arg13 harg13 arg17 arg18 arg19 x0 x2 x4 x6 x8 x9 x10 x11) := rfl

theorem dk19_A : (kernelRun0_A.sl.HS2_19 c i arg2 harg2 arg3 harg3 arg4 harg4 arg5 harg5 arg6 harg6 arg7 harg7 arg8 harg8 arg9 harg9 arg10 harg10 arg11 harg11 arg12 harg12 arg13 harg13 arg17 arg18 arg19 x0 x1 x2 x3 x4 x5 x6 x7 x8 x9 x10 x11)
    = ⟨rectB 8 1, plusV (rdB arg19 (kernelRun0_A.sl.HS2_18 c i arg2 harg2 arg3 harg3 arg4 harg4 arg5 harg5 arg6 harg6 arg7 harg7 arg8 harg8 arg9 harg9 arg10 harg10 arg11 harg11 arg12 harg12 arg13 harg13 arg17 arg18 arg19 x0 x1 x2 x3 x4 x5 x6 x7 x8 x9 x10 x11) 8 1) (dkV maskNextV (rdN harg3 x1 1) (rdN harg5 x3 1)
        (rdB arg17 (kernelRun0_A.sl.HS0_3 c i arg10 harg10 arg11 harg11 x8 x9) 8 1)
        (rdB arg18 (kernelRun0_A.sl.HS1_3 c i arg12 harg12 arg13 harg13 x10 x11) 8 1)
        (rdN harg7 x5 1) (rdN harg9 x7 1))⟩
      :: (kernelRun0_A.sl.HS2_18 c i arg2 harg2 arg3 harg3 arg4 harg4 arg5 harg5 arg6 harg6 arg7 harg7 arg8 harg8 arg9 harg9 arg10 harg10 arg11 harg11 arg12 harg12 arg13 harg13 arg17 arg18 arg19 x0 x1 x2 x3 x4 x5 x6 x7 x8 x9 x10 x11) := rfl

theorem dv2_A : (kernelRun0_A.sl.HS3_2 c i arg2 harg2 arg4 harg4 arg6 harg6 arg10 harg10 arg11 harg11 arg17 arg20 x0 x2 x4 x8 x9)
    = ⟨rectB 0 0, plusV (rdB arg20 (kernelRun0_A.sl.HS2_1 (F := F)) 0 0) (dvV (maskV (i 0).val 0#32) (rdQ harg2 x0 0 0) (rdQ harg4 x2 0 0)
        (rdB arg17 (kernelRun0_A.sl.HS0_3 c i arg10 harg10 arg11 harg11 x8 x9) 0 0)
        (rdQ harg6 x4 0 0))⟩
      :: (kernelRun0_A.sl.HS2_1 (F := F)) := rfl

theorem dv3_A : (kernelRun0_A.sl.HS3_3 c i arg2 harg2 arg4 harg4 arg6 harg6 arg10 harg10 arg11 harg11 arg17 arg20 x0 x2 x4 x8 x9)
    = ⟨rectB 0 1, plusV (rdB arg20 (kernelRun0_A.sl.HS3_2 c i arg2 harg2 arg4 harg4 arg6 harg6 arg10 harg10 arg11 harg11 arg17 arg20 x0 x2 x4 x8 x9) 0 1) (dvV (maskV (i 0).val 0#32) (rdQ harg2 x0 0 1) (rdQ harg4 x2 0 1)
        (rdB arg17 (kernelRun0_A.sl.HS0_3 c i arg10 harg10 arg11 harg11 x8 x9) 0 1)
        (rdQ harg6 x4 0 1))⟩
      :: (kernelRun0_A.sl.HS3_2 c i arg2 harg2 arg4 harg4 arg6 harg6 arg10 harg10 arg11 harg11 arg17 arg20 x0 x2 x4 x8 x9) := rfl

theorem dv4_A : (kernelRun0_A.sl.HS3_4 c i arg2 harg2 arg4 harg4 arg6 harg6 arg10 harg10 arg11 harg11 arg17 arg20 x0 x2 x4 x8 x9)
    = ⟨rectB 1 0, plusV (rdB arg20 (kernelRun0_A.sl.HS3_3 c i arg2 harg2 arg4 harg4 arg6 harg6 arg10 harg10 arg11 harg11 arg17 arg20 x0 x2 x4 x8 x9) 1 0) (dvV (maskV (i 0).val 1#32) (rdQ harg2 x0 1 0) (rdQ harg4 x2 1 0)
        (rdB arg17 (kernelRun0_A.sl.HS0_3 c i arg10 harg10 arg11 harg11 x8 x9) 1 0)
        (rdQ harg6 x4 1 0))⟩
      :: (kernelRun0_A.sl.HS3_3 c i arg2 harg2 arg4 harg4 arg6 harg6 arg10 harg10 arg11 harg11 arg17 arg20 x0 x2 x4 x8 x9) := rfl

theorem dv5_A : (kernelRun0_A.sl.HS3_5 c i arg2 harg2 arg4 harg4 arg6 harg6 arg10 harg10 arg11 harg11 arg17 arg20 x0 x2 x4 x8 x9)
    = ⟨rectB 1 1, plusV (rdB arg20 (kernelRun0_A.sl.HS3_4 c i arg2 harg2 arg4 harg4 arg6 harg6 arg10 harg10 arg11 harg11 arg17 arg20 x0 x2 x4 x8 x9) 1 1) (dvV (maskV (i 0).val 1#32) (rdQ harg2 x0 1 1) (rdQ harg4 x2 1 1)
        (rdB arg17 (kernelRun0_A.sl.HS0_3 c i arg10 harg10 arg11 harg11 x8 x9) 1 1)
        (rdQ harg6 x4 1 1))⟩
      :: (kernelRun0_A.sl.HS3_4 c i arg2 harg2 arg4 harg4 arg6 harg6 arg10 harg10 arg11 harg11 arg17 arg20 x0 x2 x4 x8 x9) := rfl

theorem dv6_A : (kernelRun0_A.sl.HS3_6 c i arg2 harg2 arg4 harg4 arg6 harg6 arg10 harg10 arg11 harg11 arg17 arg20 x0 x2 x4 x8 x9)
    = ⟨rectB 2 0, plusV (rdB arg20 (kernelRun0_A.sl.HS3_5 c i arg2 harg2 arg4 harg4 arg6 harg6 arg10 harg10 arg11 harg11 arg17 arg20 x0 x2 x4 x8 x9) 2 0) (dvV (maskV (i 0).val 2#32) (rdQ harg2 x0 2 0) (rdQ harg4 x2 2 0)
        (rdB arg17 (kernelRun0_A.sl.HS0_3 c i arg10 harg10 arg11 harg11 x8 x9) 2 0)
        (rdQ harg6 x4 2 0))⟩
      :: (kernelRun0_A.sl.HS3_5 c i arg2 harg2 arg4 harg4 arg6 harg6 arg10 harg10 arg11 harg11 arg17 arg20 x0 x2 x4 x8 x9) := rfl

theorem dv7_A : (kernelRun0_A.sl.HS3_7 c i arg2 harg2 arg4 harg4 arg6 harg6 arg10 harg10 arg11 harg11 arg17 arg20 x0 x2 x4 x8 x9)
    = ⟨rectB 2 1, plusV (rdB arg20 (kernelRun0_A.sl.HS3_6 c i arg2 harg2 arg4 harg4 arg6 harg6 arg10 harg10 arg11 harg11 arg17 arg20 x0 x2 x4 x8 x9) 2 1) (dvV (maskV (i 0).val 2#32) (rdQ harg2 x0 2 1) (rdQ harg4 x2 2 1)
        (rdB arg17 (kernelRun0_A.sl.HS0_3 c i arg10 harg10 arg11 harg11 x8 x9) 2 1)
        (rdQ harg6 x4 2 1))⟩
      :: (kernelRun0_A.sl.HS3_6 c i arg2 harg2 arg4 harg4 arg6 harg6 arg10 harg10 arg11 harg11 arg17 arg20 x0 x2 x4 x8 x9) := rfl

theorem dv8_A : (kernelRun0_A.sl.HS3_8 c i arg2 harg2 arg4 harg4 arg6 harg6 arg10 harg10 arg11 harg11 arg17 arg20 x0 x2 x4 x8 x9)
    = ⟨rectB 3 0, plusV (rdB arg20 (kernelRun0_A.sl.HS3_7 c i arg2 harg2 arg4 harg4 arg6 harg6 arg10 harg10 arg11 harg11 arg17 arg20 x0 x2 x4 x8 x9) 3 0) (dvV (maskV (i 0).val 3#32) (rdQ harg2 x0 3 0) (rdQ harg4 x2 3 0)
        (rdB arg17 (kernelRun0_A.sl.HS0_3 c i arg10 harg10 arg11 harg11 x8 x9) 3 0)
        (rdQ harg6 x4 3 0))⟩
      :: (kernelRun0_A.sl.HS3_7 c i arg2 harg2 arg4 harg4 arg6 harg6 arg10 harg10 arg11 harg11 arg17 arg20 x0 x2 x4 x8 x9) := rfl

theorem dv9_A : (kernelRun0_A.sl.HS3_9 c i arg2 harg2 arg4 harg4 arg6 harg6 arg10 harg10 arg11 harg11 arg17 arg20 x0 x2 x4 x8 x9)
    = ⟨rectB 3 1, plusV (rdB arg20 (kernelRun0_A.sl.HS3_8 c i arg2 harg2 arg4 harg4 arg6 harg6 arg10 harg10 arg11 harg11 arg17 arg20 x0 x2 x4 x8 x9) 3 1) (dvV (maskV (i 0).val 3#32) (rdQ harg2 x0 3 1) (rdQ harg4 x2 3 1)
        (rdB arg17 (kernelRun0_A.sl.HS0_3 c i arg10 harg10 arg11 harg11 x8 x9) 3 1)
        (rdQ harg6 x4 3 1))⟩
      :: (kernelRun0_A.sl.HS3_8 c i arg2 harg2 arg4 harg4 arg6 harg6 arg10 harg10 arg11 harg11 arg17 arg20 x0 x2 x4 x8 x9) := rfl

theorem dv10_A : (kernelRun0_A.sl.HS3_10 c i arg2 harg2 arg4 harg4 arg6 harg6 arg10 harg10 arg11 harg11 arg17 arg20 x0 x2 x4 x8 x9)
    = ⟨rectB 4 0, plusV (rdB arg20 (kernelRun0_A.sl.HS3_9 c i arg2 harg2 arg4 harg4 arg6 harg6 arg10 harg10 arg11 harg11 arg17 arg20 x0 x2 x4 x8 x9) 4 0) (dvV (maskV (i 0).val 4#32) (rdQ harg2 x0 4 0) (rdQ harg4 x2 4 0)
        (rdB arg17 (kernelRun0_A.sl.HS0_3 c i arg10 harg10 arg11 harg11 x8 x9) 4 0)
        (rdQ harg6 x4 4 0))⟩
      :: (kernelRun0_A.sl.HS3_9 c i arg2 harg2 arg4 harg4 arg6 harg6 arg10 harg10 arg11 harg11 arg17 arg20 x0 x2 x4 x8 x9) := rfl

theorem dv11_A : (kernelRun0_A.sl.HS3_11 c i arg2 harg2 arg4 harg4 arg6 harg6 arg10 harg10 arg11 harg11 arg17 arg20 x0 x2 x4 x8 x9)
    = ⟨rectB 4 1, plusV (rdB arg20 (kernelRun0_A.sl.HS3_10 c i arg2 harg2 arg4 harg4 arg6 harg6 arg10 harg10 arg11 harg11 arg17 arg20 x0 x2 x4 x8 x9) 4 1) (dvV (maskV (i 0).val 4#32) (rdQ harg2 x0 4 1) (rdQ harg4 x2 4 1)
        (rdB arg17 (kernelRun0_A.sl.HS0_3 c i arg10 harg10 arg11 harg11 x8 x9) 4 1)
        (rdQ harg6 x4 4 1))⟩
      :: (kernelRun0_A.sl.HS3_10 c i arg2 harg2 arg4 harg4 arg6 harg6 arg10 harg10 arg11 harg11 arg17 arg20 x0 x2 x4 x8 x9) := rfl

theorem dv12_A : (kernelRun0_A.sl.HS3_12 c i arg2 harg2 arg4 harg4 arg6 harg6 arg10 harg10 arg11 harg11 arg17 arg20 x0 x2 x4 x8 x9)
    = ⟨rectB 5 0, plusV (rdB arg20 (kernelRun0_A.sl.HS3_11 c i arg2 harg2 arg4 harg4 arg6 harg6 arg10 harg10 arg11 harg11 arg17 arg20 x0 x2 x4 x8 x9) 5 0) (dvV (maskV (i 0).val 5#32) (rdQ harg2 x0 5 0) (rdQ harg4 x2 5 0)
        (rdB arg17 (kernelRun0_A.sl.HS0_3 c i arg10 harg10 arg11 harg11 x8 x9) 5 0)
        (rdQ harg6 x4 5 0))⟩
      :: (kernelRun0_A.sl.HS3_11 c i arg2 harg2 arg4 harg4 arg6 harg6 arg10 harg10 arg11 harg11 arg17 arg20 x0 x2 x4 x8 x9) := rfl

theorem dv13_A : (kernelRun0_A.sl.HS3_13 c i arg2 harg2 arg4 harg4 arg6 harg6 arg10 harg10 arg11 harg11 arg17 arg20 x0 x2 x4 x8 x9)
    = ⟨rectB 5 1, plusV (rdB arg20 (kernelRun0_A.sl.HS3_12 c i arg2 harg2 arg4 harg4 arg6 harg6 arg10 harg10 arg11 harg11 arg17 arg20 x0 x2 x4 x8 x9) 5 1) (dvV (maskV (i 0).val 5#32) (rdQ harg2 x0 5 1) (rdQ harg4 x2 5 1)
        (rdB arg17 (kernelRun0_A.sl.HS0_3 c i arg10 harg10 arg11 harg11 x8 x9) 5 1)
        (rdQ harg6 x4 5 1))⟩
      :: (kernelRun0_A.sl.HS3_12 c i arg2 harg2 arg4 harg4 arg6 harg6 arg10 harg10 arg11 harg11 arg17 arg20 x0 x2 x4 x8 x9) := rfl

theorem dv14_A : (kernelRun0_A.sl.HS3_14 c i arg2 harg2 arg4 harg4 arg6 harg6 arg10 harg10 arg11 harg11 arg17 arg20 x0 x2 x4 x8 x9)
    = ⟨rectB 6 0, plusV (rdB arg20 (kernelRun0_A.sl.HS3_13 c i arg2 harg2 arg4 harg4 arg6 harg6 arg10 harg10 arg11 harg11 arg17 arg20 x0 x2 x4 x8 x9) 6 0) (dvV (maskV (i 0).val 6#32) (rdQ harg2 x0 6 0) (rdQ harg4 x2 6 0)
        (rdB arg17 (kernelRun0_A.sl.HS0_3 c i arg10 harg10 arg11 harg11 x8 x9) 6 0)
        (rdQ harg6 x4 6 0))⟩
      :: (kernelRun0_A.sl.HS3_13 c i arg2 harg2 arg4 harg4 arg6 harg6 arg10 harg10 arg11 harg11 arg17 arg20 x0 x2 x4 x8 x9) := rfl

theorem dv15_A : (kernelRun0_A.sl.HS3_15 c i arg2 harg2 arg4 harg4 arg6 harg6 arg10 harg10 arg11 harg11 arg17 arg20 x0 x2 x4 x8 x9)
    = ⟨rectB 6 1, plusV (rdB arg20 (kernelRun0_A.sl.HS3_14 c i arg2 harg2 arg4 harg4 arg6 harg6 arg10 harg10 arg11 harg11 arg17 arg20 x0 x2 x4 x8 x9) 6 1) (dvV (maskV (i 0).val 6#32) (rdQ harg2 x0 6 1) (rdQ harg4 x2 6 1)
        (rdB arg17 (kernelRun0_A.sl.HS0_3 c i arg10 harg10 arg11 harg11 x8 x9) 6 1)
        (rdQ harg6 x4 6 1))⟩
      :: (kernelRun0_A.sl.HS3_14 c i arg2 harg2 arg4 harg4 arg6 harg6 arg10 harg10 arg11 harg11 arg17 arg20 x0 x2 x4 x8 x9) := rfl

theorem dv16_A : (kernelRun0_A.sl.HS3_16 c i arg2 harg2 arg4 harg4 arg6 harg6 arg10 harg10 arg11 harg11 arg17 arg20 x0 x2 x4 x8 x9)
    = ⟨rectB 7 0, plusV (rdB arg20 (kernelRun0_A.sl.HS3_15 c i arg2 harg2 arg4 harg4 arg6 harg6 arg10 harg10 arg11 harg11 arg17 arg20 x0 x2 x4 x8 x9) 7 0) (dvV (maskV (i 0).val 7#32) (rdQ harg2 x0 7 0) (rdQ harg4 x2 7 0)
        (rdB arg17 (kernelRun0_A.sl.HS0_3 c i arg10 harg10 arg11 harg11 x8 x9) 7 0)
        (rdQ harg6 x4 7 0))⟩
      :: (kernelRun0_A.sl.HS3_15 c i arg2 harg2 arg4 harg4 arg6 harg6 arg10 harg10 arg11 harg11 arg17 arg20 x0 x2 x4 x8 x9) := rfl

theorem dv17_A : (kernelRun0_A.sl.HS3_17 c i arg2 harg2 arg4 harg4 arg6 harg6 arg10 harg10 arg11 harg11 arg17 arg20 x0 x2 x4 x8 x9)
    = ⟨rectB 7 1, plusV (rdB arg20 (kernelRun0_A.sl.HS3_16 c i arg2 harg2 arg4 harg4 arg6 harg6 arg10 harg10 arg11 harg11 arg17 arg20 x0 x2 x4 x8 x9) 7 1) (dvV (maskV (i 0).val 7#32) (rdQ harg2 x0 7 1) (rdQ harg4 x2 7 1)
        (rdB arg17 (kernelRun0_A.sl.HS0_3 c i arg10 harg10 arg11 harg11 x8 x9) 7 1)
        (rdQ harg6 x4 7 1))⟩
      :: (kernelRun0_A.sl.HS3_16 c i arg2 harg2 arg4 harg4 arg6 harg6 arg10 harg10 arg11 harg11 arg17 arg20 x0 x2 x4 x8 x9) := rfl

theorem dv18_A : (kernelRun0_A.sl.HS3_18 c i arg2 harg2 arg3 harg3 arg4 harg4 arg5 harg5 arg6 harg6 arg7 harg7 arg10 harg10 arg11 harg11 arg17 arg20 x0 x1 x2 x3 x4 x5 x8 x9)
    = ⟨rectB 8 0, plusV (rdB arg20 (kernelRun0_A.sl.HS3_17 c i arg2 harg2 arg4 harg4 arg6 harg6 arg10 harg10 arg11 harg11 arg17 arg20 x0 x2 x4 x8 x9) 8 0) (dvV maskNextV (rdN harg3 x1 0) (rdN harg5 x3 0)
        (rdB arg17 (kernelRun0_A.sl.HS0_3 c i arg10 harg10 arg11 harg11 x8 x9) 8 0)
        (rdN harg7 x5 0))⟩
      :: (kernelRun0_A.sl.HS3_17 c i arg2 harg2 arg4 harg4 arg6 harg6 arg10 harg10 arg11 harg11 arg17 arg20 x0 x2 x4 x8 x9) := rfl

theorem dv19_A : (kernelRun0_A.sl.HS3_19 c i arg2 harg2 arg3 harg3 arg4 harg4 arg5 harg5 arg6 harg6 arg7 harg7 arg10 harg10 arg11 harg11 arg17 arg20 x0 x1 x2 x3 x4 x5 x8 x9)
    = ⟨rectB 8 1, plusV (rdB arg20 (kernelRun0_A.sl.HS3_18 c i arg2 harg2 arg3 harg3 arg4 harg4 arg5 harg5 arg6 harg6 arg7 harg7 arg10 harg10 arg11 harg11 arg17 arg20 x0 x1 x2 x3 x4 x5 x8 x9) 8 1) (dvV maskNextV (rdN harg3 x1 1) (rdN harg5 x3 1)
        (rdB arg17 (kernelRun0_A.sl.HS0_3 c i arg10 harg10 arg11 harg11 x8 x9) 8 1)
        (rdN harg7 x5 1))⟩
      :: (kernelRun0_A.sl.HS3_18 c i arg2 harg2 arg3 harg3 arg4 harg4 arg5 harg5 arg6 harg6 arg7 harg7 arg10 harg10 arg11 harg11 arg17 arg20 x0 x1 x2 x3 x4 x5 x8 x9) := rfl

end Cert.Kernel2Ideal.Attn

end
-- ==== Proof.AttnBodyA.lean ====
/- The three gradients the backward kernel's body leaves at the grid points before the last row, element by element. -/
module

public import proofs.«01_k».proof.Proof.AttnForms
public import proofs.«01_k».proof.Proof.AttnRunA
public import proofs.«01_k».proof.Proof.Gen.Kernel2Ideal.Frame

@[expose] public section

noncomputable section

namespace Cert.Kernel2Ideal.Attn

open Cert.Kernel2Ideal Cert.Kernel2Ideal.Gen Idealize.ShloMosaic Idealize.SL.Sem Idealize.ShloMosaic.Bands

variable (c : Dev nD) (i : grid0.Coords) {arg2 : Memref sig .tc .vmem S1024x256 .f32} {harg2 : arg2.IsWhole} {arg3 : Memref sig .tc .vmem S128x256 .f32} {harg3 : arg3.IsWhole} {arg4 : Memref sig .tc .vmem S1024x256 .f32} {harg4 : arg4.IsWhole} {arg5 : Memref sig .tc .vmem S128x256 .f32} {harg5 : arg5.IsWhole} {arg6 : Memref sig .tc .vmem S1024x256 .f32} {harg6 : arg6.IsWhole} {arg7 : Memref sig .tc .vmem S128x256 .f32} {harg7 : arg7.IsWhole} {arg8 : Memref sig .tc .vmem S1024x256 .f32} {harg8 : arg8.IsWhole} {arg9 : Memref sig .tc .vmem S128x256 .f32} {harg9 : arg9.IsWhole} {arg10 : Memref sig .tc .vmem S1024x256 .f32} {harg10 : arg10.IsWhole} {arg11 : Memref sig .tc .vmem S128x256 .f32} {harg11 : arg11.IsWhole} {arg12 : Memref sig .tc .vmem S1024x256 .f32} {harg12 : arg12.IsWhole} {arg13 : Memref sig .tc .vmem S128x256 .f32} {harg13 : arg13.IsWhole} {arg14 : Memref sig .tc .vmem S1024x256 .f32} {harg14 : arg14.IsWhole} {arg15 : Memref sig .tc .vmem S1024x256 .f32} {harg15 : arg15.IsWhole} {arg16 : Memref sig .tc .vmem S1024x256 .f32} {harg16 : arg16.IsWhole} {arg17 : Memref sig .tc .vmem S1280x256 .f32} {harg17 : arg17.IsWhole} {arg18 : Memref sig .tc .vmem S1280x256 .f32} {harg18 : arg18.IsWhole} {arg19 : Memref sig .tc .vmem S1280x256 .f32} {harg19 : arg19.IsWhole} {arg20 : Memref sig .tc .vmem S1280x256 .f32} {harg20 : arg20.IsWhole}
  (x0 : Vec Ideal S1024x256 .f32) (x1 : Vec Ideal S128x256 .f32) (x2 : Vec Ideal S1024x256 .f32) (x3 : Vec Ideal S128x256 .f32) (x4 : Vec Ideal S1024x256 .f32) (x5 : Vec Ideal S128x256 .f32) (x6 : Vec Ideal S1024x256 .f32) (x7 : Vec Ideal S128x256 .f32) (x8 : Vec Ideal S1024x256 .f32) (x9 : Vec Ideal S128x256 .f32) (x10 : Vec Ideal S1024x256 .f32) (x11 : Vec Ideal S128x256 .f32)

/-- What the keys' buffer holds. -/
theorem keys_A (r : Fin 1280) (l : Fin 256) :
    View.canon (Val := Elt Ideal) (s := S1280x256) (e := .f32) (kernelRun0_A.sl.HS0_3 c i arg10 harg10 arg11 harg11 x8 x9) (ix2 r l) = keyBuf (i 0).val x9 x8 r l := by
  unfold kernelRun0_A.sl.HS0_3
  refine (canon_band (Val := Elt Ideal) (e := .f32) (a := 1280) (n := 256) (o := 1152) (b := 128) _ _ _ r l).trans ?_
  rw [canon_band (Val := Elt Ideal) (e := .f32) (a := 1280) (n := 256) (o := 128) (b := 1024),
    canon_band (Val := Elt Ideal) (e := .f32) (a := 1280) (n := 256) (o := 0) (b := 128)]
  simp only [kernelRun0_A.sl.v7, kernelRun0_A.sl.v4, kernelRun0_A.sl.v11, kernelRun0_A.sl.v14, kernelRun0_A.sl.v0, kernelRun0_A.sl.v1, kernelRun0_A.sl.cst, View.readAt_eq_ld, Memref.IsWhole.read_unread, ld_all]
  unfold keyBuf
  have hn' : (i 0).val < 8 := (i 0).isLt
  generalize (i 0).val = n at hn' ⊢
  have hk : (Scalar.cmpi .sgt (BitVec.ofNat 32 n) 0#32 = (1 : BitVec 1)) ↔ 0 < n := notFirst ⟨n, hn'⟩
  pointwise []
  simp only [Scalar.select, hk]
  rfl

/-- What the values' buffer holds. -/
theorem values_A (r : Fin 1280) (l : Fin 256) :
    View.canon (Val := Elt Ideal) (s := S1280x256) (e := .f32) (kernelRun0_A.sl.HS1_3 c i arg12 harg12 arg13 harg13 x10 x11) (ix2 r l) = keyBuf (i 0).val x11 x10 r l := by
  unfold kernelRun0_A.sl.HS1_3
  refine (canon_band (Val := Elt Ideal) (e := .f32) (a := 1280) (n := 256) (o := 1152) (b := 128) _ _ _ r l).trans ?_
  rw [canon_band (Val := Elt Ideal) (e := .f32) (a := 1280) (n := 256) (o := 128) (b := 1024),
    canon_band (Val := Elt Ideal) (e := .f32) (a := 1280) (n := 256) (o := 0) (b := 128)]
  simp only [kernelRun0_A.sl.v21, kernelRun0_A.sl.v18, kernelRun0_A.sl.v25, kernelRun0_A.sl.v14, kernelRun0_A.sl.v0, kernelRun0_A.sl.v1, kernelRun0_A.sl.cst, View.readAt_eq_ld, Memref.IsWhole.read_unread, ld_all]
  unfold keyBuf
  have hn' : (i 0).val < 8 := (i 0).isLt
  generalize (i 0).val = n at hn' ⊢
  have hk : (Scalar.cmpi .sgt (BitVec.ofNat 32 n) 0#32 = (1 : BitVec 1)) ↔ 0 < n := notFirst ⟨n, hn'⟩
  pointwise []
  simp only [Scalar.select, hk]
  rfl

/-- The accumulators start at zero. -/
theorem start_A (r : Fin 1280) (l : Fin 256) :
    View.canon (Val := Elt Ideal) (s := S1280x256) (e := .f32) (kernelRun0_A.sl.HS2_1 (F := Ideal)) (ix2 r l) = (0 : EReal) := by
  unfold kernelRun0_A.sl.HS2_1
  refine (congrFun (canon_all (Val := Elt Ideal) (e := .f32) (a := 1280) (b := 256) _ _ _) _).trans ?_
  pointwise [kernelRun0_A.sl.v32, kernelRun0_A.sl.v29, kernelRun0_A.sl.cst]

/-- The queries' gradient. -/
theorem dq_A (hc0 : cond0_0 i) (g : Fin 8) (p : Fin 2) (ρ : Fin 128) (x : Fin 128) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 (ix2 (⟨128 * g.val + ρ.val, by omega⟩ : Fin 1024) (pairLane p x))
      = tileDq (i 0).val x0 x2 x4 x6 x8 x9 x10 x11 g p (ix2 ρ x) := by
  have e : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 = View.canon (Val := Elt Ideal) (s := S1024x256) (e := .f32)
      [⟨rectQ 7 1, dqV (maskV (i 0).val 7#32) (rdQ harg2 x0 7 1) (rdQ harg4 x2 7 1) (rdB arg17 (kernelRun0_A.sl.HS0_3 c i arg10 harg10 arg11 harg11 x8 x9) 7 1) (rdB arg18 (kernelRun0_A.sl.HS1_3 c i arg12 harg12 arg13 harg13 x10 x11) 7 1) (rdQ harg6 x4 7 1) (rdQ harg8 x6 7 1)⟩,
       ⟨rectQ 7 0, dqV (maskV (i 0).val 7#32) (rdQ harg2 x0 7 0) (rdQ harg4 x2 7 0) (rdB arg17 (kernelRun0_A.sl.HS0_3 c i arg10 harg10 arg11 harg11 x8 x9) 7 0) (rdB arg18 (kernelRun0_A.sl.HS1_3 c i arg12 harg12 arg13 harg13 x10 x11) 7 0) (rdQ harg6 x4 7 0) (rdQ harg8 x6 7 0)⟩,
       ⟨rectQ 6 1, dqV (maskV (i 0).val 6#32) (rdQ harg2 x0 6 1) (rdQ harg4 x2 6 1) (rdB arg17 (kernelRun0_A.sl.HS0_3 c i arg10 harg10 arg11 harg11 x8 x9) 6 1) (rdB arg18 (kernelRun0_A.sl.HS1_3 c i arg12 harg12 arg13 harg13 x10 x11) 6 1) (rdQ harg6 x4 6 1) (rdQ harg8 x6 6 1)⟩,
       ⟨rectQ 6 0, dqV (maskV (i 0).val 6#32) (rdQ harg2 x0 6 0) (rdQ harg4 x2 6 0) (rdB arg17 (kernelRun0_A.sl.HS0_3 c i arg10 harg10 arg11 harg11 x8 x9) 6 0) (rdB arg18 (kernelRun0_A.sl.HS1_3 c i arg12 harg12 arg13 harg13 x10 x11) 6 0) (rdQ harg6 x4 6 0) (rdQ harg8 x6 6 0)⟩,
       ⟨rectQ 5 1, dqV (maskV (i 0).val 5#32) (rdQ harg2 x0 5 1) (rdQ harg4 x2 5 1) (rdB arg17 (kernelRun0_A.sl.HS0_3 c i arg10 harg10 arg11 harg11 x8 x9) 5 1) (rdB arg18 (kernelRun0_A.sl.HS1_3 c i arg12 harg12 arg13 harg13 x10 x11) 5 1) (rdQ harg6 x4 5 1) (rdQ harg8 x6 5 1)⟩,
       ⟨rectQ 5 0, dqV (maskV (i 0).val 5#32) (rdQ harg2 x0 5 0) (rdQ harg4 x2 5 0) (rdB arg17 (kernelRun0_A.sl.HS0_3 c i arg10 harg10 arg11 harg11 x8 x9) 5 0) (rdB arg18 (kernelRun0_A.sl.HS1_3 c i arg12 harg12 arg13 harg13 x10 x11) 5 0) (rdQ harg6 x4 5 0) (rdQ harg8 x6 5 0)⟩,
       ⟨rectQ 4 1, dqV (maskV (i 0).val 4#32) (rdQ harg2 x0 4 1) (rdQ harg4 x2 4 1) (rdB arg17 (kernelRun0_A.sl.HS0_3 c i arg10 harg10 arg11 harg11 x8 x9) 4 1) (rdB arg18 (kernelRun0_A.sl.HS1_3 c i arg12 harg12 arg13 harg13 x10 x11) 4 1) (rdQ harg6 x4 4 1) (rdQ harg8 x6 4 1)⟩,
       ⟨rectQ 4 0, dqV (maskV (i 0).val 4#32) (rdQ harg2 x0 4 0) (rdQ harg4 x2 4 0) (rdB arg17 (kernelRun0_A.sl.HS0_3 c i arg10 harg10 arg11 harg11 x8 x9) 4 0) (rdB arg18 (kernelRun0_A.sl.HS1_3 c i arg12 harg12 arg13 harg13 x10 x11) 4 0) (rdQ harg6 x4 4 0) (rdQ harg8 x6 4 0)⟩,
       ⟨rectQ 3 1, dqV (maskV (i 0).val 3#32) (rdQ harg2 x0 3 1) (rdQ harg4 x2 3 1) (rdB arg17 (kernelRun0_A.sl.HS0_3 c i arg10 harg10 arg11 harg11 x8 x9) 3 1) (rdB arg18 (kernelRun0_A.sl.HS1_3 c i arg12 harg12 arg13 harg13 x10 x11) 3 1) (rdQ harg6 x4 3 1) (rdQ harg8 x6 3 1)⟩,
       ⟨rectQ 3 0, dqV (maskV (i 0).val 3#32) (rdQ harg2 x0 3 0) (rdQ harg4 x2 3 0) (rdB arg17 (kernelRun0_A.sl.HS0_3 c i arg10 harg10 arg11 harg11 x8 x9) 3 0) (rdB arg18 (kernelRun0_A.sl.HS1_3 c i arg12 harg12 arg13 harg13 x10 x11) 3 0) (rdQ harg6 x4 3 0) (rdQ harg8 x6 3 0)⟩,
       ⟨rectQ 2 1, dqV (maskV (i 0).val 2#32) (rdQ harg2 x0 2 1) (rdQ harg4 x2 2 1) (rdB arg17 (kernelRun0_A.sl.HS0_3 c i arg10 harg10 arg11 harg11 x8 x9) 2 1) (rdB arg18 (kernelRun0_A.sl.HS1_3 c i arg12 harg12 arg13 harg13 x10 x11) 2 1) (rdQ harg6 x4 2 1) (rdQ harg8 x6 2 1)⟩,
       ⟨rectQ 2 0, dqV (maskV (i 0).val 2#32) (rdQ harg2 x0 2 0) (rdQ harg4 x2 2 0) (rdB arg17 (kernelRun0_A.sl.HS0_3 c i arg10 harg10 arg11 harg11 x8 x9) 2 0) (rdB arg18 (kernelRun0_A.sl.HS1_3 c i arg12 harg12 arg13 harg13 x10 x11) 2 0) (rdQ harg6 x4 2 0) (rdQ harg8 x6 2 0)⟩,
       ⟨rectQ 1 1, dqV (maskV (i 0).val 1#32) (rdQ harg2 x0 1 1) (rdQ harg4 x2 1 1) (rdB arg17 (kernelRun0_A.sl.HS0_3 c i arg10 harg10 arg11 harg11 x8 x9) 1 1) (rdB arg18 (kernelRun0_A.sl.HS1_3 c i arg12 harg12 arg13 harg13 x10 x11) 1 1) (rdQ harg6 x4 1 1) (rdQ harg8 x6 1 1)⟩,
       ⟨rectQ 1 0, dqV (maskV (i 0).val 1#32) (rdQ harg2 x0 1 0) (rdQ harg4 x2 1 0) (rdB arg17 (kernelRun0_A.sl.HS0_3 c i arg10 harg10 arg11 harg11 x8 x9) 1 0) (rdB arg18 (kernelRun0_A.sl.HS1_3 c i arg12 harg12 arg13 harg13 x10 x11) 1 0) (rdQ harg6 x4 1 0) (rdQ harg8 x6 1 0)⟩,
       ⟨rectQ 0 1, dqV (maskV (i 0).val 0#32) (rdQ harg2 x0 0 1) (rdQ harg4 x2 0 1) (rdB arg17 (kernelRun0_A.sl.HS0_3 c i arg10 harg10 arg11 harg11 x8 x9) 0 1) (rdB arg18 (kernelRun0_A.sl.HS1_3 c i arg12 harg12 arg13 harg13 x10 x11) 0 1) (rdQ harg6 x4 0 1) (rdQ harg8 x6 0 1)⟩,
       ⟨rectQ 0 0, dqV (maskV (i 0).val 0#32) (rdQ harg2 x0 0 0) (rdQ harg4 x2 0 0) (rdB arg17 (kernelRun0_A.sl.HS0_3 c i arg10 harg10 arg11 harg11 x8 x9) 0 0) (rdB arg18 (kernelRun0_A.sl.HS1_3 c i arg12 harg12 arg13 harg13 x10 x11) 0 0) (rdQ harg6 x4 0 0) (rdQ harg8 x6 0 0)⟩] := by
    unfold out0_A_12
    rw [View.read_writes_junk_eq_canon]
    rfl
  rw [e]
  simp only [canon_block, rdQ_eq, rdB_eq arg17 _ _ (keys_A c i x8 x9), rdB_eq arg18 _ _ (values_A c i x10 x11)]
  fin_cases g <;> fin_cases p <;> simp <;> rfl

/-- The keys' gradient. -/
theorem dk_A (hc0 : cond0_0 i) (g : Fin 8) (p : Fin 2) (ρ : Fin 128) (x : Fin 128) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 (ix2 (⟨128 * g.val + ρ.val, by omega⟩ : Fin 1024) (pairLane p x))
      = ((tileDk (i 0).val x0 x1 x2 x3 x4 x5 x6 x7 x8 x9 x10 x11) g.castSucc p (ix2 (upper ρ) x) + (tileDk (i 0).val x0 x1 x2 x3 x4 x5 x6 x7 x8 x9 x10 x11) g.succ p (ix2 (lower ρ) x) : EReal) := by
  have e : out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 = (kernelRun0_A.sl.v1398 c i arg2 harg2 arg3 harg3 arg4 harg4 arg5 harg5 arg6 harg6 arg7 harg7 arg8 harg8 arg9 harg9 arg10 harg10 arg11 harg11 arg12 harg12 arg13 harg13 arg17 arg18 arg19 x0 x1 x2 x3 x4 x5 x6 x7 x8 x9 x10 x11) := by
    unfold out0_A_13
    rw [View.read_writes_junk_eq_canon]
    unfold kernelRun0_A
    dsimp only
    exact canon_all (Val := Elt Ideal) (e := .f32) (a := 1024) (b := 256) _ _ _
  rw [e]
  unfold kernelRun0_A.sl.v1398
  rw [ld_tile]
  rw [dk19_A, canon_plus, dk18_A, canon_plus, dk17_A, canon_plus, dk16_A, canon_plus, dk15_A, canon_plus, dk14_A, canon_plus, dk13_A, canon_plus, dk12_A, canon_plus, dk11_A, canon_plus, dk10_A, canon_plus, dk9_A, canon_plus, dk8_A, canon_plus, dk7_A, canon_plus, dk6_A, canon_plus, dk5_A, canon_plus, dk4_A, canon_plus, dk3_A, canon_plus, dk2_A, canon_plus, start_A]
  simp only [rdQ_eq, rdN_eq, rdB_eq arg17 _ _ (keys_A c i x8 x9), rdB_eq arg18 _ _ (values_A c i x10 x11)]
  exact tower (tileDk (i 0).val x0 x1 x2 x3 x4 x5 x6 x7 x8 x9 x10 x11) g p ρ x

/-- The values' gradient. -/
theorem dv_A (hc0 : cond0_0 i) (g : Fin 8) (p : Fin 2) (ρ : Fin 128) (x : Fin 128) :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 (ix2 (⟨128 * g.val + ρ.val, by omega⟩ : Fin 1024) (pairLane p x))
      = ((tileDv (i 0).val x0 x1 x2 x3 x4 x5 x8 x9) g.castSucc p (ix2 (upper ρ) x) + (tileDv (i 0).val x0 x1 x2 x3 x4 x5 x8 x9) g.succ p (ix2 (lower ρ) x) : EReal) := by
  have e : out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 = (kernelRun0_A.sl.v1400 c i arg2 harg2 arg3 harg3 arg4 harg4 arg5 harg5 arg6 harg6 arg7 harg7 arg10 harg10 arg11 harg11 arg17 arg20 x0 x1 x2 x3 x4 x5 x8 x9) := by
    unfold out0_A_14
    rw [View.read_writes_junk_eq_canon]
    unfold kernelRun0_A
    dsimp only
    exact canon_all (Val := Elt Ideal) (e := .f32) (a := 1024) (b := 256) _ _ _
  rw [e]
  unfold kernelRun0_A.sl.v1400
  rw [ld_tile]
  rw [dv19_A, canon_plus, dv18_A, canon_plus, dv17_A, canon_plus, dv16_A, canon_plus, dv15_A, canon_plus, dv14_A, canon_plus, dv13_A, canon_plus, dv12_A, canon_plus, dv11_A, canon_plus, dv10_A, canon_plus, dv9_A, canon_plus, dv8_A, canon_plus, dv7_A, canon_plus, dv6_A, canon_plus, dv5_A, canon_plus, dv4_A, canon_plus, dv3_A, canon_plus, dv2_A, canon_plus, start_A]
  simp only [rdQ_eq, rdN_eq, rdB_eq arg17 _ _ (keys_A c i x8 x9), rdB_eq arg18 _ _ (values_A c i x10 x11)]
  exact tower (tileDv (i 0).val x0 x1 x2 x3 x4 x5 x8 x9) g p ρ x

end Cert.Kernel2Ideal.Attn

end
-- ==== Proof.AttnRunB.lean ====
/- What the stores of the backward kernel's body leave in its two accumulators, one store at a time, at the grid points of the last row. -/
module

public import proofs.«01_k».proof.Proof.AttnSlots
public import proofs.«01_k».proof.Proof.Gen.Kernel2Ideal.Frame.RunB

@[expose] public section

noncomputable section

namespace Cert.Kernel2Ideal.Attn

open Cert.Kernel2Ideal Cert.Kernel2Ideal.Gen Idealize.ShloMosaic Idealize.SL.Sem

variable {F : FTy → Type} [FloatOps F] [Named F]

variable (c : Dev nD) (i : grid0.Coords) {arg2 : Memref sig .tc .vmem S1024x256 .f32} {harg2 : arg2.IsWhole} {arg3 : Memref sig .tc .vmem S128x256 .f32} {harg3 : arg3.IsWhole} {arg4 : Memref sig .tc .vmem S1024x256 .f32} {harg4 : arg4.IsWhole} {arg5 : Memref sig .tc .vmem S128x256 .f32} {harg5 : arg5.IsWhole} {arg6 : Memref sig .tc .vmem S1024x256 .f32} {harg6 : arg6.IsWhole} {arg7 : Memref sig .tc .vmem S128x256 .f32} {harg7 : arg7.IsWhole} {arg8 : Memref sig .tc .vmem S1024x256 .f32} {harg8 : arg8.IsWhole} {arg9 : Memref sig .tc .vmem S128x256 .f32} {harg9 : arg9.IsWhole} {arg10 : Memref sig .tc .vmem S1024x256 .f32} {harg10 : arg10.IsWhole} {arg11 : Memref sig .tc .vmem S128x256 .f32} {harg11 : arg11.IsWhole} {arg12 : Memref sig .tc .vmem S1024x256 .f32} {harg12 : arg12.IsWhole} {arg13 : Memref sig .tc .vmem S128x256 .f32} {harg13 : arg13.IsWhole} {arg14 : Memref sig .tc .vmem S1024x256 .f32} {harg14 : arg14.IsWhole} {arg15 : Memref sig .tc .vmem S1024x256 .f32} {harg15 : arg15.IsWhole} {arg16 : Memref sig .tc .vmem S1024x256 .f32} {harg16 : arg16.IsWhole} {arg17 : Memref sig .tc .vmem S1280x256 .f32} {harg17 : arg17.IsWhole} {arg18 : Memref sig .tc .vmem S1280x256 .f32} {harg18 : arg18.IsWhole} {arg19 : Memref sig .tc .vmem S1280x256 .f32} {harg19 : arg19.IsWhole} {arg20 : Memref sig .tc .vmem S1280x256 .f32} {harg20 : arg20.IsWhole}
  (x0 : Vec F S1024x256 .f32) (x1 : Vec F S128x256 .f32) (x2 : Vec F S1024x256 .f32) (x3 : Vec F S128x256 .f32) (x4 : Vec F S1024x256 .f32) (x5 : Vec F S128x256 .f32) (x6 : Vec F S1024x256 .f32) (x7 : Vec F S128x256 .f32) (x8 : Vec F S1024x256 .f32) (x9 : Vec F S128x256 .f32) (x10 : Vec F S1024x256 .f32) (x11 : Vec F S128x256 .f32)

theorem dk2_B : (kernelRun0_B.sl.HS2_2 c i arg2 harg2 arg4 harg4 arg6 harg6 arg8 harg8 arg10 harg10 arg11 harg11 arg12 harg12 arg13 harg13 arg17 arg18 arg19 x0 x2 x4 x6 x8 x9 x10 x11)
    = ⟨rectB 0 0, plusV (rdB arg19 (kernelRun0_B.sl.HS2_1 (F := F)) 0 0) (dkV (maskV (i 0).val 0#32) (rdQ harg2 x0 0 0) (rdQ harg4 x2 0 0)
        (rdB arg17 (kernelRun0_B.sl.HS0_3 c i arg10 harg10 arg11 harg11 x8 x9) 0 0)
        (rdB arg18 (kernelRun0_B.sl.HS1_3 c i arg12 harg12 arg13 harg13 x10 x11) 0 0)
        (rdQ harg6 x4 0 0) (rdQ harg8 x6 0 0))⟩
      :: (kernelRun0_B.sl.HS2_1 (F := F)) := rfl

theorem dk3_B : (kernelRun0_B.sl.HS2_3 c i arg2 harg2 arg4 harg4 arg6 harg6 arg8 harg8 arg10 harg10 arg11 harg11 arg12 harg12 arg13 harg13 arg17 arg18 arg19 x0 x2 x4 x6 x8 x9 x10 x11)
    = ⟨rectB 0 1, plusV (rdB arg19 (kernelRun0_B.sl.HS2_2 c i arg2 harg2 arg4 harg4 arg6 harg6 arg8 harg8 arg10 harg10 arg11 harg11 arg12 harg12 arg13 harg13 arg17 arg18 arg19 x0 x2 x4 x6 x8 x9 x10 x11) 0 1) (dkV (maskV (i 0).val 0#32) (rdQ harg2 x0 0 1) (rdQ harg4 x2 0 1)
        (rdB arg17 (kernelRun0_B.sl.HS0_3 c i arg10 harg10 arg11 harg11 x8 x9) 0 1)
        (rdB arg18 (kernelRun0_B.sl.HS1_3 c i arg12 harg12 arg13 harg13 x10 x11) 0 1)
        (rdQ harg6 x4 0 1) (rdQ harg8 x6 0 1))⟩
      :: (kernelRun0_B.sl.HS2_2 c i arg2 harg2 arg4 harg4 arg6 harg6 arg8 harg8 arg10 harg10 arg11 harg11 arg12 harg12 arg13 harg13 arg17 arg18 arg19 x0 x2 x4 x6 x8 x9 x10 x11) := rfl

theorem dk4_B : (kernelRun0_B.sl.HS2_4 c i arg2 harg2 arg4 harg4 arg6 harg6 arg8 harg8 arg10 harg10 arg11 harg11 arg12 harg12 arg13 harg13 arg17 arg18 arg19 x0 x2 x4 x6 x8 x9 x10 x11)
    = ⟨rectB 1 0, plusV (rdB arg19 (kernelRun0_B.sl.HS2_3 c i arg2 harg2 arg4 harg4 arg6 harg6 arg8 harg8 arg10 harg10 arg11 harg11 arg12 harg12 arg13 harg13 arg17 arg18 arg19 x0 x2 x4 x6 x8 x9 x10 x11) 1 0) (dkV (maskV (i 0).val 1#32) (rdQ harg2 x0 1 0) (rdQ harg4 x2 1 0)
        (rdB arg17 (kernelRun0_B.sl.HS0_3 c i arg10 harg10 arg11 harg11 x8 x9) 1 0)
        (rdB arg18 (kernelRun0_B.sl.HS1_3 c i arg12 harg12 arg13 harg13 x10 x11) 1 0)
        (rdQ harg6 x4 1 0) (rdQ harg8 x6 1 0))⟩
      :: (kernelRun0_B.sl.HS2_3 c i arg2 harg2 arg4 harg4 arg6 harg6 arg8 harg8 arg10 harg10 arg11 harg11 arg12 harg12 arg13 harg13 arg17 arg18 arg19 x0 x2 x4 x6 x8 x9 x10 x11) := rfl

theorem dk5_B : (kernelRun0_B.sl.HS2_5 c i arg2 harg2 arg4 harg4 arg6 harg6 arg8 harg8 arg10 harg10 arg11 harg11 arg12 harg12 arg13 harg13 arg17 arg18 arg19 x0 x2 x4 x6 x8 x9 x10 x11)
    = ⟨rectB 1 1, plusV (rdB arg19 (kernelRun0_B.sl.HS2_4 c i arg2 harg2 arg4 harg4 arg6 harg6 arg8 harg8 arg10 harg10 arg11 harg11 arg12 harg12 arg13 harg13 arg17 arg18 arg19 x0 x2 x4 x6 x8 x9 x10 x11) 1 1) (dkV (maskV (i 0).val 1#32) (rdQ harg2 x0 1 1) (rdQ harg4 x2 1 1)
        (rdB arg17 (kernelRun0_B.sl.HS0_3 c i arg10 harg10 arg11 harg11 x8 x9) 1 1)
        (rdB arg18 (kernelRun0_B.sl.HS1_3 c i arg12 harg12 arg13 harg13 x10 x11) 1 1)
        (rdQ harg6 x4 1 1) (rdQ harg8 x6 1 1))⟩
      :: (kernelRun0_B.sl.HS2_4 c i arg2 harg2 arg4 harg4 arg6 harg6 arg8 harg8 arg10 harg10 arg11 harg11 arg12 harg12 arg13 harg13 arg17 arg18 arg19 x0 x2 x4 x6 x8 x9 x10 x11) := rfl

theorem dk6_B : (kernelRun0_B.sl.HS2_6 c i arg2 harg2 arg4 harg4 arg6 harg6 arg8 harg8 arg10 harg10 arg11 harg11 arg12 harg12 arg13 harg13 arg17 arg18 arg19 x0 x2 x4 x6 x8 x9 x10 x11)
    = ⟨rectB 2 0, plusV (rdB arg19 (kernelRun0_B.sl.HS2_5 c i arg2 harg2 arg4 harg4 arg6 harg6 arg8 harg8 arg10 harg10 arg11 harg11 arg12 harg12 arg13 harg13 arg17 arg18 arg19 x0 x2 x4 x6 x8 x9 x10 x11) 2 0) (dkV (maskV (i 0).val 2#32) (rdQ harg2 x0 2 0) (rdQ harg4 x2 2 0)
        (rdB arg17 (kernelRun0_B.sl.HS0_3 c i arg10 harg10 arg11 harg11 x8 x9) 2 0)
        (rdB arg18 (kernelRun0_B.sl.HS1_3 c i arg12 harg12 arg13 harg13 x10 x11) 2 0)
        (rdQ harg6 x4 2 0) (rdQ harg8 x6 2 0))⟩
      :: (kernelRun0_B.sl.HS2_5 c i arg2 harg2 arg4 harg4 arg6 harg6 arg8 harg8 arg10 harg10 arg11 harg11 arg12 harg12 arg13 harg13 arg17 arg18 arg19 x0 x2 x4 x6 x8 x9 x10 x11) := rfl

theorem dk7_B : (kernelRun0_B.sl.HS2_7 c i arg2 harg2 arg4 harg4 arg6 harg6 arg8 harg8 arg10 harg10 arg11 harg11 arg12 harg12 arg13 harg13 arg17 arg18 arg19 x0 x2 x4 x6 x8 x9 x10 x11)
    = ⟨rectB 2 1, plusV (rdB arg19 (kernelRun0_B.sl.HS2_6 c i arg2 harg2 arg4 harg4 arg6 harg6 arg8 harg8 arg10 harg10 arg11 harg11 arg12 harg12 arg13 harg13 arg17 arg18 arg19 x0 x2 x4 x6 x8 x9 x10 x11) 2 1) (dkV (maskV (i 0).val 2#32) (rdQ harg2 x0 2 1) (rdQ harg4 x2 2 1)
        (rdB arg17 (kernelRun0_B.sl.HS0_3 c i arg10 harg10 arg11 harg11 x8 x9) 2 1)
        (rdB arg18 (kernelRun0_B.sl.HS1_3 c i arg12 harg12 arg13 harg13 x10 x11) 2 1)
        (rdQ harg6 x4 2 1) (rdQ harg8 x6 2 1))⟩
      :: (kernelRun0_B.sl.HS2_6 c i arg2 harg2 arg4 harg4 arg6 harg6 arg8 harg8 arg10 harg10 arg11 harg11 arg12 harg12 arg13 harg13 arg17 arg18 arg19 x0 x2 x4 x6 x8 x9 x10 x11) := rfl

theorem dk8_B : (kernelRun0_B.sl.HS2_8 c i arg2 harg2 arg4 harg4 arg6 harg6 arg8 harg8 arg10 harg10 arg11 harg11 arg12 harg12 arg13 harg13 arg17 arg18 arg19 x0 x2 x4 x6 x8 x9 x10 x11)
    = ⟨rectB 3 0, plusV (rdB arg19 (kernelRun0_B.sl.HS2_7 c i arg2 harg2 arg4 harg4 arg6 harg6 arg8 harg8 arg10 harg10 arg11 harg11 arg12 harg12 arg13 harg13 arg17 arg18 arg19 x0 x2 x4 x6 x8 x9 x10 x11) 3 0) (dkV (maskV (i 0).val 3#32) (rdQ harg2 x0 3 0) (rdQ harg4 x2 3 0)
        (rdB arg17 (kernelRun0_B.sl.HS0_3 c i arg10 harg10 arg11 harg11 x8 x9) 3 0)
        (rdB arg18 (kernelRun0_B.sl.HS1_3 c i arg12 harg12 arg13 harg13 x10 x11) 3 0)
        (rdQ harg6 x4 3 0) (rdQ harg8 x6 3 0))⟩
      :: (kernelRun0_B.sl.HS2_7 c i arg2 harg2 arg4 harg4 arg6 harg6 arg8 harg8 arg10 harg10 arg11 harg11 arg12 harg12 arg13 harg13 arg17 arg18 arg19 x0 x2 x4 x6 x8 x9 x10 x11) := rfl

theorem dk9_B : (kernelRun0_B.sl.HS2_9 c i arg2 harg2 arg4 harg4 arg6 harg6 arg8 harg8 arg10 harg10 arg11 harg11 arg12 harg12 arg13 harg13 arg17 arg18 arg19 x0 x2 x4 x6 x8 x9 x10 x11)
    = ⟨rectB 3 1, plusV (rdB arg19 (kernelRun0_B.sl.HS2_8 c i arg2 harg2 arg4 harg4 arg6 harg6 arg8 harg8 arg10 harg10 arg11 harg11 arg12 harg12 arg13 harg13 arg17 arg18 arg19 x0 x2 x4 x6 x8 x9 x10 x11) 3 1) (dkV (maskV (i 0).val 3#32) (rdQ harg2 x0 3 1) (rdQ harg4 x2 3 1)
        (rdB arg17 (kernelRun0_B.sl.HS0_3 c i arg10 harg10 arg11 harg11 x8 x9) 3 1)
        (rdB arg18 (kernelRun0_B.sl.HS1_3 c i arg12 harg12 arg13 harg13 x10 x11) 3 1)
        (rdQ harg6 x4 3 1) (rdQ harg8 x6 3 1))⟩
      :: (kernelRun0_B.sl.HS2_8 c i arg2 harg2 arg4 harg4 arg6 harg6 arg8 harg8 arg10 harg10 arg11 harg11 arg12 harg12 arg13 harg13 arg17 arg18 arg19 x0 x2 x4 x6 x8 x9 x10 x11) := rfl

theorem dk10_B : (kernelRun0_B.sl.HS2_10 c i arg2 harg2 arg4 harg4 arg6 harg6 arg8 harg8 arg10 harg10 arg11 harg11 arg12 harg12 arg13 harg13 arg17 arg18 arg19 x0 x2 x4 x6 x8 x9 x10 x11)
    = ⟨rectB 4 0, plusV (rdB arg19 (kernelRun0_B.sl.HS2_9 c i arg2 harg2 arg4 harg4 arg6 harg6 arg8 harg8 arg10 harg10 arg11 harg11 arg12 harg12 arg13 harg13 arg17 arg18 arg19 x0 x2 x4 x6 x8 x9 x10 x11) 4 0) (dkV (maskV (i 0).val 4#32) (rdQ harg2 x0 4 0) (rdQ harg4 x2 4 0)
        (rdB arg17 (kernelRun0_B.sl.HS0_3 c i arg10 harg10 arg11 harg11 x8 x9) 4 0)
        (rdB arg18 (kernelRun0_B.sl.HS1_3 c i arg12 harg12 arg13 harg13 x10 x11) 4 0)
        (rdQ harg6 x4 4 0) (rdQ harg8 x6 4 0))⟩
      :: (kernelRun0_B.sl.HS2_9 c i arg2 harg2 arg4 harg4 arg6 harg6 arg8 harg8 arg10 harg10 arg11 harg11 arg12 harg12 arg13 harg13 arg17 arg18 arg19 x0 x2 x4 x6 x8 x9 x10 x11) := rfl

theorem dk11_B : (kernelRun0_B.sl.HS2_11 c i arg2 harg2 arg4 harg4 arg6 harg6 arg8 harg8 arg10 harg10 arg11 harg11 arg12 harg12 arg13 harg13 arg17 arg18 arg19 x0 x2 x4 x6 x8 x9 x10 x11)
    = ⟨rectB 4 1, plusV (rdB arg19 (kernelRun0_B.sl.HS2_10 c i arg2 harg2 arg4 harg4 arg6 harg6 arg8 harg8 arg10 harg10 arg11 harg11 arg12 harg12 arg13 harg13 arg17 arg18 arg19 x0 x2 x4 x6 x8 x9 x10 x11) 4 1) (dkV (maskV (i 0).val 4#32) (rdQ harg2 x0 4 1) (rdQ harg4 x2 4 1)
        (rdB arg17 (kernelRun0_B.sl.HS0_3 c i arg10 harg10 arg11 harg11 x8 x9) 4 1)
        (rdB arg18 (kernelRun0_B.sl.HS1_3 c i arg12 harg12 arg13 harg13 x10 x11) 4 1)
        (rdQ harg6 x4 4 1) (rdQ harg8 x6 4 1))⟩
      :: (kernelRun0_B.sl.HS2_10 c i arg2 harg2 arg4 harg4 arg6 harg6 arg8 harg8 arg10 harg10 arg11 harg11 arg12 harg12 arg13 harg13 arg17 arg18 arg19 x0 x2 x4 x6 x8 x9 x10 x11) := rfl

theorem dk12_B : (kernelRun0_B.sl.HS2_12 c i arg2 harg2 arg4 harg4 arg6 harg6 arg8 harg8 arg10 harg10 arg11 harg11 arg12 harg12 arg13 harg13 arg17 arg18 arg19 x0 x2 x4 x6 x8 x9 x10 x11)
    = ⟨rectB 5 0, plusV (rdB arg19 (kernelRun0_B.sl.HS2_11 c i arg2 harg2 arg4 harg4 arg6 harg6 arg8 harg8 arg10 harg10 arg11 harg11 arg12 harg12 arg13 harg13 arg17 arg18 arg19 x0 x2 x4 x6 x8 x9 x10 x11) 5 0) (dkV (maskV (i 0).val 5#32) (rdQ harg2 x0 5 0) (rdQ harg4 x2 5 0)
        (rdB arg17 (kernelRun0_B.sl.HS0_3 c i arg10 harg10 arg11 harg11 x8 x9) 5 0)
        (rdB arg18 (kernelRun0_B.sl.HS1_3 c i arg12 harg12 arg13 harg13 x10 x11) 5 0)
        (rdQ harg6 x4 5 0) (rdQ harg8 x6 5 0))⟩
      :: (kernelRun0_B.sl.HS2_11 c i arg2 harg2 arg4 harg4 arg6 harg6 arg8 harg8 arg10 harg10 arg11 harg11 arg12 harg12 arg13 harg13 arg17 arg18 arg19 x0 x2 x4 x6 x8 x9 x10 x11) := rfl

theorem dk13_B : (kernelRun0_B.sl.HS2_13 c i arg2 harg2 arg4 harg4 arg6 harg6 arg8 harg8 arg10 harg10 arg11 harg11 arg12 harg12 arg13 harg13 arg17 arg18 arg19 x0 x2 x4 x6 x8 x9 x10 x11)
    = ⟨rectB 5 1, plusV (rdB arg19 (kernelRun0_B.sl.HS2_12 c i arg2 harg2 arg4 harg4 arg6 harg6 arg8 harg8 arg10 harg10 arg11 harg11 arg12 harg12 arg13 harg13 arg17 arg18 arg19 x0 x2 x4 x6 x8 x9 x10 x11) 5 1) (dkV (maskV (i 0).val 5#32) (rdQ harg2 x0 5 1) (rdQ harg4 x2 5 1)
        (rdB arg17 (kernelRun0_B.sl.HS0_3 c i arg10 harg10 arg11 harg11 x8 x9) 5 1)
        (rdB arg18 (kernelRun0_B.sl.HS1_3 c i arg12 harg12 arg13 harg13 x10 x11) 5 1)
        (rdQ harg6 x4 5 1) (rdQ harg8 x6 5 1))⟩
      :: (kernelRun0_B.sl.HS2_12 c i arg2 harg2 arg4 harg4 arg6 harg6 arg8 harg8 arg10 harg10 arg11 harg11 arg12 harg12 arg13 harg13 arg17 arg18 arg19 x0 x2 x4 x6 x8 x9 x10 x11) := rfl

theorem dk14_B : (kernelRun0_B.sl.HS2_14 c i arg2 harg2 arg4 harg4 arg6 harg6 arg8 harg8 arg10 harg10 arg11 harg11 arg12 harg12 arg13 harg13 arg17 arg18 arg19 x0 x2 x4 x6 x8 x9 x10 x11)
    = ⟨rectB 6 0, plusV (rdB arg19 (kernelRun0_B.sl.HS2_13 c i arg2 harg2 arg4 harg4 arg6 harg6 arg8 harg8 arg10 harg10 arg11 harg11 arg12 harg12 arg13 harg13 arg17 arg18 arg19 x0 x2 x4 x6 x8 x9 x10 x11) 6 0) (dkV (maskV (i 0).val 6#32) (rdQ harg2 x0 6 0) (rdQ harg4 x2 6 0)
        (rdB arg17 (kernelRun0_B.sl.HS0_3 c i arg10 harg10 arg11 harg11 x8 x9) 6 0)
        (rdB arg18 (kernelRun0_B.sl.HS1_3 c i arg12 harg12 arg13 harg13 x10 x11) 6 0)
        (rdQ harg6 x4 6 0) (rdQ harg8 x6 6 0))⟩
      :: (kernelRun0_B.sl.HS2_13 c i arg2 harg2 arg4 harg4 arg6 harg6 arg8 harg8 arg10 harg10 arg11 harg11 arg12 harg12 arg13 harg13 arg17 arg18 arg19 x0 x2 x4 x6 x8 x9 x10 x11) := rfl

theorem dk15_B : (kernelRun0_B.sl.HS2_15 c i arg2 harg2 arg4 harg4 arg6 harg6 arg8 harg8 arg10 harg10 arg11 harg11 arg12 harg12 arg13 harg13 arg17 arg18 arg19 x0 x2 x4 x6 x8 x9 x10 x11)
    = ⟨rectB 6 1, plusV (rdB arg19 (kernelRun0_B.sl.HS2_14 c i arg2 harg2 arg4 harg4 arg6 harg6 arg8 harg8 arg10 harg10 arg11 harg11 arg12 harg12 arg13 harg13 arg17 arg18 arg19 x0 x2 x4 x6 x8 x9 x10 x11) 6 1) (dkV (maskV (i 0).val 6#32) (rdQ harg2 x0 6 1) (rdQ harg4 x2 6 1)
        (rdB arg17 (kernelRun0_B.sl.HS0_3 c i arg10 harg10 arg11 harg11 x8 x9) 6 1)
        (rdB arg18 (kernelRun0_B.sl.HS1_3 c i arg12 harg12 arg13 harg13 x10 x11) 6 1)
        (rdQ harg6 x4 6 1) (rdQ harg8 x6 6 1))⟩
      :: (kernelRun0_B.sl.HS2_14 c i arg2 harg2 arg4 harg4 arg6 harg6 arg8 harg8 arg10 harg10 arg11 harg11 arg12 harg12 arg13 harg13 arg17 arg18 arg19 x0 x2 x4 x6 x8 x9 x10 x11) := rfl

theorem dk16_B : (kernelRun0_B.sl.HS2_16 c i arg2 harg2 arg4 harg4 arg6 harg6 arg8 harg8 arg10 harg10 arg11 harg11 arg12 harg12 arg13 harg13 arg17 arg18 arg19 x0 x2 x4 x6 x8 x9 x10 x11)
    = ⟨rectB 7 0, plusV (rdB arg19 (kernelRun0_B.sl.HS2_15 c i arg2 harg2 arg4 harg4 arg6 harg6 arg8 harg8 arg10 harg10 arg11 harg11 arg12 harg12 arg13 harg13 arg17 arg18 arg19 x0 x2 x4 x6 x8 x9 x10 x11) 7 0) (dkV (maskV (i 0).val 7#32) (rdQ harg2 x0 7 0) (rdQ harg4 x2 7 0)
        (rdB arg17 (kernelRun0_B.sl.HS0_3 c i arg10 harg10 arg11 harg11 x8 x9) 7 0)
        (rdB arg18 (kernelRun0_B.sl.HS1_3 c i arg12 harg12 arg13 harg13 x10 x11) 7 0)
        (rdQ harg6 x4 7 0) (rdQ harg8 x6 7 0))⟩
      :: (kernelRun0_B.sl.HS2_15 c i arg2 harg2 arg4 harg4 arg6 harg6 arg8 harg8 arg10 harg10 arg11 harg11 arg12 harg12 arg13 harg13 arg17 arg18 arg19 x0 x2 x4 x6 x8 x9 x10 x11) := rfl

theorem dk17_B : (kernelRun0_B.sl.HS2_17 c i arg2 harg2 arg4 harg4 arg6 harg6 arg8 harg8 arg10 harg10 arg11 harg11 arg12 harg12 arg13 harg13 arg17 arg18 arg19 x0 x2 x4 x6 x8 x9 x10 x11)
    = ⟨rectB 7 1, plusV (rdB arg19 (kernelRun0_B.sl.HS2_16 c i arg2 harg2 arg4 harg4 arg6 harg6 arg8 harg8 arg10 harg10 arg11 harg11 arg12 harg12 arg13 harg13 arg17 arg18 arg19 x0 x2 x4 x6 x8 x9 x10 x11) 7 1) (dkV (maskV (i 0).val 7#32) (rdQ harg2 x0 7 1) (rdQ harg4 x2 7 1)
        (rdB arg17 (kernelRun0_B.sl.HS0_3 c i arg10 harg10 arg11 harg11 x8 x9) 7 1)
        (rdB arg18 (kernelRun0_B.sl.HS1_3 c i arg12 harg12 arg13 harg13 x10 x11) 7 1)
        (rdQ harg6 x4 7 1) (rdQ harg8 x6 7 1))⟩
      :: (kernelRun0_B.sl.HS2_16 c i arg2 harg2 arg4 harg4 arg6 harg6 arg8 harg8 arg10 harg10 arg11 harg11 arg12 harg12 arg13 harg13 arg17 arg18 arg19 x0 x2 x4 x6 x8 x9 x10 x11) := rfl

theorem dv2_B : (kernelRun0_B.sl.HS3_2 c i arg2 harg2 arg4 harg4 arg6 harg6 arg10 harg10 arg11 harg11 arg17 arg20 x0 x2 x4 x8 x9)
    = ⟨rectB 0 0, plusV (rdB arg20 (kernelRun0_B.sl.HS2_1 (F := F)) 0 0) (dvV (maskV (i 0).val 0#32) (rdQ harg2 x0 0 0) (rdQ harg4 x2 0 0)
        (rdB arg17 (kernelRun0_B.sl.HS0_3 c i arg10 harg10 arg11 harg11 x8 x9) 0 0)
        (rdQ harg6 x4 0 0))⟩
      :: (kernelRun0_B.sl.HS2_1 (F := F)) := rfl

theorem dv3_B : (kernelRun0_B.sl.HS3_3 c i arg2 harg2 arg4 harg4 arg6 harg6 arg10 harg10 arg11 harg11 arg17 arg20 x0 x2 x4 x8 x9)
    = ⟨rectB 0 1, plusV (rdB arg20 (kernelRun0_B.sl.HS3_2 c i arg2 harg2 arg4 harg4 arg6 harg6 arg10 harg10 arg11 harg11 arg17 arg20 x0 x2 x4 x8 x9) 0 1) (dvV (maskV (i 0).val 0#32) (rdQ harg2 x0 0 1) (rdQ harg4 x2 0 1)
        (rdB arg17 (kernelRun0_B.sl.HS0_3 c i arg10 harg10 arg11 harg11 x8 x9) 0 1)
        (rdQ harg6 x4 0 1))⟩
      :: (kernelRun0_B.sl.HS3_2 c i arg2 harg2 arg4 harg4 arg6 harg6 arg10 harg10 arg11 harg11 arg17 arg20 x0 x2 x4 x8 x9) := rfl

theorem dv4_B : (kernelRun0_B.sl.HS3_4 c i arg2 harg2 arg4 harg4 arg6 harg6 arg10 harg10 arg11 harg11 arg17 arg20 x0 x2 x4 x8 x9)
    = ⟨rectB 1 0, plusV (rdB arg20 (kernelRun0_B.sl.HS3_3 c i arg2 harg2 arg4 harg4 arg6 harg6 arg10 harg10 arg11 harg11 arg17 arg20 x0 x2 x4 x8 x9) 1 0) (dvV (maskV (i 0).val 1#32) (rdQ harg2 x0 1 0) (rdQ harg4 x2 1 0)
        (rdB arg17 (kernelRun0_B.sl.HS0_3 c i arg10 harg10 arg11 harg11 x8 x9) 1 0)
        (rdQ harg6 x4 1 0))⟩
      :: (kernelRun0_B.sl.HS3_3 c i arg2 harg2 arg4 harg4 arg6 harg6 arg10 harg10 arg11 harg11 arg17 arg20 x0 x2 x4 x8 x9) := rfl

theorem dv5_B : (kernelRun0_B.sl.HS3_5 c i arg2 harg2 arg4 harg4 arg6 harg6 arg10 harg10 arg11 harg11 arg17 arg20 x0 x2 x4 x8 x9)
    = ⟨rectB 1 1, plusV (rdB arg20 (kernelRun0_B.sl.HS3_4 c i arg2 harg2 arg4 harg4 arg6 harg6 arg10 harg10 arg11 harg11 arg17 arg20 x0 x2 x4 x8 x9) 1 1) (dvV (maskV (i 0).val 1#32) (rdQ harg2 x0 1 1) (rdQ harg4 x2 1 1)
        (rdB arg17 (kernelRun0_B.sl.HS0_3 c i arg10 harg10 arg11 harg11 x8 x9) 1 1)
        (rdQ harg6 x4 1 1))⟩
      :: (kernelRun0_B.sl.HS3_4 c i arg2 harg2 arg4 harg4 arg6 harg6 arg10 harg10 arg11 harg11 arg17 arg20 x0 x2 x4 x8 x9) := rfl

theorem dv6_B : (kernelRun0_B.sl.HS3_6 c i arg2 harg2 arg4 harg4 arg6 harg6 arg10 harg10 arg11 harg11 arg17 arg20 x0 x2 x4 x8 x9)
    = ⟨rectB 2 0, plusV (rdB arg20 (kernelRun0_B.sl.HS3_5 c i arg2 harg2 arg4 harg4 arg6 harg6 arg10 harg10 arg11 harg11 arg17 arg20 x0 x2 x4 x8 x9) 2 0) (dvV (maskV (i 0).val 2#32) (rdQ harg2 x0 2 0) (rdQ harg4 x2 2 0)
        (rdB arg17 (kernelRun0_B.sl.HS0_3 c i arg10 harg10 arg11 harg11 x8 x9) 2 0)
        (rdQ harg6 x4 2 0))⟩
      :: (kernelRun0_B.sl.HS3_5 c i arg2 harg2 arg4 harg4 arg6 harg6 arg10 harg10 arg11 harg11 arg17 arg20 x0 x2 x4 x8 x9) := rfl

theorem dv7_B : (kernelRun0_B.sl.HS3_7 c i arg2 harg2 arg4 harg4 arg6 harg6 arg10 harg10 arg11 harg11 arg17 arg20 x0 x2 x4 x8 x9)
    = ⟨rectB 2 1, plusV (rdB arg20 (kernelRun0_B.sl.HS3_6 c i arg2 harg2 arg4 harg4 arg6 harg6 arg10 harg10 arg11 harg11 arg17 arg20 x0 x2 x4 x8 x9) 2 1) (dvV (maskV (i 0).val 2#32) (rdQ harg2 x0 2 1) (rdQ harg4 x2 2 1)
        (rdB arg17 (kernelRun0_B.sl.HS0_3 c i arg10 harg10 arg11 harg11 x8 x9) 2 1)
        (rdQ harg6 x4 2 1))⟩
      :: (kernelRun0_B.sl.HS3_6 c i arg2 harg2 arg4 harg4 arg6 harg6 arg10 harg10 arg11 harg11 arg17 arg20 x0 x2 x4 x8 x9) := rfl

theorem dv8_B : (kernelRun0_B.sl.HS3_8 c i arg2 harg2 arg4 harg4 arg6 harg6 arg10 harg10 arg11 harg11 arg17 arg20 x0 x2 x4 x8 x9)
    = ⟨rectB 3 0, plusV (rdB arg20 (kernelRun0_B.sl.HS3_7 c i arg2 harg2 arg4 harg4 arg6 harg6 arg10 harg10 arg11 harg11 arg17 arg20 x0 x2 x4 x8 x9) 3 0) (dvV (maskV (i 0).val 3#32) (rdQ harg2 x0 3 0) (rdQ harg4 x2 3 0)
        (rdB arg17 (kernelRun0_B.sl.HS0_3 c i arg10 harg10 arg11 harg11 x8 x9) 3 0)
        (rdQ harg6 x4 3 0))⟩
      :: (kernelRun0_B.sl.HS3_7 c i arg2 harg2 arg4 harg4 arg6 harg6 arg10 harg10 arg11 harg11 arg17 arg20 x0 x2 x4 x8 x9) := rfl

theorem dv9_B : (kernelRun0_B.sl.HS3_9 c i arg2 harg2 arg4 harg4 arg6 harg6 arg10 harg10 arg11 harg11 arg17 arg20 x0 x2 x4 x8 x9)
    = ⟨rectB 3 1, plusV (rdB arg20 (kernelRun0_B.sl.HS3_8 c i arg2 harg2 arg4 harg4 arg6 harg6 arg10 harg10 arg11 harg11 arg17 arg20 x0 x2 x4 x8 x9) 3 1) (dvV (maskV (i 0).val 3#32) (rdQ harg2 x0 3 1) (rdQ harg4 x2 3 1)
        (rdB arg17 (kernelRun0_B.sl.HS0_3 c i arg10 harg10 arg11 harg11 x8 x9) 3 1)
        (rdQ harg6 x4 3 1))⟩
      :: (kernelRun0_B.sl.HS3_8 c i arg2 harg2 arg4 harg4 arg6 harg6 arg10 harg10 arg11 harg11 arg17 arg20 x0 x2 x4 x8 x9) := rfl

theorem dv10_B : (kernelRun0_B.sl.HS3_10 c i arg2 harg2 arg4 harg4 arg6 harg6 arg10 harg10 arg11 harg11 arg17 arg20 x0 x2 x4 x8 x9)
    = ⟨rectB 4 0, plusV (rdB arg20 (kernelRun0_B.sl.HS3_9 c i arg2 harg2 arg4 harg4 arg6 harg6 arg10 harg10 arg11 harg11 arg17 arg20 x0 x2 x4 x8 x9) 4 0) (dvV (maskV (i 0).val 4#32) (rdQ harg2 x0 4 0) (rdQ harg4 x2 4 0)
        (rdB arg17 (kernelRun0_B.sl.HS0_3 c i arg10 harg10 arg11 harg11 x8 x9) 4 0)
        (rdQ harg6 x4 4 0))⟩
      :: (kernelRun0_B.sl.HS3_9 c i arg2 harg2 arg4 harg4 arg6 harg6 arg10 harg10 arg11 harg11 arg17 arg20 x0 x2 x4 x8 x9) := rfl

theorem dv11_B : (kernelRun0_B.sl.HS3_11 c i arg2 harg2 arg4 harg4 arg6 harg6 arg10 harg10 arg11 harg11 arg17 arg20 x0 x2 x4 x8 x9)
    = ⟨rectB 4 1, plusV (rdB arg20 (kernelRun0_B.sl.HS3_10 c i arg2 harg2 arg4 harg4 arg6 harg6 arg10 harg10 arg11 harg11 arg17 arg20 x0 x2 x4 x8 x9) 4 1) (dvV (maskV (i 0).val 4#32) (rdQ harg2 x0 4 1) (rdQ harg4 x2 4 1)
        (rdB arg17 (kernelRun0_B.sl.HS0_3 c i arg10 harg10 arg11 harg11 x8 x9) 4 1)
        (rdQ harg6 x4 4 1))⟩
      :: (kernelRun0_B.sl.HS3_10 c i arg2 harg2 arg4 harg4 arg6 harg6 arg10 harg10 arg11 harg11 arg17 arg20 x0 x2 x4 x8 x9) := rfl

theorem dv12_B : (kernelRun0_B.sl.HS3_12 c i arg2 harg2 arg4 harg4 arg6 harg6 arg10 harg10 arg11 harg11 arg17 arg20 x0 x2 x4 x8 x9)
    = ⟨rectB 5 0, plusV (rdB arg20 (kernelRun0_B.sl.HS3_11 c i arg2 harg2 arg4 harg4 arg6 harg6 arg10 harg10 arg11 harg11 arg17 arg20 x0 x2 x4 x8 x9) 5 0) (dvV (maskV (i 0).val 5#32) (rdQ harg2 x0 5 0) (rdQ harg4 x2 5 0)
        (rdB arg17 (kernelRun0_B.sl.HS0_3 c i arg10 harg10 arg11 harg11 x8 x9) 5 0)
        (rdQ harg6 x4 5 0))⟩
      :: (kernelRun0_B.sl.HS3_11 c i arg2 harg2 arg4 harg4 arg6 harg6 arg10 harg10 arg11 harg11 arg17 arg20 x0 x2 x4 x8 x9) := rfl

theorem dv13_B : (kernelRun0_B.sl.HS3_13 c i arg2 harg2 arg4 harg4 arg6 harg6 arg10 harg10 arg11 harg11 arg17 arg20 x0 x2 x4 x8 x9)
    = ⟨rectB 5 1, plusV (rdB arg20 (kernelRun0_B.sl.HS3_12 c i arg2 harg2 arg4 harg4 arg6 harg6 arg10 harg10 arg11 harg11 arg17 arg20 x0 x2 x4 x8 x9) 5 1) (dvV (maskV (i 0).val 5#32) (rdQ harg2 x0 5 1) (rdQ harg4 x2 5 1)
        (rdB arg17 (kernelRun0_B.sl.HS0_3 c i arg10 harg10 arg11 harg11 x8 x9) 5 1)
        (rdQ harg6 x4 5 1))⟩
      :: (kernelRun0_B.sl.HS3_12 c i arg2 harg2 arg4 harg4 arg6 harg6 arg10 harg10 arg11 harg11 arg17 arg20 x0 x2 x4 x8 x9) := rfl

theorem dv14_B : (kernelRun0_B.sl.HS3_14 c i arg2 harg2 arg4 harg4 arg6 harg6 arg10 harg10 arg11 harg11 arg17 arg20 x0 x2 x4 x8 x9)
    = ⟨rectB 6 0, plusV (rdB arg20 (kernelRun0_B.sl.HS3_13 c i arg2 harg2 arg4 harg4 arg6 harg6 arg10 harg10 arg11 harg11 arg17 arg20 x0 x2 x4 x8 x9) 6 0) (dvV (maskV (i 0).val 6#32) (rdQ harg2 x0 6 0) (rdQ harg4 x2 6 0)
        (rdB arg17 (kernelRun0_B.sl.HS0_3 c i arg10 harg10 arg11 harg11 x8 x9) 6 0)
        (rdQ harg6 x4 6 0))⟩
      :: (kernelRun0_B.sl.HS3_13 c i arg2 harg2 arg4 harg4 arg6 harg6 arg10 harg10 arg11 harg11 arg17 arg20 x0 x2 x4 x8 x9) := rfl

theorem dv15_B : (kernelRun0_B.sl.HS3_15 c i arg2 harg2 arg4 harg4 arg6 harg6 arg10 harg10 arg11 harg11 arg17 arg20 x0 x2 x4 x8 x9)
    = ⟨rectB 6 1, plusV (rdB arg20 (kernelRun0_B.sl.HS3_14 c i arg2 harg2 arg4 harg4 arg6 harg6 arg10 harg10 arg11 harg11 arg17 arg20 x0 x2 x4 x8 x9) 6 1) (dvV (maskV (i 0).val 6#32) (rdQ harg2 x0 6 1) (rdQ harg4 x2 6 1)
        (rdB arg17 (kernelRun0_B.sl.HS0_3 c i arg10 harg10 arg11 harg11 x8 x9) 6 1)
        (rdQ harg6 x4 6 1))⟩
      :: (kernelRun0_B.sl.HS3_14 c i arg2 harg2 arg4 harg4 arg6 harg6 arg10 harg10 arg11 harg11 arg17 arg20 x0 x2 x4 x8 x9) := rfl

theorem dv16_B : (kernelRun0_B.sl.HS3_16 c i arg2 harg2 arg4 harg4 arg6 harg6 arg10 harg10 arg11 harg11 arg17 arg20 x0 x2 x4 x8 x9)
    = ⟨rectB 7 0, plusV (rdB arg20 (kernelRun0_B.sl.HS3_15 c i arg2 harg2 arg4 harg4 arg6 harg6 arg10 harg10 arg11 harg11 arg17 arg20 x0 x2 x4 x8 x9) 7 0) (dvV (maskV (i 0).val 7#32) (rdQ harg2 x0 7 0) (rdQ harg4 x2 7 0)
        (rdB arg17 (kernelRun0_B.sl.HS0_3 c i arg10 harg10 arg11 harg11 x8 x9) 7 0)
        (rdQ harg6 x4 7 0))⟩
      :: (kernelRun0_B.sl.HS3_15 c i arg2 harg2 arg4 harg4 arg6 harg6 arg10 harg10 arg11 harg11 arg17 arg20 x0 x2 x4 x8 x9) := rfl

theorem dv17_B : (kernelRun0_B.sl.HS3_17 c i arg2 harg2 arg4 harg4 arg6 harg6 arg10 harg10 arg11 harg11 arg17 arg20 x0 x2 x4 x8 x9)
    = ⟨rectB 7 1, plusV (rdB arg20 (kernelRun0_B.sl.HS3_16 c i arg2 harg2 arg4 harg4 arg6 harg6 arg10 harg10 arg11 harg11 arg17 arg20 x0 x2 x4 x8 x9) 7 1) (dvV (maskV (i 0).val 7#32) (rdQ harg2 x0 7 1) (rdQ harg4 x2 7 1)
        (rdB arg17 (kernelRun0_B.sl.HS0_3 c i arg10 harg10 arg11 harg11 x8 x9) 7 1)
        (rdQ harg6 x4 7 1))⟩
      :: (kernelRun0_B.sl.HS3_16 c i arg2 harg2 arg4 harg4 arg6 harg6 arg10 harg10 arg11 harg11 arg17 arg20 x0 x2 x4 x8 x9) := rfl

end Cert.Kernel2Ideal.Attn

end
-- ==== Proof.AttnBodyB.lean ====
/- The three gradients the backward kernel's body leaves at the grid points of the last row, element by element. -/
module

public import proofs.«01_k».proof.Proof.AttnForms
public import proofs.«01_k».proof.Proof.AttnRunB
public import proofs.«01_k».proof.Proof.Gen.Kernel2Ideal.Frame

@[expose] public section

noncomputable section

namespace Cert.Kernel2Ideal.Attn

open Cert.Kernel2Ideal Cert.Kernel2Ideal.Gen Idealize.ShloMosaic Idealize.SL.Sem Idealize.ShloMosaic.Bands

variable (c : Dev nD) (i : grid0.Coords) {arg2 : Memref sig .tc .vmem S1024x256 .f32} {harg2 : arg2.IsWhole} {arg3 : Memref sig .tc .vmem S128x256 .f32} {harg3 : arg3.IsWhole} {arg4 : Memref sig .tc .vmem S1024x256 .f32} {harg4 : arg4.IsWhole} {arg5 : Memref sig .tc .vmem S128x256 .f32} {harg5 : arg5.IsWhole} {arg6 : Memref sig .tc .vmem S1024x256 .f32} {harg6 : arg6.IsWhole} {arg7 : Memref sig .tc .vmem S128x256 .f32} {harg7 : arg7.IsWhole} {arg8 : Memref sig .tc .vmem S1024x256 .f32} {harg8 : arg8.IsWhole} {arg9 : Memref sig .tc .vmem S128x256 .f32} {harg9 : arg9.IsWhole} {arg10 : Memref sig .tc .vmem S1024x256 .f32} {harg10 : arg10.IsWhole} {arg11 : Memref sig .tc .vmem S128x256 .f32} {harg11 : arg11.IsWhole} {arg12 : Memref sig .tc .vmem S1024x256 .f32} {harg12 : arg12.IsWhole} {arg13 : Memref sig .tc .vmem S128x256 .f32} {harg13 : arg13.IsWhole} {arg14 : Memref sig .tc .vmem S1024x256 .f32} {harg14 : arg14.IsWhole} {arg15 : Memref sig .tc .vmem S1024x256 .f32} {harg15 : arg15.IsWhole} {arg16 : Memref sig .tc .vmem S1024x256 .f32} {harg16 : arg16.IsWhole} {arg17 : Memref sig .tc .vmem S1280x256 .f32} {harg17 : arg17.IsWhole} {arg18 : Memref sig .tc .vmem S1280x256 .f32} {harg18 : arg18.IsWhole} {arg19 : Memref sig .tc .vmem S1280x256 .f32} {harg19 : arg19.IsWhole} {arg20 : Memref sig .tc .vmem S1280x256 .f32} {harg20 : arg20.IsWhole}
  (x0 : Vec Ideal S1024x256 .f32) (x1 : Vec Ideal S128x256 .f32) (x2 : Vec Ideal S1024x256 .f32) (x3 : Vec Ideal S128x256 .f32) (x4 : Vec Ideal S1024x256 .f32) (x5 : Vec Ideal S128x256 .f32) (x6 : Vec Ideal S1024x256 .f32) (x7 : Vec Ideal S128x256 .f32) (x8 : Vec Ideal S1024x256 .f32) (x9 : Vec Ideal S128x256 .f32) (x10 : Vec Ideal S1024x256 .f32) (x11 : Vec Ideal S128x256 .f32)

/-- What the keys' buffer holds. -/
theorem keys_B (r : Fin 1280) (l : Fin 256) :
    View.canon (Val := Elt Ideal) (s := S1280x256) (e := .f32) (kernelRun0_B.sl.HS0_3 c i arg10 harg10 arg11 harg11 x8 x9) (ix2 r l) = keyBuf (i 0).val x9 x8 r l := by
  unfold kernelRun0_B.sl.HS0_3
  refine (canon_band (Val := Elt Ideal) (e := .f32) (a := 1280) (n := 256) (o := 1152) (b := 128) _ _ _ r l).trans ?_
  rw [canon_band (Val := Elt Ideal) (e := .f32) (a := 1280) (n := 256) (o := 128) (b := 1024),
    canon_band (Val := Elt Ideal) (e := .f32) (a := 1280) (n := 256) (o := 0) (b := 128)]
  simp only [kernelRun0_B.sl.v7, kernelRun0_B.sl.v4, kernelRun0_B.sl.v11, kernelRun0_B.sl.v14, kernelRun0_B.sl.v0, kernelRun0_B.sl.v1, kernelRun0_B.sl.cst, View.readAt_eq_ld, Memref.IsWhole.read_unread, ld_all]
  unfold keyBuf
  have hn' : (i 0).val < 8 := (i 0).isLt
  generalize (i 0).val = n at hn' ⊢
  have hk : (Scalar.cmpi .sgt (BitVec.ofNat 32 n) 0#32 = (1 : BitVec 1)) ↔ 0 < n := notFirst ⟨n, hn'⟩
  pointwise []
  simp only [Scalar.select, hk]
  rfl

/-- What the values' buffer holds. -/
theorem values_B (r : Fin 1280) (l : Fin 256) :
    View.canon (Val := Elt Ideal) (s := S1280x256) (e := .f32) (kernelRun0_B.sl.HS1_3 c i arg12 harg12 arg13 harg13 x10 x11) (ix2 r l) = keyBuf (i 0).val x11 x10 r l := by
  unfold kernelRun0_B.sl.HS1_3
  refine (canon_band (Val := Elt Ideal) (e := .f32) (a := 1280) (n := 256) (o := 1152) (b := 128) _ _ _ r l).trans ?_
  rw [canon_band (Val := Elt Ideal) (e := .f32) (a := 1280) (n := 256) (o := 128) (b := 1024),
    canon_band (Val := Elt Ideal) (e := .f32) (a := 1280) (n := 256) (o := 0) (b := 128)]
  simp only [kernelRun0_B.sl.v21, kernelRun0_B.sl.v18, kernelRun0_B.sl.v25, kernelRun0_B.sl.v14, kernelRun0_B.sl.v0, kernelRun0_B.sl.v1, kernelRun0_B.sl.cst, View.readAt_eq_ld, Memref.IsWhole.read_unread, ld_all]
  unfold keyBuf
  have hn' : (i 0).val < 8 := (i 0).isLt
  generalize (i 0).val = n at hn' ⊢
  have hk : (Scalar.cmpi .sgt (BitVec.ofNat 32 n) 0#32 = (1 : BitVec 1)) ↔ 0 < n := notFirst ⟨n, hn'⟩
  pointwise []
  simp only [Scalar.select, hk]
  rfl

/-- The accumulators start at zero. -/
theorem start_B (r : Fin 1280) (l : Fin 256) :
    View.canon (Val := Elt Ideal) (s := S1280x256) (e := .f32) (kernelRun0_B.sl.HS2_1 (F := Ideal)) (ix2 r l) = (0 : EReal) := by
  unfold kernelRun0_B.sl.HS2_1
  refine (congrFun (canon_all (Val := Elt Ideal) (e := .f32) (a := 1280) (b := 256) _ _ _) _).trans ?_
  pointwise [kernelRun0_B.sl.v32, kernelRun0_B.sl.v29, kernelRun0_B.sl.cst]

/-- The queries' gradient. -/
theorem dq_B (hc0 : ¬cond0_0 i) (g : Fin 8) (p : Fin 2) (ρ : Fin 128) (x : Fin 128) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 (ix2 (⟨128 * g.val + ρ.val, by omega⟩ : Fin 1024) (pairLane p x))
      = tileDq (i 0).val x0 x2 x4 x6 x8 x9 x10 x11 g p (ix2 ρ x) := by
  have e : out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 = View.canon (Val := Elt Ideal) (s := S1024x256) (e := .f32)
      [⟨rectQ 7 1, dqV (maskV (i 0).val 7#32) (rdQ harg2 x0 7 1) (rdQ harg4 x2 7 1) (rdB arg17 (kernelRun0_B.sl.HS0_3 c i arg10 harg10 arg11 harg11 x8 x9) 7 1) (rdB arg18 (kernelRun0_B.sl.HS1_3 c i arg12 harg12 arg13 harg13 x10 x11) 7 1) (rdQ harg6 x4 7 1) (rdQ harg8 x6 7 1)⟩,
       ⟨rectQ 7 0, dqV (maskV (i 0).val 7#32) (rdQ harg2 x0 7 0) (rdQ harg4 x2 7 0) (rdB arg17 (kernelRun0_B.sl.HS0_3 c i arg10 harg10 arg11 harg11 x8 x9) 7 0) (rdB arg18 (kernelRun0_B.sl.HS1_3 c i arg12 harg12 arg13 harg13 x10 x11) 7 0) (rdQ harg6 x4 7 0) (rdQ harg8 x6 7 0)⟩,
       ⟨rectQ 6 1, dqV (maskV (i 0).val 6#32) (rdQ harg2 x0 6 1) (rdQ harg4 x2 6 1) (rdB arg17 (kernelRun0_B.sl.HS0_3 c i arg10 harg10 arg11 harg11 x8 x9) 6 1) (rdB arg18 (kernelRun0_B.sl.HS1_3 c i arg12 harg12 arg13 harg13 x10 x11) 6 1) (rdQ harg6 x4 6 1) (rdQ harg8 x6 6 1)⟩,
       ⟨rectQ 6 0, dqV (maskV (i 0).val 6#32) (rdQ harg2 x0 6 0) (rdQ harg4 x2 6 0) (rdB arg17 (kernelRun0_B.sl.HS0_3 c i arg10 harg10 arg11 harg11 x8 x9) 6 0) (rdB arg18 (kernelRun0_B.sl.HS1_3 c i arg12 harg12 arg13 harg13 x10 x11) 6 0) (rdQ harg6 x4 6 0) (rdQ harg8 x6 6 0)⟩,
       ⟨rectQ 5 1, dqV (maskV (i 0).val 5#32) (rdQ harg2 x0 5 1) (rdQ harg4 x2 5 1) (rdB arg17 (kernelRun0_B.sl.HS0_3 c i arg10 harg10 arg11 harg11 x8 x9) 5 1) (rdB arg18 (kernelRun0_B.sl.HS1_3 c i arg12 harg12 arg13 harg13 x10 x11) 5 1) (rdQ harg6 x4 5 1) (rdQ harg8 x6 5 1)⟩,
       ⟨rectQ 5 0, dqV (maskV (i 0).val 5#32) (rdQ harg2 x0 5 0) (rdQ harg4 x2 5 0) (rdB arg17 (kernelRun0_B.sl.HS0_3 c i arg10 harg10 arg11 harg11 x8 x9) 5 0) (rdB arg18 (kernelRun0_B.sl.HS1_3 c i arg12 harg12 arg13 harg13 x10 x11) 5 0) (rdQ harg6 x4 5 0) (rdQ harg8 x6 5 0)⟩,
       ⟨rectQ 4 1, dqV (maskV (i 0).val 4#32) (rdQ harg2 x0 4 1) (rdQ harg4 x2 4 1) (rdB arg17 (kernelRun0_B.sl.HS0_3 c i arg10 harg10 arg11 harg11 x8 x9) 4 1) (rdB arg18 (kernelRun0_B.sl.HS1_3 c i arg12 harg12 arg13 harg13 x10 x11) 4 1) (rdQ harg6 x4 4 1) (rdQ harg8 x6 4 1)⟩,
       ⟨rectQ 4 0, dqV (maskV (i 0).val 4#32) (rdQ harg2 x0 4 0) (rdQ harg4 x2 4 0) (rdB arg17 (kernelRun0_B.sl.HS0_3 c i arg10 harg10 arg11 harg11 x8 x9) 4 0) (rdB arg18 (kernelRun0_B.sl.HS1_3 c i arg12 harg12 arg13 harg13 x10 x11) 4 0) (rdQ harg6 x4 4 0) (rdQ harg8 x6 4 0)⟩,
       ⟨rectQ 3 1, dqV (maskV (i 0).val 3#32) (rdQ harg2 x0 3 1) (rdQ harg4 x2 3 1) (rdB arg17 (kernelRun0_B.sl.HS0_3 c i arg10 harg10 arg11 harg11 x8 x9) 3 1) (rdB arg18 (kernelRun0_B.sl.HS1_3 c i arg12 harg12 arg13 harg13 x10 x11) 3 1) (rdQ harg6 x4 3 1) (rdQ harg8 x6 3 1)⟩,
       ⟨rectQ 3 0, dqV (maskV (i 0).val 3#32) (rdQ harg2 x0 3 0) (rdQ harg4 x2 3 0) (rdB arg17 (kernelRun0_B.sl.HS0_3 c i arg10 harg10 arg11 harg11 x8 x9) 3 0) (rdB arg18 (kernelRun0_B.sl.HS1_3 c i arg12 harg12 arg13 harg13 x10 x11) 3 0) (rdQ harg6 x4 3 0) (rdQ harg8 x6 3 0)⟩,
       ⟨rectQ 2 1, dqV (maskV (i 0).val 2#32) (rdQ harg2 x0 2 1) (rdQ harg4 x2 2 1) (rdB arg17 (kernelRun0_B.sl.HS0_3 c i arg10 harg10 arg11 harg11 x8 x9) 2 1) (rdB arg18 (kernelRun0_B.sl.HS1_3 c i arg12 harg12 arg13 harg13 x10 x11) 2 1) (rdQ harg6 x4 2 1) (rdQ harg8 x6 2 1)⟩,
       ⟨rectQ 2 0, dqV (maskV (i 0).val 2#32) (rdQ harg2 x0 2 0) (rdQ harg4 x2 2 0) (rdB arg17 (kernelRun0_B.sl.HS0_3 c i arg10 harg10 arg11 harg11 x8 x9) 2 0) (rdB arg18 (kernelRun0_B.sl.HS1_3 c i arg12 harg12 arg13 harg13 x10 x11) 2 0) (rdQ harg6 x4 2 0) (rdQ harg8 x6 2 0)⟩,
       ⟨rectQ 1 1, dqV (maskV (i 0).val 1#32) (rdQ harg2 x0 1 1) (rdQ harg4 x2 1 1) (rdB arg17 (kernelRun0_B.sl.HS0_3 c i arg10 harg10 arg11 harg11 x8 x9) 1 1) (rdB arg18 (kernelRun0_B.sl.HS1_3 c i arg12 harg12 arg13 harg13 x10 x11) 1 1) (rdQ harg6 x4 1 1) (rdQ harg8 x6 1 1)⟩,
       ⟨rectQ 1 0, dqV (maskV (i 0).val 1#32) (rdQ harg2 x0 1 0) (rdQ harg4 x2 1 0) (rdB arg17 (kernelRun0_B.sl.HS0_3 c i arg10 harg10 arg11 harg11 x8 x9) 1 0) (rdB arg18 (kernelRun0_B.sl.HS1_3 c i arg12 harg12 arg13 harg13 x10 x11) 1 0) (rdQ harg6 x4 1 0) (rdQ harg8 x6 1 0)⟩,
       ⟨rectQ 0 1, dqV (maskV (i 0).val 0#32) (rdQ harg2 x0 0 1) (rdQ harg4 x2 0 1) (rdB arg17 (kernelRun0_B.sl.HS0_3 c i arg10 harg10 arg11 harg11 x8 x9) 0 1) (rdB arg18 (kernelRun0_B.sl.HS1_3 c i arg12 harg12 arg13 harg13 x10 x11) 0 1) (rdQ harg6 x4 0 1) (rdQ harg8 x6 0 1)⟩,
       ⟨rectQ 0 0, dqV (maskV (i 0).val 0#32) (rdQ harg2 x0 0 0) (rdQ harg4 x2 0 0) (rdB arg17 (kernelRun0_B.sl.HS0_3 c i arg10 harg10 arg11 harg11 x8 x9) 0 0) (rdB arg18 (kernelRun0_B.sl.HS1_3 c i arg12 harg12 arg13 harg13 x10 x11) 0 0) (rdQ harg6 x4 0 0) (rdQ harg8 x6 0 0)⟩] := by
    unfold out0_B_12
    rw [View.read_writes_junk_eq_canon]
    rfl
  rw [e]
  simp only [canon_block, rdQ_eq, rdB_eq arg17 _ _ (keys_B c i x8 x9), rdB_eq arg18 _ _ (values_B c i x10 x11)]
  fin_cases g <;> fin_cases p <;> simp <;> rfl

/-- The keys' gradient. -/
theorem dk_B (hc0 : ¬cond0_0 i) (g : Fin 8) (p : Fin 2) (ρ : Fin 128) (x : Fin 128) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 (ix2 (⟨128 * g.val + ρ.val, by omega⟩ : Fin 1024) (pairLane p x))
      = ((lastOnly (tileDk (i 0).val x0 x1 x2 x3 x4 x5 x6 x7 x8 x9 x10 x11)) g.castSucc p (ix2 (upper ρ) x) + (lastOnly (tileDk (i 0).val x0 x1 x2 x3 x4 x5 x6 x7 x8 x9 x10 x11)) g.succ p (ix2 (lower ρ) x) : EReal) := by
  have e : out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 = (kernelRun0_B.sl.v1398 c i arg2 harg2 arg4 harg4 arg6 harg6 arg8 harg8 arg10 harg10 arg11 harg11 arg12 harg12 arg13 harg13 arg17 arg18 arg19 x0 x2 x4 x6 x8 x9 x10 x11) := by
    unfold out0_B_13
    rw [View.read_writes_junk_eq_canon]
    unfold kernelRun0_B
    dsimp only
    exact canon_all (Val := Elt Ideal) (e := .f32) (a := 1024) (b := 256) _ _ _
  rw [e]
  unfold kernelRun0_B.sl.v1398
  rw [ld_tile]
  rw [dk17_B, canon_plus, dk16_B, canon_plus, dk15_B, canon_plus, dk14_B, canon_plus, dk13_B, canon_plus, dk12_B, canon_plus, dk11_B, canon_plus, dk10_B, canon_plus, dk9_B, canon_plus, dk8_B, canon_plus, dk7_B, canon_plus, dk6_B, canon_plus, dk5_B, canon_plus, dk4_B, canon_plus, dk3_B, canon_plus, dk2_B, canon_plus, start_B]
  simp only [rdQ_eq, rdN_eq, rdB_eq arg17 _ _ (keys_B c i x8 x9), rdB_eq arg18 _ _ (values_B c i x10 x11)]
  refine Eq.trans ?_ (tower (lastOnly (tileDk (i 0).val x0 x1 x2 x3 x4 x5 x6 x7 x8 x9 x10 x11)) g p ρ x)
  have z0 : part ((lastOnly (tileDk (i 0).val x0 x1 x2 x3 x4 x5 x6 x7 x8 x9 x10 x11)) 8 0) 8 0 (bufRow g ρ) (pairLane p x) = 0 := part_zero 8 0 _ _
  have z1 : part ((lastOnly (tileDk (i 0).val x0 x1 x2 x3 x4 x5 x6 x7 x8 x9 x10 x11)) 8 1) 8 1 (bufRow g ρ) (pairLane p x) = 0 := part_zero 8 1 _ _
  rw [z0, z1, add_zero, add_zero]
  rfl

/-- The values' gradient. -/
theorem dv_B (hc0 : ¬cond0_0 i) (g : Fin 8) (p : Fin 2) (ρ : Fin 128) (x : Fin 128) :
    out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 (ix2 (⟨128 * g.val + ρ.val, by omega⟩ : Fin 1024) (pairLane p x))
      = ((lastOnly (tileDv (i 0).val x0 x1 x2 x3 x4 x5 x8 x9)) g.castSucc p (ix2 (upper ρ) x) + (lastOnly (tileDv (i 0).val x0 x1 x2 x3 x4 x5 x8 x9)) g.succ p (ix2 (lower ρ) x) : EReal) := by
  have e : out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 x10 x11 = (kernelRun0_B.sl.v1400 c i arg2 harg2 arg4 harg4 arg6 harg6 arg10 harg10 arg11 harg11 arg17 arg20 x0 x2 x4 x8 x9) := by
    unfold out0_B_14
    rw [View.read_writes_junk_eq_canon]
    unfold kernelRun0_B
    dsimp only
    exact canon_all (Val := Elt Ideal) (e := .f32) (a := 1024) (b := 256) _ _ _
  rw [e]
  unfold kernelRun0_B.sl.v1400
  rw [ld_tile]
  rw [dv17_B, canon_plus, dv16_B, canon_plus, dv15_B, canon_plus, dv14_B, canon_plus, dv13_B, canon_plus, dv12_B, canon_plus, dv11_B, canon_plus, dv10_B, canon_plus, dv9_B, canon_plus, dv8_B, canon_plus, dv7_B, canon_plus, dv6_B, canon_plus, dv5_B, canon_plus, dv4_B, canon_plus, dv3_B, canon_plus, dv2_B, canon_plus, start_B]
  simp only [rdQ_eq, rdN_eq, rdB_eq arg17 _ _ (keys_B c i x8 x9), rdB_eq arg18 _ _ (values_B c i x10 x11)]
  refine Eq.trans ?_ (tower (lastOnly (tileDv (i 0).val x0 x1 x2 x3 x4 x5 x8 x9)) g p ρ x)
  have z0 : part ((lastOnly (tileDv (i 0).val x0 x1 x2 x3 x4 x5 x8 x9)) 8 0) 8 0 (bufRow g ρ) (pairLane p x) = 0 := part_zero 8 0 _ _
  have z1 : part ((lastOnly (tileDv (i 0).val x0 x1 x2 x3 x4 x5 x8 x9)) 8 1) 8 1 (bufRow g ρ) (pairLane p x) = 0 := part_zero 8 1 _ _
  rw [z0, z1, add_zero, add_zero]
  rfl

end Cert.Kernel2Ideal.Attn

end
-- ==== Proof.AttnBlocks.lean ====
/- The backward kernel's grid of eight tiles of 1024 rows by two groups of 256 lanes: its three results, as whole arrays. -/
module

public import proofs.«01_k».proof.Proof.AttnSpec
public import proofs.«01_k».proof.Proof.AttnBodyA
public import proofs.«01_k».proof.Proof.AttnBodyB
public import proofs.«01_k».proof.Proof.Gen.Kernel2Ideal.Value

@[expose] public section

noncomputable section

namespace Cert.Kernel2Ideal.Attn

open Cert.Kernel2Ideal Cert.Kernel2Ideal.Gen Cert.Kernel2Ideal.Value
open Idealize.ShloMosaic Idealize.ShloMosaic.TcCoe Idealize.SL.Sem
open Idealize.ShloMosaic.Pipeline (Dat)

variable (m : (ℓ : Loc nD τ sig) → Buf (Elt Ideal) ℓ) (c : Dev nD)

/-- An array of 8192 rows from lane `o` on, by row and lane; zero outside. -/
def rd {n : ℕ} (X : Fin 8192 → Fin n → EReal) (o r l : ℕ) : EReal :=
  if h : r < 8192 ∧ o + l < n then X ⟨r, h.1⟩ ⟨o + l, h.2⟩ else 0

theorem rd_of {n : ℕ} (X : Fin 8192 → Fin n → EReal) (o r l : ℕ) (h1 : r < 8192) (h2 : o + l < n) :
    rd X o r l = X ⟨r, h1⟩ ⟨o + l, h2⟩ := dif_pos ⟨h1, h2⟩

/-- The queries, keys, values and incoming gradients at launch. -/
def aQ : ℕ → ℕ → EReal := rd (fun (r : Fin 8192) (l : Fin 3072) => m ((c : Thread nD τ).loc main_arg0) (ix2 r l)) 0
def aK : ℕ → ℕ → EReal := rd (fun (r : Fin 8192) (l : Fin 3072) => m ((c : Thread nD τ).loc main_arg0) (ix2 r l)) 1536
def aV : ℕ → ℕ → EReal := rd (fun (r : Fin 8192) (l : Fin 7168) => m ((c : Thread nD τ).loc main_arg1) (ix2 r l)) 3072
def aD : ℕ → ℕ → EReal := rd (fun (r : Fin 8192) (l : Fin 512) => m ((c : Thread nD τ).loc main_arg6) (ix2 r l)) 0

/-- The row log-sums and row sums the host lines spread over the lanes, when they are spread from `L` and `S`. -/
structure Spread (L S : ℕ → ℕ → EReal) : Prop where
  lt : ∀ (r : Fin 8192) (l : Fin 512), V m c main_v101 (ix2 r l) = L r.val (l.val / 64)
  ds : ∀ (r : Fin 8192) (l : Fin 512), V m c main_v104 (ix2 r l) = S r.val (l.val / 64)

theorem lt_N (t : Fin cfg0.N) : t.val < 16 := t.isLt

theorem point0 (t : Fin cfg0.N) : ((grid0.coords t) 0).val = t.val / 2 :=
  (by decide +kernel : ∀ t : Fin grid0.N, ((grid0.coords t) 0).val = t.val / 2) t

theorem at0 (t : Fin cfg0.N) (r : Fin 1024) (l : Fin 256) :
    iblk m c 0 t (ix2 r l) = aQ m c (1024 * (t.val / 2) + r.val) (256 * (t.val % 2) + l.val) := by
  have hN := lt_N t
  have h0 := (by decide +kernel : ∀ t : Fin grid0.N, win0_0.index t 0 = t.val / 2) t
  have h1 := (by decide +kernel : ∀ t : Fin grid0.N, win0_0.index t 1 = 0 + t.val % 2) t
  unfold aQ
  rw [rd_of _ _ _ _ (by omega) (by omega)]
  show V m c main_arg0 (((cfg0.win 0).blk t).view.emb (ix2 r l)) = _
  rw [V_main_arg0]
  refine congrArg (m ((c : Thread nD τ).loc main_arg0)) (funext fun a => ?_)
  match a with
  | ⟨0, _⟩ => exact Fin.ext (by show win0_0.index t 0 * 1024 + 1 * r.val = 1024 * (t.val / 2) + r.val; omega)
  | ⟨1, _⟩ => exact Fin.ext (by show win0_0.index t 1 * 256 + 1 * l.val = 0 + (256 * (t.val % 2) + l.val); omega)

theorem at1 (t : Fin cfg0.N) (ht : t.val < 14) (r : Fin 128) (l : Fin 256) :
    iblk m c 1 t (ix2 r l) = aQ m c (1024 * (t.val / 2 + 1) + r.val) (256 * (t.val % 2) + l.val) := by
  have hN := lt_N t
  have h0 := (by decide +kernel : ∀ t : Fin grid0.N, t.val < 14 → win0_1.index t 0 = (t.val / 2 + 1) * 8) t ht
  have h1 := (by decide +kernel : ∀ t : Fin grid0.N, win0_1.index t 1 = 0 + t.val % 2) t
  unfold aQ
  rw [rd_of _ _ _ _ (by omega) (by omega)]
  show V m c main_arg0 (((cfg0.win 1).blk t).view.emb (ix2 r l)) = _
  rw [V_main_arg0]
  refine congrArg (m ((c : Thread nD τ).loc main_arg0)) (funext fun a => ?_)
  match a with
  | ⟨0, _⟩ => exact Fin.ext (by show win0_1.index t 0 * 128 + 1 * r.val = 1024 * (t.val / 2 + 1) + r.val; omega)
  | ⟨1, _⟩ => exact Fin.ext (by show win0_1.index t 1 * 256 + 1 * l.val = 0 + (256 * (t.val % 2) + l.val); omega)

theorem at2 (t : Fin cfg0.N) (r : Fin 1024) (l : Fin 256) :
    iblk m c 2 t (ix2 r l) = aD m c (1024 * (t.val / 2) + r.val) (256 * (t.val % 2) + l.val) := by
  have hN := lt_N t
  have h0 := (by decide +kernel : ∀ t : Fin grid0.N, win0_2.index t 0 = t.val / 2) t
  have h1 := (by decide +kernel : ∀ t : Fin grid0.N, win0_2.index t 1 = 0 + t.val % 2) t
  unfold aD
  rw [rd_of _ _ _ _ (by omega) (by omega)]
  show V m c main_arg6 (((cfg0.win 2).blk t).view.emb (ix2 r l)) = _
  rw [V_main_arg6]
  refine congrArg (m ((c : Thread nD τ).loc main_arg6)) (funext fun a => ?_)
  match a with
  | ⟨0, _⟩ => exact Fin.ext (by show win0_2.index t 0 * 1024 + 1 * r.val = 1024 * (t.val / 2) + r.val; omega)
  | ⟨1, _⟩ => exact Fin.ext (by show win0_2.index t 1 * 256 + 1 * l.val = 0 + (256 * (t.val % 2) + l.val); omega)

theorem at3 (t : Fin cfg0.N) (ht : t.val < 14) (r : Fin 128) (l : Fin 256) :
    iblk m c 3 t (ix2 r l) = aD m c (1024 * (t.val / 2 + 1) + r.val) (256 * (t.val % 2) + l.val) := by
  have hN := lt_N t
  have h0 := (by decide +kernel : ∀ t : Fin grid0.N, t.val < 14 → win0_3.index t 0 = (t.val / 2 + 1) * 8) t ht
  have h1 := (by decide +kernel : ∀ t : Fin grid0.N, win0_3.index t 1 = 0 + t.val % 2) t
  unfold aD
  rw [rd_of _ _ _ _ (by omega) (by omega)]
  show V m c main_arg6 (((cfg0.win 3).blk t).view.emb (ix2 r l)) = _
  rw [V_main_arg6]
  refine congrArg (m ((c : Thread nD τ).loc main_arg6)) (funext fun a => ?_)
  match a with
  | ⟨0, _⟩ => exact Fin.ext (by show win0_3.index t 0 * 128 + 1 * r.val = 1024 * (t.val / 2 + 1) + r.val; omega)
  | ⟨1, _⟩ => exact Fin.ext (by show win0_3.index t 1 * 256 + 1 * l.val = 0 + (256 * (t.val % 2) + l.val); omega)

theorem read4 (A : Buf (Elt Ideal) ((c : Thread nD τ).loc main_v101)) (t : Fin cfg0.N) (r : Fin 1024) (l : Fin 256)
    (hr : 1024 * (t.val / 2) + r.val < 8192) (hl : 256 * (t.val % 2) + l.val < 512) :
    ((cfg0.win 4).blk t).view.read (Elt Ideal) A (ix2 r l) = A (ix2 ⟨1024 * (t.val / 2) + r.val, hr⟩ ⟨256 * (t.val % 2) + l.val, hl⟩) := by
  have h0 := (by decide +kernel : ∀ t : Fin grid0.N, win0_4.index t 0 = t.val / 2) t
  have h1 := (by decide +kernel : ∀ t : Fin grid0.N, win0_4.index t 1 = t.val % 2) t
  show A (((cfg0.win 4).blk t).view.emb (ix2 r l)) = _
  refine congrArg A (funext fun a => ?_)
  match a with
  | ⟨0, _⟩ => exact Fin.ext (by show win0_4.index t 0 * 1024 + 1 * r.val = 1024 * (t.val / 2) + r.val; omega)
  | ⟨1, _⟩ => exact Fin.ext (by show win0_4.index t 1 * 256 + 1 * l.val = 256 * (t.val % 2) + l.val; omega)

theorem at4 {L S : ℕ → ℕ → EReal} (h : Spread m c L S) (t : Fin cfg0.N) (r : Fin 1024) (l : Fin 256) :
    iblk m c 4 t (ix2 r l) = L (1024 * (t.val / 2) + r.val) ((256 * (t.val % 2) + l.val) / 64) := by
  have hN := lt_N t
  have e := read4 c (V m c main_v101) t r l (by omega) (by omega)
  exact e.trans (h.lt ⟨1024 * (t.val / 2) + r.val, by omega⟩ ⟨256 * (t.val % 2) + l.val, by omega⟩)

theorem read5 (A : Buf (Elt Ideal) ((c : Thread nD τ).loc main_v101)) (t : Fin cfg0.N) (ht : t.val < 14) (r : Fin 128) (l : Fin 256)
    (hr : 1024 * (t.val / 2 + 1) + r.val < 8192) (hl : 256 * (t.val % 2) + l.val < 512) :
    ((cfg0.win 5).blk t).view.read (Elt Ideal) A (ix2 r l) = A (ix2 ⟨1024 * (t.val / 2 + 1) + r.val, hr⟩ ⟨256 * (t.val % 2) + l.val, hl⟩) := by
  have h0 := (by decide +kernel : ∀ t : Fin grid0.N, t.val < 14 → win0_5.index t 0 = (t.val / 2 + 1) * 8) t ht
  have h1 := (by decide +kernel : ∀ t : Fin grid0.N, win0_5.index t 1 = t.val % 2) t
  show A (((cfg0.win 5).blk t).view.emb (ix2 r l)) = _
  refine congrArg A (funext fun a => ?_)
  match a with
  | ⟨0, _⟩ => exact Fin.ext (by show win0_5.index t 0 * 128 + 1 * r.val = 1024 * (t.val / 2 + 1) + r.val; omega)
  | ⟨1, _⟩ => exact Fin.ext (by show win0_5.index t 1 * 256 + 1 * l.val = 256 * (t.val % 2) + l.val; omega)

theorem at5 {L S : ℕ → ℕ → EReal} (h : Spread m c L S) (t : Fin cfg0.N) (ht : t.val < 14) (r : Fin 128) (l : Fin 256) :
    iblk m c 5 t (ix2 r l) = L (1024 * (t.val / 2 + 1) + r.val) ((256 * (t.val % 2) + l.val) / 64) := by
  have hN := lt_N t
  have e := read5 c (V m c main_v101) t ht r l (by omega) (by omega)
  exact e.trans (h.lt ⟨1024 * (t.val / 2 + 1) + r.val, by omega⟩ ⟨256 * (t.val % 2) + l.val, by omega⟩)

theorem read6 (A : Buf (Elt Ideal) ((c : Thread nD τ).loc main_v104)) (t : Fin cfg0.N) (r : Fin 1024) (l : Fin 256)
    (hr : 1024 * (t.val / 2) + r.val < 8192) (hl : 256 * (t.val % 2) + l.val < 512) :
    ((cfg0.win 6).blk t).view.read (Elt Ideal) A (ix2 r l) = A (ix2 ⟨1024 * (t.val / 2) + r.val, hr⟩ ⟨256 * (t.val % 2) + l.val, hl⟩) := by
  have h0 := (by decide +kernel : ∀ t : Fin grid0.N, win0_6.index t 0 = t.val / 2) t
  have h1 := (by decide +kernel : ∀ t : Fin grid0.N, win0_6.index t 1 = t.val % 2) t
  show A (((cfg0.win 6).blk t).view.emb (ix2 r l)) = _
  refine congrArg A (funext fun a => ?_)
  match a with
  | ⟨0, _⟩ => exact Fin.ext (by show win0_6.index t 0 * 1024 + 1 * r.val = 1024 * (t.val / 2) + r.val; omega)
  | ⟨1, _⟩ => exact Fin.ext (by show win0_6.index t 1 * 256 + 1 * l.val = 256 * (t.val % 2) + l.val; omega)

theorem at6 {L S : ℕ → ℕ → EReal} (h : Spread m c L S) (t : Fin cfg0.N) (r : Fin 1024) (l : Fin 256) :
    iblk m c 6 t (ix2 r l) = S (1024 * (t.val / 2) + r.val) ((256 * (t.val % 2) + l.val) / 64) := by
  have hN := lt_N t
  have e := read6 c (V m c main_v104) t r l (by omega) (by omega)
  exact e.trans (h.ds ⟨1024 * (t.val / 2) + r.val, by omega⟩ ⟨256 * (t.val % 2) + l.val, by omega⟩)

theorem read7 (A : Buf (Elt Ideal) ((c : Thread nD τ).loc main_v104)) (t : Fin cfg0.N) (ht : t.val < 14) (r : Fin 128) (l : Fin 256)
    (hr : 1024 * (t.val / 2 + 1) + r.val < 8192) (hl : 256 * (t.val % 2) + l.val < 512) :
    ((cfg0.win 7).blk t).view.read (Elt Ideal) A (ix2 r l) = A (ix2 ⟨1024 * (t.val / 2 + 1) + r.val, hr⟩ ⟨256 * (t.val % 2) + l.val, hl⟩) := by
  have h0 := (by decide +kernel : ∀ t : Fin grid0.N, t.val < 14 → win0_7.index t 0 = (t.val / 2 + 1) * 8) t ht
  have h1 := (by decide +kernel : ∀ t : Fin grid0.N, win0_7.index t 1 = t.val % 2) t
  show A (((cfg0.win 7).blk t).view.emb (ix2 r l)) = _
  refine congrArg A (funext fun a => ?_)
  match a with
  | ⟨0, _⟩ => exact Fin.ext (by show win0_7.index t 0 * 128 + 1 * r.val = 1024 * (t.val / 2 + 1) + r.val; omega)
  | ⟨1, _⟩ => exact Fin.ext (by show win0_7.index t 1 * 256 + 1 * l.val = 256 * (t.val % 2) + l.val; omega)

theorem at7 {L S : ℕ → ℕ → EReal} (h : Spread m c L S) (t : Fin cfg0.N) (ht : t.val < 14) (r : Fin 128) (l : Fin 256) :
    iblk m c 7 t (ix2 r l) = S (1024 * (t.val / 2 + 1) + r.val) ((256 * (t.val % 2) + l.val) / 64) := by
  have hN := lt_N t
  have e := read7 c (V m c main_v104) t ht r l (by omega) (by omega)
  exact e.trans (h.ds ⟨1024 * (t.val / 2 + 1) + r.val, by omega⟩ ⟨256 * (t.val % 2) + l.val, by omega⟩)

theorem at8 (t : Fin cfg0.N) (r : Fin 1024) (l : Fin 256) :
    iblk m c 8 t (ix2 r l) = aK m c (1024 * (t.val / 2) + r.val) (256 * (t.val % 2) + l.val) := by
  have hN := lt_N t
  have h0 := (by decide +kernel : ∀ t : Fin grid0.N, win0_8.index t 0 = t.val / 2) t
  have h1 := (by decide +kernel : ∀ t : Fin grid0.N, win0_8.index t 1 = 6 + t.val % 2) t
  unfold aK
  rw [rd_of _ _ _ _ (by omega) (by omega)]
  show V m c main_arg0 (((cfg0.win 8).blk t).view.emb (ix2 r l)) = _
  rw [V_main_arg0]
  refine congrArg (m ((c : Thread nD τ).loc main_arg0)) (funext fun a => ?_)
  match a with
  | ⟨0, _⟩ => exact Fin.ext (by show win0_8.index t 0 * 1024 + 1 * r.val = 1024 * (t.val / 2) + r.val; omega)
  | ⟨1, _⟩ => exact Fin.ext (by show win0_8.index t 1 * 256 + 1 * l.val = 1536 + (256 * (t.val % 2) + l.val); omega)

theorem at9 (t : Fin cfg0.N) (ht : 1 < t.val) (r : Fin 128) (l : Fin 256) :
    iblk m c 9 t (ix2 r l) = aK m c (1024 * (t.val / 2) + r.val - 128) (256 * (t.val % 2) + l.val) := by
  have hN := lt_N t
  have h0 := (by decide +kernel : ∀ t : Fin grid0.N, 1 < t.val → win0_9.index t 0 = t.val / 2 * 8 - 1) t ht
  have h1 := (by decide +kernel : ∀ t : Fin grid0.N, win0_9.index t 1 = 6 + t.val % 2) t
  unfold aK
  rw [rd_of _ _ _ _ (by omega) (by omega)]
  show V m c main_arg0 (((cfg0.win 9).blk t).view.emb (ix2 r l)) = _
  rw [V_main_arg0]
  refine congrArg (m ((c : Thread nD τ).loc main_arg0)) (funext fun a => ?_)
  match a with
  | ⟨0, _⟩ => exact Fin.ext (by show win0_9.index t 0 * 128 + 1 * r.val = 1024 * (t.val / 2) + r.val - 128; omega)
  | ⟨1, _⟩ => exact Fin.ext (by show win0_9.index t 1 * 256 + 1 * l.val = 1536 + (256 * (t.val % 2) + l.val); omega)

theorem at10 (t : Fin cfg0.N) (r : Fin 1024) (l : Fin 256) :
    iblk m c 10 t (ix2 r l) = aV m c (1024 * (t.val / 2) + r.val) (256 * (t.val % 2) + l.val) := by
  have hN := lt_N t
  have h0 := (by decide +kernel : ∀ t : Fin grid0.N, win0_10.index t 0 = t.val / 2) t
  have h1 := (by decide +kernel : ∀ t : Fin grid0.N, win0_10.index t 1 = 12 + t.val % 2) t
  unfold aV
  rw [rd_of _ _ _ _ (by omega) (by omega)]
  show V m c main_arg1 (((cfg0.win 10).blk t).view.emb (ix2 r l)) = _
  rw [V_main_arg1]
  refine congrArg (m ((c : Thread nD τ).loc main_arg1)) (funext fun a => ?_)
  match a with
  | ⟨0, _⟩ => exact Fin.ext (by show win0_10.index t 0 * 1024 + 1 * r.val = 1024 * (t.val / 2) + r.val; omega)
  | ⟨1, _⟩ => exact Fin.ext (by show win0_10.index t 1 * 256 + 1 * l.val = 3072 + (256 * (t.val % 2) + l.val); omega)

theorem at11 (t : Fin cfg0.N) (ht : 1 < t.val) (r : Fin 128) (l : Fin 256) :
    iblk m c 11 t (ix2 r l) = aV m c (1024 * (t.val / 2) + r.val - 128) (256 * (t.val % 2) + l.val) := by
  have hN := lt_N t
  have h0 := (by decide +kernel : ∀ t : Fin grid0.N, 1 < t.val → win0_11.index t 0 = t.val / 2 * 8 - 1) t ht
  have h1 := (by decide +kernel : ∀ t : Fin grid0.N, win0_11.index t 1 = 12 + t.val % 2) t
  unfold aV
  rw [rd_of _ _ _ _ (by omega) (by omega)]
  show V m c main_arg1 (((cfg0.win 11).blk t).view.emb (ix2 r l)) = _
  rw [V_main_arg1]
  refine congrArg (m ((c : Thread nD τ).loc main_arg1)) (funext fun a => ?_)
  match a with
  | ⟨0, _⟩ => exact Fin.ext (by show win0_11.index t 0 * 128 + 1 * r.val = 1024 * (t.val / 2) + r.val - 128; omega)
  | ⟨1, _⟩ => exact Fin.ext (by show win0_11.index t 1 * 256 + 1 * l.val = 3072 + (256 * (t.val % 2) + l.val); omega)

/-! ## The keys' buffers -/

theorem keys_at (t : Fin cfg0.N) (r : Fin 1280) (l : Fin 256) (hr : r.val < 1152) (h : 1 < t.val ∨ 128 ≤ r.val) :
    keyBuf (t.val / 2) (iblk m c 9 t) (iblk m c 8 t) r l
      = aK m c (1024 * (t.val / 2) + r.val - 128) (256 * (t.val % 2) + l.val) := by
  unfold keyBuf
  rw [dif_neg (by omega)]
  by_cases h8 : 128 ≤ r.val
  · rw [dif_pos ⟨h8, by omega⟩, at8]
    have e : 1024 * (t.val / 2) + (r.val - 128) = 1024 * (t.val / 2) + r.val - 128 := by omega
    simp only [e]
  · have ht : 1 < t.val := by omega
    rw [dif_neg (by omega), dif_pos (by omega), if_pos (by omega), at9 m c t ht]

theorem values_at (t : Fin cfg0.N) (r : Fin 1280) (l : Fin 256) (hr : r.val < 1152) (h : 1 < t.val ∨ 128 ≤ r.val) :
    keyBuf (t.val / 2) (iblk m c 11 t) (iblk m c 10 t) r l
      = aV m c (1024 * (t.val / 2) + r.val - 128) (256 * (t.val % 2) + l.val) := by
  unfold keyBuf
  rw [dif_neg (by omega)]
  by_cases h8 : 128 ≤ r.val
  · rw [dif_pos ⟨h8, by omega⟩, at10]
    have e : 1024 * (t.val / 2) + (r.val - 128) = 1024 * (t.val / 2) + r.val - 128 := by omega
    simp only [e]
  · have ht : 1 < t.val := by omega
    rw [dif_neg (by omega), dif_pos (by omega), if_pos (by omega), at11 m c t ht]

/-! ## A block of the tile is a block of the sequence -/

variable {L S : ℕ → ℕ → EReal}

/-- The head of the sequence that is head `h` of pair `p` at a grid point. -/
abbrev headOf (t : ℕ) (p h : Fin 2) : ℕ := 4 * (t % 2) + 2 * p.val + h.val

theorem queries_tile (hS : Spread m c L S) (t : Fin cfg0.N) (g : Fin 8) (p h : Fin 2) :
    QueriesAt h (8 * (t.val / 2) + g.val) (headOf t.val p h) (tileBlk (iblk m c 0 t) g p) (tileBlk (iblk m c 2 t) g p)
      (tileBlk (iblk m c 4 t) g p) (tileBlk (iblk m c 6 t) g p) (aQ m c) (aD m c) L S where
  q r x := by
    refine (at0 m c t ⟨128 * g.val + r.val, by omega⟩ ⟨128 * p.val + (64 * h.val + x.val), by omega⟩).trans ?_
    exact congrArg₂ (aQ m c) (by dsimp only; omega) (by show _ = 64 * (4 * (t.val % 2) + 2 * p.val + h.val) + x.val; dsimp only; omega)
  d r x := by
    refine (at2 m c t ⟨128 * g.val + r.val, by omega⟩ ⟨128 * p.val + (64 * h.val + x.val), by omega⟩).trans ?_
    exact congrArg₂ (aD m c) (by dsimp only; omega) (by show _ = 64 * (4 * (t.val % 2) + 2 * p.val + h.val) + x.val; dsimp only; omega)
  lt r x := by
    refine (at4 m c hS t ⟨128 * g.val + r.val, by omega⟩ ⟨128 * p.val + (64 * h.val + x.val), by omega⟩).trans ?_
    exact congrArg₂ L (by dsimp only; omega) (by show _ = 4 * (t.val % 2) + 2 * p.val + h.val; dsimp only; omega)
  ds r x := by
    refine (at6 m c hS t ⟨128 * g.val + r.val, by omega⟩ ⟨128 * p.val + (64 * h.val + x.val), by omega⟩).trans ?_
    exact congrArg₂ S (by dsimp only; omega) (by show _ = 4 * (t.val % 2) + 2 * p.val + h.val; dsimp only; omega)

theorem queries_next (hS : Spread m c L S) (t : Fin cfg0.N) (ht : t.val < 14) (p h : Fin 2) :
    QueriesAt h (8 * (t.val / 2) + 7 + 1) (headOf t.val p h) (nextBlk (iblk m c 1 t) p) (nextBlk (iblk m c 3 t) p)
      (nextBlk (iblk m c 5 t) p) (nextBlk (iblk m c 7 t) p) (aQ m c) (aD m c) L S where
  q r x := by
    refine (at1 m c t ht ⟨r.val, r.isLt⟩ ⟨128 * p.val + (64 * h.val + x.val), by omega⟩).trans ?_
    exact congrArg₂ (aQ m c) (by dsimp only; omega) (by show _ = 64 * (4 * (t.val % 2) + 2 * p.val + h.val) + x.val; dsimp only; omega)
  d r x := by
    refine (at3 m c t ht ⟨r.val, r.isLt⟩ ⟨128 * p.val + (64 * h.val + x.val), by omega⟩).trans ?_
    exact congrArg₂ (aD m c) (by dsimp only; omega) (by show _ = 64 * (4 * (t.val % 2) + 2 * p.val + h.val) + x.val; dsimp only; omega)
  lt r x := by
    refine (at5 m c hS t ht ⟨r.val, r.isLt⟩ ⟨128 * p.val + (64 * h.val + x.val), by omega⟩).trans ?_
    exact congrArg₂ L (by dsimp only; omega) (by show _ = 4 * (t.val % 2) + 2 * p.val + h.val; dsimp only; omega)
  ds r x := by
    refine (at7 m c hS t ht ⟨r.val, r.isLt⟩ ⟨128 * p.val + (64 * h.val + x.val), by omega⟩).trans ?_
    exact congrArg₂ S (by dsimp only; omega) (by show _ = 4 * (t.val % 2) + 2 * p.val + h.val; dsimp only; omega)

theorem key_tile (t : Fin cfg0.N) (g : Fin 8) (p h : Fin 2) (κ : Fin 256) (gc : Fin 9) (hg : gc.val = g.val) :
    KeyAt h (8 * (t.val / 2) + g.val) (headOf t.val p h) κ (maskV (t.val / 2) (BitVec.ofNat 32 g.val))
      (bufBlk (keyBuf (t.val / 2) (iblk m c 9 t) (iblk m c 8 t)) gc p)
      (bufBlk (keyBuf (t.val / 2) (iblk m c 11 t) (iblk m c 10 t)) gc p) (aK m c) (aV m c) where
  mask r := mask_at (t.val / 2) g.val (by have := lt_N t; omega) g.isLt h r κ
  k h0 x := by
    refine (keys_at m c t ⟨128 * gc.val + κ.val, by omega⟩ ⟨128 * p.val + (64 * h.val + x.val), by omega⟩
      (by dsimp only; omega) (by dsimp only; omega)).trans ?_
    exact congrArg₂ (aK m c) (by dsimp only; omega) (by show _ = 64 * (4 * (t.val % 2) + 2 * p.val + h.val) + x.val; dsimp only; omega)
  v h0 x := by
    refine (values_at m c t ⟨128 * gc.val + κ.val, by omega⟩ ⟨128 * p.val + (64 * h.val + x.val), by omega⟩
      (by dsimp only; omega) (by dsimp only; omega)).trans ?_
    exact congrArg₂ (aV m c) (by dsimp only; omega) (by show _ = 64 * (4 * (t.val % 2) + 2 * p.val + h.val) + x.val; dsimp only; omega)

theorem key_next (t : Fin cfg0.N) (p h : Fin 2) (κ : Fin 256) (hκ : κ.val < 128) :
    KeyAt h (8 * (t.val / 2) + 7 + 1) (headOf t.val p h) κ maskNextV
      (bufBlk (keyBuf (t.val / 2) (iblk m c 9 t) (iblk m c 8 t)) 8 p)
      (bufBlk (keyBuf (t.val / 2) (iblk m c 11 t) (iblk m c 10 t)) 8 p) (aK m c) (aV m c) where
  mask r := maskNext_at h r κ hκ (8 * (t.val / 2) + 7)
  k h0 x := by
    refine (keys_at m c t ⟨128 * (8 : Fin 9).val + κ.val, by show 128 * 8 + κ.val < 1280; omega⟩
      ⟨128 * p.val + (64 * h.val + x.val), by omega⟩
      (by show 128 * 8 + κ.val < 1152; omega) (Or.inr (by show 128 ≤ 128 * 8 + κ.val; omega))).trans ?_
    exact congrArg₂ (aK m c) (by show 1024 * (t.val / 2) + (128 * 8 + κ.val) - 128 = _; omega) (by show _ = 64 * (4 * (t.val % 2) + 2 * p.val + h.val) + x.val; dsimp only; omega)
  v h0 x := by
    refine (values_at m c t ⟨128 * (8 : Fin 9).val + κ.val, by show 128 * 8 + κ.val < 1280; omega⟩
      ⟨128 * p.val + (64 * h.val + x.val), by omega⟩
      (by show 128 * 8 + κ.val < 1152; omega) (Or.inr (by show 128 ≤ 128 * 8 + κ.val; omega))).trans ?_
    exact congrArg₂ (aV m c) (by show 1024 * (t.val / 2) + (128 * 8 + κ.val) - 128 = _; omega) (by show _ = 64 * (4 * (t.val % 2) + 2 * p.val + h.val) + x.val; dsimp only; omega)

end Cert.Kernel2Ideal.Attn

end
-- ==== Proof.AttnRefA.lean ====
/- The reference's forward lines, one value at a time, for real arguments: scores, exponentials, outputs, row log-sums. -/
module

public import proofs.«01_k».proof.Proof.AttnReal
public import proofs.«01_k».proof.Proof.AttnBlocks
public import proofs.«01_k».proof.Proof.Gen.Reference2Ideal.Read

@[expose] public section

noncomputable section

namespace Cert.Kernel2Ideal.Attn

open Idealize.ShloMosaic Cert.Reference2Ideal.Read

/-- An array's real entries from lane `o` on. -/
def rr {n : ℕ} (X : (⟨2, ![8192, n]⟩ : Shape).Idx → EReal) (o r l : ℕ) : ℝ := (rd (fun a b => X (ix2 a b)) o r l).toReal

/-- Every entry is a real. -/
def AllReal {s : Shape} (X : s.Idx → EReal) : Prop := ∀ i, X i ≠ ⊤ ∧ X i ≠ ⊥

theorem rr_rd {n : ℕ} (X : (⟨2, ![8192, n]⟩ : Shape).Idx → EReal) (hX : AllReal X) (o r l : ℕ) :
    rd (fun a b => X (ix2 a b)) o r l = ((rr X o r l : ℝ) : EReal) := by
  unfold rr
  refine (EReal.coe_toReal ?_ ?_).symm <;> unfold rd <;> split
  · exact (hX _).1
  · exact EReal.zero_ne_top
  · exact (hX _).2
  · exact EReal.zero_ne_bot

theorem rr_at {n : ℕ} (X : (⟨2, ![8192, n]⟩ : Shape).Idx → EReal) (hX : AllReal X) (o r l : ℕ)
    (j : (⟨2, ![8192, n]⟩ : Shape).Idx) (h0 : (j 0).val = r) (h1 : (j 1).val = o + l) :
    X j = ((rr X o r l : ℝ) : EReal) := by
  rw [← rr_rd X hX]
  subst h0
  have hl : o + l < n := h1 ▸ (j 1).isLt
  rw [rd_of _ _ _ _ (j 0).isLt hl]
  refine congrArg X (funext fun a => ?_)
  match a with
  | ⟨0, _⟩ => rfl
  | ⟨1, _⟩ => exact Fin.ext h1

theorem at_eq (f : ℕ → ℕ → ℝ) {a a' b b' : ℕ} (ha : a = a') (hb : b = b') : ((f a b : ℝ) : EReal) = ((f a' b' : ℝ) : EReal) := by
  rw [ha, hb]

theorem zero_bits : (FloatOps.ofBits .f32 0x00000000#32 : Ideal .f32) = ((0 : ℝ) : EReal) := by
  show Ideal.ofBits .f32 0x00000000#32 = _
  simp [Ideal.ofBits, Ideal.ieee]

section Queries

variable (x0 : (⟨2, ![8192, 3072]⟩ : Shape).Idx → EReal) (h : AllReal x0)

local notation "qq" => rr x0 0
local notation "kk" => rr x0 1536

include h

theorem v3_at (i) : val_main_v3 (F := Ideal) x0 i = ((qq (i 0).val (i 1).val : ℝ) : EReal) := by
  rw [val_main_v3_apply]
  exact rr_at x0 h 0 _ _ _ (by dsimp only; try omega) (by dsimp only; try omega)

theorem v6_at (i) : val_main_v6 (F := Ideal) x0 i = ((qq (i 0).val (64 * (i 1).val + (i 2).val) : ℝ) : EReal) := by
  have b0 : (i 0).val < 8192 := (i 0).isLt
  have b1 : (i 1).val < 8 := (i 1).isLt
  have b2 : (i 2).val < 64 := (i 2).isLt
  rw [val_main_v6_apply, v3_at x0 h]
  exact at_eq _ (by dsimp only; omega) (by dsimp only; omega)

theorem v9_at (i) :
    val_main_v9 (F := Ideal) x0 i = ((qq (128 * (i 0).val + (i 1).val) (64 * (i 2).val + (i 3).val) : ℝ) : EReal) := by
  have b0 : (i 0).val < 64 := (i 0).isLt
  have b1 : (i 1).val < 128 := (i 1).isLt
  have b2 : (i 2).val < 8 := (i 2).isLt
  have b3 : (i 3).val < 64 := (i 3).isLt
  rw [val_main_v9_apply, v6_at x0 h]
  exact at_eq _ (by dsimp only; omega) (by dsimp only; omega)

theorem v10_at (i) :
    val_main_v10 (F := Ideal) x0 i = ((qq (128 * (i 1).val + (i 2).val) (64 * (i 0).val + (i 3).val) : ℝ) : EReal) := by
  rw [val_main_v10_apply, v9_at x0 h]

theorem v4_at (i) : val_main_v4 (F := Ideal) x0 i = ((kk (i 0).val (i 1).val : ℝ) : EReal) := by
  rw [val_main_v4_apply]
  exact rr_at x0 h 1536 _ _ _ (by dsimp only; try omega) (by dsimp only; try omega)

theorem v7_at (i) : val_main_v7 (F := Ideal) x0 i = ((kk (i 0).val (64 * (i 1).val + (i 2).val) : ℝ) : EReal) := by
  have b0 : (i 0).val < 8192 := (i 0).isLt
  have b1 : (i 1).val < 8 := (i 1).isLt
  have b2 : (i 2).val < 64 := (i 2).isLt
  rw [val_main_v7_apply, v4_at x0 h]
  exact at_eq _ (by dsimp only; omega) (by dsimp only; omega)

theorem v11_at (i) :
    val_main_v11 (F := Ideal) x0 i = ((kk (128 * (i 0).val + (i 1).val) (64 * (i 2).val + (i 3).val) : ℝ) : EReal) := by
  have b0 : (i 0).val < 64 := (i 0).isLt
  have b1 : (i 1).val < 128 := (i 1).isLt
  have b2 : (i 2).val < 8 := (i 2).isLt
  have b3 : (i 3).val < 64 := (i 3).isLt
  rw [val_main_v11_apply, v7_at x0 h]
  exact at_eq _ (by dsimp only; omega) (by dsimp only; omega)

theorem v12_at (i) :
    val_main_v12 (F := Ideal) x0 i = ((kk (128 * (i 1).val + (i 2).val) (64 * (i 0).val + (i 3).val) : ℝ) : EReal) := by
  rw [val_main_v12_apply, v11_at x0 h]

theorem v15_at (i) : val_main_v15 (F := Ideal) x0 i
    = (((if 1 ≤ (i 1).val then kk (128 * ((i 1).val - 1) + (i 2).val) (64 * (i 0).val + (i 3).val) else 0) : ℝ) : EReal) := by
  have b1 : (i 1).val < 64 := (i 1).isLt
  unfold val_main_v15
  by_cases hB : 1 ≤ (i 1).val
  · rw [if_pos hB, concatenate_pair_apply_right
      (t := Cert.Reference2Ideal.S8x64x128x64) (s₁ := Cert.Reference2Ideal.S8x1x128x64) (s₂ := Cert.Reference2Ideal.S8x63x128x64) 1 _ _ _ i rfl rfl (fun a => match a with
      | ⟨0, _⟩ => ⟨(i 0).val, (i 0).isLt⟩
      | ⟨1, _⟩ => ⟨(i 1).val - 1, by show (i 1).val - 1 < 63; omega⟩
      | ⟨2, _⟩ => ⟨(i 2).val, (i 2).isLt⟩
      | ⟨3, _⟩ => ⟨(i 3).val, (i 3).isLt⟩)
      (fun b hb => by
        match b with
        | ⟨0, _⟩ => rfl
        | ⟨1, _⟩ => exact absurd rfl hb
        | ⟨2, _⟩ => rfl
        | ⟨3, _⟩ => rfl) (by show (i 1).val - 1 + 1 = (i 1).val; omega)]
    rw [val_main_v14_apply, v12_at x0 h]
  · rw [if_neg hB, concatenate_pair_apply_left
      (t := Cert.Reference2Ideal.S8x64x128x64) (s₁ := Cert.Reference2Ideal.S8x1x128x64) (s₂ := Cert.Reference2Ideal.S8x63x128x64) 1 _ _ _ i rfl (fun a => match a with
      | ⟨0, _⟩ => ⟨(i 0).val, (i 0).isLt⟩
      | ⟨1, _⟩ => ⟨(i 1).val, by show (i 1).val < 1; omega⟩
      | ⟨2, _⟩ => ⟨(i 2).val, (i 2).isLt⟩
      | ⟨3, _⟩ => ⟨(i 3).val, (i 3).isLt⟩)
      (fun b => by
        match b with
        | ⟨0, _⟩ => rfl
        | ⟨1, _⟩ => rfl
        | ⟨2, _⟩ => rfl
        | ⟨3, _⟩ => rfl)]
    rw [val_main_v13_apply, val_main_cst_apply]
    exact zero_bits

theorem v17_at (i) :
    val_main_v17 (F := Ideal) x0 i = ((withPrev kk (i 1).val (i 2).val (64 * (i 0).val + (i 3).val) : ℝ) : EReal) := by
  have b2 : (i 2).val < 256 := (i 2).isLt
  unfold val_main_v17 withPrev
  by_cases hB : 128 ≤ (i 2).val
  · rw [if_pos (by omega), concatenate_pair_apply_right
      (t := Cert.Reference2Ideal.S8x64x256x64) (s₁ := Cert.Reference2Ideal.S8x64x128x64) (s₂ := Cert.Reference2Ideal.S8x64x128x64) 2 _ _ _ i rfl rfl (fun a => match a with
      | ⟨0, _⟩ => ⟨(i 0).val, (i 0).isLt⟩
      | ⟨1, _⟩ => ⟨(i 1).val, (i 1).isLt⟩
      | ⟨2, _⟩ => ⟨(i 2).val - 128, by show (i 2).val - 128 < 128; omega⟩
      | ⟨3, _⟩ => ⟨(i 3).val, (i 3).isLt⟩)
      (fun b hb => by
        match b with
        | ⟨0, _⟩ => rfl
        | ⟨1, _⟩ => rfl
        | ⟨2, _⟩ => exact absurd rfl hb
        | ⟨3, _⟩ => rfl) (by show (i 2).val - 128 + 128 = (i 2).val; omega)]
    rw [v12_at x0 h]
    exact at_eq _ (by dsimp only; omega) rfl
  · rw [concatenate_pair_apply_left
      (t := Cert.Reference2Ideal.S8x64x256x64) (s₁ := Cert.Reference2Ideal.S8x64x128x64) (s₂ := Cert.Reference2Ideal.S8x64x128x64) 2 _ _ _ i rfl (fun a => match a with
      | ⟨0, _⟩ => ⟨(i 0).val, (i 0).isLt⟩
      | ⟨1, _⟩ => ⟨(i 1).val, (i 1).isLt⟩
      | ⟨2, _⟩ => ⟨(i 2).val, by show (i 2).val < 128; omega⟩
      | ⟨3, _⟩ => ⟨(i 3).val, (i 3).isLt⟩)
      (fun b => by
        match b with
        | ⟨0, _⟩ => rfl
        | ⟨1, _⟩ => rfl
        | ⟨2, _⟩ => rfl
        | ⟨3, _⟩ => rfl)]
    rw [v15_at x0 h]
    dsimp only
    by_cases h1 : 1 ≤ (i 1).val
    · rw [if_pos h1, if_pos (by omega)]
      exact at_eq _ (by omega) rfl
    · rw [if_neg h1, if_neg (by omega)]

end Queries

section Values

variable (x1 : (⟨2, ![8192, 7168]⟩ : Shape).Idx → EReal) (h : AllReal x1)

local notation "vv" => rr x1 3072

include h

theorem v5_at (i) : val_main_v5 (F := Ideal) x1 i = ((vv (i 0).val (i 1).val : ℝ) : EReal) := by
  rw [val_main_v5_apply]
  exact rr_at x1 h 3072 _ _ _ (by dsimp only; try omega) (by dsimp only; try omega)

theorem v8_at (i) : val_main_v8 (F := Ideal) x1 i = ((vv (i 0).val (64 * (i 1).val + (i 2).val) : ℝ) : EReal) := by
  have b0 : (i 0).val < 8192 := (i 0).isLt
  have b1 : (i 1).val < 8 := (i 1).isLt
  have b2 : (i 2).val < 64 := (i 2).isLt
  rw [val_main_v8_apply, v5_at x1 h]
  exact at_eq _ (by dsimp only; omega) (by dsimp only; omega)

theorem v18_at (i) :
    val_main_v18 (F := Ideal) x1 i = ((vv (128 * (i 0).val + (i 1).val) (64 * (i 2).val + (i 3).val) : ℝ) : EReal) := by
  have b0 : (i 0).val < 64 := (i 0).isLt
  have b1 : (i 1).val < 128 := (i 1).isLt
  have b2 : (i 2).val < 8 := (i 2).isLt
  have b3 : (i 3).val < 64 := (i 3).isLt
  rw [val_main_v18_apply, v8_at x1 h]
  exact at_eq _ (by dsimp only; omega) (by dsimp only; omega)

theorem v19_at (i) :
    val_main_v19 (F := Ideal) x1 i = ((vv (128 * (i 1).val + (i 2).val) (64 * (i 0).val + (i 3).val) : ℝ) : EReal) := by
  rw [val_main_v19_apply, v18_at x1 h]

theorem v22_at (i) : val_main_v22 (F := Ideal) x1 i
    = (((if 1 ≤ (i 1).val then vv (128 * ((i 1).val - 1) + (i 2).val) (64 * (i 0).val + (i 3).val) else 0) : ℝ) : EReal) := by
  have b1 : (i 1).val < 64 := (i 1).isLt
  unfold val_main_v22
  by_cases hB : 1 ≤ (i 1).val
  · rw [if_pos hB, concatenate_pair_apply_right
      (t := Cert.Reference2Ideal.S8x64x128x64) (s₁ := Cert.Reference2Ideal.S8x1x128x64) (s₂ := Cert.Reference2Ideal.S8x63x128x64) 1 _ _ _ i rfl rfl (fun a => match a with
      | ⟨0, _⟩ => ⟨(i 0).val, (i 0).isLt⟩
      | ⟨1, _⟩ => ⟨(i 1).val - 1, by show (i 1).val - 1 < 63; omega⟩
      | ⟨2, _⟩ => ⟨(i 2).val, (i 2).isLt⟩
      | ⟨3, _⟩ => ⟨(i 3).val, (i 3).isLt⟩)
      (fun b hb => by
        match b with
        | ⟨0, _⟩ => rfl
        | ⟨1, _⟩ => exact absurd rfl hb
        | ⟨2, _⟩ => rfl
        | ⟨3, _⟩ => rfl) (by show (i 1).val - 1 + 1 = (i 1).val; omega)]
    rw [val_main_v21_apply, v19_at x1 h]
  · rw [if_neg hB, concatenate_pair_apply_left
      (t := Cert.Reference2Ideal.S8x64x128x64) (s₁ := Cert.Reference2Ideal.S8x1x128x64) (s₂ := Cert.Reference2Ideal.S8x63x128x64) 1 _ _ _ i rfl (fun a => match a with
      | ⟨0, _⟩ => ⟨(i 0).val, (i 0).isLt⟩
      | ⟨1, _⟩ => ⟨(i 1).val, by show (i 1).val < 1; omega⟩
      | ⟨2, _⟩ => ⟨(i 2).val, (i 2).isLt⟩
      | ⟨3, _⟩ => ⟨(i 3).val, (i 3).isLt⟩)
      (fun b => by
        match b with
        | ⟨0, _⟩ => rfl
        | ⟨1, _⟩ => rfl
        | ⟨2, _⟩ => rfl
        | ⟨3, _⟩ => rfl)]
    rw [val_main_v20_apply, val_main_cst_1_apply]
    exact zero_bits

theorem v24_at (i) :
    val_main_v24 (F := Ideal) x1 i = ((withPrev vv (i 1).val (i 2).val (64 * (i 0).val + (i 3).val) : ℝ) : EReal) := by
  have b2 : (i 2).val < 256 := (i 2).isLt
  unfold val_main_v24 withPrev
  by_cases hB : 128 ≤ (i 2).val
  · rw [if_pos (by omega), concatenate_pair_apply_right
      (t := Cert.Reference2Ideal.S8x64x256x64) (s₁ := Cert.Reference2Ideal.S8x64x128x64) (s₂ := Cert.Reference2Ideal.S8x64x128x64) 2 _ _ _ i rfl rfl (fun a => match a with
      | ⟨0, _⟩ => ⟨(i 0).val, (i 0).isLt⟩
      | ⟨1, _⟩ => ⟨(i 1).val, (i 1).isLt⟩
      | ⟨2, _⟩ => ⟨(i 2).val - 128, by show (i 2).val - 128 < 128; omega⟩
      | ⟨3, _⟩ => ⟨(i 3).val, (i 3).isLt⟩)
      (fun b hb => by
        match b with
        | ⟨0, _⟩ => rfl
        | ⟨1, _⟩ => rfl
        | ⟨2, _⟩ => exact absurd rfl hb
        | ⟨3, _⟩ => rfl) (by show (i 2).val - 128 + 128 = (i 2).val; omega)]
    rw [v19_at x1 h]
    exact at_eq _ (by dsimp only; omega) rfl
  · rw [concatenate_pair_apply_left
      (t := Cert.Reference2Ideal.S8x64x256x64) (s₁ := Cert.Reference2Ideal.S8x64x128x64) (s₂ := Cert.Reference2Ideal.S8x64x128x64) 2 _ _ _ i rfl (fun a => match a with
      | ⟨0, _⟩ => ⟨(i 0).val, (i 0).isLt⟩
      | ⟨1, _⟩ => ⟨(i 1).val, (i 1).isLt⟩
      | ⟨2, _⟩ => ⟨(i 2).val, by show (i 2).val < 128; omega⟩
      | ⟨3, _⟩ => ⟨(i 3).val, (i 3).isLt⟩)
      (fun b => by
        match b with
        | ⟨0, _⟩ => rfl
        | ⟨1, _⟩ => rfl
        | ⟨2, _⟩ => rfl
        | ⟨3, _⟩ => rfl)]
    rw [v22_at x1 h]
    dsimp only
    by_cases h1 : 1 ≤ (i 1).val
    · rw [if_pos h1, if_pos (by omega)]
      exact at_eq _ (by omega) rfl
    · rw [if_neg h1, if_neg (by omega)]

end Values

end Cert.Kernel2Ideal.Attn
-- ==== Proof.AttnMask.lean ====
/- The reference's mask: which keys a query of a block sees. -/
module

public import proofs.«01_k».proof.Proof.AttnRefA

@[expose] public section

noncomputable section

namespace Cert.Kernel2Ideal.Attn

open Idealize.ShloMosaic Cert.Reference2Ideal.Read

/-! ## The mask -/

theorem band_word (r : Fin 128) (κ : Fin 256) :
    (IntOp.andi (IntOp.cmpi CmpIPredicate.sge (IntOp.subi (IntOp.addi (BitVec.ofNat 32 r.val) 128#32) (BitVec.ofNat 32 κ.val)) 0#32)
      (IntOp.cmpi CmpIPredicate.sle (IntOp.subi (IntOp.addi (BitVec.ofNat 32 r.val) 128#32) (BitVec.ofNat 32 κ.val)) 128#32))
      = BitVec.ofBool (decide (r.val ≤ κ.val ∧ κ.val ≤ 128 + r.val)) := by
  revert r κ
  decide +kernel

theorem prev_word' (b : Fin 64) (κ : Fin 256) :
    (IntOp.ori (IntOp.cmpi CmpIPredicate.sgt (BitVec.ofNat 32 b.val) 0#32) (IntOp.cmpi CmpIPredicate.sge (BitVec.ofNat 32 κ.val) 128#32))
      = BitVec.ofBool (decide (0 < b.val ∨ 128 ≤ κ.val)) := by
  revert b κ
  decide +kernel

theorem v55_at (i : Cert.Reference2Ideal.S64x128x256.Idx) :
    val_main_v55 (F := Ideal) i = 1 ↔ seen (i 0).val (i 1).val (i 2).val := by
  have e1 := band_word (i 1) (i 2)
  have e2 := prev_word' (i 0) (i 2)
  simp only [val_main_v55_apply, val_main_v54_apply, val_main_v53_apply, val_main_v52_apply, val_main_v51_apply,
    val_main_v50_apply, val_main_v49_apply, val_main_v48_apply, val_main_v47_apply, val_main_v46_apply, val_main_v45_apply,
    val_main_v44_apply, val_main_v43_apply, val_main_v42_apply, val_main_v41_apply, val_main_v40_apply, val_main_v39_apply,
    val_main_v38_apply, val_main_v37_apply, val_main_v36_apply, val_main_v35_apply, val_main_v34_apply, val_main_v33_apply,
    val_main_v32_apply, val_main_v31_apply, val_main_v30_apply, val_main_v29_apply, val_main_v28_apply, val_main_c_apply,
    val_main_c_4_apply, val_main_c_5_apply, val_main_c_6_apply, val_main_c_7_apply]
  rw [e1, e2]
  unfold seen
  by_cases h1 : (i 1).val ≤ (i 2).val ∧ (i 2).val ≤ 128 + (i 1).val <;> by_cases h2 : 0 < (i 0).val ∨ 128 ≤ (i 2).val <;>
    simp [h1, h2, IntOp.andi]

end Cert.Kernel2Ideal.Attn
-- ==== Proof.AttnRefB.lean ====
/- The reference's forward lines for the first group: which scores are kept, their exponentials, the row sums, the output
   and the row log-sums. -/
module

public import proofs.«01_k».proof.Proof.AttnMask

@[expose] public section

noncomputable section

namespace Cert.Kernel2Ideal.Attn

open Idealize.ShloMosaic Cert.Reference2Ideal.Read

theorem eighth_bits : (FloatOps.ofBits .f32 0x3E000000#32 : Ideal .f32) = ((1 / 8 : ℝ) : EReal) := by
  show Ideal.ofBits .f32 0x3E000000#32 = _
  simp [Ideal.ofBits, Ideal.ieee]
  refine (EReal.coe_mul _ _).symm.trans ?_
  norm_num

theorem bot_bits : (FloatOps.ofBits .f32 0xFF800000#32 : Ideal .f32) = (⊥ : EReal) := by
  show Ideal.ofBits .f32 0xFF800000#32 = _
  simp [Ideal.ofBits, Ideal.ieee]

theorem one_bits : (FloatOps.ofBits .f32 0x3F800000#32 : Ideal .f32) = ((1 : ℝ) : EReal) := by
  show Ideal.ofBits .f32 0x3F800000#32 = _
  simp [Ideal.ofBits, Ideal.ieee]
  refine (EReal.coe_mul _ _).symm.trans ?_
  norm_num

section Scores

variable (x0 : (⟨2, ![8192, 3072]⟩ : Shape).Idx → EReal) (h : AllReal x0)

local notation "qq" => rr x0 0
local notation "kk" => rr x0 1536

include h

theorem v56_at (i : Cert.Reference2Ideal.S8x64x128x256.Idx) :
    val_main_v56_0 (F := Ideal) x0 i = if seen (i 1).val (i 2).val (i 3).val
      then ((scoreF qq kk (i 0).val (i 1).val (i 2).val (i 3).val : ℝ) : EReal) else ⊥ := by
  rw [val_main_v56_0_apply, val_main_v56_1_apply, val_main_v27_apply, val_main_v26_apply, val_main_v25_apply]
  simp only [v10_at x0 h, v17_at x0 h]
  unfold Scalar.select
  have hm := v55_at (idx_main_v56_1 i)
  by_cases hs : seen (i 1).val (i 2).val (i 3).val
  · rw [if_pos hs, if_pos (hm.mpr hs)]
    rw [val_main_cst_3_apply, eighth_bits]
    refine Eq.trans (congrArg (fun a : EReal => a * ((1 / 8 : ℝ) : EReal)) ?_) (EReal.coe_mul _ _).symm
    unfold dotF
    rw [← sum_real]
    refine Finset.sum_congr rfl fun c _ => ?_
    rw [EReal.coe_mul]
    rw [withPrev_seen _ _ _ _ _ hs]
  · rw [if_neg hs, if_neg (fun e => hs (hm.mp e)), val_main_call0_v2_apply, val_main_call0_v0_apply, val_main_cst_8_apply]
    exact bot_bits

omit h in
theorem v57_fold (i : Cert.Reference2Ideal.S8x64x128.Idx) :
    val_main_v57 (F := Ideal) x0 i
      = (Finset.univ : Finset (Fin 256)).fold max ⊥ (fun κ => val_main_v56_0 (F := Ideal) x0 (ix4 (i 0) (i 1) (i 2) κ)) := by
  unfold val_main_v57
  generalize val_main_v56_0 (F := Ideal) x0 = y
  pointwise [val_main_cst_9]
  rw [show Ideal.ofBits FTy.f32 0xFF800000#32 = ⊥ from bot_bits]

/-- A row's largest score is a real, and one of the row's scores. -/
theorem v57_real (i : Cert.Reference2Ideal.S8x64x128.Idx) :
    ∃ M : ℝ, val_main_v57 (F := Ideal) x0 i = (M : EReal)
      ∧ ∃ κ : Fin 256, val_main_v56_0 (F := Ideal) x0 (ix4 (i 0) (i 1) (i 2) κ) = (M : EReal) := by
  have b2 : (i 2).val < 128 := (i 2).isLt
  rw [v57_fold]
  obtain ⟨M, h1, κ, _, h2⟩ := fold_max_real (Finset.univ : Finset (Fin 256))
    (fun κ => val_main_v56_0 (F := Ideal) x0 (ix4 (i 0) (i 1) (i 2) κ)) (fun κ _ => by
      refine ne_of_eq_of_ne (v56_at x0 h _) ?_
      split
      · exact EReal.coe_ne_top _
      · exact bot_ne_top) ⟨128 + (i 2).val, by omega⟩ (Finset.mem_univ _) _
      ((v56_at x0 h _).trans (if_pos (seen_self (i 1).val (i 2).val)))
  exact ⟨M, h1, κ, h2⟩

omit h in
/-- A row's largest score. -/
def topR (H B ρ : ℕ) : ℝ :=
  if hb : H < 8 ∧ B < 64 ∧ ρ < 128 then (val_main_v57 (F := Ideal) x0 (ix3 ⟨H, hb.1⟩ ⟨B, hb.2.1⟩ ⟨ρ, hb.2.2⟩)).toReal else 0

theorem v57_at (i : Cert.Reference2Ideal.S8x64x128.Idx) :
    val_main_v57 (F := Ideal) x0 i = ((topR x0 (i 0).val (i 1).val (i 2).val : ℝ) : EReal) := by
  unfold topR
  rw [dif_pos ⟨(i 0).isLt, (i 1).isLt, (i 2).isLt⟩]
  have e : (ix3 ⟨(i 0).val, (i 0).isLt⟩ ⟨(i 1).val, (i 1).isLt⟩ ⟨(i 2).val, (i 2).isLt⟩ : Cert.Reference2Ideal.S8x64x128.Idx) = i :=
    (eq_ix3 i).symm
  obtain ⟨M, h1, _⟩ := v57_real x0 h i
  refine Eq.trans h1 ?_
  refine congrArg (fun a : ℝ => (a : EReal)) ?_
  refine Eq.trans ?_ (congrArg (fun j => EReal.toReal (val_main_v57 (F := Ideal) x0 j)) e.symm)
  show M = EReal.toReal (val_main_v57 (F := Ideal) x0 i)
  rw [h1, EReal.toReal_coe]

/-- Some score is the largest: the count of those that are is not zero. -/
theorem v62_real (i : Cert.Reference2Ideal.S8x64x128.Idx) :
    ∃ n : ℝ, n ≠ 0 ∧ val_main_v62 (F := Ideal) x0 i = (n : EReal) := by
  obtain ⟨M, h1, κ, h2⟩ := v57_real x0 h i
  let f : Fin 256 → ℝ := fun κ => if val_main_v56_0 (F := Ideal) x0 (ix4 (i 0) (i 1) (i 2) κ) = (M : EReal) then 1 else 0
  have hf : ∀ κ : Fin 256, val_main_v61 (F := Ideal) x0 (idx_main_v62 i κ) = ((f κ : ℝ) : EReal) := by
    intro κ
    have e1 : idx_main_v62 i κ = ix4 (i 0) (i 1) (i 2) κ := by
      funext a
      match a with
      | ⟨0, _⟩ => rfl
      | ⟨1, _⟩ => rfl
      | ⟨2, _⟩ => rfl
      | ⟨3, _⟩ => rfl
    have e2 : val_main_v59 (F := Ideal) x0 (idx_main_v62 i κ) = (M : EReal) := by
      rw [val_main_v59_apply, val_main_v58_apply, ← h1]
      refine congrArg (val_main_v57 (F := Ideal) x0) (funext fun a => ?_)
      have b0 : (i 0).val < 8 := (i 0).isLt
      have b1 : (i 1).val < 64 := (i 1).isLt
      have b2 : (i 2).val < 128 := (i 2).isLt
      match a with
      | ⟨0, _⟩ => exact Fin.ext (by
        show (idx_main_v58 (idx_main_v59 (idx_main_v62 i κ)) 0).val = (i 0).val
        dsimp only
        omega)
      | ⟨1, _⟩ => exact Fin.ext (by
        show (idx_main_v58 (idx_main_v59 (idx_main_v62 i κ)) 1).val = (i 1).val
        dsimp only
        omega)
      | ⟨2, _⟩ => exact Fin.ext (by
        show (idx_main_v58 (idx_main_v59 (idx_main_v62 i κ)) 2).val = (i 2).val
        dsimp only
        omega)
    rw [val_main_v61_apply, val_main_v60_apply, e2, e1]
    by_cases hc : val_main_v56_0 (F := Ideal) x0 (ix4 (i 0) (i 1) (i 2) κ) = (M : EReal)
    · rw [show f κ = 1 from if_pos hc]
      refine (congrArg (FloatOps.uitofp (F := Ideal) .f32) (congrArg BitVec.ofBool (decide_eq_true hc))).trans ?_
      show ((_ : ℝ) : EReal) = _
      simp
    · rw [show f κ = 0 from if_neg hc]
      refine (congrArg (FloatOps.uitofp (F := Ideal) .f32) (congrArg BitVec.ofBool (decide_eq_false hc))).trans ?_
      show ((_ : ℝ) : EReal) = _
      simp
  refine ⟨∑ κ, f κ, ne_of_gt ?_, ?_⟩
  · refine Finset.sum_pos' (fun κ _ => ?_) ⟨κ, Finset.mem_univ _, ?_⟩
    · show 0 ≤ (if _ then (1 : ℝ) else 0)
      split <;> norm_num
    · show 0 < (if _ then (1 : ℝ) else 0)
      rw [if_pos h2]
      norm_num
  · rw [val_main_v62_apply, val_main_cst_10_apply, zero_bits, Finset.sum_congr rfl fun κ _ => hf κ, sum_real, ← EReal.coe_add, zero_add]

/-! ## Exponentials, row sums, log-sums -/

/-- What subtracting the largest score takes out of a row's exponentials. -/
def outR (H B ρ : ℕ) : ℝ := Real.exp (-topR x0 H B ρ)

omit h in
theorem outR_ne (H B ρ : ℕ) : outR x0 H B ρ ≠ 0 := (Real.exp_pos _).ne'

theorem v64_at (i : Cert.Reference2Ideal.S8x64x128x256.Idx) :
    val_main_v64 (F := Ideal) x0 i = ((topR x0 (i 0).val (i 1).val (i 2).val : ℝ) : EReal) := by
  rw [val_main_v64_apply, val_main_v63_apply, v57_at x0 h]

theorem v66_at (i : Cert.Reference2Ideal.S8x64x128x256.Idx) :
    val_main_v66 (F := Ideal) x0 i = ((outR x0 (i 0).val (i 1).val (i 2).val
      * expF qq kk (i 0).val (i 1).val (i 2).val (i 3).val : ℝ) : EReal) := by
  rw [val_main_v66_apply, val_main_v65_apply, v64_at x0 h, v56_at x0 h]
  unfold expF outR
  show Ideal.exp (_ - _) = _
  by_cases hs : seen (i 1).val (i 2).val (i 3).val
  · rw [if_pos hs, if_pos hs, sub_real, Ideal.exp_coe, ← Real.exp_add, sub_eq_neg_add]
  · rw [if_neg hs, if_neg hs, mul_zero, EReal.bot_sub]
    rfl

theorem v67_at (i : Cert.Reference2Ideal.S8x64x128.Idx) :
    val_main_v67 (F := Ideal) x0 i = ((outR x0 (i 0).val (i 1).val (i 2).val
      * rowSum qq kk (i 0).val (i 1).val (i 2).val : ℝ) : EReal) := by
  rw [val_main_v67_apply, val_main_cst_11_apply, zero_bits]
  simp only [v66_at x0 h]
  rw [sum_real, ← EReal.coe_add, zero_add, ← Finset.mul_sum]
  rfl

theorem v68_at (i : Cert.Reference2Ideal.S8x64x128x1.Idx) :
    val_main_v68 (F := Ideal) x0 i = ((outR x0 (i 0).val (i 1).val (i 2).val
      * rowSum qq kk (i 0).val (i 1).val (i 2).val : ℝ) : EReal) := by
  rw [val_main_v68_apply, v67_at x0 h]

theorem den_ne (H B ρ : ℕ) (hρ : ρ < 128) : outR x0 H B ρ * rowSum qq kk H B ρ ≠ 0 :=
  mul_ne_zero (outR_ne x0 H B ρ) (rowSum_pos _ _ _ _ _ hρ).ne'

theorem v70_at (i : Cert.Reference2Ideal.S8x64x128x256.Idx) :
    val_main_v70 (F := Ideal) x0 i = ((expF qq kk (i 0).val (i 1).val (i 2).val (i 3).val
      / rowSum qq kk (i 0).val (i 1).val (i 2).val : ℝ) : EReal) := by
  rw [val_main_v70_apply, val_main_v69_apply, v68_at x0 h, v66_at x0 h]
  refine (div_real _ _ (den_ne x0 h _ _ _ (i 2).isLt)).trans ?_
  refine congrArg (fun a : ℝ => (a : EReal)) ?_
  exact mul_div_mul_left _ _ (outR_ne x0 _ _ _)

theorem v73_at (i : Cert.Reference2Ideal.S8x64x128x1.Idx) :
    val_main_v73 (F := Ideal) x0 i = ((1 / (outR x0 (i 0).val (i 1).val (i 2).val * rowSum qq kk (i 0).val (i 1).val (i 2).val
      * (outR x0 (i 0).val (i 1).val (i 2).val * rowSum qq kk (i 0).val (i 1).val (i 2).val)) : ℝ) : EReal) := by
  rw [val_main_v73_apply, val_main_v72_apply, val_main_v71_apply, val_main_cst_12_apply, one_bits, v68_at x0 h]
  have hd := den_ne x0 h (i 0).val (i 1).val (i 2).val (i 2).isLt
  show Ideal.div _ (_ * _) = _
  rw [← EReal.coe_mul]
  exact div_real _ _ (mul_ne_zero hd hd)

theorem v76_at (i : Cert.Reference2Ideal.S8x64x128x1.Idx) :
    val_main_v76 (F := Ideal) x0 i = ((Real.log (rowSum qq kk (i 0).val (i 1).val (i 2).val) : ℝ) : EReal) := by
  rw [val_main_v76_apply, val_main_v75_apply, val_main_v63_apply, v57_at x0 h, v68_at x0 h]
  have hz := rowSum_pos qq kk (i 0).val (i 1).val (i 2).val (i 2).isLt
  show ((topR x0 (i 0).val (i 1).val (i 2).val : ℝ) : EReal)
    + Ideal.log ((outR x0 (i 0).val (i 1).val (i 2).val * rowSum qq kk (i 0).val (i 1).val (i 2).val : ℝ) : EReal) = _
  have hc : 0 < outR x0 (i 0).val (i 1).val (i 2).val := Real.exp_pos _
  rw [log_real _ (mul_pos hc hz), ← EReal.coe_add]
  refine congrArg (fun a : ℝ => (a : EReal)) ?_
  unfold outR
  rw [Real.log_mul (Real.exp_pos _).ne' hz.ne', Real.log_exp]
  exact add_neg_cancel_left _ _

theorem v77_at (i : Cert.Reference2Ideal.S8x64x128.Idx) :
    val_main_v77 (F := Ideal) x0 i = ((Real.log (rowSum qq kk (i 0).val (i 1).val (i 2).val) : ℝ) : EReal) := by
  have b0 : (i 0).val < 8 := (i 0).isLt
  have b1 : (i 1).val < 64 := (i 1).isLt
  have b2 : (i 2).val < 128 := (i 2).isLt
  rw [val_main_v77_apply, v76_at x0 h]
  have e0 : (idx_main_v77 i 0).val = (i 0).val := by dsimp only; omega
  have e1 : (idx_main_v77 i 1).val = (i 1).val := by dsimp only; omega
  have e2 : (idx_main_v77 i 2).val = (i 2).val := by dsimp only; omega
  rw [e0, e1, e2]

theorem v81_at (i : Cert.Reference2Ideal.S8192x8.Idx) :
    val_main_v81 (F := Ideal) x0 i
      = ((Real.log (rowSum qq kk (i 1).val ((i 0).val / 128) ((i 0).val % 128)) : ℝ) : EReal) := by
  have b0 : (i 0).val < 8192 := (i 0).isLt
  have b1 : (i 1).val < 8 := (i 1).isLt
  rw [val_main_v81_apply, val_main_v80_apply, v77_at x0 h]
  have e0 : (idx_main_v80 (idx_main_v81 i) 0).val = (i 1).val := by dsimp only; omega
  have e1 : (idx_main_v80 (idx_main_v81 i) 1).val = (i 0).val / 128 := by dsimp only; omega
  have e2 : (idx_main_v80 (idx_main_v81 i) 2).val = (i 0).val % 128 := by dsimp only; omega
  rw [e0, e1, e2]

end Scores

section Outputs

variable (x0 : (⟨2, ![8192, 3072]⟩ : Shape).Idx → EReal) (h : AllReal x0)
variable (x1 : (⟨2, ![8192, 7168]⟩ : Shape).Idx → EReal) (h1 : AllReal x1)

local notation "qq" => rr x0 0
local notation "kk" => rr x0 1536
local notation "vv" => rr x1 3072

include h h1

theorem v74_at (i : Cert.Reference2Ideal.S8x64x128x64.Idx) :
    val_main_v74 (F := Ideal) x0 x1 i = ((outF qq kk vv (i 0).val (i 1).val (i 2).val (i 3).val : ℝ) : EReal) := by
  rw [val_main_v74_apply]
  simp only [v70_at x0 h, v24_at x1 h1, ← EReal.coe_mul]
  rw [sum_real]
  rfl

theorem v79_at (i : Cert.Reference2Ideal.S8192x8x64.Idx) :
    val_main_v79 (F := Ideal) x0 x1 i
      = ((outF qq kk vv (i 1).val ((i 0).val / 128) ((i 0).val % 128) (i 2).val : ℝ) : EReal) := by
  have b0 : (i 0).val < 8192 := (i 0).isLt
  have b1 : (i 1).val < 8 := (i 1).isLt
  have b2 : (i 2).val < 64 := (i 2).isLt
  rw [val_main_v79_apply, val_main_v78_apply, v74_at x0 h x1 h1]
  have e0 : (idx_main_v78 (idx_main_v79 i) 0).val = (i 1).val := by dsimp only; omega
  have e1 : (idx_main_v78 (idx_main_v79 i) 1).val = (i 0).val / 128 := by dsimp only; omega
  have e2 : (idx_main_v78 (idx_main_v79 i) 2).val = (i 0).val % 128 := by dsimp only; omega
  have e3 : (idx_main_v78 (idx_main_v79 i) 3).val = (i 2).val := by dsimp only; omega
  rw [e0, e1, e2, e3]

end Outputs

end Cert.Kernel2Ideal.Attn
-- ==== Proof.AttnRefC.lean ====
/- The reference's merge of the three groups and its derivative: what reaches the first group's outputs and row log-sums. -/
module

public import proofs.«01_k».proof.Proof.AttnRefB

@[expose] public section

noncomputable section

namespace Cert.Kernel2Ideal.Attn

open Idealize.ShloMosaic Cert.Reference2Ideal.Read

/-- The seven arguments, real in every entry. -/
structure Ins where
  x0 : (⟨2, ![8192, 3072]⟩ : Shape).Idx → EReal
  x1 : (⟨2, ![8192, 7168]⟩ : Shape).Idx → EReal
  x2 : (⟨2, ![8192, 512]⟩ : Shape).Idx → EReal
  x3 : (⟨2, ![8192, 8]⟩ : Shape).Idx → EReal
  x4 : (⟨2, ![8192, 512]⟩ : Shape).Idx → EReal
  x5 : (⟨2, ![8192, 8]⟩ : Shape).Idx → EReal
  x6 : (⟨2, ![8192, 512]⟩ : Shape).Idx → EReal
  h0 : AllReal x0
  h1 : AllReal x1
  h2 : AllReal x2
  h3 : AllReal x3
  h4 : AllReal x4
  h5 : AllReal x5
  h6 : AllReal x6

namespace Ins

variable (a : Ins)

abbrev q : ℕ → ℕ → ℝ := rr a.x0 0
abbrev k : ℕ → ℕ → ℝ := rr a.x0 1536
abbrev v : ℕ → ℕ → ℝ := rr a.x1 3072
abbrev d : ℕ → ℕ → ℝ := rr a.x6 0
abbrev o1 : ℕ → ℕ → ℝ := rr a.x2 0
abbrev o2 : ℕ → ℕ → ℝ := rr a.x4 0
abbrev l1 : ℕ → ℕ → ℝ := rr a.x3 0
abbrev l2 : ℕ → ℕ → ℝ := rr a.x5 0

/-- The row sum, the sum over the groups, the products with the incoming gradient, at row `r`. -/
def Z (r H : ℕ) : ℝ := rowSum a.q a.k H (r / 128) (r % 128)
def T (r H : ℕ) : ℝ := total a.q a.k a.l1 a.l2 H (r / 128) (r % 128)

/-- The three groups' row log-sums. -/
def lse (g r H : ℕ) : ℝ := if g = 0 then Real.log (a.Z r H) else if g = 1 then a.l1 r H else a.l2 r H

/-- The three groups' outputs. -/
def out (g r H x : ℕ) : ℝ :=
  if g = 0 then outF a.q a.k a.v H (r / 128) (r % 128) x else if g = 1 then a.o1 r (64 * H + x) else a.o2 r (64 * H + x)

/-- The incoming gradient times a group's output. -/
def G (g r H : ℕ) : ℝ := ∑ x : Fin 64, a.d r (64 * H + x.val) * a.out g r H x.val

theorem Z_pos (r H : ℕ) : 0 < a.Z r H := rowSum_pos _ _ _ _ _ (Nat.mod_lt _ (by norm_num))
theorem T_pos (r H : ℕ) : 0 < a.T r H := total_pos _ _ _ _ _ _ _ (Nat.mod_lt _ (by norm_num))

theorem row_split (r : ℕ) : 128 * (r / 128) + r % 128 = r := Nat.div_add_mod r 128

theorem exp_lse0 (r H : ℕ) : Real.exp (a.lse 0 r H) = a.Z r H := Real.exp_log (a.Z_pos r H)

theorem T_eq (r H : ℕ) : a.T r H = ∑ g : Fin 3, Real.exp (a.lse g.val r H) := by
  rw [Fin.sum_univ_three]
  show _ = Real.exp (a.lse 0 r H) + Real.exp (a.l1 r H) + Real.exp (a.l2 r H)
  rw [exp_lse0]
  unfold T total Z
  rw [row_split]

theorem out_eq (g r H x : ℕ) : a.out g r H x = if g = 0 then outF a.q a.k a.v H (r / 128) (r % 128) x
    else if g = 1 then a.o1 r (64 * H + x) else a.o2 r (64 * H + x) := rfl

theorem G0_eq (r H : ℕ) : a.G 0 r H = g0 a.q a.k a.v a.d H (r / 128) (r % 128) := by
  unfold G g0 gOut
  rw [row_split]
  rfl

theorem G1_eq (r H : ℕ) : a.G 1 r H = g1 a.d a.o1 H (r / 128) (r % 128) := by
  unfold G g1 gOut
  rw [row_split]
  rfl

theorem G2_eq (r H : ℕ) : a.G 2 r H = g2 a.d a.o2 H (r / 128) (r % 128) := by
  unfold G g2 gOut
  rw [row_split]
  rfl

/-- The incoming gradient times the merged output, at row `r`. -/
def D (r H : ℕ) : ℝ := gAll a.q a.k a.v a.d a.o1 a.o2 a.l1 a.l2 H (r / 128) (r % 128)

theorem D_eq (r H : ℕ) : a.D r H = a.Z r H / a.T r H * a.G 0 r H + Real.exp (a.l1 r H) / a.T r H * a.G 1 r H
    + Real.exp (a.l2 r H) / a.T r H * a.G 2 r H := by
  rw [G0_eq, G1_eq, G2_eq]
  unfold D gAll
  rw [row_split]
  rfl

end Ins

variable (a : Ins)

theorem v85_at (i : Cert.Reference2Ideal.S3x8192x8.Idx) :
    val_main_v85 (F := Ideal) a.x0 a.x3 a.x5 i = ((a.lse (i 0).val (i 1).val (i 2).val : ℝ) : EReal) := by
  have b0 : (i 0).val < 3 := (i 0).isLt
  unfold val_main_v85 Ins.lse
  have hA : ∀ j, val_main_v82 (F := Ideal) a.x0 j = ((Real.log (a.Z (j 1).val (j 2).val) : ℝ) : EReal) := fun j => by
    rw [val_main_v82_apply, v81_at a.x0 a.h0]
    rfl
  have hB : ∀ j, val_main_v83 (F := Ideal) a.x3 j = ((a.l1 (j 1).val (j 2).val : ℝ) : EReal) := fun j => by
    rw [val_main_v83_apply]
    exact rr_at a.x3 a.h3 0 _ _ _ rfl (by dsimp only; omega)
  have hC : ∀ j, val_main_v84 (F := Ideal) a.x5 j = ((a.l2 (j 1).val (j 2).val : ℝ) : EReal) := fun j => by
    rw [val_main_v84_apply]
    exact rr_at a.x5 a.h5 0 _ _ _ rfl (by dsimp only; omega)
  revert hA hB hC
  generalize val_main_v82 (F := Ideal) a.x0 = A
  generalize val_main_v83 (F := Ideal) a.x3 = B
  generalize val_main_v84 (F := Ideal) a.x5 = C
  intro hA hB hC
  pointwise []
  by_cases c0 : (i 0).val = 0
  · refine (dif_pos (show (i 0).val < 1 by omega)).trans ((hA _).trans ?_)
    exact congrArg (fun z : ℝ => (z : EReal)) (if_pos c0).symm
  · refine (dif_neg (show ¬ (i 0).val < 1 by omega)).trans ?_
    refine Eq.trans ?_ (congrArg (fun z : ℝ => (z : EReal)) (if_neg c0).symm)
    by_cases c1 : (i 0).val = 1
    · refine (dif_pos (show (i 0).val - 1 < 1 by omega)).trans ((hB _).trans ?_)
      exact congrArg (fun z : ℝ => (z : EReal)) (if_pos c1).symm
    · refine (dif_neg (show ¬ (i 0).val - 1 < 1 by omega)).trans ((hC _).trans ?_)
      exact congrArg (fun z : ℝ => (z : EReal)) (if_neg c1).symm

theorem v120_at (i : Cert.Reference2Ideal.S3x8192x8x64.Idx) :
    val_main_v120 (F := Ideal) a.x0 a.x1 a.x2 a.x4 i
      = ((a.out (i 0).val (i 1).val (i 2).val (i 3).val : ℝ) : EReal) := by
  have b0 : (i 0).val < 3 := (i 0).isLt
  unfold val_main_v120 Ins.out
  have hA : ∀ j, val_main_v117 (F := Ideal) a.x0 a.x1 j
      = ((outF a.q a.k a.v (j 2).val ((j 1).val / 128) ((j 1).val % 128) (j 3).val : ℝ) : EReal) := fun j => by
    rw [val_main_v117_apply, v79_at a.x0 a.h0 a.x1 a.h1]
  have hB : ∀ j, val_main_v118 (F := Ideal) a.x2 j = ((a.o1 (j 1).val (64 * (j 2).val + (j 3).val) : ℝ) : EReal) := fun j => by
    have b1 : (j 1).val < 8192 := (j 1).isLt
    have b2 : (j 2).val < 8 := (j 2).isLt
    have b3 : (j 3).val < 64 := (j 3).isLt
    rw [val_main_v118_apply, val_main_v0_apply]
    exact rr_at a.x2 a.h2 0 _ _ _ (by dsimp only; omega) (by dsimp only; omega)
  have hC : ∀ j, val_main_v119 (F := Ideal) a.x4 j = ((a.o2 (j 1).val (64 * (j 2).val + (j 3).val) : ℝ) : EReal) := fun j => by
    have b1 : (j 1).val < 8192 := (j 1).isLt
    have b2 : (j 2).val < 8 := (j 2).isLt
    have b3 : (j 3).val < 64 := (j 3).isLt
    rw [val_main_v119_apply, val_main_v1_apply]
    exact rr_at a.x4 a.h4 0 _ _ _ (by dsimp only; omega) (by dsimp only; omega)
  revert hA hB hC
  generalize val_main_v117 (F := Ideal) a.x0 a.x1 = A
  generalize val_main_v118 (F := Ideal) a.x2 = B
  generalize val_main_v119 (F := Ideal) a.x4 = C
  intro hA hB hC
  pointwise []
  by_cases c0 : (i 0).val = 0
  · refine (dif_pos (show (i 0).val < 1 by omega)).trans ((hA _).trans ?_)
    exact congrArg (fun z : ℝ => (z : EReal)) (if_pos c0).symm
  · refine (dif_neg (show ¬ (i 0).val < 1 by omega)).trans ?_
    refine Eq.trans ?_ (congrArg (fun z : ℝ => (z : EReal)) (if_neg c0).symm)
    by_cases c1 : (i 0).val = 1
    · refine (dif_pos (show (i 0).val - 1 < 1 by omega)).trans ((hB _).trans ?_)
      exact congrArg (fun z : ℝ => (z : EReal)) (if_pos c1).symm
    · refine (dif_neg (show ¬ (i 0).val - 1 < 1 by omega)).trans ((hC _).trans ?_)
      exact congrArg (fun z : ℝ => (z : EReal)) (if_neg c1).symm

/-! ## The weights -/

theorem v88_fold (i : Cert.Reference2Ideal.S8192x8.Idx) :
    val_main_v88 (F := Ideal) a.x0 a.x3 a.x5 i
      = (Finset.univ : Finset (Fin 3)).fold max ⊥ (fun g => val_main_v85 (F := Ideal) a.x0 a.x3 a.x5 (ix3 g (i 0) (i 1))) := by
  unfold val_main_v88
  generalize val_main_v85 (F := Ideal) a.x0 a.x3 a.x5 = y
  pointwise [val_main_cst_15]
  rw [show Ideal.ofBits FTy.f32 0xFF800000#32 = ⊥ from bot_bits]

/-- The largest of the three row log-sums. -/
def Ins.top (r H : ℕ) : ℝ :=
  if hb : r < 8192 ∧ H < 8 then (val_main_v88 (F := Ideal) a.x0 a.x3 a.x5 (ix2 ⟨r, hb.1⟩ ⟨H, hb.2⟩)).toReal else 0

theorem v88_at (i : Cert.Reference2Ideal.S8192x8.Idx) :
    val_main_v88 (F := Ideal) a.x0 a.x3 a.x5 i = ((a.top (i 0).val (i 1).val : ℝ) : EReal) := by
  unfold Ins.top
  rw [dif_pos ⟨(i 0).isLt, (i 1).isLt⟩]
  have e : (ix2 ⟨(i 0).val, (i 0).isLt⟩ ⟨(i 1).val, (i 1).isLt⟩ : Cert.Reference2Ideal.S8192x8.Idx) = i := (eq_ix2 i).symm
  obtain ⟨M, h1, _⟩ := fold_max_real (Finset.univ : Finset (Fin 3))
    (fun g => val_main_v85 (F := Ideal) a.x0 a.x3 a.x5 (ix3 g (i 0) (i 1)))
    (fun g _ => ne_of_eq_of_ne (v85_at a _) (EReal.coe_ne_top _)) 0 (Finset.mem_univ _) _ (v85_at a _)
  replace h1 := (v88_fold a i).trans h1
  refine Eq.trans h1 (congrArg (fun z : ℝ => (z : EReal)) ?_)
  refine Eq.trans ?_ (congrArg (fun j => EReal.toReal (val_main_v88 (F := Ideal) a.x0 a.x3 a.x5 j)) e.symm)
  show M = EReal.toReal (val_main_v88 (F := Ideal) a.x0 a.x3 a.x5 i)
  rw [h1, EReal.toReal_coe]

/-- What subtracting the largest takes out of the exponentials. -/
def Ins.C (r H : ℕ) : ℝ := Real.exp (-a.top r H)

theorem Ins.C_ne (r H : ℕ) : a.C r H ≠ 0 := (Real.exp_pos _).ne'

theorem v95_at (i : Cert.Reference2Ideal.S8192x8.Idx) :
    val_main_v95 (F := Ideal) a.x0 a.x3 a.x5 i = ((a.top (i 0).val (i 1).val : ℝ) : EReal) := by
  rw [val_main_v95_apply, val_main_v94_apply, val_main_cst_17_apply, v88_at]
  refine (congrArg (fun z => max z _) bot_bits).trans ?_
  exact max_eq_right bot_le

theorem v108_at (i : Cert.Reference2Ideal.S3x8192x8.Idx) :
    val_main_v108 (F := Ideal) a.x0 a.x3 a.x5 i
      = ((a.C (i 1).val (i 2).val * Real.exp (a.lse (i 0).val (i 1).val (i 2).val) : ℝ) : EReal) := by
  rw [val_main_v108_apply, val_main_v107_apply, val_main_v106_apply, val_main_v105_apply, v95_at, v85_at]
  show Ideal.exp (((a.lse (i 0).val (i 1).val (i 2).val : ℝ) : EReal) - ((a.top (i 1).val (i 2).val : ℝ) : EReal)) = _
  rw [sub_real, Ideal.exp_coe]
  refine congrArg (fun z : ℝ => (z : EReal)) ?_
  unfold Ins.C
  rw [← Real.exp_add, sub_eq_neg_add]

theorem v109_at (i : Cert.Reference2Ideal.S8192x8.Idx) :
    val_main_v109 (F := Ideal) a.x0 a.x3 a.x5 i = ((a.C (i 0).val (i 1).val * a.T (i 0).val (i 1).val : ℝ) : EReal) := by
  rw [val_main_v109_apply, val_main_cst_23_apply, zero_bits]
  simp only [v108_at]
  rw [sum_real, ← EReal.coe_add, zero_add, ← Finset.mul_sum, Ins.T_eq]

theorem v110_at (i : Cert.Reference2Ideal.S1x8192x8.Idx) :
    val_main_v110 (F := Ideal) a.x0 a.x3 a.x5 i = ((a.C (i 1).val (i 2).val * a.T (i 1).val (i 2).val : ℝ) : EReal) := by
  rw [val_main_v110_apply, v109_at]

theorem Ins.CT_ne (r H : ℕ) : a.C r H * a.T r H ≠ 0 := mul_ne_zero (a.C_ne r H) (a.T_pos r H).ne'

theorem v112_at (i : Cert.Reference2Ideal.S3x8192x8.Idx) :
    val_main_v112 (F := Ideal) a.x0 a.x3 a.x5 i
      = ((Real.exp (a.lse (i 0).val (i 1).val (i 2).val) / a.T (i 1).val (i 2).val : ℝ) : EReal) := by
  rw [val_main_v112_apply, val_main_v111_apply, v110_at, v108_at]
  refine (div_real _ _ (a.CT_ne _ _)).trans ?_
  exact congrArg (fun z : ℝ => (z : EReal)) (mul_div_mul_left _ _ (a.C_ne _ _))

theorem v115_at (i : Cert.Reference2Ideal.S1x8192x8.Idx) :
    val_main_v115 (F := Ideal) a.x0 a.x3 a.x5 i = ((1 / (a.C (i 1).val (i 2).val * a.T (i 1).val (i 2).val
      * (a.C (i 1).val (i 2).val * a.T (i 1).val (i 2).val)) : ℝ) : EReal) := by
  rw [val_main_v115_apply, val_main_v114_apply, val_main_v113_apply, val_main_cst_24_apply, one_bits, v110_at]
  refine (congrArg (fun z => Ideal.div _ z) (EReal.coe_mul _ _).symm).trans ?_
  exact div_real _ _ (mul_ne_zero (a.CT_ne _ _) (a.CT_ne _ _))

/-! ## The derivative of the merge -/

theorem v2_at (i : Cert.Reference2Ideal.S8192x8x64.Idx) :
    val_main_v2 (F := Ideal) a.x6 i = ((a.d (i 0).val (64 * (i 1).val + (i 2).val) : ℝ) : EReal) := by
  have b0 : (i 0).val < 8192 := (i 0).isLt
  have b1 : (i 1).val < 8 := (i 1).isLt
  have b2 : (i 2).val < 64 := (i 2).isLt
  rw [val_main_v2_apply]
  exact rr_at a.x6 a.h6 0 _ _ _ (by dsimp only; omega) (by dsimp only; omega)

theorem v126_at (i : Cert.Reference2Ideal.S3x8192x8x64.Idx) :
    val_main_v126 (F := Ideal) a.x6 i = ((a.d (i 1).val (64 * (i 2).val + (i 3).val) : ℝ) : EReal) := by
  rw [val_main_v126_apply, v2_at]

theorem v128_at (i : Cert.Reference2Ideal.S3x8192x8x64.Idx) :
    val_main_v128 (F := Ideal) a.x0 a.x3 a.x5 a.x6 i = ((Real.exp (a.lse (i 0).val (i 1).val (i 2).val)
      / a.T (i 1).val (i 2).val * a.d (i 1).val (64 * (i 2).val + (i 3).val) : ℝ) : EReal) := by
  rw [val_main_v128_apply, val_main_v127_apply, val_main_v116_apply, v112_at, v126_at]
  exact (EReal.coe_mul _ _).symm

theorem v133_at (i : Cert.Reference2Ideal.S8192x8x64.Idx) :
    val_main_v133 (F := Ideal) a.x0 a.x3 a.x5 a.x6 i = ((a.Z (i 0).val (i 1).val
      / a.T (i 0).val (i 1).val * a.d (i 0).val (64 * (i 1).val + (i 2).val) : ℝ) : EReal) := by
  have b0 : (i 0).val < 8192 := (i 0).isLt
  have b1 : (i 1).val < 8 := (i 1).isLt
  have b2 : (i 2).val < 64 := (i 2).isLt
  rw [val_main_v133_apply, val_main_v132_apply, v128_at]
  have e0 : (idx_main_v132 (idx_main_v133 i) 0).val = 0 := by dsimp only; try omega
  have e1 : (idx_main_v132 (idx_main_v133 i) 1).val = (i 0).val := by dsimp only; omega
  have e2 : (idx_main_v132 (idx_main_v133 i) 2).val = (i 1).val := by dsimp only; omega
  have e3 : (idx_main_v132 (idx_main_v133 i) 3).val = (i 2).val := by dsimp only; omega
  rw [e0, e1, e2, e3, Ins.exp_lse0]

theorem v130_at (i : Cert.Reference2Ideal.S3x8192x8.Idx) :
    val_main_v130 (F := Ideal) a.x0 a.x1 a.x2 a.x4 a.x6 i = ((a.G (i 0).val (i 1).val (i 2).val : ℝ) : EReal) := by
  rw [val_main_v130_apply, val_main_cst_28_apply, zero_bits]
  have e : ∀ x : Fin 64, val_main_v129 (F := Ideal) a.x0 a.x1 a.x2 a.x4 a.x6 (idx_main_v130 i x)
      = ((a.d (i 1).val (64 * (i 2).val + x.val) * a.out (i 0).val (i 1).val (i 2).val x.val : ℝ) : EReal) := fun x => by
    rw [val_main_v129_apply, v126_at, v120_at]
    exact (EReal.coe_mul _ _).symm
  rw [Finset.sum_congr rfl fun x _ => e x, sum_real, ← EReal.coe_add, zero_add]
  rfl

theorem v138_at (i : Cert.Reference2Ideal.S3x8192x8.Idx) :
    val_main_v138 (F := Ideal) a.x0 a.x1 a.x2 a.x4 a.x6 i = ((a.G (i 0).val (i 1).val (i 2).val : ℝ) : EReal) := by
  have b0 : (i 0).val < 3 := (i 0).isLt
  have b1 : (i 1).val < 8192 := (i 1).isLt
  have b2 : (i 2).val < 8 := (i 2).isLt
  rw [val_main_v138_apply, val_main_cst_29_apply, zero_bits, Fin.sum_univ_one, val_main_v131_apply, v130_at, ← EReal.coe_add,
    zero_add]
  have e0 : (idx_main_v131 (idx_main_v138 i 0) 0).val = (i 0).val := by dsimp only; omega
  have e1 : (idx_main_v131 (idx_main_v138 i 0) 1).val = (i 1).val := by dsimp only; omega
  have e2 : (idx_main_v131 (idx_main_v138 i 0) 2).val = (i 2).val := by dsimp only; omega
  rw [e0, e1, e2]

theorem v141_at (i : Cert.Reference2Ideal.S3x8192x8.Idx) :
    val_main_v141 (F := Ideal) a.x0 a.x1 a.x2 a.x3 a.x4 a.x5 a.x6 i = ((a.G (i 0).val (i 1).val (i 2).val
      * (1 / (a.C (i 1).val (i 2).val * a.T (i 1).val (i 2).val * (a.C (i 1).val (i 2).val * a.T (i 1).val (i 2).val)))
      * (a.C (i 1).val (i 2).val * Real.exp (a.lse (i 0).val (i 1).val (i 2).val)) : ℝ) : EReal) := by
  rw [val_main_v141_apply, val_main_v140_apply, val_main_v139_apply, v138_at, v115_at, v108_at]
  exact (congrArg (fun z : EReal => z * _) (EReal.coe_mul _ _).symm).trans (EReal.coe_mul _ _).symm

/-- The part of the derivative that comes through the sum of the weights. -/
def Ins.S (r H : ℕ) : ℝ := ∑ g : Fin 3, a.G g.val r H * (1 / (a.C r H * a.T r H * (a.C r H * a.T r H)))
  * (a.C r H * Real.exp (a.lse g.val r H))

theorem v142_at (i : Cert.Reference2Ideal.S8192x8.Idx) :
    val_main_v142 (F := Ideal) a.x0 a.x1 a.x2 a.x3 a.x4 a.x5 a.x6 i = ((a.S (i 0).val (i 1).val : ℝ) : EReal) := by
  rw [val_main_v142_apply, val_main_cst_30_apply, zero_bits]
  simp only [v141_at]
  rw [sum_real, ← EReal.coe_add, zero_add]
  rfl

theorem v148_at (i : Cert.Reference2Ideal.S3x8192x8.Idx) :
    val_main_v148 (F := Ideal) a.x0 a.x1 a.x2 a.x3 a.x4 a.x5 a.x6 i = ((-a.S (i 1).val (i 2).val : ℝ) : EReal) := by
  have b1 : (i 1).val < 8192 := (i 1).isLt
  have b2 : (i 2).val < 8 := (i 2).isLt
  rw [val_main_v148_apply, val_main_v147_apply, val_main_cst_31_apply, zero_bits, Fin.sum_univ_one, val_main_v144_apply,
    val_main_v143_apply, v142_at]
  have e0 : (idx_main_v143 (idx_main_v147 (idx_main_v148 i) 0) 0).val = (i 1).val := by dsimp only; omega
  have e1 : (idx_main_v143 (idx_main_v147 (idx_main_v148 i) 0) 1).val = (i 2).val := by dsimp only; omega
  rw [e0, e1]
  refine (congrArg (fun z : EReal => _ + z) (EReal.coe_neg _).symm).trans ?_
  rw [← EReal.coe_add, zero_add]

theorem v150_at (i : Cert.Reference2Ideal.S3x8192x8.Idx) :
    val_main_v150 (F := Ideal) a.x0 a.x1 a.x2 a.x3 a.x4 a.x5 a.x6 i
      = (((a.G (i 0).val (i 1).val (i 2).val / (a.C (i 1).val (i 2).val * a.T (i 1).val (i 2).val) + -a.S (i 1).val (i 2).val)
        * (a.C (i 1).val (i 2).val * Real.exp (a.lse (i 0).val (i 1).val (i 2).val)) : ℝ) : EReal) := by
  rw [val_main_v150_apply, val_main_v149_apply, val_main_v146_apply, val_main_v145_apply, v138_at, v110_at, v148_at, v108_at]
  refine (congrArg (fun z : EReal => (z + _) * _) (div_real _ _ (a.CT_ne _ _))).trans ?_
  exact (congrArg (fun z : EReal => z * _) (EReal.coe_add _ _).symm).trans (EReal.coe_mul _ _).symm

/-- What reaches the first group's row log-sum. -/
def Ins.dl (r H : ℕ) : ℝ := a.Z r H / a.T r H * (a.G 0 r H - a.D r H)

theorem v152_at (i : Cert.Reference2Ideal.S8192x8.Idx) :
    val_main_v152 (F := Ideal) a.x0 a.x1 a.x2 a.x3 a.x4 a.x5 a.x6 i = ((a.dl (i 0).val (i 1).val : ℝ) : EReal) := by
  have b0 : (i 0).val < 8192 := (i 0).isLt
  have b1 : (i 1).val < 8 := (i 1).isLt
  rw [val_main_v152_apply, val_main_v151_apply, v150_at]
  have e0 : (idx_main_v151 (idx_main_v152 i) 0).val = 0 := by dsimp only; try omega
  have e1 : (idx_main_v151 (idx_main_v152 i) 1).val = (i 0).val := by dsimp only; omega
  have e2 : (idx_main_v151 (idx_main_v152 i) 2).val = (i 1).val := by dsimp only; omega
  rw [e0, e1, e2]
  refine congrArg (fun z : ℝ => (z : EReal)) ?_
  unfold Ins.S Ins.dl
  rw [Ins.D_eq, Fin.sum_univ_three, Ins.exp_lse0]
  refine Eq.trans ?_ (merge_step (a.C (i 0).val (i 1).val) (a.T (i 0).val (i 1).val) (a.Z (i 0).val (i 1).val)
    (a.G 0 (i 0).val (i 1).val) (a.G 1 (i 0).val (i 1).val) (a.G 2 (i 0).val (i 1).val)
    (Real.exp (a.l1 (i 0).val (i 1).val)) (Real.exp (a.l2 (i 0).val (i 1).val)) (a.C_ne _ _) (a.T_pos _ _).ne')
  rw [← Ins.exp_lse0]
  rfl

end Cert.Kernel2Ideal.Attn
-- ==== Proof.AttnRefD.lean ====
/- The reference's derivative of one row's softmax, and its three results. -/
module

public import proofs.«01_k».proof.Proof.AttnRefC

@[expose] public section

noncomputable section

namespace Cert.Kernel2Ideal.Attn

open Idealize.ShloMosaic Cert.Reference2Ideal.Read

namespace Ins

variable (a : Ins)

/-- The same quantities at head `H`, block `B`, query `ρ`. -/
abbrev z (H B ρ : ℕ) : ℝ := rowSum a.q a.k H B ρ
abbrev t (H B ρ : ℕ) : ℝ := total a.q a.k a.l1 a.l2 H B ρ
abbrev e (H B ρ κ : ℕ) : ℝ := expF a.q a.k H B ρ κ
abbrev c (H B ρ : ℕ) : ℝ := outR a.x0 H B ρ
abbrev g (H B ρ : ℕ) : ℝ := g0 a.q a.k a.v a.d H B ρ
abbrev all (H B ρ : ℕ) : ℝ := gAll a.q a.k a.v a.d a.o1 a.o2 a.l1 a.l2 H B ρ
abbrev gv (H B ρ κ : ℕ) : ℝ := gVal a.v a.d H B ρ κ
abbrev ds (H B ρ κ : ℕ) : ℝ := dScore a.q a.k a.v a.d a.o1 a.o2 a.l1 a.l2 H B ρ κ

theorem div_block (B ρ : ℕ) (hρ : ρ < 128) : (128 * B + ρ) / 128 = B := by omega
theorem mod_block (B ρ : ℕ) (hρ : ρ < 128) : (128 * B + ρ) % 128 = ρ := by omega

theorem Z_block (H B ρ : ℕ) (hρ : ρ < 128) : a.Z (128 * B + ρ) H = a.z H B ρ := by
  unfold Z
  rw [div_block B ρ hρ, mod_block B ρ hρ]

theorem T_block (H B ρ : ℕ) (hρ : ρ < 128) : a.T (128 * B + ρ) H = a.t H B ρ := by
  unfold T
  rw [div_block B ρ hρ, mod_block B ρ hρ]

theorem dl_block (H B ρ : ℕ) (hρ : ρ < 128) :
    a.dl (128 * B + ρ) H = a.z H B ρ / a.t H B ρ * (a.g H B ρ - a.all H B ρ) := by
  unfold dl
  rw [Z_block a H B ρ hρ, T_block a H B ρ hρ, G0_eq]
  unfold D
  rw [div_block B ρ hρ, mod_block B ρ hρ]

theorem z_ne (H B ρ : ℕ) (hρ : ρ < 128) : a.z H B ρ ≠ 0 := (rowSum_pos _ _ _ _ _ hρ).ne'
theorem t_ne (H B ρ : ℕ) (hρ : ρ < 128) : a.t H B ρ ≠ 0 := (total_pos _ _ _ _ _ _ _ hρ).ne'

end Ins

variable (a : Ins)

theorem v158_at (i : Cert.Reference2Ideal.S8x64x128.Idx) :
    val_main_v158 (F := Ideal) a.x0 a.x1 a.x2 a.x3 a.x4 a.x5 a.x6 i
      = ((a.z (i 0).val (i 1).val (i 2).val / a.t (i 0).val (i 1).val (i 2).val
          * (a.g (i 0).val (i 1).val (i 2).val - a.all (i 0).val (i 1).val (i 2).val) : ℝ) : EReal) := by
  have b0 : (i 0).val < 8 := (i 0).isLt
  have b1 : (i 1).val < 64 := (i 1).isLt
  have b2 : (i 2).val < 128 := (i 2).isLt
  rw [val_main_v158_apply, val_main_v157_apply, v152_at]
  have e0 : (idx_main_v157 (idx_main_v158 i) 0).val = 128 * (i 1).val + (i 2).val := by dsimp only; omega
  have e1 : (idx_main_v157 (idx_main_v158 i) 1).val = (i 0).val := by dsimp only; omega
  rw [e0, e1, Ins.dl_block a _ _ _ b2]

theorem v160_at (i : Cert.Reference2Ideal.S8x64x128x64.Idx) :
    val_main_v160 (F := Ideal) a.x0 a.x3 a.x5 a.x6 i
      = ((a.z (i 0).val (i 1).val (i 2).val / a.t (i 0).val (i 1).val (i 2).val
          * a.d (128 * (i 1).val + (i 2).val) (64 * (i 0).val + (i 3).val) : ℝ) : EReal) := by
  have b0 : (i 0).val < 8 := (i 0).isLt
  have b1 : (i 1).val < 64 := (i 1).isLt
  have b2 : (i 2).val < 128 := (i 2).isLt
  have b3 : (i 3).val < 64 := (i 3).isLt
  rw [val_main_v160_apply, val_main_v159_apply, v133_at]
  have e0 : (idx_main_v159 (idx_main_v160 i) 0).val = 128 * (i 1).val + (i 2).val := by dsimp only; omega
  have e1 : (idx_main_v159 (idx_main_v160 i) 1).val = (i 0).val := by dsimp only; omega
  have e2 : (idx_main_v159 (idx_main_v160 i) 2).val = (i 3).val := by dsimp only; omega
  rw [e0, e1, e2, Ins.Z_block a _ _ _ b2, Ins.T_block a _ _ _ b2]

theorem v161_at (i : Cert.Reference2Ideal.S8x64x128x1.Idx) :
    val_main_v161 (F := Ideal) a.x0 a.x1 a.x2 a.x3 a.x4 a.x5 a.x6 i
      = ((a.z (i 0).val (i 1).val (i 2).val / a.t (i 0).val (i 1).val (i 2).val
          * (a.g (i 0).val (i 1).val (i 2).val - a.all (i 0).val (i 1).val (i 2).val) : ℝ) : EReal) := by
  rw [val_main_v161_apply, v158_at]

theorem v165_at (i : Cert.Reference2Ideal.S8x64x128x256.Idx) :
    val_main_v165 (F := Ideal) a.x0 a.x1 a.x3 a.x5 a.x6 i
      = ((a.z (i 0).val (i 1).val (i 2).val / a.t (i 0).val (i 1).val (i 2).val
          * a.gv (i 0).val (i 1).val (i 2).val (i 3).val : ℝ) : EReal) := by
  rw [val_main_v165_apply]
  simp only [v160_at, v24_at a.x1 a.h1, ← EReal.coe_mul]
  rw [sum_real]
  refine congrArg (fun w : ℝ => (w : EReal)) ?_
  unfold Ins.gv gVal
  rw [Finset.mul_sum]
  exact Finset.sum_congr rfl fun x _ => mul_assoc _ _ _

theorem v168_at (i : Cert.Reference2Ideal.S8x64x128x256.Idx) :
    val_main_v168 (F := Ideal) a.x0 a.x1 a.x3 a.x5 a.x6 i
      = ((a.z (i 0).val (i 1).val (i 2).val / a.t (i 0).val (i 1).val (i 2).val
          * a.gv (i 0).val (i 1).val (i 2).val (i 3).val
          * (1 / (a.c (i 0).val (i 1).val (i 2).val * a.z (i 0).val (i 1).val (i 2).val
            * (a.c (i 0).val (i 1).val (i 2).val * a.z (i 0).val (i 1).val (i 2).val)))
          * (a.c (i 0).val (i 1).val (i 2).val * a.e (i 0).val (i 1).val (i 2).val (i 3).val) : ℝ) : EReal) := by
  rw [val_main_v168_apply, val_main_v167_apply, val_main_v166_apply, v165_at, v73_at a.x0 a.h0, v66_at a.x0 a.h0]
  exact (congrArg (fun w : EReal => w * _) (EReal.coe_mul _ _).symm).trans (EReal.coe_mul _ _).symm

/-- What reaches a row through the sum of its exponentials. -/
def Ins.s (H B ρ : ℕ) : ℝ := ∑ κ : Fin 256, a.z H B ρ / a.t H B ρ * a.gv H B ρ κ.val
  * (1 / (a.c H B ρ * a.z H B ρ * (a.c H B ρ * a.z H B ρ))) * (a.c H B ρ * a.e H B ρ κ.val)

theorem v169_at (i : Cert.Reference2Ideal.S8x64x128.Idx) :
    val_main_v169 (F := Ideal) a.x0 a.x1 a.x3 a.x5 a.x6 i = ((a.s (i 0).val (i 1).val (i 2).val : ℝ) : EReal) := by
  rw [val_main_v169_apply, val_main_cst_32_apply, zero_bits]
  simp only [v168_at]
  rw [sum_real, ← EReal.coe_add, zero_add]
  rfl

theorem v172_at (i : Cert.Reference2Ideal.S8x64x128x1.Idx) :
    val_main_v172 (F := Ideal) a.x0 a.x1 a.x2 a.x3 a.x4 a.x5 a.x6 i
      = ((a.z (i 0).val (i 1).val (i 2).val / a.t (i 0).val (i 1).val (i 2).val
          * (a.g (i 0).val (i 1).val (i 2).val - a.all (i 0).val (i 1).val (i 2).val)
          / (a.c (i 0).val (i 1).val (i 2).val * a.z (i 0).val (i 1).val (i 2).val)
          + -a.s (i 0).val (i 1).val (i 2).val : ℝ) : EReal) := by
  have b0 : (i 0).val < 8 := (i 0).isLt
  have b1 : (i 1).val < 64 := (i 1).isLt
  have b2 : (i 2).val < 128 := (i 2).isLt
  have b3 : (i 3).val < 1 := (i 3).isLt
  rw [val_main_v172_apply, val_main_v171_apply, val_main_v170_apply, val_main_v162_apply, v161_at, v68_at a.x0 a.h0, v169_at]
  have e0 : (idx_main_v170 i 0).val = (i 0).val := by dsimp only; omega
  have e1 : (idx_main_v170 i 1).val = (i 1).val := by dsimp only; omega
  have e2 : (idx_main_v170 i 2).val = (i 2).val := by dsimp only; omega
  rw [e0, e1, e2]
  refine (congrArg₂ (fun w w' : EReal => w + w') (div_real _ _ (den_ne a.x0 a.h0 _ _ _ b2)) (EReal.coe_neg _).symm).trans ?_
  exact (EReal.coe_add _ _).symm

theorem v178_at (i : Cert.Reference2Ideal.S8x64x128x256.Idx) :
    val_main_v178 (F := Ideal) a.x0 a.x1 a.x2 a.x3 a.x4 a.x5 a.x6 i
      = ((a.ds (i 0).val (i 1).val (i 2).val (i 3).val : ℝ) : EReal) := by
  have b2 : (i 2).val < 128 := (i 2).isLt
  rw [val_main_v178_apply, val_main_v177_apply, val_main_v176_apply, val_main_v175_apply, val_main_cst_33_apply, zero_bits,
    Fin.sum_univ_one, val_main_v174_apply, val_main_v173_apply, v165_at, v68_at a.x0 a.h0, v172_at, v66_at a.x0 a.h0,
    ← EReal.coe_add, zero_add]
  refine (congrArg (fun w : EReal => (w + _) * _) (div_real _ _ (den_ne a.x0 a.h0 _ _ _ b2))).trans ?_
  refine (congrArg (fun w : EReal => w * _) (EReal.coe_add _ _).symm).trans ((EReal.coe_mul _ _).symm.trans ?_)
  refine congrArg (fun w : ℝ => (w : EReal)) ?_
  exact row_step (fun κ => a.e (i 0).val (i 1).val (i 2).val κ.val) (fun κ => a.gv (i 0).val (i 1).val (i 2).val κ.val)
    (a.c (i 0).val (i 1).val (i 2).val) (a.z (i 0).val (i 1).val (i 2).val) (a.t (i 0).val (i 1).val (i 2).val)
    (a.g (i 0).val (i 1).val (i 2).val) (a.all (i 0).val (i 1).val (i 2).val) _ (outR_ne a.x0 _ _ _)
    (a.z_ne _ _ _ b2) (a.t_ne _ _ _ b2) rfl (g0_eq a.q a.k a.v a.d _ _ _) (i 3)

theorem v182_at (i : Cert.Reference2Ideal.S8x64x128x1.Idx) :
    val_main_v182 (F := Ideal) a.x0 a.x1 a.x2 a.x3 a.x4 a.x5 a.x6 i = ((0 : ℝ) : EReal) := by
  have b0 : (i 0).val < 8 := (i 0).isLt
  have b1 : (i 1).val < 64 := (i 1).isLt
  have b2 : (i 2).val < 128 := (i 2).isLt
  have b3 : (i 3).val < 1 := (i 3).isLt
  rw [val_main_v182_apply, val_main_v181_apply, val_main_v180_apply, val_main_cst_34_apply, zero_bits, v161_at]
  have e : ∀ κ : Fin 256, val_main_v179 (F := Ideal) a.x0 a.x1 a.x2 a.x3 a.x4 a.x5 a.x6 (idx_main_v180 (idx_main_v181 i) κ)
      = ((-a.ds (i 0).val (i 1).val (i 2).val κ.val : ℝ) : EReal) := fun κ => by
    rw [val_main_v179_apply, v178_at]
    have e0 : (idx_main_v180 (idx_main_v181 i) κ 0).val = (i 0).val := by dsimp only; omega
    have e1 : (idx_main_v180 (idx_main_v181 i) κ 1).val = (i 1).val := by dsimp only; omega
    have e2 : (idx_main_v180 (idx_main_v181 i) κ 2).val = (i 2).val := by dsimp only; omega
    rw [e0, e1, e2]
    exact (EReal.coe_neg _).symm
  rw [Finset.sum_congr rfl fun κ _ => e κ, sum_real, ← EReal.coe_add, zero_add]
  refine (EReal.coe_add _ _).symm.trans (congrArg (fun w : ℝ => (w : EReal)) ?_)
  exact max_step (fun κ => a.e (i 0).val (i 1).val (i 2).val κ.val) (fun κ => a.gv (i 0).val (i 1).val (i 2).val κ.val)
    (a.z (i 0).val (i 1).val (i 2).val) (a.t (i 0).val (i 1).val (i 2).val)
    (a.g (i 0).val (i 1).val (i 2).val) (a.all (i 0).val (i 1).val (i 2).val)
    (a.z_ne _ _ _ b2) (a.t_ne _ _ _ b2) rfl (g0_eq a.q a.k a.v a.d _ _ _)

theorem v186_at (i : Cert.Reference2Ideal.S8x64x128x256.Idx) :
    val_main_v186 (F := Ideal) a.x0 a.x1 a.x2 a.x3 a.x4 a.x5 a.x6 i = ((0 : ℝ) : EReal) := by
  obtain ⟨n, hn, h62⟩ := v62_real a.x0 a.h0 (idx_main_v185 i)
  rw [val_main_v186_apply, val_main_v185_apply, val_main_v184_apply, h62, val_main_v183_apply, val_main_cst_35_apply,
    zero_bits, Fin.sum_univ_one, v182_at, ← EReal.coe_add, zero_add]
  refine (congrArg (fun w : EReal => w * _) (div_real _ _ hn)).trans ?_
  rw [zero_div, EReal.coe_zero, zero_mul]

theorem v190_at (i : Cert.Reference2Ideal.S8x64x128x256.Idx) :
    val_main_v190 (F := Ideal) a.x0 a.x1 a.x2 a.x3 a.x4 a.x5 a.x6 i
      = ((a.ds (i 0).val (i 1).val (i 2).val (i 3).val * (1 / 8) : ℝ) : EReal) := by
  have h188 : val_main_v188 (F := Ideal) a.x0 a.x1 a.x2 a.x3 a.x4 a.x5 a.x6 i
      = ((a.ds (i 0).val (i 1).val (i 2).val (i 3).val : ℝ) : EReal) := by
    rw [val_main_v188_apply, val_main_v56_1_apply, val_main_v187_apply, v178_at, v186_at]
    have hm := v55_at (idx_main_v56_1 i)
    unfold Scalar.select
    by_cases hs : seen (i 1).val (i 2).val (i 3).val
    · rw [if_pos (hm.mpr hs)]
      refine (EReal.coe_add _ _).symm.trans ?_
      rw [add_zero]
    · rw [if_neg (fun e => hs (hm.mp e)), val_main_call1_v0_apply, val_main_call1_cst_apply, zero_bits]
      refine congrArg (fun w : ℝ => (w : EReal)) ?_
      unfold Ins.ds dScore expF
      rw [if_neg hs, zero_div, zero_mul]
  rw [val_main_v190_apply, val_main_v189_apply, val_main_cst_36_apply, eighth_bits, h188]
  exact (EReal.coe_mul _ _).symm

/-! ## The results -/

/-- A query's gradient, what a block's queries give to a key, and the same for values. -/
def Ins.dq (H B ρ x : ℕ) : ℝ := ∑ κ : Fin 256, a.ds H B ρ κ.val * (1 / 8) * withPrev a.k B κ.val (64 * H + x)
def Ins.dk (H B κ x : ℕ) : ℝ := ∑ ρ : Fin 128, a.ds H B ρ.val κ * (1 / 8) * a.q (128 * B + ρ.val) (64 * H + x)
def Ins.dv (H B κ x : ℕ) : ℝ := ∑ ρ : Fin 128, a.e H B ρ.val κ / a.t H B ρ.val * a.d (128 * B + ρ.val) (64 * H + x)

theorem v191_at (i : Cert.Reference2Ideal.S8x64x256x64.Idx) :
    val_main_v191 (F := Ideal) a.x0 a.x1 a.x2 a.x3 a.x4 a.x5 a.x6 i
      = ((a.dk (i 0).val (i 1).val (i 2).val (i 3).val : ℝ) : EReal) := by
  rw [val_main_v191_apply]
  simp only [v190_at, v10_at a.x0 a.h0, ← EReal.coe_mul]
  rw [sum_real]
  rfl

theorem v192_at (i : Cert.Reference2Ideal.S8x64x128x64.Idx) :
    val_main_v192 (F := Ideal) a.x0 a.x1 a.x2 a.x3 a.x4 a.x5 a.x6 i
      = ((a.dq (i 0).val (i 1).val (i 2).val (i 3).val : ℝ) : EReal) := by
  rw [val_main_v192_apply]
  simp only [v190_at, v17_at a.x0 a.h0, ← EReal.coe_mul]
  rw [sum_real]
  rfl

theorem v164_at (i : Cert.Reference2Ideal.S8x64x256x64.Idx) :
    val_main_v164 (F := Ideal) a.x0 a.x3 a.x5 a.x6 i = ((a.dv (i 0).val (i 1).val (i 2).val (i 3).val : ℝ) : EReal) := by
  rw [val_main_v164_apply, val_main_v163_apply]
  simp only [v160_at, v70_at a.x0 a.h0, ← EReal.coe_mul]
  rw [sum_real]
  refine congrArg (fun w : ℝ => (w : EReal)) ?_
  unfold Ins.dv
  refine Finset.sum_congr rfl fun ρ _ => ?_
  have hz := a.z_ne (i 0).val (i 1).val ρ.val ρ.isLt
  have ht := a.t_ne (i 0).val (i 1).val ρ.val ρ.isLt
  show a.z (i 0).val (i 1).val ρ.val / a.t (i 0).val (i 1).val ρ.val
      * a.d (128 * (i 1).val + ρ.val) (64 * (i 0).val + (i 3).val)
      * (a.e (i 0).val (i 1).val ρ.val (i 2).val / a.z (i 0).val (i 1).val ρ.val) = _
  field_simp

/-- A key's gradient is what its own block gives it and what the next block does. -/
def foldF (f : ℕ → ℕ → ℝ) (B ρ : ℕ) : ℝ := f B (128 + ρ) + if B < 63 then f (B + 1) ρ else 0

theorem v206_at (i : Cert.Reference2Ideal.S8x64x128x64.Idx) :
    val_main_v206 (F := Ideal) a.x0 a.x1 a.x2 a.x3 a.x4 a.x5 a.x6 i
      = ((foldF (fun B κ => a.dk (i 0).val B κ (i 3).val) (i 1).val (i 2).val : ℝ) : EReal) := by
  have hpad : val_main_v205 (F := Ideal) a.x0 a.x1 a.x2 a.x3 a.x4 a.x5 a.x6 i
      = (((if (i 1).val < 63 then a.dk (i 0).val ((i 1).val + 1) (i 2).val (i 3).val else 0) : ℝ) : EReal) := by
    have e : ∀ j, val_main_v204 (F := Ideal) a.x0 a.x1 a.x2 a.x3 a.x4 a.x5 a.x6 j
        = ((a.dk (j 0).val ((j 1).val + 1) (j 2).val (j 3).val : ℝ) : EReal) := fun j => by
      rw [val_main_v204_apply, val_main_v201_apply, v191_at]
      have e1 : (idx_main_v201 (idx_main_v204 j) 1).val = (j 1).val + 1 := by dsimp only; omega
      rw [e1]
    revert e
    unfold val_main_v205
    generalize val_main_v204 (F := Ideal) a.x0 a.x1 a.x2 a.x3 a.x4 a.x5 a.x6 = y
    intro e
    pointwise [val_main_cst_38]
    split
    · exact e _
    · exact EReal.coe_zero.symm
  rw [val_main_v206_apply, val_main_v202_apply, v191_at, hpad]
  exact (EReal.coe_add _ _).symm

theorem v198_at (i : Cert.Reference2Ideal.S8x64x128x64.Idx) :
    val_main_v198 (F := Ideal) a.x0 a.x3 a.x5 a.x6 i
      = ((foldF (fun B κ => a.dv (i 0).val B κ (i 3).val) (i 1).val (i 2).val : ℝ) : EReal) := by
  have hpad : val_main_v197 (F := Ideal) a.x0 a.x3 a.x5 a.x6 i
      = (((if (i 1).val < 63 then a.dv (i 0).val ((i 1).val + 1) (i 2).val (i 3).val else 0) : ℝ) : EReal) := by
    have e : ∀ j, val_main_v196 (F := Ideal) a.x0 a.x3 a.x5 a.x6 j
        = ((a.dv (j 0).val ((j 1).val + 1) (j 2).val (j 3).val : ℝ) : EReal) := fun j => by
      rw [val_main_v196_apply, val_main_v193_apply, v164_at]
      have e1 : (idx_main_v193 (idx_main_v196 j) 1).val = (j 1).val + 1 := by dsimp only; omega
      rw [e1]
    revert e
    unfold val_main_v197
    generalize val_main_v196 (F := Ideal) a.x0 a.x3 a.x5 a.x6 = y
    intro e
    pointwise [val_main_cst_37]
    split
    · exact e _
    · exact EReal.coe_zero.symm
  rw [val_main_v198_apply, val_main_v194_apply, v164_at, hpad]
  exact (EReal.coe_add _ _).symm

theorem resDq_at (i : Cert.Reference2Ideal.S8192x512.Idx) :
    val_main_v211 (F := Ideal) a.x0 a.x1 a.x2 a.x3 a.x4 a.x5 a.x6 i
      = ((a.dq ((i 1).val / 64) ((i 0).val / 128) ((i 0).val % 128) ((i 1).val % 64) : ℝ) : EReal) := by
  have b0 : (i 0).val < 8192 := (i 0).isLt
  have b1 : (i 1).val < 512 := (i 1).isLt
  rw [val_main_v211_apply, val_main_v210_apply, val_main_v209_apply, v192_at]
  have e0 : (idx_main_v209 (idx_main_v210 (idx_main_v211 i)) 0).val = (i 1).val / 64 := by dsimp only; omega
  have e1 : (idx_main_v209 (idx_main_v210 (idx_main_v211 i)) 1).val = (i 0).val / 128 := by dsimp only; omega
  have e2 : (idx_main_v209 (idx_main_v210 (idx_main_v211 i)) 2).val = (i 0).val % 128 := by dsimp only; omega
  have e3 : (idx_main_v209 (idx_main_v210 (idx_main_v211 i)) 3).val = (i 1).val % 64 := by dsimp only; omega
  rw [e0, e1, e2, e3]

theorem resDk_at (i : Cert.Reference2Ideal.S8192x512.Idx) :
    val_main_v212 (F := Ideal) a.x0 a.x1 a.x2 a.x3 a.x4 a.x5 a.x6 i
      = ((foldF (fun B κ => a.dk ((i 1).val / 64) B κ ((i 1).val % 64)) ((i 0).val / 128) ((i 0).val % 128) : ℝ) : EReal) := by
  have b0 : (i 0).val < 8192 := (i 0).isLt
  have b1 : (i 1).val < 512 := (i 1).isLt
  rw [val_main_v212_apply, val_main_v208_apply, val_main_v207_apply, v206_at]
  have e0 : (idx_main_v207 (idx_main_v208 (idx_main_v212 i)) 0).val = (i 1).val / 64 := by dsimp only; omega
  have e1 : (idx_main_v207 (idx_main_v208 (idx_main_v212 i)) 1).val = (i 0).val / 128 := by dsimp only; omega
  have e2 : (idx_main_v207 (idx_main_v208 (idx_main_v212 i)) 2).val = (i 0).val % 128 := by dsimp only; omega
  have e3 : (idx_main_v207 (idx_main_v208 (idx_main_v212 i)) 3).val = (i 1).val % 64 := by dsimp only; omega
  rw [e0, e1, e2, e3]

theorem resDv_at (i : Cert.Reference2Ideal.S8192x512.Idx) :
    val_main_v213 (F := Ideal) a.x0 a.x3 a.x5 a.x6 i
      = ((foldF (fun B κ => a.dv ((i 1).val / 64) B κ ((i 1).val % 64)) ((i 0).val / 128) ((i 0).val % 128) : ℝ) : EReal) := by
  have b0 : (i 0).val < 8192 := (i 0).isLt
  have b1 : (i 1).val < 512 := (i 1).isLt
  rw [val_main_v213_apply, val_main_v200_apply, val_main_v199_apply, v198_at]
  have e0 : (idx_main_v199 (idx_main_v200 (idx_main_v213 i)) 0).val = (i 1).val / 64 := by dsimp only; omega
  have e1 : (idx_main_v199 (idx_main_v200 (idx_main_v213 i)) 1).val = (i 0).val / 128 := by dsimp only; omega
  have e2 : (idx_main_v199 (idx_main_v200 (idx_main_v213 i)) 2).val = (i 0).val % 128 := by dsimp only; omega
  have e3 : (idx_main_v199 (idx_main_v200 (idx_main_v213 i)) 3).val = (i 1).val % 64 := by dsimp only; omega
  rw [e0, e1, e2, e3]

end Cert.Kernel2Ideal.Attn
-- ==== Proof.AttnSame.lean ====
/- The kernel's three gradients, read over the sequence, are the reference's, once the row log-sums and row sums are. -/
module

public import proofs.«01_k».proof.Proof.AttnRefD

@[expose] public section

noncomputable section

namespace Cert.Kernel2Ideal.Attn

open Idealize.ShloMosaic

variable (a : Ins) {Q K V D L S : ℕ → ℕ → EReal}

variable (Q K V D L S) in
/-- The kernel's operands hold the reference's reals: the row log-sum over the three groups, and the row sum. -/
structure Same : Prop where
  q : ∀ r l, Q r l = ((a.q r l : ℝ) : EReal)
  k : ∀ r l, K r l = ((a.k r l : ℝ) : EReal)
  v : ∀ r l, V r l = ((a.v r l : ℝ) : EReal)
  d : ∀ r l, D r l = ((a.d r l : ℝ) : EReal)
  l : ∀ r H, L r H = ((Real.log (a.T r H) : ℝ) : EReal)
  s : ∀ r H, S r H = ((a.D r H : ℝ) : EReal)

theorem eighth_real : eighth = ((1 / 8 : ℝ) : EReal) := eighth_bits

variable {a} (h : Same a Q K V D L S)
include h

theorem dotR_real (X Y : ℕ → ℕ → EReal) (x y : ℕ → ℕ → ℝ) (hX : ∀ r l, X r l = ((x r l : ℝ) : EReal))
    (hY : ∀ r l, Y r l = ((y r l : ℝ) : EReal)) (H r s : ℕ) : dotR X Y H r s = ((dotF x y H r s : ℝ) : EReal) := by
  clear h
  unfold dotR dotF
  simp only [hX, hY, ← EReal.coe_mul]
  exact sum_real _ _

theorem prR_seen (H B ρ κ : ℕ) (hρ : ρ < 128) (hs : seen B ρ κ) :
    prR Q K L H (128 * B + ρ) (128 * B + κ - 128) = ((a.e H B ρ κ / a.t H B ρ : ℝ) : EReal) := by
  unfold prR
  rw [dotR_real h Q K _ _ h.q h.k, h.l, a.T_block H B ρ hρ]
  rw [eighth_real, ← EReal.coe_mul]
  refine (congrArg Ideal.exp (EReal.coe_sub _ _).symm).trans ?_
  rw [Ideal.exp_coe]
  refine congrArg (fun w : ℝ => (w : EReal)) ?_
  unfold Ins.e expF
  rw [if_pos hs, Real.exp_sub, Real.exp_log (total_pos _ _ _ _ _ _ _ hρ)]
  rfl

theorem dsR_seen (H B ρ κ : ℕ) (hρ : ρ < 128) (hs : seen B ρ κ) :
    dsR Q K V D L S H (128 * B + ρ) (128 * B + κ - 128) = ((a.ds H B ρ κ * (1 / 8) : ℝ) : EReal) := by
  unfold dsR
  rw [prR_seen h H B ρ κ hρ hs, dotR_real h D V _ _ h.d h.v, h.s]
  rw [eighth_real]
  refine (congrArg (fun w : EReal => _ * w * _) (EReal.coe_sub _ _).symm).trans ?_
  refine (congrArg (fun w : EReal => w * _) (EReal.coe_mul _ _).symm).trans ((EReal.coe_mul _ _).symm.trans ?_)
  refine congrArg (fun w : ℝ => (w : EReal)) ?_
  unfold Ins.ds dScore gVal Ins.D dotF
  rw [Ins.div_block B ρ hρ, Ins.mod_block B ρ hρ]
  simp only [withPrev_seen _ B ρ κ _ hs]

theorem ds_unseen (H B ρ κ : ℕ) (hs : ¬ seen B ρ κ) : a.ds H B ρ κ = 0 := by
  clear h
  unfold Ins.ds dScore expF
  rw [if_neg hs, zero_div, zero_mul]

theorem e_unseen (H B ρ κ : ℕ) (hs : ¬ seen B ρ κ) : a.e H B ρ κ = 0 := by
  clear h
  unfold Ins.e expF
  exact if_neg hs

theorem rowR_eq (H B ρ x : ℕ) (hρ : ρ < 128) :
    rowR (dsR Q K V D L S H) K B ρ (64 * H + x) = ((a.dq H B ρ x : ℝ) : EReal) := by
  unfold rowR Ins.dq
  rw [← sum_real]
  refine Finset.sum_congr rfl fun κ _ => ?_
  by_cases hs : seen B ρ κ.val
  · rw [if_pos hs, dsR_seen h H B ρ κ.val hρ hs, h.k, withPrev_seen _ B ρ _ _ hs, ← EReal.coe_mul]
  · rw [if_neg hs, ds_unseen h H B ρ κ.val hs, zero_mul, zero_mul, EReal.coe_zero]

theorem colR_dk (H B κ x : ℕ) : colR (dsR Q K V D L S H) Q B κ (64 * H + x) = ((a.dk H B κ x : ℝ) : EReal) := by
  unfold colR Ins.dk
  rw [← sum_real]
  refine Finset.sum_congr rfl fun ρ _ => ?_
  by_cases hs : seen B ρ.val κ
  · rw [if_pos hs, dsR_seen h H B ρ.val κ ρ.isLt hs, h.q, ← EReal.coe_mul]
  · rw [if_neg hs, ds_unseen h H B ρ.val κ hs, zero_mul, zero_mul, EReal.coe_zero]

theorem colR_dv (H B κ x : ℕ) : colR (prR Q K L H) D B κ (64 * H + x) = ((a.dv H B κ x : ℝ) : EReal) := by
  unfold colR Ins.dv
  rw [← sum_real]
  refine Finset.sum_congr rfl fun ρ _ => ?_
  by_cases hs : seen B ρ.val κ
  · rw [if_pos hs, prR_seen h H B ρ.val κ ρ.isLt hs, h.d, ← EReal.coe_mul]
  · rw [if_neg hs, e_unseen h H B ρ.val κ hs, zero_div, zero_mul, EReal.coe_zero]

theorem bothR_eq (F : ℕ → ℕ → EReal) (X : ℕ → ℕ → EReal) (f : ℕ → ℕ → ℝ) (l : ℕ)
    (hf : ∀ B κ, colR F X B κ l = ((f B κ : ℝ) : EReal)) (B ρ : ℕ) : bothR F X B ρ l = ((foldF f B ρ : ℝ) : EReal) := by
  clear h
  unfold bothR foldF
  rw [hf, EReal.coe_add]
  split
  · rw [hf]
  · rw [EReal.coe_zero]

theorem head_lane (l : ℕ) : 64 * (l / 64) + l % 64 = l := by
  clear h
  omega

/-- The kernel's gradient of the queries, of the keys, of the values, at row `r` and lane `l`. -/
theorem dq_same (i : Cert.Reference2Ideal.S8192x512.Idx) :
    rowR (dsR Q K V D L S ((i 1).val / 64)) K ((i 0).val / 128) ((i 0).val % 128) (i 1).val
      = Cert.Reference2Ideal.Read.val_main_v211 (F := Ideal) a.x0 a.x1 a.x2 a.x3 a.x4 a.x5 a.x6 i := by
  rw [resDq_at, ← rowR_eq h _ _ _ _ (Nat.mod_lt _ (by norm_num)), head_lane h]

theorem dk_same (i : Cert.Reference2Ideal.S8192x512.Idx) :
    bothR (dsR Q K V D L S ((i 1).val / 64)) Q ((i 0).val / 128) ((i 0).val % 128) (i 1).val
      = Cert.Reference2Ideal.Read.val_main_v212 (F := Ideal) a.x0 a.x1 a.x2 a.x3 a.x4 a.x5 a.x6 i := by
  rw [resDk_at]
  refine bothR_eq h _ _ _ _ (fun B κ => ?_) _ _
  rw [← colR_dk h, head_lane h]

theorem dv_same (i : Cert.Reference2Ideal.S8192x512.Idx) :
    bothR (prR Q K L ((i 1).val / 64)) D ((i 0).val / 128) ((i 0).val % 128) (i 1).val
      = Cert.Reference2Ideal.Read.val_main_v213 (F := Ideal) a.x0 a.x3 a.x5 a.x6 i := by
  rw [resDv_at]
  refine bothR_eq h _ _ _ _ (fun B κ => ?_) _ _
  rw [← colR_dv h, head_lane h]

end Cert.Kernel2Ideal.Attn
-- ==== Proof.AttnHost.lean ====
/- The host lines before the kernel call, as far as the first group's output and row log-sum: they are the reference's
   forward lines, one after the other. -/
module

public import proofs.«01_k».proof.Proof.AttnRefA
public import Idealize.ShloMosaic.Lib.StableHlo.RunRead
public import proofs.«01_k».proof.Proof.Gen.Kernel2Ideal.Value

@[expose] public section

set_option maxRecDepth 8192

noncomputable section

namespace Cert.Kernel2Ideal.Attn

open Cert.Kernel2Ideal Cert.Kernel2Ideal.Gen Idealize.ShloMosaic Idealize.ShloMosaic.StableHlo Idealize.ShloMosaic.TcCoe
open Cert.Reference2Ideal.Read

/-- The host lines, in order. -/
abbrev lines : List (HloOp τ sig (Elt Ideal)) := List.flatten [hostOps0, hostOps0_1, hostOps0_2]

/-- What each of them writes. -/
abbrev wrote : List (Ref sig .tc) := [
  main_v0, main_v1, main_v2, main_v3, main_v4, main_v5, main_v6, main_v7, main_v8,
  main_v9, main_cst, main_v10, main_v11, main_v12, main_v13, main_v14, main_v15, main_cst_0,
  main_v16, main_v17, main_v18, main_v19, main_v20, main_cst_1, main_v21, main_v22, main_v23,
  main_v24, main_c, main_v25, main_v26, main_v27, main_v28, main_v29, main_v30, main_v31,
  main_c_2, main_v32, main_v33, main_c_3, main_v34, main_v35, main_v36, main_v37, main_v38,
  main_v39, main_c_4, main_v40, main_v41, main_v42, main_c_5, main_v43, main_v44, main_v45,
  main_v46, main_v47, main_v48, main_v49, main_v50, main_cst_6, main_call0_v0, main_call0_v1, main_call0_v2,
  main_v51, main_cst_7, main_v52, main_v53, main_v54, main_v55, main_v56, main_cst_8, main_v57,
  main_v58, main_v59, main_v60, main_v61, main_v62, main_v63, main_v64, main_v65, main_v66,
  main_v67, main_v68, main_v69, main_v70, main_v71, main_v72, main_v73, main_v74, main_v75,
  main_v76, main_v77, main_v78, main_v79, main_v80, main_v81, main_v82, main_v83, main_v84,
  main_v85, main_v86, main_v87, main_v88, main_v89, main_v90, main_v91, main_v92, main_v93,
  main_v94, main_v95, main_v96, main_v97, main_v98, main_v99, main_v100, main_v101, main_v102,
  main_v103, main_v104]

theorem lines_write : lines.map HloOp.writes = wrote.map fun w => {Proc.devRef (τ := τ) .tc w} := rfl

theorem lines_write_from (j : ℕ) :
    (lines.drop j).map HloOp.writes = (wrote.drop j).map fun w => {Proc.devRef (τ := τ) .tc w} := by
  rw [List.map_drop, lines_write, List.map_drop]

variable (U : Valuation τ sig (Elt Ideal))

/-- What buffer `r` holds after the host lines. -/
abbrev fin (r : Ref sig .tc) : r.ty.Contents (Elt Ideal) := after lines U (Proc.devRef .tc r)

theorem upto_fin (j : ℕ) {r : Ref sig .tc} (hr : r ∉ wrote.drop j) : upto lines U j (Proc.devRef .tc r) = fin U r := by
  have h : after lines U = after (lines.drop j) (after (lines.take j) U) := by
    conv_lhs => rw [← List.take_append_drop j lines]
    exact after_append _ _ _
  unfold fin
  rw [h, after_of_writes_sub _ _ (forall_writes_sub_of_map (lines_write_from j)) hr]
  rfl

/-- A buffer is left as its last writer leaves it. -/
theorem fin_last (j : ℕ) {op : HloOp τ sig (Elt Ideal)} {r : Ref sig .tc} (h : lines[j]? = some op)
    (hr : r ∉ wrote.drop (j + 1)) : fin U r = op.result (upto lines U j) (Proc.devRef .tc r) := by
  obtain ⟨hj, he⟩ := List.getElem?_eq_some_iff.mp h
  refine after_last_write (wrote.drop (j + 1)) ?_ (lines_write_from (j + 1)) hr U
  rw [List.drop_eq_getElem_cons hj, he]

theorem fin_arg {r : Ref sig .tc} (hr : r ∉ wrote) : fin U r = U (Proc.devRef .tc r) :=
  (upto_fin U 0 hr).symm

theorem fin_nullary (j : ℕ) {y : Ref sig .tc} {v : y.ty.Contents (Elt Ideal)} {hy}
    (h : lines[j]? = some (nullary (τ := τ) y v hy)) (hy' : y ∉ wrote.drop (j + 1)) : fin U y = v :=
  (fin_last U j h hy').trans (nullary_result' ..)

theorem fin_unary (j : ℕ) {x y : Ref sig .tc} {f : x.ty.Contents (Elt Ideal) → y.ty.Contents (Elt Ideal)} {hx hy}
    (h : lines[j]? = some (unary (τ := τ) x y f hx hy)) (hy' : y ∉ wrote.drop (j + 1)) (hx' : x ∉ wrote.drop j)
    {X} (e : fin U x = X) : fin U y = f X :=
  (fin_last U j h hy').trans ((unary_result' ..).trans (congrArg f ((upto_fin U j hx').trans e)))

theorem fin_binary (j : ℕ) {a b y : Ref sig .tc}
    {f : a.ty.Contents (Elt Ideal) → b.ty.Contents (Elt Ideal) → y.ty.Contents (Elt Ideal)} {ha hb hy}
    (h : lines[j]? = some (binary (τ := τ) a b y f ha hb hy)) (hy' : y ∉ wrote.drop (j + 1)) (ha' : a ∉ wrote.drop j)
    (hb' : b ∉ wrote.drop j) {A B} (ea : fin U a = A) (eb : fin U b = B) : fin U y = f A B :=
  (fin_last U j h hy').trans ((binary_result' ..).trans
    (congrArg₂ f ((upto_fin U j ha').trans ea) ((upto_fin U j hb').trans eb)))

theorem fin_ternary (j : ℕ) {c a b y : Ref sig .tc}
    {f : c.ty.Contents (Elt Ideal) → a.ty.Contents (Elt Ideal) → b.ty.Contents (Elt Ideal) → y.ty.Contents (Elt Ideal)}
    {hc ha hb hy} (h : lines[j]? = some (ternary (τ := τ) c a b y f hc ha hb hy)) (hy' : y ∉ wrote.drop (j + 1))
    (hc' : c ∉ wrote.drop j) (ha' : a ∉ wrote.drop j) (hb' : b ∉ wrote.drop j) {C A B} (ec : fin U c = C)
    (ea : fin U a = A) (eb : fin U b = B) : fin U y = f C A B := by
  subst ec ea eb
  rw [← upto_fin U j hc', ← upto_fin U j ha', ← upto_fin U j hb']
  exact (fin_last U j h hy').trans (ternary_result' ..)

theorem fin_reshape (j : ℕ) {x y : Ref sig .tc} {he hn hx hy}
    (h : lines[j]? = some (reshape (τ := τ) x y he hn hx hy)) (hy' : y ∉ wrote.drop (j + 1)) (hx' : x ∉ wrote.drop j)
    {X} (e : fin U x = X) : fin U y = fun i => he ▸ shapeCast y.ty.shape X hn i := by
  subst e
  rw [← upto_fin U j hx']
  exact (fin_last U j h hy').trans (reshape_result' ..)

/-- The arguments. -/
abbrev inp (r : Ref sig .tc) : r.ty.Contents (Elt Ideal) := U (Proc.devRef .tc r)

theorem fin_arg0 : fin U main_arg0 = inp U main_arg0 := fin_arg U (by decide +kernel)
theorem fin_arg1 : fin U main_arg1 = inp U main_arg1 := fin_arg U (by decide +kernel)
theorem fin_arg2 : fin U main_arg2 = inp U main_arg2 := fin_arg U (by decide +kernel)
theorem fin_arg3 : fin U main_arg3 = inp U main_arg3 := fin_arg U (by decide +kernel)
theorem fin_arg4 : fin U main_arg4 = inp U main_arg4 := fin_arg U (by decide +kernel)
theorem fin_arg5 : fin U main_arg5 = inp U main_arg5 := fin_arg U (by decide +kernel)
theorem fin_arg6 : fin U main_arg6 = inp U main_arg6 := fin_arg U (by decide +kernel)

theorem fin_v0 : fin U main_v0 = val_main_v3 (F := Ideal) (inp U main_arg0) :=
  (fin_unary U 0 rfl (by decide +kernel) (by decide +kernel) (fin_arg0 U)).trans rfl
theorem fin_v1 : fin U main_v1 = val_main_v4 (F := Ideal) (inp U main_arg0) :=
  (fin_unary U 1 rfl (by decide +kernel) (by decide +kernel) (fin_arg0 U)).trans rfl
theorem fin_v2 : fin U main_v2 = val_main_v5 (F := Ideal) (inp U main_arg1) :=
  (fin_unary U 2 rfl (by decide +kernel) (by decide +kernel) (fin_arg1 U)).trans rfl
theorem fin_v3 : fin U main_v3 = val_main_v6 (F := Ideal) (inp U main_arg0) :=
  (fin_reshape U 3 rfl (by decide +kernel) (by decide +kernel) (fin_v0 U)).trans rfl
theorem fin_v4 : fin U main_v4 = val_main_v7 (F := Ideal) (inp U main_arg0) :=
  (fin_reshape U 4 rfl (by decide +kernel) (by decide +kernel) (fin_v1 U)).trans rfl
theorem fin_v5 : fin U main_v5 = val_main_v8 (F := Ideal) (inp U main_arg1) :=
  (fin_reshape U 5 rfl (by decide +kernel) (by decide +kernel) (fin_v2 U)).trans rfl
theorem fin_v6 : fin U main_v6 = val_main_v9 (F := Ideal) (inp U main_arg0) :=
  (fin_reshape U 6 rfl (by decide +kernel) (by decide +kernel) (fin_v3 U)).trans rfl
theorem fin_v7 : fin U main_v7 = val_main_v10 (F := Ideal) (inp U main_arg0) :=
  (fin_unary U 7 rfl (by decide +kernel) (by decide +kernel) (fin_v6 U)).trans rfl
theorem fin_v8 : fin U main_v8 = val_main_v11 (F := Ideal) (inp U main_arg0) :=
  (fin_reshape U 8 rfl (by decide +kernel) (by decide +kernel) (fin_v4 U)).trans rfl
theorem fin_v9 : fin U main_v9 = val_main_v12 (F := Ideal) (inp U main_arg0) :=
  (fin_unary U 9 rfl (by decide +kernel) (by decide +kernel) (fin_v8 U)).trans rfl
theorem fin_cst : fin U main_cst = val_main_cst (F := Ideal) :=
  (fin_nullary U 10 rfl (by decide +kernel) ).trans rfl
theorem fin_v10 : fin U main_v10 = val_main_v13 (F := Ideal) :=
  (fin_unary U 11 rfl (by decide +kernel) (by decide +kernel) (fin_cst U)).trans rfl
theorem fin_v11 : fin U main_v11 = val_main_v14 (F := Ideal) (inp U main_arg0) :=
  (fin_unary U 12 rfl (by decide +kernel) (by decide +kernel) (fin_v9 U)).trans rfl
theorem fin_v12 : fin U main_v12 = val_main_v15 (F := Ideal) (inp U main_arg0) :=
  (fin_binary U 13 rfl (by decide +kernel) (by decide +kernel) (by decide +kernel) (fin_v10 U) (fin_v11 U)).trans rfl
theorem fin_v13 : fin U main_v13 = val_main_v17 (F := Ideal) (inp U main_arg0) :=
  (fin_binary U 14 rfl (by decide +kernel) (by decide +kernel) (by decide +kernel) (fin_v12 U) (fin_v9 U)).trans rfl
theorem fin_v14 : fin U main_v14 = val_main_v18 (F := Ideal) (inp U main_arg1) :=
  (fin_reshape U 15 rfl (by decide +kernel) (by decide +kernel) (fin_v5 U)).trans rfl
theorem fin_v15 : fin U main_v15 = val_main_v19 (F := Ideal) (inp U main_arg1) :=
  (fin_unary U 16 rfl (by decide +kernel) (by decide +kernel) (fin_v14 U)).trans rfl
theorem fin_cst_0 : fin U main_cst_0 = val_main_cst_1 (F := Ideal) :=
  (fin_nullary U 17 rfl (by decide +kernel) ).trans rfl
theorem fin_v16 : fin U main_v16 = val_main_v20 (F := Ideal) :=
  (fin_unary U 18 rfl (by decide +kernel) (by decide +kernel) (fin_cst_0 U)).trans rfl
theorem fin_v17 : fin U main_v17 = val_main_v21 (F := Ideal) (inp U main_arg1) :=
  (fin_unary U 19 rfl (by decide +kernel) (by decide +kernel) (fin_v15 U)).trans rfl
theorem fin_v18 : fin U main_v18 = val_main_v22 (F := Ideal) (inp U main_arg1) :=
  (fin_binary U 20 rfl (by decide +kernel) (by decide +kernel) (by decide +kernel) (fin_v16 U) (fin_v17 U)).trans rfl
theorem fin_v19 : fin U main_v19 = val_main_v24 (F := Ideal) (inp U main_arg1) :=
  (fin_binary U 21 rfl (by decide +kernel) (by decide +kernel) (by decide +kernel) (fin_v18 U) (fin_v15 U)).trans rfl
theorem fin_v20 : fin U main_v20 = val_main_v25 (F := Ideal) (inp U main_arg0) :=
  (fin_binary U 22 rfl (by decide +kernel) (by decide +kernel) (by decide +kernel) (fin_v7 U) (fin_v13 U)).trans rfl
theorem fin_cst_1 : fin U main_cst_1 = val_main_cst_3 (F := Ideal) :=
  (fin_nullary U 23 rfl (by decide +kernel) ).trans rfl
theorem fin_v21 : fin U main_v21 = val_main_v26 (F := Ideal) :=
  (fin_unary U 24 rfl (by decide +kernel) (by decide +kernel) (fin_cst_1 U)).trans rfl
theorem fin_v22 : fin U main_v22 = val_main_v27 (F := Ideal) (inp U main_arg0) :=
  (fin_binary U 25 rfl (by decide +kernel) (by decide +kernel) (by decide +kernel) (fin_v20 U) (fin_v21 U)).trans rfl
theorem fin_v23 : fin U main_v23 = val_main_v28 (F := Ideal) :=
  (fin_nullary U 26 rfl (by decide +kernel) ).trans rfl
theorem fin_v24 : fin U main_v24 = val_main_v29 (F := Ideal) :=
  (fin_unary U 27 rfl (by decide +kernel) (by decide +kernel) (fin_v23 U)).trans rfl
theorem fin_c : fin U main_c = val_main_c (F := Ideal) :=
  (fin_nullary U 28 rfl (by decide +kernel) ).trans rfl
theorem fin_v25 : fin U main_v25 = val_main_v30 (F := Ideal) :=
  (fin_unary U 29 rfl (by decide +kernel) (by decide +kernel) (fin_c U)).trans rfl
theorem fin_v26 : fin U main_v26 = val_main_v31 (F := Ideal) :=
  (fin_binary U 30 rfl (by decide +kernel) (by decide +kernel) (by decide +kernel) (fin_v24 U) (fin_v25 U)).trans rfl
theorem fin_v27 : fin U main_v27 = val_main_v32 (F := Ideal) :=
  (fin_nullary U 31 rfl (by decide +kernel) ).trans rfl
theorem fin_v28 : fin U main_v28 = val_main_v33 (F := Ideal) :=
  (fin_unary U 32 rfl (by decide +kernel) (by decide +kernel) (fin_v27 U)).trans rfl
theorem fin_v29 : fin U main_v29 = val_main_v34 (F := Ideal) :=
  (fin_unary U 33 rfl (by decide +kernel) (by decide +kernel) (fin_v26 U)).trans rfl
theorem fin_v30 : fin U main_v30 = val_main_v35 (F := Ideal) :=
  (fin_unary U 34 rfl (by decide +kernel) (by decide +kernel) (fin_v28 U)).trans rfl
theorem fin_v31 : fin U main_v31 = val_main_v36 (F := Ideal) :=
  (fin_binary U 35 rfl (by decide +kernel) (by decide +kernel) (by decide +kernel) (fin_v29 U) (fin_v30 U)).trans rfl
theorem fin_c_2 : fin U main_c_2 = val_main_c_4 (F := Ideal) :=
  (fin_nullary U 36 rfl (by decide +kernel) ).trans rfl
theorem fin_v32 : fin U main_v32 = val_main_v37 (F := Ideal) :=
  (fin_unary U 37 rfl (by decide +kernel) (by decide +kernel) (fin_c_2 U)).trans rfl
theorem fin_v33 : fin U main_v33 = val_main_v38 (F := Ideal) :=
  (fin_binary U 38 rfl (by decide +kernel) (by decide +kernel) (by decide +kernel) (fin_v31 U) (fin_v32 U)).trans rfl
theorem fin_c_3 : fin U main_c_3 = val_main_c_5 (F := Ideal) :=
  (fin_nullary U 39 rfl (by decide +kernel) ).trans rfl
theorem fin_v34 : fin U main_v34 = val_main_v39 (F := Ideal) :=
  (fin_unary U 40 rfl (by decide +kernel) (by decide +kernel) (fin_c_3 U)).trans rfl
theorem fin_v35 : fin U main_v35 = val_main_v40 (F := Ideal) :=
  (fin_binary U 41 rfl (by decide +kernel) (by decide +kernel) (by decide +kernel) (fin_v31 U) (fin_v34 U)).trans rfl
theorem fin_v36 : fin U main_v36 = val_main_v41 (F := Ideal) :=
  (fin_binary U 42 rfl (by decide +kernel) (by decide +kernel) (by decide +kernel) (fin_v33 U) (fin_v35 U)).trans rfl
theorem fin_v37 : fin U main_v37 = val_main_v42 (F := Ideal) :=
  (fin_nullary U 43 rfl (by decide +kernel) ).trans rfl
theorem fin_v38 : fin U main_v38 = val_main_v43 (F := Ideal) :=
  (fin_unary U 44 rfl (by decide +kernel) (by decide +kernel) (fin_v37 U)).trans rfl
theorem fin_v39 : fin U main_v39 = val_main_v44 (F := Ideal) :=
  (fin_unary U 45 rfl (by decide +kernel) (by decide +kernel) (fin_v36 U)).trans rfl
theorem fin_c_4 : fin U main_c_4 = val_main_c_6 (F := Ideal) :=
  (fin_nullary U 46 rfl (by decide +kernel) ).trans rfl
theorem fin_v40 : fin U main_v40 = val_main_v45 (F := Ideal) :=
  (fin_unary U 47 rfl (by decide +kernel) (by decide +kernel) (fin_c_4 U)).trans rfl
theorem fin_v41 : fin U main_v41 = val_main_v46 (F := Ideal) :=
  (fin_binary U 48 rfl (by decide +kernel) (by decide +kernel) (by decide +kernel) (fin_v38 U) (fin_v40 U)).trans rfl
theorem fin_v42 : fin U main_v42 = val_main_v47 (F := Ideal) :=
  (fin_unary U 49 rfl (by decide +kernel) (by decide +kernel) (fin_v28 U)).trans rfl
theorem fin_c_5 : fin U main_c_5 = val_main_c_7 (F := Ideal) :=
  (fin_nullary U 50 rfl (by decide +kernel) ).trans rfl
theorem fin_v43 : fin U main_v43 = val_main_v48 (F := Ideal) :=
  (fin_unary U 51 rfl (by decide +kernel) (by decide +kernel) (fin_c_5 U)).trans rfl
theorem fin_v44 : fin U main_v44 = val_main_v49 (F := Ideal) :=
  (fin_binary U 52 rfl (by decide +kernel) (by decide +kernel) (by decide +kernel) (fin_v42 U) (fin_v43 U)).trans rfl
theorem fin_v45 : fin U main_v45 = val_main_v50 (F := Ideal) :=
  (fin_unary U 53 rfl (by decide +kernel) (by decide +kernel) (fin_v41 U)).trans rfl
theorem fin_v46 : fin U main_v46 = val_main_v51 (F := Ideal) :=
  (fin_unary U 54 rfl (by decide +kernel) (by decide +kernel) (fin_v44 U)).trans rfl
theorem fin_v47 : fin U main_v47 = val_main_v52 (F := Ideal) :=
  (fin_binary U 55 rfl (by decide +kernel) (by decide +kernel) (by decide +kernel) (fin_v45 U) (fin_v46 U)).trans rfl
theorem fin_v48 : fin U main_v48 = val_main_v53 (F := Ideal) :=
  (fin_unary U 56 rfl (by decide +kernel) (by decide +kernel) (fin_v39 U)).trans rfl
theorem fin_v49 : fin U main_v49 = val_main_v54 (F := Ideal) :=
  (fin_unary U 57 rfl (by decide +kernel) (by decide +kernel) (fin_v47 U)).trans rfl
theorem fin_v50 : fin U main_v50 = val_main_v55 (F := Ideal) :=
  (fin_binary U 58 rfl (by decide +kernel) (by decide +kernel) (by decide +kernel) (fin_v48 U) (fin_v49 U)).trans rfl
theorem fin_cst_6 : fin U main_cst_6 = val_main_cst_8 (F := Ideal) :=
  (fin_nullary U 59 rfl (by decide +kernel) ).trans rfl
theorem fin_call0_v0 : fin U main_call0_v0 = val_main_call0_v0 (F := Ideal) :=
  (fin_unary U 60 rfl (by decide +kernel) (by decide +kernel) (fin_cst_6 U)).trans rfl
theorem fin_call0_v1 : fin U main_call0_v1 = val_main_v56_1 (F := Ideal) :=
  (fin_unary U 61 rfl (by decide +kernel) (by decide +kernel) (fin_v50 U)).trans rfl
theorem fin_call0_v2 : fin U main_call0_v2 = val_main_call0_v2 (F := Ideal) :=
  (fin_unary U 62 rfl (by decide +kernel) (by decide +kernel) (fin_call0_v0 U)).trans rfl
theorem fin_v51 : fin U main_v51 = val_main_v56_0 (F := Ideal) (inp U main_arg0) :=
  (fin_ternary U 63 rfl (by decide +kernel) (by decide +kernel) (by decide +kernel) (by decide +kernel) (fin_call0_v1 U) (fin_v22 U) (fin_call0_v2 U)).trans rfl
theorem fin_cst_7 : fin U main_cst_7 = val_main_cst_9 (F := Ideal) :=
  (fin_nullary U 64 rfl (by decide +kernel) ).trans rfl
theorem fin_v52 : fin U main_v52 = val_main_v57 (F := Ideal) (inp U main_arg0) :=
  (fin_binary U 65 rfl (by decide +kernel) (by decide +kernel) (by decide +kernel) (fin_v51 U) (fin_cst_7 U)).trans rfl
theorem fin_v53 : fin U main_v53 = val_main_v63 (F := Ideal) (inp U main_arg0) :=
  (fin_unary U 66 rfl (by decide +kernel) (by decide +kernel) (fin_v52 U)).trans rfl
theorem fin_v54 : fin U main_v54 = val_main_v64 (F := Ideal) (inp U main_arg0) :=
  (fin_unary U 67 rfl (by decide +kernel) (by decide +kernel) (fin_v53 U)).trans rfl
theorem fin_v55 : fin U main_v55 = val_main_v65 (F := Ideal) (inp U main_arg0) :=
  (fin_binary U 68 rfl (by decide +kernel) (by decide +kernel) (by decide +kernel) (fin_v51 U) (fin_v54 U)).trans rfl
theorem fin_v56 : fin U main_v56 = val_main_v66 (F := Ideal) (inp U main_arg0) :=
  (fin_unary U 69 rfl (by decide +kernel) (by decide +kernel) (fin_v55 U)).trans rfl
theorem fin_cst_8 : fin U main_cst_8 = val_main_cst_11 (F := Ideal) :=
  (fin_nullary U 70 rfl (by decide +kernel) ).trans rfl
theorem fin_v57 : fin U main_v57 = val_main_v67 (F := Ideal) (inp U main_arg0) :=
  (fin_binary U 71 rfl (by decide +kernel) (by decide +kernel) (by decide +kernel) (fin_v56 U) (fin_cst_8 U)).trans rfl
theorem fin_v58 : fin U main_v58 = val_main_v68 (F := Ideal) (inp U main_arg0) :=
  (fin_unary U 72 rfl (by decide +kernel) (by decide +kernel) (fin_v57 U)).trans rfl
theorem fin_v59 : fin U main_v59 = val_main_v69 (F := Ideal) (inp U main_arg0) :=
  (fin_unary U 73 rfl (by decide +kernel) (by decide +kernel) (fin_v58 U)).trans rfl
theorem fin_v60 : fin U main_v60 = val_main_v70 (F := Ideal) (inp U main_arg0) :=
  (fin_binary U 74 rfl (by decide +kernel) (by decide +kernel) (by decide +kernel) (fin_v56 U) (fin_v59 U)).trans rfl
theorem fin_v61 : fin U main_v61 = val_main_v74 (F := Ideal) (inp U main_arg0) (inp U main_arg1) :=
  (fin_binary U 75 rfl (by decide +kernel) (by decide +kernel) (by decide +kernel) (fin_v60 U) (fin_v19 U)).trans rfl
theorem fin_v62 : fin U main_v62 = val_main_v75 (F := Ideal) (inp U main_arg0) :=
  (fin_unary U 76 rfl (by decide +kernel) (by decide +kernel) (fin_v58 U)).trans rfl
theorem fin_v63 : fin U main_v63 = val_main_v76 (F := Ideal) (inp U main_arg0) :=
  (fin_binary U 77 rfl (by decide +kernel) (by decide +kernel) (by decide +kernel) (fin_v53 U) (fin_v62 U)).trans rfl
theorem fin_v64 : fin U main_v64 = val_main_v77 (F := Ideal) (inp U main_arg0) :=
  (fin_reshape U 78 rfl (by decide +kernel) (by decide +kernel) (fin_v63 U)).trans rfl
theorem fin_v65 : fin U main_v65 = val_main_v78 (F := Ideal) (inp U main_arg0) (inp U main_arg1) :=
  (fin_unary U 79 rfl (by decide +kernel) (by decide +kernel) (fin_v61 U)).trans rfl
theorem fin_v66 : fin U main_v66 = val_main_v79 (F := Ideal) (inp U main_arg0) (inp U main_arg1) :=
  (fin_reshape U 80 rfl (by decide +kernel) (by decide +kernel) (fin_v65 U)).trans rfl
theorem fin_v67 : fin U main_v67 = val_main_v80 (F := Ideal) (inp U main_arg0) :=
  (fin_unary U 81 rfl (by decide +kernel) (by decide +kernel) (fin_v64 U)).trans rfl
theorem fin_v68 : fin U main_v68 = val_main_v81 (F := Ideal) (inp U main_arg0) :=
  (fin_reshape U 82 rfl (by decide +kernel) (by decide +kernel) (fin_v67 U)).trans rfl
theorem fin_v69 : fin U main_v69 = val_main_v0 (F := Ideal) (inp U main_arg2) :=
  (fin_reshape U 83 rfl (by decide +kernel) (by decide +kernel) (fin_arg2 U)).trans rfl
theorem fin_v70 : fin U main_v70 = val_main_v1 (F := Ideal) (inp U main_arg4) :=
  (fin_reshape U 84 rfl (by decide +kernel) (by decide +kernel) (fin_arg4 U)).trans rfl
theorem fin_v71 : fin U main_v71 = val_main_v2 (F := Ideal) (inp U main_arg6) :=
  (fin_reshape U 85 rfl (by decide +kernel) (by decide +kernel) (fin_arg6 U)).trans rfl

end Cert.Kernel2Ideal.Attn
-- ==== Proof.AttnMerge.lean ====
/- The host lines that put the three groups together: the row log-sum over them all, and the incoming gradient times the
   merged output, each spread over the lanes of its head. -/
module

public import proofs.«01_k».proof.Proof.AttnHost
public import proofs.«01_k».proof.Proof.AttnRefC

@[expose] public section

set_option maxRecDepth 8192

noncomputable section

namespace Cert.Kernel2Ideal.Attn

open Cert.Kernel2Ideal Cert.Kernel2Ideal.Gen Cert.Kernel2Ideal.Facts Idealize.ShloMosaic Idealize.ShloMosaic.StableHlo Idealize.ShloMosaic.TcCoe
open Cert.Reference2Ideal.Read

/-! ## The lines as functions -/

/-- Three rows' largest. -/
def hBig (l0 l1 l2 : FVec Ideal S8192x8 .f32) : FVec Ideal S8192x8 .f32 := maximumf (maximumf l0 l1) l2

/-- A row log-sum's exponential, less the largest. -/
def hExp (l0 l1 l2 l : FVec Ideal S8192x8 .f32) : FVec Ideal S8192x8 .f32 := Host.exp (subf l (hBig l0 l1 l2))

def hTot (l0 l1 l2 : FVec Ideal S8192x8 .f32) : FVec Ideal S8192x8 .f32 :=
  addf (addf (hExp l0 l1 l2 l0) (hExp l0 l1 l2 l1)) (hExp l0 l1 l2 l2)

def hLse (l0 l1 l2 : FVec Ideal S8192x8 .f32) : FVec Ideal S8192x8 .f32 := addf (hBig l0 l1 l2) (Host.log (hTot l0 l1 l2))

/-- A head's value at each of its lanes. -/
def spreadHeads (A : FVec Ideal S8192x8 .f32) : FVec Ideal S8192x8x64 .f32 :=
  broadcastInDim S8192x8x64 ![0, 1, 2] bcast_S8192x8x1_S8192x8x64_0_1_2 (broadcastInDim S8192x8x1 ![0, 1] bcast_S8192x8_S8192x8x1_0_1 A)

def lanes (A : FVec Ideal S8192x8 .f32) : FVec Ideal S8192x512 .f32 := shapeCast S8192x512 (spreadHeads A) shapeCasts_S8192x8x64_S8192x512

/-- A group's weight. -/
def hPart (l0 l1 l2 l : FVec Ideal S8192x8 .f32) : FVec Ideal S8192x8 .f32 := Host.divf (hExp l0 l1 l2 l) (hTot l0 l1 l2)

/-- A group's share of the merged output. -/
def hShare (l0 l1 l2 l : FVec Ideal S8192x8 .f32) (o : FVec Ideal S8192x8x64 .f32) : FVec Ideal S8192x8x64 .f32 :=
  mulf (spreadHeads (hPart l0 l1 l2 l)) o

def hMerged (l0 l1 l2 : FVec Ideal S8192x8 .f32) (o0 o1 o2 : FVec Ideal S8192x8x64 .f32) : FVec Ideal S8192x8x64 .f32 :=
  addf (addf (hShare l0 l1 l2 l0 o0) (hShare l0 l1 l2 l1 o1)) (hShare l0 l1 l2 l2 o2)

def rowDot (d o : FVec Ideal S8192x8x64 .f32) : FVec Ideal S8192x8 .f32 :=
  Host.dotGeneral dot_S8192x8x64_S8192x8x64_S8192x8_2_2_n_n_01_01 none d o

/-! ## The lines compute them -/

section Lines

variable (U : Valuation τ sig (Elt Ideal))

/-- The three row log-sums, the three outputs and the incoming gradient, by heads. -/
abbrev L0 : FVec Ideal S8192x8 .f32 := val_main_v81 (F := Ideal) (inp U main_arg0)
abbrev L1 : FVec Ideal S8192x8 .f32 := inp U main_arg3
abbrev L2 : FVec Ideal S8192x8 .f32 := inp U main_arg5
abbrev O0 : FVec Ideal S8192x8x64 .f32 := val_main_v79 (F := Ideal) (inp U main_arg0) (inp U main_arg1)
abbrev O1 : FVec Ideal S8192x8x64 .f32 := val_main_v0 (F := Ideal) (inp U main_arg2)
abbrev O2 : FVec Ideal S8192x8x64 .f32 := val_main_v1 (F := Ideal) (inp U main_arg4)
abbrev DO : FVec Ideal S8192x8x64 .f32 := val_main_v2 (F := Ideal) (inp U main_arg6)

theorem fin_v72 : fin U main_v72 = maximumf (L0 U) (L1 U) :=
  (fin_binary U 86 rfl (by decide +kernel) (by decide +kernel) (by decide +kernel) (fin_v68 U) (fin_arg3 U)).trans rfl
theorem fin_v73 : fin U main_v73 = hBig (L0 U) (L1 U) (L2 U) :=
  (fin_binary U 87 rfl (by decide +kernel) (by decide +kernel) (by decide +kernel) (fin_v72 U) (fin_arg5 U)).trans rfl
theorem fin_v74 : fin U main_v74 = subf (L0 U) (hBig (L0 U) (L1 U) (L2 U)) :=
  (fin_binary U 88 rfl (by decide +kernel) (by decide +kernel) (by decide +kernel) (fin_v68 U) (fin_v73 U)).trans rfl
theorem fin_v75 : fin U main_v75 = hExp (L0 U) (L1 U) (L2 U) (L0 U) :=
  (fin_unary U 89 rfl (by decide +kernel) (by decide +kernel) (fin_v74 U)).trans rfl
theorem fin_v76 : fin U main_v76 = subf (L1 U) (hBig (L0 U) (L1 U) (L2 U)) :=
  (fin_binary U 90 rfl (by decide +kernel) (by decide +kernel) (by decide +kernel) (fin_arg3 U) (fin_v73 U)).trans rfl
theorem fin_v77 : fin U main_v77 = hExp (L0 U) (L1 U) (L2 U) (L1 U) :=
  (fin_unary U 91 rfl (by decide +kernel) (by decide +kernel) (fin_v76 U)).trans rfl
theorem fin_v78 : fin U main_v78 = subf (L2 U) (hBig (L0 U) (L1 U) (L2 U)) :=
  (fin_binary U 92 rfl (by decide +kernel) (by decide +kernel) (by decide +kernel) (fin_arg5 U) (fin_v73 U)).trans rfl
theorem fin_v79 : fin U main_v79 = hExp (L0 U) (L1 U) (L2 U) (L2 U) :=
  (fin_unary U 93 rfl (by decide +kernel) (by decide +kernel) (fin_v78 U)).trans rfl
theorem fin_v80 : fin U main_v80 = addf (hExp (L0 U) (L1 U) (L2 U) (L0 U)) (hExp (L0 U) (L1 U) (L2 U) (L1 U)) :=
  (fin_binary U 94 rfl (by decide +kernel) (by decide +kernel) (by decide +kernel) (fin_v75 U) (fin_v77 U)).trans rfl
theorem fin_v81 : fin U main_v81 = hTot (L0 U) (L1 U) (L2 U) :=
  (fin_binary U 95 rfl (by decide +kernel) (by decide +kernel) (by decide +kernel) (fin_v80 U) (fin_v79 U)).trans rfl
theorem fin_v82 : fin U main_v82 = Host.log (hTot (L0 U) (L1 U) (L2 U)) :=
  (fin_unary U 96 rfl (by decide +kernel) (by decide +kernel) (fin_v81 U)).trans rfl
theorem fin_v83 : fin U main_v83 = hLse (L0 U) (L1 U) (L2 U) :=
  (fin_binary U 97 rfl (by decide +kernel) (by decide +kernel) (by decide +kernel) (fin_v73 U) (fin_v82 U)).trans rfl
theorem fin_v84 : fin U main_v84 = hPart (L0 U) (L1 U) (L2 U) (L0 U) :=
  (fin_binary U 98 rfl (by decide +kernel) (by decide +kernel) (by decide +kernel) (fin_v75 U) (fin_v81 U)).trans rfl
theorem fin_v85 : fin U main_v85 = (broadcastInDim S8192x8x1 ![0, 1] bcast_S8192x8_S8192x8x1_0_1 (hPart (L0 U) (L1 U) (L2 U) (L0 U)) : FVec Ideal S8192x8x1 .f32) :=
  (fin_unary U 99 rfl (by decide +kernel) (by decide +kernel) (fin_v84 U)).trans rfl
theorem fin_v86 : fin U main_v86 = spreadHeads (hPart (L0 U) (L1 U) (L2 U) (L0 U)) :=
  (fin_unary U 100 rfl (by decide +kernel) (by decide +kernel) (fin_v85 U)).trans rfl
theorem fin_v87 : fin U main_v87 = hShare (L0 U) (L1 U) (L2 U) (L0 U) (O0 U) :=
  (fin_binary U 101 rfl (by decide +kernel) (by decide +kernel) (by decide +kernel) (fin_v86 U) (fin_v66 U)).trans rfl
theorem fin_v88 : fin U main_v88 = hPart (L0 U) (L1 U) (L2 U) (L1 U) :=
  (fin_binary U 102 rfl (by decide +kernel) (by decide +kernel) (by decide +kernel) (fin_v77 U) (fin_v81 U)).trans rfl
theorem fin_v89 : fin U main_v89 = (broadcastInDim S8192x8x1 ![0, 1] bcast_S8192x8_S8192x8x1_0_1 (hPart (L0 U) (L1 U) (L2 U) (L1 U)) : FVec Ideal S8192x8x1 .f32) :=
  (fin_unary U 103 rfl (by decide +kernel) (by decide +kernel) (fin_v88 U)).trans rfl
theorem fin_v90 : fin U main_v90 = spreadHeads (hPart (L0 U) (L1 U) (L2 U) (L1 U)) :=
  (fin_unary U 104 rfl (by decide +kernel) (by decide +kernel) (fin_v89 U)).trans rfl
theorem fin_v91 : fin U main_v91 = hShare (L0 U) (L1 U) (L2 U) (L1 U) (O1 U) :=
  (fin_binary U 105 rfl (by decide +kernel) (by decide +kernel) (by decide +kernel) (fin_v90 U) (fin_v69 U)).trans rfl
theorem fin_v92 : fin U main_v92 = (addf (hShare (L0 U) (L1 U) (L2 U) (L0 U) (O0 U)) (hShare (L0 U) (L1 U) (L2 U) (L1 U) (O1 U)) : FVec Ideal S8192x8x64 .f32) :=
  (fin_binary U 106 rfl (by decide +kernel) (by decide +kernel) (by decide +kernel) (fin_v87 U) (fin_v91 U)).trans rfl
theorem fin_v93 : fin U main_v93 = hPart (L0 U) (L1 U) (L2 U) (L2 U) :=
  (fin_binary U 107 rfl (by decide +kernel) (by decide +kernel) (by decide +kernel) (fin_v79 U) (fin_v81 U)).trans rfl
theorem fin_v94 : fin U main_v94 = (broadcastInDim S8192x8x1 ![0, 1] bcast_S8192x8_S8192x8x1_0_1 (hPart (L0 U) (L1 U) (L2 U) (L2 U)) : FVec Ideal S8192x8x1 .f32) :=
  (fin_unary U 108 rfl (by decide +kernel) (by decide +kernel) (fin_v93 U)).trans rfl
theorem fin_v95 : fin U main_v95 = spreadHeads (hPart (L0 U) (L1 U) (L2 U) (L2 U)) :=
  (fin_unary U 109 rfl (by decide +kernel) (by decide +kernel) (fin_v94 U)).trans rfl
theorem fin_v96 : fin U main_v96 = hShare (L0 U) (L1 U) (L2 U) (L2 U) (O2 U) :=
  (fin_binary U 110 rfl (by decide +kernel) (by decide +kernel) (by decide +kernel) (fin_v95 U) (fin_v70 U)).trans rfl
theorem fin_v97 : fin U main_v97 = hMerged (L0 U) (L1 U) (L2 U) (O0 U) (O1 U) (O2 U) :=
  (fin_binary U 111 rfl (by decide +kernel) (by decide +kernel) (by decide +kernel) (fin_v92 U) (fin_v96 U)).trans rfl
theorem fin_v98 : fin U main_v98 = rowDot (DO U) (hMerged (L0 U) (L1 U) (L2 U) (O0 U) (O1 U) (O2 U)) :=
  (fin_binary U 112 rfl (by decide +kernel) (by decide +kernel) (by decide +kernel) (fin_v71 U) (fin_v97 U)).trans rfl
theorem fin_v99 : fin U main_v99 = (broadcastInDim S8192x8x1 ![0, 1] bcast_S8192x8_S8192x8x1_0_1 (hLse (L0 U) (L1 U) (L2 U)) : FVec Ideal S8192x8x1 .f32) :=
  (fin_unary U 113 rfl (by decide +kernel) (by decide +kernel) (fin_v83 U)).trans rfl
theorem fin_v100 : fin U main_v100 = spreadHeads (hLse (L0 U) (L1 U) (L2 U)) :=
  (fin_unary U 114 rfl (by decide +kernel) (by decide +kernel) (fin_v99 U)).trans rfl
theorem fin_v101 : fin U main_v101 = lanes (hLse (L0 U) (L1 U) (L2 U)) :=
  (fin_reshape U 115 rfl (by decide +kernel) (by decide +kernel) (fin_v100 U)).trans rfl
theorem fin_v102 : fin U main_v102 = (broadcastInDim S8192x8x1 ![0, 1] bcast_S8192x8_S8192x8x1_0_1 (rowDot (DO U) (hMerged (L0 U) (L1 U) (L2 U) (O0 U) (O1 U) (O2 U))) : FVec Ideal S8192x8x1 .f32) :=
  (fin_unary U 116 rfl (by decide +kernel) (by decide +kernel) (fin_v98 U)).trans rfl
theorem fin_v103 : fin U main_v103 = spreadHeads (rowDot (DO U) (hMerged (L0 U) (L1 U) (L2 U) (O0 U) (O1 U) (O2 U))) :=
  (fin_unary U 117 rfl (by decide +kernel) (by decide +kernel) (fin_v102 U)).trans rfl
theorem fin_v104 : fin U main_v104 = lanes (rowDot (DO U) (hMerged (L0 U) (L1 U) (L2 U) (O0 U) (O1 U) (O2 U))) :=
  (fin_reshape U 118 rfl (by decide +kernel) (by decide +kernel) (fin_v103 U)).trans rfl

end Lines

/-! ## At an index -/

theorem hBig_apply (l0 l1 l2 : FVec Ideal S8192x8 .f32) (i : S8192x8.Idx) : hBig l0 l1 l2 i = max (max (l0 i) (l1 i)) (l2 i) := rfl
theorem hExp_apply (l0 l1 l2 l : FVec Ideal S8192x8 .f32) (i : S8192x8.Idx) :
    hExp l0 l1 l2 l i = Ideal.exp (l i - hBig l0 l1 l2 i) := rfl
theorem hTot_apply (l0 l1 l2 : FVec Ideal S8192x8 .f32) (i : S8192x8.Idx) :
    hTot l0 l1 l2 i = hExp l0 l1 l2 l0 i + hExp l0 l1 l2 l1 i + hExp l0 l1 l2 l2 i := rfl
theorem hLse_apply (l0 l1 l2 : FVec Ideal S8192x8 .f32) (i : S8192x8.Idx) :
    hLse l0 l1 l2 i = hBig l0 l1 l2 i + Ideal.log (hTot l0 l1 l2 i) := rfl
theorem hPart_apply (l0 l1 l2 l : FVec Ideal S8192x8 .f32) (i : S8192x8.Idx) :
    hPart l0 l1 l2 l i = Ideal.div (hExp l0 l1 l2 l i) (hTot l0 l1 l2 i) := rfl
theorem hShare_apply (l0 l1 l2 l : FVec Ideal S8192x8 .f32) (o : FVec Ideal S8192x8x64 .f32) (i : S8192x8x64.Idx) :
    hShare l0 l1 l2 l o i = spreadHeads (hPart l0 l1 l2 l) i * o i := rfl
theorem hMerged_apply (l0 l1 l2 : FVec Ideal S8192x8 .f32) (o0 o1 o2 : FVec Ideal S8192x8x64 .f32) (i : S8192x8x64.Idx) :
    hMerged l0 l1 l2 o0 o1 o2 i = hShare l0 l1 l2 l0 o0 i + hShare l0 l1 l2 l1 o1 i + hShare l0 l1 l2 l2 o2 i := rfl

theorem spreadHeads_at (A : FVec Ideal S8192x8 .f32) (i : S8192x8x64.Idx) : spreadHeads A i = A (ix2 (i 0) (i 1)) := by
  unfold spreadHeads
  pointwise
  first | rfl | trace_state

theorem lanes_at (A : FVec Ideal S8192x8 .f32) (r : Fin 8192) (l : Fin 512) :
    lanes A (ix2 r l) = A (ix2 r (⟨l.val / 64, by omega⟩ : Fin 8)) := by
  unfold lanes
  refine (shapeCast_apply _ _ (ix2 r l) (ix3 r (⟨l.val / 64, by omega⟩ : Fin 8) (⟨l.val % 64, by omega⟩ : Fin 64)) ?_).trans ?_
  · rw [Shape.rowMajor_val_two, Shape.rowMajor_val_three]
    show (r.val * 8 + l.val / 64) * 64 + l.val % 64 = r.val * 512 + l.val
    omega
  · exact spreadHeads_at A _

/-- The product's dimensions: two rows of 64 at each position and head. -/
abbrev dims := dot_S8192x8x64_S8192x8x64_S8192x8_2_2_n_n_01_01

theorem dims_lhs0 (i : S8192x8.Idx) (q : dims.contr.Idx) : (dims.lhsIdx i q 0).val = (i 0).val := by
  unfold DotDims.lhsIdx
  rw [dif_pos (show (0 : Fin S8192x8x64.rank) ∈ dims.lhsBatch by decide)]
  rfl

theorem dims_lhs1 (i : S8192x8.Idx) (q : dims.contr.Idx) : (dims.lhsIdx i q 1).val = (i 1).val := by
  unfold DotDims.lhsIdx
  rw [dif_pos (show (1 : Fin S8192x8x64.rank) ∈ dims.lhsBatch by decide)]
  rfl

theorem dims_rhs0 (i : S8192x8.Idx) (q : dims.contr.Idx) : (dims.rhsIdx i q 0).val = (i 0).val := by
  unfold DotDims.rhsIdx
  rw [dif_pos (show (0 : Fin S8192x8x64.rank) ∈ dims.rhsBatch by decide)]
  rfl

theorem dims_rhs1 (i : S8192x8.Idx) (q : dims.contr.Idx) : (dims.rhsIdx i q 1).val = (i 1).val := by
  unfold DotDims.rhsIdx
  rw [dif_pos (show (1 : Fin S8192x8x64.rank) ∈ dims.rhsBatch by decide)]
  rfl

theorem rowDot_at (d o : FVec Ideal S8192x8x64 .f32) (i : S8192x8.Idx) :
    rowDot d o i = ∑ x : Fin 64, d (ix3 (i 0) (i 1) x) * o (ix3 (i 0) (i 1) x) := by
  unfold rowDot
  simp only [Host.dotGeneral]
  rw [Ideal.dotGeneral_apply, ← Equiv.sum_comp (ValueIdx.contrEquiv1 dims 64 rfl rfl).symm]
  refine Finset.sum_congr rfl fun x _ => ?_
  have hx := ValueIdx.contrEquiv1_symm_val dims 64 rfl rfl x
  have el : dims.lhsIdx i ((ValueIdx.contrEquiv1 dims 64 rfl rfl).symm x) = ix3 (i 0) (i 1) x :=
    funext fun a => Fin.ext (by
      match a with
      | ⟨0, _⟩ => exact dims_lhs0 i _
      | ⟨1, _⟩ => exact dims_lhs1 i _
      | ⟨2, _⟩ => exact hx)
  have er : dims.rhsIdx i ((ValueIdx.contrEquiv1 dims 64 rfl rfl).symm x) = ix3 (i 0) (i 1) x :=
    funext fun a => Fin.ext (by
      match a with
      | ⟨0, _⟩ => exact dims_rhs0 i _
      | ⟨1, _⟩ => exact dims_rhs1 i _
      | ⟨2, _⟩ => exact hx)
  rw [el, er]
  rfl

theorem v0_at (a : Ins) (i : S8192x8x64.Idx) :
    val_main_v0 (F := Ideal) a.x2 i = ((a.o1 (i 0).val (64 * (i 1).val + (i 2).val) : ℝ) : EReal) := by
  have b0 : (i 0).val < 8192 := (i 0).isLt
  have b1 : (i 1).val < 8 := (i 1).isLt
  have b2 : (i 2).val < 64 := (i 2).isLt
  rw [val_main_v0_apply]
  exact rr_at a.x2 a.h2 _ _ _ _ (by dsimp only; omega) (by dsimp only; omega)

theorem v1_at (a : Ins) (i : S8192x8x64.Idx) :
    val_main_v1 (F := Ideal) a.x4 i = ((a.o2 (i 0).val (64 * (i 1).val + (i 2).val) : ℝ) : EReal) := by
  have b0 : (i 0).val < 8192 := (i 0).isLt
  have b1 : (i 1).val < 8 := (i 1).isLt
  have b2 : (i 2).val < 64 := (i 2).isLt
  rw [val_main_v1_apply]
  exact rr_at a.x4 a.h4 _ _ _ _ (by dsimp only; omega) (by dsimp only; omega)

/-! ## As reals -/

variable (a : Ins)

abbrev Ins.L0 : FVec Ideal S8192x8 .f32 := val_main_v81 (F := Ideal) a.x0

/-- The largest of the three row log-sums. -/
def Ins.mx (r H : ℕ) : ℝ := max (max (a.lse 0 r H) (a.l1 r H)) (a.l2 r H)

theorem l0_at (i : S8192x8.Idx) : a.L0 i = ((a.lse 0 (i 0).val (i 1).val : ℝ) : EReal) := v81_at a.x0 a.h0 i
theorem l1_at (i : S8192x8.Idx) : a.x3 i = ((a.l1 (i 0).val (i 1).val : ℝ) : EReal) :=
  rr_at a.x3 a.h3 _ _ _ i rfl (Nat.zero_add _).symm
theorem l2_at (i : S8192x8.Idx) : a.x5 i = ((a.l2 (i 0).val (i 1).val : ℝ) : EReal) :=
  rr_at a.x5 a.h5 _ _ _ i rfl (Nat.zero_add _).symm

theorem hBig_at (i : S8192x8.Idx) : hBig a.L0 a.x3 a.x5 i = ((a.mx (i 0).val (i 1).val : ℝ) : EReal) := by
  rw [hBig_apply, l0_at, l1_at, l2_at, Ins.mx, EReal.coe_strictMono.monotone.map_max, EReal.coe_strictMono.monotone.map_max]

theorem hExp_at (l : FVec Ideal S8192x8 .f32) (i : S8192x8.Idx) (y : ℝ) (h : l i = (y : EReal)) :
    hExp a.L0 a.x3 a.x5 l i = ((Real.exp (y - a.mx (i 0).val (i 1).val) : ℝ) : EReal) := by
  rw [hExp_apply, h, hBig_at, ← EReal.coe_sub, Ideal.exp_coe]

theorem hTot_at (i : S8192x8.Idx) : hTot a.L0 a.x3 a.x5 i
    = ((a.T (i 0).val (i 1).val * Real.exp (-a.mx (i 0).val (i 1).val) : ℝ) : EReal) := by
  rw [hTot_apply, hExp_at a _ i _ (l0_at a i), hExp_at a _ i _ (l1_at a i), hExp_at a _ i _ (l2_at a i), ← EReal.coe_add, ← EReal.coe_add]
  refine congrArg (fun w : ℝ => (w : EReal)) ?_
  rw [a.T_eq, Fin.sum_univ_three, add_mul, add_mul, ← Real.exp_add, ← Real.exp_add, ← Real.exp_add]
  rfl

theorem hTot_pos (r H : ℕ) : 0 < a.T r H * Real.exp (-a.mx r H) := mul_pos (a.T_pos r H) (Real.exp_pos _)

theorem hLse_at (i : S8192x8.Idx) :
    hLse a.L0 a.x3 a.x5 i = ((Real.log (a.T (i 0).val (i 1).val) : ℝ) : EReal) := by
  rw [hLse_apply, hBig_at, hTot_at, log_real _ (hTot_pos a _ _), ← EReal.coe_add,
    Real.log_mul (a.T_pos _ _).ne' (Real.exp_pos _).ne', Real.log_exp]
  refine congrArg (fun w : ℝ => (w : EReal)) ?_
  ring

theorem hShare_at (l : FVec Ideal S8192x8 .f32) (o : FVec Ideal S8192x8x64 .f32) (i : S8192x8x64.Idx) (y z : ℝ)
    (h : l (ix2 (i 0) (i 1)) = (y : EReal)) (ho : o i = (z : EReal)) :
    hShare a.L0 a.x3 a.x5 l o i = ((Real.exp y / a.T (i 0).val (i 1).val * z : ℝ) : EReal) := by
  rw [hShare_apply, spreadHeads_at, ho, hPart_apply, hExp_at a l _ y h, hTot_at]
  show Ideal.div _ ((a.T (i 0).val (i 1).val * Real.exp (-a.mx (i 0).val (i 1).val) : ℝ) : EReal) * _ = _
  rw [div_real _ _ (hTot_pos a _ _).ne', ← EReal.coe_mul]
  refine congrArg (fun w : ℝ => (w : EReal)) ?_
  show Real.exp (y - a.mx (i 0).val (i 1).val) / _ * z = _
  have hT := (a.T_pos (i 0).val (i 1).val).ne'
  have hE := (Real.exp_pos (-a.mx (i 0).val (i 1).val)).ne'
  rw [sub_eq_add_neg, Real.exp_add]
  field_simp

theorem hMerged_at (i : S8192x8x64.Idx) :
    hMerged a.L0 a.x3 a.x5 (val_main_v79 (F := Ideal) a.x0 a.x1) (val_main_v0 (F := Ideal) a.x2) (val_main_v1 (F := Ideal) a.x4) i
      = ((a.Z (i 0).val (i 1).val / a.T (i 0).val (i 1).val * a.out 0 (i 0).val (i 1).val (i 2).val
          + Real.exp (a.l1 (i 0).val (i 1).val) / a.T (i 0).val (i 1).val * a.out 1 (i 0).val (i 1).val (i 2).val
          + Real.exp (a.l2 (i 0).val (i 1).val) / a.T (i 0).val (i 1).val * a.out 2 (i 0).val (i 1).val (i 2).val : ℝ) : EReal) := by
  rw [hMerged_apply, hShare_at a _ _ i (a.lse 0 (i 0).val (i 1).val) _ (l0_at a _) (v79_at a.x0 a.h0 a.x1 a.h1 i), hShare_at a _ _ i (a.l1 (i 0).val (i 1).val) _ (l1_at a _) (v0_at a i),
    hShare_at a _ _ i (a.l2 (i 0).val (i 1).val) _ (l2_at a _) (v1_at a i), ← EReal.coe_add, ← EReal.coe_add]
  rw [a.exp_lse0]
  rfl

theorem rowDot_real (i : S8192x8.Idx) :
    rowDot (val_main_v2 (F := Ideal) a.x6) (hMerged a.L0 a.x3 a.x5 (val_main_v79 (F := Ideal) a.x0 a.x1)
      (val_main_v0 (F := Ideal) a.x2) (val_main_v1 (F := Ideal) a.x4)) i = ((a.D (i 0).val (i 1).val : ℝ) : EReal) := by
  rw [rowDot_at]
  simp only [v2_at, hMerged_at, ← EReal.coe_mul]
  rw [sum_real]
  refine congrArg (fun w : ℝ => (w : EReal)) ?_
  rw [a.D_eq]
  unfold Ins.G
  rw [Finset.mul_sum, Finset.mul_sum, Finset.mul_sum, ← Finset.sum_add_distrib, ← Finset.sum_add_distrib]
  refine Finset.sum_congr rfl fun x _ => ?_
  show a.d (i 0).val (64 * (i 1).val + x.val)
      * (a.Z (i 0).val (i 1).val / a.T (i 0).val (i 1).val * a.out 0 (i 0).val (i 1).val x.val
        + Real.exp (a.l1 (i 0).val (i 1).val) / a.T (i 0).val (i 1).val * a.out 1 (i 0).val (i 1).val x.val
        + Real.exp (a.l2 (i 0).val (i 1).val) / a.T (i 0).val (i 1).val * a.out 2 (i 0).val (i 1).val x.val) = _
  ring

/-- Before the call, the row log-sums and the row sums lie spread over the lanes. -/
theorem spread_lse (U : Valuation τ sig (Elt Ideal)) (a : Ins) (h0 : inp U main_arg0 = a.x0) (h3 : inp U main_arg3 = a.x3)
    (h5 : inp U main_arg5 = a.x5) (r : Fin 8192) (l : Fin 512) :
    fin U main_v101 (ix2 r l) = ((Real.log (a.T r.val (l.val / 64)) : ℝ) : EReal) := by
  rw [fin_v101, lanes_at]
  show hLse (val_main_v81 (F := Ideal) (inp U main_arg0)) (inp U main_arg3) (inp U main_arg5) _ = _
  rw [h0, h3, h5]
  exact hLse_at a _

theorem spread_sum (U : Valuation τ sig (Elt Ideal)) (a : Ins) (h0 : inp U main_arg0 = a.x0) (h1 : inp U main_arg1 = a.x1)
    (h2 : inp U main_arg2 = a.x2) (h3 : inp U main_arg3 = a.x3) (h4 : inp U main_arg4 = a.x4)
    (h5 : inp U main_arg5 = a.x5) (h6 : inp U main_arg6 = a.x6) (r : Fin 8192) (l : Fin 512) :
    fin U main_v104 (ix2 r l) = ((a.D r.val (l.val / 64) : ℝ) : EReal) := by
  rw [fin_v104, lanes_at]
  show rowDot (val_main_v2 (F := Ideal) (inp U main_arg6)) (hMerged (val_main_v81 (F := Ideal) (inp U main_arg0))
    (inp U main_arg3) (inp U main_arg5) (val_main_v79 (F := Ideal) (inp U main_arg0) (inp U main_arg1))
    (val_main_v0 (F := Ideal) (inp U main_arg2)) (val_main_v1 (F := Ideal) (inp U main_arg4))) _ = _
  rw [h0, h1, h2, h3, h4, h5, h6]
  exact rowDot_real a _

end Cert.Kernel2Ideal.Attn
-- ==== Proof.AttnValue.lean ====
/- The three results of the backward kernel as whole arrays: every block of every tile is the gradient over the sequence. -/
module

public import proofs.«01_k».proof.Proof.AttnBlocks

@[expose] public section

noncomputable section

namespace Cert.Kernel2Ideal.Attn

open Cert.Kernel2Ideal Cert.Kernel2Ideal.Gen Cert.Kernel2Ideal.Value
open Idealize.ShloMosaic Idealize.ShloMosaic.TcCoe Idealize.SL.Sem
open Idealize.ShloMosaic.Pipeline (Dat)

variable (m : (ℓ : Loc nD τ sig) → Buf (Elt Ideal) ℓ) (c : Dev nD) {L S : ℕ → ℕ → EReal}

/-- The block of the sequence that is block `g` of the tile at a grid point. -/
abbrev blockOf (t : ℕ) (g : Fin 8) : ℕ := 8 * (t / 2) + g.val

variable (L S) in
/-- The probabilities and the scores' gradients over the sequence at launch. -/
abbrev PR (H : ℕ) : ℕ → ℕ → EReal := prR (aQ m c) (aK m c) L H

variable (L S) in
abbrev DSR (H : ℕ) : ℕ → ℕ → EReal := dsR (aQ m c) (aK m c) (aV m c) (aD m c) L S H

theorem dq_own (hS : Spread m c L S) (t : Fin cfg0.N) (g : Fin 8) (p h : Fin 2) (ρ : Fin 128) (x : Fin 64) :
    tileDq (t.val / 2) (iblk m c 0 t) (iblk m c 2 t) (iblk m c 4 t) (iblk m c 6 t) (iblk m c 8 t) (iblk m c 9 t) (iblk m c 10 t) (iblk m c 11 t) g p (ix2 ρ (hl h x))
      = rowR (DSR m c L S (headOf t.val p h)) (aK m c) (blockOf t.val g) ρ.val (64 * headOf t.val p h + x.val) :=
  dq_block (queries_tile m c hS t g p h) (fun κ => key_tile m c t g p h κ g.castSucc rfl) ρ x

theorem dk_own (hS : Spread m c L S) (t : Fin cfg0.N) (g : Fin 8) (p h : Fin 2) (ρ : Fin 128) (x : Fin 64) :
    tileDk (t.val / 2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) g.castSucc p (ix2 (upper ρ) (hl h x))
      = colR (DSR m c L S (headOf t.val p h)) (aQ m c) (blockOf t.val g) (128 + ρ.val) (64 * headOf t.val p h + x.val) := by
  have hg : g.castSucc.val < 8 := g.isLt
  unfold tileDk
  rw [dif_pos hg]
  exact dk_block (queries_tile m c hS t g p h) (key_tile m c t g p h (upper ρ) g.castSucc rfl) x

theorem dk_after (hS : Spread m c L S) (t : Fin cfg0.N) (g : Fin 8) (hg : g.val < 7) (p h : Fin 2) (ρ : Fin 128) (x : Fin 64) :
    tileDk (t.val / 2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) g.succ p (ix2 (lower ρ) (hl h x))
      = colR (DSR m c L S (headOf t.val p h)) (aQ m c) (blockOf t.val g + 1) ρ.val (64 * headOf t.val p h + x.val) := by
  have hg' : g.succ.val < 8 := by show g.val + 1 < 8; omega
  unfold tileDk
  rw [dif_pos hg']
  exact dk_block (queries_tile m c hS t ⟨g.succ.val, hg'⟩ p h) (key_tile m c t ⟨g.succ.val, hg'⟩ p h (lower ρ) g.succ rfl) x

theorem dk_next (hS : Spread m c L S) (t : Fin cfg0.N) (ht : t.val < 14) (p h : Fin 2) (ρ : Fin 128) (x : Fin 64) :
    tileDk (t.val / 2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (Fin.succ (7 : Fin 8)) p (ix2 (lower ρ) (hl h x))
      = colR (DSR m c L S (headOf t.val p h)) (aQ m c) (blockOf t.val 7 + 1) ρ.val (64 * headOf t.val p h + x.val) := by
  have hg' : ¬ (Fin.succ (7 : Fin 8)).val < 8 := by decide
  unfold tileDk
  rw [dif_neg hg']
  exact dk_block (queries_next m c hS t ht p h) (key_next m c t p h (lower ρ) ρ.isLt) x

/-- Before the last tile. -/
theorem dk_sum (hS : Spread m c L S) (t : Fin cfg0.N) (ht : t.val < 14) (g : Fin 8) (p h : Fin 2) (ρ : Fin 128) (x : Fin 64) :
    (tileDk (t.val / 2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) g.castSucc p (ix2 (upper ρ) (hl h x)) + tileDk (t.val / 2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) g.succ p (ix2 (lower ρ) (hl h x)) : EReal)
      = bothR (DSR m c L S (headOf t.val p h)) (aQ m c) (blockOf t.val g) ρ.val (64 * headOf t.val p h + x.val) := by
  unfold bothR
  rw [if_pos (by dsimp only [blockOf]; omega), dk_own m c hS]
  by_cases hg : g.val < 7
  · rw [dk_after m c hS t g hg]
  · obtain rfl : g = 7 := Fin.ext (by show g.val = 7; omega)
    rw [dk_next m c hS t ht]

/-- In the last tile. -/
theorem dk_sum_last (hS : Spread m c L S) (t : Fin cfg0.N) (ht : ¬ t.val < 14) (g : Fin 8) (p h : Fin 2) (ρ : Fin 128)
    (x : Fin 64) :
    (lastOnly (tileDk (t.val / 2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) g.castSucc p (ix2 (upper ρ) (hl h x)) + lastOnly (tileDk (t.val / 2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) g.succ p (ix2 (lower ρ) (hl h x)) : EReal)
      = bothR (DSR m c L S (headOf t.val p h)) (aQ m c) (blockOf t.val g) ρ.val (64 * headOf t.val p h + x.val) := by
  have hN := lt_N t
  have hc : g.castSucc.val < 8 := g.isLt
  unfold bothR lastOnly
  rw [if_pos hc, dk_own m c hS]
  by_cases hg : g.val < 7
  · have hg' : g.succ.val < 8 := by show g.val + 1 < 8; omega
    rw [if_pos hg', dk_after m c hS t g hg, if_pos (by dsimp only [blockOf]; omega)]
  · have hg' : ¬ g.succ.val < 8 := by show ¬ g.val + 1 < 8; omega
    rw [if_neg hg', if_neg (by dsimp only [blockOf]; omega)]

theorem dv_own (hS : Spread m c L S) (t : Fin cfg0.N) (g : Fin 8) (p h : Fin 2) (ρ : Fin 128) (x : Fin 64) :
    tileDv (t.val / 2) (iblk m c 0 t) (iblk m c 1 t) (iblk m c 2 t) (iblk m c 3 t) (iblk m c 4 t) (iblk m c 5 t) (iblk m c 8 t) (iblk m c 9 t) g.castSucc p (ix2 (upper ρ) (hl h x))
      = colR (PR m c L (headOf t.val p h)) (aD m c) (blockOf t.val g) (128 + ρ.val) (64 * headOf t.val p h + x.val) := by
  have hg : g.castSucc.val < 8 := g.isLt
  unfold tileDv
  rw [dif_pos hg]
  exact dv_block (queries_tile m c hS t g p h) (key_tile m c t g p h (upper ρ) g.castSucc rfl) x

theorem dv_after (hS : Spread m c L S) (t : Fin cfg0.N) (g : Fin 8) (hg : g.val < 7) (p h : Fin 2) (ρ : Fin 128) (x : Fin 64) :
    tileDv (t.val / 2) (iblk m c 0 t) (iblk m c 1 t) (iblk m c 2 t) (iblk m c 3 t) (iblk m c 4 t) (iblk m c 5 t) (iblk m c 8 t) (iblk m c 9 t) g.succ p (ix2 (lower ρ) (hl h x))
      = colR (PR m c L (headOf t.val p h)) (aD m c) (blockOf t.val g + 1) ρ.val (64 * headOf t.val p h + x.val) := by
  have hg' : g.succ.val < 8 := by show g.val + 1 < 8; omega
  unfold tileDv
  rw [dif_pos hg']
  exact dv_block (queries_tile m c hS t ⟨g.succ.val, hg'⟩ p h) (key_tile m c t ⟨g.succ.val, hg'⟩ p h (lower ρ) g.succ rfl) x

theorem dv_next (hS : Spread m c L S) (t : Fin cfg0.N) (ht : t.val < 14) (p h : Fin 2) (ρ : Fin 128) (x : Fin 64) :
    tileDv (t.val / 2) (iblk m c 0 t) (iblk m c 1 t) (iblk m c 2 t) (iblk m c 3 t) (iblk m c 4 t) (iblk m c 5 t) (iblk m c 8 t) (iblk m c 9 t) (Fin.succ (7 : Fin 8)) p (ix2 (lower ρ) (hl h x))
      = colR (PR m c L (headOf t.val p h)) (aD m c) (blockOf t.val 7 + 1) ρ.val (64 * headOf t.val p h + x.val) := by
  have hg' : ¬ (Fin.succ (7 : Fin 8)).val < 8 := by decide
  unfold tileDv
  rw [dif_neg hg']
  exact dv_block (queries_next m c hS t ht p h) (key_next m c t p h (lower ρ) ρ.isLt) x

/-- Before the last tile. -/
theorem dv_sum (hS : Spread m c L S) (t : Fin cfg0.N) (ht : t.val < 14) (g : Fin 8) (p h : Fin 2) (ρ : Fin 128) (x : Fin 64) :
    (tileDv (t.val / 2) (iblk m c 0 t) (iblk m c 1 t) (iblk m c 2 t) (iblk m c 3 t) (iblk m c 4 t) (iblk m c 5 t) (iblk m c 8 t) (iblk m c 9 t) g.castSucc p (ix2 (upper ρ) (hl h x)) + tileDv (t.val / 2) (iblk m c 0 t) (iblk m c 1 t) (iblk m c 2 t) (iblk m c 3 t) (iblk m c 4 t) (iblk m c 5 t) (iblk m c 8 t) (iblk m c 9 t) g.succ p (ix2 (lower ρ) (hl h x)) : EReal)
      = bothR (PR m c L (headOf t.val p h)) (aD m c) (blockOf t.val g) ρ.val (64 * headOf t.val p h + x.val) := by
  unfold bothR
  rw [if_pos (by dsimp only [blockOf]; omega), dv_own m c hS]
  by_cases hg : g.val < 7
  · rw [dv_after m c hS t g hg]
  · obtain rfl : g = 7 := Fin.ext (by show g.val = 7; omega)
    rw [dv_next m c hS t ht]

/-- In the last tile. -/
theorem dv_sum_last (hS : Spread m c L S) (t : Fin cfg0.N) (ht : ¬ t.val < 14) (g : Fin 8) (p h : Fin 2) (ρ : Fin 128)
    (x : Fin 64) :
    (lastOnly (tileDv (t.val / 2) (iblk m c 0 t) (iblk m c 1 t) (iblk m c 2 t) (iblk m c 3 t) (iblk m c 4 t) (iblk m c 5 t) (iblk m c 8 t) (iblk m c 9 t)) g.castSucc p (ix2 (upper ρ) (hl h x)) + lastOnly (tileDv (t.val / 2) (iblk m c 0 t) (iblk m c 1 t) (iblk m c 2 t) (iblk m c 3 t) (iblk m c 4 t) (iblk m c 5 t) (iblk m c 8 t) (iblk m c 9 t)) g.succ p (ix2 (lower ρ) (hl h x)) : EReal)
      = bothR (PR m c L (headOf t.val p h)) (aD m c) (blockOf t.val g) ρ.val (64 * headOf t.val p h + x.val) := by
  have hN := lt_N t
  have hc : g.castSucc.val < 8 := g.isLt
  unfold bothR lastOnly
  rw [if_pos hc, dv_own m c hS]
  by_cases hg : g.val < 7
  · have hg' : g.succ.val < 8 := by show g.val + 1 < 8; omega
    rw [if_pos hg', dv_after m c hS t g hg, if_pos (by dsimp only [blockOf]; omega)]
  · have hg' : ¬ g.succ.val < 8 := by show ¬ g.val + 1 < 8; omega
    rw [if_neg hg', if_neg (by dsimp only [blockOf]; omega)]

/-! ## What the outputs' buffers hold after a point -/

theorem left_dq (hS : Spread m c L S) (t : Fin cfg0.N) (g : Fin 8) (p h : Fin 2) (ρ : Fin 128) (x : Fin 64) :
    (outsAt0 m c t.val t.isLt).1 (ix2 (⟨128 * g.val + ρ.val, by omega⟩ : Fin 1024) (pairLane p (hl h x)))
      = rowR (DSR m c L S (headOf t.val p h)) (aK m c) (blockOf t.val g) ρ.val (64 * headOf t.val p h + x.val) := by
  by_cases h14 : t.val < 14
  · rw [outsAt0_A m c t h14]
    dsimp only
    rw [dq_A, point0, dq_own m c hS]
  · rw [outsAt0_B m c t h14]
    dsimp only
    rw [dq_B, point0, dq_own m c hS]

theorem left_dk (hS : Spread m c L S) (t : Fin cfg0.N) (g : Fin 8) (p h : Fin 2) (ρ : Fin 128) (x : Fin 64) :
    (outsAt0 m c t.val t.isLt).2.1 (ix2 (⟨128 * g.val + ρ.val, by omega⟩ : Fin 1024) (pairLane p (hl h x)))
      = bothR (DSR m c L S (headOf t.val p h)) (aQ m c) (blockOf t.val g) ρ.val (64 * headOf t.val p h + x.val) := by
  by_cases h14 : t.val < 14
  · rw [outsAt0_A m c t h14]
    dsimp only
    rw [dk_A, point0, dk_sum m c hS t h14]
  · rw [outsAt0_B m c t h14]
    dsimp only
    rw [dk_B, point0, dk_sum_last m c hS t h14]

theorem left_dv (hS : Spread m c L S) (t : Fin cfg0.N) (g : Fin 8) (p h : Fin 2) (ρ : Fin 128) (x : Fin 64) :
    (outsAt0 m c t.val t.isLt).2.2 (ix2 (⟨128 * g.val + ρ.val, by omega⟩ : Fin 1024) (pairLane p (hl h x)))
      = bothR (PR m c L (headOf t.val p h)) (aD m c) (blockOf t.val g) ρ.val (64 * headOf t.val p h + x.val) := by
  by_cases h14 : t.val < 14
  · rw [outsAt0_A m c t h14]
    dsimp only
    rw [dv_A, point0, dv_sum m c hS t h14]
  · rw [outsAt0_B m c t h14]
    dsimp only
    rw [dv_B, point0, dv_sum_last m c hS t h14]

/-! ## The three result arrays -/

abbrev Rows512 : Shape := S8192x512

variable (L S) in
/-- The gradient of the queries. -/
def gDq : Rows512.Idx → EReal := fun i =>
  rowR (DSR m c L S ((i 1).val / 64)) (aK m c) ((i 0).val / 128) ((i 0).val % 128) (i 1).val

variable (L S) in
/-- The gradient of the keys. -/
def gDk : Rows512.Idx → EReal := fun i =>
  bothR (DSR m c L S ((i 1).val / 64)) (aQ m c) ((i 0).val / 128) ((i 0).val % 128) (i 1).val

variable (L) in
/-- The gradient of the values. -/
def gDv : Rows512.Idx → EReal := fun i =>
  bothR (PR m c L ((i 1).val / 64)) (aD m c) ((i 0).val / 128) ((i 0).val % 128) (i 1).val

theorem final_dq (hS : Spread m c L S) : (dats m 0 c).arrAt 12 cfg0.N = gDq m c L S := by
  refine (dats m 0 c).arrAt_eq_of_cover 12 (gDq m c L S) (fun t _ => ?_) (fun i => ?_)
  · rw [flushed12]
    funext j
    obtain ⟨r, l, rfl⟩ : ∃ (r : Fin 1024) (l : Fin 256), j = ix2 r l := ⟨j 0, j 1, eq_ix2 j⟩
    have h0 := (by decide +kernel : ∀ t : Fin grid0.N, win0_12.index t 0 = t.val / 2) t
    have h1 := (by decide +kernel : ∀ t : Fin grid0.N, win0_12.index t 1 = t.val % 2) t
    have ht := lt_N t
    have hr := r.isLt
    have hl' := l.isLt
    let g : Fin 8 := ⟨r.val / 128, by omega⟩
    let ρ : Fin 128 := ⟨r.val % 128, by omega⟩
    let p : Fin 2 := ⟨l.val / 128, by omega⟩
    let h : Fin 2 := ⟨l.val % 128 / 64, by omega⟩
    let x : Fin 64 := ⟨l.val % 64, by omega⟩
    have er : r = ⟨128 * g.val + ρ.val, by omega⟩ := Fin.ext (by show r.val = 128 * (r.val / 128) + r.val % 128; omega)
    have el : l = pairLane p (hl h x) :=
      Fin.ext (by show l.val = 128 * (l.val / 128) + (64 * (l.val % 128 / 64) + l.val % 64); omega)
    have key : ∀ (a : Fin 1024) (b : Fin 256), r = a → l = b → (outsAt0 m c t.val t.isLt).1 (ix2 r l) = (outsAt0 m c t.val t.isLt).1 (ix2 a b) :=
      fun a b h1 h2 => by rw [h1, h2]
    refine ((key _ _ er el).trans (left_dq m c hS t g p h ρ x)).trans ?_
    show _ = (gDq m c L S) (((cfg0.win 12).blk t).view.emb (ix2 r l))
    have e : ((cfg0.win 12).blk t).view.emb (ix2 r l)
        = (ix2 ⟨1024 * (t.val / 2) + r.val, by omega⟩ ⟨256 * (t.val % 2) + l.val, by omega⟩ : Rows512.Idx) := by
      funext a
      match a with
      | ⟨0, _⟩ => exact Fin.ext (by show win0_12.index t 0 * 1024 + 1 * r.val = 1024 * (t.val / 2) + r.val; omega)
      | ⟨1, _⟩ => exact Fin.ext (by show win0_12.index t 1 * 256 + 1 * l.val = 256 * (t.val % 2) + l.val; omega)
    rw [e]
    show rowR (DSR m c L S (4 * (t.val % 2) + 2 * (l.val / 128) + l.val % 128 / 64)) (aK m c) (8 * (t.val / 2) + r.val / 128) (r.val % 128)
        (64 * (4 * (t.val % 2) + 2 * (l.val / 128) + l.val % 128 / 64) + l.val % 64)
      = rowR (DSR m c L S ((256 * (t.val % 2) + l.val) / 64)) (aK m c) ((1024 * (t.val / 2) + r.val) / 128)
        ((1024 * (t.val / 2) + r.val) % 128) (256 * (t.val % 2) + l.val)
    have e1 : 4 * (t.val % 2) + 2 * (l.val / 128) + l.val % 128 / 64 = (256 * (t.val % 2) + l.val) / 64 := by omega
    have e2 : 8 * (t.val / 2) + r.val / 128 = (1024 * (t.val / 2) + r.val) / 128 := by omega
    have e3 : r.val % 128 = (1024 * (t.val / 2) + r.val) % 128 := by omega
    have e4 : 64 * ((256 * (t.val % 2) + l.val) / 64) + l.val % 64 = 256 * (t.val % 2) + l.val := by omega
    rw [e1, e2, e4, ← e3]
  · have hi : (i 0).val < 8192 := (i 0).isLt
    have hj : (i 1).val < 512 := (i 1).isLt
    let t : Fin cfg0.N := ⟨2 * ((i 0).val / 1024) + (i 1).val / 256, show _ < 16 by omega⟩
    have ht : t.val = 2 * ((i 0).val / 1024) + (i 1).val / 256 := rfl
    have h0 := (by decide +kernel : ∀ t : Fin grid0.N, win0_12.index t 0 = t.val / 2) t
    have h1 := (by decide +kernel : ∀ t : Fin grid0.N, win0_12.index t 1 = t.val % 2) t
    refine ⟨t, flush0_12 t, ?_⟩
    show i ∈ ((View.whole main_v105_0).slice (win0_12.rect t)).set
    rw [View.set_slice_whole, Rect.mem_set_unit]
    intro a
    match a with
    | ⟨0, _⟩ => show win0_12.index t 0 * 1024 ≤ (i 0).val ∧ (i 0).val < win0_12.index t 0 * 1024 + 1024; omega
    | ⟨1, _⟩ => show win0_12.index t 1 * 256 ≤ (i 1).val ∧ (i 1).val < win0_12.index t 1 * 256 + 256; omega

theorem final_dk (hS : Spread m c L S) : (dats m 0 c).arrAt 13 cfg0.N = gDk m c L S := by
  refine (dats m 0 c).arrAt_eq_of_cover 13 (gDk m c L S) (fun t _ => ?_) (fun i => ?_)
  · rw [flushed13]
    funext j
    obtain ⟨r, l, rfl⟩ : ∃ (r : Fin 1024) (l : Fin 256), j = ix2 r l := ⟨j 0, j 1, eq_ix2 j⟩
    have h0 := (by decide +kernel : ∀ t : Fin grid0.N, win0_13.index t 0 = t.val / 2) t
    have h1 := (by decide +kernel : ∀ t : Fin grid0.N, win0_13.index t 1 = t.val % 2) t
    have ht := lt_N t
    have hr := r.isLt
    have hl' := l.isLt
    let g : Fin 8 := ⟨r.val / 128, by omega⟩
    let ρ : Fin 128 := ⟨r.val % 128, by omega⟩
    let p : Fin 2 := ⟨l.val / 128, by omega⟩
    let h : Fin 2 := ⟨l.val % 128 / 64, by omega⟩
    let x : Fin 64 := ⟨l.val % 64, by omega⟩
    have er : r = ⟨128 * g.val + ρ.val, by omega⟩ := Fin.ext (by show r.val = 128 * (r.val / 128) + r.val % 128; omega)
    have el : l = pairLane p (hl h x) :=
      Fin.ext (by show l.val = 128 * (l.val / 128) + (64 * (l.val % 128 / 64) + l.val % 64); omega)
    have key : ∀ (a : Fin 1024) (b : Fin 256), r = a → l = b → (outsAt0 m c t.val t.isLt).2.1 (ix2 r l) = (outsAt0 m c t.val t.isLt).2.1 (ix2 a b) :=
      fun a b h1 h2 => by rw [h1, h2]
    refine ((key _ _ er el).trans (left_dk m c hS t g p h ρ x)).trans ?_
    show _ = (gDk m c L S) (((cfg0.win 13).blk t).view.emb (ix2 r l))
    have e : ((cfg0.win 13).blk t).view.emb (ix2 r l)
        = (ix2 ⟨1024 * (t.val / 2) + r.val, by omega⟩ ⟨256 * (t.val % 2) + l.val, by omega⟩ : Rows512.Idx) := by
      funext a
      match a with
      | ⟨0, _⟩ => exact Fin.ext (by show win0_13.index t 0 * 1024 + 1 * r.val = 1024 * (t.val / 2) + r.val; omega)
      | ⟨1, _⟩ => exact Fin.ext (by show win0_13.index t 1 * 256 + 1 * l.val = 256 * (t.val % 2) + l.val; omega)
    rw [e]
    show bothR (DSR m c L S (4 * (t.val % 2) + 2 * (l.val / 128) + l.val % 128 / 64)) (aQ m c) (8 * (t.val / 2) + r.val / 128) (r.val % 128)
        (64 * (4 * (t.val % 2) + 2 * (l.val / 128) + l.val % 128 / 64) + l.val % 64)
      = bothR (DSR m c L S ((256 * (t.val % 2) + l.val) / 64)) (aQ m c) ((1024 * (t.val / 2) + r.val) / 128)
        ((1024 * (t.val / 2) + r.val) % 128) (256 * (t.val % 2) + l.val)
    have e1 : 4 * (t.val % 2) + 2 * (l.val / 128) + l.val % 128 / 64 = (256 * (t.val % 2) + l.val) / 64 := by omega
    have e2 : 8 * (t.val / 2) + r.val / 128 = (1024 * (t.val / 2) + r.val) / 128 := by omega
    have e3 : r.val % 128 = (1024 * (t.val / 2) + r.val) % 128 := by omega
    have e4 : 64 * ((256 * (t.val % 2) + l.val) / 64) + l.val % 64 = 256 * (t.val % 2) + l.val := by omega
    rw [e1, e2, e4, ← e3]
  · have hi : (i 0).val < 8192 := (i 0).isLt
    have hj : (i 1).val < 512 := (i 1).isLt
    let t : Fin cfg0.N := ⟨2 * ((i 0).val / 1024) + (i 1).val / 256, show _ < 16 by omega⟩
    have ht : t.val = 2 * ((i 0).val / 1024) + (i 1).val / 256 := rfl
    have h0 := (by decide +kernel : ∀ t : Fin grid0.N, win0_13.index t 0 = t.val / 2) t
    have h1 := (by decide +kernel : ∀ t : Fin grid0.N, win0_13.index t 1 = t.val % 2) t
    refine ⟨t, flush0_13 t, ?_⟩
    show i ∈ ((View.whole main_v105_1).slice (win0_13.rect t)).set
    rw [View.set_slice_whole, Rect.mem_set_unit]
    intro a
    match a with
    | ⟨0, _⟩ => show win0_13.index t 0 * 1024 ≤ (i 0).val ∧ (i 0).val < win0_13.index t 0 * 1024 + 1024; omega
    | ⟨1, _⟩ => show win0_13.index t 1 * 256 ≤ (i 1).val ∧ (i 1).val < win0_13.index t 1 * 256 + 256; omega

theorem final_dv (hS : Spread m c L S) : (dats m 0 c).arrAt 14 cfg0.N = gDv m c L := by
  refine (dats m 0 c).arrAt_eq_of_cover 14 (gDv m c L) (fun t _ => ?_) (fun i => ?_)
  · rw [flushed14]
    funext j
    obtain ⟨r, l, rfl⟩ : ∃ (r : Fin 1024) (l : Fin 256), j = ix2 r l := ⟨j 0, j 1, eq_ix2 j⟩
    have h0 := (by decide +kernel : ∀ t : Fin grid0.N, win0_14.index t 0 = t.val / 2) t
    have h1 := (by decide +kernel : ∀ t : Fin grid0.N, win0_14.index t 1 = t.val % 2) t
    have ht := lt_N t
    have hr := r.isLt
    have hl' := l.isLt
    let g : Fin 8 := ⟨r.val / 128, by omega⟩
    let ρ : Fin 128 := ⟨r.val % 128, by omega⟩
    let p : Fin 2 := ⟨l.val / 128, by omega⟩
    let h : Fin 2 := ⟨l.val % 128 / 64, by omega⟩
    let x : Fin 64 := ⟨l.val % 64, by omega⟩
    have er : r = ⟨128 * g.val + ρ.val, by omega⟩ := Fin.ext (by show r.val = 128 * (r.val / 128) + r.val % 128; omega)
    have el : l = pairLane p (hl h x) :=
      Fin.ext (by show l.val = 128 * (l.val / 128) + (64 * (l.val % 128 / 64) + l.val % 64); omega)
    have key : ∀ (a : Fin 1024) (b : Fin 256), r = a → l = b → (outsAt0 m c t.val t.isLt).2.2 (ix2 r l) = (outsAt0 m c t.val t.isLt).2.2 (ix2 a b) :=
      fun a b h1 h2 => by rw [h1, h2]
    refine ((key _ _ er el).trans (left_dv m c hS t g p h ρ x)).trans ?_
    show _ = (gDv m c L) (((cfg0.win 14).blk t).view.emb (ix2 r l))
    have e : ((cfg0.win 14).blk t).view.emb (ix2 r l)
        = (ix2 ⟨1024 * (t.val / 2) + r.val, by omega⟩ ⟨256 * (t.val % 2) + l.val, by omega⟩ : Rows512.Idx) := by
      funext a
      match a with
      | ⟨0, _⟩ => exact Fin.ext (by show win0_14.index t 0 * 1024 + 1 * r.val = 1024 * (t.val / 2) + r.val; omega)
      | ⟨1, _⟩ => exact Fin.ext (by show win0_14.index t 1 * 256 + 1 * l.val = 256 * (t.val % 2) + l.val; omega)
    rw [e]
    show bothR (PR m c L (4 * (t.val % 2) + 2 * (l.val / 128) + l.val % 128 / 64)) (aD m c) (8 * (t.val / 2) + r.val / 128) (r.val % 128)
        (64 * (4 * (t.val % 2) + 2 * (l.val / 128) + l.val % 128 / 64) + l.val % 64)
      = bothR (PR m c L ((256 * (t.val % 2) + l.val) / 64)) (aD m c) ((1024 * (t.val / 2) + r.val) / 128)
        ((1024 * (t.val / 2) + r.val) % 128) (256 * (t.val % 2) + l.val)
    have e1 : 4 * (t.val % 2) + 2 * (l.val / 128) + l.val % 128 / 64 = (256 * (t.val % 2) + l.val) / 64 := by omega
    have e2 : 8 * (t.val / 2) + r.val / 128 = (1024 * (t.val / 2) + r.val) / 128 := by omega
    have e3 : r.val % 128 = (1024 * (t.val / 2) + r.val) % 128 := by omega
    have e4 : 64 * ((256 * (t.val % 2) + l.val) / 64) + l.val % 64 = 256 * (t.val % 2) + l.val := by omega
    rw [e1, e2, e4, ← e3]
  · have hi : (i 0).val < 8192 := (i 0).isLt
    have hj : (i 1).val < 512 := (i 1).isLt
    let t : Fin cfg0.N := ⟨2 * ((i 0).val / 1024) + (i 1).val / 256, show _ < 16 by omega⟩
    have ht : t.val = 2 * ((i 0).val / 1024) + (i 1).val / 256 := rfl
    have h0 := (by decide +kernel : ∀ t : Fin grid0.N, win0_14.index t 0 = t.val / 2) t
    have h1 := (by decide +kernel : ∀ t : Fin grid0.N, win0_14.index t 1 = t.val % 2) t
    refine ⟨t, flush0_14 t, ?_⟩
    show i ∈ ((View.whole main_v105_2).slice (win0_14.rect t)).set
    rw [View.set_slice_whole, Rect.mem_set_unit]
    intro a
    match a with
    | ⟨0, _⟩ => show win0_14.index t 0 * 1024 ≤ (i 0).val ∧ (i 0).val < win0_14.index t 0 * 1024 + 1024; omega
    | ⟨1, _⟩ => show win0_14.index t 1 * 256 ≤ (i 1).val ∧ (i 1).val < win0_14.index t 1 * 256 + 256; omega

end Cert.Kernel2Ideal.Attn

end
-- ==== Proof.AttnPre.lean ====
/- Arguments whose entries are all smaller in size than infinity are reals. -/
module

public import proofs.«01_k».proof.Defs
public import proofs.«01_k».proof.Proof.AttnSame
public import proofs.«01_k».proof.Proof.AttnMerge
public import proofs.«01_k».proof.Proof.AttnValue
public import proofs.«01_k».proof.Proof.Gen.Pre_finite

@[expose] public section

noncomputable section

namespace Cert.Kernel2Ideal.Attn

open Idealize.ShloMosaic Cert.Kernel2Ideal Cert.Kernel2Ideal.Gen

theorem top_bits : (FloatOps.ofBits .f32 0x7F800000#32 : Ideal .f32) = (⊤ : EReal) := by
  show Ideal.ofBits .f32 0x7F800000#32 = _
  simp [Ideal.ofBits, Ideal.ieee]

theorem real_of_abs (x : EReal) (h : Ideal.cmp .olt (max x (-x)) ⊤ = 1#1) : x ≠ ⊤ ∧ x ≠ ⊥ := by
  constructor <;> rintro rfl <;> simp [Ideal.cmp] at h

theorem allReal_of_lt {s : Shape} (X : FVec Ideal s .f32)
    (hb : Cert.Pre_finite.S_.BroadcastsInDim s (![] : Fin 0 → Fin s.rank))
    (h : cmpf .olt (Host.absf X) (broadcastInDim s ![] hb (constant Cert.Pre_finite.S_ .f32 0x7F800000#32))
      = fun _ => 1#1) : AllReal X := by
  intro i
  have hi : Ideal.cmp .olt (max (X i) (-(X i))) (FloatOps.ofBits .f32 0x7F800000#32 : Ideal .f32) = 1#1 := congrFun h i
  rw [top_bits] at hi
  exact real_of_abs (X i) hi

variable (m : (ℓ : Loc nD τ sig) → Buf (Elt Ideal) ℓ)

/-- The arguments on one device, all of them real. -/
def insOf (hpre : Cert.Pre_Kernel2Ideal_finite m) (c : Dev nD) : Ins where
  x0 := m ((c.tc : Thread nD τ).loc main_arg0)
  x1 := m ((c.tc : Thread nD τ).loc main_arg1)
  x2 := m ((c.tc : Thread nD τ).loc main_arg2)
  x3 := m ((c.tc : Thread nD τ).loc main_arg3)
  x4 := m ((c.tc : Thread nD τ).loc main_arg4)
  x5 := m ((c.tc : Thread nD τ).loc main_arg5)
  x6 := m ((c.tc : Thread nD τ).loc main_arg6)
  h0 := allReal_of_lt _ _ (hpre c).1
  h1 := allReal_of_lt _ _ (hpre c).2.1
  h2 := allReal_of_lt _ _ (hpre c).2.2.1
  h3 := allReal_of_lt _ _ (hpre c).2.2.2.1
  h4 := allReal_of_lt _ _ (hpre c).2.2.2.2.1
  h5 := allReal_of_lt _ _ (hpre c).2.2.2.2.2.1
  h6 := allReal_of_lt _ _ (hpre c).2.2.2.2.2.2

variable (hpre : Cert.Pre_Kernel2Ideal_finite m) (c : Dev nD)

/-- The merged log-sums the call is given. -/
def lOf (r H : ℕ) : EReal := ((Real.log ((insOf m hpre c).T r H) : ℝ) : EReal)

/-- The row sums of gradient times output the call is given. -/
def sOf (r H : ℕ) : EReal := (((insOf m hpre c).D r H : ℝ) : EReal)

theorem spread_of : Spread m c (lOf m hpre c) (sOf m hpre c) where
  lt r l := spread_lse (fun b => m (c, b)) (insOf m hpre c) rfl rfl rfl r l
  ds r l := spread_sum (fun b => m (c, b)) (insOf m hpre c) rfl rfl rfl rfl rfl rfl rfl r l

theorem same_of : Same (insOf m hpre c) (aQ m c) (aK m c) (aV m c) (aD m c) (lOf m hpre c) (sOf m hpre c) where
  q r l := rr_rd _ (insOf m hpre c).h0 0 r l
  k r l := rr_rd _ (insOf m hpre c).h0 1536 r l
  v r l := rr_rd _ (insOf m hpre c).h1 3072 r l
  d r l := rr_rd _ (insOf m hpre c).h6 0 r l
  l _ _ := rfl
  s _ _ := rfl

end Cert.Kernel2Ideal.Attn
-- ==== Proof.GradSum.lean ====
/- A sum over all rows as the sums over two halves of them; a three-axis buffer written whole. -/
module

public import Idealize.ShloMosaic.Lib.Pipeline.Value
public import Idealize.ShloMosaic.Lib.Pointwise

@[expose] public section

noncomputable section

namespace Idealize.ShloMosaic.GradSum

theorem sum_halves (f : Fin 8192 → EReal) :
    ∑ r : Fin 8192, f r = ∑ r : Fin 4096, f ⟨r.val, by omega⟩ + ∑ r : Fin 4096, f ⟨4096 + r.val, by omega⟩ :=
  Fin.sum_univ_add (M := EReal) (a := 4096) (b := 4096) f

variable {Val : EltTy → Type} {e : EltTy}

theorem corner3 : (![0, 0, 0] : Fin 3 → Nat) = fun _ => 0 := by decide

/-- Writing a whole three-axis buffer last leaves what was written. -/
theorem canon_all3 [∀ e, Nonempty (Val e)] {a b d : Nat}
    (inb : ∀ k, (![0, 0, 0] : Fin 3 → Nat) k + (![a, b, d] : Fin 3 → Nat) k ≤ (![a, b, d] : Fin 3 → Nat) k)
    (w : (⟨3, ![a, b, d]⟩ : Shape).Idx → Val e) (L : List (View.Piece Val (⟨3, ![a, b, d]⟩ : Shape) e)) :
    View.canon ((⟨Rect.unit (s := (⟨3, ![a, b, d]⟩ : Shape)) ![0, 0, 0] ![a, b, d] inb, w⟩ : View.Piece Val (⟨3, ![a, b, d]⟩ : Shape) e) :: L)
      = w :=
  View.canon_cons_unit_zero (S := (⟨3, ![a, b, d]⟩ : Shape)) corner3 inb w L

end Idealize.ShloMosaic.GradSum

end
-- ==== Proof.Grad3.lean ====
/- The weights' gradient `g_w_in0a`: the rows of both operands are summed in two halves; what the columns of each device ends holding. -/
module

public import proofs.«01_k».proof.Proof.Gen.Kernel3Ideal.Value
public import proofs.«01_k».proof.Proof.Gen.Reference3Ideal.Read
public import proofs.«01_k».proof.Proof.Rows
public import proofs.«01_k».proof.Proof.GradSum

@[expose] public section

noncomputable section

namespace Cert.Kernel3Ideal.Grad

open Cert.Kernel3Ideal Cert.Kernel3Ideal.Gen Cert.Kernel3Ideal.Value
open Idealize.ShloMosaic Idealize.ShloMosaic.TcCoe Idealize.SL.Sem Idealize.ShloMosaic.Bands Idealize.ShloMosaic.GradSum
open Idealize.ShloMosaic.Pipeline (Dat)

section Body

variable (c : Dev nD) (i : grid0.Coords) {arg2 : Memref sig .tc .vmem S4096x512 .bf16} {harg2 : arg2.IsWhole}
  {arg3 : Memref sig .tc .vmem S4096x896 .bf16} {harg3 : arg3.IsWhole} {arg4 : Memref sig .tc .vmem S1x512x896 .bf16}
  {harg4 : arg4.IsWhole} {arg5 : Memref sig .tc .vmem S512x896 .f32} {harg5 : arg5.IsWhole}
  (x0 : Vec Ideal S4096x512 .bf16) (x1 : Vec Ideal S4096x896 .bf16) (xs0 : Vec Ideal S512x896 .f32)

/-- A half of the rows' products, summed. -/
theorem half_at (k : Fin 512) (n : Fin 896) :
    k0_pay1 x0 x1 (ix2 k n) = ∑ r : Fin 4096, x0 (ix2 r k) * x1 (ix2 r n) := by
  pointwise [k0_pay1]

/-- After the first half the accumulator holds its sum. -/
theorem first_at (hc0 : cond0_0 i) (hc1 : ¬cond0_1 i) (hc2 : ¬cond0_2 i) (k : Fin 512) (n : Fin 896) :
    sout0_A_0 c i arg2 harg2 arg3 harg3 arg4 harg4 arg5 harg5 hc0 hc1 hc2 x0 x1 (ix2 k n) = ∑ r : Fin 4096, x0 (ix2 r k) * x1 (ix2 r n) := by
  unfold sout0_A_0
  rw [View.read_writes_junk_eq_canon]
  unfold kernelRun0_A
  dsimp only
  simp only [View.readCov_eq_canon', View.readAt_eq_ld, Memref.IsWhole.read_unread, ld_all, canon_all]
  rw [← half_at]
  pointwise [k0_pay2]

/-- After the second half the result's block holds the sum of both. -/
theorem second_at (hc0 : ¬cond0_0 i) (hc1 : cond0_1 i) (hc2 : cond0_2 i) (k : Fin 512) (n : Fin 896) :
    out0_B_2 c i arg2 harg2 arg3 harg3 arg4 harg4 arg5 harg5 hc0 hc1 hc2 x0 x1 xs0 (ix3 (0 : Fin 1) k n) = xs0 (ix2 k n) + ∑ r : Fin 4096, x0 (ix2 r k) * x1 (ix2 r n) := by
  unfold out0_B_2
  rw [View.read_writes_junk_eq_canon]
  unfold kernelRun0_B
  dsimp only
  simp only [kernelRun0_B.sl.v12, kernelRun0_B.sl.HS0_1, View.readCov_eq_canon', View.readAt_eq_ld, Memref.IsWhole.read_unread, ld_all, canon_all, canon_all3]
  rw [← half_at]
  pointwise [k0_pay4, k0_pay3]

end Body

variable (m : (ℓ : Loc nD τ sig) → Buf (Elt Ideal) ℓ) (c : Dev nD)

abbrev aH : S8192x1024.Idx → EReal := m ((c : Thread nD τ).loc main_arg0)
abbrev aD : S8192x7168.Idx → EReal := m ((c : Thread nD τ).loc main_arg1)

/-- The gradient of the weights at row `k` and column `n`. -/
@[irreducible] def grad (H : S8192x1024.Idx → EReal) (D : S8192x7168.Idx → EReal) (k : Fin 1024) (n : Fin 7168) : EReal :=
  ∑ r : Fin 8192, H (ix2 r k) * D (ix2 r n)

/-- The call's result. -/
def whole (H : S8192x1024.Idx → EReal) (D : S8192x7168.Idx → EReal) : S8x512x896.Idx → EReal := fun i =>
  grad H D ⟨(i 1).val, by have := (i 1).isLt; have : (i 1).val < 512 := this; omega⟩
    ⟨(i 0).val * 896 + (i 2).val, by have := (i 2).isLt; have : (i 2).val < 896 := this; have := (i 0).isLt; have : (i 0).val < 8 := this; omega⟩

theorem lt_N (t : Fin cfg0.N) : t.val < 16 := t.isLt

theorem at0 (t : Fin cfg0.N) (r : Fin 4096) (k : Fin 512) :
    iblk m c 0 t (ix2 r k) = aH m c (ix2 ⟨4096 * (t.val % 2) + r.val, by omega⟩ ⟨k.val, by omega⟩) := by
  have ht := lt_N t
  have h0 := (by decide +kernel : ∀ t : Fin grid0.N, win0_0.index t 0 = t.val % 2) t
  have h1 := (by decide +kernel : ∀ t : Fin grid0.N, win0_0.index t 1 = 0) t
  show V m c main_arg0 (((cfg0.win 0).blk t).view.emb (ix2 r k)) = _
  rw [V_main_arg0]
  refine congrArg (m ((c : Thread nD τ).loc main_arg0)) (funext fun a => ?_)
  match a with
  | ⟨0, _⟩ => exact Fin.ext (by show win0_0.index t 0 * 4096 + 1 * r.val = 4096 * (t.val % 2) + r.val; omega)
  | ⟨1, _⟩ => exact Fin.ext (by show win0_0.index t 1 * 512 + 1 * k.val = k.val; omega)

theorem at1 (t : Fin cfg0.N) (r : Fin 4096) (n : Fin 896) :
    iblk m c 1 t (ix2 r n) = aD m c (ix2 ⟨4096 * (t.val % 2) + r.val, by omega⟩
      ⟨(t.val / 2) * 896 + n.val, by have := lt_N t; omega⟩) := by
  have ht := lt_N t
  have h0 := (by decide +kernel : ∀ t : Fin grid0.N, win0_1.index t 0 = t.val % 2) t
  have h1 := (by decide +kernel : ∀ t : Fin grid0.N, win0_1.index t 1 = t.val / 2) t
  show V m c main_arg1 (((cfg0.win 1).blk t).view.emb (ix2 r n)) = _
  rw [V_main_arg1]
  refine congrArg (m ((c : Thread nD τ).loc main_arg1)) (funext fun a => ?_)
  match a with
  | ⟨0, _⟩ => exact Fin.ext (by show win0_1.index t 0 * 4096 + 1 * r.val = 4096 * (t.val % 2) + r.val; omega)
  | ⟨1, _⟩ => exact Fin.ext (by show win0_1.index t 1 * 896 + 1 * n.val = (t.val / 2) * 896 + n.val; omega)

/-- What the result's block holds when it is written back. -/
theorem left (t : Fin cfg0.N) (h : t.val % 2 = 1) (k : Fin 512) (n : Fin 896) :
    (outsAt0 m c t.val t.isLt).1 (ix3 (0 : Fin 1) k n)
      = grad (aH m c) (aD m c) ⟨k.val, by omega⟩ ⟨(t.val / 2) * 896 + n.val, by have := lt_N t; omega⟩ := by
  have ht := lt_N t
  rw [outsAt0_B m c t (by omega) h h]
  dsimp only
  rw [second_at]
  have hp := outsAt0_A m c ⟨t.val - 1, by have := t.isLt; omega⟩ (by dsimp only; omega) (by dsimp only; omega) (by dsimp only; omega)
  dsimp only at hp
  rw [hp]
  dsimp only
  rw [first_at]
  unfold grad
  rw [sum_halves]
  congr 1
  · refine Finset.sum_congr rfl fun r _ => ?_
    rw [at0, at1]
    have e1 : 4096 * ((t.val - 1) % 2) + r.val = r.val := by omega
    have e2 : (t.val - 1) / 2 = t.val / 2 := by omega
    simp only [e1, e2]
  · refine Finset.sum_congr rfl fun r _ => ?_
    rw [at0, at1]
    have e1 : 4096 * (t.val % 2) + r.val = 4096 + r.val := by omega
    simp only [e1]

/-- The call's result array. -/
theorem final : (dats m 0 c).arrAt 2 cfg0.N = whole (aH m c) (aD m c) := by
  refine (dats m 0 c).arrAt_eq_of_cover 2 (whole (aH m c) (aD m c)) (fun t hf => ?_) (fun i => ?_)
  · rw [flushed2]
    funext j
    obtain ⟨z, k, n, rfl⟩ : ∃ (z : Fin 1) (k : Fin 512) (n : Fin 896), j = ix3 z k n := ⟨j 0, j 1, j 2, eq_ix3 j⟩
    obtain rfl : z = 0 := Subsingleton.elim _ _
    have h0 := (by decide +kernel : ∀ t : Fin grid0.N, win0_2.index t 0 = t.val / 2) t
    have h1 := (by decide +kernel : ∀ t : Fin grid0.N, win0_2.index t 1 = 0) t
    have h2 := (by decide +kernel : ∀ t : Fin grid0.N, win0_2.index t 2 = 0) t
    have ht := lt_N t
    have hodd : t.val % 2 = 1 := (by decide +kernel : ∀ t : Fin grid0.N, win0_2.flush t = true → t.val % 2 = 1) t hf
    refine (left m c t hodd k n).trans ?_
    show _ = whole (aH m c) (aD m c) (((cfg0.win 2).blk t).view.emb (ix3 (0 : Fin 1) k n))
    have e : ((cfg0.win 2).blk t).view.emb (ix3 (0 : Fin 1) k n) = (ix3 (⟨t.val / 2, by omega⟩ : Fin 8) k n : S8x512x896.Idx) := by
      funext a
      match a with
      | ⟨0, _⟩ => exact Fin.ext (by show win0_2.index t 0 * 1 + 1 * 0 = t.val / 2; omega)
      | ⟨1, _⟩ => exact Fin.ext (by show win0_2.index t 1 * 512 + 1 * k.val = k.val; omega)
      | ⟨2, _⟩ => exact Fin.ext (by show win0_2.index t 2 * 896 + 1 * n.val = n.val; omega)
    rw [e]
    rfl
  · have i0 : (i 0).val < 8 := (i 0).isLt
    have i1 : (i 1).val < 512 := (i 1).isLt
    have i2 : (i 2).val < 896 := (i 2).isLt
    let t : Fin cfg0.N := ⟨2 * ((i 0).val) + 1, show 2 * ((i 0).val) + 1 < 16 by omega⟩
    have ht : t.val = 2 * ((i 0).val) + 1 := rfl
    have h0 := (by decide +kernel : ∀ t : Fin grid0.N, win0_2.index t 0 = t.val / 2) t
    have h1 := (by decide +kernel : ∀ t : Fin grid0.N, win0_2.index t 1 = 0) t
    have h2 := (by decide +kernel : ∀ t : Fin grid0.N, win0_2.index t 2 = 0) t
    refine ⟨t, (by decide +kernel : ∀ t : Fin grid0.N, t.val % 2 = 1 → win0_2.flush t = true) t (by omega), ?_⟩
    show i ∈ ((View.whole main_v0).slice (win0_2.rect t)).set
    rw [View.set_slice_whole, Rect.mem_set_unit]
    intro a
    match a with
    | ⟨0, _⟩ => show win0_2.index t 0 * 1 ≤ (i 0).val ∧ (i 0).val < win0_2.index t 0 * 1 + 1; omega
    | ⟨1, _⟩ => show win0_2.index t 1 * 512 ≤ (i 1).val ∧ (i 1).val < win0_2.index t 1 * 512 + 512; omega
    | ⟨2, _⟩ => show win0_2.index t 2 * 896 ≤ (i 2).val ∧ (i 2).val < win0_2.index t 2 * 896 + 896; omega

/-- The reference's result is the same array. -/
theorem reference_eq (H : S8192x1024.Idx → EReal) (D : S8192x7168.Idx → EReal) (i : S8x512x896.Idx) :
    Cert.Reference3Ideal.Read.val_main_v9 (F := Ideal) H D i = whole H D i := by
  have i0 : (i 0).val < 8 := (i 0).isLt
  have i1 : (i 1).val < 512 := (i 1).isLt
  have i2 : (i 2).val < 896 := (i 2).isLt
  rw [Cert.Reference3Ideal.Read.val_main_v9_apply, Cert.Reference3Ideal.Read.val_main_v8_apply, Cert.Reference3Ideal.Read.val_main_v7_apply, Cert.Reference3Ideal.Read.val_main_v6_apply, Cert.Reference3Ideal.Read.val_main_v5_apply, Cert.Reference3Ideal.Read.val_main_v4_apply]
  unfold whole grad
  refine Finset.sum_congr rfl fun r _ => ?_
  rw [Cert.Reference3Ideal.Read.val_main_v3_apply, Cert.Reference3Ideal.Read.val_main_v1_apply]
  refine (mul_comm _ _).trans ?_
  congr 1
  · refine congrArg H (funext fun a => ?_)
    match a with
    | ⟨0, _⟩ => rfl
    | ⟨1, _⟩ => exact Fin.ext (by first | rfl | (dsimp; omega))
  · refine congrArg D (funext fun a => ?_)
    match a with
    | ⟨0, _⟩ => rfl
    | ⟨1, _⟩ => exact Fin.ext (by first | rfl | (dsimp; omega))

end Cert.Kernel3Ideal.Grad

end
-- ==== Proof.Grad4.lean ====
/- The weights' gradient `g_w_in0b`: the rows of both operands are summed in two halves; what the columns of each device ends holding. -/
module

public import proofs.«01_k».proof.Proof.Gen.Kernel4Ideal.Value
public import proofs.«01_k».proof.Proof.Gen.Reference4Ideal.Read
public import proofs.«01_k».proof.Proof.Rows
public import proofs.«01_k».proof.Proof.GradSum

@[expose] public section

noncomputable section

namespace Cert.Kernel4Ideal.Grad

open Cert.Kernel4Ideal Cert.Kernel4Ideal.Gen Cert.Kernel4Ideal.Value
open Idealize.ShloMosaic Idealize.ShloMosaic.TcCoe Idealize.SL.Sem Idealize.ShloMosaic.Bands Idealize.ShloMosaic.GradSum
open Idealize.ShloMosaic.Pipeline (Dat)

section Body

variable (c : Dev nD) (i : grid0.Coords) {arg2 : Memref sig .tc .vmem S4096x512 .bf16} {harg2 : arg2.IsWhole}
  {arg3 : Memref sig .tc .vmem S4096x896 .bf16} {harg3 : arg3.IsWhole} {arg4 : Memref sig .tc .vmem S1x512x896 .bf16}
  {harg4 : arg4.IsWhole} {arg5 : Memref sig .tc .vmem S512x896 .f32} {harg5 : arg5.IsWhole}
  (x0 : Vec Ideal S4096x512 .bf16) (x1 : Vec Ideal S4096x896 .bf16) (xs0 : Vec Ideal S512x896 .f32)

/-- A half of the rows' products, summed. -/
theorem half_at (k : Fin 512) (n : Fin 896) :
    k0_pay1 x0 x1 (ix2 k n) = ∑ r : Fin 4096, x0 (ix2 r k) * x1 (ix2 r n) := by
  pointwise [k0_pay1]

/-- After the first half the accumulator holds its sum. -/
theorem first_at (hc0 : cond0_0 i) (hc1 : ¬cond0_1 i) (hc2 : ¬cond0_2 i) (k : Fin 512) (n : Fin 896) :
    sout0_A_0 c i arg2 harg2 arg3 harg3 arg4 harg4 arg5 harg5 hc0 hc1 hc2 x0 x1 (ix2 k n) = ∑ r : Fin 4096, x0 (ix2 r k) * x1 (ix2 r n) := by
  unfold sout0_A_0
  rw [View.read_writes_junk_eq_canon]
  unfold kernelRun0_A
  dsimp only
  simp only [View.readCov_eq_canon', View.readAt_eq_ld, Memref.IsWhole.read_unread, ld_all, canon_all]
  rw [← half_at]
  pointwise [k0_pay2]

/-- After the second half the result's block holds the sum of both. -/
theorem second_at (hc0 : ¬cond0_0 i) (hc1 : cond0_1 i) (hc2 : cond0_2 i) (k : Fin 512) (n : Fin 896) :
    out0_B_2 c i arg2 harg2 arg3 harg3 arg4 harg4 arg5 harg5 hc0 hc1 hc2 x0 x1 xs0 (ix3 (0 : Fin 1) k n) = xs0 (ix2 k n) + ∑ r : Fin 4096, x0 (ix2 r k) * x1 (ix2 r n) := by
  unfold out0_B_2
  rw [View.read_writes_junk_eq_canon]
  unfold kernelRun0_B
  dsimp only
  simp only [kernelRun0_B.sl.v12, kernelRun0_B.sl.HS0_1, View.readCov_eq_canon', View.readAt_eq_ld, Memref.IsWhole.read_unread, ld_all, canon_all, canon_all3]
  rw [← half_at]
  pointwise [k0_pay4, k0_pay3]

end Body

variable (m : (ℓ : Loc nD τ sig) → Buf (Elt Ideal) ℓ) (c : Dev nD)

abbrev aH : S8192x1024.Idx → EReal := m ((c : Thread nD τ).loc main_arg0)
abbrev aD : S8192x7168.Idx → EReal := m ((c : Thread nD τ).loc main_arg1)

/-- The gradient of the weights at row `k` and column `n`. -/
@[irreducible] def grad (H : S8192x1024.Idx → EReal) (D : S8192x7168.Idx → EReal) (k : Fin 1024) (n : Fin 7168) : EReal :=
  ∑ r : Fin 8192, H (ix2 r k) * D (ix2 r n)

/-- The call's result. -/
def whole (H : S8192x1024.Idx → EReal) (D : S8192x7168.Idx → EReal) : S8x512x896.Idx → EReal := fun i =>
  grad H D ⟨512 + (i 1).val, by have := (i 1).isLt; have : (i 1).val < 512 := this; omega⟩
    ⟨(i 0).val * 896 + (i 2).val, by have := (i 2).isLt; have : (i 2).val < 896 := this; have := (i 0).isLt; have : (i 0).val < 8 := this; omega⟩

theorem lt_N (t : Fin cfg0.N) : t.val < 16 := t.isLt

theorem at0 (t : Fin cfg0.N) (r : Fin 4096) (k : Fin 512) :
    iblk m c 0 t (ix2 r k) = aH m c (ix2 ⟨4096 * (t.val % 2) + r.val, by omega⟩ ⟨512 + k.val, by omega⟩) := by
  have ht := lt_N t
  have h0 := (by decide +kernel : ∀ t : Fin grid0.N, win0_0.index t 0 = t.val % 2) t
  have h1 := (by decide +kernel : ∀ t : Fin grid0.N, win0_0.index t 1 = 1) t
  show V m c main_arg0 (((cfg0.win 0).blk t).view.emb (ix2 r k)) = _
  rw [V_main_arg0]
  refine congrArg (m ((c : Thread nD τ).loc main_arg0)) (funext fun a => ?_)
  match a with
  | ⟨0, _⟩ => exact Fin.ext (by show win0_0.index t 0 * 4096 + 1 * r.val = 4096 * (t.val % 2) + r.val; omega)
  | ⟨1, _⟩ => exact Fin.ext (by show win0_0.index t 1 * 512 + 1 * k.val = 512 + k.val; omega)

theorem at1 (t : Fin cfg0.N) (r : Fin 4096) (n : Fin 896) :
    iblk m c 1 t (ix2 r n) = aD m c (ix2 ⟨4096 * (t.val % 2) + r.val, by omega⟩
      ⟨(t.val / 2) * 896 + n.val, by have := lt_N t; omega⟩) := by
  have ht := lt_N t
  have h0 := (by decide +kernel : ∀ t : Fin grid0.N, win0_1.index t 0 = t.val % 2) t
  have h1 := (by decide +kernel : ∀ t : Fin grid0.N, win0_1.index t 1 = t.val / 2) t
  show V m c main_arg1 (((cfg0.win 1).blk t).view.emb (ix2 r n)) = _
  rw [V_main_arg1]
  refine congrArg (m ((c : Thread nD τ).loc main_arg1)) (funext fun a => ?_)
  match a with
  | ⟨0, _⟩ => exact Fin.ext (by show win0_1.index t 0 * 4096 + 1 * r.val = 4096 * (t.val % 2) + r.val; omega)
  | ⟨1, _⟩ => exact Fin.ext (by show win0_1.index t 1 * 896 + 1 * n.val = (t.val / 2) * 896 + n.val; omega)

/-- What the result's block holds when it is written back. -/
theorem left (t : Fin cfg0.N) (h : t.val % 2 = 1) (k : Fin 512) (n : Fin 896) :
    (outsAt0 m c t.val t.isLt).1 (ix3 (0 : Fin 1) k n)
      = grad (aH m c) (aD m c) ⟨512 + k.val, by omega⟩ ⟨(t.val / 2) * 896 + n.val, by have := lt_N t; omega⟩ := by
  have ht := lt_N t
  rw [outsAt0_B m c t (by omega) h h]
  dsimp only
  rw [second_at]
  have hp := outsAt0_A m c ⟨t.val - 1, by have := t.isLt; omega⟩ (by dsimp only; omega) (by dsimp only; omega) (by dsimp only; omega)
  dsimp only at hp
  rw [hp]
  dsimp only
  rw [first_at]
  unfold grad
  rw [sum_halves]
  congr 1
  · refine Finset.sum_congr rfl fun r _ => ?_
    rw [at0, at1]
    have e1 : 4096 * ((t.val - 1) % 2) + r.val = r.val := by omega
    have e2 : (t.val - 1) / 2 = t.val / 2 := by omega
    simp only [e1, e2]
  · refine Finset.sum_congr rfl fun r _ => ?_
    rw [at0, at1]
    have e1 : 4096 * (t.val % 2) + r.val = 4096 + r.val := by omega
    simp only [e1]

/-- The call's result array. -/
theorem final : (dats m 0 c).arrAt 2 cfg0.N = whole (aH m c) (aD m c) := by
  refine (dats m 0 c).arrAt_eq_of_cover 2 (whole (aH m c) (aD m c)) (fun t hf => ?_) (fun i => ?_)
  · rw [flushed2]
    funext j
    obtain ⟨z, k, n, rfl⟩ : ∃ (z : Fin 1) (k : Fin 512) (n : Fin 896), j = ix3 z k n := ⟨j 0, j 1, j 2, eq_ix3 j⟩
    obtain rfl : z = 0 := Subsingleton.elim _ _
    have h0 := (by decide +kernel : ∀ t : Fin grid0.N, win0_2.index t 0 = t.val / 2) t
    have h1 := (by decide +kernel : ∀ t : Fin grid0.N, win0_2.index t 1 = 0) t
    have h2 := (by decide +kernel : ∀ t : Fin grid0.N, win0_2.index t 2 = 0) t
    have ht := lt_N t
    have hodd : t.val % 2 = 1 := (by decide +kernel : ∀ t : Fin grid0.N, win0_2.flush t = true → t.val % 2 = 1) t hf
    refine (left m c t hodd k n).trans ?_
    show _ = whole (aH m c) (aD m c) (((cfg0.win 2).blk t).view.emb (ix3 (0 : Fin 1) k n))
    have e : ((cfg0.win 2).blk t).view.emb (ix3 (0 : Fin 1) k n) = (ix3 (⟨t.val / 2, by omega⟩ : Fin 8) k n : S8x512x896.Idx) := by
      funext a
      match a with
      | ⟨0, _⟩ => exact Fin.ext (by show win0_2.index t 0 * 1 + 1 * 0 = t.val / 2; omega)
      | ⟨1, _⟩ => exact Fin.ext (by show win0_2.index t 1 * 512 + 1 * k.val = k.val; omega)
      | ⟨2, _⟩ => exact Fin.ext (by show win0_2.index t 2 * 896 + 1 * n.val = n.val; omega)
    rw [e]
    rfl
  · have i0 : (i 0).val < 8 := (i 0).isLt
    have i1 : (i 1).val < 512 := (i 1).isLt
    have i2 : (i 2).val < 896 := (i 2).isLt
    let t : Fin cfg0.N := ⟨2 * ((i 0).val) + 1, show 2 * ((i 0).val) + 1 < 16 by omega⟩
    have ht : t.val = 2 * ((i 0).val) + 1 := rfl
    have h0 := (by decide +kernel : ∀ t : Fin grid0.N, win0_2.index t 0 = t.val / 2) t
    have h1 := (by decide +kernel : ∀ t : Fin grid0.N, win0_2.index t 1 = 0) t
    have h2 := (by decide +kernel : ∀ t : Fin grid0.N, win0_2.index t 2 = 0) t
    refine ⟨t, (by decide +kernel : ∀ t : Fin grid0.N, t.val % 2 = 1 → win0_2.flush t = true) t (by omega), ?_⟩
    show i ∈ ((View.whole main_v0).slice (win0_2.rect t)).set
    rw [View.set_slice_whole, Rect.mem_set_unit]
    intro a
    match a with
    | ⟨0, _⟩ => show win0_2.index t 0 * 1 ≤ (i 0).val ∧ (i 0).val < win0_2.index t 0 * 1 + 1; omega
    | ⟨1, _⟩ => show win0_2.index t 1 * 512 ≤ (i 1).val ∧ (i 1).val < win0_2.index t 1 * 512 + 512; omega
    | ⟨2, _⟩ => show win0_2.index t 2 * 896 ≤ (i 2).val ∧ (i 2).val < win0_2.index t 2 * 896 + 896; omega

/-- The reference's result is the same array. -/
theorem reference_eq (H : S8192x1024.Idx → EReal) (D : S8192x7168.Idx → EReal) (i : S8x512x896.Idx) :
    Cert.Reference4Ideal.Read.val_main_v9 (F := Ideal) H D i = whole H D i := by
  have i0 : (i 0).val < 8 := (i 0).isLt
  have i1 : (i 1).val < 512 := (i 1).isLt
  have i2 : (i 2).val < 896 := (i 2).isLt
  rw [Cert.Reference4Ideal.Read.val_main_v9_apply, Cert.Reference4Ideal.Read.val_main_v8_apply, Cert.Reference4Ideal.Read.val_main_v7_apply, Cert.Reference4Ideal.Read.val_main_v6_apply, Cert.Reference4Ideal.Read.val_main_v5_apply, Cert.Reference4Ideal.Read.val_main_v4_apply]
  unfold whole grad
  refine Finset.sum_congr rfl fun r _ => ?_
  rw [Cert.Reference4Ideal.Read.val_main_v3_apply, Cert.Reference4Ideal.Read.val_main_v1_apply]
  refine (mul_comm _ _).trans ?_
  congr 1
  · refine congrArg H (funext fun a => ?_)
    match a with
    | ⟨0, _⟩ => rfl
    | ⟨1, _⟩ => exact Fin.ext (by first | rfl | (dsimp; omega))
  · refine congrArg D (funext fun a => ?_)
    match a with
    | ⟨0, _⟩ => rfl
    | ⟨1, _⟩ => exact Fin.ext (by first | rfl | (dsimp; omega))

end Cert.Kernel4Ideal.Grad

end
-- ==== Proof.Grad5.lean ====
/- The weights' gradient `g_w_in1`: the rows of both operands are summed in two halves; what each block of columns ends holding. -/
module

public import proofs.«01_k».proof.Proof.Gen.Kernel5Ideal.Value
public import proofs.«01_k».proof.Proof.Gen.Reference5Ideal.Read
public import proofs.«01_k».proof.Proof.Rows
public import proofs.«01_k».proof.Proof.GradSum

@[expose] public section

noncomputable section

namespace Cert.Kernel5Ideal.Grad

open Cert.Kernel5Ideal Cert.Kernel5Ideal.Gen Cert.Kernel5Ideal.Value
open Idealize.ShloMosaic Idealize.ShloMosaic.TcCoe Idealize.SL.Sem Idealize.ShloMosaic.Bands Idealize.ShloMosaic.GradSum
open Idealize.ShloMosaic.Pipeline (Dat)

section Body

variable (c : Dev nD) (i : grid0.Coords) {arg2 : Memref sig .tc .vmem S4096x1024 .bf16} {harg2 : arg2.IsWhole}
  {arg3 : Memref sig .tc .vmem S4096x512 .bf16} {harg3 : arg3.IsWhole} {arg4 : Memref sig .tc .vmem S1024x512 .bf16}
  {harg4 : arg4.IsWhole} {arg5 : Memref sig .tc .vmem S1024x512 .f32} {harg5 : arg5.IsWhole}
  (x0 : Vec Ideal S4096x1024 .bf16) (x1 : Vec Ideal S4096x512 .bf16) (xs0 : Vec Ideal S1024x512 .f32)

/-- A half of the rows' products, summed. -/
theorem half_at (k : Fin 1024) (n : Fin 512) :
    k0_pay1 x0 x1 (ix2 k n) = ∑ r : Fin 4096, x0 (ix2 r k) * x1 (ix2 r n) := by
  pointwise [k0_pay1]

/-- After the first half the accumulator holds its sum. -/
theorem first_at (hc0 : cond0_0 i) (hc1 : ¬cond0_1 i) (hc2 : ¬cond0_2 i) (k : Fin 1024) (n : Fin 512) :
    sout0_A_0 c i arg2 harg2 arg3 harg3 arg4 harg4 arg5 harg5 hc0 hc1 hc2 x0 x1 (ix2 k n) = ∑ r : Fin 4096, x0 (ix2 r k) * x1 (ix2 r n) := by
  unfold sout0_A_0
  rw [View.read_writes_junk_eq_canon]
  unfold kernelRun0_A
  dsimp only
  simp only [View.readCov_eq_canon', View.readAt_eq_ld, Memref.IsWhole.read_unread, ld_all, canon_all]
  rw [← half_at]
  pointwise [k0_pay2]

/-- After the second half the result's block holds the sum of both. -/
theorem second_at (hc0 : ¬cond0_0 i) (hc1 : cond0_1 i) (hc2 : cond0_2 i) (k : Fin 1024) (n : Fin 512) :
    out0_B_2 c i arg2 harg2 arg3 harg3 arg4 harg4 arg5 harg5 hc0 hc1 hc2 x0 x1 xs0 (ix2 k n) = xs0 (ix2 k n) + ∑ r : Fin 4096, x0 (ix2 r k) * x1 (ix2 r n) := by
  unfold out0_B_2
  rw [View.read_writes_junk_eq_canon]
  unfold kernelRun0_B
  dsimp only
  simp only [kernelRun0_B.sl.v12, kernelRun0_B.sl.HS0_1, View.readCov_eq_canon', View.readAt_eq_ld, Memref.IsWhole.read_unread, ld_all, canon_all, canon_all3]
  rw [← half_at]
  pointwise [k0_pay4, k0_pay3]

end Body

variable (m : (ℓ : Loc nD τ sig) → Buf (Elt Ideal) ℓ) (c : Dev nD)

abbrev aH : S8192x1024.Idx → EReal := m ((c : Thread nD τ).loc main_arg0)
abbrev aD : S8192x2560.Idx → EReal := m ((c : Thread nD τ).loc main_arg1)

/-- The gradient of the weights at row `k` and column `n`. -/
@[irreducible] def grad (H : S8192x1024.Idx → EReal) (D : S8192x2560.Idx → EReal) (k : Fin 1024) (n : Fin 2560) : EReal :=
  ∑ r : Fin 8192, H (ix2 r k) * D (ix2 r n)

/-- The call's result. -/
def whole (H : S8192x1024.Idx → EReal) (D : S8192x2560.Idx → EReal) : S1024x2560.Idx → EReal := fun i =>
  grad H D ⟨(i 0).val, by have := (i 0).isLt; have : (i 0).val < 1024 := this; omega⟩
    ⟨(i 1).val, by have := (i 1).isLt; have : (i 1).val < 2560 := this; omega⟩

theorem lt_N (t : Fin cfg0.N) : t.val < 10 := t.isLt

theorem at0 (t : Fin cfg0.N) (r : Fin 4096) (k : Fin 1024) :
    iblk m c 0 t (ix2 r k) = aH m c (ix2 ⟨4096 * (t.val % 2) + r.val, by omega⟩ ⟨k.val, by omega⟩) := by
  have ht := lt_N t
  have h0 := (by decide +kernel : ∀ t : Fin grid0.N, win0_0.index t 0 = t.val % 2) t
  have h1 := (by decide +kernel : ∀ t : Fin grid0.N, win0_0.index t 1 = 0) t
  show V m c main_arg0 (((cfg0.win 0).blk t).view.emb (ix2 r k)) = _
  rw [V_main_arg0]
  refine congrArg (m ((c : Thread nD τ).loc main_arg0)) (funext fun a => ?_)
  match a with
  | ⟨0, _⟩ => exact Fin.ext (by show win0_0.index t 0 * 4096 + 1 * r.val = 4096 * (t.val % 2) + r.val; omega)
  | ⟨1, _⟩ => exact Fin.ext (by show win0_0.index t 1 * 1024 + 1 * k.val = k.val; omega)

theorem at1 (t : Fin cfg0.N) (r : Fin 4096) (n : Fin 512) :
    iblk m c 1 t (ix2 r n) = aD m c (ix2 ⟨4096 * (t.val % 2) + r.val, by omega⟩
      ⟨(t.val / 2) * 512 + n.val, by have := lt_N t; omega⟩) := by
  have ht := lt_N t
  have h0 := (by decide +kernel : ∀ t : Fin grid0.N, win0_1.index t 0 = t.val % 2) t
  have h1 := (by decide +kernel : ∀ t : Fin grid0.N, win0_1.index t 1 = t.val / 2) t
  show V m c main_arg1 (((cfg0.win 1).blk t).view.emb (ix2 r n)) = _
  rw [V_main_arg1]
  refine congrArg (m ((c : Thread nD τ).loc main_arg1)) (funext fun a => ?_)
  match a with
  | ⟨0, _⟩ => exact Fin.ext (by show win0_1.index t 0 * 4096 + 1 * r.val = 4096 * (t.val % 2) + r.val; omega)
  | ⟨1, _⟩ => exact Fin.ext (by show win0_1.index t 1 * 512 + 1 * n.val = (t.val / 2) * 512 + n.val; omega)

/-- What the result's block holds when it is written back. -/
theorem left (t : Fin cfg0.N) (h : t.val % 2 = 1) (k : Fin 1024) (n : Fin 512) :
    (outsAt0 m c t.val t.isLt).1 (ix2 k n)
      = grad (aH m c) (aD m c) ⟨k.val, by omega⟩ ⟨(t.val / 2) * 512 + n.val, by have := lt_N t; omega⟩ := by
  have ht := lt_N t
  rw [outsAt0_B m c t (by omega) h h]
  dsimp only
  rw [second_at]
  have hp := outsAt0_A m c ⟨t.val - 1, by have := t.isLt; omega⟩ (by dsimp only; omega) (by dsimp only; omega) (by dsimp only; omega)
  dsimp only at hp
  rw [hp]
  dsimp only
  rw [first_at]
  unfold grad
  rw [sum_halves]
  congr 1
  · refine Finset.sum_congr rfl fun r _ => ?_
    rw [at0, at1]
    have e1 : 4096 * ((t.val - 1) % 2) + r.val = r.val := by omega
    have e2 : (t.val - 1) / 2 = t.val / 2 := by omega
    simp only [e1, e2]
  · refine Finset.sum_congr rfl fun r _ => ?_
    rw [at0, at1]
    have e1 : 4096 * (t.val % 2) + r.val = 4096 + r.val := by omega
    simp only [e1]

/-- The call's result array. -/
theorem final : (dats m 0 c).arrAt 2 cfg0.N = whole (aH m c) (aD m c) := by
  refine (dats m 0 c).arrAt_eq_of_cover 2 (whole (aH m c) (aD m c)) (fun t hf => ?_) (fun i => ?_)
  · rw [flushed2]
    funext j
    obtain ⟨k, n, rfl⟩ : ∃ (k : Fin 1024) (n : Fin 512), j = ix2 k n := ⟨j 0, j 1, eq_ix2 j⟩
    have h0 := (by decide +kernel : ∀ t : Fin grid0.N, win0_2.index t 0 = 0) t
    have h1 := (by decide +kernel : ∀ t : Fin grid0.N, win0_2.index t 1 = t.val / 2) t
    have ht := lt_N t
    have hodd : t.val % 2 = 1 := (by decide +kernel : ∀ t : Fin grid0.N, win0_2.flush t = true → t.val % 2 = 1) t hf
    refine (left m c t hodd k n).trans ?_
    show _ = whole (aH m c) (aD m c) (((cfg0.win 2).blk t).view.emb (ix2 k n))
    have e : ((cfg0.win 2).blk t).view.emb (ix2 k n) = (ix2 k (⟨512 * (t.val / 2) + n.val, by omega⟩ : Fin 2560) : S1024x2560.Idx) := by
      funext a
      match a with
      | ⟨0, _⟩ => exact Fin.ext (by show win0_2.index t 0 * 1024 + 1 * k.val = k.val; omega)
      | ⟨1, _⟩ => exact Fin.ext (by show win0_2.index t 1 * 512 + 1 * n.val = 512 * (t.val / 2) + n.val; omega)
    rw [e]
    have e2 : (t.val / 2) * 512 + n.val = 512 * (t.val / 2) + n.val := by omega
    simp only [e2]
    rfl
  · have i0 : (i 0).val < 1024 := (i 0).isLt
    have i1 : (i 1).val < 2560 := (i 1).isLt
    let t : Fin cfg0.N := ⟨2 * ((i 1).val / 512) + 1, show 2 * ((i 1).val / 512) + 1 < 10 by omega⟩
    have ht : t.val = 2 * ((i 1).val / 512) + 1 := rfl
    have h0 := (by decide +kernel : ∀ t : Fin grid0.N, win0_2.index t 0 = 0) t
    have h1 := (by decide +kernel : ∀ t : Fin grid0.N, win0_2.index t 1 = t.val / 2) t
    refine ⟨t, (by decide +kernel : ∀ t : Fin grid0.N, t.val % 2 = 1 → win0_2.flush t = true) t (by omega), ?_⟩
    show i ∈ ((View.whole main_v0).slice (win0_2.rect t)).set
    rw [View.set_slice_whole, Rect.mem_set_unit]
    intro a
    match a with
    | ⟨0, _⟩ => show win0_2.index t 0 * 1024 ≤ (i 0).val ∧ (i 0).val < win0_2.index t 0 * 1024 + 1024; omega
    | ⟨1, _⟩ => show win0_2.index t 1 * 512 ≤ (i 1).val ∧ (i 1).val < win0_2.index t 1 * 512 + 512; omega

/-- The reference's result is the same array. -/
theorem reference_eq (H : S8192x1024.Idx → EReal) (D : S8192x2560.Idx → EReal) (i : S1024x2560.Idx) :
    Cert.Reference5Ideal.Read.val_main_v6 (F := Ideal) H D i = whole H D i := by
  have i0 : (i 0).val < 1024 := (i 0).isLt
  have i1 : (i 1).val < 2560 := (i 1).isLt
  rw [Cert.Reference5Ideal.Read.val_main_v6_apply, Cert.Reference5Ideal.Read.val_main_v5_apply, Cert.Reference5Ideal.Read.val_main_v4_apply]
  unfold whole grad
  refine Finset.sum_congr rfl fun r _ => ?_
  rw [Cert.Reference5Ideal.Read.val_main_v3_apply, Cert.Reference5Ideal.Read.val_main_v1_apply]
  refine (mul_comm _ _).trans ?_
  congr 1
  · refine congrArg H (funext fun a => ?_)
    match a with
    | ⟨0, _⟩ => rfl
    | ⟨1, _⟩ => exact Fin.ext (by first | rfl | (dsimp; omega))
  · refine congrArg D (funext fun a => ?_)
    match a with
    | ⟨0, _⟩ => rfl
    | ⟨1, _⟩ => exact Fin.ext (by first | rfl | (dsimp; omega))

end Cert.Kernel5Ideal.Grad

end
-- ==== Proof.Grad6.lean ====
/- The weights' gradient `g_w_out1`: the rows of both operands are summed in two halves; what each block of columns ends holding. -/
module

public import proofs.«01_k».proof.Proof.Gen.Kernel6Ideal.Value
public import proofs.«01_k».proof.Proof.Gen.Reference6Ideal.Read
public import proofs.«01_k».proof.Proof.Rows
public import proofs.«01_k».proof.Proof.GradSum

@[expose] public section

noncomputable section

namespace Cert.Kernel6Ideal.Grad

open Cert.Kernel6Ideal Cert.Kernel6Ideal.Gen Cert.Kernel6Ideal.Value
open Idealize.ShloMosaic Idealize.ShloMosaic.TcCoe Idealize.SL.Sem Idealize.ShloMosaic.Bands Idealize.ShloMosaic.GradSum
open Idealize.ShloMosaic.Pipeline (Dat)

section Body

variable (c : Dev nD) (i : grid0.Coords) {arg2 : Memref sig .tc .vmem S4096x1024 .bf16} {harg2 : arg2.IsWhole}
  {arg3 : Memref sig .tc .vmem S4096x512 .bf16} {harg3 : arg3.IsWhole} {arg4 : Memref sig .tc .vmem S1024x512 .bf16}
  {harg4 : arg4.IsWhole} {arg5 : Memref sig .tc .vmem S1024x512 .f32} {harg5 : arg5.IsWhole}
  (x0 : Vec Ideal S4096x1024 .bf16) (x1 : Vec Ideal S4096x512 .bf16) (xs0 : Vec Ideal S1024x512 .f32)

/-- A half of the rows' products, summed. -/
theorem half_at (k : Fin 1024) (n : Fin 512) :
    k0_pay1 x0 x1 (ix2 k n) = ∑ r : Fin 4096, x0 (ix2 r k) * x1 (ix2 r n) := by
  pointwise [k0_pay1]

/-- After the first half the accumulator holds its sum. -/
theorem first_at (hc0 : cond0_0 i) (hc1 : ¬cond0_1 i) (hc2 : ¬cond0_2 i) (k : Fin 1024) (n : Fin 512) :
    sout0_A_0 c i arg2 harg2 arg3 harg3 arg4 harg4 arg5 harg5 hc0 hc1 hc2 x0 x1 (ix2 k n) = ∑ r : Fin 4096, x0 (ix2 r k) * x1 (ix2 r n) := by
  unfold sout0_A_0
  rw [View.read_writes_junk_eq_canon]
  unfold kernelRun0_A
  dsimp only
  simp only [View.readCov_eq_canon', View.readAt_eq_ld, Memref.IsWhole.read_unread, ld_all, canon_all]
  rw [← half_at]
  pointwise [k0_pay2]

/-- After the second half the result's block holds the sum of both. -/
theorem second_at (hc0 : ¬cond0_0 i) (hc1 : cond0_1 i) (hc2 : cond0_2 i) (k : Fin 1024) (n : Fin 512) :
    out0_B_2 c i arg2 harg2 arg3 harg3 arg4 harg4 arg5 harg5 hc0 hc1 hc2 x0 x1 xs0 (ix2 k n) = xs0 (ix2 k n) + ∑ r : Fin 4096, x0 (ix2 r k) * x1 (ix2 r n) := by
  unfold out0_B_2
  rw [View.read_writes_junk_eq_canon]
  unfold kernelRun0_B
  dsimp only
  simp only [kernelRun0_B.sl.v12, kernelRun0_B.sl.HS0_1, View.readCov_eq_canon', View.readAt_eq_ld, Memref.IsWhole.read_unread, ld_all, canon_all, canon_all3]
  rw [← half_at]
  pointwise [k0_pay4, k0_pay3]

end Body

variable (m : (ℓ : Loc nD τ sig) → Buf (Elt Ideal) ℓ) (c : Dev nD)

abbrev aH : S8192x1024.Idx → EReal := m ((c : Thread nD τ).loc main_arg0)
abbrev aD : S8192x1024.Idx → EReal := m ((c : Thread nD τ).loc main_arg1)

/-- The gradient of the weights at row `k` and column `n`. -/
@[irreducible] def grad (H : S8192x1024.Idx → EReal) (D : S8192x1024.Idx → EReal) (k : Fin 1024) (n : Fin 1024) : EReal :=
  ∑ r : Fin 8192, H (ix2 r k) * D (ix2 r n)

/-- The call's result. -/
def whole (H : S8192x1024.Idx → EReal) (D : S8192x1024.Idx → EReal) : S1024x1024.Idx → EReal := fun i =>
  grad H D ⟨(i 0).val, by have := (i 0).isLt; have : (i 0).val < 1024 := this; omega⟩
    ⟨(i 1).val, by have := (i 1).isLt; have : (i 1).val < 1024 := this; omega⟩

theorem lt_N (t : Fin cfg0.N) : t.val < 4 := t.isLt

theorem at0 (t : Fin cfg0.N) (r : Fin 4096) (k : Fin 1024) :
    iblk m c 0 t (ix2 r k) = aH m c (ix2 ⟨4096 * (t.val % 2) + r.val, by omega⟩ ⟨k.val, by omega⟩) := by
  have ht := lt_N t
  have h0 := (by decide +kernel : ∀ t : Fin grid0.N, win0_0.index t 0 = t.val % 2) t
  have h1 := (by decide +kernel : ∀ t : Fin grid0.N, win0_0.index t 1 = 0) t
  show V m c main_arg0 (((cfg0.win 0).blk t).view.emb (ix2 r k)) = _
  rw [V_main_arg0]
  refine congrArg (m ((c : Thread nD τ).loc main_arg0)) (funext fun a => ?_)
  match a with
  | ⟨0, _⟩ => exact Fin.ext (by show win0_0.index t 0 * 4096 + 1 * r.val = 4096 * (t.val % 2) + r.val; omega)
  | ⟨1, _⟩ => exact Fin.ext (by show win0_0.index t 1 * 1024 + 1 * k.val = k.val; omega)

theorem at1 (t : Fin cfg0.N) (r : Fin 4096) (n : Fin 512) :
    iblk m c 1 t (ix2 r n) = aD m c (ix2 ⟨4096 * (t.val % 2) + r.val, by omega⟩
      ⟨(t.val / 2) * 512 + n.val, by have := lt_N t; omega⟩) := by
  have ht := lt_N t
  have h0 := (by decide +kernel : ∀ t : Fin grid0.N, win0_1.index t 0 = t.val % 2) t
  have h1 := (by decide +kernel : ∀ t : Fin grid0.N, win0_1.index t 1 = t.val / 2) t
  show V m c main_arg1 (((cfg0.win 1).blk t).view.emb (ix2 r n)) = _
  rw [V_main_arg1]
  refine congrArg (m ((c : Thread nD τ).loc main_arg1)) (funext fun a => ?_)
  match a with
  | ⟨0, _⟩ => exact Fin.ext (by show win0_1.index t 0 * 4096 + 1 * r.val = 4096 * (t.val % 2) + r.val; omega)
  | ⟨1, _⟩ => exact Fin.ext (by show win0_1.index t 1 * 512 + 1 * n.val = (t.val / 2) * 512 + n.val; omega)

/-- What the result's block holds when it is written back. -/
theorem left (t : Fin cfg0.N) (h : t.val % 2 = 1) (k : Fin 1024) (n : Fin 512) :
    (outsAt0 m c t.val t.isLt).1 (ix2 k n)
      = grad (aH m c) (aD m c) ⟨k.val, by omega⟩ ⟨(t.val / 2) * 512 + n.val, by have := lt_N t; omega⟩ := by
  have ht := lt_N t
  rw [outsAt0_B m c t (by omega) h h]
  dsimp only
  rw [second_at]
  have hp := outsAt0_A m c ⟨t.val - 1, by have := t.isLt; omega⟩ (by dsimp only; omega) (by dsimp only; omega) (by dsimp only; omega)
  dsimp only at hp
  rw [hp]
  dsimp only
  rw [first_at]
  unfold grad
  rw [sum_halves]
  congr 1
  · refine Finset.sum_congr rfl fun r _ => ?_
    rw [at0, at1]
    have e1 : 4096 * ((t.val - 1) % 2) + r.val = r.val := by omega
    have e2 : (t.val - 1) / 2 = t.val / 2 := by omega
    simp only [e1, e2]
  · refine Finset.sum_congr rfl fun r _ => ?_
    rw [at0, at1]
    have e1 : 4096 * (t.val % 2) + r.val = 4096 + r.val := by omega
    simp only [e1]

/-- The call's result array. -/
theorem final : (dats m 0 c).arrAt 2 cfg0.N = whole (aH m c) (aD m c) := by
  refine (dats m 0 c).arrAt_eq_of_cover 2 (whole (aH m c) (aD m c)) (fun t hf => ?_) (fun i => ?_)
  · rw [flushed2]
    funext j
    obtain ⟨k, n, rfl⟩ : ∃ (k : Fin 1024) (n : Fin 512), j = ix2 k n := ⟨j 0, j 1, eq_ix2 j⟩
    have h0 := (by decide +kernel : ∀ t : Fin grid0.N, win0_2.index t 0 = 0) t
    have h1 := (by decide +kernel : ∀ t : Fin grid0.N, win0_2.index t 1 = t.val / 2) t
    have ht := lt_N t
    have hodd : t.val % 2 = 1 := (by decide +kernel : ∀ t : Fin grid0.N, win0_2.flush t = true → t.val % 2 = 1) t hf
    refine (left m c t hodd k n).trans ?_
    show _ = whole (aH m c) (aD m c) (((cfg0.win 2).blk t).view.emb (ix2 k n))
    have e : ((cfg0.win 2).blk t).view.emb (ix2 k n) = (ix2 k (⟨512 * (t.val / 2) + n.val, by omega⟩ : Fin 1024) : S1024x1024.Idx) := by
      funext a
      match a with
      | ⟨0, _⟩ => exact Fin.ext (by show win0_2.index t 0 * 1024 + 1 * k.val = k.val; omega)
      | ⟨1, _⟩ => exact Fin.ext (by show win0_2.index t 1 * 512 + 1 * n.val = 512 * (t.val / 2) + n.val; omega)
    rw [e]
    have e2 : (t.val / 2) * 512 + n.val = 512 * (t.val / 2) + n.val := by omega
    simp only [e2]
    rfl
  · have i0 : (i 0).val < 1024 := (i 0).isLt
    have i1 : (i 1).val < 1024 := (i 1).isLt
    let t : Fin cfg0.N := ⟨2 * ((i 1).val / 512) + 1, show 2 * ((i 1).val / 512) + 1 < 4 by omega⟩
    have ht : t.val = 2 * ((i 1).val / 512) + 1 := rfl
    have h0 := (by decide +kernel : ∀ t : Fin grid0.N, win0_2.index t 0 = 0) t
    have h1 := (by decide +kernel : ∀ t : Fin grid0.N, win0_2.index t 1 = t.val / 2) t
    refine ⟨t, (by decide +kernel : ∀ t : Fin grid0.N, t.val % 2 = 1 → win0_2.flush t = true) t (by omega), ?_⟩
    show i ∈ ((View.whole main_v0).slice (win0_2.rect t)).set
    rw [View.set_slice_whole, Rect.mem_set_unit]
    intro a
    match a with
    | ⟨0, _⟩ => show win0_2.index t 0 * 1024 ≤ (i 0).val ∧ (i 0).val < win0_2.index t 0 * 1024 + 1024; omega
    | ⟨1, _⟩ => show win0_2.index t 1 * 512 ≤ (i 1).val ∧ (i 1).val < win0_2.index t 1 * 512 + 512; omega

/-- The reference's result is the same array. -/
theorem reference_eq (H : S8192x1024.Idx → EReal) (D : S8192x1024.Idx → EReal) (i : S1024x1024.Idx) :
    Cert.Reference6Ideal.Read.val_main_v6 (F := Ideal) H D i = whole H D i := by
  have i0 : (i 0).val < 1024 := (i 0).isLt
  have i1 : (i 1).val < 1024 := (i 1).isLt
  rw [Cert.Reference6Ideal.Read.val_main_v6_apply, Cert.Reference6Ideal.Read.val_main_v5_apply, Cert.Reference6Ideal.Read.val_main_v4_apply]
  unfold whole grad
  refine Finset.sum_congr rfl fun r _ => ?_
  rw [Cert.Reference6Ideal.Read.val_main_v3_apply, Cert.Reference6Ideal.Read.val_main_v1_apply]
  refine (mul_comm _ _).trans ?_
  congr 1
  · refine congrArg H (funext fun a => ?_)
    match a with
    | ⟨0, _⟩ => rfl
    | ⟨1, _⟩ => exact Fin.ext (by first | rfl | (dsimp; omega))
  · refine congrArg D (funext fun a => ?_)
    match a with
    | ⟨0, _⟩ => rfl
    | ⟨1, _⟩ => exact Fin.ext (by first | rfl | (dsimp; omega))

end Cert.Kernel6Ideal.Grad

end
-- ==== Proof.GradClaims.lean ====
/- The four weights' gradients: each call leaves what its reference leaves. -/
module

public import proofs.«01_k».proof.Defs
public import proofs.«01_k».proof.Proof.Gen.Kernel3Ideal.Value
public import proofs.«01_k».proof.Proof.Gen.Reference3Ideal
public import proofs.«01_k».proof.Proof.Gen.Reference3Ideal.Read
public import proofs.«01_k».proof.Proof.Grad3
public import proofs.«01_k».proof.Proof.Gen.Kernel4Ideal.Value
public import proofs.«01_k».proof.Proof.Gen.Reference4Ideal
public import proofs.«01_k».proof.Proof.Gen.Reference4Ideal.Read
public import proofs.«01_k».proof.Proof.Grad4
public import proofs.«01_k».proof.Proof.Gen.Kernel5Ideal.Value
public import proofs.«01_k».proof.Proof.Gen.Reference5Ideal
public import proofs.«01_k».proof.Proof.Gen.Reference5Ideal.Read
public import proofs.«01_k».proof.Proof.Grad5
public import proofs.«01_k».proof.Proof.Gen.Kernel6Ideal.Value
public import proofs.«01_k».proof.Proof.Gen.Reference6Ideal
public import proofs.«01_k».proof.Proof.Gen.Reference6Ideal.Read
public import proofs.«01_k».proof.Proof.Grad6
public import Idealize.ShloMosaic.Adequacy
public import Idealize.ShloMosaic.Init

@[expose] public section

noncomputable section

namespace Cert.Proof

open Idealize.ShloMosaic Idealize.SL.Sem

/-- The reference of `g_w_in0a` halts with its arguments untouched. -/
theorem frame_reference3 : Cert.quiescent_Reference3Ideal := fun m g _ =>
  (θ_run _ _ _).mono (fun r h => ⟨fun c => (h c).2, sem_eq_zero_of_no_sems (by decide) r.2⟩)
    (Cert.Reference3Ideal.Value.run (F := Ideal) m g)

/-- `g_w_in0a` leaves the gradient of the product. -/
theorem algebraic_g_w_in0a : Cert.algebraic_Kernel3Ideal_Reference3Ideal := fun m g m' g' _ hargs => by
  refine ⟨fun c => Cert.Kernel3Ideal.Grad.whole (Cert.Kernel3Ideal.Grad.aH m c) (Cert.Kernel3Ideal.Grad.aD m c), ?_, ?_⟩
  · refine (θ_run _ _ _).mono (fun r h c => ?_) (Cert.Kernel3Ideal.Value.run_blocks m g)
    obtain ⟨h0, hk⟩ := h c
    exact ⟨h0.trans (Cert.Kernel3Ideal.Grad.final m c), hk⟩
  · refine (θ_run _ _ _).mono (fun r h c => ?_) (Cert.Reference3Ideal.Value.run (F := Ideal) m' g')
    obtain ⟨h0, hk⟩ := h c
    obtain ⟨e0, e1⟩ := hargs c
    refine ⟨(h0.trans (Cert.Reference3Ideal.Read.val_main_v9_eq _ _)).trans ?_, hk⟩
    rw [e0, e1]
    exact funext (Cert.Kernel3Ideal.Grad.reference_eq _ _)

/-- The reference of `g_w_in0b` halts with its arguments untouched. -/
theorem frame_reference4 : Cert.quiescent_Reference4Ideal := fun m g _ =>
  (θ_run _ _ _).mono (fun r h => ⟨fun c => (h c).2, sem_eq_zero_of_no_sems (by decide) r.2⟩)
    (Cert.Reference4Ideal.Value.run (F := Ideal) m g)

/-- `g_w_in0b` leaves the gradient of the product. -/
theorem algebraic_g_w_in0b : Cert.algebraic_Kernel4Ideal_Reference4Ideal := fun m g m' g' _ hargs => by
  refine ⟨fun c => Cert.Kernel4Ideal.Grad.whole (Cert.Kernel4Ideal.Grad.aH m c) (Cert.Kernel4Ideal.Grad.aD m c), ?_, ?_⟩
  · refine (θ_run _ _ _).mono (fun r h c => ?_) (Cert.Kernel4Ideal.Value.run_blocks m g)
    obtain ⟨h0, hk⟩ := h c
    exact ⟨h0.trans (Cert.Kernel4Ideal.Grad.final m c), hk⟩
  · refine (θ_run _ _ _).mono (fun r h c => ?_) (Cert.Reference4Ideal.Value.run (F := Ideal) m' g')
    obtain ⟨h0, hk⟩ := h c
    obtain ⟨e0, e1⟩ := hargs c
    refine ⟨(h0.trans (Cert.Reference4Ideal.Read.val_main_v9_eq _ _)).trans ?_, hk⟩
    rw [e0, e1]
    exact funext (Cert.Kernel4Ideal.Grad.reference_eq _ _)

/-- The reference of `g_w_in1` halts with its arguments untouched. -/
theorem frame_reference5 : Cert.quiescent_Reference5Ideal := fun m g _ =>
  (θ_run _ _ _).mono (fun r h => ⟨fun c => (h c).2, sem_eq_zero_of_no_sems (by decide) r.2⟩)
    (Cert.Reference5Ideal.Value.run (F := Ideal) m g)

/-- `g_w_in1` leaves the gradient of the product. -/
theorem algebraic_g_w_in1 : Cert.algebraic_Kernel5Ideal_Reference5Ideal := fun m g m' g' _ hargs => by
  refine ⟨fun c => Cert.Kernel5Ideal.Grad.whole (Cert.Kernel5Ideal.Grad.aH m c) (Cert.Kernel5Ideal.Grad.aD m c), ?_, ?_⟩
  · refine (θ_run _ _ _).mono (fun r h c => ?_) (Cert.Kernel5Ideal.Value.run_blocks m g)
    obtain ⟨h0, hk⟩ := h c
    exact ⟨h0.trans (Cert.Kernel5Ideal.Grad.final m c), hk⟩
  · refine (θ_run _ _ _).mono (fun r h c => ?_) (Cert.Reference5Ideal.Value.run (F := Ideal) m' g')
    obtain ⟨h0, hk⟩ := h c
    obtain ⟨e0, e1⟩ := hargs c
    refine ⟨(h0.trans (Cert.Reference5Ideal.Read.val_main_v6_eq _ _)).trans ?_, hk⟩
    rw [e0, e1]
    exact funext (Cert.Kernel5Ideal.Grad.reference_eq _ _)

/-- The reference of `g_w_out1` halts with its arguments untouched. -/
theorem frame_reference6 : Cert.quiescent_Reference6Ideal := fun m g _ =>
  (θ_run _ _ _).mono (fun r h => ⟨fun c => (h c).2, sem_eq_zero_of_no_sems (by decide) r.2⟩)
    (Cert.Reference6Ideal.Value.run (F := Ideal) m g)

/-- `g_w_out1` leaves the gradient of the product. -/
theorem algebraic_g_w_out1 : Cert.algebraic_Kernel6Ideal_Reference6Ideal := fun m g m' g' _ hargs => by
  refine ⟨fun c => Cert.Kernel6Ideal.Grad.whole (Cert.Kernel6Ideal.Grad.aH m c) (Cert.Kernel6Ideal.Grad.aD m c), ?_, ?_⟩
  · refine (θ_run _ _ _).mono (fun r h c => ?_) (Cert.Kernel6Ideal.Value.run_blocks m g)
    obtain ⟨h0, hk⟩ := h c
    exact ⟨h0.trans (Cert.Kernel6Ideal.Grad.final m c), hk⟩
  · refine (θ_run _ _ _).mono (fun r h c => ?_) (Cert.Reference6Ideal.Value.run (F := Ideal) m' g')
    obtain ⟨h0, hk⟩ := h c
    obtain ⟨e0, e1⟩ := hargs c
    refine ⟨(h0.trans (Cert.Reference6Ideal.Read.val_main_v6_eq _ _)).trans ?_, hk⟩
    rw [e0, e1]
    exact funext (Cert.Kernel6Ideal.Grad.reference_eq _ _)

end Cert.Proof

end
-- ==== Proof.RmsReal.lean ====
/- The gradient through a row's root mean square, over the extended reals: what the backward call computes is what the
   forward lines' gradient is. No element need be finite: a row with an infinity has reciprocal root zero, and a row of
   reals lets its real factors through every sum. -/
module

public import Idealize.ShloMosaic.Lib.Pipeline.Value
public import Idealize.ShloMosaic.Lib.Pointwise

@[expose] public section

noncomputable section

namespace Idealize.ShloMosaic.Rms

/-- The row's length, the small constant and minus a half, as both programs write them. -/
abbrev len : EReal := Ideal.ofBits .f32 0x44800000#32
abbrev eps : EReal := Ideal.ofBits .f32 0x358637BD#32
abbrev half : EReal := Ideal.ofBits .f32 0xBF000000#32

theorem len_bits : len = ((1024 : ℝ) : EReal) := by
  simp [Ideal.ofBits, Ideal.ieee]
  rw [← EReal.coe_mul]
  norm_num

theorem half_bits : half = ((-(1 / 2) : ℝ) : EReal) := by
  simp [Ideal.ofBits, Ideal.ieee]
  rw [← EReal.coe_mul]
  norm_num

theorem eps_bits : ∃ p : ℝ, 0 < p ∧ eps = (p : EReal) := by
  refine ⟨(2 ^ 23 + 407485 : ℕ) * (2 : ℝ) ^ (-43 : ℤ), by positivity, ?_⟩
  simp [Ideal.ofBits, Ideal.ieee]
  try norm_num

variable {n : ℕ} (x d : Fin n → EReal)

/-- The mean of the row's squares, and the small constant. -/
def ms : EReal := Ideal.div (∑ k, x k * x k) len + eps

/-- The reciprocal of its root. -/
def rr : EReal := Ideal.rsqrt (ms x)

theorem sq_nonneg (y : EReal) : 0 ≤ y * y := by
  induction y with
  | bot => simp
  | top => simp
  | coe a => exact_mod_cast mul_self_nonneg a

theorem sum_nonneg : 0 ≤ ∑ k, x k * x k := Finset.sum_nonneg fun k _ => sq_nonneg (x k)

theorem real_of_nonneg {y : EReal} (h : 0 ≤ y) (ht : y ≠ ⊤) : ∃ a : ℝ, 0 ≤ a ∧ y = (a : EReal) := by
  lift y to ℝ using ⟨ht, fun e => by simp [e] at h⟩
  exact ⟨y, by exact_mod_cast h, rfl⟩

/-- An infinity in the row makes its reciprocal root zero; a row of reals has a positive real one, with its square the
    reciprocal of the mean. -/
theorem cases :
    (ms x = ⊤ ∧ rr x = 0) ∨ ∃ (p : ℝ), 0 < p ∧ (∃ y : Fin n → ℝ, ∀ k, x k = (y k : EReal)) ∧ ms x = (p : EReal) ∧
      rr x = (((Real.sqrt p)⁻¹ : ℝ) : EReal) := by
  obtain ⟨e, he, hb⟩ := eps_bits
  by_cases ht : ∑ k, x k * x k = ⊤
  · left
    have h : ms x = ⊤ := by
      unfold ms
      rw [ht, len_bits, hb, Ideal.div_coe (by norm_num), EReal.top_mul_coe_of_pos (by norm_num)]
      exact EReal.top_add_coe e
    exact ⟨h, by unfold rr; rw [h]; rfl⟩
  · right
    obtain ⟨a, ha, hs⟩ := real_of_nonneg (sum_nonneg x) ht
    have hm : ms x = ((a * (1 / 1024) + e : ℝ) : EReal) := by
      unfold ms
      rw [hs, len_bits, hb, Ideal.div_coe (by norm_num), ← EReal.coe_mul, ← EReal.coe_add]
    have hp : 0 < a * (1 / 1024) + e := by positivity
    refine ⟨a * (1 / 1024) + e, hp, ?_, hm, ?_⟩
    · have each : ∀ k, ∃ y : ℝ, x k = (y : EReal) := by
        intro k
        have hk : x k * x k ≤ ∑ k, x k * x k :=
          Finset.single_le_sum (f := fun k => x k * x k) (fun k _ => sq_nonneg (x k)) (Finset.mem_univ k)
        have hlt : x k * x k ≠ ⊤ := fun h => ht (top_le_iff.mp (h ▸ hk))
        induction hx : x k with
        | bot => rw [hx] at hlt; simp at hlt
        | top => rw [hx] at hlt; simp at hlt
        | coe y => exact ⟨y, rfl⟩
      exact ⟨fun k => (each k).choose, fun k => (each k).choose_spec⟩
    · unfold rr
      rw [hm, Ideal.rsqrt_coe, if_neg (not_lt.mpr hp.le), if_neg hp.ne']

theorem scale_add {r : ℝ} (hr : 0 ≤ r) (a b : EReal) : (r : EReal) * (a + b) = r * a + r * b :=
  EReal.left_distrib_of_nonneg_of_ne_top (by exact_mod_cast hr) (EReal.coe_ne_top r) a b

theorem scale_sum {r : ℝ} (hr : 0 ≤ r) {ι : Type} (s : Finset ι) (f : ι → EReal) :
    (r : EReal) * ∑ k ∈ s, f k = ∑ k ∈ s, (r : EReal) * f k := by
  classical
  induction s using Finset.induction_on with
  | empty => simp
  | insert a s ha ih => rw [Finset.sum_insert ha, Finset.sum_insert ha, scale_add hr, ih]

/-- A multiple added to itself is the doubled multiple. -/
theorem twice (c : ℝ) (s : EReal) : (c : EReal) * s + (c : EReal) * s = ((2 * c : ℝ) : EReal) * s := by
  induction s with
  | coe a => rw [← EReal.coe_mul, ← EReal.coe_add, ← EReal.coe_mul]; congr 1; ring
  | top =>
    rcases lt_trichotomy c 0 with h | h | h
    · rw [EReal.coe_mul_top_of_neg h, EReal.coe_mul_top_of_neg (by linarith)]; rfl
    · subst h; simp
    · rw [EReal.coe_mul_top_of_pos h, EReal.coe_mul_top_of_pos (by linarith)]; rfl
  | bot =>
    rcases lt_trichotomy c 0 with h | h | h
    · rw [EReal.coe_mul_bot_of_neg h, EReal.coe_mul_bot_of_neg (by linarith)]; rfl
    · subst h; simp
    · rw [EReal.coe_mul_bot_of_pos h, EReal.coe_mul_bot_of_pos (by linarith)]; rfl

/-- The backward call's row. -/
def back (e : EReal) (j : Fin n) : EReal :=
  rr x * (d j - (x j * rr x) * Ideal.div (∑ k, d k * (x k * rr x)) len) + e

/-- The gradient of the reciprocal root's argument, spread over the row. -/
def slope : EReal := Ideal.div ((∑ k, x k * d k) * (half * Ideal.div (rr x) (ms x))) len

theorem back_eq (e : EReal) (j : Fin n) :
    back x d e j = ((e + d j * rr x) + x j * slope x d) + slope x d * x j := by
  unfold back slope
  rcases cases x with ⟨hm, hr⟩ | ⟨p, hp, ⟨y, hy⟩, hm, hr⟩
  · rw [hm, hr, len_bits, half_bits, Ideal.div_coe (by norm_num), Ideal.div_coe (by norm_num)]
    simp [Ideal.div]
  · set r : ℝ := (Real.sqrt p)⁻¹ with hrd
    have hs : 0 < Real.sqrt p := Real.sqrt_pos.mpr hp
    have hr0 : 0 ≤ r := by positivity
    have hrr : r * r = 1 / p := by
      rw [hrd, ← mul_inv, Real.mul_self_sqrt hp.le, one_div]
    rw [hm, hr, len_bits, half_bits]
    simp only [hy]
    rw [Ideal.div_coe hp.ne', Ideal.div_coe (by norm_num), Ideal.div_coe (by norm_num)]
    have e1 : ∑ k, d k * ((y k : EReal) * (r : EReal)) = (r : EReal) * ∑ k, (y k : EReal) * d k := by
      rw [scale_sum hr0]
      exact Finset.sum_congr rfl fun k _ => by rw [mul_comm (r : EReal), mul_comm (d k), mul_assoc, mul_comm (r : EReal), mul_assoc]
    rw [e1]
    generalize ∑ k, (y k : EReal) * d k = S
    have e2 : ((y j : EReal) * (r : EReal)) * (((r : EReal) * S) * ((1 / 1024 : ℝ) : EReal)) = ((y j * r * r * (1 / 1024) : ℝ) : EReal) * S := by
      push_cast
      ac_rfl
    have e3 : (y j : EReal) * (S * (((-(1 / 2) : ℝ) : EReal) * ((r : EReal) * ((1 / p : ℝ) : EReal))) * ((1 / 1024 : ℝ) : EReal))
        = ((y j * (-(1 / 2)) * r * (1 / p) * (1 / 1024) : ℝ) : EReal) * S := by
      rw [EReal.coe_mul, EReal.coe_mul, EReal.coe_mul, EReal.coe_mul]
      ac_rfl
    rw [e2, mul_comm _ (y j : EReal), e3, add_assoc, twice, sub_eq_add_neg, scale_add hr0, ← EReal.neg_mul, ← EReal.coe_neg,
      ← mul_assoc, ← EReal.coe_mul, mul_comm (d j), add_comm, ← add_assoc]
    congr 3
    rw [← hrr]
    ring

end Idealize.ShloMosaic.Rms

end
-- ==== Proof.NormSpec.lean ====
/- What the backward pass of a normalised product leaves: the gradient of its input, row by row, and the gradient of
   the normalisation's weights, summed over the rows. A three-axis buffer read whole; a buffer filled by one transfer. -/
module

public import Idealize.ShloMosaic.Lib.Pipeline.Value
public import Idealize.ShloMosaic.Lib.Pointwise
public import proofs.«01_k».proof.Proof.RmsReal
public import proofs.«01_k».proof.Proof.GradSum

@[expose] public section

noncomputable section

namespace Idealize.ShloMosaic.Rms

open Idealize.ShloMosaic Idealize.ShloMosaic.GradSum

section Whole

variable {Val : EltTy → Type} {e : EltTy}

/-- Reading a whole three-axis buffer gives its contents. -/
theorem ld_all3 {a b d : Nat} (X : (⟨3, ![a, b, d]⟩ : Shape).Idx → Val e)
    (inb : ∀ k, (![0, 0, 0] : Fin 3 → Nat) k + (![a, b, d] : Fin 3 → Nat) k ≤ (![a, b, d] : Fin 3 → Nat) k) :
    View.ld X (Rect.unit (s := (⟨3, ![a, b, d]⟩ : Shape)) ![0, 0, 0] ![a, b, d] inb) = X :=
  View.ld_unit_zero (S := (⟨3, ![a, b, d]⟩ : Shape)) corner3 inb X

/-- A transfer that fills a whole buffer leaves what it carried. -/
theorem canon_whole [∀ e, Nonempty (Val e)] (S : Shape) (w : S.Idx → Val e) (L : List (View.Piece Val S e)) :
    View.canon ((⟨Rect.whole S, w⟩ : View.Piece Val S e) :: L) = w :=
  View.canon_cons_unit_zero (S := S) rfl (fun _ => by simp) w L

end Whole

abbrev Rows : Shape := ⟨2, ![8192, 1024]⟩
abbrev Row : Shape := ⟨2, ![1, 1024]⟩

/-- The gradient of the input: `G` is the gradient of the normalised rows, `E` what comes in beside it. -/
def inputGrad (G : Fin 8192 → Fin 1024 → EReal) (X : Rows.Idx → EReal) (W : Row.Idx → EReal) (E : Rows.Idx → EReal) :
    Rows.Idx → EReal := fun i =>
  back (fun k => X (ix2 (i 0) k)) (fun k => G (i 0) k * W (ix2 0 k)) (E i) (i 1)

/-- Row `q`'s part in the gradient of weight `j`. -/
def weightTerm (G : Fin 8192 → Fin 1024 → EReal) (X : Rows.Idx → EReal) (j : Fin 1024) (q : ℕ) : EReal :=
  if h : q < 8192 then G ⟨q, h⟩ j * (X (ix2 ⟨q, h⟩ j) * rr (fun k => X (ix2 ⟨q, h⟩ k))) else 0

/-- The first `n` rows' parts. -/
@[irreducible] def weightUpto (G : Fin 8192 → Fin 1024 → EReal) (X : Rows.Idx → EReal) (n : ℕ) (j : Fin 1024) : EReal :=
  ∑ q ∈ Finset.range n, weightTerm G X j q

/-- The gradient of the weights. -/
def weightGrad (G : Fin 8192 → Fin 1024 → EReal) (X : Rows.Idx → EReal) : Row.Idx → EReal := fun i =>
  weightUpto G X 8192 (i 1)

/-- The rows before `n` and `s` more. -/
theorem weightUpto_add (G : Fin 8192 → Fin 1024 → EReal) (X : Rows.Idx → EReal) (n s : ℕ) (j : Fin 1024) (f : Fin s → EReal)
    (hf : ∀ r : Fin s, f r = weightTerm G X j (n + r.val)) :
    weightUpto G X n j + ∑ r : Fin s, f r = weightUpto G X (n + s) j := by
  unfold weightUpto
  rw [Finset.sum_range_add, Finset.sum_range (n := s)]
  exact congrArg (_ + ·) (Finset.sum_congr rfl fun r _ => hf r)

/-- The first `s` rows. -/
theorem weightUpto_first (G : Fin 8192 → Fin 1024 → EReal) (X : Rows.Idx → EReal) (s : ℕ) (j : Fin 1024) (f : Fin s → EReal)
    (hf : ∀ r : Fin s, f r = weightTerm G X j r.val) :
    ∑ r : Fin s, f r = weightUpto G X s j := by
  unfold weightUpto
  rw [Finset.sum_range]
  exact Finset.sum_congr rfl fun r _ => hf r

/-- All rows. -/
theorem weightGrad_eq (G : Fin 8192 → Fin 1024 → EReal) (X : Rows.Idx → EReal) (i : Row.Idx) (f : Fin 8192 → EReal)
    (hf : ∀ r : Fin 8192, f r = (X (ix2 r (i 1)) * rr (fun k => X (ix2 r k))) * G r (i 1)) :
    ∑ r : Fin 8192, f r = weightGrad G X i := by
  refine weightUpto_first G X 8192 (i 1) f fun r => (hf r).trans ?_
  unfold weightTerm
  rw [dif_pos r.isLt]
  exact mul_comm _ _

end Idealize.ShloMosaic.Rms

end
-- ==== Proof.Norm7.lean ====
/- The backward pass of the odd layer's first product, `d_h1`: what one block of rows computes, and what the call ends holding. -/
module

public import proofs.«01_k».proof.Proof.Gen.Kernel7Ideal.Value
public import proofs.«01_k».proof.Proof.Gen.Reference7Ideal.Read
public import proofs.«01_k».proof.Proof.Rows
public import proofs.«01_k».proof.Proof.NormSpec

@[expose] public section

noncomputable section

namespace Cert.Kernel7Ideal.Norm

open Cert.Kernel7Ideal Cert.Kernel7Ideal.Gen Cert.Kernel7Ideal.Value
open Idealize.ShloMosaic Idealize.ShloMosaic.TcCoe Idealize.SL.Sem Idealize.ShloMosaic.Bands Idealize.ShloMosaic.Rms
open Idealize.ShloMosaic.Pipeline (Dat)

section Body

variable (c : Dev nD) (i : grid0.Coords) {arg1 : Memref sig .tc .vmem S512x2560 .bf16} {harg1 : arg1.IsWhole}
  {arg3 : Memref sig .tc .vmem S512x1024 .f32} {harg3 : arg3.IsWhole} {arg4 : Memref sig .tc .vmem S1x1024 .f32} {harg4 : arg4.IsWhole}
  {arg5 : Memref sig .tc .vmem S512x1024 .f32} {harg5 : arg5.IsWhole} {arg6 : Memref sig .tc .vmem S512x1024 .f32} {harg6 : arg6.IsWhole}
  {arg7 : Memref sig .tc .vmem S512x1024 .bf16} {harg7 : arg7.IsWhole} {arg8 : Memref sig .tc .vmem S1x1024 .f32} {harg8 : arg8.IsWhole}
  {arg9 : Memref sig .tc .vmem S1x1024x2560 .bf16} {harg9 : arg9.IsWhole}
  (x0 : Vec Ideal S512x2560 .bf16) (x1 : Vec Ideal S512x1024 .f32) (x2 : Vec Ideal S1x1024 .f32) (x3 : Vec Ideal S512x1024 .f32)
  (xo6 : Vec Ideal S1x1024 .f32) (xs0 : Vec Ideal S1x1024x2560 .bf16) (fh0 : HbBuf0 (F := Ideal) c hbM0_0)

/-- The gradient of the normalised rows of a block. -/
abbrev dh (x0 : Vec Ideal S512x2560 .bf16) (w : Vec Ideal S1x1024x2560 .bf16) : FVec Ideal S512x1024 .f32 := k0_pay3 x0 w

theorem dh_at (r : Fin 512) (j : Fin 1024) : dh x0 xs0 (ix2 r j) = ∑ k : Fin 2560, x0 (ix2 r k) * xs0 (ix3 (0 : Fin 1) j k) := by
  pointwise [k0_pay3]

theorem weight_at (j : Fin 1024) (v6 : FVec Ideal S512x1024 .f32) : k0_pay1 v6 (k0_pay5 x1) (ix2 0 j)
    = ∑ r : Fin 512, v6 (ix2 r j) * (x1 (ix2 r j) * Rms.rr (fun k => x1 (ix2 r k))) := by
  pointwise [k0_pay1, k0_pay5, k0_pay4, Rms.rr, Rms.ms, Rms.len, Rms.eps]

theorem weight_more_at (j : Fin 1024) (v6 : FVec Ideal S512x1024 .f32) : k0_pay2 v6 (k0_pay5 x1) xo6 (ix2 0 j)
    = xo6 (ix2 0 j) + ∑ r : Fin 512, v6 (ix2 r j) * (x1 (ix2 r j) * Rms.rr (fun k => x1 (ix2 r k))) := by
  rw [← weight_at]
  pointwise [k0_pay2]

theorem input_at (r : Fin 512) (j : Fin 1024) : k0_pay6 x0 xs0 x1 x2 x3 (ix2 r j)
    = Rms.back (fun k => x1 (ix2 r k)) (fun k => dh x0 xs0 (ix2 r k) * x2 (ix2 0 k)) (x3 (ix2 r j)) j := by
  pointwise [k0_pay6, k0_pay5, k0_pay4, Rms.back, Rms.rr, Rms.ms, Rms.len, Rms.eps]

theorem rounded_at (r : Fin 512) (j : Fin 1024) : k0_pay7 x0 xs0 x1 x2 x3 (ix2 r j)
    = Rms.back (fun k => x1 (ix2 r k)) (fun k => dh x0 xs0 (ix2 r k) * x2 (ix2 0 k)) (x3 (ix2 r j)) j := by
  rw [← input_at]
  pointwise [k0_pay7]

/-- What the transfer carries. -/
theorem carried : kernelRun0_A.sl.dma0 c fh0 = fh0 := by
  unfold kernelRun0_A.sl.dma0
  rfl

theorem loaded : kernelRun0_A.sl.v4 c arg9 fh0 = fh0 := by
  unfold kernelRun0_A.sl.v4
  rw [View.readCov_eq_canon', canon_whole, carried]
  exact ld_all3 _ _

theorem first_scratch (hc0 : cond0_0 i) (hc1 : cond0_1 i) (hc2 : ¬cond0_2 i) :
    sout0_A_0 c i arg1 harg1 arg3 harg3 arg4 harg4 arg5 harg5 arg6 harg6 arg7 harg7 arg8 harg8 arg9 harg9 hc0 hc1 hc2 x0 x1 x2 x3 fh0 = fh0 := by
  unfold sout0_A_0
  rw [View.read_writes_junk_eq_canon]
  unfold kernelRun0_A
  dsimp only
  rw [canon_whole, carried]

theorem first_input (hc0 : cond0_0 i) (hc1 : cond0_1 i) (hc2 : ¬cond0_2 i) (r : Fin 512) (j : Fin 1024) :
    out0_A_4 c i arg1 harg1 arg3 harg3 arg4 harg4 arg5 harg5 arg6 harg6 arg7 harg7 arg8 harg8 arg9 harg9 hc0 hc1 hc2 x0 x1 x2 x3 fh0 (ix2 r j)
      = Rms.back (fun k => x1 (ix2 r k)) (fun k => dh x0 fh0 (ix2 r k) * x2 (ix2 0 k)) (x3 (ix2 r j)) j := by
  unfold out0_A_4
  rw [View.read_writes_junk_eq_canon]
  unfold kernelRun0_A
  dsimp only
  simp only [kernelRun0_A.sl.r_2, loaded, View.readCov_eq_canon', View.readAt_eq_ld, Memref.IsWhole.read_unread, ld_all, canon_all]
  exact input_at x0 x1 x2 x3 fh0 r j

theorem first_rounded (hc0 : cond0_0 i) (hc1 : cond0_1 i) (hc2 : ¬cond0_2 i) (r : Fin 512) (j : Fin 1024) :
    out0_A_5 c i arg1 harg1 arg3 harg3 arg4 harg4 arg5 harg5 arg6 harg6 arg7 harg7 arg8 harg8 arg9 harg9 hc0 hc1 hc2 x0 x1 x2 x3 fh0 (ix2 r j)
      = Rms.back (fun k => x1 (ix2 r k)) (fun k => dh x0 fh0 (ix2 r k) * x2 (ix2 0 k)) (x3 (ix2 r j)) j := by
  unfold out0_A_5
  rw [View.read_writes_junk_eq_canon]
  unfold kernelRun0_A
  dsimp only
  simp only [kernelRun0_A.sl.r_2, loaded, View.readCov_eq_canon', View.readAt_eq_ld, Memref.IsWhole.read_unread, ld_all, canon_all]
  exact rounded_at x0 x1 x2 x3 fh0 r j

theorem first_weight (hc0 : cond0_0 i) (hc1 : cond0_1 i) (hc2 : ¬cond0_2 i) (j : Fin 1024) :
    out0_A_6 c i arg1 harg1 arg3 harg3 arg4 harg4 arg5 harg5 arg6 harg6 arg7 harg7 arg8 harg8 arg9 harg9 hc0 hc1 hc2 x0 x1 x2 x3 fh0 (ix2 0 j)
      = ∑ r : Fin 512, dh x0 fh0 (ix2 r j) * (x1 (ix2 r j) * Rms.rr (fun k => x1 (ix2 r k))) := by
  unfold out0_A_6
  rw [View.read_writes_junk_eq_canon]
  unfold kernelRun0_A
  dsimp only
  simp only [kernelRun0_A.sl.r, kernelRun0_A.sl.r_1, loaded, View.readCov_eq_canon', View.readAt_eq_ld, Memref.IsWhole.read_unread, ld_all, canon_all]
  exact weight_at x1 j (dh x0 fh0)

theorem later_scratch (hc0 : ¬cond0_0 i) (hc1 : ¬cond0_1 i) (hc2 : cond0_2 i) :
    sout0_B_0 c i arg1 harg1 arg3 harg3 arg4 harg4 arg5 harg5 arg6 harg6 arg7 harg7 arg8 harg8 arg9 harg9 hc0 hc1 hc2 x0 x1 x2 x3 xo6 xs0 fh0 = xs0 := by
  unfold sout0_B_0
  rfl

theorem later_input (hc0 : ¬cond0_0 i) (hc1 : ¬cond0_1 i) (hc2 : cond0_2 i) (r : Fin 512) (j : Fin 1024) :
    out0_B_4 c i arg1 harg1 arg3 harg3 arg4 harg4 arg5 harg5 arg6 harg6 arg7 harg7 arg8 harg8 arg9 harg9 hc0 hc1 hc2 x0 x1 x2 x3 xo6 xs0 fh0 (ix2 r j)
      = Rms.back (fun k => x1 (ix2 r k)) (fun k => dh x0 xs0 (ix2 r k) * x2 (ix2 0 k)) (x3 (ix2 r j)) j := by
  unfold out0_B_4
  rw [View.read_writes_junk_eq_canon]
  unfold kernelRun0_B
  dsimp only
  simp only [kernelRun0_B.sl.r_2, View.readCov_eq_canon', View.readAt_eq_ld, Memref.IsWhole.read_unread, ld_all, canon_all, ld_all3]
  exact input_at x0 x1 x2 x3 xs0 r j

theorem later_rounded (hc0 : ¬cond0_0 i) (hc1 : ¬cond0_1 i) (hc2 : cond0_2 i) (r : Fin 512) (j : Fin 1024) :
    out0_B_5 c i arg1 harg1 arg3 harg3 arg4 harg4 arg5 harg5 arg6 harg6 arg7 harg7 arg8 harg8 arg9 harg9 hc0 hc1 hc2 x0 x1 x2 x3 xo6 xs0 fh0 (ix2 r j)
      = Rms.back (fun k => x1 (ix2 r k)) (fun k => dh x0 xs0 (ix2 r k) * x2 (ix2 0 k)) (x3 (ix2 r j)) j := by
  unfold out0_B_5
  rw [View.read_writes_junk_eq_canon]
  unfold kernelRun0_B
  dsimp only
  simp only [kernelRun0_B.sl.r_2, View.readCov_eq_canon', View.readAt_eq_ld, Memref.IsWhole.read_unread, ld_all, canon_all, ld_all3]
  exact rounded_at x0 x1 x2 x3 xs0 r j

theorem later_weight (hc0 : ¬cond0_0 i) (hc1 : ¬cond0_1 i) (hc2 : cond0_2 i) (j : Fin 1024) :
    out0_B_6 c i arg1 harg1 arg3 harg3 arg4 harg4 arg5 harg5 arg6 harg6 arg7 harg7 arg8 harg8 arg9 harg9 hc0 hc1 hc2 x0 x1 x2 x3 xo6 xs0 fh0 (ix2 0 j)
      = xo6 (ix2 0 j) + ∑ r : Fin 512, dh x0 xs0 (ix2 r j) * (x1 (ix2 r j) * Rms.rr (fun k => x1 (ix2 r k))) := by
  unfold out0_B_6
  rw [View.read_writes_junk_eq_canon]
  unfold kernelRun0_B
  dsimp only
  simp only [kernelRun0_B.sl.r, kernelRun0_B.sl.r_1, View.readCov_eq_canon', View.readAt_eq_ld, Memref.IsWhole.read_unread, ld_all, canon_all, ld_all3]
  exact weight_more_at x1 xo6 j (dh x0 xs0)

end Body

variable (m : (ℓ : Loc nD τ sig) → Buf (Elt Ideal) ℓ) (c : Dev nD)

abbrev aD : S8192x2560.Idx → EReal := m ((c : Thread nD τ).loc main_arg0)
abbrev aW : S1024x2560.Idx → EReal := m ((c : Thread nD τ).loc main_arg1)
abbrev aX : S8192x1024.Idx → EReal := m ((c : Thread nD τ).loc main_arg2)
abbrev aN : S1x1024.Idx → EReal := m ((c : Thread nD τ).loc main_arg3)
abbrev aE : S8192x1024.Idx → EReal := m ((c : Thread nD τ).loc main_arg4)

/-- The gradient of the normalised rows. -/
@[irreducible] def rowsGrad (D : S8192x2560.Idx → EReal) (W : S1024x2560.Idx → EReal) (r : Fin 8192) (j : Fin 1024) : EReal :=
  ∑ k : Fin 2560, D (ix2 r k) * W (ix2 j k)

/-- The weights as the call receives them: one leading axis of size one. -/
theorem weights_at (j : Fin 1024) (k : Fin 2560) : V m c main_v0 (ix3 (0 : Fin 1) j k) = aW m c (ix2 j k) := by
  show shapeCast S1x1024x2560 (aW m c) shapeCasts_S1024x2560_S1x1024x2560 (ix3 (0 : Fin 1) j k) = _
  pointwise []

abbrev b0 (t : Fin cfg0.N) : Vec Ideal S512x2560 .bf16 := iblk m c 0 t
abbrev b1 (t : Fin cfg0.N) : Vec Ideal S512x1024 .f32 := iblk m c 1 t
abbrev b2 (t : Fin cfg0.N) : Vec Ideal S1x1024 .f32 := iblk m c 2 t
abbrev b3 (t : Fin cfg0.N) : Vec Ideal S512x1024 .f32 := iblk m c 3 t
abbrev bw : Vec Ideal S1x1024x2560 .bf16 := V m c main_v0

theorem lt_N (t : Fin cfg0.N) : t.val < 16 := t.isLt

/-- Row `r` of the block of point `t`. -/
abbrev row (t : Fin cfg0.N) (r : Fin 512) : Fin 8192 := ⟨512 * t.val + r.val, by have := lt_N t; omega⟩

theorem at0 (t : Fin cfg0.N) (r : Fin 512) (k : Fin 2560) : b0 m c t (ix2 r k) = aD m c (ix2 (row t r) k) := by
  have h0 := (by decide +kernel : ∀ t : Fin grid0.N, win0_0.index t 0 = t.val) t
  have h1 := (by decide +kernel : ∀ t : Fin grid0.N, win0_0.index t 1 = 0) t
  show V m c main_arg0 (((cfg0.win 0).blk t).view.emb (ix2 r k)) = _
  rw [V_main_arg0]
  refine congrArg (m ((c : Thread nD τ).loc main_arg0)) (funext fun a => ?_)
  match a with
  | ⟨0, _⟩ => exact Fin.ext (by show win0_0.index t 0 * 512 + 1 * r.val = 512 * t.val + r.val; omega)
  | ⟨1, _⟩ => exact Fin.ext (by show win0_0.index t 1 * 2560 + 1 * k.val = k.val; omega)

theorem at1 (t : Fin cfg0.N) (r : Fin 512) (k : Fin 1024) : b1 m c t (ix2 r k) = aX m c (ix2 (row t r) k) := by
  have h0 := (by decide +kernel : ∀ t : Fin grid0.N, win0_1.index t 0 = t.val) t
  have h1 := (by decide +kernel : ∀ t : Fin grid0.N, win0_1.index t 1 = 0) t
  show V m c main_arg2 (((cfg0.win 1).blk t).view.emb (ix2 r k)) = _
  rw [V_main_arg2]
  refine congrArg (m ((c : Thread nD τ).loc main_arg2)) (funext fun a => ?_)
  match a with
  | ⟨0, _⟩ => exact Fin.ext (by show win0_1.index t 0 * 512 + 1 * r.val = 512 * t.val + r.val; omega)
  | ⟨1, _⟩ => exact Fin.ext (by show win0_1.index t 1 * 1024 + 1 * k.val = k.val; omega)

theorem at2 (t : Fin cfg0.N) (k : Fin 1024) : b2 m c t (ix2 (0 : Fin 1) k) = aN m c (ix2 (0 : Fin 1) k) := by
  have h0 := (by decide +kernel : ∀ t : Fin grid0.N, win0_2.index t 0 = 0) t
  have h1 := (by decide +kernel : ∀ t : Fin grid0.N, win0_2.index t 1 = 0) t
  show V m c main_arg3 (((cfg0.win 2).blk t).view.emb (ix2 (0 : Fin 1) k)) = _
  rw [V_main_arg3]
  refine congrArg (m ((c : Thread nD τ).loc main_arg3)) (funext fun a => ?_)
  match a with
  | ⟨0, _⟩ => exact Fin.ext (by show win0_2.index t 0 * 1 + 1 * 0 = 0; omega)
  | ⟨1, _⟩ => exact Fin.ext (by show win0_2.index t 1 * 1024 + 1 * k.val = k.val; omega)

theorem at3 (t : Fin cfg0.N) (r : Fin 512) (k : Fin 1024) : b3 m c t (ix2 r k) = aE m c (ix2 (row t r) k) := by
  have h0 := (by decide +kernel : ∀ t : Fin grid0.N, win0_3.index t 0 = t.val) t
  have h1 := (by decide +kernel : ∀ t : Fin grid0.N, win0_3.index t 1 = 0) t
  show V m c main_arg4 (((cfg0.win 3).blk t).view.emb (ix2 r k)) = _
  rw [V_main_arg4]
  refine congrArg (m ((c : Thread nD τ).loc main_arg4)) (funext fun a => ?_)
  match a with
  | ⟨0, _⟩ => exact Fin.ext (by show win0_3.index t 0 * 512 + 1 * r.val = 512 * t.val + r.val; omega)
  | ⟨1, _⟩ => exact Fin.ext (by show win0_3.index t 1 * 1024 + 1 * k.val = k.val; omega)

/-- The block's product is the rows' part of the whole one. -/
theorem block_rows (t : Fin cfg0.N) (r : Fin 512) (j : Fin 1024) :
    dh (b0 m c t) (bw m c) (ix2 r j) = rowsGrad (aD m c) (aW m c) (row t r) j := by
  rw [dh_at]
  unfold rowsGrad
  exact Finset.sum_congr rfl fun k _ => congrArg₂ (· * ·) (at0 m c t r k) (weights_at m c j k)

/-- The weights stay where the first point put them. -/
theorem kept_weights : ∀ (n : ℕ) (hn : n < cfg0.N), (outsAt0 m c n hn).2.2.2 = bw m c
  | 0, hn => by
    have h := outsAt0_A m c ⟨0, hn⟩ (by dsimp only) (by dsimp only) (by dsimp only; omega)
    dsimp only at h
    rw [h]
    dsimp only
    rw [first_scratch]
  | n + 1, hn => by
    have hN : n + 1 < 16 := hn
    have h := outsAt0_B m c ⟨n + 1, hn⟩ (by dsimp only; omega) (by dsimp only; omega) (by dsimp only; omega)
    dsimp only at h
    rw [h]
    dsimp only
    rw [later_scratch]
    exact kept_weights n (by omega)

theorem kept_before (t : Fin cfg0.N) (h : t.val - 1 < cfg0.N) : (outsAt0 m c (t.val - 1) h).2.2.2 = bw m c :=
  kept_weights m c _ h

/-- The arrays the call computes. -/
abbrev wholeIn : S8192x1024.Idx → EReal := inputGrad (rowsGrad (aD m c) (aW m c)) (aX m c) (aN m c) (aE m c)
abbrev wholeW : S1x1024.Idx → EReal := weightGrad (rowsGrad (aD m c) (aW m c)) (aX m c)

theorem back_at (t : Fin cfg0.N) (r : Fin 512) (j : Fin 1024) :
    Rms.back (fun k => b1 m c t (ix2 r k)) (fun k => dh (b0 m c t) (bw m c) (ix2 r k) * b2 m c t (ix2 (0 : Fin 1) k))
      (b3 m c t (ix2 r j)) j = wholeIn m c (ix2 (row t r) j) := by
  have h1 : (fun k => b1 m c t (ix2 r k)) = fun k => aX m c (ix2 (row t r) k) := funext fun k => at1 m c t r k
  have h2 : (fun k => dh (b0 m c t) (bw m c) (ix2 r k) * b2 m c t (ix2 (0 : Fin 1) k))
      = fun k => rowsGrad (aD m c) (aW m c) (row t r) k * aN m c (ix2 (0 : Fin 1) k) :=
    funext fun k => congrArg₂ (· * ·) (block_rows m c t r k) (at2 m c t k)
  rw [h1, h2, at3]
  rfl

theorem input_left (t : Fin cfg0.N) (r : Fin 512) (j : Fin 1024) :
    (outsAt0 m c t.val t.isLt).1 (ix2 r j) = wholeIn m c (ix2 (row t r) j) := by
  have ht := lt_N t
  by_cases h : t.val = 0
  · rw [outsAt0_A m c t (by omega) (by omega) (by omega)]
    dsimp only
    rw [first_input]
    exact back_at m c t r j
  · rw [outsAt0_B m c t (by omega) (by omega) (by omega)]
    dsimp only
    rw [later_input, kept_before]
    exact back_at m c t r j

theorem rounded_left (t : Fin cfg0.N) (r : Fin 512) (j : Fin 1024) :
    (outsAt0 m c t.val t.isLt).2.1 (ix2 r j) = wholeIn m c (ix2 (row t r) j) := by
  have ht := lt_N t
  by_cases h : t.val = 0
  · rw [outsAt0_A m c t (by omega) (by omega) (by omega)]
    dsimp only
    rw [first_rounded]
    exact back_at m c t r j
  · rw [outsAt0_B m c t (by omega) (by omega) (by omega)]
    dsimp only
    rw [later_rounded, kept_before]
    exact back_at m c t r j

theorem term_at (t : Fin cfg0.N) (j : Fin 1024) (r : Fin 512) :
    dh (b0 m c t) (bw m c) (ix2 r j) * (b1 m c t (ix2 r j) * Rms.rr (fun k => b1 m c t (ix2 r k)))
      = weightTerm (rowsGrad (aD m c) (aW m c)) (aX m c) j (512 * t.val + r.val) := by
  have h1 : (fun k => b1 m c t (ix2 r k)) = fun k => aX m c (ix2 (row t r) k) := funext fun k => at1 m c t r k
  rw [h1, block_rows, at1]
  unfold weightTerm
  rw [dif_pos (row t r).isLt]

/-- After point `n` the weights' gradient holds the part of the rows so far. -/
theorem weight_left (j : Fin 1024) : ∀ (n : ℕ) (hn : n < cfg0.N),
    (outsAt0 m c n hn).2.2.1 (ix2 (0 : Fin 1) j) = weightUpto (rowsGrad (aD m c) (aW m c)) (aX m c) (512 * n + 512) j
  | 0, hn => by
    have h := outsAt0_A m c ⟨0, hn⟩ (by dsimp only) (by dsimp only) (by dsimp only; omega)
    dsimp only at h
    rw [h]
    dsimp only
    rw [first_weight]
    refine weightUpto_first _ _ 512 j _ fun r => ?_
    refine (term_at m c ⟨0, hn⟩ j r).trans (congrArg _ ?_)
    show 512 * 0 + r.val = r.val
    omega
  | n + 1, hn => by
    have hN : n + 1 < 16 := hn
    have h := outsAt0_B m c ⟨n + 1, hn⟩ (by dsimp only; omega) (by dsimp only; omega) (by dsimp only; omega)
    dsimp only at h
    rw [h]
    dsimp only
    rw [later_weight]
    have hs := kept_weights m c n (by omega)
    have hp := weight_left j n (by omega)
    simp only [Nat.add_sub_cancel]
    rw [hs, hp]
    refine (weightUpto_add _ _ (512 * n + 512) 512 j _ fun r => ?_).trans (by congr 1)
    refine (term_at m c ⟨n + 1, hn⟩ j r).trans (congrArg _ ?_)
    show 512 * (n + 1) + r.val = 512 * n + 512 + r.val
    omega

theorem final_input : (dats m 0 c).arrAt 4 cfg0.N = wholeIn m c := by
  refine (dats m 0 c).arrAt_eq_of_cover 4 (wholeIn m c) (fun t hf => ?_) (fun i => ?_)
  · rw [flushed4]
    funext j
    obtain ⟨r, k, rfl⟩ : ∃ (r : Fin 512) (k : Fin 1024), j = ix2 r k := ⟨j 0, j 1, eq_ix2 j⟩
    have h0 := (by decide +kernel : ∀ t : Fin grid0.N, win0_4.index t 0 = t.val) t
    have h1 := (by decide +kernel : ∀ t : Fin grid0.N, win0_4.index t 1 = 0) t
    refine (input_left m c t r k).trans ?_
    show _ = wholeIn m c (((cfg0.win 4).blk t).view.emb (ix2 r k))
    refine congrArg (wholeIn m c) (funext fun a => ?_)
    match a with
    | ⟨0, _⟩ => exact Fin.ext (by show 512 * t.val + r.val = win0_4.index t 0 * 512 + 1 * r.val; omega)
    | ⟨1, _⟩ => exact Fin.ext (by show k.val = win0_4.index t 1 * 1024 + 1 * k.val; omega)
  · have i0 : (i 0).val < 8192 := (i 0).isLt
    have i1 : (i 1).val < 1024 := (i 1).isLt
    let t : Fin cfg0.N := ⟨(i 0).val / 512, show (i 0).val / 512 < 16 by omega⟩
    have ht : t.val = (i 0).val / 512 := rfl
    have h0 := (by decide +kernel : ∀ t : Fin grid0.N, win0_4.index t 0 = t.val) t
    have h1 := (by decide +kernel : ∀ t : Fin grid0.N, win0_4.index t 1 = 0) t
    refine ⟨t, (by decide +kernel : ∀ t : Fin grid0.N, win0_4.flush t = true) t, ?_⟩
    show i ∈ ((View.whole main_v1_0).slice (win0_4.rect t)).set
    rw [View.set_slice_whole, Rect.mem_set_unit]
    intro a
    match a with
    | ⟨0, _⟩ => show win0_4.index t 0 * 512 ≤ (i 0).val ∧ (i 0).val < win0_4.index t 0 * 512 + 512; omega
    | ⟨1, _⟩ => show win0_4.index t 1 * 1024 ≤ (i 1).val ∧ (i 1).val < win0_4.index t 1 * 1024 + 1024; omega

theorem final_rounded : (dats m 0 c).arrAt 5 cfg0.N = wholeIn m c := by
  refine (dats m 0 c).arrAt_eq_of_cover 5 (wholeIn m c) (fun t hf => ?_) (fun i => ?_)
  · rw [flushed5]
    funext j
    obtain ⟨r, k, rfl⟩ : ∃ (r : Fin 512) (k : Fin 1024), j = ix2 r k := ⟨j 0, j 1, eq_ix2 j⟩
    have h0 := (by decide +kernel : ∀ t : Fin grid0.N, win0_5.index t 0 = t.val) t
    have h1 := (by decide +kernel : ∀ t : Fin grid0.N, win0_5.index t 1 = 0) t
    refine (rounded_left m c t r k).trans ?_
    show _ = wholeIn m c (((cfg0.win 5).blk t).view.emb (ix2 r k))
    refine congrArg (wholeIn m c) (funext fun a => ?_)
    match a with
    | ⟨0, _⟩ => exact Fin.ext (by show 512 * t.val + r.val = win0_5.index t 0 * 512 + 1 * r.val; omega)
    | ⟨1, _⟩ => exact Fin.ext (by show k.val = win0_5.index t 1 * 1024 + 1 * k.val; omega)
  · have i0 : (i 0).val < 8192 := (i 0).isLt
    have i1 : (i 1).val < 1024 := (i 1).isLt
    let t : Fin cfg0.N := ⟨(i 0).val / 512, show (i 0).val / 512 < 16 by omega⟩
    have ht : t.val = (i 0).val / 512 := rfl
    have h0 := (by decide +kernel : ∀ t : Fin grid0.N, win0_5.index t 0 = t.val) t
    have h1 := (by decide +kernel : ∀ t : Fin grid0.N, win0_5.index t 1 = 0) t
    refine ⟨t, (by decide +kernel : ∀ t : Fin grid0.N, win0_5.flush t = true) t, ?_⟩
    show i ∈ ((View.whole main_v1_1).slice (win0_5.rect t)).set
    rw [View.set_slice_whole, Rect.mem_set_unit]
    intro a
    match a with
    | ⟨0, _⟩ => show win0_5.index t 0 * 512 ≤ (i 0).val ∧ (i 0).val < win0_5.index t 0 * 512 + 512; omega
    | ⟨1, _⟩ => show win0_5.index t 1 * 1024 ≤ (i 1).val ∧ (i 1).val < win0_5.index t 1 * 1024 + 1024; omega

theorem final_weight : (dats m 0 c).arrAt 6 cfg0.N = wholeW m c := by
  refine (dats m 0 c).arrAt_eq_of_cover 6 (wholeW m c) (fun t hf => ?_) (fun i => ?_)
  · rw [flushed6]
    funext j
    obtain ⟨z, k, rfl⟩ : ∃ (z : Fin 1) (k : Fin 1024), j = ix2 z k := ⟨j 0, j 1, eq_ix2 j⟩
    obtain rfl : z = 0 := Subsingleton.elim _ _
    have h0 := (by decide +kernel : ∀ t : Fin grid0.N, win0_6.index t 0 = 0) t
    have h1 := (by decide +kernel : ∀ t : Fin grid0.N, win0_6.index t 1 = 0) t
    have hl : t.val = 15 := (by decide +kernel : ∀ t : Fin grid0.N, win0_6.flush t = true → t.val = 15) t hf
    refine (weight_left m c k t.val t.isLt).trans ?_
    show _ = wholeW m c (((cfg0.win 6).blk t).view.emb (ix2 (0 : Fin 1) k))
    have e : ((cfg0.win 6).blk t).view.emb (ix2 (0 : Fin 1) k) = (ix2 (0 : Fin 1) k : S1x1024.Idx) := by
      funext a
      match a with
      | ⟨0, _⟩ => exact Fin.ext (by show win0_6.index t 0 * 1 + 1 * 0 = 0; omega)
      | ⟨1, _⟩ => exact Fin.ext (by show win0_6.index t 1 * 1024 + 1 * k.val = k.val; omega)
    rw [e, hl]
    rfl
  · have i0 : (i 0).val < 1 := (i 0).isLt
    have i1 : (i 1).val < 1024 := (i 1).isLt
    let t : Fin cfg0.N := ⟨15, by decide⟩
    have h0 := (by decide +kernel : ∀ t : Fin grid0.N, win0_6.index t 0 = 0) t
    have h1 := (by decide +kernel : ∀ t : Fin grid0.N, win0_6.index t 1 = 0) t
    refine ⟨t, (by decide +kernel : ∀ t : Fin grid0.N, t.val = 15 → win0_6.flush t = true) t rfl, ?_⟩
    show i ∈ ((View.whole main_v1_2).slice (win0_6.rect t)).set
    rw [View.set_slice_whole, Rect.mem_set_unit]
    intro a
    match a with
    | ⟨0, _⟩ => show win0_6.index t 0 * 1 ≤ (i 0).val ∧ (i 0).val < win0_6.index t 0 * 1 + 1; omega
    | ⟨1, _⟩ => show win0_6.index t 1 * 1024 ≤ (i 1).val ∧ (i 1).val < win0_6.index t 1 * 1024 + 1024; omega

/-! ## The reference's three results -/

section Reference

open Cert.Reference7Ideal.Read
open Cert.Reference7Ideal (S8192x1)

variable (D : S8192x2560.Idx → EReal) (W : S1024x2560.Idx → EReal) (X : S8192x1024.Idx → EReal) (N : S1x1024.Idx → EReal)
  (E : S8192x1024.Idx → EReal)

/-- Row `r` of a one-axis array over the rows. -/
abbrev only (r : Fin 8192) : Cert.Reference7Ideal.S8192.Idx := fun a => match a with
  | ⟨0, _⟩ => r

theorem zero_bits : (FloatOps.ofBits .f32 0x00000000#32 : Ideal .f32) = (0 : EReal) := by
  show Ideal.ofBits .f32 0x00000000#32 = 0
  simp [Ideal.ofBits, Ideal.ieee]

theorem ref_rows (i : S8192x1024.Idx) : val_main_v18 (F := Ideal) D W i = rowsGrad D W (i 0) (i 1) := by
  rw [val_main_v18_apply]
  unfold rowsGrad
  refine Finset.sum_congr rfl fun k _ => ?_
  rw [val_main_v17_apply, val_main_v15_apply]
  refine congrArg₂ (· * ·) (congrArg D (funext fun a => ?_)) (congrArg W (funext fun a => ?_))
  · match a with
    | ⟨0, _⟩ => rfl
    | ⟨1, _⟩ => rfl
  · match a with
    | ⟨0, _⟩ => rfl
    | ⟨1, _⟩ => rfl

theorem ref_ms (r : Fin 8192) : val_main_v6 (F := Ideal) X (ix2 r (0 : Fin 1)) = Rms.ms (fun k => X (ix2 r k)) := by
  rw [val_main_v6_apply, val_main_v4_apply, val_main_v5_apply, val_main_cst_1_apply, val_main_v3_apply, val_main_cst_0_apply,
    val_main_v2_apply, val_main_v1_apply, val_main_cst_apply, zero_bits, zero_add]
  refine congrArg (fun s : EReal => Ideal.div s Rms.len + Rms.eps) (Finset.sum_congr rfl fun k _ => ?_)
  rw [val_main_v0_apply]
  have e : idx_main_v1 (idx_main_v2 (ix2 r (0 : Fin 1))) k = ix2 r k := funext fun a => Fin.ext (by
    match a with
    | ⟨0, _⟩ => first | rfl | (show r.val * 1 + 0 = r.val; omega)
    | ⟨1, _⟩ => rfl)
  rw [e]
  rfl

theorem ref_rr (r : Fin 8192) : val_main_v7 (F := Ideal) X (ix2 r (0 : Fin 1)) = Rms.rr (fun k => X (ix2 r k)) := by
  rw [val_main_v7_apply, ref_ms]
  rfl

theorem ref_slope (r : Fin 8192) : val_main_v33 (F := Ideal) D W X N (only r)
    = Rms.slope (fun k => X (ix2 r k)) (fun k => rowsGrad D W r k * N (ix2 (0 : Fin 1) k)) := by
  rw [val_main_v33_apply, val_main_cst_6_apply, zero_bits, zero_add, Fin.sum_univ_one]
  have e : idx_main_v33 (only r) 0 = ix2 r (0 : Fin 1) := funext fun a => by
    match a with
    | ⟨0, _⟩ => rfl
    | ⟨1, _⟩ => rfl
  rw [e, val_main_v32_apply, val_main_v31_apply, val_main_cst_5_apply, val_main_v30_apply, val_main_v10_apply, val_main_v9_apply,
    val_main_cst_2_apply, val_main_v8_apply, ref_rr, ref_ms, val_main_v26_apply, val_main_v25_apply, val_main_cst_4_apply, zero_bits, zero_add]
  refine congrArg (fun s : EReal => Ideal.div (s * (Rms.half * Ideal.div (Rms.rr (fun k => X (ix2 r k))) (Rms.ms (fun k => X (ix2 r k))))) Rms.len)
    (Finset.sum_congr rfl fun k _ => ?_)
  have e1 : idx_main_v25 (idx_main_v26 (ix2 r (0 : Fin 1))) k = ix2 r k := funext fun a => Fin.ext (by
    match a with
    | ⟨0, _⟩ => first | rfl | (show r.val * 1 + 0 = r.val; omega)
    | ⟨1, _⟩ => rfl)
  have e2 : idx_main_v22 (ix2 r k) = ix2 (0 : Fin 1) k := funext fun a => by
    match a with
    | ⟨0, _⟩ => rfl
    | ⟨1, _⟩ => rfl
  rw [e1, val_main_v24_apply, val_main_v23_apply, ref_rows, val_main_v22_apply, e2]
  rfl

/-- The reference's first result. -/
theorem ref_input (i : S8192x1024.Idx) : val_main_v38 (F := Ideal) D W X N E i = inputGrad (rowsGrad D W) X N E i := by
  obtain ⟨r, j, rfl⟩ : ∃ (r : Fin 8192) (j : Fin 1024), i = ix2 r j := ⟨i 0, i 1, eq_ix2 i⟩
  have e1 : idx_main_v34 (ix2 r j) = only r := funext fun a => by
    match a with
    | ⟨0, _⟩ => rfl
  have e2 : idx_main_v22 (ix2 r j) = ix2 (0 : Fin 1) j := funext fun a => by
    match a with
    | ⟨0, _⟩ => rfl
    | ⟨1, _⟩ => rfl
  have e3 : idx_main_v27 (ix2 r j) = ix2 r (0 : Fin 1) := funext fun a => by
    match a with
    | ⟨0, _⟩ => rfl
    | ⟨1, _⟩ => rfl
  rw [val_main_v38_apply, val_main_v37_apply, val_main_v36_apply, val_main_v35_apply, val_main_v34_apply, e1, ref_slope, val_main_v29_apply,
    val_main_v28_apply, val_main_v27_apply, e3, ref_rr, val_main_v23_apply, ref_rows, val_main_v22_apply, e2]
  exact (Rms.back_eq (fun k => X (ix2 r k)) (fun k => rowsGrad D W r k * N (ix2 (0 : Fin 1) k)) (E (ix2 r j)) j).symm

/-- The reference's second result: the first, rounded. -/
theorem ref_rounded (i : S8192x1024.Idx) : val_main_v39 (F := Ideal) D W X N E i = inputGrad (rowsGrad D W) X N E i := by
  rw [val_main_v39_apply]
  exact ref_input D W X N E i

/-- The reference's third result. -/
theorem ref_weight (i : S1x1024.Idx) : val_main_v21 (F := Ideal) D W X i = weightGrad (rowsGrad D W) X i := by
  obtain ⟨z, j, rfl⟩ : ∃ (z : Fin 1) (j : Fin 1024), i = ix2 z j := ⟨i 0, i 1, eq_ix2 i⟩
  obtain rfl : z = 0 := Subsingleton.elim _ _
  rw [val_main_v21_apply, val_main_v20_apply, val_main_cst_3_apply, zero_bits, zero_add]
  refine weightGrad_eq (rowsGrad D W) X (ix2 (0 : Fin 1) j) _ fun r => ?_
  have e : idx_main_v20 (idx_main_v21 (ix2 (0 : Fin 1) j)) r = ix2 r j := funext fun a => Fin.ext (by
    match a with
    | ⟨0, _⟩ => rfl
    | ⟨1, _⟩ => first | rfl | (show 0 * 1024 + j.val = j.val; omega))
  have e3 : idx_main_v11 (ix2 r j) = ix2 r (0 : Fin 1) := funext fun a => by
    match a with
    | ⟨0, _⟩ => rfl
    | ⟨1, _⟩ => rfl
  rw [e, val_main_v19_apply, val_main_v12_apply, val_main_v11_apply, e3, ref_rr, ref_rows]
  rfl

end Reference

end Cert.Kernel7Ideal.Norm

end
-- ==== Proof.Norm8.lean ====
/- The backward pass of the even layer's first product, `d_h0`: what one block of rows computes, and what the call ends holding. -/
module

public import proofs.«01_k».proof.Proof.Gen.Kernel8Ideal.Value
public import proofs.«01_k».proof.Proof.Gen.Reference8Ideal.Read
public import proofs.«01_k».proof.Proof.Rows
public import proofs.«01_k».proof.Proof.NormSpec

@[expose] public section

noncomputable section

namespace Cert.Kernel8Ideal.Norm

open Cert.Kernel8Ideal Cert.Kernel8Ideal.Gen Cert.Kernel8Ideal.Value
open Idealize.ShloMosaic Idealize.ShloMosaic.TcCoe Idealize.SL.Sem Idealize.ShloMosaic.Bands Idealize.ShloMosaic.Rms
open Idealize.ShloMosaic.Pipeline (Dat)

section Body

variable (c : Dev nD) (i : grid0.Coords) {arg1 : Memref sig .tc .vmem S512x7168 .bf16} {harg1 : arg1.IsWhole}
  {arg3 : Memref sig .tc .vmem S512x1024 .f32} {harg3 : arg3.IsWhole} {arg4 : Memref sig .tc .vmem S1x1024 .f32} {harg4 : arg4.IsWhole}
  {arg5 : Memref sig .tc .vmem S512x1024 .f32} {harg5 : arg5.IsWhole} {arg6 : Memref sig .tc .vmem S512x1024 .f32} {harg6 : arg6.IsWhole}
  {arg7 : Memref sig .tc .vmem S512x1024 .bf16} {harg7 : arg7.IsWhole} {arg8 : Memref sig .tc .vmem S1x1024 .f32} {harg8 : arg8.IsWhole}
  {arg9 : Memref sig .tc .vmem S8x1024x896 .bf16} {harg9 : arg9.IsWhole}
  (x0 : Vec Ideal S512x7168 .bf16) (x1 : Vec Ideal S512x1024 .f32) (x2 : Vec Ideal S1x1024 .f32) (x3 : Vec Ideal S512x1024 .f32)
  (xo6 : Vec Ideal S1x1024 .f32) (xs0 : Vec Ideal S8x1024x896 .bf16) (fh0 : HbBuf0 (F := Ideal) c hbM0_0)

/-- The gradient of the normalised rows of a block: the columns' products, group by group. -/
def dh (x0 : Vec Ideal S512x7168 .bf16) (w : Vec Ideal S8x1024x896 .bf16) : FVec Ideal S512x1024 .f32 := fun i =>
  ∑ n : Fin 8, ∑ k : Fin 896, (x0 (ix2 (i 0) ⟨896 * n.val + k.val, by omega⟩) : EReal) * w (ix3 n (i 1) k)

/-- What the transfer carries. -/
theorem carried : kernelRun0_A.sl.dma0 c fh0 = fh0 := by
  unfold kernelRun0_A.sl.dma0
  rfl

theorem product_A : kernelRun0_A.sl.r_2 c arg1 harg1 arg9 x0 fh0 = dh x0 fh0 := by
  funext y
  obtain ⟨r, j, rfl⟩ : ∃ (r : Fin 512) (j : Fin 1024), y = ix2 r j := ⟨y 0, y 1, eq_ix2 y⟩
  refine Eq.trans ?_ (Fin.sum_univ_eight _).symm
  unfold kernelRun0_A.sl.r_2
  simp only [kernelRun0_A.sl.r, kernelRun0_A.sl.r_1, kernelRun0_A.sl.v4, kernelRun0_A.sl.v8, kernelRun0_A.sl.v13, kernelRun0_A.sl.v18,
    kernelRun0_A.sl.v23, kernelRun0_A.sl.v28, kernelRun0_A.sl.v33, kernelRun0_A.sl.v38, carried,
    View.readCov_eq_canon', View.readAt_eq_ld, Memref.IsWhole.read_unread, canon_whole]
  pointwise [k0_pay7, k0_pay6, k0_pay5]

theorem product_B : kernelRun0_B.sl.r_2 c arg1 harg1 arg9 harg9 x0 xs0 = dh x0 xs0 := by
  funext y
  obtain ⟨r, j, rfl⟩ : ∃ (r : Fin 512) (j : Fin 1024), y = ix2 r j := ⟨y 0, y 1, eq_ix2 y⟩
  refine Eq.trans ?_ (Fin.sum_univ_eight _).symm
  unfold kernelRun0_B.sl.r_2
  simp only [kernelRun0_B.sl.r, kernelRun0_B.sl.r_1, View.readAt_eq_ld, Memref.IsWhole.read_unread]
  pointwise [k0_pay7, k0_pay6, k0_pay5]

theorem weight_at (j : Fin 1024) (v6 : FVec Ideal S512x1024 .f32) : k0_pay3 v6 (k0_pay9 x1) (ix2 0 j)
    = ∑ r : Fin 512, v6 (ix2 r j) * (x1 (ix2 r j) * Rms.rr (fun k => x1 (ix2 r k))) := by
  pointwise [k0_pay3, k0_pay9, k0_pay8, Rms.rr, Rms.ms, Rms.len, Rms.eps]

theorem weight_more_at (j : Fin 1024) (v6 : FVec Ideal S512x1024 .f32) : k0_pay4 v6 (k0_pay9 x1) xo6 (ix2 0 j)
    = xo6 (ix2 0 j) + ∑ r : Fin 512, v6 (ix2 r j) * (x1 (ix2 r j) * Rms.rr (fun k => x1 (ix2 r k))) := by
  rw [← weight_at]
  pointwise [k0_pay4]

/-- The block's result from its products with the weights and their sums against the normalised rows. -/
theorem input_at (v : FVec Ideal S512x1024 .f32) (s : FVec Ideal S512x1 .f32)
    (hs : ∀ r : Fin 512, s (ix2 r (0 : Fin 1)) = ∑ k : Fin 1024, v (ix2 r k) * k0_pay9 x1 (ix2 r k)) (r : Fin 512) (j : Fin 1024) :
    k0_pay1 (k0_pay8 x1) (k0_pay9 x1) v s (Scalar.ofBits .f32 0x44800000#32) x3 (ix2 r j)
      = Rms.back (fun k => x1 (ix2 r k)) (fun k => v (ix2 r k)) (x3 (ix2 r j)) j := by
  have h := hs r
  pointwise [k0_pay1]
  rw [h]
  pointwise [k0_pay9, k0_pay8, Rms.back, Rms.rr, Rms.ms, Rms.len, Rms.eps]

theorem rounded_at (v : FVec Ideal S512x1024 .f32) (s : FVec Ideal S512x1 .f32)
    (hs : ∀ r : Fin 512, s (ix2 r (0 : Fin 1)) = ∑ k : Fin 1024, v (ix2 r k) * k0_pay9 x1 (ix2 r k)) (r : Fin 512) (j : Fin 1024) :
    k0_pay2 (k0_pay8 x1) (k0_pay9 x1) v s (Scalar.ofBits .f32 0x44800000#32) x3 (ix2 r j)
      = Rms.back (fun k => x1 (ix2 r k)) (fun k => v (ix2 r k)) (x3 (ix2 r j)) j := by
  rw [← input_at x1 x3 v s hs]
  pointwise [k0_pay2]

theorem root_A : kernelRun0_A.sl.r_3 c arg3 harg3 x1 = k0_pay8 x1 := by
  unfold kernelRun0_A.sl.r_3
  simp only [View.readAt_eq_ld, Memref.IsWhole.read_unread, ld_all]

theorem root_B : kernelRun0_B.sl.r_3 c arg3 harg3 x1 = k0_pay8 x1 := by
  unfold kernelRun0_B.sl.r_3
  simp only [View.readAt_eq_ld, Memref.IsWhole.read_unread, ld_all]

theorem normed_A : kernelRun0_A.sl.r_4 c arg3 harg3 x1 = k0_pay9 x1 := by
  unfold kernelRun0_A.sl.r_4
  simp only [View.readAt_eq_ld, Memref.IsWhole.read_unread, ld_all]

theorem normed_B : kernelRun0_B.sl.r_4 c arg3 harg3 x1 = k0_pay9 x1 := by
  unfold kernelRun0_B.sl.r_4
  simp only [View.readAt_eq_ld, Memref.IsWhole.read_unread, ld_all]

theorem scaled_A (r : Fin 512) (k : Fin 1024) :
    kernelRun0_A.sl.r_5 c arg1 harg1 arg4 harg4 arg9 x0 x2 fh0 (ix2 r k) = dh x0 fh0 (ix2 r k) * x2 (ix2 0 k) := by
  rw [← product_A c (arg1 := arg1) (harg1 := harg1) (arg9 := arg9) x0 fh0]
  unfold kernelRun0_A.sl.r_5 kernelRun0_A.sl.r_2
  simp only [View.readAt_eq_ld, Memref.IsWhole.read_unread, ld_all]
  pointwise [k0_pay10]

theorem scaled_B (r : Fin 512) (k : Fin 1024) :
    kernelRun0_B.sl.r_5 c arg1 harg1 arg4 harg4 arg9 harg9 x0 x2 xs0 (ix2 r k) = dh x0 xs0 (ix2 r k) * x2 (ix2 0 k) := by
  rw [← product_B c (arg1 := arg1) (harg1 := harg1) (arg9 := arg9) (harg9 := harg9) x0 xs0]
  unfold kernelRun0_B.sl.r_5 kernelRun0_B.sl.r_2
  simp only [View.readAt_eq_ld, Memref.IsWhole.read_unread, ld_all]
  pointwise [k0_pay10]

theorem sums_A (r : Fin 512) :
    kernelRun0_A.sl.r_6 c arg1 harg1 arg3 harg3 arg4 harg4 arg9 x0 x1 x2 fh0 (ix2 r (0 : Fin 1))
      = ∑ k : Fin 1024, kernelRun0_A.sl.r_5 c arg1 harg1 arg4 harg4 arg9 x0 x2 fh0 (ix2 r k) * k0_pay9 x1 (ix2 r k) := by
  unfold kernelRun0_A.sl.r_6 kernelRun0_A.sl.r_5
  simp only [View.readAt_eq_ld, Memref.IsWhole.read_unread, ld_all]
  pointwise [k0_pay11]

theorem sums_B (r : Fin 512) :
    kernelRun0_B.sl.r_6 c arg1 harg1 arg3 harg3 arg4 harg4 arg9 harg9 x0 x1 x2 xs0 (ix2 r (0 : Fin 1))
      = ∑ k : Fin 1024, kernelRun0_B.sl.r_5 c arg1 harg1 arg4 harg4 arg9 harg9 x0 x2 xs0 (ix2 r k) * k0_pay9 x1 (ix2 r k) := by
  unfold kernelRun0_B.sl.r_6 kernelRun0_B.sl.r_5
  simp only [View.readAt_eq_ld, Memref.IsWhole.read_unread, ld_all]
  pointwise [k0_pay11]

theorem first_scratch (hc0 : cond0_0 i) (hc1 : cond0_1 i) (hc2 : ¬cond0_2 i) :
    sout0_A_0 c i arg1 harg1 arg3 harg3 arg4 harg4 arg5 harg5 arg6 harg6 arg7 harg7 arg8 harg8 arg9 harg9 hc0 hc1 hc2 x0 x1 x2 x3 fh0 = fh0 := by
  unfold sout0_A_0
  rw [View.read_writes_junk_eq_canon]
  unfold kernelRun0_A
  dsimp only
  rw [canon_whole, carried]

theorem first_input (hc0 : cond0_0 i) (hc1 : cond0_1 i) (hc2 : ¬cond0_2 i) (r : Fin 512) (j : Fin 1024) :
    out0_A_4 c i arg1 harg1 arg3 harg3 arg4 harg4 arg5 harg5 arg6 harg6 arg7 harg7 arg8 harg8 arg9 harg9 hc0 hc1 hc2 x0 x1 x2 x3 fh0 (ix2 r j)
      = Rms.back (fun k => x1 (ix2 r k)) (fun k => dh x0 fh0 (ix2 r k) * x2 (ix2 0 k)) (x3 (ix2 r j)) j := by
  unfold out0_A_4
  rw [View.read_writes_junk_eq_canon]
  unfold kernelRun0_A
  dsimp only
  simp only [root_A, normed_A, View.readAt_eq_ld, Memref.IsWhole.read_unread, ld_all, canon_all]
  refine (input_at x1 x3 _ _ (sums_A c x0 x1 x2 fh0) r j).trans ?_
  exact congrArg (fun f => Rms.back (fun k => x1 (ix2 r k)) f (x3 (ix2 r j)) j) (funext fun k => scaled_A c x0 x2 fh0 r k)

theorem first_rounded (hc0 : cond0_0 i) (hc1 : cond0_1 i) (hc2 : ¬cond0_2 i) (r : Fin 512) (j : Fin 1024) :
    out0_A_5 c i arg1 harg1 arg3 harg3 arg4 harg4 arg5 harg5 arg6 harg6 arg7 harg7 arg8 harg8 arg9 harg9 hc0 hc1 hc2 x0 x1 x2 x3 fh0 (ix2 r j)
      = Rms.back (fun k => x1 (ix2 r k)) (fun k => dh x0 fh0 (ix2 r k) * x2 (ix2 0 k)) (x3 (ix2 r j)) j := by
  unfold out0_A_5
  rw [View.read_writes_junk_eq_canon]
  unfold kernelRun0_A
  dsimp only
  simp only [root_A, normed_A, View.readAt_eq_ld, Memref.IsWhole.read_unread, ld_all, canon_all]
  refine (rounded_at x1 x3 _ _ (sums_A c x0 x1 x2 fh0) r j).trans ?_
  exact congrArg (fun f => Rms.back (fun k => x1 (ix2 r k)) f (x3 (ix2 r j)) j) (funext fun k => scaled_A c x0 x2 fh0 r k)

theorem first_weight (hc0 : cond0_0 i) (hc1 : cond0_1 i) (hc2 : ¬cond0_2 i) (j : Fin 1024) :
    out0_A_6 c i arg1 harg1 arg3 harg3 arg4 harg4 arg5 harg5 arg6 harg6 arg7 harg7 arg8 harg8 arg9 harg9 hc0 hc1 hc2 x0 x1 x2 x3 fh0 (ix2 0 j)
      = ∑ r : Fin 512, dh x0 fh0 (ix2 r j) * (x1 (ix2 r j) * Rms.rr (fun k => x1 (ix2 r k))) := by
  unfold out0_A_6
  rw [View.read_writes_junk_eq_canon]
  unfold kernelRun0_A
  dsimp only
  simp only [product_A, normed_A, View.readAt_eq_ld, Memref.IsWhole.read_unread, ld_all, canon_all]
  exact weight_at x1 j (dh x0 fh0)

theorem later_scratch (hc0 : ¬cond0_0 i) (hc1 : ¬cond0_1 i) (hc2 : cond0_2 i) :
    sout0_B_0 c i arg1 harg1 arg3 harg3 arg4 harg4 arg5 harg5 arg6 harg6 arg7 harg7 arg8 harg8 arg9 harg9 hc0 hc1 hc2 x0 x1 x2 x3 xo6 xs0 fh0 = xs0 := by
  unfold sout0_B_0
  rfl

theorem later_input (hc0 : ¬cond0_0 i) (hc1 : ¬cond0_1 i) (hc2 : cond0_2 i) (r : Fin 512) (j : Fin 1024) :
    out0_B_4 c i arg1 harg1 arg3 harg3 arg4 harg4 arg5 harg5 arg6 harg6 arg7 harg7 arg8 harg8 arg9 harg9 hc0 hc1 hc2 x0 x1 x2 x3 xo6 xs0 fh0 (ix2 r j)
      = Rms.back (fun k => x1 (ix2 r k)) (fun k => dh x0 xs0 (ix2 r k) * x2 (ix2 0 k)) (x3 (ix2 r j)) j := by
  unfold out0_B_4
  rw [View.read_writes_junk_eq_canon]
  unfold kernelRun0_B
  dsimp only
  simp only [root_B, normed_B, View.readAt_eq_ld, Memref.IsWhole.read_unread, ld_all, canon_all]
  refine (input_at x1 x3 _ _ (sums_B c x0 x1 x2 xs0) r j).trans ?_
  exact congrArg (fun f => Rms.back (fun k => x1 (ix2 r k)) f (x3 (ix2 r j)) j) (funext fun k => scaled_B c x0 x2 xs0 r k)

theorem later_rounded (hc0 : ¬cond0_0 i) (hc1 : ¬cond0_1 i) (hc2 : cond0_2 i) (r : Fin 512) (j : Fin 1024) :
    out0_B_5 c i arg1 harg1 arg3 harg3 arg4 harg4 arg5 harg5 arg6 harg6 arg7 harg7 arg8 harg8 arg9 harg9 hc0 hc1 hc2 x0 x1 x2 x3 xo6 xs0 fh0 (ix2 r j)
      = Rms.back (fun k => x1 (ix2 r k)) (fun k => dh x0 xs0 (ix2 r k) * x2 (ix2 0 k)) (x3 (ix2 r j)) j := by
  unfold out0_B_5
  rw [View.read_writes_junk_eq_canon]
  unfold kernelRun0_B
  dsimp only
  simp only [root_B, normed_B, View.readAt_eq_ld, Memref.IsWhole.read_unread, ld_all, canon_all]
  refine (rounded_at x1 x3 _ _ (sums_B c x0 x1 x2 xs0) r j).trans ?_
  exact congrArg (fun f => Rms.back (fun k => x1 (ix2 r k)) f (x3 (ix2 r j)) j) (funext fun k => scaled_B c x0 x2 xs0 r k)

theorem later_weight (hc0 : ¬cond0_0 i) (hc1 : ¬cond0_1 i) (hc2 : cond0_2 i) (j : Fin 1024) :
    out0_B_6 c i arg1 harg1 arg3 harg3 arg4 harg4 arg5 harg5 arg6 harg6 arg7 harg7 arg8 harg8 arg9 harg9 hc0 hc1 hc2 x0 x1 x2 x3 xo6 xs0 fh0 (ix2 0 j)
      = xo6 (ix2 0 j) + ∑ r : Fin 512, dh x0 xs0 (ix2 r j) * (x1 (ix2 r j) * Rms.rr (fun k => x1 (ix2 r k))) := by
  unfold out0_B_6
  rw [View.read_writes_junk_eq_canon]
  unfold kernelRun0_B
  dsimp only
  simp only [product_B, normed_B, View.readAt_eq_ld, Memref.IsWhole.read_unread, ld_all, canon_all]
  exact weight_more_at x1 xo6 j (dh x0 xs0)

end Body

variable (m : (ℓ : Loc nD τ sig) → Buf (Elt Ideal) ℓ) (c : Dev nD)

abbrev aD : S8192x7168.Idx → EReal := m ((c : Thread nD τ).loc main_arg0)
abbrev aW : S8x1024x896.Idx → EReal := m ((c : Thread nD τ).loc main_arg1)
abbrev aX : S8192x1024.Idx → EReal := m ((c : Thread nD τ).loc main_arg2)
abbrev aN : S1x1024.Idx → EReal := m ((c : Thread nD τ).loc main_arg3)
abbrev aE : S8192x1024.Idx → EReal := m ((c : Thread nD τ).loc main_arg4)

/-- A sum over all columns, group by group. -/
theorem sum_groups (f : Fin 7168 → EReal) :
    ∑ k : Fin 7168, f k = ∑ n : Fin 8, ∑ k : Fin 896, f ⟨896 * n.val + k.val, by omega⟩ := by
  rw [← Fintype.sum_prod_type (f := fun p : Fin 8 × Fin 896 => f ⟨896 * p.1.val + p.2.val, by have := p.1.isLt; have := p.2.isLt; omega⟩)]
  exact (Fintype.sum_equiv (finProdFinEquiv (m := 8) (n := 896)) _ _ fun p => congrArg f (Fin.ext (by
    show 896 * p.1.val + p.2.val = p.2.val + 896 * p.1.val
    omega))).symm

/-- The gradient of the normalised rows. -/
@[irreducible] def rowsGrad (D : S8192x7168.Idx → EReal) (W : S8x1024x896.Idx → EReal) (r : Fin 8192) (j : Fin 1024) : EReal :=
  ∑ k : Fin 7168, D (ix2 r k) * W (ix3 (⟨k.val / 896, by omega⟩ : Fin 8) j (⟨k.val % 896, by omega⟩ : Fin 896))

abbrev b0 (t : Fin cfg0.N) : Vec Ideal S512x7168 .bf16 := iblk m c 0 t
abbrev b1 (t : Fin cfg0.N) : Vec Ideal S512x1024 .f32 := iblk m c 1 t
abbrev b2 (t : Fin cfg0.N) : Vec Ideal S1x1024 .f32 := iblk m c 2 t
abbrev b3 (t : Fin cfg0.N) : Vec Ideal S512x1024 .f32 := iblk m c 3 t
abbrev bw : Vec Ideal S8x1024x896 .bf16 := V m c main_arg1

theorem lt_N (t : Fin cfg0.N) : t.val < 16 := t.isLt

/-- Row `r` of the block of point `t`. -/
abbrev row (t : Fin cfg0.N) (r : Fin 512) : Fin 8192 := ⟨512 * t.val + r.val, by have := lt_N t; omega⟩

theorem at0 (t : Fin cfg0.N) (r : Fin 512) (k : Fin 7168) : b0 m c t (ix2 r k) = aD m c (ix2 (row t r) k) := by
  have h0 := (by decide +kernel : ∀ t : Fin grid0.N, win0_0.index t 0 = t.val) t
  have h1 := (by decide +kernel : ∀ t : Fin grid0.N, win0_0.index t 1 = 0) t
  show V m c main_arg0 (((cfg0.win 0).blk t).view.emb (ix2 r k)) = _
  rw [V_main_arg0]
  refine congrArg (m ((c : Thread nD τ).loc main_arg0)) (funext fun a => ?_)
  match a with
  | ⟨0, _⟩ => exact Fin.ext (by show win0_0.index t 0 * 512 + 1 * r.val = 512 * t.val + r.val; omega)
  | ⟨1, _⟩ => exact Fin.ext (by show win0_0.index t 1 * 7168 + 1 * k.val = k.val; omega)

theorem at1 (t : Fin cfg0.N) (r : Fin 512) (k : Fin 1024) : b1 m c t (ix2 r k) = aX m c (ix2 (row t r) k) := by
  have h0 := (by decide +kernel : ∀ t : Fin grid0.N, win0_1.index t 0 = t.val) t
  have h1 := (by decide +kernel : ∀ t : Fin grid0.N, win0_1.index t 1 = 0) t
  show V m c main_arg2 (((cfg0.win 1).blk t).view.emb (ix2 r k)) = _
  rw [V_main_arg2]
  refine congrArg (m ((c : Thread nD τ).loc main_arg2)) (funext fun a => ?_)
  match a with
  | ⟨0, _⟩ => exact Fin.ext (by show win0_1.index t 0 * 512 + 1 * r.val = 512 * t.val + r.val; omega)
  | ⟨1, _⟩ => exact Fin.ext (by show win0_1.index t 1 * 1024 + 1 * k.val = k.val; omega)

theorem at2 (t : Fin cfg0.N) (k : Fin 1024) : b2 m c t (ix2 (0 : Fin 1) k) = aN m c (ix2 (0 : Fin 1) k) := by
  have h0 := (by decide +kernel : ∀ t : Fin grid0.N, win0_2.index t 0 = 0) t
  have h1 := (by decide +kernel : ∀ t : Fin grid0.N, win0_2.index t 1 = 0) t
  show V m c main_arg3 (((cfg0.win 2).blk t).view.emb (ix2 (0 : Fin 1) k)) = _
  rw [V_main_arg3]
  refine congrArg (m ((c : Thread nD τ).loc main_arg3)) (funext fun a => ?_)
  match a with
  | ⟨0, _⟩ => exact Fin.ext (by show win0_2.index t 0 * 1 + 1 * 0 = 0; omega)
  | ⟨1, _⟩ => exact Fin.ext (by show win0_2.index t 1 * 1024 + 1 * k.val = k.val; omega)

theorem at3 (t : Fin cfg0.N) (r : Fin 512) (k : Fin 1024) : b3 m c t (ix2 r k) = aE m c (ix2 (row t r) k) := by
  have h0 := (by decide +kernel : ∀ t : Fin grid0.N, win0_3.index t 0 = t.val) t
  have h1 := (by decide +kernel : ∀ t : Fin grid0.N, win0_3.index t 1 = 0) t
  show V m c main_arg4 (((cfg0.win 3).blk t).view.emb (ix2 r k)) = _
  rw [V_main_arg4]
  refine congrArg (m ((c : Thread nD τ).loc main_arg4)) (funext fun a => ?_)
  match a with
  | ⟨0, _⟩ => exact Fin.ext (by show win0_3.index t 0 * 512 + 1 * r.val = 512 * t.val + r.val; omega)
  | ⟨1, _⟩ => exact Fin.ext (by show win0_3.index t 1 * 1024 + 1 * k.val = k.val; omega)

/-- The block's product is the rows' part of the whole one. -/
theorem block_rows (t : Fin cfg0.N) (r : Fin 512) (j : Fin 1024) :
    dh (b0 m c t) (bw m c) (ix2 r j) = rowsGrad (aD m c) (aW m c) (row t r) j := by
  unfold rowsGrad
  rw [sum_groups]
  refine Finset.sum_congr rfl fun n _ => Finset.sum_congr rfl fun k _ => ?_
  refine congrArg₂ (· * ·) (at0 m c t r ⟨896 * n.val + k.val, by omega⟩) (congrArg (aW m c) (funext fun a => Fin.ext ?_))
  match a with
  | ⟨0, _⟩ => show n.val = (896 * n.val + k.val) / 896; omega
  | ⟨1, _⟩ => rfl
  | ⟨2, _⟩ => show k.val = (896 * n.val + k.val) % 896; omega

/-- The weights stay where the first point put them. -/
theorem kept_weights : ∀ (n : ℕ) (hn : n < cfg0.N), (outsAt0 m c n hn).2.2.2 = bw m c
  | 0, hn => by
    have h := outsAt0_A m c ⟨0, hn⟩ (by dsimp only) (by dsimp only) (by dsimp only; omega)
    dsimp only at h
    rw [h]
    dsimp only
    rw [first_scratch]
  | n + 1, hn => by
    have hN : n + 1 < 16 := hn
    have h := outsAt0_B m c ⟨n + 1, hn⟩ (by dsimp only; omega) (by dsimp only; omega) (by dsimp only; omega)
    dsimp only at h
    rw [h]
    dsimp only
    rw [later_scratch]
    exact kept_weights n (by omega)

theorem kept_before (t : Fin cfg0.N) (h : t.val - 1 < cfg0.N) : (outsAt0 m c (t.val - 1) h).2.2.2 = bw m c :=
  kept_weights m c _ h

/-- The arrays the call computes. -/
abbrev wholeIn : S8192x1024.Idx → EReal := inputGrad (rowsGrad (aD m c) (aW m c)) (aX m c) (aN m c) (aE m c)
abbrev wholeW : S1x1024.Idx → EReal := weightGrad (rowsGrad (aD m c) (aW m c)) (aX m c)

theorem back_at (t : Fin cfg0.N) (r : Fin 512) (j : Fin 1024) :
    Rms.back (fun k => b1 m c t (ix2 r k)) (fun k => dh (b0 m c t) (bw m c) (ix2 r k) * b2 m c t (ix2 (0 : Fin 1) k))
      (b3 m c t (ix2 r j)) j = wholeIn m c (ix2 (row t r) j) := by
  have h1 : (fun k => b1 m c t (ix2 r k)) = fun k => aX m c (ix2 (row t r) k) := funext fun k => at1 m c t r k
  have h2 : (fun k => dh (b0 m c t) (bw m c) (ix2 r k) * b2 m c t (ix2 (0 : Fin 1) k))
      = fun k => rowsGrad (aD m c) (aW m c) (row t r) k * aN m c (ix2 (0 : Fin 1) k) :=
    funext fun k => congrArg₂ (· * ·) (block_rows m c t r k) (at2 m c t k)
  rw [h1, h2, at3]
  rfl

theorem input_left (t : Fin cfg0.N) (r : Fin 512) (j : Fin 1024) :
    (outsAt0 m c t.val t.isLt).1 (ix2 r j) = wholeIn m c (ix2 (row t r) j) := by
  have ht := lt_N t
  by_cases h : t.val = 0
  · rw [outsAt0_A m c t (by omega) (by omega) (by omega)]
    dsimp only
    rw [first_input]
    exact back_at m c t r j
  · rw [outsAt0_B m c t (by omega) (by omega) (by omega)]
    dsimp only
    rw [later_input, kept_before]
    exact back_at m c t r j

theorem rounded_left (t : Fin cfg0.N) (r : Fin 512) (j : Fin 1024) :
    (outsAt0 m c t.val t.isLt).2.1 (ix2 r j) = wholeIn m c (ix2 (row t r) j) := by
  have ht := lt_N t
  by_cases h : t.val = 0
  · rw [outsAt0_A m c t (by omega) (by omega) (by omega)]
    dsimp only
    rw [first_rounded]
    exact back_at m c t r j
  · rw [outsAt0_B m c t (by omega) (by omega) (by omega)]
    dsimp only
    rw [later_rounded, kept_before]
    exact back_at m c t r j

theorem term_at (t : Fin cfg0.N) (j : Fin 1024) (r : Fin 512) :
    dh (b0 m c t) (bw m c) (ix2 r j) * (b1 m c t (ix2 r j) * Rms.rr (fun k => b1 m c t (ix2 r k)))
      = weightTerm (rowsGrad (aD m c) (aW m c)) (aX m c) j (512 * t.val + r.val) := by
  have h1 : (fun k => b1 m c t (ix2 r k)) = fun k => aX m c (ix2 (row t r) k) := funext fun k => at1 m c t r k
  rw [h1, block_rows, at1]
  unfold weightTerm
  rw [dif_pos (row t r).isLt]

/-- After point `n` the weights' gradient holds the part of the rows so far. -/
theorem weight_left (j : Fin 1024) : ∀ (n : ℕ) (hn : n < cfg0.N),
    (outsAt0 m c n hn).2.2.1 (ix2 (0 : Fin 1) j) = weightUpto (rowsGrad (aD m c) (aW m c)) (aX m c) (512 * n + 512) j
  | 0, hn => by
    have h := outsAt0_A m c ⟨0, hn⟩ (by dsimp only) (by dsimp only) (by dsimp only; omega)
    dsimp only at h
    rw [h]
    dsimp only
    rw [first_weight]
    refine weightUpto_first _ _ 512 j _ fun r => ?_
    refine (term_at m c ⟨0, hn⟩ j r).trans (congrArg _ ?_)
    show 512 * 0 + r.val = r.val
    omega
  | n + 1, hn => by
    have hN : n + 1 < 16 := hn
    have h := outsAt0_B m c ⟨n + 1, hn⟩ (by dsimp only; omega) (by dsimp only; omega) (by dsimp only; omega)
    dsimp only at h
    rw [h]
    dsimp only
    rw [later_weight]
    have hs := kept_weights m c n (by omega)
    have hp := weight_left j n (by omega)
    simp only [Nat.add_sub_cancel]
    rw [hs, hp]
    refine (weightUpto_add _ _ (512 * n + 512) 512 j _ fun r => ?_).trans (by congr 1)
    refine (term_at m c ⟨n + 1, hn⟩ j r).trans (congrArg _ ?_)
    show 512 * (n + 1) + r.val = 512 * n + 512 + r.val
    omega

theorem final_input : (dats m 0 c).arrAt 4 cfg0.N = wholeIn m c := by
  refine (dats m 0 c).arrAt_eq_of_cover 4 (wholeIn m c) (fun t hf => ?_) (fun i => ?_)
  · rw [flushed4]
    funext j
    obtain ⟨r, k, rfl⟩ : ∃ (r : Fin 512) (k : Fin 1024), j = ix2 r k := ⟨j 0, j 1, eq_ix2 j⟩
    have h0 := (by decide +kernel : ∀ t : Fin grid0.N, win0_4.index t 0 = t.val) t
    have h1 := (by decide +kernel : ∀ t : Fin grid0.N, win0_4.index t 1 = 0) t
    refine (input_left m c t r k).trans ?_
    show _ = wholeIn m c (((cfg0.win 4).blk t).view.emb (ix2 r k))
    refine congrArg (wholeIn m c) (funext fun a => ?_)
    match a with
    | ⟨0, _⟩ => exact Fin.ext (by show 512 * t.val + r.val = win0_4.index t 0 * 512 + 1 * r.val; omega)
    | ⟨1, _⟩ => exact Fin.ext (by show k.val = win0_4.index t 1 * 1024 + 1 * k.val; omega)
  · have i0 : (i 0).val < 8192 := (i 0).isLt
    have i1 : (i 1).val < 1024 := (i 1).isLt
    let t : Fin cfg0.N := ⟨(i 0).val / 512, show (i 0).val / 512 < 16 by omega⟩
    have ht : t.val = (i 0).val / 512 := rfl
    have h0 := (by decide +kernel : ∀ t : Fin grid0.N, win0_4.index t 0 = t.val) t
    have h1 := (by decide +kernel : ∀ t : Fin grid0.N, win0_4.index t 1 = 0) t
    refine ⟨t, (by decide +kernel : ∀ t : Fin grid0.N, win0_4.flush t = true) t, ?_⟩
    show i ∈ ((View.whole main_v0_0).slice (win0_4.rect t)).set
    rw [View.set_slice_whole, Rect.mem_set_unit]
    intro a
    match a with
    | ⟨0, _⟩ => show win0_4.index t 0 * 512 ≤ (i 0).val ∧ (i 0).val < win0_4.index t 0 * 512 + 512; omega
    | ⟨1, _⟩ => show win0_4.index t 1 * 1024 ≤ (i 1).val ∧ (i 1).val < win0_4.index t 1 * 1024 + 1024; omega

theorem final_rounded : (dats m 0 c).arrAt 5 cfg0.N = wholeIn m c := by
  refine (dats m 0 c).arrAt_eq_of_cover 5 (wholeIn m c) (fun t hf => ?_) (fun i => ?_)
  · rw [flushed5]
    funext j
    obtain ⟨r, k, rfl⟩ : ∃ (r : Fin 512) (k : Fin 1024), j = ix2 r k := ⟨j 0, j 1, eq_ix2 j⟩
    have h0 := (by decide +kernel : ∀ t : Fin grid0.N, win0_5.index t 0 = t.val) t
    have h1 := (by decide +kernel : ∀ t : Fin grid0.N, win0_5.index t 1 = 0) t
    refine (rounded_left m c t r k).trans ?_
    show _ = wholeIn m c (((cfg0.win 5).blk t).view.emb (ix2 r k))
    refine congrArg (wholeIn m c) (funext fun a => ?_)
    match a with
    | ⟨0, _⟩ => exact Fin.ext (by show 512 * t.val + r.val = win0_5.index t 0 * 512 + 1 * r.val; omega)
    | ⟨1, _⟩ => exact Fin.ext (by show k.val = win0_5.index t 1 * 1024 + 1 * k.val; omega)
  · have i0 : (i 0).val < 8192 := (i 0).isLt
    have i1 : (i 1).val < 1024 := (i 1).isLt
    let t : Fin cfg0.N := ⟨(i 0).val / 512, show (i 0).val / 512 < 16 by omega⟩
    have ht : t.val = (i 0).val / 512 := rfl
    have h0 := (by decide +kernel : ∀ t : Fin grid0.N, win0_5.index t 0 = t.val) t
    have h1 := (by decide +kernel : ∀ t : Fin grid0.N, win0_5.index t 1 = 0) t
    refine ⟨t, (by decide +kernel : ∀ t : Fin grid0.N, win0_5.flush t = true) t, ?_⟩
    show i ∈ ((View.whole main_v0_1).slice (win0_5.rect t)).set
    rw [View.set_slice_whole, Rect.mem_set_unit]
    intro a
    match a with
    | ⟨0, _⟩ => show win0_5.index t 0 * 512 ≤ (i 0).val ∧ (i 0).val < win0_5.index t 0 * 512 + 512; omega
    | ⟨1, _⟩ => show win0_5.index t 1 * 1024 ≤ (i 1).val ∧ (i 1).val < win0_5.index t 1 * 1024 + 1024; omega

theorem final_weight : (dats m 0 c).arrAt 6 cfg0.N = wholeW m c := by
  refine (dats m 0 c).arrAt_eq_of_cover 6 (wholeW m c) (fun t hf => ?_) (fun i => ?_)
  · rw [flushed6]
    funext j
    obtain ⟨z, k, rfl⟩ : ∃ (z : Fin 1) (k : Fin 1024), j = ix2 z k := ⟨j 0, j 1, eq_ix2 j⟩
    obtain rfl : z = 0 := Subsingleton.elim _ _
    have h0 := (by decide +kernel : ∀ t : Fin grid0.N, win0_6.index t 0 = 0) t
    have h1 := (by decide +kernel : ∀ t : Fin grid0.N, win0_6.index t 1 = 0) t
    have hl : t.val = 15 := (by decide +kernel : ∀ t : Fin grid0.N, win0_6.flush t = true → t.val = 15) t hf
    refine (weight_left m c k t.val t.isLt).trans ?_
    show _ = wholeW m c (((cfg0.win 6).blk t).view.emb (ix2 (0 : Fin 1) k))
    have e : ((cfg0.win 6).blk t).view.emb (ix2 (0 : Fin 1) k) = (ix2 (0 : Fin 1) k : S1x1024.Idx) := by
      funext a
      match a with
      | ⟨0, _⟩ => exact Fin.ext (by show win0_6.index t 0 * 1 + 1 * 0 = 0; omega)
      | ⟨1, _⟩ => exact Fin.ext (by show win0_6.index t 1 * 1024 + 1 * k.val = k.val; omega)
    rw [e, hl]
    rfl
  · have i0 : (i 0).val < 1 := (i 0).isLt
    have i1 : (i 1).val < 1024 := (i 1).isLt
    let t : Fin cfg0.N := ⟨15, by decide⟩
    have h0 := (by decide +kernel : ∀ t : Fin grid0.N, win0_6.index t 0 = 0) t
    have h1 := (by decide +kernel : ∀ t : Fin grid0.N, win0_6.index t 1 = 0) t
    refine ⟨t, (by decide +kernel : ∀ t : Fin grid0.N, t.val = 15 → win0_6.flush t = true) t rfl, ?_⟩
    show i ∈ ((View.whole main_v0_2).slice (win0_6.rect t)).set
    rw [View.set_slice_whole, Rect.mem_set_unit]
    intro a
    match a with
    | ⟨0, _⟩ => show win0_6.index t 0 * 1 ≤ (i 0).val ∧ (i 0).val < win0_6.index t 0 * 1 + 1; omega
    | ⟨1, _⟩ => show win0_6.index t 1 * 1024 ≤ (i 1).val ∧ (i 1).val < win0_6.index t 1 * 1024 + 1024; omega

/-! ## The reference's three results -/

section Reference

open Cert.Reference8Ideal.Read
open Cert.Reference8Ideal (S8192x1)

variable (D : S8192x7168.Idx → EReal) (W : S8x1024x896.Idx → EReal) (X : S8192x1024.Idx → EReal) (N : S1x1024.Idx → EReal)
  (E : S8192x1024.Idx → EReal)

/-- Row `r` of a one-axis array over the rows. -/
abbrev only (r : Fin 8192) : Cert.Reference8Ideal.S8192.Idx := fun a => match a with
  | ⟨0, _⟩ => r

theorem zero_bits : (FloatOps.ofBits .f32 0x00000000#32 : Ideal .f32) = (0 : EReal) := by
  show Ideal.ofBits .f32 0x00000000#32 = 0
  simp [Ideal.ofBits, Ideal.ieee]

theorem ref_rows (i : S8192x1024.Idx) : val_main_v20 (F := Ideal) D W i = rowsGrad D W (i 0) (i 1) := by
  rw [val_main_v20_apply]
  unfold rowsGrad
  refine Finset.sum_congr rfl fun k _ => ?_
  rw [val_main_v19_apply, val_main_v17_apply, val_main_v1_apply, val_main_v0_apply]
  refine congrArg₂ (· * ·) (congrArg D (funext fun a => ?_)) (congrArg W (funext fun a => Fin.ext ?_))
  · match a with
    | ⟨0, _⟩ => rfl
    | ⟨1, _⟩ => rfl
  · have hk := k.isLt
    have hj : (i 1).val < 1024 := (i 1).isLt
    match a with
    | ⟨0, _⟩ => first | rfl | (dsimp; omega)
    | ⟨1, _⟩ => first | rfl | (dsimp; omega)
    | ⟨2, _⟩ => first | rfl | (dsimp; omega)

theorem ref_ms (r : Fin 8192) : val_main_v8 (F := Ideal) X (ix2 r (0 : Fin 1)) = Rms.ms (fun k => X (ix2 r k)) := by
  rw [val_main_v8_apply, val_main_v6_apply, val_main_v7_apply, val_main_cst_1_apply, val_main_v5_apply, val_main_cst_0_apply,
    val_main_v4_apply, val_main_v3_apply, val_main_cst_apply, zero_bits, zero_add]
  refine congrArg (fun s : EReal => Ideal.div s Rms.len + Rms.eps) (Finset.sum_congr rfl fun k _ => ?_)
  rw [val_main_v2_apply]
  have e : idx_main_v3 (idx_main_v4 (ix2 r (0 : Fin 1))) k = ix2 r k := funext fun a => Fin.ext (by
    match a with
    | ⟨0, _⟩ => first | rfl | (show r.val * 1 + 0 = r.val; omega)
    | ⟨1, _⟩ => rfl)
  rw [e]
  rfl

theorem ref_rr (r : Fin 8192) : val_main_v9 (F := Ideal) X (ix2 r (0 : Fin 1)) = Rms.rr (fun k => X (ix2 r k)) := by
  rw [val_main_v9_apply, ref_ms]
  rfl

theorem ref_slope (r : Fin 8192) : val_main_v35 (F := Ideal) D W X N (only r)
    = Rms.slope (fun k => X (ix2 r k)) (fun k => rowsGrad D W r k * N (ix2 (0 : Fin 1) k)) := by
  rw [val_main_v35_apply, val_main_cst_6_apply, zero_bits, zero_add, Fin.sum_univ_one]
  have e : idx_main_v35 (only r) 0 = ix2 r (0 : Fin 1) := funext fun a => by
    match a with
    | ⟨0, _⟩ => rfl
    | ⟨1, _⟩ => rfl
  rw [e, val_main_v34_apply, val_main_v33_apply, val_main_cst_5_apply, val_main_v32_apply, val_main_v12_apply, val_main_v11_apply,
    val_main_cst_2_apply, val_main_v10_apply, ref_rr, ref_ms, val_main_v28_apply, val_main_v27_apply, val_main_cst_4_apply, zero_bits, zero_add]
  refine congrArg (fun s : EReal => Ideal.div (s * (Rms.half * Ideal.div (Rms.rr (fun k => X (ix2 r k))) (Rms.ms (fun k => X (ix2 r k))))) Rms.len)
    (Finset.sum_congr rfl fun k _ => ?_)
  have e1 : idx_main_v27 (idx_main_v28 (ix2 r (0 : Fin 1))) k = ix2 r k := funext fun a => Fin.ext (by
    match a with
    | ⟨0, _⟩ => first | rfl | (show r.val * 1 + 0 = r.val; omega)
    | ⟨1, _⟩ => rfl)
  have e2 : idx_main_v24 (ix2 r k) = ix2 (0 : Fin 1) k := funext fun a => by
    match a with
    | ⟨0, _⟩ => rfl
    | ⟨1, _⟩ => rfl
  rw [e1, val_main_v26_apply, val_main_v25_apply, ref_rows, val_main_v24_apply, e2]
  rfl

/-- The reference's first result. -/
theorem ref_input (i : S8192x1024.Idx) : val_main_v40 (F := Ideal) D W X N E i = inputGrad (rowsGrad D W) X N E i := by
  obtain ⟨r, j, rfl⟩ : ∃ (r : Fin 8192) (j : Fin 1024), i = ix2 r j := ⟨i 0, i 1, eq_ix2 i⟩
  have e1 : idx_main_v36 (ix2 r j) = only r := funext fun a => by
    match a with
    | ⟨0, _⟩ => rfl
  have e2 : idx_main_v24 (ix2 r j) = ix2 (0 : Fin 1) j := funext fun a => by
    match a with
    | ⟨0, _⟩ => rfl
    | ⟨1, _⟩ => rfl
  have e3 : idx_main_v29 (ix2 r j) = ix2 r (0 : Fin 1) := funext fun a => by
    match a with
    | ⟨0, _⟩ => rfl
    | ⟨1, _⟩ => rfl
  rw [val_main_v40_apply, val_main_v39_apply, val_main_v38_apply, val_main_v37_apply, val_main_v36_apply, e1, ref_slope, val_main_v31_apply,
    val_main_v30_apply, val_main_v29_apply, e3, ref_rr, val_main_v25_apply, ref_rows, val_main_v24_apply, e2]
  exact (Rms.back_eq (fun k => X (ix2 r k)) (fun k => rowsGrad D W r k * N (ix2 (0 : Fin 1) k)) (E (ix2 r j)) j).symm

/-- The reference's second result: the first, rounded. -/
theorem ref_rounded (i : S8192x1024.Idx) : val_main_v41 (F := Ideal) D W X N E i = inputGrad (rowsGrad D W) X N E i := by
  rw [val_main_v41_apply]
  exact ref_input D W X N E i

/-- The reference's third result. -/
theorem ref_weight (i : S1x1024.Idx) : val_main_v23 (F := Ideal) D W X i = weightGrad (rowsGrad D W) X i := by
  obtain ⟨z, j, rfl⟩ : ∃ (z : Fin 1) (j : Fin 1024), i = ix2 z j := ⟨i 0, i 1, eq_ix2 i⟩
  obtain rfl : z = 0 := Subsingleton.elim _ _
  rw [val_main_v23_apply, val_main_v22_apply, val_main_cst_3_apply, zero_bits, zero_add]
  refine weightGrad_eq (rowsGrad D W) X (ix2 (0 : Fin 1) j) _ fun r => ?_
  have e : idx_main_v22 (idx_main_v23 (ix2 (0 : Fin 1) j)) r = ix2 r j := funext fun a => Fin.ext (by
    match a with
    | ⟨0, _⟩ => rfl
    | ⟨1, _⟩ => first | rfl | (show 0 * 1024 + j.val = j.val; omega))
  have e3 : idx_main_v13 (ix2 r j) = ix2 r (0 : Fin 1) := funext fun a => by
    match a with
    | ⟨0, _⟩ => rfl
    | ⟨1, _⟩ => rfl
  rw [e, val_main_v21_apply, val_main_v14_apply, val_main_v13_apply, e3, ref_rr, ref_rows]
  rfl

end Reference

end Cert.Kernel8Ideal.Norm

end
-- ==== Proof.InProj9.lean ====
/- The odd layer's first product, `in_proj1`: what one block of rows computes, and what the call ends holding. -/
module

public import proofs.«01_k».proof.Proof.Gen.Kernel9Ideal.Value
public import proofs.«01_k».proof.Proof.Gen.Reference9Ideal.Read
public import proofs.«01_k».proof.Proof.Rows
public import proofs.«01_k».proof.Proof.NormSpec

@[expose] public section

noncomputable section

namespace Cert.Kernel9Ideal.InProj

open Cert.Kernel9Ideal Cert.Kernel9Ideal.Gen Cert.Kernel9Ideal.Value
open Idealize.ShloMosaic Idealize.ShloMosaic.TcCoe Idealize.SL.Sem Idealize.ShloMosaic.Bands Idealize.ShloMosaic.Rms
open Idealize.ShloMosaic.Pipeline (Dat)

section Body

variable (c : Dev nD) (i : grid0.Coords) {arg1 : Memref sig .tc .vmem S512x1024 .bf16} {harg1 : arg1.IsWhole}
  {arg3 : Memref sig .tc .vmem S512x2560 .f32} {harg3 : arg3.IsWhole}
  {arg4 : Memref sig .tc .vmem S1x1024x2560 .bf16} {harg4 : arg4.IsWhole}
  (x0 : Vec Ideal S512x1024 .bf16) (xs0 : Vec Ideal S1x1024x2560 .bf16) (fh0 : HbBuf0 (F := Ideal) c hbM0_0)

theorem product_at (r : Fin 512) (j : Fin 2560) : k0_pay1 x0 xs0 (ix2 r j) = ∑ k : Fin 1024, x0 (ix2 r k) * xs0 (ix3 (0 : Fin 1) k j) := by
  pointwise [k0_pay1]

/-- What the transfer carries. -/
theorem carried : kernelRun0_A.sl.dma0 c fh0 = fh0 := by
  unfold kernelRun0_A.sl.dma0
  rfl

theorem loaded : kernelRun0_A.sl.v4 c arg4 fh0 = fh0 := by
  unfold kernelRun0_A.sl.v4
  rw [View.readCov_eq_canon', canon_whole, carried]
  exact ld_all3 _ _

theorem first_scratch (hc0 : cond0_0 i) : sout0_A_0 c i arg1 harg1 arg3 harg3 arg4 harg4 hc0 x0 fh0 = fh0 := by
  unfold sout0_A_0
  rw [View.read_writes_junk_eq_canon]
  unfold kernelRun0_A
  dsimp only
  rw [canon_whole, carried]

theorem first_block (hc0 : cond0_0 i) (r : Fin 512) (j : Fin 2560) :
    out0_A_1 c i arg1 harg1 arg3 harg3 arg4 harg4 hc0 x0 fh0 (ix2 r j) = ∑ k : Fin 1024, x0 (ix2 r k) * fh0 (ix3 (0 : Fin 1) k j) := by
  unfold out0_A_1
  rw [View.read_writes_junk_eq_canon]
  unfold kernelRun0_A
  dsimp only
  simp only [loaded, View.readCov_eq_canon', View.readAt_eq_ld, Memref.IsWhole.read_unread, ld_all, canon_all]
  exact product_at x0 fh0 r j

theorem later_scratch (hc0 : ¬cond0_0 i) : sout0_B_0 c i arg1 harg1 arg3 harg3 arg4 harg4 hc0 x0 xs0 fh0 = xs0 := by
  unfold sout0_B_0
  rfl

theorem later_block (hc0 : ¬cond0_0 i) (r : Fin 512) (j : Fin 2560) :
    out0_B_1 c i arg1 harg1 arg3 harg3 arg4 harg4 hc0 x0 xs0 fh0 (ix2 r j) = ∑ k : Fin 1024, x0 (ix2 r k) * xs0 (ix3 (0 : Fin 1) k j) := by
  unfold out0_B_1
  rw [View.read_writes_junk_eq_canon]
  unfold kernelRun0_B
  dsimp only
  simp only [View.readCov_eq_canon', View.readAt_eq_ld, Memref.IsWhole.read_unread, ld_all, canon_all, ld_all3]
  exact product_at x0 xs0 r j

end Body

variable (m : (ℓ : Loc nD τ sig) → Buf (Elt Ideal) ℓ) (c : Dev nD)

abbrev aH : S8192x1024.Idx → EReal := m ((c : Thread nD τ).loc main_arg0)
abbrev aW : S1024x2560.Idx → EReal := m ((c : Thread nD τ).loc main_arg1)

/-- The product of the rows with the weights. -/
@[irreducible] def product (H : S8192x1024.Idx → EReal) (W : S1024x2560.Idx → EReal) (i : S8192x2560.Idx) : EReal :=
  ∑ k : Fin 1024, H (ix2 (i 0) k) * W (ix2 k (i 1))

/-- The weights as the call receives them: one leading axis of size one. -/
theorem weights_at (k : Fin 1024) (j : Fin 2560) : V m c main_v0 (ix3 (0 : Fin 1) k j) = aW m c (ix2 k j) := by
  show shapeCast S1x1024x2560 (aW m c) shapeCasts_S1024x2560_S1x1024x2560 (ix3 (0 : Fin 1) k j) = _
  pointwise []

abbrev b0 (t : Fin cfg0.N) : Vec Ideal S512x1024 .bf16 := iblk m c 0 t
abbrev bw : Vec Ideal S1x1024x2560 .bf16 := V m c main_v0

theorem lt_N (t : Fin cfg0.N) : t.val < 16 := t.isLt

/-- Row `r` of the block of point `t`. -/
abbrev row (t : Fin cfg0.N) (r : Fin 512) : Fin 8192 := ⟨512 * t.val + r.val, by have := lt_N t; omega⟩

theorem at0 (t : Fin cfg0.N) (r : Fin 512) (k : Fin 1024) : b0 m c t (ix2 r k) = aH m c (ix2 (row t r) k) := by
  have h0 := (by decide +kernel : ∀ t : Fin grid0.N, win0_0.index t 0 = t.val) t
  have h1 := (by decide +kernel : ∀ t : Fin grid0.N, win0_0.index t 1 = 0) t
  show V m c main_arg0 (((cfg0.win 0).blk t).view.emb (ix2 r k)) = _
  rw [V_main_arg0]
  refine congrArg (m ((c : Thread nD τ).loc main_arg0)) (funext fun a => ?_)
  match a with
  | ⟨0, _⟩ => exact Fin.ext (by show win0_0.index t 0 * 512 + 1 * r.val = 512 * t.val + r.val; omega)
  | ⟨1, _⟩ => exact Fin.ext (by show win0_0.index t 1 * 1024 + 1 * k.val = k.val; omega)

/-- A block's product is the rows' part of the whole one. -/
theorem block_product (t : Fin cfg0.N) (r : Fin 512) (j : Fin 2560) :
    ∑ k : Fin 1024, b0 m c t (ix2 r k) * bw m c (ix3 (0 : Fin 1) k j) = product (aH m c) (aW m c) (ix2 (row t r) j) := by
  unfold product
  exact Finset.sum_congr rfl fun k _ => congrArg₂ (· * ·) (at0 m c t r k) (weights_at m c k j)

/-- The weights stay where the first point put them. -/
theorem kept_weights : ∀ (n : ℕ) (hn : n < cfg0.N), (outsAt0 m c n hn).2 = bw m c
  | 0, hn => by
    have h := outsAt0_A m c ⟨0, hn⟩ (by dsimp only)
    dsimp only at h
    rw [h]
    dsimp only
    rw [first_scratch]
  | n + 1, hn => by
    have hN : n + 1 < 16 := hn
    have h := outsAt0_B m c ⟨n + 1, hn⟩ (by dsimp only; omega)
    dsimp only at h
    rw [h]
    dsimp only
    rw [later_scratch]
    exact kept_weights n (by omega)

theorem kept_before (t : Fin cfg0.N) (h : t.val - 1 < cfg0.N) : (outsAt0 m c (t.val - 1) h).2 = bw m c :=
  kept_weights m c _ h

/-- The array the call computes. -/
abbrev whole : S8192x2560.Idx → EReal := product (aH m c) (aW m c)

theorem left (t : Fin cfg0.N) (r : Fin 512) (j : Fin 2560) :
    (outsAt0 m c t.val t.isLt).1 (ix2 r j) = whole m c (ix2 (row t r) j) := by
  have ht := lt_N t
  by_cases h : t.val = 0
  · rw [outsAt0_A m c t (by omega)]
    dsimp only
    rw [first_block]
    exact block_product m c t r j
  · rw [outsAt0_B m c t (by omega)]
    dsimp only
    rw [later_block, kept_before]
    exact block_product m c t r j

theorem final_product : (dats m 0 c).arrAt 1 cfg0.N = whole m c := by
  refine (dats m 0 c).arrAt_eq_of_cover 1 (whole m c) (fun t hf => ?_) (fun i => ?_)
  · rw [flushed1]
    funext j
    obtain ⟨r, k, rfl⟩ : ∃ (r : Fin 512) (k : Fin 2560), j = ix2 r k := ⟨j 0, j 1, eq_ix2 j⟩
    have h0 := (by decide +kernel : ∀ t : Fin grid0.N, win0_1.index t 0 = t.val) t
    have h1 := (by decide +kernel : ∀ t : Fin grid0.N, win0_1.index t 1 = 0) t
    refine (left m c t r k).trans ?_
    show _ = whole m c (((cfg0.win 1).blk t).view.emb (ix2 r k))
    refine congrArg (whole m c) (funext fun a => ?_)
    match a with
    | ⟨0, _⟩ => exact Fin.ext (by show 512 * t.val + r.val = win0_1.index t 0 * 512 + 1 * r.val; omega)
    | ⟨1, _⟩ => exact Fin.ext (by show k.val = win0_1.index t 1 * 2560 + 1 * k.val; omega)
  · have i0 : (i 0).val < 8192 := (i 0).isLt
    have i1 : (i 1).val < 2560 := (i 1).isLt
    let t : Fin cfg0.N := ⟨(i 0).val / 512, show (i 0).val / 512 < 16 by omega⟩
    have ht : t.val = (i 0).val / 512 := rfl
    have h0 := (by decide +kernel : ∀ t : Fin grid0.N, win0_1.index t 0 = t.val) t
    have h1 := (by decide +kernel : ∀ t : Fin grid0.N, win0_1.index t 1 = 0) t
    refine ⟨t, (by decide +kernel : ∀ t : Fin grid0.N, win0_1.flush t = true) t, ?_⟩
    show i ∈ ((View.whole main_v1).slice (win0_1.rect t)).set
    rw [View.set_slice_whole, Rect.mem_set_unit]
    intro a
    match a with
    | ⟨0, _⟩ => show win0_1.index t 0 * 512 ≤ (i 0).val ∧ (i 0).val < win0_1.index t 0 * 512 + 512; omega
    | ⟨1, _⟩ => show win0_1.index t 1 * 2560 ≤ (i 1).val ∧ (i 1).val < win0_1.index t 1 * 2560 + 2560; omega

/-! ## The reference's product -/

open Cert.Reference9Ideal.Read in
theorem ref_product (H : S8192x1024.Idx → EReal) (W : S1024x2560.Idx → EReal) (i : S8192x2560.Idx) :
    val_main_v2 (F := Ideal) H W i = product H W i := by
  rw [val_main_v2_apply]
  unfold product
  refine Finset.sum_congr rfl fun k _ => ?_
  rw [val_main_v0_apply, val_main_v1_apply]
  refine congrArg₂ (· * ·) (congrArg H (funext fun a => ?_)) (congrArg W (funext fun a => ?_))
  · match a with
    | ⟨0, _⟩ => rfl
    | ⟨1, _⟩ => rfl
  · match a with
    | ⟨0, _⟩ => rfl
    | ⟨1, _⟩ => rfl

end Cert.Kernel9Ideal.InProj

end
-- ==== Proof.OutProj10.lean ====
/- The even layer's last product with the next layer's norm, `out_proj0`: what one block of rows computes, and what the
   call ends holding. -/
module

public import proofs.«01_k».proof.Proof.Gen.Kernel10Ideal.Value
public import proofs.«01_k».proof.Proof.Gen.Reference10Ideal.Read
public import proofs.«01_k».proof.Proof.Rows
public import proofs.«01_k».proof.Proof.NormSpec

@[expose] public section

noncomputable section

namespace Cert.Kernel10Ideal.OutProj

open Cert.Kernel10Ideal Cert.Kernel10Ideal.Gen Cert.Kernel10Ideal.Value
open Idealize.ShloMosaic Idealize.ShloMosaic.TcCoe Idealize.SL.Sem Idealize.ShloMosaic.Bands Idealize.ShloMosaic.Rms
open Idealize.ShloMosaic.Pipeline (Dat)

section Body

variable (x0 : Vec Ideal S512x1024 .bf16) (x1 : Vec Ideal S1024x1024 .bf16) (x2 : Vec Ideal S512x1024 .f32) (x3 : Vec Ideal S1x1024 .f32)

theorem sum_at (r : Fin 512) (j : Fin 1024) : k0_pay1 x0 x1 x2 (ix2 r j)
    = (∑ k : Fin 1024, x0 (ix2 r k) * x1 (ix2 k j)) + x2 (ix2 r j) := by
  pointwise [k0_pay1]

theorem normed_at (r : Fin 512) (j : Fin 1024) : k0_pay2 x0 x1 x2 x3 (ix2 r j)
    = k0_pay1 x0 x1 x2 (ix2 r j) * Rms.rr (fun k => k0_pay1 x0 x1 x2 (ix2 r k)) * x3 (ix2 (0 : Fin 1) j) := by
  pointwise [k0_pay2, Rms.rr, Rms.ms, Rms.len, Rms.eps]

theorem block_sum (r : Fin 512) (j : Fin 1024) : out0_4 x0 x1 x2 x3 (ix2 r j)
    = (∑ k : Fin 1024, x0 (ix2 r k) * x1 (ix2 k j)) + x2 (ix2 r j) := by
  unfold out0_4
  rw [canon_all, ld_all, ld_all, ld_all]
  exact sum_at x0 x1 x2 r j

theorem block_normed (r : Fin 512) (j : Fin 1024) : out0_5 x0 x1 x2 x3 (ix2 r j)
    = k0_pay1 x0 x1 x2 (ix2 r j) * Rms.rr (fun k => k0_pay1 x0 x1 x2 (ix2 r k)) * x3 (ix2 (0 : Fin 1) j) := by
  unfold out0_5
  rw [canon_all, ld_all, ld_all, ld_all, ld_all]
  exact normed_at x0 x1 x2 x3 r j

end Body

variable (m : (ℓ : Loc nD τ sig) → Buf (Elt Ideal) ℓ) (c : Dev nD)

abbrev aU : S8192x1024.Idx → EReal := m ((c : Thread nD τ).loc main_arg0)
abbrev aW : S1024x1024.Idx → EReal := m ((c : Thread nD τ).loc main_arg1)
abbrev aX : S8192x1024.Idx → EReal := m ((c : Thread nD τ).loc main_arg2)
abbrev aN : S1x1024.Idx → EReal := m ((c : Thread nD τ).loc main_arg3)

/-- The layer's output: its input and the product. -/
@[irreducible] def outRow (U : S8192x1024.Idx → EReal) (W : S1024x1024.Idx → EReal) (X : S8192x1024.Idx → EReal) (r : Fin 8192) (j : Fin 1024) : EReal :=
  (∑ k : Fin 1024, U (ix2 r k) * W (ix2 k j)) + X (ix2 r j)

abbrev wholeOut (U : S8192x1024.Idx → EReal) (W : S1024x1024.Idx → EReal) (X : S8192x1024.Idx → EReal) (i : S8192x1024.Idx) : EReal :=
  outRow U W X (i 0) (i 1)

/-- Its rows normed and scaled. -/
abbrev wholeNormed (U : S8192x1024.Idx → EReal) (W : S1024x1024.Idx → EReal) (X : S8192x1024.Idx → EReal) (N : S1x1024.Idx → EReal)
    (i : S8192x1024.Idx) : EReal :=
  outRow U W X (i 0) (i 1) * Rms.rr (fun k : Fin 1024 => outRow U W X (i 0) k) * N (ix2 (0 : Fin 1) (i 1))

abbrev b0 (t : Fin cfg0.N) : Vec Ideal S512x1024 .bf16 := iblk m c 0 t
abbrev b1 (t : Fin cfg0.N) : Vec Ideal S1024x1024 .bf16 := iblk m c 1 t
abbrev b2 (t : Fin cfg0.N) : Vec Ideal S512x1024 .f32 := iblk m c 2 t
abbrev b3 (t : Fin cfg0.N) : Vec Ideal S1x1024 .f32 := iblk m c 3 t

theorem lt_N (t : Fin cfg0.N) : t.val < 16 := t.isLt

/-- Row `r` of the block of point `t`. -/
abbrev row (t : Fin cfg0.N) (r : Fin 512) : Fin 8192 := ⟨512 * t.val + r.val, by have := lt_N t; omega⟩

theorem at0 (t : Fin cfg0.N) (r : Fin 512) (k : Fin 1024) : b0 m c t (ix2 r k) = aU m c (ix2 (row t r) k) := by
  have h0 := (by decide +kernel : ∀ t : Fin grid0.N, win0_0.index t 0 = t.val) t
  have h1 := (by decide +kernel : ∀ t : Fin grid0.N, win0_0.index t 1 = 0) t
  show V m c main_arg0 (((cfg0.win 0).blk t).view.emb (ix2 r k)) = _
  rw [V_main_arg0]
  refine congrArg (m ((c : Thread nD τ).loc main_arg0)) (funext fun a => ?_)
  match a with
  | ⟨0, _⟩ => exact Fin.ext (by show win0_0.index t 0 * 512 + 1 * r.val = 512 * t.val + r.val; omega)
  | ⟨1, _⟩ => exact Fin.ext (by show win0_0.index t 1 * 1024 + 1 * k.val = k.val; omega)

theorem at1 (t : Fin cfg0.N) (r : Fin 1024) (k : Fin 1024) : b1 m c t (ix2 r k) = aW m c (ix2 r k) := by
  have h0 := (by decide +kernel : ∀ t : Fin grid0.N, win0_1.index t 0 = 0) t
  have h1 := (by decide +kernel : ∀ t : Fin grid0.N, win0_1.index t 1 = 0) t
  show V m c main_arg1 (((cfg0.win 1).blk t).view.emb (ix2 r k)) = _
  rw [V_main_arg1]
  refine congrArg (m ((c : Thread nD τ).loc main_arg1)) (funext fun a => ?_)
  match a with
  | ⟨0, _⟩ => exact Fin.ext (by show win0_1.index t 0 * 1024 + 1 * r.val = r.val; omega)
  | ⟨1, _⟩ => exact Fin.ext (by show win0_1.index t 1 * 1024 + 1 * k.val = k.val; omega)

theorem at2 (t : Fin cfg0.N) (r : Fin 512) (k : Fin 1024) : b2 m c t (ix2 r k) = aX m c (ix2 (row t r) k) := by
  have h0 := (by decide +kernel : ∀ t : Fin grid0.N, win0_2.index t 0 = t.val) t
  have h1 := (by decide +kernel : ∀ t : Fin grid0.N, win0_2.index t 1 = 0) t
  show V m c main_arg2 (((cfg0.win 2).blk t).view.emb (ix2 r k)) = _
  rw [V_main_arg2]
  refine congrArg (m ((c : Thread nD τ).loc main_arg2)) (funext fun a => ?_)
  match a with
  | ⟨0, _⟩ => exact Fin.ext (by show win0_2.index t 0 * 512 + 1 * r.val = 512 * t.val + r.val; omega)
  | ⟨1, _⟩ => exact Fin.ext (by show win0_2.index t 1 * 1024 + 1 * k.val = k.val; omega)

theorem at3 (t : Fin cfg0.N) (k : Fin 1024) : b3 m c t (ix2 (0 : Fin 1) k) = aN m c (ix2 (0 : Fin 1) k) := by
  have h0 := (by decide +kernel : ∀ t : Fin grid0.N, win0_3.index t 0 = 0) t
  have h1 := (by decide +kernel : ∀ t : Fin grid0.N, win0_3.index t 1 = 0) t
  show V m c main_arg3 (((cfg0.win 3).blk t).view.emb (ix2 (0 : Fin 1) k)) = _
  rw [V_main_arg3]
  refine congrArg (m ((c : Thread nD τ).loc main_arg3)) (funext fun a => ?_)
  match a with
  | ⟨0, _⟩ => exact Fin.ext (by show win0_3.index t 0 * 1 + 1 * 0 = 0; omega)
  | ⟨1, _⟩ => exact Fin.ext (by show win0_3.index t 1 * 1024 + 1 * k.val = k.val; omega)

theorem block_row (t : Fin cfg0.N) (r : Fin 512) (j : Fin 1024) :
    (∑ k : Fin 1024, b0 m c t (ix2 r k) * b1 m c t (ix2 k j)) + b2 m c t (ix2 r j) = outRow (aU m c) (aW m c) (aX m c) (row t r) j := by
  unfold outRow
  exact congrArg₂ (· + ·) (Finset.sum_congr rfl fun k _ => congrArg₂ (· * ·) (at0 m c t r k) (at1 m c t k j)) (at2 m c t r j)

theorem pay_row (t : Fin cfg0.N) (r : Fin 512) (j : Fin 1024) :
    k0_pay1 (b0 m c t) (b1 m c t) (b2 m c t) (ix2 r j) = outRow (aU m c) (aW m c) (aX m c) (row t r) j :=
  (sum_at _ _ _ r j).trans (block_row m c t r j)

abbrev wholeA : S8192x1024.Idx → EReal := wholeOut (aU m c) (aW m c) (aX m c)
abbrev wholeB : S8192x1024.Idx → EReal := wholeNormed (aU m c) (aW m c) (aX m c) (aN m c)

theorem left_sum (t : Fin cfg0.N) (r : Fin 512) (j : Fin 1024) :
    out0_4 (b0 m c t) (b1 m c t) (b2 m c t) (b3 m c t) (ix2 r j) = wholeA m c (ix2 (row t r) j) :=
  (block_sum _ _ _ _ r j).trans (block_row m c t r j)

theorem left_normed (t : Fin cfg0.N) (r : Fin 512) (j : Fin 1024) :
    out0_5 (b0 m c t) (b1 m c t) (b2 m c t) (b3 m c t) (ix2 r j) = wholeB m c (ix2 (row t r) j) := by
  rw [block_normed]
  have h : (fun k => k0_pay1 (b0 m c t) (b1 m c t) (b2 m c t) (ix2 r k)) = fun k => outRow (aU m c) (aW m c) (aX m c) (row t r) k :=
    funext fun k => pay_row m c t r k
  rw [h, pay_row, at3]
  rfl

theorem final_out : (dats m 0 c).arrAt 4 cfg0.N = wholeA m c := by
  refine (dats m 0 c).arrAt_eq_of_cover 4 (wholeA m c) (fun t hf => ?_) (fun i => ?_)
  · rw [flushed4]
    funext j
    obtain ⟨r, k, rfl⟩ : ∃ (r : Fin 512) (k : Fin 1024), j = ix2 r k := ⟨j 0, j 1, eq_ix2 j⟩
    have h0 := (by decide +kernel : ∀ t : Fin grid0.N, win0_4.index t 0 = t.val) t
    have h1 := (by decide +kernel : ∀ t : Fin grid0.N, win0_4.index t 1 = 0) t
    refine (left_sum m c t r k).trans ?_
    show _ = wholeA m c (((cfg0.win 4).blk t).view.emb (ix2 r k))
    refine congrArg (wholeA m c) (funext fun a => ?_)
    match a with
    | ⟨0, _⟩ => exact Fin.ext (by show 512 * t.val + r.val = win0_4.index t 0 * 512 + 1 * r.val; omega)
    | ⟨1, _⟩ => exact Fin.ext (by show k.val = win0_4.index t 1 * 1024 + 1 * k.val; omega)
  · have i0 : (i 0).val < 8192 := (i 0).isLt
    have i1 : (i 1).val < 1024 := (i 1).isLt
    let t : Fin cfg0.N := ⟨(i 0).val / 512, show (i 0).val / 512 < 16 by omega⟩
    have ht : t.val = (i 0).val / 512 := rfl
    have h0 := (by decide +kernel : ∀ t : Fin grid0.N, win0_4.index t 0 = t.val) t
    have h1 := (by decide +kernel : ∀ t : Fin grid0.N, win0_4.index t 1 = 0) t
    refine ⟨t, (by decide +kernel : ∀ t : Fin grid0.N, win0_4.flush t = true) t, ?_⟩
    show i ∈ ((View.whole main_v0_0).slice (win0_4.rect t)).set
    rw [View.set_slice_whole, Rect.mem_set_unit]
    intro a
    match a with
    | ⟨0, _⟩ => show win0_4.index t 0 * 512 ≤ (i 0).val ∧ (i 0).val < win0_4.index t 0 * 512 + 512; omega
    | ⟨1, _⟩ => show win0_4.index t 1 * 1024 ≤ (i 1).val ∧ (i 1).val < win0_4.index t 1 * 1024 + 1024; omega

theorem final_normed : (dats m 0 c).arrAt 5 cfg0.N = wholeB m c := by
  refine (dats m 0 c).arrAt_eq_of_cover 5 (wholeB m c) (fun t hf => ?_) (fun i => ?_)
  · rw [flushed5]
    funext j
    obtain ⟨r, k, rfl⟩ : ∃ (r : Fin 512) (k : Fin 1024), j = ix2 r k := ⟨j 0, j 1, eq_ix2 j⟩
    have h0 := (by decide +kernel : ∀ t : Fin grid0.N, win0_5.index t 0 = t.val) t
    have h1 := (by decide +kernel : ∀ t : Fin grid0.N, win0_5.index t 1 = 0) t
    refine (left_normed m c t r k).trans ?_
    show _ = wholeB m c (((cfg0.win 5).blk t).view.emb (ix2 r k))
    refine congrArg (wholeB m c) (funext fun a => ?_)
    match a with
    | ⟨0, _⟩ => exact Fin.ext (by show 512 * t.val + r.val = win0_5.index t 0 * 512 + 1 * r.val; omega)
    | ⟨1, _⟩ => exact Fin.ext (by show k.val = win0_5.index t 1 * 1024 + 1 * k.val; omega)
  · have i0 : (i 0).val < 8192 := (i 0).isLt
    have i1 : (i 1).val < 1024 := (i 1).isLt
    let t : Fin cfg0.N := ⟨(i 0).val / 512, show (i 0).val / 512 < 16 by omega⟩
    have ht : t.val = (i 0).val / 512 := rfl
    have h0 := (by decide +kernel : ∀ t : Fin grid0.N, win0_5.index t 0 = t.val) t
    have h1 := (by decide +kernel : ∀ t : Fin grid0.N, win0_5.index t 1 = 0) t
    refine ⟨t, (by decide +kernel : ∀ t : Fin grid0.N, win0_5.flush t = true) t, ?_⟩
    show i ∈ ((View.whole main_v0_1).slice (win0_5.rect t)).set
    rw [View.set_slice_whole, Rect.mem_set_unit]
    intro a
    match a with
    | ⟨0, _⟩ => show win0_5.index t 0 * 512 ≤ (i 0).val ∧ (i 0).val < win0_5.index t 0 * 512 + 512; omega
    | ⟨1, _⟩ => show win0_5.index t 1 * 1024 ≤ (i 1).val ∧ (i 1).val < win0_5.index t 1 * 1024 + 1024; omega

/-! ## The reference's two results -/

section Reference

open Cert.Reference10Ideal.Read

variable (U : S8192x1024.Idx → EReal) (W : S1024x1024.Idx → EReal) (X : S8192x1024.Idx → EReal) (N : S1x1024.Idx → EReal)

theorem zero_bits : (FloatOps.ofBits .f32 0x00000000#32 : Ideal .f32) = (0 : EReal) := by
  show Ideal.ofBits .f32 0x00000000#32 = 0
  simp [Ideal.ofBits, Ideal.ieee]

/-- The reference's first result. -/
theorem ref_out (i : S8192x1024.Idx) : val_main_v3 (F := Ideal) U W X i = wholeOut U W X i := by
  obtain ⟨r, j, rfl⟩ : ∃ (r : Fin 8192) (j : Fin 1024), i = ix2 r j := ⟨i 0, i 1, eq_ix2 i⟩
  rw [val_main_v3_apply, val_main_v2_apply]
  show X (ix2 r j) + _ = outRow U W X r j
  unfold outRow
  rw [add_comm]
  refine congrArg (fun s : EReal => s + X (ix2 r j)) (Finset.sum_congr rfl fun k _ => ?_)
  rw [val_main_v0_apply, val_main_v1_apply]
  refine congrArg₂ (· * ·) (congrArg U (funext fun a => ?_)) (congrArg W (funext fun a => ?_))
  · match a with
    | ⟨0, _⟩ => rfl
    | ⟨1, _⟩ => rfl
  · match a with
    | ⟨0, _⟩ => rfl
    | ⟨1, _⟩ => rfl

theorem ref_rr (r : Fin 8192) : val_main_v11 (F := Ideal) U W X (ix2 r (0 : Fin 1)) = Rms.rr (fun k : Fin 1024 => outRow U W X r k) := by
  rw [val_main_v11_apply, val_main_v10_apply, val_main_v9_apply, val_main_cst_1_apply, val_main_v8_apply, val_main_v7_apply,
    val_main_cst_0_apply, val_main_v6_apply, val_main_v5_apply, val_main_cst_apply, zero_bits, zero_add]
  refine congrArg (fun s : EReal => Ideal.rsqrt (Ideal.div s Rms.len + Rms.eps)) (Finset.sum_congr rfl fun k _ => ?_)
  have e : idx_main_v5 (idx_main_v6 (ix2 r (0 : Fin 1))) k = ix2 r k := funext fun a => Fin.ext (by
    match a with
    | ⟨0, _⟩ => first | rfl | (show r.val * 1 + 0 = r.val; omega)
    | ⟨1, _⟩ => rfl)
  rw [e, val_main_v4_apply, ref_out]
  rfl

/-- The reference's second result. -/
theorem ref_normed (i : S8192x1024.Idx) : val_main_v16 (F := Ideal) U W X N i = wholeNormed U W X N i := by
  obtain ⟨r, j, rfl⟩ : ∃ (r : Fin 8192) (j : Fin 1024), i = ix2 r j := ⟨i 0, i 1, eq_ix2 i⟩
  have e2 : idx_main_v14 (ix2 r j) = ix2 (0 : Fin 1) j := funext fun a => by
    match a with
    | ⟨0, _⟩ => rfl
    | ⟨1, _⟩ => rfl
  have e3 : idx_main_v12 (ix2 r j) = ix2 r (0 : Fin 1) := funext fun a => by
    match a with
    | ⟨0, _⟩ => rfl
    | ⟨1, _⟩ => rfl
  rw [val_main_v16_apply, val_main_v15_apply, val_main_v14_apply, e2, val_main_v13_apply, ref_out, val_main_v12_apply, e3, ref_rr]
  rfl

end Reference

end Cert.Kernel10Ideal.OutProj

end
-- ==== Proof.Loss11.lean ====
/- The odd layer's last product with the loss and its gradient, `out_proj1_loss`: what one block of rows computes, and what
   the call ends holding. -/
module

public import proofs.«01_k».proof.Proof.Gen.Kernel11Ideal.Value
public import proofs.«01_k».proof.Proof.Gen.Reference11Ideal.Read
public import proofs.«01_k».proof.Proof.Rows
public import proofs.«01_k».proof.Proof.NormSpec

@[expose] public section

noncomputable section

namespace Cert.Kernel11Ideal.Loss

open Cert.Kernel11Ideal Cert.Kernel11Ideal.Gen Cert.Kernel11Ideal.Value
open Idealize.ShloMosaic Idealize.ShloMosaic.TcCoe Idealize.SL.Sem Idealize.ShloMosaic.Bands Idealize.ShloMosaic.Rms
open Idealize.ShloMosaic.Pipeline (Dat)

/-- The factors of the gradient and of the loss. -/
abbrev perElt : EReal := Ideal.ofBits .f32 0x3A800000#32
abbrev halfPerElt : EReal := Ideal.ofBits .f32 0x3A000000#32

section Body

variable (c : Dev nD) (i : grid0.Coords) {arg1 : Memref sig .tc .vmem S512x1024 .bf16} {harg1 : arg1.IsWhole}
  {arg2 : Memref sig .tc .vmem S1024x1024 .bf16} {harg2 : arg2.IsWhole} {arg3 : Memref sig .tc .vmem S512x1024 .f32} {harg3 : arg3.IsWhole}
  {arg4 : Memref sig .tc .vmem S512x1024 .f32} {harg4 : arg4.IsWhole} {arg5 : Memref sig .tc .vmem S512x1024 .f32} {harg5 : arg5.IsWhole}
  {arg6 : Memref sig .tc .vmem S512x1024 .bf16} {harg6 : arg6.IsWhole} {arg7 : Memref sig .tc .vmem S8x128 .f32} {harg7 : arg7.IsWhole}
  {arg8 : Memref sig .tc .vmem S1x1024 .f32} {harg8 : arg8.IsWhole}
  (x0 : Vec Ideal S512x1024 .bf16) (x1 : Vec Ideal S1024x1024 .bf16) (x2 x3 : Vec Ideal S512x1024 .f32) (xs0 : Vec Ideal S1x1024 .f32)

theorem error_at (r : Fin 512) (j : Fin 1024) : k0_pay1 x0 x1 x2 x3 (ix2 r j)
    = ((∑ k : Fin 1024, x0 (ix2 r k) * x1 (ix2 k j)) + x2 (ix2 r j)) - x3 (ix2 r j) := by
  pointwise [k0_pay1]

theorem grad_at (r : Fin 512) (j : Fin 1024) : k0_pay2 x0 x1 x2 x3 (ix2 r j) = k0_pay1 x0 x1 x2 x3 (ix2 r j) * perElt := by
  pointwise [k0_pay2, perElt]

theorem rounded_at (r : Fin 512) (j : Fin 1024) : k0_pay3 x0 x1 x2 x3 (ix2 r j) = k0_pay1 x0 x1 x2 x3 (ix2 r j) * perElt := by
  rw [← grad_at]
  pointwise [k0_pay3]

theorem squares_at (j : Fin 1024) : k0_pay5 x0 x1 x2 x3 (ix2 (0 : Fin 1) j)
    = ∑ r : Fin 512, k0_pay1 x0 x1 x2 x3 (ix2 r j) * k0_pay1 x0 x1 x2 x3 (ix2 r j) := by
  pointwise [k0_pay5, k0_pay4]

theorem more_squares_at (j : Fin 1024) : k0_pay6 x0 x1 x2 x3 xs0 (ix2 (0 : Fin 1) j)
    = xs0 (ix2 (0 : Fin 1) j) + ∑ r : Fin 512, k0_pay1 x0 x1 x2 x3 (ix2 r j) * k0_pay1 x0 x1 x2 x3 (ix2 r j) := by
  pointwise [k0_pay6, k0_pay4]

theorem loss_at (a : Fin 8) (b : Fin 128) : k0_pay7 xs0 (ix2 a b) = (∑ j : Fin 1024, xs0 (ix2 (0 : Fin 1) j)) * halfPerElt := by
  pointwise [k0_pay7, halfPerElt]

theorem first_grad (hc0 : cond0_0 i) (hc1 : ¬cond0_1 i) (hc2 : ¬cond0_2 i) (r : Fin 512) (j : Fin 1024) :
    out0_A_4 c i arg1 harg1 arg2 harg2 arg3 harg3 arg4 harg4 arg5 harg5 arg6 harg6 arg7 harg7 arg8 harg8 hc0 hc1 hc2 x0 x1 x2 x3 (ix2 r j)
      = k0_pay1 x0 x1 x2 x3 (ix2 r j) * perElt := by
  unfold out0_A_4
  rw [View.read_writes_junk_eq_canon]
  unfold kernelRun0_A
  dsimp only
  simp only [View.readCov_eq_canon', View.readAt_eq_ld, Memref.IsWhole.read_unread, ld_all, canon_all]
  exact grad_at x0 x1 x2 x3 r j

theorem first_rounded (hc0 : cond0_0 i) (hc1 : ¬cond0_1 i) (hc2 : ¬cond0_2 i) (r : Fin 512) (j : Fin 1024) :
    out0_A_5 c i arg1 harg1 arg2 harg2 arg3 harg3 arg4 harg4 arg5 harg5 arg6 harg6 arg7 harg7 arg8 harg8 hc0 hc1 hc2 x0 x1 x2 x3 (ix2 r j)
      = k0_pay1 x0 x1 x2 x3 (ix2 r j) * perElt := by
  unfold out0_A_5
  rw [View.read_writes_junk_eq_canon]
  unfold kernelRun0_A
  dsimp only
  simp only [View.readCov_eq_canon', View.readAt_eq_ld, Memref.IsWhole.read_unread, ld_all, canon_all]
  exact rounded_at x0 x1 x2 x3 r j

theorem first_squares (hc0 : cond0_0 i) (hc1 : ¬cond0_1 i) (hc2 : ¬cond0_2 i) (j : Fin 1024) :
    sout0_A_0 c i arg1 harg1 arg2 harg2 arg3 harg3 arg4 harg4 arg5 harg5 arg6 harg6 arg7 harg7 arg8 harg8 hc0 hc1 hc2 x0 x1 x2 x3 (ix2 (0 : Fin 1) j)
      = ∑ r : Fin 512, k0_pay1 x0 x1 x2 x3 (ix2 r j) * k0_pay1 x0 x1 x2 x3 (ix2 r j) := by
  unfold sout0_A_0
  rw [View.read_writes_junk_eq_canon]
  unfold kernelRun0_A
  dsimp only
  simp only [View.readCov_eq_canon', View.readAt_eq_ld, Memref.IsWhole.read_unread, ld_all, canon_all]
  exact squares_at x0 x1 x2 x3 j

theorem middle_grad (hc0 : ¬cond0_0 i) (hc1 : cond0_1 i) (hc2 : ¬cond0_2 i) (r : Fin 512) (j : Fin 1024) :
    out0_B_4 c i arg1 harg1 arg2 harg2 arg3 harg3 arg4 harg4 arg5 harg5 arg6 harg6 arg7 harg7 arg8 harg8 hc0 hc1 hc2 x0 x1 x2 x3 xs0 (ix2 r j)
      = k0_pay1 x0 x1 x2 x3 (ix2 r j) * perElt := by
  unfold out0_B_4
  rw [View.read_writes_junk_eq_canon]
  unfold kernelRun0_B
  dsimp only
  simp only [View.readCov_eq_canon', View.readAt_eq_ld, Memref.IsWhole.read_unread, ld_all, canon_all]
  exact grad_at x0 x1 x2 x3 r j

theorem middle_rounded (hc0 : ¬cond0_0 i) (hc1 : cond0_1 i) (hc2 : ¬cond0_2 i) (r : Fin 512) (j : Fin 1024) :
    out0_B_5 c i arg1 harg1 arg2 harg2 arg3 harg3 arg4 harg4 arg5 harg5 arg6 harg6 arg7 harg7 arg8 harg8 hc0 hc1 hc2 x0 x1 x2 x3 xs0 (ix2 r j)
      = k0_pay1 x0 x1 x2 x3 (ix2 r j) * perElt := by
  unfold out0_B_5
  rw [View.read_writes_junk_eq_canon]
  unfold kernelRun0_B
  dsimp only
  simp only [View.readCov_eq_canon', View.readAt_eq_ld, Memref.IsWhole.read_unread, ld_all, canon_all]
  exact rounded_at x0 x1 x2 x3 r j

theorem middle_squares (hc0 : ¬cond0_0 i) (hc1 : cond0_1 i) (hc2 : ¬cond0_2 i) (j : Fin 1024) :
    sout0_B_0 c i arg1 harg1 arg2 harg2 arg3 harg3 arg4 harg4 arg5 harg5 arg6 harg6 arg7 harg7 arg8 harg8 hc0 hc1 hc2 x0 x1 x2 x3 xs0 (ix2 (0 : Fin 1) j)
      = xs0 (ix2 (0 : Fin 1) j) + ∑ r : Fin 512, k0_pay1 x0 x1 x2 x3 (ix2 r j) * k0_pay1 x0 x1 x2 x3 (ix2 r j) := by
  unfold sout0_B_0
  rw [View.read_writes_junk_eq_canon]
  unfold kernelRun0_B
  dsimp only
  simp only [View.readCov_eq_canon', View.readAt_eq_ld, Memref.IsWhole.read_unread, ld_all, canon_all]
  exact more_squares_at x0 x1 x2 x3 xs0 j

theorem last_grad (hc0 : ¬cond0_0 i) (hc1 : cond0_1 i) (hc2 : cond0_2 i) (r : Fin 512) (j : Fin 1024) :
    out0_C_4 c i arg1 harg1 arg2 harg2 arg3 harg3 arg4 harg4 arg5 harg5 arg6 harg6 arg7 harg7 arg8 harg8 hc0 hc1 hc2 x0 x1 x2 x3 xs0 (ix2 r j)
      = k0_pay1 x0 x1 x2 x3 (ix2 r j) * perElt := by
  unfold out0_C_4
  rw [View.read_writes_junk_eq_canon]
  unfold kernelRun0_C
  dsimp only
  simp only [View.readCov_eq_canon', View.readAt_eq_ld, Memref.IsWhole.read_unread, ld_all, canon_all]
  exact grad_at x0 x1 x2 x3 r j

theorem last_rounded (hc0 : ¬cond0_0 i) (hc1 : cond0_1 i) (hc2 : cond0_2 i) (r : Fin 512) (j : Fin 1024) :
    out0_C_5 c i arg1 harg1 arg2 harg2 arg3 harg3 arg4 harg4 arg5 harg5 arg6 harg6 arg7 harg7 arg8 harg8 hc0 hc1 hc2 x0 x1 x2 x3 xs0 (ix2 r j)
      = k0_pay1 x0 x1 x2 x3 (ix2 r j) * perElt := by
  unfold out0_C_5
  rw [View.read_writes_junk_eq_canon]
  unfold kernelRun0_C
  dsimp only
  simp only [View.readCov_eq_canon', View.readAt_eq_ld, Memref.IsWhole.read_unread, ld_all, canon_all]
  exact rounded_at x0 x1 x2 x3 r j

/-- What the last point reads back of the accumulator. -/
theorem read_back : kernelRun0_C.sl.v24 c arg1 harg1 arg2 harg2 arg3 harg3 arg4 harg4 arg8 harg8 x0 x1 x2 x3 xs0 = k0_pay6 x0 x1 x2 x3 xs0 := by
  unfold kernelRun0_C.sl.v24
  rw [View.readCov_eq_canon']
  unfold kernelRun0_C.sl.HS0_1
  simp only [View.readAt_eq_ld, Memref.IsWhole.read_unread, ld_all, canon_all]
  exact ld_all (Val := Elt Ideal) (e := .f32) (k0_pay6 x0 x1 x2 x3 xs0) _

theorem last_squares (hc0 : ¬cond0_0 i) (hc1 : cond0_1 i) (hc2 : cond0_2 i) (j : Fin 1024) :
    sout0_C_0 c i arg1 harg1 arg2 harg2 arg3 harg3 arg4 harg4 arg5 harg5 arg6 harg6 arg7 harg7 arg8 harg8 hc0 hc1 hc2 x0 x1 x2 x3 xs0 (ix2 (0 : Fin 1) j)
      = xs0 (ix2 (0 : Fin 1) j) + ∑ r : Fin 512, k0_pay1 x0 x1 x2 x3 (ix2 r j) * k0_pay1 x0 x1 x2 x3 (ix2 r j) := by
  unfold sout0_C_0
  rw [View.read_writes_junk_eq_canon]
  unfold kernelRun0_C
  dsimp only
  unfold kernelRun0_C.sl.HS0_1
  simp only [View.readCov_eq_canon', View.readAt_eq_ld, Memref.IsWhole.read_unread, ld_all, canon_all]
  exact more_squares_at x0 x1 x2 x3 xs0 j

theorem last_loss (hc0 : ¬cond0_0 i) (hc1 : cond0_1 i) (hc2 : cond0_2 i) (a : Fin 8) (b : Fin 128) :
    out0_C_6 c i arg1 harg1 arg2 harg2 arg3 harg3 arg4 harg4 arg5 harg5 arg6 harg6 arg7 harg7 arg8 harg8 hc0 hc1 hc2 x0 x1 x2 x3 xs0 (ix2 a b)
      = (∑ j : Fin 1024, (xs0 (ix2 (0 : Fin 1) j) + ∑ r : Fin 512, k0_pay1 x0 x1 x2 x3 (ix2 r j) * k0_pay1 x0 x1 x2 x3 (ix2 r j))) * halfPerElt := by
  unfold out0_C_6
  rw [View.read_writes_junk_eq_canon]
  unfold kernelRun0_C
  dsimp only
  simp only [read_back, View.readCov_eq_canon', View.readAt_eq_ld, Memref.IsWhole.read_unread, ld_all, canon_all]
  exact (loss_at _ a b).trans (congrArg (· * halfPerElt) (Finset.sum_congr rfl fun j _ => more_squares_at x0 x1 x2 x3 xs0 j))

end Body

variable (m : (ℓ : Loc nD τ sig) → Buf (Elt Ideal) ℓ) (c : Dev nD)

abbrev aU : S8192x1024.Idx → EReal := m ((c : Thread nD τ).loc main_arg0)
abbrev aW : S1024x1024.Idx → EReal := m ((c : Thread nD τ).loc main_arg1)
abbrev aX : S8192x1024.Idx → EReal := m ((c : Thread nD τ).loc main_arg2)
abbrev aT : S8192x1024.Idx → EReal := m ((c : Thread nD τ).loc main_arg3)

/-- The layer's output less the target. -/
@[irreducible] def error (U : S8192x1024.Idx → EReal) (W : S1024x1024.Idx → EReal) (X T : S8192x1024.Idx → EReal) (r : Fin 8192) (j : Fin 1024) :
    EReal :=
  ((∑ k : Fin 1024, U (ix2 r k) * W (ix2 k j)) + X (ix2 r j)) - T (ix2 r j)

/-- The loss's gradient. -/
abbrev wholeGrad (U : S8192x1024.Idx → EReal) (W : S1024x1024.Idx → EReal) (X T : S8192x1024.Idx → EReal) (i : S8192x1024.Idx) : EReal :=
  error U W X T (i 0) (i 1) * perElt

/-- The square of row `q`'s error in column `j`. -/
def square (e : Fin 8192 → Fin 1024 → EReal) (j : Fin 1024) (q : ℕ) : EReal := if h : q < 8192 then e ⟨q, h⟩ j * e ⟨q, h⟩ j else 0

/-- The first `n` rows' squares in column `j`. -/
@[irreducible] def squaresUpto (e : Fin 8192 → Fin 1024 → EReal) (n : ℕ) (j : Fin 1024) : EReal := ∑ q ∈ Finset.range n, square e j q

/-- The loss, from the errors. -/
@[irreducible] def loss (e : Fin 8192 → Fin 1024 → EReal) : EReal := (∑ j : Fin 1024, squaresUpto e 8192 j) * halfPerElt

theorem squaresUpto_first (e : Fin 8192 → Fin 1024 → EReal) (s : ℕ) (j : Fin 1024) (f : Fin s → EReal)
    (hf : ∀ r : Fin s, f r = square e j r.val) : ∑ r : Fin s, f r = squaresUpto e s j := by
  unfold squaresUpto
  rw [Finset.sum_range]
  exact Finset.sum_congr rfl fun r _ => hf r

theorem squaresUpto_add (e : Fin 8192 → Fin 1024 → EReal) (n s : ℕ) (j : Fin 1024) (f : Fin s → EReal)
    (hf : ∀ r : Fin s, f r = square e j (n + r.val)) : squaresUpto e n j + ∑ r : Fin s, f r = squaresUpto e (n + s) j := by
  unfold squaresUpto
  rw [Finset.sum_range_add, Finset.sum_range (n := s)]
  exact congrArg (_ + ·) (Finset.sum_congr rfl fun r _ => hf r)

abbrev b0 (t : Fin cfg0.N) : Vec Ideal S512x1024 .bf16 := iblk m c 0 t
abbrev b1 (t : Fin cfg0.N) : Vec Ideal S1024x1024 .bf16 := iblk m c 1 t
abbrev b2 (t : Fin cfg0.N) : Vec Ideal S512x1024 .f32 := iblk m c 2 t
abbrev b3 (t : Fin cfg0.N) : Vec Ideal S512x1024 .f32 := iblk m c 3 t

theorem lt_N (t : Fin cfg0.N) : t.val < 16 := t.isLt

/-- Row `r` of the block of point `t`. -/
abbrev row (t : Fin cfg0.N) (r : Fin 512) : Fin 8192 := ⟨512 * t.val + r.val, by have := lt_N t; omega⟩

theorem at0 (t : Fin cfg0.N) (r : Fin 512) (k : Fin 1024) : b0 m c t (ix2 r k) = aU m c (ix2 (row t r) k) := by
  have h0 := (by decide +kernel : ∀ t : Fin grid0.N, win0_0.index t 0 = t.val) t
  have h1 := (by decide +kernel : ∀ t : Fin grid0.N, win0_0.index t 1 = 0) t
  show V m c main_arg0 (((cfg0.win 0).blk t).view.emb (ix2 r k)) = _
  rw [V_main_arg0]
  refine congrArg (m ((c : Thread nD τ).loc main_arg0)) (funext fun a => ?_)
  match a with
  | ⟨0, _⟩ => exact Fin.ext (by show win0_0.index t 0 * 512 + 1 * r.val = 512 * t.val + r.val; omega)
  | ⟨1, _⟩ => exact Fin.ext (by show win0_0.index t 1 * 1024 + 1 * k.val = k.val; omega)

theorem at1 (t : Fin cfg0.N) (r : Fin 1024) (k : Fin 1024) : b1 m c t (ix2 r k) = aW m c (ix2 r k) := by
  have h0 := (by decide +kernel : ∀ t : Fin grid0.N, win0_1.index t 0 = 0) t
  have h1 := (by decide +kernel : ∀ t : Fin grid0.N, win0_1.index t 1 = 0) t
  show V m c main_arg1 (((cfg0.win 1).blk t).view.emb (ix2 r k)) = _
  rw [V_main_arg1]
  refine congrArg (m ((c : Thread nD τ).loc main_arg1)) (funext fun a => ?_)
  match a with
  | ⟨0, _⟩ => exact Fin.ext (by show win0_1.index t 0 * 1024 + 1 * r.val = r.val; omega)
  | ⟨1, _⟩ => exact Fin.ext (by show win0_1.index t 1 * 1024 + 1 * k.val = k.val; omega)

theorem at2 (t : Fin cfg0.N) (r : Fin 512) (k : Fin 1024) : b2 m c t (ix2 r k) = aX m c (ix2 (row t r) k) := by
  have h0 := (by decide +kernel : ∀ t : Fin grid0.N, win0_2.index t 0 = t.val) t
  have h1 := (by decide +kernel : ∀ t : Fin grid0.N, win0_2.index t 1 = 0) t
  show V m c main_arg2 (((cfg0.win 2).blk t).view.emb (ix2 r k)) = _
  rw [V_main_arg2]
  refine congrArg (m ((c : Thread nD τ).loc main_arg2)) (funext fun a => ?_)
  match a with
  | ⟨0, _⟩ => exact Fin.ext (by show win0_2.index t 0 * 512 + 1 * r.val = 512 * t.val + r.val; omega)
  | ⟨1, _⟩ => exact Fin.ext (by show win0_2.index t 1 * 1024 + 1 * k.val = k.val; omega)

theorem at3 (t : Fin cfg0.N) (r : Fin 512) (k : Fin 1024) : b3 m c t (ix2 r k) = aT m c (ix2 (row t r) k) := by
  have h0 := (by decide +kernel : ∀ t : Fin grid0.N, win0_3.index t 0 = t.val) t
  have h1 := (by decide +kernel : ∀ t : Fin grid0.N, win0_3.index t 1 = 0) t
  show V m c main_arg3 (((cfg0.win 3).blk t).view.emb (ix2 r k)) = _
  rw [V_main_arg3]
  refine congrArg (m ((c : Thread nD τ).loc main_arg3)) (funext fun a => ?_)
  match a with
  | ⟨0, _⟩ => exact Fin.ext (by show win0_3.index t 0 * 512 + 1 * r.val = 512 * t.val + r.val; omega)
  | ⟨1, _⟩ => exact Fin.ext (by show win0_3.index t 1 * 1024 + 1 * k.val = k.val; omega)

/-- The errors of the arguments. -/
abbrev err : Fin 8192 → Fin 1024 → EReal := error (aU m c) (aW m c) (aX m c) (aT m c)

theorem block_error (t : Fin cfg0.N) (r : Fin 512) (j : Fin 1024) :
    k0_pay1 (b0 m c t) (b1 m c t) (b2 m c t) (b3 m c t) (ix2 r j) = err m c (row t r) j := by
  rw [error_at]
  unfold err error
  exact congrArg₂ (· - ·) (congrArg₂ (· + ·) (Finset.sum_congr rfl fun k _ => congrArg₂ (· * ·) (at0 m c t r k) (at1 m c t k j)) (at2 m c t r j))
    (at3 m c t r j)

theorem block_square (t : Fin cfg0.N) (r : Fin 512) (j : Fin 1024) :
    k0_pay1 (b0 m c t) (b1 m c t) (b2 m c t) (b3 m c t) (ix2 r j) * k0_pay1 (b0 m c t) (b1 m c t) (b2 m c t) (b3 m c t) (ix2 r j)
      = square (err m c) j (512 * t.val + r.val) := by
  rw [block_error]
  unfold square
  rw [dif_pos (row t r).isLt]

/-- The arrays the call computes. -/
abbrev wholeA : S8192x1024.Idx → EReal := wholeGrad (aU m c) (aW m c) (aX m c) (aT m c)
abbrev wholeB : S8x128.Idx → EReal := fun _ => loss (err m c)

theorem left_grad (t : Fin cfg0.N) (r : Fin 512) (j : Fin 1024) :
    (outsAt0 m c t.val t.isLt).1 (ix2 r j) = wholeA m c (ix2 (row t r) j) := by
  have ht := lt_N t
  by_cases h : t.val = 0
  · rw [outsAt0_A m c t (by omega) (by omega) (by omega)]
    dsimp only
    rw [first_grad]
    exact congrArg (· * perElt) (block_error m c t r j)
  · by_cases h' : t.val = 15
    · rw [outsAt0_C m c t (by omega) (by omega) (by omega)]
      dsimp only
      rw [last_grad]
      exact congrArg (· * perElt) (block_error m c t r j)
    · rw [outsAt0_B m c t (by omega) (by omega) (by omega)]
      dsimp only
      rw [middle_grad]
      exact congrArg (· * perElt) (block_error m c t r j)

theorem left_rounded (t : Fin cfg0.N) (r : Fin 512) (j : Fin 1024) :
    (outsAt0 m c t.val t.isLt).2.1 (ix2 r j) = wholeA m c (ix2 (row t r) j) := by
  have ht := lt_N t
  by_cases h : t.val = 0
  · rw [outsAt0_A m c t (by omega) (by omega) (by omega)]
    dsimp only
    rw [first_rounded]
    exact congrArg (· * perElt) (block_error m c t r j)
  · by_cases h' : t.val = 15
    · rw [outsAt0_C m c t (by omega) (by omega) (by omega)]
      dsimp only
      rw [last_rounded]
      exact congrArg (· * perElt) (block_error m c t r j)
    · rw [outsAt0_B m c t (by omega) (by omega) (by omega)]
      dsimp only
      rw [middle_rounded]
      exact congrArg (· * perElt) (block_error m c t r j)

/-- After point `n` the accumulator holds the squares of the rows so far. -/
theorem squares_left (j : Fin 1024) : ∀ (n : ℕ) (hn : n < cfg0.N),
    (outsAt0 m c n hn).2.2.2 (ix2 (0 : Fin 1) j) = squaresUpto (err m c) (512 * n + 512) j
  | 0, hn => by
    have h := outsAt0_A m c ⟨0, hn⟩ (by dsimp only) (by dsimp only; omega) (by dsimp only; omega)
    dsimp only at h
    rw [h]
    dsimp only
    rw [first_squares]
    refine squaresUpto_first _ 512 j _ fun r => ?_
    refine (block_square m c ⟨0, hn⟩ r j).trans (congrArg _ ?_)
    show 512 * 0 + r.val = r.val
    omega
  | n + 1, hn => by
    have hN : n + 1 < 16 := hn
    have hp := squares_left j n (by omega)
    have hs : ∀ r : Fin 512, k0_pay1 (b0 m c ⟨n + 1, hn⟩) (b1 m c ⟨n + 1, hn⟩) (b2 m c ⟨n + 1, hn⟩) (b3 m c ⟨n + 1, hn⟩) (ix2 r j)
        * k0_pay1 (b0 m c ⟨n + 1, hn⟩) (b1 m c ⟨n + 1, hn⟩) (b2 m c ⟨n + 1, hn⟩) (b3 m c ⟨n + 1, hn⟩) (ix2 r j)
          = square (err m c) j (512 * n + 512 + r.val) := fun r => by
      refine (block_square m c ⟨n + 1, hn⟩ r j).trans (congrArg _ ?_)
      show 512 * (n + 1) + r.val = 512 * n + 512 + r.val
      omega
    by_cases h' : n + 1 = 15
    · have h := outsAt0_C m c ⟨n + 1, hn⟩ (by dsimp only; omega) (by dsimp only; omega) (by dsimp only; omega)
      dsimp only at h
      rw [h]
      dsimp only
      rw [last_squares]
      simp only [Nat.add_sub_cancel]
      rw [hp]
      exact (squaresUpto_add _ (512 * n + 512) 512 j _ hs).trans (by congr 1)
    · have h := outsAt0_B m c ⟨n + 1, hn⟩ (by dsimp only; omega) (by dsimp only; omega) (by dsimp only; omega)
      dsimp only at h
      rw [h]
      dsimp only
      rw [middle_squares]
      simp only [Nat.add_sub_cancel]
      rw [hp]
      exact (squaresUpto_add _ (512 * n + 512) 512 j _ hs).trans (by congr 1)

/-- What the last point leaves of the loss. -/
theorem left_loss (t : Fin cfg0.N) (h : t.val = 15) (a : Fin 8) (b : Fin 128) :
    (outsAt0 m c t.val t.isLt).2.2.1 (ix2 a b) = loss (err m c) := by
  rw [outsAt0_C m c t (by omega) (by omega) (by omega)]
  dsimp only
  rw [last_loss]
  unfold loss
  refine congrArg (· * halfPerElt) (Finset.sum_congr rfl fun j _ => ?_)
  rw [squares_left m c j (t.val - 1) _]
  refine (squaresUpto_add _ (512 * (t.val - 1) + 512) 512 j _ fun r => ?_).trans (congrArg (fun n => squaresUpto (err m c) n j) (by omega))
  refine (block_square m c t r j).trans (congrArg _ (by omega))

theorem final_grad : (dats m 0 c).arrAt 4 cfg0.N = wholeA m c := by
  refine (dats m 0 c).arrAt_eq_of_cover 4 (wholeA m c) (fun t hf => ?_) (fun i => ?_)
  · rw [flushed4]
    funext j
    obtain ⟨r, k, rfl⟩ : ∃ (r : Fin 512) (k : Fin 1024), j = ix2 r k := ⟨j 0, j 1, eq_ix2 j⟩
    have h0 := (by decide +kernel : ∀ t : Fin grid0.N, win0_4.index t 0 = t.val) t
    have h1 := (by decide +kernel : ∀ t : Fin grid0.N, win0_4.index t 1 = 0) t
    refine (left_grad m c t r k).trans ?_
    show _ = wholeA m c (((cfg0.win 4).blk t).view.emb (ix2 r k))
    refine congrArg (wholeA m c) (funext fun a => ?_)
    match a with
    | ⟨0, _⟩ => exact Fin.ext (by show 512 * t.val + r.val = win0_4.index t 0 * 512 + 1 * r.val; omega)
    | ⟨1, _⟩ => exact Fin.ext (by show k.val = win0_4.index t 1 * 1024 + 1 * k.val; omega)
  · have i0 : (i 0).val < 8192 := (i 0).isLt
    have i1 : (i 1).val < 1024 := (i 1).isLt
    let t : Fin cfg0.N := ⟨(i 0).val / 512, show (i 0).val / 512 < 16 by omega⟩
    have ht : t.val = (i 0).val / 512 := rfl
    have h0 := (by decide +kernel : ∀ t : Fin grid0.N, win0_4.index t 0 = t.val) t
    have h1 := (by decide +kernel : ∀ t : Fin grid0.N, win0_4.index t 1 = 0) t
    refine ⟨t, (by decide +kernel : ∀ t : Fin grid0.N, win0_4.flush t = true) t, ?_⟩
    show i ∈ ((View.whole main_v0_0).slice (win0_4.rect t)).set
    rw [View.set_slice_whole, Rect.mem_set_unit]
    intro a
    match a with
    | ⟨0, _⟩ => show win0_4.index t 0 * 512 ≤ (i 0).val ∧ (i 0).val < win0_4.index t 0 * 512 + 512; omega
    | ⟨1, _⟩ => show win0_4.index t 1 * 1024 ≤ (i 1).val ∧ (i 1).val < win0_4.index t 1 * 1024 + 1024; omega

theorem final_rounded : (dats m 0 c).arrAt 5 cfg0.N = wholeA m c := by
  refine (dats m 0 c).arrAt_eq_of_cover 5 (wholeA m c) (fun t hf => ?_) (fun i => ?_)
  · rw [flushed5]
    funext j
    obtain ⟨r, k, rfl⟩ : ∃ (r : Fin 512) (k : Fin 1024), j = ix2 r k := ⟨j 0, j 1, eq_ix2 j⟩
    have h0 := (by decide +kernel : ∀ t : Fin grid0.N, win0_5.index t 0 = t.val) t
    have h1 := (by decide +kernel : ∀ t : Fin grid0.N, win0_5.index t 1 = 0) t
    refine (left_rounded m c t r k).trans ?_
    show _ = wholeA m c (((cfg0.win 5).blk t).view.emb (ix2 r k))
    refine congrArg (wholeA m c) (funext fun a => ?_)
    match a with
    | ⟨0, _⟩ => exact Fin.ext (by show 512 * t.val + r.val = win0_5.index t 0 * 512 + 1 * r.val; omega)
    | ⟨1, _⟩ => exact Fin.ext (by show k.val = win0_5.index t 1 * 1024 + 1 * k.val; omega)
  · have i0 : (i 0).val < 8192 := (i 0).isLt
    have i1 : (i 1).val < 1024 := (i 1).isLt
    let t : Fin cfg0.N := ⟨(i 0).val / 512, show (i 0).val / 512 < 16 by omega⟩
    have ht : t.val = (i 0).val / 512 := rfl
    have h0 := (by decide +kernel : ∀ t : Fin grid0.N, win0_5.index t 0 = t.val) t
    have h1 := (by decide +kernel : ∀ t : Fin grid0.N, win0_5.index t 1 = 0) t
    refine ⟨t, (by decide +kernel : ∀ t : Fin grid0.N, win0_5.flush t = true) t, ?_⟩
    show i ∈ ((View.whole main_v0_1).slice (win0_5.rect t)).set
    rw [View.set_slice_whole, Rect.mem_set_unit]
    intro a
    match a with
    | ⟨0, _⟩ => show win0_5.index t 0 * 512 ≤ (i 0).val ∧ (i 0).val < win0_5.index t 0 * 512 + 512; omega
    | ⟨1, _⟩ => show win0_5.index t 1 * 1024 ≤ (i 1).val ∧ (i 1).val < win0_5.index t 1 * 1024 + 1024; omega

theorem final_loss : (dats m 0 c).arrAt 6 cfg0.N = wholeB m c := by
  refine (dats m 0 c).arrAt_eq_of_cover 6 (wholeB m c) (fun t hf => ?_) (fun i => ?_)
  · rw [flushed6]
    funext j
    obtain ⟨a, b, rfl⟩ : ∃ (a : Fin 8) (b : Fin 128), j = ix2 a b := ⟨j 0, j 1, eq_ix2 j⟩
    have hl : t.val = 15 := (by decide +kernel : ∀ t : Fin grid0.N, win0_6.flush t = true → t.val = 15) t hf
    exact left_loss m c t hl a b
  · have i0 : (i 0).val < 8 := (i 0).isLt
    have i1 : (i 1).val < 128 := (i 1).isLt
    let t : Fin cfg0.N := ⟨15, by decide⟩
    have h0 := (by decide +kernel : ∀ t : Fin grid0.N, win0_6.index t 0 = 0) t
    have h1 := (by decide +kernel : ∀ t : Fin grid0.N, win0_6.index t 1 = 0) t
    refine ⟨t, (by decide +kernel : ∀ t : Fin grid0.N, t.val = 15 → win0_6.flush t = true) t rfl, ?_⟩
    show i ∈ ((View.whole main_v0_2).slice (win0_6.rect t)).set
    rw [View.set_slice_whole, Rect.mem_set_unit]
    intro a
    match a with
    | ⟨0, _⟩ => show win0_6.index t 0 * 8 ≤ (i 0).val ∧ (i 0).val < win0_6.index t 0 * 8 + 8; omega
    | ⟨1, _⟩ => show win0_6.index t 1 * 128 ≤ (i 1).val ∧ (i 1).val < win0_6.index t 1 * 128 + 128; omega

/-! ## The reference's three results -/

section Reference

open Cert.Reference11Ideal.Read

variable (U : S8192x1024.Idx → EReal) (W : S1024x1024.Idx → EReal) (X T : S8192x1024.Idx → EReal)

theorem zero_bits : (FloatOps.ofBits .f32 0x00000000#32 : Ideal .f32) = (0 : EReal) := by
  show Ideal.ofBits .f32 0x00000000#32 = 0
  simp [Ideal.ofBits, Ideal.ieee]

theorem half_bits : (FloatOps.ofBits .f32 0x3F000000#32 : Ideal .f32) = ((1 / 2 : ℝ) : EReal) := by
  show Ideal.ofBits .f32 0x3F000000#32 = _
  simp [Ideal.ofBits, Ideal.ieee]
  rw [← EReal.coe_mul]
  norm_num

theorem one_bits : (FloatOps.ofBits .f32 0x3F800000#32 : Ideal .f32) = ((1 : ℝ) : EReal) := by
  show Ideal.ofBits .f32 0x3F800000#32 = _
  simp [Ideal.ofBits, Ideal.ieee]
  rw [← EReal.coe_mul]
  norm_num

theorem two_bits : (FloatOps.ofBits .f32 0x40000000#32 : Ideal .f32) = ((2 : ℝ) : EReal) := by
  show Ideal.ofBits .f32 0x40000000#32 = _
  simp [Ideal.ofBits, Ideal.ieee]
  rw [← EReal.coe_mul]
  norm_num

theorem length_bits : (FloatOps.ofBits .f32 0x44800000#32 : Ideal .f32) = ((1024 : ℝ) : EReal) := Rms.len_bits

theorem perElt_bits : perElt = ((1 / 1024 : ℝ) : EReal) := by
  simp [Ideal.ofBits, Ideal.ieee]
  rw [← EReal.coe_mul]
  norm_num

theorem halfPerElt_bits : halfPerElt = ((1 / 2048 : ℝ) : EReal) := by
  simp [Ideal.ofBits, Ideal.ieee]
  rw [← EReal.coe_mul]
  norm_num

theorem ref_error (i : S8192x1024.Idx) : val_main_v4 (F := Ideal) U W X T i = error U W X T (i 0) (i 1) := by
  obtain ⟨r, j, rfl⟩ : ∃ (r : Fin 8192) (j : Fin 1024), i = ix2 r j := ⟨i 0, i 1, eq_ix2 i⟩
  rw [val_main_v4_apply, val_main_v3_apply, val_main_v2_apply]
  show (X (ix2 r j) + _) - T (ix2 r j) = error U W X T r j
  unfold error
  rw [add_comm]
  refine congrArg (fun s : EReal => (s + X (ix2 r j)) - T (ix2 r j)) (Finset.sum_congr rfl fun k _ => ?_)
  rw [val_main_v0_apply, val_main_v1_apply]
  refine congrArg₂ (· * ·) (congrArg U (funext fun a => ?_)) (congrArg W (funext fun a => ?_))
  · match a with
    | ⟨0, _⟩ => rfl
    | ⟨1, _⟩ => rfl
  · match a with
    | ⟨0, _⟩ => rfl
    | ⟨1, _⟩ => rfl

/-- The reference's first result. -/
theorem ref_grad (i : S8192x1024.Idx) : val_main_v18 (F := Ideal) U W X T i = wholeGrad U W X T i := by
  rw [val_main_v18_apply, val_main_v17_apply, val_main_v16_apply, val_main_v15_apply, val_main_cst_6_apply, val_main_v14_apply,
    val_main_v13_apply, val_main_cst_4_apply, val_main_cst_5_apply, val_main_v7_apply, val_main_v6_apply, val_main_cst_apply, ref_error,
    half_bits, one_bits, two_bits, length_bits]
  show Ideal.div (((1 / 2 : ℝ) : EReal) * ((1 : ℝ) : EReal)) ((1024 : ℝ) : EReal) * (((2 : ℝ) : EReal) * error U W X T (i 0) (i 1))
    = error U W X T (i 0) (i 1) * perElt
  rw [Ideal.div_coe (by norm_num), perElt_bits, ← EReal.coe_mul, ← EReal.coe_mul, ← mul_assoc, ← EReal.coe_mul, mul_comm]
  congr 2
  norm_num

/-- The reference's second result: the first, rounded. -/
theorem ref_rounded (i : S8192x1024.Idx) : val_main_v19 (F := Ideal) U W X T i = wholeGrad U W X T i := by
  rw [val_main_v19_apply]
  exact ref_grad U W X T i

/-- Row `r` of a one-axis array over the rows. -/
abbrev only (r : Fin 8192) : Cert.Reference11Ideal.S8192.Idx := fun a => match a with
  | ⟨0, _⟩ => r

theorem sum_rows (f : Cert.Reference11Ideal.S8192.Idx → EReal) : ∑ j, f j = ∑ r : Fin 8192, f (only r) :=
  (Finset.sum_bij (fun r _ => only r) (fun _ _ => Finset.mem_univ _) (fun a _ b _ h => congrFun h 0)
    (fun j _ => ⟨j 0, Finset.mem_univ _, funext fun a => by
      match a with
      | ⟨0, _⟩ => rfl⟩) (fun _ _ => rfl)).symm

theorem mean_at (r : Fin 8192) : val_main_v10 (F := Ideal) U W X T (only r)
    = ((1 / 1024 : ℝ) : EReal) * ∑ j : Fin 1024, square (error U W X T) j r.val := by
  rw [val_main_v10_apply, val_main_v9_apply, val_main_cst_1_apply, val_main_v8_apply, val_main_cst_0_apply, zero_bits, zero_add, length_bits]
  show Ideal.div _ ((1024 : ℝ) : EReal) = _
  rw [Ideal.div_coe (by norm_num), mul_comm]
  refine congrArg (fun s : EReal => ((1 / 1024 : ℝ) : EReal) * s) (Finset.sum_congr rfl fun j _ => ?_)
  have e : idx_main_v8 (only r) j = ix2 r j := funext fun a => Fin.ext (by
    match a with
    | ⟨0, _⟩ => first | rfl | (show r.val * 1 + 0 = r.val; omega)
    | ⟨1, _⟩ => rfl)
  rw [e, val_main_v5_apply, ref_error]
  unfold square
  rw [dif_pos r.isLt]
  rfl

/-- The reference's third result. -/
theorem ref_loss (i : S8x128.Idx) : val_main_v20 (F := Ideal) U W X T i = loss (error U W X T) := by
  rw [val_main_v20_apply, val_main_v12_apply, val_main_cst_3_apply, val_main_v11_apply, val_main_cst_2_apply, zero_bits, zero_add, half_bits,
    sum_rows]
  show ((1 / 2 : ℝ) : EReal) * ∑ r : Fin 8192, val_main_v10 (F := Ideal) U W X T (only r) = _
  rw [Finset.sum_congr rfl fun r _ => mean_at U W X T r, ← Rms.scale_sum (by norm_num), ← mul_assoc, ← EReal.coe_mul, Finset.sum_comm]
  unfold loss
  rw [halfPerElt_bits, mul_comm]
  have hc : ((1 / 2 : ℝ) * (1 / 1024)) = 1 / 2048 := by norm_num
  rw [hc]
  refine congrArg (· * ((1 / 2048 : ℝ) : EReal)) (Finset.sum_congr rfl fun j _ => ?_)
  exact squaresUpto_first _ 8192 j _ fun r => rfl

end Reference

end Cert.Kernel11Ideal.Loss

end
-- ==== Proof.StepClaims.lean ====
/- The gradients through the normed products, and three products of the forward pass: each call leaves what its reference
   leaves. -/
module

public import proofs.«01_k».proof.Defs
public import proofs.«01_k».proof.Proof.Gen.Kernel7Ideal.Value
public import proofs.«01_k».proof.Proof.Gen.Reference7Ideal
public import proofs.«01_k».proof.Proof.Gen.Reference7Ideal.Read
public import proofs.«01_k».proof.Proof.Norm7
public import proofs.«01_k».proof.Proof.Gen.Kernel8Ideal.Value
public import proofs.«01_k».proof.Proof.Gen.Reference8Ideal
public import proofs.«01_k».proof.Proof.Gen.Reference8Ideal.Read
public import proofs.«01_k».proof.Proof.Norm8
public import proofs.«01_k».proof.Proof.Gen.Kernel9Ideal.Value
public import proofs.«01_k».proof.Proof.Gen.Reference9Ideal
public import proofs.«01_k».proof.Proof.Gen.Reference9Ideal.Read
public import proofs.«01_k».proof.Proof.InProj9
public import proofs.«01_k».proof.Proof.Gen.Kernel10Ideal.Value
public import proofs.«01_k».proof.Proof.Gen.Reference10Ideal
public import proofs.«01_k».proof.Proof.Gen.Reference10Ideal.Read
public import proofs.«01_k».proof.Proof.OutProj10
public import proofs.«01_k».proof.Proof.Gen.Kernel11Ideal.Value
public import proofs.«01_k».proof.Proof.Gen.Reference11Ideal
public import proofs.«01_k».proof.Proof.Gen.Reference11Ideal.Read
public import proofs.«01_k».proof.Proof.Loss11
public import Idealize.ShloMosaic.Adequacy
public import Idealize.ShloMosaic.Init

@[expose] public section

noncomputable section

namespace Cert.Proof

open Idealize.ShloMosaic Idealize.SL.Sem

/-- The reference of `d_h1` halts with its arguments untouched. -/
theorem frame_reference7 : Cert.quiescent_Reference7Ideal := fun m g _ =>
  (θ_run _ _ _).mono (fun r h => ⟨fun c => (h c).2.2.2, sem_eq_zero_of_no_sems (by decide) r.2⟩)
    (Cert.Reference7Ideal.Value.run (F := Ideal) m g)

/-- `d_h1` leaves the gradient through the product and the norm. -/
theorem algebraic_d_h1 : Cert.algebraic_Kernel7Ideal_Reference7Ideal := fun m g m' g' _ hargs => by
  refine ⟨fun c => Cert.Kernel7Ideal.Norm.wholeIn m c, fun c => Cert.Kernel7Ideal.Norm.wholeIn m c, fun c => Cert.Kernel7Ideal.Norm.wholeW m c, ?_, ?_⟩
  · refine (θ_run _ _ _).mono (fun r h c => ?_) (Cert.Kernel7Ideal.Value.run_blocks m g)
    obtain ⟨h0, h1, h2, hk⟩ := h c
    exact ⟨h0.trans (Cert.Kernel7Ideal.Norm.final_input m c), h1.trans (Cert.Kernel7Ideal.Norm.final_rounded m c), h2.trans (Cert.Kernel7Ideal.Norm.final_weight m c), hk⟩
  · refine (θ_run _ _ _).mono (fun r h c => ?_) (Cert.Reference7Ideal.Value.run (F := Ideal) m' g')
    obtain ⟨h0, h1, h2, hk⟩ := h c
    obtain ⟨e0, e1, e2, e3, e4⟩ := hargs c
    refine ⟨(h0.trans (Cert.Reference7Ideal.Read.val_main_v38_eq m' c)).trans ?_, (h1.trans (Cert.Reference7Ideal.Read.val_main_v39_eq m' c)).trans ?_, (h2.trans (Cert.Reference7Ideal.Read.val_main_v21_eq _ _ _)).trans ?_, hk⟩
    · rw [e0, e1, e2, e3, e4]
      exact funext (Cert.Kernel7Ideal.Norm.ref_input _ _ _ _ _)
    · rw [e0, e1, e2, e3, e4]
      exact funext (Cert.Kernel7Ideal.Norm.ref_rounded _ _ _ _ _)
    · rw [e0, e1, e2]
      exact funext (Cert.Kernel7Ideal.Norm.ref_weight _ _ _)

/-- The reference of `d_h0` halts with its arguments untouched. -/
theorem frame_reference8 : Cert.quiescent_Reference8Ideal := fun m g _ =>
  (θ_run _ _ _).mono (fun r h => ⟨fun c => (h c).2.2.2, sem_eq_zero_of_no_sems (by decide) r.2⟩)
    (Cert.Reference8Ideal.Value.run (F := Ideal) m g)

/-- `d_h0` leaves the gradient through the product and the norm. -/
theorem algebraic_d_h0 : Cert.algebraic_Kernel8Ideal_Reference8Ideal := fun m g m' g' _ hargs => by
  refine ⟨fun c => Cert.Kernel8Ideal.Norm.wholeIn m c, fun c => Cert.Kernel8Ideal.Norm.wholeIn m c, fun c => Cert.Kernel8Ideal.Norm.wholeW m c, ?_, ?_⟩
  · refine (θ_run _ _ _).mono (fun r h c => ?_) (Cert.Kernel8Ideal.Value.run_blocks m g)
    obtain ⟨h0, h1, h2, hk⟩ := h c
    exact ⟨h0.trans (Cert.Kernel8Ideal.Norm.final_input m c), h1.trans (Cert.Kernel8Ideal.Norm.final_rounded m c), h2.trans (Cert.Kernel8Ideal.Norm.final_weight m c), hk⟩
  · refine (θ_run _ _ _).mono (fun r h c => ?_) (Cert.Reference8Ideal.Value.run (F := Ideal) m' g')
    obtain ⟨h0, h1, h2, hk⟩ := h c
    obtain ⟨e0, e1, e2, e3, e4⟩ := hargs c
    refine ⟨(h0.trans (Cert.Reference8Ideal.Read.val_main_v40_eq m' c)).trans ?_, (h1.trans (Cert.Reference8Ideal.Read.val_main_v41_eq m' c)).trans ?_, (h2.trans (Cert.Reference8Ideal.Read.val_main_v23_eq _ _ _)).trans ?_, hk⟩
    · rw [e0, e1, e2, e3, e4]
      exact funext (Cert.Kernel8Ideal.Norm.ref_input _ _ _ _ _)
    · rw [e0, e1, e2, e3, e4]
      exact funext (Cert.Kernel8Ideal.Norm.ref_rounded _ _ _ _ _)
    · rw [e0, e1, e2]
      exact funext (Cert.Kernel8Ideal.Norm.ref_weight _ _ _)

/-- The reference of `in_proj1` halts with its arguments untouched. -/
theorem frame_reference9 : Cert.quiescent_Reference9Ideal := fun m g _ =>
  (θ_run _ _ _).mono (fun r h => ⟨fun c => (h c).2, sem_eq_zero_of_no_sems (by decide) r.2⟩)
    (Cert.Reference9Ideal.Value.run (F := Ideal) m g)

/-- `in_proj1` leaves the product. -/
theorem algebraic_in_proj1 : Cert.algebraic_Kernel9Ideal_Reference9Ideal := fun m g m' g' _ hargs => by
  refine ⟨fun c => Cert.Kernel9Ideal.InProj.whole m c, ?_, ?_⟩
  · refine (θ_run _ _ _).mono (fun r h c => ?_) (Cert.Kernel9Ideal.Value.run_blocks m g)
    obtain ⟨h0, hk⟩ := h c
    exact ⟨h0.trans (Cert.Kernel9Ideal.InProj.final_product m c), hk⟩
  · refine (θ_run _ _ _).mono (fun r h c => ?_) (Cert.Reference9Ideal.Value.run (F := Ideal) m' g')
    obtain ⟨h0, hk⟩ := h c
    obtain ⟨e0, e1⟩ := hargs c
    refine ⟨(h0.trans (Cert.Reference9Ideal.Read.val_main_v2_eq _ _)).trans ?_, hk⟩
    · rw [e0, e1]
      exact funext (Cert.Kernel9Ideal.InProj.ref_product _ _)

/-- The reference of `out_proj0` halts with its arguments untouched. -/
theorem frame_reference10 : Cert.quiescent_Reference10Ideal := fun m g _ =>
  (θ_run _ _ _).mono (fun r h => ⟨fun c => (h c).2.2, sem_eq_zero_of_no_sems (by decide) r.2⟩)
    (Cert.Reference10Ideal.Value.run (F := Ideal) m g)

/-- `out_proj0` leaves the layer's output and its normed rows. -/
theorem algebraic_out_proj0 : Cert.algebraic_Kernel10Ideal_Reference10Ideal := fun m g m' g' _ hargs => by
  refine ⟨fun c => Cert.Kernel10Ideal.OutProj.wholeA m c, fun c => Cert.Kernel10Ideal.OutProj.wholeB m c, ?_, ?_⟩
  · refine (θ_run _ _ _).mono (fun r h c => ?_) (Cert.Kernel10Ideal.Value.run_blocks m g)
    obtain ⟨h0, h1, hk⟩ := h c
    exact ⟨h0.trans (Cert.Kernel10Ideal.OutProj.final_out m c), h1.trans (Cert.Kernel10Ideal.OutProj.final_normed m c), hk⟩
  · refine (θ_run _ _ _).mono (fun r h c => ?_) (Cert.Reference10Ideal.Value.run (F := Ideal) m' g')
    obtain ⟨h0, h1, hk⟩ := h c
    obtain ⟨e0, e1, e2, e3⟩ := hargs c
    refine ⟨(h0.trans (Cert.Reference10Ideal.Read.val_main_v3_eq _ _ _)).trans ?_, (h1.trans (Cert.Reference10Ideal.Read.val_main_v16_eq _ _ _ _)).trans ?_, hk⟩
    · rw [e0, e1, e2]
      exact funext (Cert.Kernel10Ideal.OutProj.ref_out _ _ _)
    · rw [e0, e1, e2, e3]
      exact funext (Cert.Kernel10Ideal.OutProj.ref_normed _ _ _ _)

/-- The reference of `out_proj1_loss` halts with its arguments untouched. -/
theorem frame_reference11 : Cert.quiescent_Reference11Ideal := fun m g _ =>
  (θ_run _ _ _).mono (fun r h => ⟨fun c => (h c).2.2.2, sem_eq_zero_of_no_sems (by decide) r.2⟩)
    (Cert.Reference11Ideal.Value.run (F := Ideal) m g)

/-- `out_proj1_loss` leaves the loss and its gradient. -/
theorem algebraic_out_proj1_loss : Cert.algebraic_Kernel11Ideal_Reference11Ideal := fun m g m' g' _ hargs => by
  refine ⟨fun c => Cert.Kernel11Ideal.Loss.wholeA m c, fun c => Cert.Kernel11Ideal.Loss.wholeA m c, fun c => Cert.Kernel11Ideal.Loss.wholeB m c, ?_, ?_⟩
  · refine (θ_run _ _ _).mono (fun r h c => ?_) (Cert.Kernel11Ideal.Value.run_blocks m g)
    obtain ⟨h0, h1, h2, hk⟩ := h c
    exact ⟨h0.trans (Cert.Kernel11Ideal.Loss.final_grad m c), h1.trans (Cert.Kernel11Ideal.Loss.final_rounded m c), h2.trans (Cert.Kernel11Ideal.Loss.final_loss m c), hk⟩
  · refine (θ_run _ _ _).mono (fun r h c => ?_) (Cert.Reference11Ideal.Value.run (F := Ideal) m' g')
    obtain ⟨h0, h1, h2, hk⟩ := h c
    obtain ⟨e0, e1, e2, e3⟩ := hargs c
    refine ⟨(h0.trans (Cert.Reference11Ideal.Read.val_main_v18_eq _ _ _ _)).trans ?_, (h1.trans (Cert.Reference11Ideal.Read.val_main_v19_eq _ _ _ _)).trans ?_, (h2.trans (Cert.Reference11Ideal.Read.val_main_v20_eq _ _ _ _)).trans ?_, hk⟩
    · rw [e0, e1, e2, e3]
      exact funext (Cert.Kernel11Ideal.Loss.ref_grad _ _ _ _)
    · rw [e0, e1, e2, e3]
      exact funext (Cert.Kernel11Ideal.Loss.ref_rounded _ _ _ _)
    · rw [e0, e1, e2, e3]
      exact funext (Cert.Kernel11Ideal.Loss.ref_loss _ _ _ _)

end Cert.Proof

end
-- ==== Proof.Columns.lean ====
/- Buffers written in pieces of whole columns: what a list of such writes leaves at a row and a column. -/
module

public import Idealize.ShloMosaic.Lib.Pipeline.Value
public import Idealize.ShloMosaic.Lib.Pointwise

@[expose] public section

noncomputable section

namespace Idealize.ShloMosaic.Bands

variable {Val : EltTy → Type} {e : EltTy}

/-- The columns before `n` of a buffer written in pieces of whole columns hold `G`. -/
def Before {a N : Nat} [∀ e, Nonempty (Val e)] (n : Nat) (L : List (View.Piece Val (⟨2, ![a, N]⟩ : Shape) e)) (G : Fin a → Fin N → Val e) : Prop :=
  ∀ (r : Fin a) (l : Fin N), l.val < n → View.canon L (ix2 r l) = G r l

theorem before_none {a N : Nat} [∀ e, Nonempty (Val e)] (L : List (View.Piece Val (⟨2, ![a, N]⟩ : Shape) e)) (G : Fin a → Fin N → Val e) :
    Before 0 L G := fun _ _ h => absurd h (Nat.not_lt_zero _)

/-- One more piece of `b` columns, written last, from column `o` on. -/
theorem before_more {a N o b : Nat} [∀ e, Nonempty (Val e)]
    (inb : ∀ k, (![0, o] : Fin 2 → Nat) k + (![a, b] : Fin 2 → Nat) k ≤ (![a, N] : Fin 2 → Nat) k)
    (w : (⟨2, ![a, b]⟩ : Shape).Idx → Val e) (L : List (View.Piece Val (⟨2, ![a, N]⟩ : Shape) e)) (G : Fin a → Fin N → Val e)
    (hL : Before o L G) (hw : ∀ (r : Fin a) (l : Fin b) (hl : o + l.val < N), w (ix2 r l) = G r ⟨o + l.val, hl⟩) :
    Before (o + b) ((⟨Rect.unit (s := (⟨2, ![a, N]⟩ : Shape)) ![0, o] ![a, b] inb, w⟩ : View.Piece Val (⟨2, ![a, N]⟩ : Shape) e) :: L) G := by
  intro r l hl
  by_cases h : o ≤ l.val
  · have e1 : (Rect.unit (s := (⟨2, ![a, N]⟩ : Shape)) ![0, o] ![a, b] inb).emb (ix2 r (⟨l.val - o, by omega⟩ : Fin b)) = ix2 r l := by
      funext k
      match k with
      | ⟨0, _⟩ => exact Fin.ext (by show 0 + 1 * r.val = r.val; omega)
      | ⟨1, _⟩ => exact Fin.ext (by show o + 1 * (l.val - o) = l.val; omega)
    have hv : o + (l.val - o) = l.val := by omega
    rw [← e1]
    refine (View.canon_cons_emb (Rect.unit (s := (⟨2, ![a, N]⟩ : Shape)) ![0, o] ![a, b] inb) w L _).trans ?_
    refine (hw r ⟨l.val - o, by omega⟩ (by show o + (l.val - o) < N; omega)).trans ?_
    exact congrArg (G r) (Fin.ext hv)
  · refine (View.canon_cons_of_not_mem _ L fun hm => ?_).trans (hL r l (by omega))
    obtain ⟨x, hx⟩ := LoadRect.exists_idx_of_mem _ hm
    have h0 : o + 1 * (x 1).val = l.val := congrArg (fun i : (⟨2, ![a, N]⟩ : Shape).Idx => (i 1).val) hx
    omega

end Idealize.ShloMosaic.Bands

end
-- ==== Proof.HeadTurn.lean ====
/- A pair of heads side by side in 128 lanes: normed with one product by a block matrix and turned by two rotations of the
   lanes, which is each head's own norm and its own turn. -/
module

public import proofs.«01_k».proof.Proof.RmsReal

@[expose] public section

noncomputable section

namespace Idealize.ShloMosaic.Head

/-- Lane `l`, `n` lanes back, around the end. -/
abbrev back (n : ℕ) (l : Fin 128) : Fin 128 := ⟨(l.val + 128 - n) % 128, Nat.mod_lt _ (by norm_num)⟩

/-- Lane `d` of head `a`. -/
abbrev lane (a : Fin 2) (d : Fin 64) : Fin 128 := ⟨64 * a.val + d.val, by omega⟩

section Lanes

variable (t w : Fin 128 → EReal) (m : Fin 128 → Fin 128 → EReal) (c s1 s2 : Fin 128 → EReal)

/-- The mean square by a product: of the squares, and of what rounding leaves of them. -/
def laneMean (l : Fin 128) : EReal := (∑ k, t k * t k * m k l) + ∑ k, (t k * t k - t k * t k) * m k l

def laneNorm (l : Fin 128) : EReal := t l * Ideal.rsqrt (laneMean t m l + Rms.eps) * w l

def laneTurn (l : Fin 128) : EReal :=
  laneNorm t w m l * c l + laneNorm t w m (back 8 l) * s1 l + laneNorm t w m (back 120 l) * s2 l

end Lanes

/-- The length of a head. -/
abbrev len : EReal := (FloatOps.ofBits .f32 0x42800000#32 : Ideal .f32)

/-- One over it. -/
abbrev share : EReal := (FloatOps.ofBits .bf16 0x3C80#16 : Ideal .bf16)

theorem len_bits : len = ((64 : ℝ) : EReal) := by
  show Ideal.ofBits .f32 0x42800000#32 = _
  simp [Ideal.ofBits, Ideal.ieee]
  rw [← EReal.coe_mul]
  norm_num

theorem share_bits : share = ((1 / 64 : ℝ) : EReal) := by
  show Ideal.ofBits .bf16 0x3C80#16 = _
  simp [Ideal.ofBits, Ideal.ieee]
  rw [← EReal.coe_mul]
  norm_num

section One

variable (x w : Fin 64 → EReal) (co si : Fin 8 → EReal)

/-- A head's row normed and scaled. -/
def hat (d : Fin 64) : EReal := x d * Ideal.rsqrt (Ideal.div (∑ k, x k * x k) len + Rms.eps) * w d

/-- Its first sixteen entries turned in pairs. -/
def turn (d : Fin 64) : EReal :=
  if h0 : d.val < 8 then hat x w d * co ⟨d.val, h0⟩ - hat x w ⟨d.val + 8, by omega⟩ * si ⟨d.val, h0⟩
  else if h1 : d.val < 16 then
    hat x w d * co ⟨d.val - 8, by omega⟩ + hat x w ⟨d.val - 8, by omega⟩ * si ⟨d.val - 8, by omega⟩
  else hat x w d

end One

/-- A sum over the lanes is one over each head. -/
theorem sum_lanes (f : Fin 128 → EReal) : ∑ k, f k = (∑ k : Fin 64, f (lane 0 k)) + ∑ k : Fin 64, f (lane 1 k) := by
  rw [show (∑ k, f k) = ∑ k : Fin (64 + 64), f k from rfl, Fin.sum_univ_add]
  refine congrArg₂ (· + ·) (Finset.sum_congr rfl fun k _ => congrArg f (Fin.ext ?_)) (Finset.sum_congr rfl fun k _ => congrArg f (Fin.ext ?_))
  · show k.val = 64 * 0 + k.val
    omega
  · show 64 + k.val = 64 * 1 + k.val
    omega

section Same

variable (t w : Fin 128 → EReal) (m : Fin 128 → Fin 128 → EReal) (c s1 s2 : Fin 128 → EReal)
  (w0 : Fin 64 → EReal) (co si : Fin 8 → EReal)
  (ht : ∀ k, t k ≠ ⊤ ∧ t k ≠ ⊥)
  (hm : ∀ (a b : Fin 2) (k d : Fin 64), m (lane a k) (lane b d) = if a = b then share else 0)
  (hw : ∀ (a : Fin 2) (d : Fin 64), w (lane a d) = w0 d)
include ht hm

theorem mean_same (a : Fin 2) (d : Fin 64) :
    laneMean t m (lane a d) = Ideal.div (∑ k : Fin 64, t (lane a k) * t (lane a k)) len := by
  have hz : ∀ k, t k * t k - t k * t k = 0 := fun k => by
    obtain ⟨y, hy⟩ : ∃ y : ℝ, t k = (y : EReal) := ⟨(t k).toReal, (EReal.coe_toReal (ht k).1 (ht k).2).symm⟩
    rw [hy, ← EReal.coe_mul, ← EReal.coe_sub, sub_self, EReal.coe_zero]
  unfold laneMean
  rw [Finset.sum_eq_zero (s := Finset.univ) (f := fun k => (t k * t k - t k * t k) * m k (lane a d))
    (fun k _ => by rw [hz k, zero_mul]), add_zero, sum_lanes, len_bits, Ideal.div_coe (by norm_num)]
  have hs : ∀ b : Fin 2, ∑ k : Fin 64, t (lane b k) * t (lane b k) * m (lane b k) (lane a d)
      = if b = a then (∑ k : Fin 64, t (lane b k) * t (lane b k)) * ((1 / 64 : ℝ) : EReal) else 0 := fun b => by
    simp only [hm b a _ d]
    split
    · rw [share_bits, mul_comm, Rms.scale_sum (by norm_num)]
      exact Finset.sum_congr rfl fun k _ => mul_comm _ _
    · simp
  rw [hs 0, hs 1]
  match a with
  | ⟨0, _⟩ => simp
  | ⟨1, _⟩ => simp

include hw in
theorem norm_same (a : Fin 2) (d : Fin 64) : laneNorm t w m (lane a d) = hat (fun k => t (lane a k)) w0 d := by
  unfold laneNorm hat
  rw [mean_same t m ht hm, hw]

include hw in
theorem turn_same (a : Fin 2) (d : Fin 64)
    (hc : c (lane a d) = if h0 : d.val < 8 then co ⟨d.val, h0⟩ else if h1 : d.val < 16 then co ⟨d.val - 8, by omega⟩ else 1)
    (h1 : s1 (lane a d) = if h0 : d.val < 8 then 0 else if h1 : d.val < 16 then si ⟨d.val - 8, by omega⟩ else 0)
    (h2 : s2 (lane a d) = if h0 : d.val < 8 then -si ⟨d.val, h0⟩ else 0) :
    laneTurn t w m c s1 s2 (lane a d) = turn (fun k => t (lane a k)) w0 co si d := by
  have hN := norm_same t w m w0 ht hm hw a
  unfold laneTurn turn
  rw [hc, h1, h2]
  split
  · rename_i h0
    have e : back 120 (lane a d) = lane a ⟨d.val + 8, by omega⟩ :=
      Fin.ext (by show (64 * a.val + d.val + 128 - 120) % 128 = 64 * a.val + (d.val + 8); omega)
    rw [e, hN, hN, mul_zero, add_zero, mul_neg, sub_eq_add_neg]
  · split
    · rename_i h0 h1
      have e : back 8 (lane a d) = lane a ⟨d.val - 8, by omega⟩ :=
        Fin.ext (by show (64 * a.val + d.val + 128 - 8) % 128 = 64 * a.val + (d.val - 8); omega)
      rw [e, hN, hN, mul_zero, add_zero]
    · rw [hN, mul_one, mul_zero, mul_zero, add_zero, add_zero]

end Same

end Idealize.ShloMosaic.Head

end
-- ==== Proof.InProjBlock.lean ====
/- The even layer's norm and first product, `in_proj0`: what one block of rows computes. Each group of 128 columns of the
   queries and keys, two heads, is normed and turned the same way. -/
module

public import proofs.«01_k».proof.Proof.Gen.Kernel12Ideal.Value
public import proofs.«01_k».proof.Proof.Rows
public import proofs.«01_k».proof.Proof.Columns
public import proofs.«01_k».proof.Proof.NormSpec
public import proofs.«01_k».proof.Proof.HeadTurn

@[expose] public section

noncomputable section

namespace Cert.Kernel12Ideal.InProj

open Cert.Kernel12Ideal Cert.Kernel12Ideal.Gen Cert.Kernel12Ideal.Value
open Idealize.ShloMosaic Idealize.ShloMosaic.TcCoe Idealize.SL.Sem Idealize.ShloMosaic.Bands Idealize.ShloMosaic.Rms

section Pure

variable (x0 : Vec Ideal S256x1024 .f32) (x1 : Vec Ideal S1x1024 .f32) (x2 x3 x4 : Vec Ideal S256x128 .f32)
  (x5 : Vec Ideal S2x128 .f32) (x6 : Vec Ideal S128x128 .bf16) (xs : Vec Ideal S8x1024x896 .bf16)

/-- The normed rows times one chunk of the weights. -/
def chunkV (w : Vec Ideal S1x1024x896 .bf16) : FVec Ideal S256x896 .f32 := k0_pay27 (k0_pay3 x0 x1) w

/-- One group of a chunk, normed and turned. -/
def groupV (wv : Vec Ideal S1x128 .f32) (o : ℕ) (h : S256x896.Slices (![0, o] : Fin 2 → Nat) S256x128) (res : FVec Ideal S256x896 .f32) : FVec Ideal S256x128 .f32 :=
  k0_pay22 (k0_pay4 x2) (k0_pay5 x3) (k0_pay6 x4) (k0_pay7 x6) (k0_pay15 wv) (extractStridedSlice S256x128 ![0, o] res h)

theorem normed_at (r : Fin 256) (j : Fin 1024) : k0_pay3 x0 x1 (ix2 r j)
    = x0 (ix2 r j) * Rms.rr (fun k => x0 (ix2 r k)) * x1 (ix2 (0 : Fin 1) j) := by
  pointwise [k0_pay3, Rms.rr, Rms.ms, Rms.len, Rms.eps]

theorem chunk_at (w : Vec Ideal S1x1024x896 .bf16) (r : Fin 256) (y : Fin 896) : chunkV x0 x1 w (ix2 r y)
    = ∑ k : Fin 1024, k0_pay3 x0 x1 (ix2 r k) * w (ix3 (0 : Fin 1) k y) := by
  unfold chunkV
  generalize k0_pay3 x0 x1 = h
  pointwise [k0_pay27]

theorem turned_at (c s1 s2 t : Vec Ideal S256x128 .f32) (m : Vec Ideal S128x128 .bf16) (w : Vec Ideal S1x128 .f32) (r : Fin 256) (y : Fin 128) :
    k0_pay22 (F := Ideal) c s1 s2 m w t (ix2 r y) = Head.laneTurn (fun k => t (ix2 r k)) (fun k => w (ix2 (0 : Fin 1) k)) (fun k l => m (ix2 k l))
      (fun k => c (ix2 r k)) (fun k => s1 (ix2 r k)) (fun k => s2 (ix2 r k)) y := by
  pointwise [k0_pay22, Head.laneTurn, Head.laneNorm, Head.laneMean, Rms.eps]

theorem same4 (v : Vec Ideal S256x128 .f32) : k0_pay4 v = v := by
  funext j
  obtain ⟨r, k, rfl⟩ : ∃ (r : Fin 256) (k : Fin 128), j = ix2 r k := ⟨j 0, j 1, eq_ix2 j⟩
  pointwise [k0_pay4]

theorem same5 (v : Vec Ideal S256x128 .f32) : k0_pay5 v = v := same4 v

theorem same6 (v : Vec Ideal S256x128 .f32) : k0_pay6 v = v := same4 v

theorem same7 (v : Vec Ideal S128x128 .bf16) : k0_pay7 v = v := by
  funext j
  obtain ⟨r, k, rfl⟩ : ∃ (r : Fin 128) (k : Fin 128), j = ix2 r k := ⟨j 0, j 1, eq_ix2 j⟩
  pointwise [k0_pay7]

theorem same15 (v : Vec Ideal S1x128 .f32) : k0_pay15 v = v := by
  funext j
  obtain ⟨r, k, rfl⟩ : ∃ (r : Fin 1) (k : Fin 128), j = ix2 r k := ⟨j 0, j 1, eq_ix2 j⟩
  pointwise [k0_pay15]

/-- The block's product at a column of the whole. -/
def prodB (r : Fin 256) (j : Fin 7168) : EReal :=
  ∑ k : Fin 1024, k0_pay3 x0 x1 (ix2 r k) * xs (ix3 (⟨j.val / 896, by omega⟩ : Fin 8) k (⟨j.val % 896, by omega⟩ : Fin 896))

/-- The block's normed and turned value at a column of the queries and keys. -/
def turnB (r : Fin 256) (j : Fin 3072) : EReal :=
  Head.laneTurn (fun k => prodB x0 x1 xs r ⟨128 * (j.val / 128) + k.val, by omega⟩)
    (fun k => x5 (ix2 (⟨j.val / 1536, by omega⟩ : Fin 2) k)) (fun k l => x6 (ix2 k l))
    (fun k => x2 (ix2 r k)) (fun k => x3 (ix2 r k)) (fun k => x4 (ix2 r k)) ⟨j.val % 128, by omega⟩

theorem chunk_prod (n : ℕ) (hn : n < 8) (w : Vec Ideal S1x1024x896 .bf16)
    (hw : ∀ (k : Fin 1024) (y : Fin 896), w (ix3 (0 : Fin 1) k y) = xs (ix3 (⟨n, hn⟩ : Fin 8) k y))
    (r : Fin 256) (y : Fin 896) (hl : 896 * n + y.val < 7168) :
    chunkV x0 x1 w (ix2 r y) = prodB x0 x1 xs r ⟨896 * n + y.val, hl⟩ := by
  rw [chunk_at]
  unfold prodB
  refine Finset.sum_congr rfl fun k _ => congrArg (fun v : EReal => k0_pay3 x0 x1 (ix2 r k) * v) ?_
  rw [hw]
  refine congrArg xs (funext fun a => ?_)
  match a with
  | ⟨0, _⟩ => exact Fin.ext (by show n = (896 * n + y.val) / 896; omega)
  | ⟨1, _⟩ => rfl
  | ⟨2, _⟩ => exact Fin.ext (by show y.val = (896 * n + y.val) % 896; omega)

theorem group_turn (n o p : ℕ) (hn : n < 8) (w : Vec Ideal S1x1024x896 .bf16) (q : Fin 2) (wv : Vec Ideal S1x128 .f32)
    (h : S256x896.Slices (![0, o] : Fin 2 → Nat) S256x128)
    (hw : ∀ (k : Fin 1024) (y : Fin 896), w (ix3 (0 : Fin 1) k y) = xs (ix3 (⟨n, hn⟩ : Fin 8) k y))
    (hv : ∀ k : Fin 128, wv (ix2 (0 : Fin 1) k) = x5 (ix2 q k))
    (ho : o + 128 ≤ 896) (hp : p = 896 * n + o) (hg : p % 128 = 0) (hq : p / 1536 = q.val)
    (r : Fin 256) (y : Fin 128) (hl : p + y.val < 3072) :
    groupV x2 x3 x4 x6 wv o h (chunkV x0 x1 w) (ix2 r y) = turnB x0 x1 x2 x3 x4 x5 x6 xs r ⟨p + y.val, hl⟩ := by
  unfold groupV turnB
  rw [turned_at, same4, same5, same6, same7, same15]
  have e1 : (fun k : Fin 128 => extractStridedSlice S256x128 ![0, o] (chunkV x0 x1 w) h (ix2 r k))
      = fun k : Fin 128 => prodB x0 x1 xs r ⟨128 * ((p + y.val) / 128) + k.val, by omega⟩ := funext fun k => by
    have e : extractStridedSlice S256x128 ![0, o] (chunkV x0 x1 w) h (ix2 r k) = chunkV x0 x1 w (ix2 r ⟨o + k.val, by omega⟩) := by
      refine congrArg (chunkV x0 x1 w) (funext fun a => ?_)
      match a with
      | ⟨0, _⟩ => exact Fin.ext (by show 0 + r.val = r.val; omega)
      | ⟨1, _⟩ => rfl
    rw [e, chunk_prod x0 x1 xs n hn w hw r ⟨o + k.val, by omega⟩ (by show 896 * n + (o + k.val) < 7168; omega)]
    exact congrArg (prodB x0 x1 xs r) (Fin.ext (by show 896 * n + (o + k.val) = 128 * ((p + y.val) / 128) + k.val; omega))
  have e2 : (fun k : Fin 128 => wv (ix2 (0 : Fin 1) k)) = fun k : Fin 128 => x5 (ix2 (⟨(p + y.val) / 1536, by omega⟩ : Fin 2) k) := funext fun k => by
    rw [hv]
    exact congrArg (fun a : Fin 2 => x5 (ix2 a k)) (Fin.ext (by show q.val = (p + y.val) / 1536; omega))
  have e3 : y = (⟨(p + y.val) % 128, by omega⟩ : Fin 128) := Fin.ext (by show y.val = (p + y.val) % 128; omega)
  rw [e1, e2]
  exact congrArg _ e3

/-- A chunk of the weights, as it is read. -/
theorem chunk_ld (n : ℕ) (hn : n < 8) (inb : ∀ k, (![n, 0, 0] : Fin 3 → Nat) k + (![1, 1024, 896] : Fin 3 → Nat) k ≤ (![8, 1024, 896] : Fin 3 → Nat) k)
    (k : Fin 1024) (y : Fin 896) :
    View.ld xs (Rect.unit (s := S8x1024x896) ![n, 0, 0] S1x1024x896.size inb) (ix3 (0 : Fin 1) k y) = xs (ix3 (⟨n, hn⟩ : Fin 8) k y) := by
  refine congrArg xs (funext fun a => ?_)
  match a with
  | ⟨0, _⟩ => exact Fin.ext (by show n + 1 * 0 = n; omega)
  | ⟨1, _⟩ => exact Fin.ext (by show 0 + 1 * k.val = k.val; omega)
  | ⟨2, _⟩ => exact Fin.ext (by show 0 + 1 * y.val = y.val; omega)

/-- A row of the heads' weights, as it is read. -/
theorem weight_ld (q : ℕ) (hq : q < 2) (inb : ∀ k, (![q, 0] : Fin 2 → Nat) k + (![1, 128] : Fin 2 → Nat) k ≤ (![2, 128] : Fin 2 → Nat) k)
    (k : Fin 128) :
    View.ld x5 (Rect.unit (s := S2x128) ![q, 0] S1x128.size inb) (ix2 (0 : Fin 1) k) = x5 (ix2 (⟨q, hq⟩ : Fin 2) k) := by
  refine congrArg x5 (funext fun a => ?_)
  match a with
  | ⟨0, _⟩ => exact Fin.ext (by show q + 1 * 0 = q; omega)
  | ⟨1, _⟩ => exact Fin.ext (by show 0 + 1 * k.val = k.val; omega)

/-- What the body writes of the product, the last chunk first. -/
def chunks : List (View.Piece (Elt Ideal) S256x7168 .f32) :=
  [⟨Rect.unit (s := S256x7168) ![0, 6272] S256x896.size inb_S256x7168_S256x896_0_6272, chunkV x0 x1 (View.ld xs (Rect.unit (s := S8x1024x896) ![7, 0, 0] S1x1024x896.size inb_S8x1024x896_S1x1024x896_7_0_0))⟩,
    ⟨Rect.unit (s := S256x7168) ![0, 5376] S256x896.size inb_S256x7168_S256x896_0_5376, chunkV x0 x1 (View.ld xs (Rect.unit (s := S8x1024x896) ![6, 0, 0] S1x1024x896.size inb_S8x1024x896_S1x1024x896_6_0_0))⟩,
    ⟨Rect.unit (s := S256x7168) ![0, 4480] S256x896.size inb_S256x7168_S256x896_0_4480, chunkV x0 x1 (View.ld xs (Rect.unit (s := S8x1024x896) ![5, 0, 0] S1x1024x896.size inb_S8x1024x896_S1x1024x896_5_0_0))⟩,
    ⟨Rect.unit (s := S256x7168) ![0, 3584] S256x896.size inb_S256x7168_S256x896_0_3584, chunkV x0 x1 (View.ld xs (Rect.unit (s := S8x1024x896) ![4, 0, 0] S1x1024x896.size inb_S8x1024x896_S1x1024x896_4_0_0))⟩,
    ⟨Rect.unit (s := S256x7168) ![0, 2688] S256x896.size inb_S256x7168_S256x896_0_2688, chunkV x0 x1 (View.ld xs (Rect.unit (s := S8x1024x896) ![3, 0, 0] S1x1024x896.size inb_S8x1024x896_S1x1024x896_3_0_0))⟩,
    ⟨Rect.unit (s := S256x7168) ![0, 1792] S256x896.size inb_S256x7168_S256x896_0_1792, chunkV x0 x1 (View.ld xs (Rect.unit (s := S8x1024x896) ![2, 0, 0] S1x1024x896.size inb_S8x1024x896_S1x1024x896_2_0_0))⟩,
    ⟨Rect.unit (s := S256x7168) ![0, 896] S256x896.size inb_S256x7168_S256x896_0_896, chunkV x0 x1 (View.ld xs (Rect.unit (s := S8x1024x896) ![1, 0, 0] S1x1024x896.size inb_S8x1024x896_S1x1024x896_1_0_0))⟩,
    ⟨Rect.unit (s := S256x7168) ![0, 0] S256x896.size inb_S256x7168_S256x896_0_0, chunkV x0 x1 (View.ld xs (Rect.unit (s := S8x1024x896) ![0, 0, 0] S1x1024x896.size inb_S8x1024x896_S1x1024x896_0_0_0))⟩]

/-- What the body writes of the queries and keys, the last group first. -/
def groups : List (View.Piece (Elt Ideal) S256x3072 .f32) :=
  [⟨Rect.unit (s := S256x3072) ![0, 2944] S256x128.size inb_S256x3072_S256x128_0_2944, groupV x2 x3 x4 x6 (View.ld x5 (Rect.unit (s := S2x128) ![1, 0] S1x128.size inb_S2x128_S1x128_1_0)) 256 slices_S256x896_o0_256_S256x128 (chunkV x0 x1 (View.ld xs (Rect.unit (s := S8x1024x896) ![3, 0, 0] S1x1024x896.size inb_S8x1024x896_S1x1024x896_3_0_0)))⟩,
    ⟨Rect.unit (s := S256x3072) ![0, 2816] S256x128.size inb_S256x3072_S256x128_0_2816, groupV x2 x3 x4 x6 (View.ld x5 (Rect.unit (s := S2x128) ![1, 0] S1x128.size inb_S2x128_S1x128_1_0)) 128 slices_S256x896_o0_128_S256x128 (chunkV x0 x1 (View.ld xs (Rect.unit (s := S8x1024x896) ![3, 0, 0] S1x1024x896.size inb_S8x1024x896_S1x1024x896_3_0_0)))⟩,
    ⟨Rect.unit (s := S256x3072) ![0, 2688] S256x128.size inb_S256x3072_S256x128_0_2688, groupV x2 x3 x4 x6 (View.ld x5 (Rect.unit (s := S2x128) ![1, 0] S1x128.size inb_S2x128_S1x128_1_0)) 0 slices_S256x896_o0_0_S256x128 (chunkV x0 x1 (View.ld xs (Rect.unit (s := S8x1024x896) ![3, 0, 0] S1x1024x896.size inb_S8x1024x896_S1x1024x896_3_0_0)))⟩,
    ⟨Rect.unit (s := S256x3072) ![0, 2560] S256x128.size inb_S256x3072_S256x128_0_2560, groupV x2 x3 x4 x6 (View.ld x5 (Rect.unit (s := S2x128) ![1, 0] S1x128.size inb_S2x128_S1x128_1_0)) 768 slices_S256x896_o0_768_S256x128 (chunkV x0 x1 (View.ld xs (Rect.unit (s := S8x1024x896) ![2, 0, 0] S1x1024x896.size inb_S8x1024x896_S1x1024x896_2_0_0)))⟩,
    ⟨Rect.unit (s := S256x3072) ![0, 2432] S256x128.size inb_S256x3072_S256x128_0_2432, groupV x2 x3 x4 x6 (View.ld x5 (Rect.unit (s := S2x128) ![1, 0] S1x128.size inb_S2x128_S1x128_1_0)) 640 slices_S256x896_o0_640_S256x128 (chunkV x0 x1 (View.ld xs (Rect.unit (s := S8x1024x896) ![2, 0, 0] S1x1024x896.size inb_S8x1024x896_S1x1024x896_2_0_0)))⟩,
    ⟨Rect.unit (s := S256x3072) ![0, 2304] S256x128.size inb_S256x3072_S256x128_0_2304, groupV x2 x3 x4 x6 (View.ld x5 (Rect.unit (s := S2x128) ![1, 0] S1x128.size inb_S2x128_S1x128_1_0)) 512 slices_S256x896_o0_512_S256x128 (chunkV x0 x1 (View.ld xs (Rect.unit (s := S8x1024x896) ![2, 0, 0] S1x1024x896.size inb_S8x1024x896_S1x1024x896_2_0_0)))⟩,
    ⟨Rect.unit (s := S256x3072) ![0, 2176] S256x128.size inb_S256x3072_S256x128_0_2176, groupV x2 x3 x4 x6 (View.ld x5 (Rect.unit (s := S2x128) ![1, 0] S1x128.size inb_S2x128_S1x128_1_0)) 384 slices_S256x896_o0_384_S256x128 (chunkV x0 x1 (View.ld xs (Rect.unit (s := S8x1024x896) ![2, 0, 0] S1x1024x896.size inb_S8x1024x896_S1x1024x896_2_0_0)))⟩,
    ⟨Rect.unit (s := S256x3072) ![0, 2048] S256x128.size inb_S256x3072_S256x128_0_2048, groupV x2 x3 x4 x6 (View.ld x5 (Rect.unit (s := S2x128) ![1, 0] S1x128.size inb_S2x128_S1x128_1_0)) 256 slices_S256x896_o0_256_S256x128 (chunkV x0 x1 (View.ld xs (Rect.unit (s := S8x1024x896) ![2, 0, 0] S1x1024x896.size inb_S8x1024x896_S1x1024x896_2_0_0)))⟩,
    ⟨Rect.unit (s := S256x3072) ![0, 1920] S256x128.size inb_S256x3072_S256x128_0_1920, groupV x2 x3 x4 x6 (View.ld x5 (Rect.unit (s := S2x128) ![1, 0] S1x128.size inb_S2x128_S1x128_1_0)) 128 slices_S256x896_o0_128_S256x128 (chunkV x0 x1 (View.ld xs (Rect.unit (s := S8x1024x896) ![2, 0, 0] S1x1024x896.size inb_S8x1024x896_S1x1024x896_2_0_0)))⟩,
    ⟨Rect.unit (s := S256x3072) ![0, 1792] S256x128.size inb_S256x3072_S256x128_0_1792, groupV x2 x3 x4 x6 (View.ld x5 (Rect.unit (s := S2x128) ![1, 0] S1x128.size inb_S2x128_S1x128_1_0)) 0 slices_S256x896_o0_0_S256x128 (chunkV x0 x1 (View.ld xs (Rect.unit (s := S8x1024x896) ![2, 0, 0] S1x1024x896.size inb_S8x1024x896_S1x1024x896_2_0_0)))⟩,
    ⟨Rect.unit (s := S256x3072) ![0, 1664] S256x128.size inb_S256x3072_S256x128_0_1664, groupV x2 x3 x4 x6 (View.ld x5 (Rect.unit (s := S2x128) ![1, 0] S1x128.size inb_S2x128_S1x128_1_0)) 768 slices_S256x896_o0_768_S256x128 (chunkV x0 x1 (View.ld xs (Rect.unit (s := S8x1024x896) ![1, 0, 0] S1x1024x896.size inb_S8x1024x896_S1x1024x896_1_0_0)))⟩,
    ⟨Rect.unit (s := S256x3072) ![0, 1536] S256x128.size inb_S256x3072_S256x128_0_1536, groupV x2 x3 x4 x6 (View.ld x5 (Rect.unit (s := S2x128) ![1, 0] S1x128.size inb_S2x128_S1x128_1_0)) 640 slices_S256x896_o0_640_S256x128 (chunkV x0 x1 (View.ld xs (Rect.unit (s := S8x1024x896) ![1, 0, 0] S1x1024x896.size inb_S8x1024x896_S1x1024x896_1_0_0)))⟩,
    ⟨Rect.unit (s := S256x3072) ![0, 1408] S256x128.size inb_S256x3072_S256x128_0_1408, groupV x2 x3 x4 x6 (View.ld x5 (Rect.unit (s := S2x128) ![0, 0] S1x128.size inb_S2x128_S1x128_0_0)) 512 slices_S256x896_o0_512_S256x128 (chunkV x0 x1 (View.ld xs (Rect.unit (s := S8x1024x896) ![1, 0, 0] S1x1024x896.size inb_S8x1024x896_S1x1024x896_1_0_0)))⟩,
    ⟨Rect.unit (s := S256x3072) ![0, 1280] S256x128.size inb_S256x3072_S256x128_0_1280, groupV x2 x3 x4 x6 (View.ld x5 (Rect.unit (s := S2x128) ![0, 0] S1x128.size inb_S2x128_S1x128_0_0)) 384 slices_S256x896_o0_384_S256x128 (chunkV x0 x1 (View.ld xs (Rect.unit (s := S8x1024x896) ![1, 0, 0] S1x1024x896.size inb_S8x1024x896_S1x1024x896_1_0_0)))⟩,
    ⟨Rect.unit (s := S256x3072) ![0, 1152] S256x128.size inb_S256x3072_S256x128_0_1152, groupV x2 x3 x4 x6 (View.ld x5 (Rect.unit (s := S2x128) ![0, 0] S1x128.size inb_S2x128_S1x128_0_0)) 256 slices_S256x896_o0_256_S256x128 (chunkV x0 x1 (View.ld xs (Rect.unit (s := S8x1024x896) ![1, 0, 0] S1x1024x896.size inb_S8x1024x896_S1x1024x896_1_0_0)))⟩,
    ⟨Rect.unit (s := S256x3072) ![0, 1024] S256x128.size inb_S256x3072_S256x128_0_1024, groupV x2 x3 x4 x6 (View.ld x5 (Rect.unit (s := S2x128) ![0, 0] S1x128.size inb_S2x128_S1x128_0_0)) 128 slices_S256x896_o0_128_S256x128 (chunkV x0 x1 (View.ld xs (Rect.unit (s := S8x1024x896) ![1, 0, 0] S1x1024x896.size inb_S8x1024x896_S1x1024x896_1_0_0)))⟩,
    ⟨Rect.unit (s := S256x3072) ![0, 896] S256x128.size inb_S256x3072_S256x128_0_896, groupV x2 x3 x4 x6 (View.ld x5 (Rect.unit (s := S2x128) ![0, 0] S1x128.size inb_S2x128_S1x128_0_0)) 0 slices_S256x896_o0_0_S256x128 (chunkV x0 x1 (View.ld xs (Rect.unit (s := S8x1024x896) ![1, 0, 0] S1x1024x896.size inb_S8x1024x896_S1x1024x896_1_0_0)))⟩,
    ⟨Rect.unit (s := S256x3072) ![0, 768] S256x128.size inb_S256x3072_S256x128_0_768, groupV x2 x3 x4 x6 (View.ld x5 (Rect.unit (s := S2x128) ![0, 0] S1x128.size inb_S2x128_S1x128_0_0)) 768 slices_S256x896_o0_768_S256x128 (chunkV x0 x1 (View.ld xs (Rect.unit (s := S8x1024x896) ![0, 0, 0] S1x1024x896.size inb_S8x1024x896_S1x1024x896_0_0_0)))⟩,
    ⟨Rect.unit (s := S256x3072) ![0, 640] S256x128.size inb_S256x3072_S256x128_0_640, groupV x2 x3 x4 x6 (View.ld x5 (Rect.unit (s := S2x128) ![0, 0] S1x128.size inb_S2x128_S1x128_0_0)) 640 slices_S256x896_o0_640_S256x128 (chunkV x0 x1 (View.ld xs (Rect.unit (s := S8x1024x896) ![0, 0, 0] S1x1024x896.size inb_S8x1024x896_S1x1024x896_0_0_0)))⟩,
    ⟨Rect.unit (s := S256x3072) ![0, 512] S256x128.size inb_S256x3072_S256x128_0_512, groupV x2 x3 x4 x6 (View.ld x5 (Rect.unit (s := S2x128) ![0, 0] S1x128.size inb_S2x128_S1x128_0_0)) 512 slices_S256x896_o0_512_S256x128 (chunkV x0 x1 (View.ld xs (Rect.unit (s := S8x1024x896) ![0, 0, 0] S1x1024x896.size inb_S8x1024x896_S1x1024x896_0_0_0)))⟩,
    ⟨Rect.unit (s := S256x3072) ![0, 384] S256x128.size inb_S256x3072_S256x128_0_384, groupV x2 x3 x4 x6 (View.ld x5 (Rect.unit (s := S2x128) ![0, 0] S1x128.size inb_S2x128_S1x128_0_0)) 384 slices_S256x896_o0_384_S256x128 (chunkV x0 x1 (View.ld xs (Rect.unit (s := S8x1024x896) ![0, 0, 0] S1x1024x896.size inb_S8x1024x896_S1x1024x896_0_0_0)))⟩,
    ⟨Rect.unit (s := S256x3072) ![0, 256] S256x128.size inb_S256x3072_S256x128_0_256, groupV x2 x3 x4 x6 (View.ld x5 (Rect.unit (s := S2x128) ![0, 0] S1x128.size inb_S2x128_S1x128_0_0)) 256 slices_S256x896_o0_256_S256x128 (chunkV x0 x1 (View.ld xs (Rect.unit (s := S8x1024x896) ![0, 0, 0] S1x1024x896.size inb_S8x1024x896_S1x1024x896_0_0_0)))⟩,
    ⟨Rect.unit (s := S256x3072) ![0, 128] S256x128.size inb_S256x3072_S256x128_0_128, groupV x2 x3 x4 x6 (View.ld x5 (Rect.unit (s := S2x128) ![0, 0] S1x128.size inb_S2x128_S1x128_0_0)) 128 slices_S256x896_o0_128_S256x128 (chunkV x0 x1 (View.ld xs (Rect.unit (s := S8x1024x896) ![0, 0, 0] S1x1024x896.size inb_S8x1024x896_S1x1024x896_0_0_0)))⟩,
    ⟨Rect.unit (s := S256x3072) ![0, 0] S256x128.size inb_S256x3072_S256x128_0_0, groupV x2 x3 x4 x6 (View.ld x5 (Rect.unit (s := S2x128) ![0, 0] S1x128.size inb_S2x128_S1x128_0_0)) 0 slices_S256x896_o0_0_S256x128 (chunkV x0 x1 (View.ld xs (Rect.unit (s := S8x1024x896) ![0, 0, 0] S1x1024x896.size inb_S8x1024x896_S1x1024x896_0_0_0)))⟩]

theorem chunks_hold : Before 7168 (chunks x0 x1 xs) (prodB x0 x1 xs) := by
  unfold chunks
  refine before_more (o := 6272) (b := 896) _ _ _ _ ?_ (chunk_prod x0 x1 xs 7 (by omega) _ (chunk_ld xs 7 (by omega) _))
  refine before_more (o := 5376) (b := 896) _ _ _ _ ?_ (chunk_prod x0 x1 xs 6 (by omega) _ (chunk_ld xs 6 (by omega) _))
  refine before_more (o := 4480) (b := 896) _ _ _ _ ?_ (chunk_prod x0 x1 xs 5 (by omega) _ (chunk_ld xs 5 (by omega) _))
  refine before_more (o := 3584) (b := 896) _ _ _ _ ?_ (chunk_prod x0 x1 xs 4 (by omega) _ (chunk_ld xs 4 (by omega) _))
  refine before_more (o := 2688) (b := 896) _ _ _ _ ?_ (chunk_prod x0 x1 xs 3 (by omega) _ (chunk_ld xs 3 (by omega) _))
  refine before_more (o := 1792) (b := 896) _ _ _ _ ?_ (chunk_prod x0 x1 xs 2 (by omega) _ (chunk_ld xs 2 (by omega) _))
  refine before_more (o := 896) (b := 896) _ _ _ _ ?_ (chunk_prod x0 x1 xs 1 (by omega) _ (chunk_ld xs 1 (by omega) _))
  refine before_more (o := 0) (b := 896) _ _ _ _ ?_ (chunk_prod x0 x1 xs 0 (by omega) _ (chunk_ld xs 0 (by omega) _))
  exact before_none _ _

theorem groups_hold : Before 3072 (groups x0 x1 x2 x3 x4 x5 x6 xs) (turnB x0 x1 x2 x3 x4 x5 x6 xs) := by
  unfold groups
  refine before_more (o := 2944) (b := 128) _ _ _ _ ?_ (group_turn x0 x1 x2 x3 x4 x5 x6 xs 3 256 2944 (by omega) _ 1 _ _ (chunk_ld xs 3 (by omega) _) (weight_ld x5 1 (by omega) _) (by omega) (by omega) (by omega) rfl)
  refine before_more (o := 2816) (b := 128) _ _ _ _ ?_ (group_turn x0 x1 x2 x3 x4 x5 x6 xs 3 128 2816 (by omega) _ 1 _ _ (chunk_ld xs 3 (by omega) _) (weight_ld x5 1 (by omega) _) (by omega) (by omega) (by omega) rfl)
  refine before_more (o := 2688) (b := 128) _ _ _ _ ?_ (group_turn x0 x1 x2 x3 x4 x5 x6 xs 3 0 2688 (by omega) _ 1 _ _ (chunk_ld xs 3 (by omega) _) (weight_ld x5 1 (by omega) _) (by omega) (by omega) (by omega) rfl)
  refine before_more (o := 2560) (b := 128) _ _ _ _ ?_ (group_turn x0 x1 x2 x3 x4 x5 x6 xs 2 768 2560 (by omega) _ 1 _ _ (chunk_ld xs 2 (by omega) _) (weight_ld x5 1 (by omega) _) (by omega) (by omega) (by omega) rfl)
  refine before_more (o := 2432) (b := 128) _ _ _ _ ?_ (group_turn x0 x1 x2 x3 x4 x5 x6 xs 2 640 2432 (by omega) _ 1 _ _ (chunk_ld xs 2 (by omega) _) (weight_ld x5 1 (by omega) _) (by omega) (by omega) (by omega) rfl)
  refine before_more (o := 2304) (b := 128) _ _ _ _ ?_ (group_turn x0 x1 x2 x3 x4 x5 x6 xs 2 512 2304 (by omega) _ 1 _ _ (chunk_ld xs 2 (by omega) _) (weight_ld x5 1 (by omega) _) (by omega) (by omega) (by omega) rfl)
  refine before_more (o := 2176) (b := 128) _ _ _ _ ?_ (group_turn x0 x1 x2 x3 x4 x5 x6 xs 2 384 2176 (by omega) _ 1 _ _ (chunk_ld xs 2 (by omega) _) (weight_ld x5 1 (by omega) _) (by omega) (by omega) (by omega) rfl)
  refine before_more (o := 2048) (b := 128) _ _ _ _ ?_ (group_turn x0 x1 x2 x3 x4 x5 x6 xs 2 256 2048 (by omega) _ 1 _ _ (chunk_ld xs 2 (by omega) _) (weight_ld x5 1 (by omega) _) (by omega) (by omega) (by omega) rfl)
  refine before_more (o := 1920) (b := 128) _ _ _ _ ?_ (group_turn x0 x1 x2 x3 x4 x5 x6 xs 2 128 1920 (by omega) _ 1 _ _ (chunk_ld xs 2 (by omega) _) (weight_ld x5 1 (by omega) _) (by omega) (by omega) (by omega) rfl)
  refine before_more (o := 1792) (b := 128) _ _ _ _ ?_ (group_turn x0 x1 x2 x3 x4 x5 x6 xs 2 0 1792 (by omega) _ 1 _ _ (chunk_ld xs 2 (by omega) _) (weight_ld x5 1 (by omega) _) (by omega) (by omega) (by omega) rfl)
  refine before_more (o := 1664) (b := 128) _ _ _ _ ?_ (group_turn x0 x1 x2 x3 x4 x5 x6 xs 1 768 1664 (by omega) _ 1 _ _ (chunk_ld xs 1 (by omega) _) (weight_ld x5 1 (by omega) _) (by omega) (by omega) (by omega) rfl)
  refine before_more (o := 1536) (b := 128) _ _ _ _ ?_ (group_turn x0 x1 x2 x3 x4 x5 x6 xs 1 640 1536 (by omega) _ 1 _ _ (chunk_ld xs 1 (by omega) _) (weight_ld x5 1 (by omega) _) (by omega) (by omega) (by omega) rfl)
  refine before_more (o := 1408) (b := 128) _ _ _ _ ?_ (group_turn x0 x1 x2 x3 x4 x5 x6 xs 1 512 1408 (by omega) _ 0 _ _ (chunk_ld xs 1 (by omega) _) (weight_ld x5 0 (by omega) _) (by omega) (by omega) (by omega) rfl)
  refine before_more (o := 1280) (b := 128) _ _ _ _ ?_ (group_turn x0 x1 x2 x3 x4 x5 x6 xs 1 384 1280 (by omega) _ 0 _ _ (chunk_ld xs 1 (by omega) _) (weight_ld x5 0 (by omega) _) (by omega) (by omega) (by omega) rfl)
  refine before_more (o := 1152) (b := 128) _ _ _ _ ?_ (group_turn x0 x1 x2 x3 x4 x5 x6 xs 1 256 1152 (by omega) _ 0 _ _ (chunk_ld xs 1 (by omega) _) (weight_ld x5 0 (by omega) _) (by omega) (by omega) (by omega) rfl)
  refine before_more (o := 1024) (b := 128) _ _ _ _ ?_ (group_turn x0 x1 x2 x3 x4 x5 x6 xs 1 128 1024 (by omega) _ 0 _ _ (chunk_ld xs 1 (by omega) _) (weight_ld x5 0 (by omega) _) (by omega) (by omega) (by omega) rfl)
  refine before_more (o := 896) (b := 128) _ _ _ _ ?_ (group_turn x0 x1 x2 x3 x4 x5 x6 xs 1 0 896 (by omega) _ 0 _ _ (chunk_ld xs 1 (by omega) _) (weight_ld x5 0 (by omega) _) (by omega) (by omega) (by omega) rfl)
  refine before_more (o := 768) (b := 128) _ _ _ _ ?_ (group_turn x0 x1 x2 x3 x4 x5 x6 xs 0 768 768 (by omega) _ 0 _ _ (chunk_ld xs 0 (by omega) _) (weight_ld x5 0 (by omega) _) (by omega) (by omega) (by omega) rfl)
  refine before_more (o := 640) (b := 128) _ _ _ _ ?_ (group_turn x0 x1 x2 x3 x4 x5 x6 xs 0 640 640 (by omega) _ 0 _ _ (chunk_ld xs 0 (by omega) _) (weight_ld x5 0 (by omega) _) (by omega) (by omega) (by omega) rfl)
  refine before_more (o := 512) (b := 128) _ _ _ _ ?_ (group_turn x0 x1 x2 x3 x4 x5 x6 xs 0 512 512 (by omega) _ 0 _ _ (chunk_ld xs 0 (by omega) _) (weight_ld x5 0 (by omega) _) (by omega) (by omega) (by omega) rfl)
  refine before_more (o := 384) (b := 128) _ _ _ _ ?_ (group_turn x0 x1 x2 x3 x4 x5 x6 xs 0 384 384 (by omega) _ 0 _ _ (chunk_ld xs 0 (by omega) _) (weight_ld x5 0 (by omega) _) (by omega) (by omega) (by omega) rfl)
  refine before_more (o := 256) (b := 128) _ _ _ _ ?_ (group_turn x0 x1 x2 x3 x4 x5 x6 xs 0 256 256 (by omega) _ 0 _ _ (chunk_ld xs 0 (by omega) _) (weight_ld x5 0 (by omega) _) (by omega) (by omega) (by omega) rfl)
  refine before_more (o := 128) (b := 128) _ _ _ _ ?_ (group_turn x0 x1 x2 x3 x4 x5 x6 xs 0 128 128 (by omega) _ 0 _ _ (chunk_ld xs 0 (by omega) _) (weight_ld x5 0 (by omega) _) (by omega) (by omega) (by omega) rfl)
  refine before_more (o := 0) (b := 128) _ _ _ _ ?_ (group_turn x0 x1 x2 x3 x4 x5 x6 xs 0 0 0 (by omega) _ 0 _ _ (chunk_ld xs 0 (by omega) _) (weight_ld x5 0 (by omega) _) (by omega) (by omega) (by omega) rfl)
  exact before_none _ _

end Pure

end Cert.Kernel12Ideal.InProj

end
-- ==== Proof.InProjRun.lean ====
/- The even layer's norm and first product, `in_proj0`: what the body leaves, at the first point, which fetches the weights,
   and at a later one. -/
module

public import proofs.«01_k».proof.Proof.InProjBlock

@[expose] public section

noncomputable section

namespace Cert.Kernel12Ideal.InProj

open Cert.Kernel12Ideal Cert.Kernel12Ideal.Gen Cert.Kernel12Ideal.Value
open Idealize.ShloMosaic Idealize.ShloMosaic.TcCoe Idealize.SL.Sem Idealize.ShloMosaic.Bands Idealize.ShloMosaic.Rms

variable (c : Dev nD) (i : grid0.Coords)
  {arg1 : Memref sig .tc .vmem S256x1024 .f32} {harg1 : arg1.IsWhole}
  {arg2 : Memref sig .tc .vmem S1x1024 .f32} {harg2 : arg2.IsWhole}
  {arg4 : Memref sig .tc .vmem S256x128 .f32} {harg4 : arg4.IsWhole}
  {arg5 : Memref sig .tc .vmem S256x128 .f32} {harg5 : arg5.IsWhole}
  {arg6 : Memref sig .tc .vmem S256x128 .f32} {harg6 : arg6.IsWhole}
  {arg7 : Memref sig .tc .vmem S2x128 .f32} {harg7 : arg7.IsWhole}
  {arg8 : Memref sig .tc .vmem S128x128 .bf16} {harg8 : arg8.IsWhole}
  {arg9 : Memref sig .tc .vmem S256x7168 .f32} {harg9 : arg9.IsWhole}
  {arg10 : Memref sig .tc .vmem S256x3072 .f32} {harg10 : arg10.IsWhole}
  {arg11 : Memref sig .tc .vmem S256x1024 .bf16} {harg11 : arg11.IsWhole}
  {arg12 : Memref sig .tc .vmem S8x1024x896 .bf16} {harg12 : arg12.IsWhole}
  (x0 : Vec Ideal S256x1024 .f32) (x1 : Vec Ideal S1x1024 .f32) (x2 x3 x4 : Vec Ideal S256x128 .f32)
  (x5 : Vec Ideal S2x128 .f32) (x6 : Vec Ideal S128x128 .bf16) (xs0 : Vec Ideal S8x1024x896 .bf16)
  (fh0 : HbBuf0 (F := Ideal) c hbM0_0)

/-- What the transfer carries. -/
theorem carried : kernelRun0_A.sl.dma0 c fh0 = fh0 := by
  unfold kernelRun0_A.sl.dma0
  rfl

theorem first_scratch (hc0 : cond0_0 i) : sout0_A_0 c i arg1 harg1 arg2 harg2 arg4 harg4 arg5 harg5 arg6 harg6 arg7 harg7 arg8 harg8 arg9 harg9 arg10 harg10 arg11 harg11 arg12 harg12 hc0 x0 x1 x2 x3 x4 x5 x6 fh0 = fh0 := by
  unfold sout0_A_0
  rw [View.read_writes_junk_eq_canon]
  unfold kernelRun0_A
  dsimp only
  rw [canon_whole, carried]

theorem later_scratch (hc0 : ¬cond0_0 i) : sout0_B_0 c i arg1 harg1 arg2 harg2 arg4 harg4 arg5 harg5 arg6 harg6 arg7 harg7 arg8 harg8 arg9 harg9 arg10 harg10 arg11 harg11 arg12 harg12 hc0 x0 x1 x2 x3 x4 x5 x6 xs0 fh0 = xs0 := by
  unfold sout0_B_0
  rfl

theorem first_rows (hc0 : cond0_0 i) : out0_A_9 c i arg1 harg1 arg2 harg2 arg4 harg4 arg5 harg5 arg6 harg6 arg7 harg7 arg8 harg8 arg9 harg9 arg10 harg10 arg11 harg11 arg12 harg12 hc0 x0 x1 x2 x3 x4 x5 x6 fh0 = k0_pay3 x0 x1 := by
  unfold out0_A_9
  rw [View.read_writes_junk_eq_canon]
  unfold kernelRun0_A
  dsimp only
  rw [canon_all]
  simp only [kernelRun0_A.sl.r, View.readAt_eq_ld, Memref.IsWhole.read_unread, ld_all]

theorem first_prod (hc0 : cond0_0 i) (r : Fin 256) (j : Fin 7168) :
    out0_A_7 c i arg1 harg1 arg2 harg2 arg4 harg4 arg5 harg5 arg6 harg6 arg7 harg7 arg8 harg8 arg9 harg9 arg10 harg10 arg11 harg11 arg12 harg12 hc0 x0 x1 x2 x3 x4 x5 x6 fh0 (ix2 r j) = prodB x0 x1 fh0 r j := by
  unfold out0_A_7
  rw [View.read_writes_junk_eq_canon]
  unfold kernelRun0_A
  dsimp only
  simp only [kernelRun0_A.sl.r, kernelRun0_A.sl.r_1, kernelRun0_A.sl.r_2, kernelRun0_A.sl.r_3, kernelRun0_A.sl.r_4,
    kernelRun0_A.sl.r_5, kernelRun0_A.sl.r_6, kernelRun0_A.sl.r_7, kernelRun0_A.sl.r_8, kernelRun0_A.sl.r_9,
    kernelRun0_A.sl.r_10, kernelRun0_A.sl.r_11, kernelRun0_A.sl.r_12, kernelRun0_A.sl.r_13, kernelRun0_A.sl.r_14,
    kernelRun0_A.sl.r_15, kernelRun0_A.sl.r_16, kernelRun0_A.sl.r_17, kernelRun0_A.sl.r_18, kernelRun0_A.sl.r_19,
    kernelRun0_A.sl.r_20, kernelRun0_A.sl.r_21, kernelRun0_A.sl.r_22, kernelRun0_A.sl.r_23, kernelRun0_A.sl.r_24,
    kernelRun0_A.sl.r_25, kernelRun0_A.sl.r_26, kernelRun0_A.sl.r_27, kernelRun0_A.sl.r_28, kernelRun0_A.sl.r_29,
    kernelRun0_A.sl.r_30, kernelRun0_A.sl.r_31, kernelRun0_A.sl.r_32, kernelRun0_A.sl.r_33, kernelRun0_A.sl.r_34,
    kernelRun0_A.sl.r_35, kernelRun0_A.sl.r_36, kernelRun0_A.sl.r_37, kernelRun0_A.sl.r_38, kernelRun0_A.sl.r_39,
    kernelRun0_A.sl.r_40, kernelRun0_A.sl.r_41, kernelRun0_A.sl.r_42, kernelRun0_A.sl.r_43, kernelRun0_A.sl.r_44,
    kernelRun0_A.sl.r_45, kernelRun0_A.sl.v27, kernelRun0_A.sl.v206, kernelRun0_A.sl.v385, kernelRun0_A.sl.v564,
    kernelRun0_A.sl.v643, kernelRun0_A.sl.v647, kernelRun0_A.sl.v651, kernelRun0_A.sl.v655, View.readCov_eq_canon', canon_whole, carried, View.readAt_eq_ld,
    Memref.IsWhole.read_unread, ld_all]
  exact chunks_hold x0 x1 fh0 r j j.isLt

theorem first_turn (hc0 : cond0_0 i) (r : Fin 256) (j : Fin 3072) :
    out0_A_8 c i arg1 harg1 arg2 harg2 arg4 harg4 arg5 harg5 arg6 harg6 arg7 harg7 arg8 harg8 arg9 harg9 arg10 harg10 arg11 harg11 arg12 harg12 hc0 x0 x1 x2 x3 x4 x5 x6 fh0 (ix2 r j) = turnB x0 x1 x2 x3 x4 x5 x6 fh0 r j := by
  unfold out0_A_8
  rw [View.read_writes_junk_eq_canon]
  unfold kernelRun0_A
  dsimp only
  simp only [kernelRun0_A.sl.r, kernelRun0_A.sl.r_1, kernelRun0_A.sl.r_2, kernelRun0_A.sl.r_3, kernelRun0_A.sl.r_4,
    kernelRun0_A.sl.r_5, kernelRun0_A.sl.r_6, kernelRun0_A.sl.r_7, kernelRun0_A.sl.r_8, kernelRun0_A.sl.r_9,
    kernelRun0_A.sl.r_10, kernelRun0_A.sl.r_11, kernelRun0_A.sl.r_12, kernelRun0_A.sl.r_13, kernelRun0_A.sl.r_14,
    kernelRun0_A.sl.r_15, kernelRun0_A.sl.r_16, kernelRun0_A.sl.r_17, kernelRun0_A.sl.r_18, kernelRun0_A.sl.r_19,
    kernelRun0_A.sl.r_20, kernelRun0_A.sl.r_21, kernelRun0_A.sl.r_22, kernelRun0_A.sl.r_23, kernelRun0_A.sl.r_24,
    kernelRun0_A.sl.r_25, kernelRun0_A.sl.r_26, kernelRun0_A.sl.r_27, kernelRun0_A.sl.r_28, kernelRun0_A.sl.r_29,
    kernelRun0_A.sl.r_30, kernelRun0_A.sl.r_31, kernelRun0_A.sl.r_32, kernelRun0_A.sl.r_33, kernelRun0_A.sl.r_34,
    kernelRun0_A.sl.r_35, kernelRun0_A.sl.r_36, kernelRun0_A.sl.r_37, kernelRun0_A.sl.r_38, kernelRun0_A.sl.r_39,
    kernelRun0_A.sl.r_40, kernelRun0_A.sl.r_41, kernelRun0_A.sl.r_42, kernelRun0_A.sl.r_43, kernelRun0_A.sl.r_44,
    kernelRun0_A.sl.r_45, kernelRun0_A.sl.v27, kernelRun0_A.sl.v206, kernelRun0_A.sl.v385, kernelRun0_A.sl.v564,
    kernelRun0_A.sl.v643, kernelRun0_A.sl.v647, kernelRun0_A.sl.v651, kernelRun0_A.sl.v655, View.readCov_eq_canon', canon_whole, carried, View.readAt_eq_ld,
    Memref.IsWhole.read_unread, ld_all]
  exact groups_hold x0 x1 x2 x3 x4 x5 x6 fh0 r j j.isLt

theorem later_rows (hc0 : ¬cond0_0 i) : out0_B_9 c i arg1 harg1 arg2 harg2 arg4 harg4 arg5 harg5 arg6 harg6 arg7 harg7 arg8 harg8 arg9 harg9 arg10 harg10 arg11 harg11 arg12 harg12 hc0 x0 x1 x2 x3 x4 x5 x6 xs0 fh0 = k0_pay3 x0 x1 := by
  unfold out0_B_9
  rw [View.read_writes_junk_eq_canon]
  unfold kernelRun0_B
  dsimp only
  rw [canon_all]
  simp only [kernelRun0_B.sl.r, View.readAt_eq_ld, Memref.IsWhole.read_unread, ld_all]

theorem later_prod (hc0 : ¬cond0_0 i) (r : Fin 256) (j : Fin 7168) :
    out0_B_7 c i arg1 harg1 arg2 harg2 arg4 harg4 arg5 harg5 arg6 harg6 arg7 harg7 arg8 harg8 arg9 harg9 arg10 harg10 arg11 harg11 arg12 harg12 hc0 x0 x1 x2 x3 x4 x5 x6 xs0 fh0 (ix2 r j) = prodB x0 x1 xs0 r j := by
  unfold out0_B_7
  rw [View.read_writes_junk_eq_canon]
  unfold kernelRun0_B
  dsimp only
  simp only [kernelRun0_B.sl.r, kernelRun0_B.sl.r_1, kernelRun0_B.sl.r_2, kernelRun0_B.sl.r_3, kernelRun0_B.sl.r_4,
    kernelRun0_B.sl.r_5, kernelRun0_B.sl.r_6, kernelRun0_B.sl.r_7, kernelRun0_B.sl.r_8, kernelRun0_B.sl.r_9,
    kernelRun0_B.sl.r_10, kernelRun0_B.sl.r_11, kernelRun0_B.sl.r_12, kernelRun0_B.sl.r_13, kernelRun0_B.sl.r_14,
    kernelRun0_B.sl.r_15, kernelRun0_B.sl.r_16, kernelRun0_B.sl.r_17, kernelRun0_B.sl.r_18, kernelRun0_B.sl.r_19,
    kernelRun0_B.sl.r_20, kernelRun0_B.sl.r_21, kernelRun0_B.sl.r_22, kernelRun0_B.sl.r_23, kernelRun0_B.sl.r_24,
    kernelRun0_B.sl.r_25, kernelRun0_B.sl.r_26, kernelRun0_B.sl.r_27, kernelRun0_B.sl.r_28, kernelRun0_B.sl.r_29,
    kernelRun0_B.sl.r_30, kernelRun0_B.sl.r_31, kernelRun0_B.sl.r_32, kernelRun0_B.sl.r_33, kernelRun0_B.sl.r_34,
    kernelRun0_B.sl.r_35, kernelRun0_B.sl.r_36, kernelRun0_B.sl.r_37, kernelRun0_B.sl.r_38, kernelRun0_B.sl.r_39,
    kernelRun0_B.sl.r_40, kernelRun0_B.sl.r_41, kernelRun0_B.sl.r_42, kernelRun0_B.sl.r_43, kernelRun0_B.sl.r_44,
    kernelRun0_B.sl.r_45, View.readAt_eq_ld,
    Memref.IsWhole.read_unread, ld_all]
  exact chunks_hold x0 x1 xs0 r j j.isLt

theorem later_turn (hc0 : ¬cond0_0 i) (r : Fin 256) (j : Fin 3072) :
    out0_B_8 c i arg1 harg1 arg2 harg2 arg4 harg4 arg5 harg5 arg6 harg6 arg7 harg7 arg8 harg8 arg9 harg9 arg10 harg10 arg11 harg11 arg12 harg12 hc0 x0 x1 x2 x3 x4 x5 x6 xs0 fh0 (ix2 r j) = turnB x0 x1 x2 x3 x4 x5 x6 xs0 r j := by
  unfold out0_B_8
  rw [View.read_writes_junk_eq_canon]
  unfold kernelRun0_B
  dsimp only
  simp only [kernelRun0_B.sl.r, kernelRun0_B.sl.r_1, kernelRun0_B.sl.r_2, kernelRun0_B.sl.r_3, kernelRun0_B.sl.r_4,
    kernelRun0_B.sl.r_5, kernelRun0_B.sl.r_6, kernelRun0_B.sl.r_7, kernelRun0_B.sl.r_8, kernelRun0_B.sl.r_9,
    kernelRun0_B.sl.r_10, kernelRun0_B.sl.r_11, kernelRun0_B.sl.r_12, kernelRun0_B.sl.r_13, kernelRun0_B.sl.r_14,
    kernelRun0_B.sl.r_15, kernelRun0_B.sl.r_16, kernelRun0_B.sl.r_17, kernelRun0_B.sl.r_18, kernelRun0_B.sl.r_19,
    kernelRun0_B.sl.r_20, kernelRun0_B.sl.r_21, kernelRun0_B.sl.r_22, kernelRun0_B.sl.r_23, kernelRun0_B.sl.r_24,
    kernelRun0_B.sl.r_25, kernelRun0_B.sl.r_26, kernelRun0_B.sl.r_27, kernelRun0_B.sl.r_28, kernelRun0_B.sl.r_29,
    kernelRun0_B.sl.r_30, kernelRun0_B.sl.r_31, kernelRun0_B.sl.r_32, kernelRun0_B.sl.r_33, kernelRun0_B.sl.r_34,
    kernelRun0_B.sl.r_35, kernelRun0_B.sl.r_36, kernelRun0_B.sl.r_37, kernelRun0_B.sl.r_38, kernelRun0_B.sl.r_39,
    kernelRun0_B.sl.r_40, kernelRun0_B.sl.r_41, kernelRun0_B.sl.r_42, kernelRun0_B.sl.r_43, kernelRun0_B.sl.r_44,
    kernelRun0_B.sl.r_45, View.readAt_eq_ld,
    Memref.IsWhole.read_unread, ld_all]
  exact groups_hold x0 x1 x2 x3 x4 x5 x6 xs0 r j j.isLt

end Cert.Kernel12Ideal.InProj

end
-- ==== Proof.InProjTables.lean ====
/- The even layer's norm and first product, `in_proj0`: the tables the call is given, each read at a lane of a pair of
   heads. -/
module

public import proofs.«01_k».proof.Proof.InProjBlock

@[expose] public section

noncomputable section

namespace Cert.Kernel12Ideal.InProj

open Cert.Kernel12Ideal Cert.Kernel12Ideal.Gen Cert.Kernel12Ideal.Value
open Idealize.ShloMosaic Idealize.ShloMosaic.TcCoe Idealize.SL.Sem Idealize.ShloMosaic.Bands

variable (m : (ℓ : Loc nD τ sig) → Buf (Elt Ideal) ℓ) (c : Dev nD)

abbrev aX : S8192x1024.Idx → EReal := m ((c : Thread nD τ).loc main_arg0)
abbrev aN : S1x1024.Idx → EReal := m ((c : Thread nD τ).loc main_arg1)
abbrev aW : S8x1024x896.Idx → EReal := m ((c : Thread nD τ).loc main_arg2)
abbrev aC : S8192x8.Idx → EReal := m ((c : Thread nD τ).loc main_arg3)
abbrev aS : S8192x8.Idx → EReal := m ((c : Thread nD τ).loc main_arg4)
abbrev aQ : S1x64.Idx → EReal := m ((c : Thread nD τ).loc main_arg5)
abbrev aK : S1x64.Idx → EReal := m ((c : Thread nD τ).loc main_arg6)

theorem zero_bits : (FloatOps.ofBits .f32 0x00000000#32 : Ideal .f32) = (0 : EReal) := by
  show Ideal.ofBits .f32 0x00000000#32 = 0
  simp [Ideal.ofBits, Ideal.ieee]

theorem zero_bits16 : (FloatOps.ofBits .bf16 0x0000#16 : Ideal .bf16) = (0 : EReal) := by
  show Ideal.ofBits .bf16 0x0000#16 = 0
  simp [Ideal.ofBits, Ideal.ieee]

theorem one_bits : (FloatOps.ofBits .f32 0x3F800000#32 : Ideal .f32) = (1 : EReal) := by
  show Ideal.ofBits .f32 0x3F800000#32 = 1
  simp [Ideal.ofBits, Ideal.ieee]
  try (rw [← EReal.coe_mul]; norm_num)

abbrev ones : FVec Ideal S8192x48 .f32 := broadcastInDim S8192x48 ![] bcast_S_S8192x48 (constant S_ .f32 0x3F800000#32)
abbrev zeros8 : FVec Ideal S8192x8 .f32 := broadcastInDim S8192x8 ![] bcast_S_S8192x8 (constant S_ .f32 0x00000000#32)
abbrev zeros48 : FVec Ideal S8192x48 .f32 := broadcastInDim S8192x48 ![] bcast_S_S8192x48 (constant S_ .f32 0x00000000#32)
abbrev zeros56 : FVec Ideal S8192x56 .f32 := broadcastInDim S8192x56 ![] bcast_S_S8192x56 (constant S_ .f32 0x00000000#32)

theorem cos_at (r : Fin 8192) (a : Fin 2) (d : Fin 64) : V m c main_v13 (ix2 r (Head.lane a d))
    = if h0 : d.val < 8 then aC m c (ix2 r ⟨d.val, h0⟩) else if h1 : d.val < 16 then aC m c (ix2 r ⟨d.val - 8, by omega⟩) else 1 := by
  show concatenate S8192x128 1 [⟨S8192x8, aC m c⟩, ⟨S8192x8, aC m c⟩, ⟨S8192x48, ones⟩, ⟨S8192x8, aC m c⟩, ⟨S8192x8, aC m c⟩, ⟨S8192x48, ones⟩]
    concatenates_S8192x8_S8192x8_S8192x48_S8192x8_S8192x8_S8192x48_S8192x128_d1 (ix2 r (Head.lane a d)) = _
  generalize aC m c = C
  rw [← one_bits]
  pointwise []
  have e : ∀ (x y : ℕ) (hx : x < 8) (hy : y < 8), x = y → C (ix2 r ⟨x, hx⟩) = C (ix2 r ⟨y, hy⟩) := by
    intro x y hx hy h
    subst h
    rfl
  repeat' split
  all_goals first | rfl | (exfalso; omega) | exact e _ _ _ _ (by omega)

theorem sin_at (r : Fin 8192) (a : Fin 2) (d : Fin 64) : V m c main_v16 (ix2 r (Head.lane a d))
    = if h0 : d.val < 8 then 0 else if h1 : d.val < 16 then aS m c (ix2 r ⟨d.val - 8, by omega⟩) else 0 := by
  show concatenate S8192x128 1 [⟨S8192x8, zeros8⟩, ⟨S8192x8, aS m c⟩, ⟨S8192x48, zeros48⟩, ⟨S8192x8, zeros8⟩, ⟨S8192x8, aS m c⟩, ⟨S8192x48, zeros48⟩]
    concatenates_S8192x8_S8192x8_S8192x48_S8192x8_S8192x8_S8192x48_S8192x128_d1 (ix2 r (Head.lane a d)) = _
  generalize aS m c = C
  rw [← zero_bits]
  pointwise []
  have e : ∀ (x y : ℕ) (hx : x < 8) (hy : y < 8), x = y → C (ix2 r ⟨x, hx⟩) = C (ix2 r ⟨y, hy⟩) := by
    intro x y hx hy h
    subst h
    rfl
  repeat' split
  all_goals first | rfl | (exfalso; omega) | exact e _ _ _ _ (by omega)

theorem minus_at (r : Fin 8192) (a : Fin 2) (d : Fin 64) : V m c main_v19 (ix2 r (Head.lane a d))
    = if h0 : d.val < 8 then -aS m c (ix2 r ⟨d.val, h0⟩) else 0 := by
  show concatenate S8192x128 1 [⟨S8192x8, Host.negf (aS m c : FVec Ideal S8192x8 .f32)⟩, ⟨S8192x56, zeros56⟩, ⟨S8192x8, Host.negf (aS m c : FVec Ideal S8192x8 .f32)⟩, ⟨S8192x56, zeros56⟩]
    concatenates_S8192x8_S8192x56_S8192x8_S8192x56_S8192x128_d1 (ix2 r (Head.lane a d)) = _
  generalize aS m c = C
  rw [← zero_bits]
  pointwise []
  have e : ∀ (x y : ℕ) (hx : x < 8) (hy : y < 8), x = y → C (ix2 r ⟨x, hx⟩) = C (ix2 r ⟨y, hy⟩) := by
    intro x y hx hy h
    subst h
    rfl
  repeat' split
  all_goals first | rfl | (exfalso; omega) | exact e _ _ _ _ (by omega) | exact congrArg (fun v : EReal => -v) (e _ _ _ _ (by omega))

abbrev shares : FVec Ideal S64x64 .bf16 := broadcastInDim S64x64 ![] bcast_S_S64x64 (constant S_ .bf16 0x3C80#16)
abbrev zeros64 : FVec Ideal S64x64 .bf16 := broadcastInDim S64x64 ![] bcast_S_S64x64 (constant S_ .bf16 0x0000#16)

/-- The matrix that averages within each head of a pair. -/
theorem mean_at (a b : Fin 2) (k d : Fin 64) : V m c main_v4 (ix2 (Head.lane a k) (Head.lane b d)) = if a = b then Head.share else 0 := by
  show concatenate S128x128 0 [⟨S64x128, concatenate S64x128 1 [⟨S64x64, shares⟩, ⟨S64x64, zeros64⟩] concatenates_S64x64_S64x64_S64x128_d1⟩,
    ⟨S64x128, concatenate S64x128 1 [⟨S64x64, zeros64⟩, ⟨S64x64, shares⟩] concatenates_S64x64_S64x64_S64x128_d1⟩]
    concatenates_S64x128_S64x128_S128x128_d0 (ix2 (Head.lane a k) (Head.lane b d)) = _
  rw [← zero_bits16]
  pointwise [Head.share]
  have hb := Fin.ext_iff (a := a) (b := b)
  repeat' split
  all_goals first | rfl | (exfalso; omega)

/-- A head's weights, given twice. -/
theorem twice_at (Q : FVec Ideal S1x64 .f32) (a : Fin 2) (d : Fin 64) :
    shapeCast S1x128 (broadcastInDim S1x1x2x64 ![0, 1, 2, 3] bcast_S1x1x1x64_S1x1x2x64_0_1_2_3 (shapeCast S1x1x1x64 Q shapeCasts_S1x64_S1x1x1x64))
      shapeCasts_S1x1x2x64_S1x128 (ix2 (0 : Fin 1) (Head.lane a d)) = Q (ix2 (0 : Fin 1) d) := by
  pointwise []
  exact congrArg (fun l : Fin 64 => Q (ix2 (0 : Fin 1) l)) (Fin.ext (by show (64 * a.val + d.val) % 64 = d.val; omega))

abbrev twice (Q : FVec Ideal S1x64 .f32) : FVec Ideal S1x128 .f32 :=
  shapeCast S1x128 (broadcastInDim S1x1x2x64 ![0, 1, 2, 3] bcast_S1x1x1x64_S1x1x2x64_0_1_2_3 (shapeCast S1x1x1x64 Q shapeCasts_S1x64_S1x1x1x64))
    shapeCasts_S1x1x2x64_S1x128

theorem headw_at (q : Fin 2) (a : Fin 2) (d : Fin 64) : V m c main_v11 (ix2 q (Head.lane a d))
    = if q = 0 then aQ m c (ix2 (0 : Fin 1) d) else aK m c (ix2 (0 : Fin 1) d) := by
  show concatenate S2x128 0 [⟨S1x128, twice (aQ m c)⟩, ⟨S1x128, twice (aK m c)⟩] concatenates_S1x128_S1x128_S2x128_d0 (ix2 q (Head.lane a d)) = _
  have hA : twice (aQ m c) (ix2 (0 : Fin 1) (Head.lane a d)) = _ := twice_at (aQ m c) a d
  have hB : twice (aK m c) (ix2 (0 : Fin 1) (Head.lane a d)) = _ := twice_at (aK m c) a d
  rw [← hA, ← hB]
  clear hA hB
  generalize twice (aQ m c) = A
  generalize twice (aK m c) = B
  pointwise []
  match q with
  | ⟨0, _⟩ => rfl
  | ⟨1, _⟩ => rfl

end Cert.Kernel12Ideal.InProj

end
-- ==== Proof.InProj12.lean ====
/- The even layer's norm and first product, `in_proj0`: what the call ends holding. -/
module

public import proofs.«01_k».proof.Proof.InProjRun
public import proofs.«01_k».proof.Proof.InProjTables

@[expose] public section

noncomputable section

namespace Cert.Kernel12Ideal.InProj

open Cert.Kernel12Ideal Cert.Kernel12Ideal.Gen Cert.Kernel12Ideal.Value
open Idealize.ShloMosaic Idealize.ShloMosaic.TcCoe Idealize.SL.Sem Idealize.ShloMosaic.Bands Idealize.ShloMosaic.Rms
open Idealize.ShloMosaic.Pipeline (Dat)

section Spec

variable (X : S8192x1024.Idx → EReal) (N : S1x1024.Idx → EReal) (W : S8x1024x896.Idx → EReal)
  (Co Si : S8192x8.Idx → EReal) (Q K : S1x64.Idx → EReal)

/-- The rows normed and scaled. -/
@[irreducible] def rows (r : Fin 8192) (j : Fin 1024) : EReal :=
  X (ix2 r j) * Rms.rr (fun k : Fin 1024 => X (ix2 r k)) * N (ix2 (0 : Fin 1) j)

/-- Their product with the weights, whose columns come in eight chunks. -/
@[irreducible] def proj (r : Fin 8192) (j : Fin 7168) : EReal :=
  ∑ k : Fin 1024, rows X N r k * W (ix3 (⟨j.val / 896, by omega⟩ : Fin 8) k (⟨j.val % 896, by omega⟩ : Fin 896))

/-- The queries and keys: each head of the product normed and turned. -/
@[irreducible] def turned (r : Fin 8192) (j : Fin 3072) : EReal :=
  Head.turn (fun k : Fin 64 => proj X N W r ⟨64 * (j.val / 64) + k.val, by omega⟩)
    (fun d => if j.val < 1536 then Q (ix2 (0 : Fin 1) d) else K (ix2 (0 : Fin 1) d))
    (fun d => Co (ix2 r d)) (fun d => Si (ix2 r d)) ⟨j.val % 64, by omega⟩

abbrev wholeRows (i : S8192x1024.Idx) : EReal := rows X N (i 0) (i 1)
abbrev wholeProj (i : S8192x7168.Idx) : EReal := proj X N W (i 0) (i 1)
abbrev wholeTurned (i : S8192x3072.Idx) : EReal := turned X N W Co Si Q K (i 0) (i 1)

theorem real_mul {a b : EReal} (ha : a ≠ ⊤ ∧ a ≠ ⊥) (hb : b ≠ ⊤ ∧ b ≠ ⊥) : a * b ≠ ⊤ ∧ a * b ≠ ⊥ := by
  lift a to ℝ using ha
  lift b to ℝ using hb
  rw [← EReal.coe_mul]
  exact ⟨EReal.coe_ne_top _, EReal.coe_ne_bot _⟩

theorem real_sum {n : ℕ} (f : Fin n → EReal) (h : ∀ k, f k ≠ ⊤ ∧ f k ≠ ⊥) : ∑ k, f k ≠ ⊤ ∧ ∑ k, f k ≠ ⊥ := by
  have e : ∀ s : Finset (Fin n), ∑ k ∈ s, f k ≠ ⊤ ∧ ∑ k ∈ s, f k ≠ ⊥ := fun s => by
    classical
    induction s using Finset.induction_on with
    | empty => simp
    | insert a s ha ih =>
      rw [Finset.sum_insert ha]
      obtain ⟨x, hx⟩ : ∃ x : ℝ, f a = (x : EReal) := ⟨(f a).toReal, (EReal.coe_toReal (h a).1 (h a).2).symm⟩
      obtain ⟨y, hy⟩ : ∃ y : ℝ, ∑ k ∈ s, f k = (y : EReal) := ⟨_, (EReal.coe_toReal ih.1 ih.2).symm⟩
      rw [hx, hy, ← EReal.coe_add]
      exact ⟨EReal.coe_ne_top _, EReal.coe_ne_bot _⟩
  exact e Finset.univ

/-- A row with an infinity norms to zeros, so with real weights the normed rows are real whatever the rows are. -/
theorem rows_real (hN : ∀ i, N i ≠ ⊤ ∧ N i ≠ ⊥) (r : Fin 8192) (j : Fin 1024) : rows X N r j ≠ ⊤ ∧ rows X N r j ≠ ⊥ := by
  unfold rows
  refine real_mul ?_ (hN _)
  rcases Rms.cases (fun k : Fin 1024 => X (ix2 r k)) with ⟨-, h⟩ | ⟨p, -, ⟨y, hy⟩, -, h⟩
  · rw [h, mul_zero]
    exact ⟨EReal.zero_ne_top, EReal.zero_ne_bot⟩
  · rw [h]
    have hj : X (ix2 r j) = (y j : EReal) := hy j
    rw [hj]
    exact real_mul ⟨EReal.coe_ne_top _, EReal.coe_ne_bot _⟩ ⟨EReal.coe_ne_top _, EReal.coe_ne_bot _⟩

theorem proj_real (hN : ∀ i, N i ≠ ⊤ ∧ N i ≠ ⊥) (hW : ∀ i, W i ≠ ⊤ ∧ W i ≠ ⊥) (r : Fin 8192) (j : Fin 7168) :
    proj X N W r j ≠ ⊤ ∧ proj X N W r j ≠ ⊥ := by
  unfold proj
  exact real_sum _ fun k => real_mul (rows_real X N hN r k) (hW _)

end Spec

variable (m : (ℓ : Loc nD τ sig) → Buf (Elt Ideal) ℓ) (c : Dev nD)

abbrev b0 (t : Fin cfg0.N) : Vec Ideal S256x1024 .f32 := iblk m c 0 t
abbrev b1 (t : Fin cfg0.N) : Vec Ideal S1x1024 .f32 := iblk m c 1 t
abbrev b2 (t : Fin cfg0.N) : Vec Ideal S256x128 .f32 := iblk m c 2 t
abbrev b3 (t : Fin cfg0.N) : Vec Ideal S256x128 .f32 := iblk m c 3 t
abbrev b4 (t : Fin cfg0.N) : Vec Ideal S256x128 .f32 := iblk m c 4 t
abbrev b5 (t : Fin cfg0.N) : Vec Ideal S2x128 .f32 := iblk m c 5 t
abbrev b6 (t : Fin cfg0.N) : Vec Ideal S128x128 .bf16 := iblk m c 6 t
abbrev bw : Vec Ideal S8x1024x896 .bf16 := V m c main_arg2

theorem lt_N (t : Fin cfg0.N) : t.val < 32 := t.isLt

/-- Row `r` of the block of point `t`. -/
abbrev row (t : Fin cfg0.N) (r : Fin 256) : Fin 8192 := ⟨256 * t.val + r.val, by have := lt_N t; omega⟩

theorem weights : bw m c = aW m c := V_main_arg2 m c

theorem at0 (t : Fin cfg0.N) (r : Fin 256) (k : Fin 1024) : b0 m c t (ix2 r k) = aX m c (ix2 (row t r) k) := by
  have h0 := (by decide +kernel : ∀ t : Fin grid0.N, win0_0.index t 0 = t.val) t
  have h1 := (by decide +kernel : ∀ t : Fin grid0.N, win0_0.index t 1 = 0) t
  show V m c main_arg0 (((cfg0.win 0).blk t).view.emb (ix2 r k)) = _
  rw [V_main_arg0]
  refine congrArg (m ((c : Thread nD τ).loc main_arg0)) (funext fun a => ?_)
  match a with
  | ⟨0, _⟩ => exact Fin.ext (by show win0_0.index t 0 * 256 + 1 * r.val = 256 * t.val + r.val; omega)
  | ⟨1, _⟩ => exact Fin.ext (by show win0_0.index t 1 * 1024 + 1 * k.val = k.val; omega)

theorem at1 (t : Fin cfg0.N) (k : Fin 1024) : b1 m c t (ix2 (0 : Fin 1) k) = aN m c (ix2 (0 : Fin 1) k) := by
  have h0 := (by decide +kernel : ∀ t : Fin grid0.N, win0_1.index t 0 = 0) t
  have h1 := (by decide +kernel : ∀ t : Fin grid0.N, win0_1.index t 1 = 0) t
  show V m c main_arg1 (((cfg0.win 1).blk t).view.emb (ix2 (0 : Fin 1) k)) = _
  rw [V_main_arg1]
  refine congrArg (m ((c : Thread nD τ).loc main_arg1)) (funext fun a => ?_)
  match a with
  | ⟨0, _⟩ => exact Fin.ext (by show win0_1.index t 0 * 1 + 1 * 0 = 0; omega)
  | ⟨1, _⟩ => exact Fin.ext (by show win0_1.index t 1 * 1024 + 1 * k.val = k.val; omega)

theorem at2 (t : Fin cfg0.N) (r : Fin 256) (k : Fin 128) : b2 m c t (ix2 r k) = V m c main_v13 (ix2 (row t r) k) := by
  have h0 := (by decide +kernel : ∀ t : Fin grid0.N, win0_2.index t 0 = t.val) t
  have h1 := (by decide +kernel : ∀ t : Fin grid0.N, win0_2.index t 1 = 0) t
  show V m c main_v13 (((cfg0.win 2).blk t).view.emb (ix2 r k)) = _
  refine congrArg (V m c main_v13) (funext fun a => ?_)
  match a with
  | ⟨0, _⟩ => exact Fin.ext (by show win0_2.index t 0 * 256 + 1 * r.val = 256 * t.val + r.val; omega)
  | ⟨1, _⟩ => exact Fin.ext (by show win0_2.index t 1 * 128 + 1 * k.val = k.val; omega)

theorem at3 (t : Fin cfg0.N) (r : Fin 256) (k : Fin 128) : b3 m c t (ix2 r k) = V m c main_v16 (ix2 (row t r) k) := by
  have h0 := (by decide +kernel : ∀ t : Fin grid0.N, win0_3.index t 0 = t.val) t
  have h1 := (by decide +kernel : ∀ t : Fin grid0.N, win0_3.index t 1 = 0) t
  show V m c main_v16 (((cfg0.win 3).blk t).view.emb (ix2 r k)) = _
  refine congrArg (V m c main_v16) (funext fun a => ?_)
  match a with
  | ⟨0, _⟩ => exact Fin.ext (by show win0_3.index t 0 * 256 + 1 * r.val = 256 * t.val + r.val; omega)
  | ⟨1, _⟩ => exact Fin.ext (by show win0_3.index t 1 * 128 + 1 * k.val = k.val; omega)

theorem at4 (t : Fin cfg0.N) (r : Fin 256) (k : Fin 128) : b4 m c t (ix2 r k) = V m c main_v19 (ix2 (row t r) k) := by
  have h0 := (by decide +kernel : ∀ t : Fin grid0.N, win0_4.index t 0 = t.val) t
  have h1 := (by decide +kernel : ∀ t : Fin grid0.N, win0_4.index t 1 = 0) t
  show V m c main_v19 (((cfg0.win 4).blk t).view.emb (ix2 r k)) = _
  refine congrArg (V m c main_v19) (funext fun a => ?_)
  match a with
  | ⟨0, _⟩ => exact Fin.ext (by show win0_4.index t 0 * 256 + 1 * r.val = 256 * t.val + r.val; omega)
  | ⟨1, _⟩ => exact Fin.ext (by show win0_4.index t 1 * 128 + 1 * k.val = k.val; omega)

theorem at5 (t : Fin cfg0.N) (r : Fin 2) (k : Fin 128) : b5 m c t (ix2 r k) = V m c main_v11 (ix2 r k) := by
  have h0 := (by decide +kernel : ∀ t : Fin grid0.N, win0_5.index t 0 = 0) t
  have h1 := (by decide +kernel : ∀ t : Fin grid0.N, win0_5.index t 1 = 0) t
  show V m c main_v11 (((cfg0.win 5).blk t).view.emb (ix2 r k)) = _
  refine congrArg (V m c main_v11) (funext fun a => ?_)
  match a with
  | ⟨0, _⟩ => exact Fin.ext (by show win0_5.index t 0 * 2 + 1 * r.val = r.val; omega)
  | ⟨1, _⟩ => exact Fin.ext (by show win0_5.index t 1 * 128 + 1 * k.val = k.val; omega)

theorem at6 (t : Fin cfg0.N) (r : Fin 128) (k : Fin 128) : b6 m c t (ix2 r k) = V m c main_v4 (ix2 r k) := by
  have h0 := (by decide +kernel : ∀ t : Fin grid0.N, win0_6.index t 0 = 0) t
  have h1 := (by decide +kernel : ∀ t : Fin grid0.N, win0_6.index t 1 = 0) t
  show V m c main_v4 (((cfg0.win 6).blk t).view.emb (ix2 r k)) = _
  refine congrArg (V m c main_v4) (funext fun a => ?_)
  match a with
  | ⟨0, _⟩ => exact Fin.ext (by show win0_6.index t 0 * 128 + 1 * r.val = r.val; omega)
  | ⟨1, _⟩ => exact Fin.ext (by show win0_6.index t 1 * 128 + 1 * k.val = k.val; omega)

theorem block_rows (t : Fin cfg0.N) (r : Fin 256) (j : Fin 1024) :
    k0_pay3 (b0 m c t) (b1 m c t) (ix2 r j) = rows (aX m c) (aN m c) (row t r) j := by
  rw [normed_at, at0, at1]
  unfold rows
  have h : (fun k => b0 m c t (ix2 r k)) = fun k : Fin 1024 => aX m c (ix2 (row t r) k) := funext fun k => at0 m c t r k
  rw [h]

theorem block_prod (t : Fin cfg0.N) (r : Fin 256) (j : Fin 7168) :
    prodB (b0 m c t) (b1 m c t) (bw m c) r j = proj (aX m c) (aN m c) (aW m c) (row t r) j := by
  unfold prodB proj
  refine Finset.sum_congr rfl fun k _ => ?_
  rw [block_rows, weights]

/-- The weights the precondition speaks of are real. -/
def Real12 : Prop := (∀ i, aN m c i ≠ ⊤ ∧ aN m c i ≠ ⊥) ∧ ∀ i, aW m c i ≠ ⊤ ∧ aW m c i ≠ ⊥

theorem block_turn (h : Real12 m c) (t : Fin cfg0.N) (r : Fin 256) (j : Fin 3072) :
    turnB (b0 m c t) (b1 m c t) (b2 m c t) (b3 m c t) (b4 m c t) (b5 m c t) (b6 m c t) (bw m c) r j
      = turned (aX m c) (aN m c) (aW m c) (aC m c) (aS m c) (aQ m c) (aK m c) (row t r) j := by
  obtain ⟨a, d, ha, hd⟩ : ∃ (a : Fin 2) (d : Fin 64), a.val = j.val / 64 % 2 ∧ d.val = j.val % 64 :=
    ⟨⟨j.val / 64 % 2, by omega⟩, ⟨j.val % 64, by omega⟩, rfl, rfl⟩
  have hl : (⟨j.val % 128, by omega⟩ : Fin 128) = Head.lane a d := Fin.ext (by show j.val % 128 = 64 * a.val + d.val; omega)
  have hdd : (⟨j.val % 64, by omega⟩ : Fin 64) = d := Fin.ext hd.symm
  unfold turnB turned
  rw [hl, hdd]
  have e1 : (fun k : Fin 128 => prodB (b0 m c t) (b1 m c t) (bw m c) r ⟨128 * (j.val / 128) + k.val, by omega⟩)
      = fun k : Fin 128 => proj (aX m c) (aN m c) (aW m c) (row t r) ⟨128 * (j.val / 128) + k.val, by omega⟩ :=
    funext fun k => block_prod m c t r _
  have e2 : (fun k : Fin 128 => b5 m c t (ix2 (⟨j.val / 1536, by omega⟩ : Fin 2) k))
      = fun k : Fin 128 => V m c main_v11 (ix2 (⟨j.val / 1536, by omega⟩ : Fin 2) k) := funext fun k => at5 m c t _ k
  have e3 : (fun k l : Fin 128 => b6 m c t (ix2 k l)) = fun k l : Fin 128 => V m c main_v4 (ix2 k l) :=
    funext fun k => funext fun l => at6 m c t k l
  have e4 : (fun k : Fin 128 => b2 m c t (ix2 r k)) = fun k : Fin 128 => V m c main_v13 (ix2 (row t r) k) := funext fun k => at2 m c t r k
  have e5 : (fun k : Fin 128 => b3 m c t (ix2 r k)) = fun k : Fin 128 => V m c main_v16 (ix2 (row t r) k) := funext fun k => at3 m c t r k
  have e6 : (fun k : Fin 128 => b4 m c t (ix2 r k)) = fun k : Fin 128 => V m c main_v19 (ix2 (row t r) k) := funext fun k => at4 m c t r k
  rw [e1, e2, e3, e4, e5, e6]
  refine (Head.turn_same _ _ _ _ _ _ (fun d => if j.val < 1536 then aQ m c (ix2 (0 : Fin 1) d) else aK m c (ix2 (0 : Fin 1) d))
    (fun d => aC m c (ix2 (row t r) d)) (fun d => aS m c (ix2 (row t r) d))
    (fun k => proj_real _ _ _ h.1 h.2 _ _) (fun a b k d => mean_at m c a b k d) (fun a d => ?_) a d
    (cos_at m c _ a d) (sin_at m c _ a d) (minus_at m c _ a d)).trans ?_
  · refine (headw_at m c _ a d).trans ?_
    by_cases hq : j.val < 1536
    · rw [if_pos hq, if_pos (Fin.ext (by show j.val / 1536 = 0; omega))]
    · rw [if_neg hq, if_neg (fun e => by have : j.val / 1536 = 0 := congrArg Fin.val e; omega)]
  · refine congrArg (fun f : Fin 64 → EReal => Head.turn f _ _ _ d) (funext fun k => ?_)
    refine congrArg (proj (aX m c) (aN m c) (aW m c) (row t r)) (Fin.ext ?_)
    show 128 * (j.val / 128) + (64 * a.val + k.val) = 64 * (j.val / 64) + k.val
    omega

/-- The weights stay where the first point put them. -/
theorem kept_weights : ∀ (n : ℕ) (hn : n < cfg0.N), (outsAt0 m c n hn).2.2.2 = bw m c
  | 0, hn => by
    have h := outsAt0_A m c ⟨0, hn⟩ (by dsimp only)
    dsimp only at h
    rw [h]
    dsimp only
    rw [first_scratch]
  | n + 1, hn => by
    have hN : n + 1 < 32 := hn
    have h := outsAt0_B m c ⟨n + 1, hn⟩ (by dsimp only; omega)
    dsimp only at h
    rw [h]
    dsimp only
    rw [later_scratch]
    exact kept_weights n (by omega)

theorem kept_before (t : Fin cfg0.N) (h : t.val - 1 < cfg0.N) : (outsAt0 m c (t.val - 1) h).2.2.2 = bw m c :=
  kept_weights m c _ h

abbrev wholeA : S8192x7168.Idx → EReal := wholeProj (aX m c) (aN m c) (aW m c)
abbrev wholeB : S8192x3072.Idx → EReal := wholeTurned (aX m c) (aN m c) (aW m c) (aC m c) (aS m c) (aQ m c) (aK m c)
abbrev wholeC : S8192x1024.Idx → EReal := wholeRows (aX m c) (aN m c)

theorem left_prod (t : Fin cfg0.N) (r : Fin 256) (j : Fin 7168) :
    (outsAt0 m c t.val t.isLt).1 (ix2 r j) = wholeA m c (ix2 (row t r) j) := by
  have ht := lt_N t
  by_cases h : t.val = 0
  · rw [outsAt0_A m c t (by omega)]
    dsimp only
    rw [first_prod]
    exact block_prod m c t r j
  · rw [outsAt0_B m c t (by omega)]
    dsimp only
    rw [later_prod, kept_before]
    exact block_prod m c t r j

theorem left_turn (hR : Real12 m c) (t : Fin cfg0.N) (r : Fin 256) (j : Fin 3072) :
    (outsAt0 m c t.val t.isLt).2.1 (ix2 r j) = wholeB m c (ix2 (row t r) j) := by
  have ht := lt_N t
  by_cases h : t.val = 0
  · rw [outsAt0_A m c t (by omega)]
    dsimp only
    rw [first_turn]
    exact block_turn m c hR t r j
  · rw [outsAt0_B m c t (by omega)]
    dsimp only
    rw [later_turn, kept_before]
    exact block_turn m c hR t r j

theorem left_rows (t : Fin cfg0.N) (r : Fin 256) (j : Fin 1024) :
    (outsAt0 m c t.val t.isLt).2.2.1 (ix2 r j) = wholeC m c (ix2 (row t r) j) := by
  have ht := lt_N t
  by_cases h : t.val = 0
  · rw [outsAt0_A m c t (by omega)]
    dsimp only
    rw [first_rows]
    exact block_rows m c t r j
  · rw [outsAt0_B m c t (by omega)]
    dsimp only
    rw [later_rows]
    exact block_rows m c t r j

theorem final_prod : (dats m 0 c).arrAt 7 cfg0.N = wholeA m c := by
  refine (dats m 0 c).arrAt_eq_of_cover 7 (wholeA m c) (fun t hf => ?_) (fun i => ?_)
  · rw [flushed7]
    funext j
    obtain ⟨r, k, rfl⟩ : ∃ (r : Fin 256) (k : Fin 7168), j = ix2 r k := ⟨j 0, j 1, eq_ix2 j⟩
    have h0 := (by decide +kernel : ∀ t : Fin grid0.N, win0_7.index t 0 = t.val) t
    have h1 := (by decide +kernel : ∀ t : Fin grid0.N, win0_7.index t 1 = 0) t
    refine (left_prod m c t r k).trans ?_
    show _ = wholeA m c (((cfg0.win 7).blk t).view.emb (ix2 r k))
    refine congrArg (wholeA m c) (funext fun a => ?_)
    match a with
    | ⟨0, _⟩ => exact Fin.ext (by show 256 * t.val + r.val = win0_7.index t 0 * 256 + 1 * r.val; omega)
    | ⟨1, _⟩ => exact Fin.ext (by show k.val = win0_7.index t 1 * 7168 + 1 * k.val; omega)
  · have i0 : (i 0).val < 8192 := (i 0).isLt
    have i1 : (i 1).val < 7168 := (i 1).isLt
    let t : Fin cfg0.N := ⟨(i 0).val / 256, show (i 0).val / 256 < 32 by omega⟩
    have ht : t.val = (i 0).val / 256 := rfl
    have h0 := (by decide +kernel : ∀ t : Fin grid0.N, win0_7.index t 0 = t.val) t
    have h1 := (by decide +kernel : ∀ t : Fin grid0.N, win0_7.index t 1 = 0) t
    refine ⟨t, (by decide +kernel : ∀ t : Fin grid0.N, win0_7.flush t = true) t, ?_⟩
    show i ∈ ((View.whole main_v20_0).slice (win0_7.rect t)).set
    rw [View.set_slice_whole, Rect.mem_set_unit]
    intro a
    match a with
    | ⟨0, _⟩ => show win0_7.index t 0 * 256 ≤ (i 0).val ∧ (i 0).val < win0_7.index t 0 * 256 + 256; omega
    | ⟨1, _⟩ => show win0_7.index t 1 * 7168 ≤ (i 1).val ∧ (i 1).val < win0_7.index t 1 * 7168 + 7168; omega

theorem final_turn (hR : Real12 m c) : (dats m 0 c).arrAt 8 cfg0.N = wholeB m c := by
  refine (dats m 0 c).arrAt_eq_of_cover 8 (wholeB m c) (fun t hf => ?_) (fun i => ?_)
  · rw [flushed8]
    funext j
    obtain ⟨r, k, rfl⟩ : ∃ (r : Fin 256) (k : Fin 3072), j = ix2 r k := ⟨j 0, j 1, eq_ix2 j⟩
    have h0 := (by decide +kernel : ∀ t : Fin grid0.N, win0_8.index t 0 = t.val) t
    have h1 := (by decide +kernel : ∀ t : Fin grid0.N, win0_8.index t 1 = 0) t
    refine (left_turn m c hR t r k).trans ?_
    show _ = wholeB m c (((cfg0.win 8).blk t).view.emb (ix2 r k))
    refine congrArg (wholeB m c) (funext fun a => ?_)
    match a with
    | ⟨0, _⟩ => exact Fin.ext (by show 256 * t.val + r.val = win0_8.index t 0 * 256 + 1 * r.val; omega)
    | ⟨1, _⟩ => exact Fin.ext (by show k.val = win0_8.index t 1 * 3072 + 1 * k.val; omega)
  · have i0 : (i 0).val < 8192 := (i 0).isLt
    have i1 : (i 1).val < 3072 := (i 1).isLt
    let t : Fin cfg0.N := ⟨(i 0).val / 256, show (i 0).val / 256 < 32 by omega⟩
    have ht : t.val = (i 0).val / 256 := rfl
    have h0 := (by decide +kernel : ∀ t : Fin grid0.N, win0_8.index t 0 = t.val) t
    have h1 := (by decide +kernel : ∀ t : Fin grid0.N, win0_8.index t 1 = 0) t
    refine ⟨t, (by decide +kernel : ∀ t : Fin grid0.N, win0_8.flush t = true) t, ?_⟩
    show i ∈ ((View.whole main_v20_1).slice (win0_8.rect t)).set
    rw [View.set_slice_whole, Rect.mem_set_unit]
    intro a
    match a with
    | ⟨0, _⟩ => show win0_8.index t 0 * 256 ≤ (i 0).val ∧ (i 0).val < win0_8.index t 0 * 256 + 256; omega
    | ⟨1, _⟩ => show win0_8.index t 1 * 3072 ≤ (i 1).val ∧ (i 1).val < win0_8.index t 1 * 3072 + 3072; omega

theorem final_rows : (dats m 0 c).arrAt 9 cfg0.N = wholeC m c := by
  refine (dats m 0 c).arrAt_eq_of_cover 9 (wholeC m c) (fun t hf => ?_) (fun i => ?_)
  · rw [flushed9]
    funext j
    obtain ⟨r, k, rfl⟩ : ∃ (r : Fin 256) (k : Fin 1024), j = ix2 r k := ⟨j 0, j 1, eq_ix2 j⟩
    have h0 := (by decide +kernel : ∀ t : Fin grid0.N, win0_9.index t 0 = t.val) t
    have h1 := (by decide +kernel : ∀ t : Fin grid0.N, win0_9.index t 1 = 0) t
    refine (left_rows m c t r k).trans ?_
    show _ = wholeC m c (((cfg0.win 9).blk t).view.emb (ix2 r k))
    refine congrArg (wholeC m c) (funext fun a => ?_)
    match a with
    | ⟨0, _⟩ => exact Fin.ext (by show 256 * t.val + r.val = win0_9.index t 0 * 256 + 1 * r.val; omega)
    | ⟨1, _⟩ => exact Fin.ext (by show k.val = win0_9.index t 1 * 1024 + 1 * k.val; omega)
  · have i0 : (i 0).val < 8192 := (i 0).isLt
    have i1 : (i 1).val < 1024 := (i 1).isLt
    let t : Fin cfg0.N := ⟨(i 0).val / 256, show (i 0).val / 256 < 32 by omega⟩
    have ht : t.val = (i 0).val / 256 := rfl
    have h0 := (by decide +kernel : ∀ t : Fin grid0.N, win0_9.index t 0 = t.val) t
    have h1 := (by decide +kernel : ∀ t : Fin grid0.N, win0_9.index t 1 = 0) t
    refine ⟨t, (by decide +kernel : ∀ t : Fin grid0.N, win0_9.flush t = true) t, ?_⟩
    show i ∈ ((View.whole main_v20_2).slice (win0_9.rect t)).set
    rw [View.set_slice_whole, Rect.mem_set_unit]
    intro a
    match a with
    | ⟨0, _⟩ => show win0_9.index t 0 * 256 ≤ (i 0).val ∧ (i 0).val < win0_9.index t 0 * 256 + 256; omega
    | ⟨1, _⟩ => show win0_9.index t 1 * 1024 ≤ (i 1).val ∧ (i 1).val < win0_9.index t 1 * 1024 + 1024; omega

end Cert.Kernel12Ideal.InProj

end
-- ==== Proof.InProjRef.lean ====
/- The even layer's norm and first product, `in_proj0`: the reference's three results are the arrays the call ends
   holding. -/
module

public import proofs.«01_k».proof.Proof.Gen.Reference12Ideal.Read
public import proofs.«01_k».proof.Proof.InProj12

@[expose] public section

noncomputable section

namespace Cert.Kernel12Ideal.InProj

open Cert.Kernel12Ideal Idealize.ShloMosaic Idealize.ShloMosaic.TcCoe Idealize.ShloMosaic.Bands
open Cert.Reference12Ideal.Read

variable (X : S8192x1024.Idx → EReal) (N : S1x1024.Idx → EReal) (W : S8x1024x896.Idx → EReal)
  (Co Si : S8192x8.Idx → EReal) (Q K : S1x64.Idx → EReal)

theorem ref_rr (r : Fin 8192) : val_main_v7 (F := Ideal) X (ix2 r (0 : Fin 1)) = Rms.rr (fun k : Fin 1024 => X (ix2 r k)) := by
  rw [val_main_v7_apply, val_main_v6_apply, val_main_v5_apply, val_main_cst_1_apply, val_main_v4_apply, val_main_v3_apply,
    val_main_cst_0_apply, val_main_v2_apply, val_main_v1_apply, val_main_cst_apply, zero_bits, zero_add]
  refine congrArg (fun s : EReal => Ideal.rsqrt (Ideal.div s Rms.len + Rms.eps)) (Finset.sum_congr rfl fun k _ => ?_)
  have e : idx_main_v1 (idx_main_v2 (ix2 r (0 : Fin 1))) k = ix2 r k := funext fun a => by
    match a with
    | ⟨0, _⟩ => rfl
    | ⟨1, _⟩ => rfl
  rw [e, val_main_v0_apply]
  rfl

/-- The normed rows. -/
theorem ref_normed (r : Fin 8192) (j : Fin 1024) : val_main_v11 (F := Ideal) X N (ix2 r j) = rows X N r j := by
  have e2 : idx_main_v10 (ix2 r j) = ix2 (0 : Fin 1) j := funext fun a => by
    match a with
    | ⟨0, _⟩ => rfl
    | ⟨1, _⟩ => rfl
  have e3 : idx_main_v8 (ix2 r j) = ix2 r (0 : Fin 1) := funext fun a => by
    match a with
    | ⟨0, _⟩ => rfl
    | ⟨1, _⟩ => rfl
  rw [val_main_v11_apply, val_main_v10_apply, e2, val_main_v9_apply, val_main_v8_apply, e3, ref_rr]
  unfold rows
  rfl

/-- The third result. -/
theorem ref_rows (i : S8192x1024.Idx) : val_main_v79 (F := Ideal) X N i = wholeRows X N i := by
  obtain ⟨r, j, rfl⟩ : ∃ (r : Fin 8192) (j : Fin 1024), i = ix2 r j := ⟨i 0, i 1, eq_ix2 i⟩
  exact ref_normed X N r j

theorem ref_weights (k : Fin 1024) (j : Fin 7168) : val_main_v14 (F := Ideal) W (ix2 k j)
    = W (ix3 (⟨j.val / 896, by omega⟩ : Fin 8) k (⟨j.val % 896, by omega⟩ : Fin 896)) := by
  rw [val_main_v14_apply, val_main_v13_apply, val_main_v12_apply]
  refine congrArg W (funext fun a => ?_)
  match a with
  | ⟨0, _⟩ => exact Fin.ext (by show (k.val * 7168 + j.val) / 896 % 8 = j.val / 896; omega)
  | ⟨1, _⟩ => exact Fin.ext (by show (k.val * 7168 + j.val) / 7168 = k.val; omega)
  | ⟨2, _⟩ => exact Fin.ext (by show (k.val * 7168 + j.val) % 896 = j.val % 896; omega)

theorem ref_product (r : Fin 8192) (j : Fin 7168) : val_main_v15 (F := Ideal) X N W (ix2 r j) = proj X N W r j := by
  rw [val_main_v15_apply]
  unfold proj
  refine Finset.sum_congr rfl fun k _ => ?_
  have e1 : lidx_main_v15 (ix2 r j) k = ix2 r k := funext fun a => by
    match a with
    | ⟨0, _⟩ => rfl
    | ⟨1, _⟩ => rfl
  have e2 : ridx_main_v15 (ix2 r j) k = ix2 k j := funext fun a => by
    match a with
    | ⟨0, _⟩ => rfl
    | ⟨1, _⟩ => rfl
  rw [e1, e2, ref_normed, ref_weights]

/-- The first result. -/
theorem ref_prod (i : S8192x7168.Idx) : val_main_v15 (F := Ideal) X N W i = wholeProj X N W i := by
  obtain ⟨r, j, rfl⟩ : ∃ (r : Fin 8192) (j : Fin 7168), i = ix2 r j := ⟨i 0, i 1, eq_ix2 i⟩
  exact ref_product X N W r j

theorem cos_row (r : Fin 8192) (d : Fin 8) (i : Cert.Reference12Ideal.S8192x1x8.Idx) (h0 : (i 0).val = r.val) (h2 : (i 2).val = d.val) :
    val_main_v20 (F := Ideal) Co i = Co (ix2 r d) := by
  rw [val_main_v20_apply]
  refine congrArg Co (funext fun a => ?_)
  match a with
  | ⟨0, _⟩ => exact Fin.ext h0
  | ⟨1, _⟩ => exact Fin.ext h2

theorem sin_row (r : Fin 8192) (d : Fin 8) (i : Cert.Reference12Ideal.S8192x1x8.Idx) (h0 : (i 0).val = r.val) (h2 : (i 2).val = d.val) :
    val_main_v21 (F := Ideal) Si i = Si (ix2 r d) := cos_row Si r d i h0 h2

/-! ### The query heads -/

/-- Entry `d` of query head `h`. -/
abbrev at_q (h : Fin 24) (d : Fin 64) : Fin 7168 := ⟨64 * h.val + d.val, by omega⟩

theorem q_head (r : Fin 8192) (h : Fin 24) (d : Fin 64) : val_main_v17 (F := Ideal) X N W (ix3 r h d) = proj X N W r (at_q h d) := by
  have e : idx_main_v16 (idx_main_v17 (ix3 r h d)) = ix2 r (at_q h d) := funext fun a => by
    match a with
    | ⟨0, _⟩ => exact Fin.ext (by show ((r.val * 24 + h.val) * 64 + d.val) / 1536 = r.val; omega)
    | ⟨1, _⟩ => exact Fin.ext (by show ((r.val * 24 + h.val) * 64 + d.val) % 1536 = 64 * h.val + d.val; omega)
  rw [val_main_v17_apply, val_main_v16_apply, e, ref_product]

theorem q_normed (r : Fin 8192) (h : Fin 24) (d : Fin 64) : val_main_v34 (F := Ideal) X N W Q (ix3 r h d)
    = Head.hat (fun k => proj X N W r (at_q h k)) (fun k => Q (ix2 (0 : Fin 1) k)) d := by
  have e1 : idx_main_v30 (ix3 r h d) = ix3 r h (0 : Fin 1) := funext fun a => by
    match a with
    | ⟨0, _⟩ => rfl
    | ⟨1, _⟩ => rfl
    | ⟨2, _⟩ => rfl
  have e2 : idx_main_v32 (idx_main_v33 (ix3 r h d)) = ix2 (0 : Fin 1) d := funext fun a => by
    match a with
    | ⟨0, _⟩ => rfl
    | ⟨1, _⟩ => rfl
  have es : ∀ k : Fin 64, idx_main_v23 (idx_main_v24 (ix3 r h (0 : Fin 1))) k = ix3 r h k := fun k => funext fun a => by
    match a with
    | ⟨0, _⟩ => rfl
    | ⟨1, _⟩ => rfl
    | ⟨2, _⟩ => rfl
  have hs : ∑ k : Fin 64, val_main_v22 (F := Ideal) X N W (idx_main_v23 (idx_main_v24 (ix3 r h (0 : Fin 1))) k)
      = ∑ k : Fin 64, proj X N W r (at_q h k) * proj X N W r (at_q h k) := Finset.sum_congr rfl fun k _ => by
    rw [es, val_main_v22_apply, q_head]
    rfl
  rw [val_main_v34_apply, val_main_v33_apply, val_main_v32_apply, e2, val_main_v31_apply, q_head, val_main_v30_apply, e1, val_main_v29_apply, val_main_v28_apply, val_main_v27_apply, val_main_cst_4_apply,
    val_main_v26_apply, val_main_v25_apply, val_main_cst_3_apply, val_main_v24_apply, val_main_v23_apply, val_main_cst_2_apply, zero_bits, zero_add, hs]
  rfl

/-- The first and the second eight entries. -/
theorem q_low (r : Fin 8192) (h : Fin 24) (d : Fin 8) : val_main_v35 (F := Ideal) X N W Q (ix3 r h d)
    = Head.hat (fun k => proj X N W r (at_q h k)) (fun k => Q (ix2 (0 : Fin 1) k)) ⟨d.val, by omega⟩ := by
  rw [← q_normed, val_main_v35_apply]
  refine congrArg (val_main_v34 (F := Ideal) X N W Q) (funext fun a => ?_)
  match a with
  | ⟨0, _⟩ => rfl
  | ⟨1, _⟩ => rfl
  | ⟨2, _⟩ => rfl

theorem q_high (r : Fin 8192) (h : Fin 24) (d : Fin 8) : val_main_v36 (F := Ideal) X N W Q (ix3 r h d)
    = Head.hat (fun k => proj X N W r (at_q h k)) (fun k => Q (ix2 (0 : Fin 1) k)) ⟨d.val + 8, by omega⟩ := by
  rw [← q_normed, val_main_v36_apply]
  refine congrArg (val_main_v34 (F := Ideal) X N W Q) (funext fun a => ?_)
  match a with
  | ⟨0, _⟩ => rfl
  | ⟨1, _⟩ => rfl
  | ⟨2, _⟩ => exact Fin.ext (by show 8 + d.val = d.val + 8; omega)

theorem q_left (r : Fin 8192) (h : Fin 24) (d : Fin 8) : val_main_v41 (F := Ideal) X N W Co Si Q (ix3 r h d)
    = Head.hat (fun k => proj X N W r (at_q h k)) (fun k => Q (ix2 (0 : Fin 1) k)) ⟨d.val, by omega⟩ * Co (ix2 r d)
      - Head.hat (fun k => proj X N W r (at_q h k)) (fun k => Q (ix2 (0 : Fin 1) k)) ⟨d.val + 8, by omega⟩ * Si (ix2 r d) := by
  rw [val_main_v41_apply, val_main_v40_apply, val_main_v38_apply, q_low, q_high, val_main_v37_apply, val_main_v39_apply, cos_row _ r d _ rfl rfl, sin_row _ r d _ rfl rfl]
  rfl

theorem q_right (r : Fin 8192) (h : Fin 24) (d : Fin 8) : val_main_v46 (F := Ideal) X N W Co Si Q (ix3 r h d)
    = Head.hat (fun k => proj X N W r (at_q h k)) (fun k => Q (ix2 (0 : Fin 1) k)) ⟨d.val + 8, by omega⟩ * Co (ix2 r d)
      + Head.hat (fun k => proj X N W r (at_q h k)) (fun k => Q (ix2 (0 : Fin 1) k)) ⟨d.val, by omega⟩ * Si (ix2 r d) := by
  rw [val_main_v46_apply, val_main_v45_apply, val_main_v43_apply, q_low, q_high, val_main_v42_apply, val_main_v44_apply, cos_row _ r d _ rfl rfl, sin_row _ r d _ rfl rfl]
  rfl

theorem q_rest (r : Fin 8192) (h : Fin 24) (d : Fin 48) : val_main_v47 (F := Ideal) X N W Q (ix3 r h d)
    = Head.hat (fun k => proj X N W r (at_q h k)) (fun k => Q (ix2 (0 : Fin 1) k)) ⟨d.val + 16, by omega⟩ := by
  have e1 : idx_main_v47 (ix3 r h d) = ix3 r h (⟨d.val + 16, by omega⟩ : Fin 64) := funext fun a => by
    match a with
    | ⟨0, _⟩ => rfl
    | ⟨1, _⟩ => rfl
    | ⟨2, _⟩ => exact Fin.ext (by show 16 + d.val = d.val + 16; omega)
  rw [val_main_v47_apply, e1, q_normed]

theorem q_turned (r : Fin 8192) (h : Fin 24) (d : Fin 64) : val_main_v48 (F := Ideal) X N W Co Si Q (ix3 r h d)
    = Head.turn (fun k => proj X N W r (at_q h k)) (fun k => Q (ix2 (0 : Fin 1) k)) (fun k => Co (ix2 r k)) (fun k => Si (ix2 r k)) d := by
  have hl := q_left X N W Co Si Q r h
  have hr := q_right X N W Co Si Q r h
  have ht := q_rest X N W Q r h
  unfold val_main_v48
  generalize val_main_v41 (F := Ideal) X N W Co Si Q = A at hl ⊢
  generalize val_main_v46 (F := Ideal) X N W Co Si Q = B at hr ⊢
  generalize val_main_v47 (F := Ideal) X N W Q = C at ht ⊢
  pointwise []
  unfold Head.turn
  split
  · rw [hl]
  · split
    · rename_i h0 h1
      have h2 : d.val < 16 := by omega
      rw [dif_pos h2, hr]
      refine congrArg₂ (fun a b : EReal => a * Co _ + b * Si _) ?_ rfl
      exact congrArg (Head.hat _ _) (Fin.ext (by show d.val - 8 + 8 = d.val; omega))
    · rename_i h0 h1
      have h2 : ¬d.val < 16 := by omega
      rw [dif_neg h2, ht]
      exact congrArg (Head.hat _ _) (Fin.ext (by show d.val - 8 - 8 + 16 = d.val; omega))

/-! ### The key heads -/

/-- Entry `d` of key head `h`. -/
abbrev at_k (h : Fin 24) (d : Fin 64) : Fin 7168 := ⟨1536 + (64 * h.val + d.val), by omega⟩

theorem k_head (r : Fin 8192) (h : Fin 24) (d : Fin 64) : val_main_v19 (F := Ideal) X N W (ix3 r h d) = proj X N W r (at_k h d) := by
  have e : idx_main_v18 (idx_main_v19 (ix3 r h d)) = ix2 r (at_k h d) := funext fun a => by
    match a with
    | ⟨0, _⟩ => exact Fin.ext (by show ((r.val * 24 + h.val) * 64 + d.val) / 1536 = r.val; omega)
    | ⟨1, _⟩ => exact Fin.ext (by show 1536 + ((r.val * 24 + h.val) * 64 + d.val) % 1536 = 1536 + (64 * h.val + d.val); omega)
  rw [val_main_v19_apply, val_main_v18_apply, e, ref_product]

theorem k_normed (r : Fin 8192) (h : Fin 24) (d : Fin 64) : val_main_v61 (F := Ideal) X N W K (ix3 r h d)
    = Head.hat (fun k => proj X N W r (at_k h k)) (fun k => K (ix2 (0 : Fin 1) k)) d := by
  have e1 : idx_main_v57 (ix3 r h d) = ix3 r h (0 : Fin 1) := funext fun a => by
    match a with
    | ⟨0, _⟩ => rfl
    | ⟨1, _⟩ => rfl
    | ⟨2, _⟩ => rfl
  have e2 : idx_main_v59 (idx_main_v60 (ix3 r h d)) = ix2 (0 : Fin 1) d := funext fun a => by
    match a with
    | ⟨0, _⟩ => rfl
    | ⟨1, _⟩ => rfl
  have es : ∀ k : Fin 64, idx_main_v50 (idx_main_v51 (ix3 r h (0 : Fin 1))) k = ix3 r h k := fun k => funext fun a => by
    match a with
    | ⟨0, _⟩ => rfl
    | ⟨1, _⟩ => rfl
    | ⟨2, _⟩ => rfl
  have hs : ∑ k : Fin 64, val_main_v49 (F := Ideal) X N W (idx_main_v50 (idx_main_v51 (ix3 r h (0 : Fin 1))) k)
      = ∑ k : Fin 64, proj X N W r (at_k h k) * proj X N W r (at_k h k) := Finset.sum_congr rfl fun k _ => by
    rw [es, val_main_v49_apply, k_head]
    rfl
  rw [val_main_v61_apply, val_main_v60_apply, val_main_v59_apply, e2, val_main_v58_apply, k_head, val_main_v57_apply, e1, val_main_v56_apply, val_main_v55_apply, val_main_v54_apply, val_main_cst_7_apply,
    val_main_v53_apply, val_main_v52_apply, val_main_cst_6_apply, val_main_v51_apply, val_main_v50_apply, val_main_cst_5_apply, zero_bits, zero_add, hs]
  rfl

/-- The first and the second eight entries. -/
theorem k_low (r : Fin 8192) (h : Fin 24) (d : Fin 8) : val_main_v62 (F := Ideal) X N W K (ix3 r h d)
    = Head.hat (fun k => proj X N W r (at_k h k)) (fun k => K (ix2 (0 : Fin 1) k)) ⟨d.val, by omega⟩ := by
  rw [← k_normed, val_main_v62_apply]
  refine congrArg (val_main_v61 (F := Ideal) X N W K) (funext fun a => ?_)
  match a with
  | ⟨0, _⟩ => rfl
  | ⟨1, _⟩ => rfl
  | ⟨2, _⟩ => rfl

theorem k_high (r : Fin 8192) (h : Fin 24) (d : Fin 8) : val_main_v63 (F := Ideal) X N W K (ix3 r h d)
    = Head.hat (fun k => proj X N W r (at_k h k)) (fun k => K (ix2 (0 : Fin 1) k)) ⟨d.val + 8, by omega⟩ := by
  rw [← k_normed, val_main_v63_apply]
  refine congrArg (val_main_v61 (F := Ideal) X N W K) (funext fun a => ?_)
  match a with
  | ⟨0, _⟩ => rfl
  | ⟨1, _⟩ => rfl
  | ⟨2, _⟩ => exact Fin.ext (by show 8 + d.val = d.val + 8; omega)

theorem k_left (r : Fin 8192) (h : Fin 24) (d : Fin 8) : val_main_v68 (F := Ideal) X N W Co Si K (ix3 r h d)
    = Head.hat (fun k => proj X N W r (at_k h k)) (fun k => K (ix2 (0 : Fin 1) k)) ⟨d.val, by omega⟩ * Co (ix2 r d)
      - Head.hat (fun k => proj X N W r (at_k h k)) (fun k => K (ix2 (0 : Fin 1) k)) ⟨d.val + 8, by omega⟩ * Si (ix2 r d) := by
  rw [val_main_v68_apply, val_main_v67_apply, val_main_v65_apply, k_low, k_high, val_main_v64_apply, val_main_v66_apply, cos_row _ r d _ rfl rfl, sin_row _ r d _ rfl rfl]
  rfl

theorem k_right (r : Fin 8192) (h : Fin 24) (d : Fin 8) : val_main_v73 (F := Ideal) X N W Co Si K (ix3 r h d)
    = Head.hat (fun k => proj X N W r (at_k h k)) (fun k => K (ix2 (0 : Fin 1) k)) ⟨d.val + 8, by omega⟩ * Co (ix2 r d)
      + Head.hat (fun k => proj X N W r (at_k h k)) (fun k => K (ix2 (0 : Fin 1) k)) ⟨d.val, by omega⟩ * Si (ix2 r d) := by
  rw [val_main_v73_apply, val_main_v72_apply, val_main_v70_apply, k_low, k_high, val_main_v69_apply, val_main_v71_apply, cos_row _ r d _ rfl rfl, sin_row _ r d _ rfl rfl]
  rfl

theorem k_rest (r : Fin 8192) (h : Fin 24) (d : Fin 48) : val_main_v74 (F := Ideal) X N W K (ix3 r h d)
    = Head.hat (fun k => proj X N W r (at_k h k)) (fun k => K (ix2 (0 : Fin 1) k)) ⟨d.val + 16, by omega⟩ := by
  have e1 : idx_main_v74 (ix3 r h d) = ix3 r h (⟨d.val + 16, by omega⟩ : Fin 64) := funext fun a => by
    match a with
    | ⟨0, _⟩ => rfl
    | ⟨1, _⟩ => rfl
    | ⟨2, _⟩ => exact Fin.ext (by show 16 + d.val = d.val + 16; omega)
  rw [val_main_v74_apply, e1, k_normed]

theorem k_turned (r : Fin 8192) (h : Fin 24) (d : Fin 64) : val_main_v75 (F := Ideal) X N W Co Si K (ix3 r h d)
    = Head.turn (fun k => proj X N W r (at_k h k)) (fun k => K (ix2 (0 : Fin 1) k)) (fun k => Co (ix2 r k)) (fun k => Si (ix2 r k)) d := by
  have hl := k_left X N W Co Si K r h
  have hr := k_right X N W Co Si K r h
  have ht := k_rest X N W K r h
  unfold val_main_v75
  generalize val_main_v68 (F := Ideal) X N W Co Si K = A at hl ⊢
  generalize val_main_v73 (F := Ideal) X N W Co Si K = B at hr ⊢
  generalize val_main_v74 (F := Ideal) X N W K = C at ht ⊢
  pointwise []
  unfold Head.turn
  split
  · rw [hl]
  · split
    · rename_i h0 h1
      have h2 : d.val < 16 := by omega
      rw [dif_pos h2, hr]
      refine congrArg₂ (fun a b : EReal => a * Co _ + b * Si _) ?_ rfl
      exact congrArg (Head.hat _ _) (Fin.ext (by show d.val - 8 + 8 = d.val; omega))
    · rename_i h0 h1
      have h2 : ¬d.val < 16 := by omega
      rw [dif_neg h2, ht]
      exact congrArg (Head.hat _ _) (Fin.ext (by show d.val - 8 - 8 + 16 = d.val; omega))

/-- The second result. -/
theorem ref_turn (i : S8192x3072.Idx) : val_main_v78 (F := Ideal) X N W Co Si Q K i = wholeTurned X N W Co Si Q K i := by
  obtain ⟨r, j, rfl⟩ : ∃ (r : Fin 8192) (j : Fin 3072), i = ix2 r j := ⟨i 0, i 1, eq_ix2 i⟩
  have hq : ∀ l : Fin 1536, val_main_v76 (F := Ideal) X N W Co Si Q (ix2 r l) = val_main_v48 (F := Ideal) X N W Co Si Q
      (ix3 r (⟨l.val / 64, by omega⟩ : Fin 24) (⟨l.val % 64, by omega⟩ : Fin 64)) := fun l => by
    rw [val_main_v76_apply]
    refine congrArg (val_main_v48 (F := Ideal) X N W Co Si Q) (funext fun a => ?_)
    match a with
    | ⟨0, _⟩ => exact Fin.ext (by show (r.val * 1536 + l.val) / 1536 = r.val; omega)
    | ⟨1, _⟩ => exact Fin.ext (by show (r.val * 1536 + l.val) / 64 % 24 = l.val / 64; omega)
    | ⟨2, _⟩ => exact Fin.ext (by show (r.val * 1536 + l.val) % 64 = l.val % 64; omega)
  have hk : ∀ l : Fin 1536, val_main_v77 (F := Ideal) X N W Co Si K (ix2 r l) = val_main_v75 (F := Ideal) X N W Co Si K
      (ix3 r (⟨l.val / 64, by omega⟩ : Fin 24) (⟨l.val % 64, by omega⟩ : Fin 64)) := fun l => by
    rw [val_main_v77_apply]
    refine congrArg (val_main_v75 (F := Ideal) X N W Co Si K) (funext fun a => ?_)
    match a with
    | ⟨0, _⟩ => exact Fin.ext (by show (r.val * 1536 + l.val) / 1536 = r.val; omega)
    | ⟨1, _⟩ => exact Fin.ext (by show (r.val * 1536 + l.val) / 64 % 24 = l.val / 64; omega)
    | ⟨2, _⟩ => exact Fin.ext (by show (r.val * 1536 + l.val) % 64 = l.val % 64; omega)
  show _ = turned X N W Co Si Q K r j
  unfold turned val_main_v78
  generalize val_main_v76 (F := Ideal) X N W Co Si Q = A at hq ⊢
  generalize val_main_v77 (F := Ideal) X N W Co Si K = B at hk ⊢
  pointwise []
  split
  · rename_i h
    rw [hq, q_turned]
  · rename_i h
    rw [hk, k_turned]
    simp only [if_neg h]
    have e1 : (⟨(j.val - 1536) % 64, by omega⟩ : Fin 64) = ⟨j.val % 64, by omega⟩ := Fin.ext (by show (j.val - 1536) % 64 = j.val % 64; omega)
    rw [e1]
    refine congrArg (fun f : Fin 64 → EReal => Head.turn f _ _ _ _) (funext fun k => ?_)
    exact congrArg (proj X N W r) (Fin.ext (by show 1536 + (64 * ((j.val - 1536) / 64) + k.val) = 64 * (j.val / 64) + k.val; omega))

end Cert.Kernel12Ideal.InProj

end
-- ==== Proof.InProjClaims.lean ====
/- The even layer's norm and first product, `in_proj0`: the reference's frame and the equality of the two programs. -/
module

public import proofs.«01_k».proof.Defs
public import proofs.«01_k».proof.Proof.InProjRef
public import proofs.«01_k».proof.Proof.Gen.Pre_finite12
public import proofs.«01_k».proof.Proof.AttnPre

@[expose] public section

noncomputable section

namespace Cert.Proof

open Idealize.ShloMosaic Idealize.ShloMosaic.TcCoe Idealize.SL.Sem

/-- With the norm's weights and the product's smaller in size than infinity, they are real. -/
theorem real_in_proj0 (m : (ℓ : Loc Cert.Kernel12Ideal.nD Cert.Kernel12Ideal.τ Cert.Kernel12Ideal.sig) → Buf (Elt Ideal) ℓ)
    (hpre : Cert.Pre_Kernel12Ideal_finite12 m) (c : Dev Cert.Kernel12Ideal.nD) : Cert.Kernel12Ideal.InProj.Real12 m c := by
  obtain ⟨hN, hW⟩ := hpre c
  refine ⟨fun i => ?_, fun i => ?_⟩
  · have hi : Ideal.cmp .olt (max (Cert.Kernel12Ideal.InProj.aN m c i) (-(Cert.Kernel12Ideal.InProj.aN m c i)))
        (FloatOps.ofBits .f32 0x7F800000#32 : Ideal .f32) = 1#1 := congrFun hN i
    rw [Cert.Kernel2Ideal.Attn.top_bits] at hi
    exact Cert.Kernel2Ideal.Attn.real_of_abs _ hi
  · have hi : Ideal.cmp .olt (max (Cert.Kernel12Ideal.InProj.aW m c i) (-(Cert.Kernel12Ideal.InProj.aW m c i)))
        (FloatOps.ofBits .f32 0x7F800000#32 : Ideal .f32) = 1#1 := congrFun hW i
    rw [Cert.Kernel2Ideal.Attn.top_bits] at hi
    exact Cert.Kernel2Ideal.Attn.real_of_abs _ hi

/-- The reference of `in_proj0` halts with its arguments untouched. -/
theorem frame_reference12 : Cert.quiescent_Reference12Ideal := fun m g _ =>
  (θ_run _ _ _).mono (fun r h => ⟨fun c => (h c).2.2.2, sem_eq_zero_of_no_sems (by decide) r.2⟩)
    (Cert.Reference12Ideal.Value.run (F := Ideal) m g)

/-- `in_proj0` leaves the product, the turned queries and keys and the normed rows. -/
theorem algebraic_in_proj0 : Cert.algebraic_Kernel12Ideal_Reference12Ideal_pre_finite12 := fun m g m' g' hpre hargs => by
  refine ⟨fun c => Cert.Kernel12Ideal.InProj.wholeA m c, fun c => Cert.Kernel12Ideal.InProj.wholeB m c,
    fun c => Cert.Kernel12Ideal.InProj.wholeC m c, ?_, ?_⟩
  · refine (θ_run _ _ _).mono (fun r h c => ?_) (Cert.Kernel12Ideal.Value.run_blocks m g)
    obtain ⟨h0, h1, h2, hk⟩ := h c
    exact ⟨h0.trans (Cert.Kernel12Ideal.InProj.final_prod m c),
      h1.trans (Cert.Kernel12Ideal.InProj.final_turn m c (real_in_proj0 m hpre c)),
      h2.trans (Cert.Kernel12Ideal.InProj.final_rows m c), hk⟩
  · refine (θ_run _ _ _).mono (fun r h c => ?_) (Cert.Reference12Ideal.Value.run (F := Ideal) m' g')
    obtain ⟨h0, h1, h2, hk⟩ := h c
    obtain ⟨e0, e1, e2, e3, e4, e5, e6⟩ := hargs c
    refine ⟨(h0.trans (Cert.Reference12Ideal.Read.val_main_v15_eq _ _ _)).trans ?_,
      (h1.trans (Cert.Reference12Ideal.Read.val_main_v78_eq _ _)).trans ?_,
      (h2.trans (Cert.Reference12Ideal.Read.val_main_v79_eq _ _)).trans ?_, hk⟩
    · rw [e0, e1, e2]
      exact funext (Cert.Kernel12Ideal.InProj.ref_prod _ _ _)
    · rw [e0, e1, e2, e3, e4, e5, e6]
      exact funext (Cert.Kernel12Ideal.InProj.ref_turn _ _ _ _ _ _ _)
    · rw [e0, e1]
      exact funext (Cert.Kernel12Ideal.InProj.ref_rows _ _)

end Cert.Proof

end
-- ==== Proof.GateSpec.lean ====
/- The even layer's last product and its gates, backwards, as mathematics on the whole arrays: `U` the incoming gradient,
   `W` the weights, `P` the projections (columns 4608 on: the gate `bg`; 5120 on: `cg`; 5632 on: `hb`; 6144 on: the outer
   gate `z`), `O` the attention's output, `T` the convolution's three taps. -/
module

public import proofs.«01_k».proof.Proof.ConvSpec
public import proofs.«01_k».proof.Proof.HeadTurn

@[expose] public section

noncomputable section

namespace Cert.Gate

open Idealize.ShloMosaic Cert.Conv

abbrev Full : Shape := ⟨2, ![8192, 1024]⟩
abbrev Square : Shape := ⟨2, ![1024, 1024]⟩

/-- The logistic function of a gate. -/
def sg (z : EReal) : EReal := Ideal.div 1 (1 + Ideal.exp (0 - z))

/-- The gate's factor. -/
def silu (z : EReal) : EReal := z * sg z

/-- Its derivative. -/
def dsilu (z : EReal) : EReal := sg z * (1 + z * (1 - sg z))

/-- Column `l` of the second half. -/
abbrev hi (l : Fin 512) : Fin 1024 := ⟨512 + l.val, by omega⟩

/-- Column `l` of the first half. -/
abbrev lo (l : Fin 512) : Fin 1024 := ⟨l.val, by omega⟩

section Whole

variable (U : Full.Idx → EReal) (W : Square.Idx → EReal) (P : Proj.Idx → EReal) (O : Rows.Idx → EReal) (T : Taps.Idx → EReal)

/-- The product's gradient. -/
@[irreducible] def du (r : Fin 8192) (j : Fin 1024) : EReal := ∑ k : Fin 1024, U (ix2 r k) * W (ix2 j k)

/-- The outer gate. -/
def z (r : Fin 8192) (j : Fin 1024) : EReal := P (ix2 r ⟨6144 + j.val, by omega⟩)

/-- The convolution's gate. -/
def bg (r : Fin 8192) (l : Fin 512) : EReal := P (ix2 r ⟨4608 + l.val, by omega⟩)

/-- The causal convolution. -/
@[irreducible] def cv (r : ℕ) (l : Fin 512) : EReal :=
  T (ix2 2 l) * tBack P 0 r l + T (ix2 1 l) * tBack P 1 r l + T (ix2 0 l) * tBack P 2 r l

/-- The gradient of the attention's output. -/
@[irreducible] def doa (r : Fin 8192) (l : Fin 512) : EReal := du U W r (lo l) * silu (z P r (lo l))

/-- The gradient of the gated convolution. -/
@[irreducible] def dyb (r : Fin 8192) (l : Fin 512) : EReal := du U W r (hi l) * silu (z P r (hi l))

/-- What the outer gate multiplies: the attention's output beside the gated convolution. -/
@[irreducible] def gated (r : Fin 8192) (j : Fin 1024) : EReal :=
  if h : j.val < 512 then O (ix2 r ⟨j.val, h⟩) else bg P r ⟨j.val - 512, by omega⟩ * cv P T r.val ⟨j.val - 512, by omega⟩

/-- The outer gate's gradient. -/
@[irreducible] def dz (r : Fin 8192) (j : Fin 1024) : EReal := du U W r j * gated P O T r j * dsilu (z P r j)

/-- Each head's sum of the gradient times the output, at each of its lanes. -/
@[irreducible] def rowSum (r : Fin 8192) (l : Fin 512) : EReal :=
  ∑ k : Fin 64, doa U W P r ⟨64 * (l.val / 64) + k.val, by omega⟩ * O (ix2 r ⟨64 * (l.val / 64) + k.val, by omega⟩)

abbrev wholeDz (i : Full.Idx) : EReal := dz U W P O T (i 0) (i 1)
abbrev wholeDoa (i : Rows.Idx) : EReal := doa U W P (i 0) (i 1)
abbrev wholeSum (i : Rows.Idx) : EReal := rowSum U W P O (i 0) (i 1)
abbrev wholeDbg (i : Rows.Idx) : EReal := dyb U W P (i 0) (i 1) * cv P T (i 0).val (i 1)
abbrev wholeDcv (i : Rows.Idx) : EReal := dyb U W P (i 0) (i 1) * bg P (i 0) (i 1)

end Whole

/-- A sum over the first head's lanes of two. -/
theorem sum_first (f : Fin 128 → EReal) (p : Fin 128 → Prop) [DecidablePred p] (hp : ∀ k, p k ↔ k.val / 64 = 0) :
    (∑ k, if p k then f k else 0) = ∑ k : Fin 64, f ⟨k.val, by omega⟩ := by
  rw [Head.sum_lanes]
  refine (congrArg₂ (· + ·) (Finset.sum_congr rfl fun k _ => ?_) (Finset.sum_eq_zero fun k _ => ?_)).trans (add_zero _)
  · exact (if_pos ((hp _).mpr (by show (64 * 0 + k.val) / 64 = 0; omega))).trans (congrArg f (Fin.ext (by show 64 * 0 + k.val = k.val; omega)))
  · exact if_neg fun h => absurd ((hp _).mp h) (by show ¬ (64 * 1 + k.val) / 64 = 0; omega)

/-- A sum over the second head's lanes of two. -/
theorem sum_second (f : Fin 128 → EReal) (p : Fin 128 → Prop) [DecidablePred p] (hp : ∀ k, p k ↔ k.val / 64 = 0) :
    (∑ k, if p k then 0 else f k) = ∑ k : Fin 64, f ⟨64 + k.val, by omega⟩ := by
  rw [Head.sum_lanes]
  refine (congrArg₂ (· + ·) (Finset.sum_eq_zero fun k _ => ?_) (Finset.sum_congr rfl fun k _ => ?_)).trans (zero_add _)
  · exact if_pos ((hp _).mpr (by show (64 * 0 + k.val) / 64 = 0; omega))
  · exact (if_neg fun h => absurd ((hp _).mp h) (by show ¬ (64 * 1 + k.val) / 64 = 0; omega)).trans (congrArg f (Fin.ext (by show 64 * 1 + k.val = 64 + k.val; omega)))

end Cert.Gate

end
-- ==== Proof.GateBody.lean ====
/- The even layer's last product and its gates, backwards: what one grid point leaves in its five output buffers, element by
   element, from the blocks it reads. -/
module

public import proofs.«01_k».proof.Proof.Gen.Kernel13Ideal.Value
public import proofs.«01_k».proof.Proof.Rows
public import proofs.«01_k».proof.Proof.Columns
public import proofs.«01_k».proof.Proof.GateSpec

@[expose] public section

noncomputable section

namespace Cert.Kernel13Ideal.Gate

open Cert.Kernel13Ideal Cert.Kernel13Ideal.Gen Cert.Kernel13Ideal.Value
open Idealize.ShloMosaic Idealize.ShloMosaic.TcCoe Idealize.SL.Sem Idealize.ShloMosaic.Bands
open Cert.Gate
open Cert.KernelIdeal.Gen (before notFirst)

/-- The comparison "this lane belongs to the first head". -/
theorem low_iff (l : Fin 128) : IntOp.cmpi .slt (BitVec.ofNat 32 l.val) 64#32 = (1 : BitVec 1) ↔ l.val / 64 = 0 := by
  revert l; decide

section Pure

variable (k : ℕ) (i : grid0.Coords) (x0 : Vec Ideal S256x1024 .bf16) (x1 : Vec Ideal S1024x1024 .bf16) (x2 : Vec Ideal S256x512 .f32) (x3 : Vec Ideal S256x512 .f32) (x4 : Vec Ideal S256x512 .f32) (x5 : Vec Ideal S256x1024 .f32) (x6 : Vec Ideal S8x512 .f32) (x7 : Vec Ideal S8x512 .f32) (x8 : Vec Ideal S256x512 .f32) (x9 : Vec Ideal S3x512 .f32)

/-- The block's product. -/
def duB (r : Fin 256) (j : Fin 1024) : EReal := ∑ k : Fin 1024, x0 (ix2 r k) * x1 (ix2 j k)

/-- The block's convolution. -/
def cvB (r : Fin 256) (l : Fin 512) : EReal :=
  x9 (ix2 2 l) * (x3 (ix2 r l) * x4 (ix2 r l)) + x9 (ix2 1 l) * before k x3 x4 x6 x7 ⟨7 + r.val, by omega⟩ l
    + x9 (ix2 0 l) * before k x3 x4 x6 x7 ⟨6 + r.val, by omega⟩ l

def doaB (r : Fin 256) (l : Fin 512) : EReal := duB x0 x1 r (lo l) * silu (x5 (ix2 r (lo l)))

def dybB (r : Fin 256) (l : Fin 512) : EReal := duB x0 x1 r (hi l) * silu (x5 (ix2 r (hi l)))

def dzB (r : Fin 256) (j : Fin 1024) : EReal :=
  duB x0 x1 r j * (if h : j.val < 512 then x8 (ix2 r ⟨j.val, h⟩)
    else x2 (ix2 r ⟨j.val - 512, by omega⟩) * cvB k x3 x4 x6 x7 x9 r ⟨j.val - 512, by omega⟩) * dsilu (x5 (ix2 r j))

def sumB (r : Fin 256) (l : Fin 512) : EReal :=
  ∑ k : Fin 64, doaB x0 x1 x5 r ⟨64 * (l.val / 64) + k.val, by omega⟩ * x8 (ix2 r ⟨64 * (l.val / 64) + k.val, by omega⟩)

/-- What the rows-before buffer holds once both bands are written. -/
theorem canon_before (r : Fin 264) (l : Fin 512) :
    View.canon (Val := Elt Ideal) (s := S264x512) (e := .f32)
      [⟨Rect.unit (s := S264x512) ![8, 0] ![256, 512] inb_S264x512_S256x512_8_0, k0_pay10 (k0_pay8 x3 x4)⟩,
       ⟨Rect.unit (s := S264x512) ![0, 0] ![8, 512] inb_S264x512_S8x512_0_0, k0_pay9 i x6 x7⟩] (ix2 r l)
      = before (i 0).val x3 x4 x6 x7 r l := by
  rw [canon_band, canon_band]
  unfold before
  unfold k0_pay9 k0_pay10 k0_pay8
  have hn' : (i 0).val < 32 := (i 0).isLt
  generalize (i 0).val = n at hn' ⊢
  have hk : (Scalar.cmpi .sgt (BitVec.ofNat 32 n) 0#32 = (1 : BitVec 1)) ↔ 0 < n := notFirst ⟨n, hn'⟩
  pointwise []
  simp only [Scalar.select, hk]
  rfl

theorem sg_at (r : Fin 256) (j : Fin 1024) : k0_pay4 x5 (ix2 r j) = sg (x5 (ix2 r j)) := by
  pointwise [k0_pay4, sg]

theorem silu_at (r : Fin 256) (j : Fin 1024) : k0_pay5 x5 (ix2 r j) = silu (x5 (ix2 r j)) := by
  have h := sg_at x5 r j
  unfold k0_pay5 silu
  generalize k0_pay4 x5 = s at h ⊢
  rw [← h]
  pointwise []

theorem dsilu_at (r : Fin 256) (j : Fin 1024) : k0_pay6 x5 (ix2 r j) = dsilu (x5 (ix2 r j)) := by
  have h := sg_at x5 r j
  unfold k0_pay6 dsilu
  generalize k0_pay4 x5 = s at h ⊢
  rw [← h]
  pointwise []

theorem du_at (r : Fin 256) (j : Fin 1024) : k0_pay7 x0 x1 (ix2 r j) = duB x0 x1 r j := by
  pointwise [k0_pay7, duB]

end Pure

section Pair

variable (a b : Vec Ideal S256x512 .f32)

theorem mask_iff (r : Fin 256) (l : Fin 128) : k0_pay3 (ix2 r l) = (1 : BitVec 1) ↔ l.val / 64 = 0 := by
  unfold k0_pay3
  pointwise []
  exact low_iff l

/-- A pair of heads: each lane gets the sum over its own head's lanes. -/
theorem pair_sum (g : Fin 512 → EReal) (r : Fin 256) (l : Fin 128) (o : ℕ) (ho : o + 128 ≤ 512) (h64 : o % 64 = 0) (f : Fin 128 → EReal)
    (hf : ∀ x : Fin 128, f x = g ⟨o + x.val, by omega⟩) :
    Scalar.select (k0_pay3 (ix2 r l)) (∑ x, Scalar.select (k0_pay3 (ix2 r x)) (f x) 0) (∑ x, Scalar.select (k0_pay3 (ix2 r x)) 0 (f x))
      = ∑ k : Fin 64, g ⟨64 * ((o + l.val) / 64) + k.val, by omega⟩ := by
  unfold Scalar.select
  rw [sum_first f _ (mask_iff r), sum_second f _ (mask_iff r)]
  by_cases h : l.val / 64 = 0
  · refine (if_pos ((mask_iff r l).mpr h)).trans (Finset.sum_congr rfl fun k _ => (hf _).trans (congrArg g (Fin.ext ?_)))
    show o + k.val = 64 * ((o + l.val) / 64) + k.val
    omega
  · refine (if_neg fun h' => h ((mask_iff r l).mp h')).trans (Finset.sum_congr rfl fun k _ => (hf _).trans (congrArg g (Fin.ext ?_)))
    show o + (64 + k.val) = 64 * ((o + l.val) / 64) + k.val
    omega

theorem pair0 (r : Fin 256) (l : Fin 128) : k0_pay19 (F := Ideal) k0_pay3 a b (ix2 r l)
    = ∑ k : Fin 64, b (ix2 r ⟨64 * ((0 + l.val) / 64) + k.val, by omega⟩) * a (ix2 r ⟨64 * ((0 + l.val) / 64) + k.val, by omega⟩) := by
  refine Eq.trans ?_ (pair_sum (fun y => b (ix2 r y) * a (ix2 r y)) r l 0 (by omega) (by omega)
    (fun x => b (ix2 r ⟨x.val, by omega⟩) * a (ix2 r ⟨x.val, by omega⟩)) fun x => ?_)
  · pointwise [k0_pay19, k0_pay18]
  · simp only [zero_add]

theorem pair1 (r : Fin 256) (l : Fin 128) : k0_pay20 (F := Ideal) k0_pay3 a b (ix2 r l)
    = ∑ k : Fin 64, b (ix2 r ⟨64 * ((128 + l.val) / 64) + k.val, by omega⟩) * a (ix2 r ⟨64 * ((128 + l.val) / 64) + k.val, by omega⟩) := by
  refine Eq.trans ?_ (pair_sum (fun y => b (ix2 r y) * a (ix2 r y)) r l 128 (by omega) (by omega) _ fun x => rfl)
  pointwise [k0_pay20, k0_pay18]

theorem pair2 (r : Fin 256) (l : Fin 128) : k0_pay1 (F := Ideal) k0_pay3 (k0_pay18 a b) (ix2 r l)
    = ∑ k : Fin 64, b (ix2 r ⟨64 * ((256 + l.val) / 64) + k.val, by omega⟩) * a (ix2 r ⟨64 * ((256 + l.val) / 64) + k.val, by omega⟩) := by
  refine Eq.trans ?_ (pair_sum (fun y => b (ix2 r y) * a (ix2 r y)) r l 256 (by omega) (by omega) _ fun x => rfl)
  pointwise [k0_pay1, k0_pay18]

theorem pair3 (r : Fin 256) (l : Fin 128) : k0_pay2 (F := Ideal) k0_pay3 (k0_pay18 a b) (ix2 r l)
    = ∑ k : Fin 64, b (ix2 r ⟨64 * ((384 + l.val) / 64) + k.val, by omega⟩) * a (ix2 r ⟨64 * ((384 + l.val) / 64) + k.val, by omega⟩) := by
  refine Eq.trans ?_ (pair_sum (fun y => b (ix2 r y) * a (ix2 r y)) r l 384 (by omega) (by omega) _ fun x => rfl)
  pointwise [k0_pay2, k0_pay18]

end Pair

variable (c : Dev nD) (i : grid0.Coords) {arg1 : Memref sig .tc .vmem S256x1024 .bf16} {harg1 : arg1.IsWhole} {arg2 : Memref sig .tc .vmem S1024x1024 .bf16} {harg2 : arg2.IsWhole} {arg3 : Memref sig .tc .vmem S256x512 .f32} {harg3 : arg3.IsWhole} {arg4 : Memref sig .tc .vmem S256x512 .f32} {harg4 : arg4.IsWhole} {arg5 : Memref sig .tc .vmem S256x512 .f32} {harg5 : arg5.IsWhole} {arg6 : Memref sig .tc .vmem S256x1024 .f32} {harg6 : arg6.IsWhole} {arg7 : Memref sig .tc .vmem S8x512 .f32} {harg7 : arg7.IsWhole} {arg8 : Memref sig .tc .vmem S8x512 .f32} {harg8 : arg8.IsWhole} {arg9 : Memref sig .tc .vmem S256x512 .f32} {harg9 : arg9.IsWhole} {arg10 : Memref sig .tc .vmem S3x512 .f32} {harg10 : arg10.IsWhole} {arg11 : Memref sig .tc .vmem S256x1024 .bf16} {harg11 : arg11.IsWhole} {arg12 : Memref sig .tc .vmem S256x512 .f32} {harg12 : arg12.IsWhole} {arg13 : Memref sig .tc .vmem S256x512 .f32} {harg13 : arg13.IsWhole} {arg14 : Memref sig .tc .vmem S256x512 .bf16} {harg14 : arg14.IsWhole} {arg15 : Memref sig .tc .vmem S256x512 .f32} {harg15 : arg15.IsWhole} {arg16 : Memref sig .tc .vmem S264x512 .f32} {harg16 : arg16.IsWhole}
    (x0 : Vec Ideal S256x1024 .bf16) (x1 : Vec Ideal S1024x1024 .bf16) (x2 : Vec Ideal S256x512 .f32) (x3 : Vec Ideal S256x512 .f32) (x4 : Vec Ideal S256x512 .f32) (x5 : Vec Ideal S256x1024 .f32) (x6 : Vec Ideal S8x512 .f32) (x7 : Vec Ideal S8x512 .f32) (x8 : Vec Ideal S256x512 .f32) (x9 : Vec Ideal S3x512 .f32)

/-- The outer gate's gradient. -/
theorem left10 (r : Fin 256) (l : Fin 1024) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 (ix2 r l)
      = dzB (i 0).val x0 x1 x2 x3 x4 x5 x6 x7 x8 x9 r l := by
  unfold out0_A_10
  rw [View.read_writes_junk_eq_canon]
  unfold kernelRun0_A
  dsimp only
  simp only [kernelRun0_A.sl.r_1, kernelRun0_A.sl.r_2, kernelRun0_A.sl.r_3, kernelRun0_A.sl.v40, kernelRun0_A.sl.v45, kernelRun0_A.sl.HS0_2, View.readCov_eq_canon', View.readAt_eq_ld, Memref.IsWhole.read_unread, ld_all, canon_all]
  refine (?_ : Before (Val := Elt Ideal) (e := .bf16) (a := 256) (N := 1024) 1024 _ (dzB (i 0).val x0 x1 x2 x3 x4 x5 x6 x7 x8 x9)) r l l.isLt
  refine before_more (o := 512) (b := 512) _ _ _ _ ?_ fun r l hl => ?_
  · refine before_more (o := 0) (b := 512) _ _ _ _ (before_none _ _) fun r l hl => ?_
    unfold dzB
    rw [dif_pos (by show 0 + l.val < 512; omega)]
    pointwise [k0_pay12]
    simp only [du_at, dsilu_at, zero_add]
  · unfold dzB
    rw [dif_neg (by show ¬ 512 + l.val < 512; omega)]
    pointwise [k0_pay13, k0_pay11]
    simp only [du_at, dsilu_at, canon_before]
    rfl

/-- The gradient of the attention's output. -/
theorem left11 (r : Fin 256) (l : Fin 512) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 (ix2 r l)
      = doaB x0 x1 x5 r l := by
  unfold out0_A_11
  rw [View.read_writes_junk_eq_canon]
  unfold kernelRun0_A
  dsimp only
  simp only [kernelRun0_A.sl.r, kernelRun0_A.sl.r_2, kernelRun0_A.sl.r_7, View.readCov_eq_canon', View.readAt_eq_ld, Memref.IsWhole.read_unread, ld_all, canon_all]
  pointwise [k0_pay14]
  simp only [du_at, silu_at]
  rfl

/-- The heads' sums. -/
theorem left12 (r : Fin 256) (l : Fin 512) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 (ix2 r l)
      = sumB x0 x1 x5 x8 r l := by
  unfold out0_A_12
  rw [View.read_writes_junk_eq_canon]
  unfold kernelRun0_A
  dsimp only
  simp only [kernelRun0_A.sl.r, kernelRun0_A.sl.r_2, kernelRun0_A.sl.r_6, kernelRun0_A.sl.r_7, kernelRun0_A.sl.r_9, View.readCov_eq_canon', View.readAt_eq_ld, Memref.IsWhole.read_unread, ld_all, canon_all]
  have d : ∀ (r : Fin 256) (y : Fin 512), k0_pay14 (k0_pay5 x5) (k0_pay7 x0 x1) (ix2 r y) = doaB x0 x1 x5 r y := fun r y => by
    pointwise [k0_pay14]
    simp only [du_at, silu_at]
    rfl
  refine (?_ : Before (Val := Elt Ideal) (e := .f32) (a := 256) (N := 512) 512 _ (sumB x0 x1 x5 x8)) r l l.isLt
  refine before_more (o := 384) (b := 128) _ _ _ _ ?_ fun r l hl => (pair3 x8 _ r l).trans (Finset.sum_congr rfl fun k _ => congrArg (· * _) (d r _))
  refine before_more (o := 256) (b := 128) _ _ _ _ ?_ fun r l hl => (pair2 x8 _ r l).trans (Finset.sum_congr rfl fun k _ => congrArg (· * _) (d r _))
  refine before_more (o := 128) (b := 128) _ _ _ _ ?_ fun r l hl => (pair1 x8 _ r l).trans (Finset.sum_congr rfl fun k _ => congrArg (· * _) (d r _))
  refine before_more (o := 0) (b := 128) _ _ _ _ ?_ fun r l hl => (pair0 x8 _ r l).trans (Finset.sum_congr rfl fun k _ => congrArg (· * _) (d r _))
  exact before_none _ _

/-- The gradient of the convolution's gate. -/
theorem left13 (r : Fin 256) (l : Fin 512) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 (ix2 r l)
      = dybB x0 x1 x5 r l * cvB (i 0).val x3 x4 x6 x7 x9 r l := by
  unfold out0_A_13
  rw [View.read_writes_junk_eq_canon]
  unfold kernelRun0_A
  dsimp only
  simp only [kernelRun0_A.sl.r, kernelRun0_A.sl.r_2, kernelRun0_A.sl.r_3, kernelRun0_A.sl.r_4, kernelRun0_A.sl.r_8, kernelRun0_A.sl.v40, kernelRun0_A.sl.v45, kernelRun0_A.sl.HS0_2, View.readCov_eq_canon', View.readAt_eq_ld, Memref.IsWhole.read_unread, ld_all, canon_all]
  pointwise [k0_pay16, k0_pay15, k0_pay11]
  simp only [du_at, silu_at, canon_before]
  rfl

/-- The gradient of the convolution. -/
theorem left14 (r : Fin 256) (l : Fin 512) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 (ix2 r l)
      = dybB x0 x1 x5 r l * x2 (ix2 r l) := by
  unfold out0_A_14
  rw [View.read_writes_junk_eq_canon]
  unfold kernelRun0_A
  dsimp only
  simp only [kernelRun0_A.sl.r, kernelRun0_A.sl.r_2, kernelRun0_A.sl.r_5, kernelRun0_A.sl.r_8, View.readCov_eq_canon', View.readAt_eq_ld, Memref.IsWhole.read_unread, ld_all, canon_all]
  pointwise [k0_pay17, k0_pay15]
  simp only [du_at, silu_at]
  rfl

end Cert.Kernel13Ideal.Gate

end
-- ==== Proof.GateRun.lean ====
/- The even layer's last product and its gates, backwards, on the grid of 32 blocks of 256 rows: the five results, as the
   whole arrays of GateSpec. -/
module

public import proofs.«01_k».proof.Proof.GateBody

@[expose] public section

noncomputable section

namespace Cert.Kernel13Ideal.Gate

open Cert.Kernel13Ideal Cert.Kernel13Ideal.Gen Cert.Kernel13Ideal.Value
open Idealize.ShloMosaic Idealize.ShloMosaic.TcCoe Idealize.SL.Sem
open Idealize.ShloMosaic.Pipeline (Dat)
open Cert.Gate Cert.Conv
open Cert.KernelIdeal.Gen (before)

variable (m : (ℓ : Loc nD τ sig) → Buf (Elt Ideal) ℓ) (c : Dev nD)

/-- The arguments at launch. -/
abbrev aU : Full.Idx → EReal := m ((c : Thread nD τ).loc main_arg0)
abbrev aW : Square.Idx → EReal := m ((c : Thread nD τ).loc main_arg1)
abbrev aP : Proj.Idx → EReal := m ((c : Thread nD τ).loc main_arg2)
abbrev aO : Rows.Idx → EReal := m ((c : Thread nD τ).loc main_arg3)
abbrev aT : Taps.Idx → EReal := m ((c : Thread nD τ).loc main_arg4)

/-! ## Which block each window stages at a grid point -/

theorem point (t : Fin cfg0.N) : ((grid0.coords t) 0).val = t.val :=
  (by decide +kernel : ∀ t : Fin grid0.N, ((grid0.coords t) 0).val = t.val) t

theorem lt_N (t : Fin cfg0.N) : t.val < 32 := t.isLt

/-- Row `r` of block `t`. -/
abbrev row (t : Fin cfg0.N) (r : Fin 256) : Fin 8192 := ⟨256 * t.val + r.val, by have := lt_N t; omega⟩

theorem at0 (t : Fin cfg0.N) (r : Fin 256) (l : Fin 1024) :
    iblk m c 0 t (ix2 r l) = aU m c (ix2 (row t r) l) := by
  have h0 := (by decide +kernel : ∀ t : Fin grid0.N, win0_0.index t 0 = t.val) t
  have h1 := (by decide +kernel : ∀ t : Fin grid0.N, win0_0.index t 1 = 0) t
  show V m c main_arg0 (((cfg0.win 0).blk t).view.emb (ix2 r l)) = _
  rw [V_main_arg0]
  refine congrArg (m ((c : Thread nD τ).loc main_arg0)) (funext fun a => ?_)
  match a with
  | ⟨0, _⟩ => exact Fin.ext (by show win0_0.index t 0 * 256 + 1 * r.val = 256 * t.val + r.val; omega)
  | ⟨1, _⟩ => exact Fin.ext (by show win0_0.index t 1 * 1024 + 1 * l.val = l.val; omega)

theorem at1 (t : Fin cfg0.N) (r : Fin 1024) (l : Fin 1024) :
    iblk m c 1 t (ix2 r l) = aW m c (ix2 r l) := by
  have h0 := (by decide +kernel : ∀ t : Fin grid0.N, win0_1.index t 0 = 0) t
  have h1 := (by decide +kernel : ∀ t : Fin grid0.N, win0_1.index t 1 = 0) t
  show V m c main_arg1 (((cfg0.win 1).blk t).view.emb (ix2 r l)) = _
  rw [V_main_arg1]
  refine congrArg (m ((c : Thread nD τ).loc main_arg1)) (funext fun a => ?_)
  match a with
  | ⟨0, _⟩ => exact Fin.ext (by show win0_1.index t 0 * 1024 + 1 * r.val = r.val; omega)
  | ⟨1, _⟩ => exact Fin.ext (by show win0_1.index t 1 * 1024 + 1 * l.val = l.val; omega)

theorem at2 (t : Fin cfg0.N) (r : Fin 256) (l : Fin 512) :
    iblk m c 2 t (ix2 r l) = bg (aP m c) (row t r) l := by
  have h0 := (by decide +kernel : ∀ t : Fin grid0.N, win0_2.index t 0 = t.val) t
  have h1 := (by decide +kernel : ∀ t : Fin grid0.N, win0_2.index t 1 = 9) t
  show V m c main_arg2 (((cfg0.win 2).blk t).view.emb (ix2 r l)) = _
  rw [V_main_arg2]
  refine congrArg (m ((c : Thread nD τ).loc main_arg2)) (funext fun a => ?_)
  match a with
  | ⟨0, _⟩ => exact Fin.ext (by show win0_2.index t 0 * 256 + 1 * r.val = 256 * t.val + r.val; omega)
  | ⟨1, _⟩ => exact Fin.ext (by show win0_2.index t 1 * 512 + 1 * l.val = 4608 + l.val; omega)

theorem at3 (t : Fin cfg0.N) (r : Fin 256) (l : Fin 512) :
    iblk m c 3 t (ix2 r l) = cg (aP m c) (row t r) l := by
  have h0 := (by decide +kernel : ∀ t : Fin grid0.N, win0_3.index t 0 = t.val) t
  have h1 := (by decide +kernel : ∀ t : Fin grid0.N, win0_3.index t 1 = 10) t
  show V m c main_arg2 (((cfg0.win 3).blk t).view.emb (ix2 r l)) = _
  rw [V_main_arg2]
  refine congrArg (m ((c : Thread nD τ).loc main_arg2)) (funext fun a => ?_)
  match a with
  | ⟨0, _⟩ => exact Fin.ext (by show win0_3.index t 0 * 256 + 1 * r.val = 256 * t.val + r.val; omega)
  | ⟨1, _⟩ => exact Fin.ext (by show win0_3.index t 1 * 512 + 1 * l.val = 5120 + l.val; omega)

theorem at4 (t : Fin cfg0.N) (r : Fin 256) (l : Fin 512) :
    iblk m c 4 t (ix2 r l) = hb (aP m c) (row t r) l := by
  have h0 := (by decide +kernel : ∀ t : Fin grid0.N, win0_4.index t 0 = t.val) t
  have h1 := (by decide +kernel : ∀ t : Fin grid0.N, win0_4.index t 1 = 11) t
  show V m c main_arg2 (((cfg0.win 4).blk t).view.emb (ix2 r l)) = _
  rw [V_main_arg2]
  refine congrArg (m ((c : Thread nD τ).loc main_arg2)) (funext fun a => ?_)
  match a with
  | ⟨0, _⟩ => exact Fin.ext (by show win0_4.index t 0 * 256 + 1 * r.val = 256 * t.val + r.val; omega)
  | ⟨1, _⟩ => exact Fin.ext (by show win0_4.index t 1 * 512 + 1 * l.val = 5632 + l.val; omega)

theorem at5 (t : Fin cfg0.N) (r : Fin 256) (l : Fin 1024) :
    iblk m c 5 t (ix2 r l) = z (aP m c) (row t r) l := by
  have h0 := (by decide +kernel : ∀ t : Fin grid0.N, win0_5.index t 0 = t.val) t
  have h1 := (by decide +kernel : ∀ t : Fin grid0.N, win0_5.index t 1 = 6) t
  show V m c main_arg2 (((cfg0.win 5).blk t).view.emb (ix2 r l)) = _
  rw [V_main_arg2]
  refine congrArg (m ((c : Thread nD τ).loc main_arg2)) (funext fun a => ?_)
  match a with
  | ⟨0, _⟩ => exact Fin.ext (by show win0_5.index t 0 * 256 + 1 * r.val = 256 * t.val + r.val; omega)
  | ⟨1, _⟩ => exact Fin.ext (by show win0_5.index t 1 * 1024 + 1 * l.val = 6144 + l.val; omega)

theorem at6 (t : Fin cfg0.N) (ht : 0 < t.val) (r : Fin 8) (l : Fin 512) (h : 256 * t.val + r.val - 8 < 8192) :
    iblk m c 6 t (ix2 r l) = cg (aP m c) ⟨256 * t.val + r.val - 8, h⟩ l := by
  have h0 := (by decide +kernel : ∀ t : Fin grid0.N, 0 < t.val → win0_6.index t 0 = t.val * 32 - 1) t ht
  have h1 := (by decide +kernel : ∀ t : Fin grid0.N, win0_6.index t 1 = 10) t
  show V m c main_arg2 (((cfg0.win 6).blk t).view.emb (ix2 r l)) = _
  rw [V_main_arg2]
  refine congrArg (m ((c : Thread nD τ).loc main_arg2)) (funext fun a => ?_)
  match a with
  | ⟨0, _⟩ => exact Fin.ext (by show win0_6.index t 0 * 8 + 1 * r.val = 256 * t.val + r.val - 8; omega)
  | ⟨1, _⟩ => exact Fin.ext (by show win0_6.index t 1 * 512 + 1 * l.val = 5120 + l.val; omega)

theorem at7 (t : Fin cfg0.N) (ht : 0 < t.val) (r : Fin 8) (l : Fin 512) (h : 256 * t.val + r.val - 8 < 8192) :
    iblk m c 7 t (ix2 r l) = hb (aP m c) ⟨256 * t.val + r.val - 8, h⟩ l := by
  have h0 := (by decide +kernel : ∀ t : Fin grid0.N, 0 < t.val → win0_7.index t 0 = t.val * 32 - 1) t ht
  have h1 := (by decide +kernel : ∀ t : Fin grid0.N, win0_7.index t 1 = 11) t
  show V m c main_arg2 (((cfg0.win 7).blk t).view.emb (ix2 r l)) = _
  rw [V_main_arg2]
  refine congrArg (m ((c : Thread nD τ).loc main_arg2)) (funext fun a => ?_)
  match a with
  | ⟨0, _⟩ => exact Fin.ext (by show win0_7.index t 0 * 8 + 1 * r.val = 256 * t.val + r.val - 8; omega)
  | ⟨1, _⟩ => exact Fin.ext (by show win0_7.index t 1 * 512 + 1 * l.val = 5632 + l.val; omega)

theorem at8 (t : Fin cfg0.N) (r : Fin 256) (l : Fin 512) :
    iblk m c 8 t (ix2 r l) = aO m c (ix2 (row t r) l) := by
  have h0 := (by decide +kernel : ∀ t : Fin grid0.N, win0_8.index t 0 = t.val) t
  have h1 := (by decide +kernel : ∀ t : Fin grid0.N, win0_8.index t 1 = 0) t
  show V m c main_arg3 (((cfg0.win 8).blk t).view.emb (ix2 r l)) = _
  rw [V_main_arg3]
  refine congrArg (m ((c : Thread nD τ).loc main_arg3)) (funext fun a => ?_)
  match a with
  | ⟨0, _⟩ => exact Fin.ext (by show win0_8.index t 0 * 256 + 1 * r.val = 256 * t.val + r.val; omega)
  | ⟨1, _⟩ => exact Fin.ext (by show win0_8.index t 1 * 512 + 1 * l.val = l.val; omega)

theorem at9 (t : Fin cfg0.N) (r : Fin 3) (l : Fin 512) :
    iblk m c 9 t (ix2 r l) = aT m c (ix2 r l) := by
  have h0 := (by decide +kernel : ∀ t : Fin grid0.N, win0_9.index t 0 = 0) t
  have h1 := (by decide +kernel : ∀ t : Fin grid0.N, win0_9.index t 1 = 0) t
  show V m c main_arg4 (((cfg0.win 9).blk t).view.emb (ix2 r l)) = _
  rw [V_main_arg4]
  refine congrArg (m ((c : Thread nD τ).loc main_arg4)) (funext fun a => ?_)
  match a with
  | ⟨0, _⟩ => exact Fin.ext (by show win0_9.index t 0 * 3 + 1 * r.val = r.val; omega)
  | ⟨1, _⟩ => exact Fin.ext (by show win0_9.index t 1 * 512 + 1 * l.val = l.val; omega)

/-! ## A block's values, as rows of the whole arrays -/

theorem before_eq (t : Fin cfg0.N) (r : Fin 264) (l : Fin 512) (j q : ℕ) (hr : r.val + j = q + 8) (hj : j ≤ 8) :
    before t.val (iblk m c 3 t) (iblk m c 4 t) (iblk m c 6 t) (iblk m c 7 t) r l = tBack (aP m c) j (256 * t.val + q) l := by
  have ht := lt_N t
  unfold before tBack
  by_cases h8 : 8 ≤ r.val
  · rw [dif_pos ⟨h8, by omega⟩, dif_pos (by omega), at3, at4]
    have e : row t ⟨r.val - 8, by omega⟩ = ⟨256 * t.val + q - j, by omega⟩ := Fin.ext (by show 256 * t.val + (r.val - 8) = 256 * t.val + q - j; omega)
    rw [e]
  · rw [dif_neg (by omega), dif_pos ⟨by omega, by omega⟩]
    by_cases h0 : 0 < t.val
    · rw [if_pos h0, dif_pos (by omega), at6 m c t h0 _ l (by dsimp only; omega), at7 m c t h0 _ l (by dsimp only; omega)]
      have e : 256 * t.val + (r.val - 0) - 8 = 256 * t.val + q - j := by omega
      simp only [e]
    · rw [if_neg h0, dif_neg (by omega)]

theorem cv_eq (t : Fin cfg0.N) (r : Fin 256) (l : Fin 512) :
    cvB t.val (iblk m c 3 t) (iblk m c 4 t) (iblk m c 6 t) (iblk m c 7 t) (iblk m c 9 t) r l
      = cv (aP m c) (aT m c) (256 * t.val + r.val) l := by
  have ht := lt_N t
  unfold cvB cv
  rw [at9, at9, at9, at3, at4, before_eq m c t _ l 1 r.val (by dsimp only; omega) (by omega),
    before_eq m c t _ l 2 r.val (by dsimp only; omega) (by omega)]
  have e : cg (aP m c) (row t r) l * hb (aP m c) (row t r) l = tBack (aP m c) 0 (256 * t.val + r.val) l := by
    unfold tBack
    rw [dif_pos ⟨Nat.zero_le _, by omega⟩]
    rfl
  rw [e]

theorem du_eq (t : Fin cfg0.N) (r : Fin 256) (j : Fin 1024) :
    duB (iblk m c 0 t) (iblk m c 1 t) r j = du (aU m c) (aW m c) (row t r) j := by
  unfold duB du
  exact Finset.sum_congr rfl fun k _ => by rw [at0, at1]

theorem doa_eq (t : Fin cfg0.N) (r : Fin 256) (l : Fin 512) :
    doaB (iblk m c 0 t) (iblk m c 1 t) (iblk m c 5 t) r l = doa (aU m c) (aW m c) (aP m c) (row t r) l := by
  unfold doaB doa
  rw [du_eq, at5]

theorem dyb_eq (t : Fin cfg0.N) (r : Fin 256) (l : Fin 512) :
    dybB (iblk m c 0 t) (iblk m c 1 t) (iblk m c 5 t) r l = dyb (aU m c) (aW m c) (aP m c) (row t r) l := by
  unfold dybB dyb
  rw [du_eq, at5]

theorem dz_eq (t : Fin cfg0.N) (r : Fin 256) (j : Fin 1024) :
    dzB t.val (iblk m c 0 t) (iblk m c 1 t) (iblk m c 2 t) (iblk m c 3 t) (iblk m c 4 t) (iblk m c 5 t) (iblk m c 6 t) (iblk m c 7 t) (iblk m c 8 t) (iblk m c 9 t) r j
      = dz (aU m c) (aW m c) (aP m c) (aO m c) (aT m c) (row t r) j := by
  unfold dzB dz gated
  rw [du_eq, at5]
  by_cases h : j.val < 512
  · rw [dif_pos h, dif_pos h, at8]
  · rw [dif_neg h, dif_neg h, at2, cv_eq]

theorem sum_eq (t : Fin cfg0.N) (r : Fin 256) (l : Fin 512) :
    sumB (iblk m c 0 t) (iblk m c 1 t) (iblk m c 5 t) (iblk m c 8 t) r l
      = rowSum (aU m c) (aW m c) (aP m c) (aO m c) (row t r) l := by
  unfold sumB rowSum
  exact Finset.sum_congr rfl fun k _ => by rw [doa_eq, at8]

/-! ## The five result arrays -/

theorem final10 : (dats m 0 c).arrAt 10 cfg0.N = wholeDz (aU m c) (aW m c) (aP m c) (aO m c) (aT m c) := by
  refine (dats m 0 c).arrAt_eq_of_cover 10 (wholeDz (aU m c) (aW m c) (aP m c) (aO m c) (aT m c)) (fun t _ => ?_) (fun i => ?_)
  · rw [flushed10_A]
    funext j
    obtain ⟨r, l, rfl⟩ : ∃ (r : Fin 256) (l : Fin 1024), j = ix2 r l := ⟨j 0, j 1, eq_ix2 j⟩
    have h0 := (by decide +kernel : ∀ t : Fin grid0.N, win0_10.index t 0 = t.val) t
    have h1 := (by decide +kernel : ∀ t : Fin grid0.N, win0_10.index t 1 = 0) t
    have ht := lt_N t
    refine (left10 c (grid0.coords t) (iblk m c 0 t) (iblk m c 1 t) (iblk m c 2 t) (iblk m c 3 t) (iblk m c 4 t) (iblk m c 5 t) (iblk m c 6 t) (iblk m c 7 t) (iblk m c 8 t) (iblk m c 9 t) r l).trans ?_
    show _ = wholeDz (aU m c) (aW m c) (aP m c) (aO m c) (aT m c) (((cfg0.win 10).blk t).view.emb (ix2 r l))
    have e : ((cfg0.win 10).blk t).view.emb (ix2 r l) = (ix2 (row t r) l : Full.Idx) := by
      funext a
      match a with
      | ⟨0, _⟩ => exact Fin.ext (by show win0_10.index t 0 * 256 + 1 * r.val = 256 * t.val + r.val; omega)
      | ⟨1, _⟩ => exact Fin.ext (by show win0_10.index t 1 * 1024 + 1 * l.val = l.val; omega)
    rw [e, point, dz_eq]
    rfl
  · have hi : (i 0).val < 8192 := (i 0).isLt
    have hj : (i 1).val < 1024 := (i 1).isLt
    let t : Fin cfg0.N := ⟨(i 0).val / 256, show (i 0).val / 256 < 32 by omega⟩
    have ht : t.val = (i 0).val / 256 := rfl
    have h0 := (by decide +kernel : ∀ t : Fin grid0.N, win0_10.index t 0 = t.val) t
    have h1 := (by decide +kernel : ∀ t : Fin grid0.N, win0_10.index t 1 = 0) t
    refine ⟨t, flush0_10 t, ?_⟩
    show i ∈ ((View.whole main_v0_0).slice (win0_10.rect t)).set
    rw [View.set_slice_whole, Rect.mem_set_unit]
    intro a
    match a with
    | ⟨0, _⟩ => show win0_10.index t 0 * 256 ≤ (i 0).val ∧ (i 0).val < win0_10.index t 0 * 256 + 256; omega
    | ⟨1, _⟩ => show win0_10.index t 1 * 1024 ≤ (i 1).val ∧ (i 1).val < win0_10.index t 1 * 1024 + 1024; omega

theorem final11 : (dats m 0 c).arrAt 11 cfg0.N = wholeDoa (aU m c) (aW m c) (aP m c) := by
  refine (dats m 0 c).arrAt_eq_of_cover 11 (wholeDoa (aU m c) (aW m c) (aP m c)) (fun t _ => ?_) (fun i => ?_)
  · rw [flushed11_A]
    funext j
    obtain ⟨r, l, rfl⟩ : ∃ (r : Fin 256) (l : Fin 512), j = ix2 r l := ⟨j 0, j 1, eq_ix2 j⟩
    have h0 := (by decide +kernel : ∀ t : Fin grid0.N, win0_11.index t 0 = t.val) t
    have h1 := (by decide +kernel : ∀ t : Fin grid0.N, win0_11.index t 1 = 0) t
    have ht := lt_N t
    refine (left11 c (grid0.coords t) (iblk m c 0 t) (iblk m c 1 t) (iblk m c 2 t) (iblk m c 3 t) (iblk m c 4 t) (iblk m c 5 t) (iblk m c 6 t) (iblk m c 7 t) (iblk m c 8 t) (iblk m c 9 t) r l).trans ?_
    show _ = wholeDoa (aU m c) (aW m c) (aP m c) (((cfg0.win 11).blk t).view.emb (ix2 r l))
    have e : ((cfg0.win 11).blk t).view.emb (ix2 r l) = (ix2 (row t r) l : Rows.Idx) := by
      funext a
      match a with
      | ⟨0, _⟩ => exact Fin.ext (by show win0_11.index t 0 * 256 + 1 * r.val = 256 * t.val + r.val; omega)
      | ⟨1, _⟩ => exact Fin.ext (by show win0_11.index t 1 * 512 + 1 * l.val = l.val; omega)
    rw [e, doa_eq]
    rfl
  · have hi : (i 0).val < 8192 := (i 0).isLt
    have hj : (i 1).val < 512 := (i 1).isLt
    let t : Fin cfg0.N := ⟨(i 0).val / 256, show (i 0).val / 256 < 32 by omega⟩
    have ht : t.val = (i 0).val / 256 := rfl
    have h0 := (by decide +kernel : ∀ t : Fin grid0.N, win0_11.index t 0 = t.val) t
    have h1 := (by decide +kernel : ∀ t : Fin grid0.N, win0_11.index t 1 = 0) t
    refine ⟨t, flush0_11 t, ?_⟩
    show i ∈ ((View.whole main_v0_1).slice (win0_11.rect t)).set
    rw [View.set_slice_whole, Rect.mem_set_unit]
    intro a
    match a with
    | ⟨0, _⟩ => show win0_11.index t 0 * 256 ≤ (i 0).val ∧ (i 0).val < win0_11.index t 0 * 256 + 256; omega
    | ⟨1, _⟩ => show win0_11.index t 1 * 512 ≤ (i 1).val ∧ (i 1).val < win0_11.index t 1 * 512 + 512; omega

theorem final12 : (dats m 0 c).arrAt 12 cfg0.N = wholeSum (aU m c) (aW m c) (aP m c) (aO m c) := by
  refine (dats m 0 c).arrAt_eq_of_cover 12 (wholeSum (aU m c) (aW m c) (aP m c) (aO m c)) (fun t _ => ?_) (fun i => ?_)
  · rw [flushed12_A]
    funext j
    obtain ⟨r, l, rfl⟩ : ∃ (r : Fin 256) (l : Fin 512), j = ix2 r l := ⟨j 0, j 1, eq_ix2 j⟩
    have h0 := (by decide +kernel : ∀ t : Fin grid0.N, win0_12.index t 0 = t.val) t
    have h1 := (by decide +kernel : ∀ t : Fin grid0.N, win0_12.index t 1 = 0) t
    have ht := lt_N t
    refine (left12 c (grid0.coords t) (iblk m c 0 t) (iblk m c 1 t) (iblk m c 2 t) (iblk m c 3 t) (iblk m c 4 t) (iblk m c 5 t) (iblk m c 6 t) (iblk m c 7 t) (iblk m c 8 t) (iblk m c 9 t) r l).trans ?_
    show _ = wholeSum (aU m c) (aW m c) (aP m c) (aO m c) (((cfg0.win 12).blk t).view.emb (ix2 r l))
    have e : ((cfg0.win 12).blk t).view.emb (ix2 r l) = (ix2 (row t r) l : Rows.Idx) := by
      funext a
      match a with
      | ⟨0, _⟩ => exact Fin.ext (by show win0_12.index t 0 * 256 + 1 * r.val = 256 * t.val + r.val; omega)
      | ⟨1, _⟩ => exact Fin.ext (by show win0_12.index t 1 * 512 + 1 * l.val = l.val; omega)
    rw [e, sum_eq]
    rfl
  · have hi : (i 0).val < 8192 := (i 0).isLt
    have hj : (i 1).val < 512 := (i 1).isLt
    let t : Fin cfg0.N := ⟨(i 0).val / 256, show (i 0).val / 256 < 32 by omega⟩
    have ht : t.val = (i 0).val / 256 := rfl
    have h0 := (by decide +kernel : ∀ t : Fin grid0.N, win0_12.index t 0 = t.val) t
    have h1 := (by decide +kernel : ∀ t : Fin grid0.N, win0_12.index t 1 = 0) t
    refine ⟨t, flush0_12 t, ?_⟩
    show i ∈ ((View.whole main_v0_2).slice (win0_12.rect t)).set
    rw [View.set_slice_whole, Rect.mem_set_unit]
    intro a
    match a with
    | ⟨0, _⟩ => show win0_12.index t 0 * 256 ≤ (i 0).val ∧ (i 0).val < win0_12.index t 0 * 256 + 256; omega
    | ⟨1, _⟩ => show win0_12.index t 1 * 512 ≤ (i 1).val ∧ (i 1).val < win0_12.index t 1 * 512 + 512; omega

theorem final13 : (dats m 0 c).arrAt 13 cfg0.N = wholeDbg (aU m c) (aW m c) (aP m c) (aT m c) := by
  refine (dats m 0 c).arrAt_eq_of_cover 13 (wholeDbg (aU m c) (aW m c) (aP m c) (aT m c)) (fun t _ => ?_) (fun i => ?_)
  · rw [flushed13_A]
    funext j
    obtain ⟨r, l, rfl⟩ : ∃ (r : Fin 256) (l : Fin 512), j = ix2 r l := ⟨j 0, j 1, eq_ix2 j⟩
    have h0 := (by decide +kernel : ∀ t : Fin grid0.N, win0_13.index t 0 = t.val) t
    have h1 := (by decide +kernel : ∀ t : Fin grid0.N, win0_13.index t 1 = 0) t
    have ht := lt_N t
    refine (left13 c (grid0.coords t) (iblk m c 0 t) (iblk m c 1 t) (iblk m c 2 t) (iblk m c 3 t) (iblk m c 4 t) (iblk m c 5 t) (iblk m c 6 t) (iblk m c 7 t) (iblk m c 8 t) (iblk m c 9 t) r l).trans ?_
    show _ = wholeDbg (aU m c) (aW m c) (aP m c) (aT m c) (((cfg0.win 13).blk t).view.emb (ix2 r l))
    have e : ((cfg0.win 13).blk t).view.emb (ix2 r l) = (ix2 (row t r) l : Rows.Idx) := by
      funext a
      match a with
      | ⟨0, _⟩ => exact Fin.ext (by show win0_13.index t 0 * 256 + 1 * r.val = 256 * t.val + r.val; omega)
      | ⟨1, _⟩ => exact Fin.ext (by show win0_13.index t 1 * 512 + 1 * l.val = l.val; omega)
    rw [e, point, dyb_eq, cv_eq]
    rfl
  · have hi : (i 0).val < 8192 := (i 0).isLt
    have hj : (i 1).val < 512 := (i 1).isLt
    let t : Fin cfg0.N := ⟨(i 0).val / 256, show (i 0).val / 256 < 32 by omega⟩
    have ht : t.val = (i 0).val / 256 := rfl
    have h0 := (by decide +kernel : ∀ t : Fin grid0.N, win0_13.index t 0 = t.val) t
    have h1 := (by decide +kernel : ∀ t : Fin grid0.N, win0_13.index t 1 = 0) t
    refine ⟨t, flush0_13 t, ?_⟩
    show i ∈ ((View.whole main_v0_3).slice (win0_13.rect t)).set
    rw [View.set_slice_whole, Rect.mem_set_unit]
    intro a
    match a with
    | ⟨0, _⟩ => show win0_13.index t 0 * 256 ≤ (i 0).val ∧ (i 0).val < win0_13.index t 0 * 256 + 256; omega
    | ⟨1, _⟩ => show win0_13.index t 1 * 512 ≤ (i 1).val ∧ (i 1).val < win0_13.index t 1 * 512 + 512; omega

theorem final14 : (dats m 0 c).arrAt 14 cfg0.N = wholeDcv (aU m c) (aW m c) (aP m c) := by
  refine (dats m 0 c).arrAt_eq_of_cover 14 (wholeDcv (aU m c) (aW m c) (aP m c)) (fun t _ => ?_) (fun i => ?_)
  · rw [flushed14_A]
    funext j
    obtain ⟨r, l, rfl⟩ : ∃ (r : Fin 256) (l : Fin 512), j = ix2 r l := ⟨j 0, j 1, eq_ix2 j⟩
    have h0 := (by decide +kernel : ∀ t : Fin grid0.N, win0_14.index t 0 = t.val) t
    have h1 := (by decide +kernel : ∀ t : Fin grid0.N, win0_14.index t 1 = 0) t
    have ht := lt_N t
    refine (left14 c (grid0.coords t) (iblk m c 0 t) (iblk m c 1 t) (iblk m c 2 t) (iblk m c 3 t) (iblk m c 4 t) (iblk m c 5 t) (iblk m c 6 t) (iblk m c 7 t) (iblk m c 8 t) (iblk m c 9 t) r l).trans ?_
    show _ = wholeDcv (aU m c) (aW m c) (aP m c) (((cfg0.win 14).blk t).view.emb (ix2 r l))
    have e : ((cfg0.win 14).blk t).view.emb (ix2 r l) = (ix2 (row t r) l : Rows.Idx) := by
      funext a
      match a with
      | ⟨0, _⟩ => exact Fin.ext (by show win0_14.index t 0 * 256 + 1 * r.val = 256 * t.val + r.val; omega)
      | ⟨1, _⟩ => exact Fin.ext (by show win0_14.index t 1 * 512 + 1 * l.val = l.val; omega)
    rw [e, dyb_eq, at2]
    rfl
  · have hi : (i 0).val < 8192 := (i 0).isLt
    have hj : (i 1).val < 512 := (i 1).isLt
    let t : Fin cfg0.N := ⟨(i 0).val / 256, show (i 0).val / 256 < 32 by omega⟩
    have ht : t.val = (i 0).val / 256 := rfl
    have h0 := (by decide +kernel : ∀ t : Fin grid0.N, win0_14.index t 0 = t.val) t
    have h1 := (by decide +kernel : ∀ t : Fin grid0.N, win0_14.index t 1 = 0) t
    refine ⟨t, flush0_14 t, ?_⟩
    show i ∈ ((View.whole main_v0_4).slice (win0_14.rect t)).set
    rw [View.set_slice_whole, Rect.mem_set_unit]
    intro a
    match a with
    | ⟨0, _⟩ => show win0_14.index t 0 * 256 ≤ (i 0).val ∧ (i 0).val < win0_14.index t 0 * 256 + 256; omega
    | ⟨1, _⟩ => show win0_14.index t 1 * 512 ≤ (i 1).val ∧ (i 1).val < win0_14.index t 1 * 512 + 512; omega

end Cert.Kernel13Ideal.Gate

end
-- ==== Proof.GateReal.lean ====
/- The outer gate's gradient: where the gradient it multiplies is real, the two ways of writing it agree, for any gate. -/
module

public import proofs.«01_k».proof.Proof.GateSpec

@[expose] public section

noncomputable section

namespace Cert.Gate

open Idealize.ShloMosaic Cert.Conv

abbrev IsReal (x : EReal) : Prop := x ≠ ⊤ ∧ x ≠ ⊥

theorem real_mul {a b : EReal} (ha : IsReal a) (hb : IsReal b) : IsReal (a * b) := by
  lift a to ℝ using ha
  lift b to ℝ using hb
  rw [← EReal.coe_mul]
  exact ⟨EReal.coe_ne_top _, EReal.coe_ne_bot _⟩

theorem real_add {a b : EReal} (ha : IsReal a) (hb : IsReal b) : IsReal (a + b) := by
  lift a to ℝ using ha
  lift b to ℝ using hb
  rw [← EReal.coe_add]
  exact ⟨EReal.coe_ne_top _, EReal.coe_ne_bot _⟩

theorem real_zero : IsReal 0 := ⟨EReal.zero_ne_top, EReal.zero_ne_bot⟩

theorem real_sum {ι : Type} (s : Finset ι) (f : ι → EReal) (h : ∀ k, IsReal (f k)) : IsReal (∑ k ∈ s, f k) := by
  classical
  induction s using Finset.induction_on with
  | empty => exact real_zero
  | insert a s ha ih =>
    rw [Finset.sum_insert ha]
    exact real_add (h a) ih

theorem one_sub_one : (1 : EReal) - 1 = 0 := by
  rw [← EReal.coe_one, ← EReal.coe_sub, sub_self, EReal.coe_zero]

theorem sg_real (y : ℝ) : sg (y : EReal) = ((1 / (1 + Real.exp (-y)) : ℝ) : EReal) := by
  have hp : (1 + Real.exp (-y)) ≠ 0 := (by positivity : (0 : ℝ) < 1 + Real.exp (-y)).ne'
  unfold sg
  have e : (0 : EReal) - (y : EReal) = ((-y : ℝ) : EReal) := by rw [← EReal.coe_zero, ← EReal.coe_sub, zero_sub]
  rw [e, show Ideal.exp ((-y : ℝ) : EReal) = ((Real.exp (-y) : ℝ) : EReal) from rfl, ← EReal.coe_one, ← EReal.coe_add,
    Ideal.div_coe hp, ← EReal.coe_mul, one_mul]

theorem sg_top : sg ⊤ = 1 := by
  unfold sg
  have e : (0 : EReal) - ⊤ = ⊥ := by rw [sub_eq_add_neg, zero_add, EReal.neg_top]
  rw [e, show Ideal.exp ⊥ = 0 from rfl, add_zero, ← EReal.coe_one, Ideal.div_coe one_ne_zero, ← EReal.coe_mul]
  norm_num

theorem sg_bot : sg ⊥ = 0 := by
  unfold sg
  have e : (0 : EReal) - ⊥ = ⊤ := by rw [sub_eq_add_neg, zero_add, EReal.neg_bot]
  rw [e, show Ideal.exp ⊤ = ⊤ from rfl, ← EReal.coe_one, EReal.coe_add_top]
  unfold Ideal.div
  rw [if_neg (by simp), EReal.inv_top, mul_zero]

/-- The derivative of `z * sg z` by the product rule, times a real number. -/
theorem gate_grad (g z : EReal) (hg : IsReal g) : g * sg z + z * g * (sg z * (1 - sg z)) = g * dsilu z := by
  lift g to ℝ using hg
  unfold dsilu
  induction z using EReal.rec with
  | bot => rw [sg_bot]; simp
  | top => rw [sg_top, one_sub_one]; simp
  | coe y =>
    rw [sg_real]
    generalize 1 / (1 + Real.exp (-y)) = s
    have e : (1 : EReal) - (s : EReal) = ((1 - s : ℝ) : EReal) := by rw [← EReal.coe_one, ← EReal.coe_sub]
    rw [e, ← EReal.coe_one]
    simp only [← EReal.coe_mul, ← EReal.coe_add]
    exact congrArg _ (by ring)

section Whole

variable (U : Full.Idx → EReal) (W : Square.Idx → EReal) (P : Proj.Idx → EReal) (O : Rows.Idx → EReal) (T : Taps.Idx → EReal)

/-- None of the numbers multiplied with the outer gate is an infinity. -/
structure AllReal : Prop where
  dy : ∀ i, IsReal (U i)
  w : ∀ i, IsReal (W i)
  p : ∀ (r : Fin 8192) (j : Fin 1536), IsReal (P (ix2 r ⟨4608 + j.val, by omega⟩))
  o : ∀ i, IsReal (O i)
  t : ∀ i, IsReal (T i)

variable {U W P O T} (h : AllReal U W P O T)
include h

theorem tBack_real (j r : ℕ) (l : Fin 512) : IsReal (tBack P j r l) := by
  unfold tBack
  split
  · refine real_mul ?_ ?_
    · have := h.p ⟨r - j, by omega⟩ ⟨512 + l.val, by omega⟩
      have e : (⟨4608 + (512 + l.val), by omega⟩ : Fin 7168) = ⟨5120 + l.val, by omega⟩ := Fin.ext (by show 4608 + (512 + l.val) = 5120 + l.val; omega)
      rw [e] at this
      exact this
    · have := h.p ⟨r - j, by omega⟩ ⟨1024 + l.val, by omega⟩
      have e : (⟨4608 + (1024 + l.val), by omega⟩ : Fin 7168) = ⟨5632 + l.val, by omega⟩ := Fin.ext (by show 4608 + (1024 + l.val) = 5632 + l.val; omega)
      rw [e] at this
      exact this
  · exact real_zero

theorem cv_real (r : ℕ) (l : Fin 512) : IsReal (cv P T r l) := by
  unfold cv
  exact real_add (real_add (real_mul (h.t _) (tBack_real h _ _ _)) (real_mul (h.t _) (tBack_real h _ _ _))) (real_mul (h.t _) (tBack_real h _ _ _))

theorem du_real (r : Fin 8192) (j : Fin 1024) : IsReal (du U W r j) := by
  unfold du
  exact real_sum _ _ fun k => real_mul (h.dy _) (h.w _)

theorem gated_real (r : Fin 8192) (j : Fin 1024) : IsReal (gated P O T r j) := by
  unfold gated
  split
  · exact h.o _
  · exact real_mul (h.p r ⟨j.val - 512, by omega⟩) (cv_real h _ _)

end Whole

end Cert.Gate

end
-- ==== Proof.GateRef.lean ====
/- The even layer's last product and its gates, backwards: the reference's five results are the arrays of GateSpec. -/
module

public import proofs.«01_k».proof.Proof.Gen.Reference13Ideal.Read
public import proofs.«01_k».proof.Proof.GateReal
public import Idealize.ShloMosaic.Lib.Pointwise

@[expose] public section

noncomputable section

namespace Cert.Reference13Ideal.Gate

open Cert.Reference13Ideal Cert.Reference13Ideal.Gen Cert.Reference13Ideal.Read
open Idealize.ShloMosaic Cert.Gate Cert.Conv

variable (U : Full.Idx → EReal) (W : Square.Idx → EReal) (P : Proj.Idx → EReal) (O : Rows.Idx → EReal) (T : Taps.Idx → EReal)

theorem ref_du (r : Fin 8192) (j : Fin 1024) : val_main_v39 (F := Ideal) U W (ix2 r j) = du U W r j := by
  pointwise [val_main_v39, val_main_v38, val_main_v36]
  unfold du
  rfl

theorem ref_sg (r : Fin 8192) (j : Fin 1024) : val_main_v34_2 (F := Ideal) P (ix2 r j) = sg (z P r j) := by
  unfold sg z
  pointwise [val_main_v34_2, val_main_call0_v4, val_main_call0_cst_0, val_main_call0_v3, val_main_call0_v2, val_main_call0_cst,
    val_main_call0_v1, val_main_call0_v0, val_main_v6]
  simp only [sub_eq_add_neg, zero_add]

theorem ref_cv (r : Fin 8192) (l : Fin 512) : val_main_v31 (F := Ideal) P T (ix2 r l) = cv P T r.val l := by
  pointwise [val_main_v31, val_main_v30, val_main_v29, val_main_v28, val_main_v27, val_main_v26, val_main_v25, val_main_v24,
    val_main_v23, val_main_v22, val_main_v21, val_main_v20, val_main_v19, val_main_v18, val_main_v17, val_main_v16,
    val_main_cst_0, val_main_v15, val_main_v14, val_main_v13, val_main_v12, val_main_v11, val_main_v10, val_main_v9,
    val_main_v8, val_main_cst, val_main_v7, val_main_v5, val_main_v4]
  unfold cv tBack cg hb
  have swap : ∀ a b c : EReal, a + b + c = c + b + a := fun a b c => by rw [add_comm a b, add_comm (b + a) c, ← add_assoc]
  refine (swap _ _ _).trans (congrArg₂ (· + ·) (congrArg₂ (· + ·) ?_ ?_) ?_)
  · refine congrArg (T (ix2 2 l) * ·) ?_
    rw [dif_pos ⟨Nat.zero_le _, by omega⟩]
    rfl
  · refine congrArg (T (ix2 1 l) * ·) ?_
    by_cases h : 1 + r.val < 2
    · rw [dif_pos h, dif_neg (by omega)]
    · rw [dif_neg h, dif_pos ⟨by omega, by omega⟩]
      have e : 1 + r.val - 2 = r.val - 1 := by omega
      simp only [e]
  · refine congrArg (T (ix2 0 l) * ·) ?_
    by_cases h : r.val < 2
    · rw [dif_pos h, dif_neg (by omega)]
    · rw [dif_neg h, dif_pos ⟨by omega, by omega⟩]

theorem ref_gated (r : Fin 8192) (j : Fin 1024) : val_main_v33 (F := Ideal) P O T (ix2 r j) = gated P O T r j := by
  have h := ref_cv P T r
  unfold gated bg
  simp only [← h]
  unfold val_main_v33 val_main_v32
  generalize val_main_v31 (F := Ideal) P T = q
  pointwise [val_main_v3]

/-- The gradient reaching the outer gate's function, with the gate's factor. -/
theorem ref_du_silu (r : Fin 8192) (j : Fin 1024) : val_main_v41 (F := Ideal) U W P (ix2 r j) = du U W r j * silu (z P r j) := by
  have e : val_main_v6 (F := Ideal) P (ix2 r j) = z P r j := by
    unfold z
    pointwise [val_main_v6]
  unfold silu
  rw [val_main_v41_apply, val_main_v34_0_apply, ref_du]
  refine congrArg (du U W r j * ·) ?_
  rw [← ref_sg, ← e]
  rfl

theorem ref_doa (r : Fin 8192) (l : Fin 512) : val_main_v43 (F := Ideal) U W P (ix2 r l) = doa U W P r l := by
  unfold doa
  rw [val_main_v43_apply, ← ref_du_silu]
  refine congrArg _ (funext fun a => ?_)
  match a with
  | ⟨0, _⟩ => rfl
  | ⟨1, _⟩ => rfl

theorem ref_dyb (r : Fin 8192) (l : Fin 512) : val_main_v44 (F := Ideal) U W P (ix2 r l) = dyb U W P r l := by
  unfold dyb
  rw [val_main_v44_apply, ← ref_du_silu]
  refine congrArg _ (funext fun a => ?_)
  match a with
  | ⟨0, _⟩ => rfl
  | ⟨1, _⟩ => rfl

theorem ref_dcv : val_main_v45 (F := Ideal) U W P = wholeDcv U W P := by
  funext i
  obtain ⟨r, l, rfl⟩ : ∃ (r : Fin 8192) (l : Fin 512), i = ix2 r l := ⟨i 0, i 1, eq_ix2 i⟩
  have e : val_main_v3 (F := Ideal) P (ix2 r l) = bg P r l := by
    unfold bg
    pointwise [val_main_v3]
  show val_main_v45 (F := Ideal) U W P (ix2 r l) = dyb U W P r l * bg P r l
  rw [val_main_v45_apply, ref_dyb, e]
  exact mul_comm _ _

theorem ref_dbg : val_main_v54 (F := Ideal) U W P T = wholeDbg U W P T := by
  funext i
  obtain ⟨r, l, rfl⟩ : ∃ (r : Fin 8192) (l : Fin 512), i = ix2 r l := ⟨i 0, i 1, eq_ix2 i⟩
  show val_main_v54 (F := Ideal) U W P T (ix2 r l) = dyb U W P r l * cv P T r.val l
  rw [val_main_v54_apply, val_main_v46_apply, ref_dyb, ref_cv]
  rfl

theorem ref_doa_whole : val_main_v43 (F := Ideal) U W P = wholeDoa U W P := by
  funext i
  obtain ⟨r, l, rfl⟩ : ∃ (r : Fin 8192) (l : Fin 512), i = ix2 r l := ⟨i 0, i 1, eq_ix2 i⟩
  exact ref_doa U W P r l

theorem ref_sum : val_main_v52 (F := Ideal) U W P O = wholeSum U W P O := by
  funext i
  obtain ⟨r, l, rfl⟩ : ∃ (r : Fin 8192) (l : Fin 512), i = ix2 r l := ⟨i 0, i 1, eq_ix2 i⟩
  show val_main_v52 (F := Ideal) U W P O (ix2 r l) = rowSum U W P O r l
  unfold rowSum
  rw [val_main_v52_apply, val_main_v51_apply, val_main_v50_apply, val_main_v49_apply]
  refine Eq.trans (congrArg (· + _) (?_ : _ = (0 : EReal))) ((zero_add _).trans (Finset.sum_congr rfl fun k _ => ?_))
  · pointwise [val_main_cst_1]
  · have hr := r.isLt
    have hl := l.isLt
    have e : idx_main_v48 (idx_main_v49 (idx_main_v50 (idx_main_v51 (idx_main_v52 (ix2 r l)))) k)
        = ix2 r (⟨64 * (l.val / 64) + k.val, by omega⟩ : Fin 512) := by
      funext a
      match a with
      | ⟨0, _⟩ => exact Fin.ext (by show (((r.val * 512 + l.val) / 512 * 8 + (r.val * 512 + l.val) / 64 % 8) * 64 + k.val) / 512 = r.val; omega)
      | ⟨1, _⟩ => exact Fin.ext (by show (((r.val * 512 + l.val) / 512 * 8 + (r.val * 512 + l.val) / 64 % 8) * 64 + k.val) % 512 = 64 * (l.val / 64) + k.val; omega)
    rw [val_main_v48_apply, e, val_main_v47_apply, ref_doa]
    rfl

variable {U W P O T}

theorem ref_dz (h : AllReal U W P O T) : val_main_v53 (F := Ideal) U W P O T = wholeDz U W P O T := by
  funext i
  obtain ⟨r, j, rfl⟩ : ∃ (r : Fin 8192) (j : Fin 1024), i = ix2 r j := ⟨i 0, i 1, eq_ix2 i⟩
  show val_main_v53 (F := Ideal) U W P O T (ix2 r j) = dz U W P O T r j
  have e6 : val_main_v6 (F := Ideal) P (ix2 r j) = z P r j := by
    unfold z
    pointwise [val_main_v6]
  have e1 : val_main_v34_1 (F := Ideal) P (ix2 r j) = sg (z P r j) * (1 - sg (z P r j)) := by
    rw [← ref_sg]
    unfold val_main_v34_1 val_main_call0_v7
    generalize val_main_v34_2 (F := Ideal) P = s
    pointwise [val_main_call0_v6, val_main_call0_cst_1]
  have e40 : val_main_v40 (F := Ideal) U W P O T (ix2 r j) = du U W r j * gated P O T r j := by
    rw [val_main_v40_apply, ref_gated, ref_du]
    exact mul_comm _ _
  unfold dz
  rw [← gate_grad _ _ (real_mul (du_real h r j) (gated_real h r j)), ← e40, ← e1, ← ref_sg, ← e6]
  unfold val_main_v53 val_main_v42 val_main_call1_v1 val_main_call1_v2 val_main_call1_v0
  generalize val_main_v40 (F := Ideal) U W P O T = g
  generalize val_main_v34_1 (F := Ideal) P = a
  generalize val_main_v34_2 (F := Ideal) P = b
  generalize val_main_v6 (F := Ideal) P = d
  pointwise []

end Cert.Reference13Ideal.Gate

end
-- ==== Proof.GateClaims.lean ====
/- The even layer's last product and its gates, backwards: the reference's frame and the equality of the two programs. -/
module

public import proofs.«01_k».proof.Defs
public import proofs.«01_k».proof.Proof.GateRun
public import proofs.«01_k».proof.Proof.GateRef
public import proofs.«01_k».proof.Proof.Gen.Pre_finite13
public import proofs.«01_k».proof.Proof.AttnPre

@[expose] public section

noncomputable section

namespace Cert.Proof

open Idealize.ShloMosaic Idealize.ShloMosaic.TcCoe Idealize.SL.Sem

/-- A number smaller in size than infinity is real. -/
theorem real_of_lt (x : EReal) (h : Ideal.cmp .olt (max x (-x)) (FloatOps.ofBits .f32 0x7F800000#32 : Ideal .f32) = 1#1) :
    Cert.Gate.IsReal x := by
  rw [Cert.Kernel2Ideal.Attn.top_bits] at h
  exact Cert.Kernel2Ideal.Attn.real_of_abs _ h

/-- With what the gate is multiplied with smaller in size than infinity, all of it is real. -/
theorem real_mix0_bwd_a (m : (ℓ : Loc Cert.Kernel13Ideal.nD Cert.Kernel13Ideal.τ Cert.Kernel13Ideal.sig) → Buf (Elt Ideal) ℓ)
    (hpre : Cert.Pre_Kernel13Ideal_finite13 m) (c : Dev Cert.Kernel13Ideal.nD) :
    Cert.Gate.AllReal (Cert.Kernel13Ideal.Gate.aU m c) (Cert.Kernel13Ideal.Gate.aW m c) (Cert.Kernel13Ideal.Gate.aP m c)
      (Cert.Kernel13Ideal.Gate.aO m c) (Cert.Kernel13Ideal.Gate.aT m c) := by
  obtain ⟨hU, hW, hP, hO, hT⟩ := hpre c
  refine ⟨fun i => real_of_lt _ (congrFun hU i), fun i => real_of_lt _ (congrFun hW i), fun r j => ?_,
    fun i => real_of_lt _ (congrFun hO i), fun i => real_of_lt _ (congrFun hT i)⟩
  have h := congrFun hP (ix2 r j)
  refine real_of_lt _ (Eq.trans ?_ h)
  refine congrArg (fun x : EReal => Ideal.cmp .olt (max x (-x)) (FloatOps.ofBits .f32 0x7F800000#32 : Ideal .f32)) ?_
  refine congrArg (Cert.Kernel13Ideal.Gate.aP m c) (funext fun a => ?_)
  match a with
  | ⟨0, _⟩ => exact Fin.ext (by show r.val = 0 + r.val; omega)
  | ⟨1, _⟩ => rfl

/-- The reference of `_mix0_bwd_a` halts with its arguments untouched. -/
theorem frame_reference13 : Cert.quiescent_Reference13Ideal := fun m g _ =>
  (θ_run _ _ _).mono (fun r h => ⟨fun c => (h c).2.2.2.2.2, sem_eq_zero_of_no_sems (by decide) r.2⟩)
    (Cert.Reference13Ideal.Value.run (F := Ideal) m g)

/-- `_mix0_bwd_a` leaves the outer gate's gradient, the attention's, its heads' sums, the inner gate's and the
    convolution's. -/
theorem algebraic_mix0_bwd_a : Cert.algebraic_Kernel13Ideal_Reference13Ideal_pre_finite13 := fun m g m' g' hpre hargs => by
  refine ⟨fun c => Cert.Gate.wholeDz (Cert.Kernel13Ideal.Gate.aU m c) (Cert.Kernel13Ideal.Gate.aW m c) (Cert.Kernel13Ideal.Gate.aP m c) (Cert.Kernel13Ideal.Gate.aO m c) (Cert.Kernel13Ideal.Gate.aT m c),
    fun c => Cert.Gate.wholeDoa (Cert.Kernel13Ideal.Gate.aU m c) (Cert.Kernel13Ideal.Gate.aW m c) (Cert.Kernel13Ideal.Gate.aP m c),
    fun c => Cert.Gate.wholeSum (Cert.Kernel13Ideal.Gate.aU m c) (Cert.Kernel13Ideal.Gate.aW m c) (Cert.Kernel13Ideal.Gate.aP m c) (Cert.Kernel13Ideal.Gate.aO m c),
    fun c => Cert.Gate.wholeDbg (Cert.Kernel13Ideal.Gate.aU m c) (Cert.Kernel13Ideal.Gate.aW m c) (Cert.Kernel13Ideal.Gate.aP m c) (Cert.Kernel13Ideal.Gate.aT m c),
    fun c => Cert.Gate.wholeDcv (Cert.Kernel13Ideal.Gate.aU m c) (Cert.Kernel13Ideal.Gate.aW m c) (Cert.Kernel13Ideal.Gate.aP m c), ?_, ?_⟩
  · refine (θ_run _ _ _).mono (fun r h c => ?_) (Cert.Kernel13Ideal.Value.run_blocks m g)
    obtain ⟨h0, h1, h2, h3, h4, hk⟩ := h c
    exact ⟨h0.trans (Cert.Kernel13Ideal.Gate.final10 m c), h1.trans (Cert.Kernel13Ideal.Gate.final11 m c),
      h2.trans (Cert.Kernel13Ideal.Gate.final12 m c), h3.trans (Cert.Kernel13Ideal.Gate.final13 m c),
      h4.trans (Cert.Kernel13Ideal.Gate.final14 m c), hk⟩
  · refine (θ_run _ _ _).mono (fun r h c => ?_) (Cert.Reference13Ideal.Value.run (F := Ideal) m' g')
    obtain ⟨h0, h1, h2, h3, h4, hk⟩ := h c
    obtain ⟨e0, e1, e2, e3, e4⟩ := hargs c
    refine ⟨(h0.trans (Cert.Reference13Ideal.Read.val_main_v53_eq _ _)).trans ?_,
      (h1.trans (Cert.Reference13Ideal.Read.val_main_v43_eq _ _ _)).trans ?_,
      (h2.trans (Cert.Reference13Ideal.Read.val_main_v52_eq _ _ _ _)).trans ?_,
      (h3.trans (Cert.Reference13Ideal.Read.val_main_v54_eq _ _ _ _)).trans ?_,
      (h4.trans (Cert.Reference13Ideal.Read.val_main_v45_eq _ _ _)).trans ?_, hk⟩
    · rw [e0, e1, e2, e3, e4]
      exact Cert.Reference13Ideal.Gate.ref_dz (real_mix0_bwd_a m hpre c)
    · rw [e0, e1, e2]
      exact Cert.Reference13Ideal.Gate.ref_doa_whole _ _ _
    · rw [e0, e1, e2, e3]
      exact Cert.Reference13Ideal.Gate.ref_sum _ _ _ _
    · rw [e0, e1, e2, e4]
      exact Cert.Reference13Ideal.Gate.ref_dbg _ _ _ _
    · rw [e0, e1, e2]
      exact Cert.Reference13Ideal.Gate.ref_dcv _ _ _

end Cert.Proof

end
-- ==== Proof.MergeSpec.lean ====
/- The even layer's merge of its three attention groups and its outer gate, as mathematics on the whole arrays: `O0`, `O1`, `O2`
   the groups' outputs, `L0`, `L1`, `L2` their row log-sums, one for each head, `P` the projections, `T` the convolution's taps. -/
module

public import proofs.«01_k».proof.Proof.GateReal

@[expose] public section

noncomputable section

namespace Cert.Merge

open Idealize.ShloMosaic Cert.Conv Cert.Gate

abbrev Heads : Shape := ⟨2, ![8192, 8]⟩

/-- The head of a lane. -/
abbrev hd (l : Fin 512) : Fin 8 := ⟨l.val / 64, by omega⟩

section One

variable (a b c : EReal)

/-- The largest of three log-sums. -/
def mx : EReal := max (max a b) c

/-- An exponential, less the largest. -/
def ex (x : EReal) : EReal := Ideal.exp (x - mx a b c)

/-- The three exponentials' sum. -/
def tot : EReal := ex a b c a + ex a b c b + ex a b c c

/-- The log-sum over all three groups. -/
def lse : EReal := mx a b c + Ideal.log (tot a b c)

/-- The three outputs, each weighted with its group's part of the sum. -/
def merged (p q s : EReal) : EReal :=
  ex a b c a * Ideal.div 1 (tot a b c) * p + ex a b c b * Ideal.div 1 (tot a b c) * q + ex a b c c * Ideal.div 1 (tot a b c) * s

variable {a b c}

/-- With real log-sums, an exponential over the sum is the exponential times one over the sum. -/
theorem part_eq (ha : IsReal a) (hb : IsReal b) (hc : IsReal c) (x : EReal) (hx : IsReal x) :
    Ideal.div (ex a b c x) (tot a b c) = ex a b c x * Ideal.div 1 (tot a b c) := by
  have hm : IsReal (mx a b c) := by
    unfold mx
    rcases max_choice (max a b) c with h | h <;> rw [h]
    · rcases max_choice a b with h | h <;> rw [h] <;> assumption
    · exact hc
  have e : ∀ y, IsReal y → ∃ t : ℝ, 0 < t ∧ ex a b c y = (t : EReal) := fun y hy => by
    unfold ex
    generalize mx a b c = M at hm ⊢
    lift M to ℝ using hm
    lift y to ℝ using hy
    exact ⟨Real.exp (y - M), Real.exp_pos _, by rw [← EReal.coe_sub, Ideal.exp_coe]⟩
  obtain ⟨p, hp, ep⟩ := e a ha
  obtain ⟨q, hq, eq⟩ := e b hb
  obtain ⟨s, hs, es⟩ := e c hc
  obtain ⟨t, _, et⟩ := e x hx
  have ht : tot a b c = ((p + q + s : ℝ) : EReal) := by
    unfold tot
    rw [ep, eq, es, EReal.coe_add, EReal.coe_add]
  have h0 : p + q + s ≠ 0 := by positivity
  rw [ht, Ideal.div_coe h0, Ideal.div_coe h0, one_mul]

/-- The largest of three, as a fold. -/
theorem fold_mx (f : Fin 3 → EReal) : (Finset.univ : Finset (Fin 3)).fold max ⊥ f = mx (f 0) (f 1) (f 2) := by
  show max (f 0) (max (f 1) (max (f 2) ⊥)) = _
  unfold mx
  rw [max_bot_right, max_assoc]

end One

section Whole

variable (O0 : Rows.Idx → EReal) (L0 : Heads.Idx → EReal) (O1 : Rows.Idx → EReal) (L1 : Heads.Idx → EReal)
  (O2 : Rows.Idx → EReal) (L2 : Heads.Idx → EReal) (P : Proj.Idx → EReal) (T : Taps.Idx → EReal)

/-- The merged output. -/
@[irreducible] def oa (r : Fin 8192) (l : Fin 512) : EReal :=
  merged (L0 (ix2 r (hd l))) (L1 (ix2 r (hd l))) (L2 (ix2 r (hd l))) (O0 (ix2 r l)) (O1 (ix2 r l)) (O2 (ix2 r l))

/-- The merged log-sum, at each of its head's lanes. -/
@[irreducible] def lt (r : Fin 8192) (l : Fin 512) : EReal := lse (L0 (ix2 r (hd l))) (L1 (ix2 r (hd l))) (L2 (ix2 r (hd l)))

/-- What the outer gate lets through: the merged output beside the gated convolution. -/
@[irreducible] def u (r : Fin 8192) (j : Fin 1024) : EReal :=
  (if h : j.val < 512 then oa O0 L0 O1 L1 O2 L2 r ⟨j.val, h⟩
    else bg P r ⟨j.val - 512, by omega⟩ * cv P T r.val ⟨j.val - 512, by omega⟩) * silu (z P r j)

abbrev wholeU (i : Full.Idx) : EReal := u O0 L0 O1 L1 O2 L2 P T (i 0) (i 1)
abbrev wholeOa (i : Rows.Idx) : EReal := oa O0 L0 O1 L1 O2 L2 (i 0) (i 1)
abbrev wholeLt (i : Rows.Idx) : EReal := lt L0 L1 L2 (i 0) (i 1)

end Whole

end Cert.Merge

end
-- ==== Proof.MergeBody.lean ====
/- The even layer's merge and outer gate: what one grid point leaves in its three output buffers, element by element, from the
   blocks it reads. -/
module

public import proofs.«01_k».proof.Proof.Gen.Kernel14Ideal.Value
public import proofs.«01_k».proof.Proof.Rows
public import proofs.«01_k».proof.Proof.Columns
public import proofs.«01_k».proof.Proof.MergeSpec

@[expose] public section

noncomputable section

namespace Cert.Kernel14Ideal.Merge

open Cert.Kernel14Ideal Cert.Kernel14Ideal.Gen Cert.Kernel14Ideal.Value
open Idealize.ShloMosaic Idealize.ShloMosaic.TcCoe Idealize.SL.Sem Idealize.ShloMosaic.Bands
open Cert.Gate Cert.Merge
open Cert.KernelIdeal.Gen (before notFirst)

section Pure

variable (k : ℕ) (i : grid0.Coords) (x0 x1 x2 x3 x4 x5 x6 x7 x8 : Vec Ideal S256x512 .f32) (x9 : Vec Ideal S256x1024 .f32) (x10 x11 : Vec Ideal S8x512 .f32) (x12 : Vec Ideal S3x512 .f32)

/-- The block's convolution. -/
def cvB (r : Fin 256) (l : Fin 512) : EReal :=
  x12 (ix2 2 l) * (x7 (ix2 r l) * x8 (ix2 r l)) + x12 (ix2 1 l) * before k x7 x8 x10 x11 ⟨7 + r.val, by omega⟩ l
    + x12 (ix2 0 l) * before k x7 x8 x10 x11 ⟨6 + r.val, by omega⟩ l

/-- The block's merged output. -/
def oaB (r : Fin 256) (l : Fin 512) : EReal :=
  merged (x3 (ix2 r l)) (x4 (ix2 r l)) (x5 (ix2 r l)) (x0 (ix2 r l)) (x1 (ix2 r l)) (x2 (ix2 r l))

def uB (r : Fin 256) (j : Fin 1024) : EReal :=
  (if h : j.val < 512 then oaB x0 x1 x2 x3 x4 x5 r ⟨j.val, h⟩
    else x6 (ix2 r ⟨j.val - 512, by omega⟩) * cvB k x7 x8 x10 x11 x12 r ⟨j.val - 512, by omega⟩) * silu (x9 (ix2 r j))

/-- What the rows-before buffer holds once both bands are written. -/
theorem canon_before (r : Fin 264) (l : Fin 512) :
    View.canon (Val := Elt Ideal) (s := S264x512) (e := .f32)
      [⟨Rect.unit (s := S264x512) ![8, 0] ![256, 512] inb_S264x512_S256x512_8_0, k0_pay19 x7 x8⟩,
       ⟨Rect.unit (s := S264x512) ![0, 0] ![8, 512] inb_S264x512_S8x512_0_0, k0_pay18 (BitVec.ofNat 32 (i 0).val) x10 x11⟩] (ix2 r l)
      = before (i 0).val x7 x8 x10 x11 r l := by
  rw [canon_band, canon_band]
  unfold before
  unfold k0_pay18 k0_pay19 k0_pay17
  have hn' : (i 0).val < 32 := (i 0).isLt
  generalize (i 0).val = n at hn' ⊢
  have hk : (Scalar.cmpi .sgt (BitVec.ofNat 32 n) 0#32 = (1 : BitVec 1)) ↔ 0 < n := notFirst ⟨n, hn'⟩
  pointwise []
  simp only [Scalar.select, hk]
  rfl

theorem silu_at (r : Fin 256) (j : Fin 1024) : k0_pay12 x9 (ix2 r j) = silu (x9 (ix2 r j)) := by
  pointwise [k0_pay12, silu, sg]

theorem ex0_at (r : Fin 256) (l : Fin 512) : k0_pay6 x3 x4 x5 (ix2 r l) = ex (x3 (ix2 r l)) (x4 (ix2 r l)) (x5 (ix2 r l)) (x3 (ix2 r l)) := by
  pointwise [k0_pay6, k0_pay5, k0_pay4, k0_pay3, k0_pay2, ex, mx]

theorem ex1_at (r : Fin 256) (l : Fin 512) : k0_pay7 x3 x4 x5 (ix2 r l) = ex (x3 (ix2 r l)) (x4 (ix2 r l)) (x5 (ix2 r l)) (x4 (ix2 r l)) := by
  pointwise [k0_pay7, k0_pay5, k0_pay4, k0_pay3, k0_pay2, ex, mx]

theorem ex2_at (r : Fin 256) (l : Fin 512) : k0_pay8 x3 x4 x5 (ix2 r l) = ex (x3 (ix2 r l)) (x4 (ix2 r l)) (x5 (ix2 r l)) (x5 (ix2 r l)) := by
  pointwise [k0_pay8, k0_pay5, k0_pay4, k0_pay3, k0_pay2, ex, mx]

theorem tot_at (r : Fin 256) (l : Fin 512) : k0_pay9 x3 x4 x5 (ix2 r l) = tot (x3 (ix2 r l)) (x4 (ix2 r l)) (x5 (ix2 r l)) := by
  unfold tot
  rw [← ex0_at, ← ex1_at, ← ex2_at]
  rfl

theorem inv_at (r : Fin 256) (l : Fin 512) : k0_pay11 x3 x4 x5 (ix2 r l) = Ideal.div 1 (tot (x3 (ix2 r l)) (x4 (ix2 r l)) (x5 (ix2 r l))) := by
  have h := tot_at x3 x4 x5 r l
  unfold k0_pay11
  generalize k0_pay9 x3 x4 x5 = s at h ⊢
  rw [← h]
  pointwise []

theorem lt_at (r : Fin 256) (l : Fin 512) : k0_pay10 x3 x4 x5 (ix2 r l) = lse (x3 (ix2 r l)) (x4 (ix2 r l)) (x5 (ix2 r l)) := by
  unfold lse
  rw [← tot_at]
  refine congrArg (· + _) ?_
  pointwise [k0_pay5, k0_pay4, k0_pay3, k0_pay2, mx]

theorem oa_at (r : Fin 256) (l : Fin 512) :
    k0_pay15 (k0_pay13 x3 x4 x5 x0 x1) (k0_pay14 x3 x4 x5) x2 (ix2 r l) = oaB x0 x1 x2 x3 x4 x5 r l := by
  unfold oaB merged
  rw [← ex0_at, ← ex1_at, ← ex2_at, ← inv_at]
  rfl

end Pure

variable (c : Dev nD) (i : grid0.Coords) {arg1 : Memref sig .tc .vmem S256x512 .f32} {harg1 : arg1.IsWhole} {arg2 : Memref sig .tc .vmem S256x512 .f32} {harg2 : arg2.IsWhole} {arg3 : Memref sig .tc .vmem S256x512 .f32} {harg3 : arg3.IsWhole} {arg4 : Memref sig .tc .vmem S256x512 .f32} {harg4 : arg4.IsWhole} {arg5 : Memref sig .tc .vmem S256x512 .f32} {harg5 : arg5.IsWhole} {arg6 : Memref sig .tc .vmem S256x512 .f32} {harg6 : arg6.IsWhole} {arg7 : Memref sig .tc .vmem S256x512 .f32} {harg7 : arg7.IsWhole} {arg8 : Memref sig .tc .vmem S256x512 .f32} {harg8 : arg8.IsWhole} {arg9 : Memref sig .tc .vmem S256x512 .f32} {harg9 : arg9.IsWhole} {arg10 : Memref sig .tc .vmem S256x1024 .f32} {harg10 : arg10.IsWhole} {arg11 : Memref sig .tc .vmem S8x512 .f32} {harg11 : arg11.IsWhole} {arg12 : Memref sig .tc .vmem S8x512 .f32} {harg12 : arg12.IsWhole} {arg13 : Memref sig .tc .vmem S3x512 .f32} {harg13 : arg13.IsWhole} {arg14 : Memref sig .tc .vmem S256x1024 .bf16} {harg14 : arg14.IsWhole} {arg15 : Memref sig .tc .vmem S256x512 .f32} {harg15 : arg15.IsWhole} {arg16 : Memref sig .tc .vmem S256x512 .f32} {harg16 : arg16.IsWhole} {arg17 : Memref sig .tc .vmem S264x512 .f32} {harg17 : arg17.IsWhole}
    (x0 x1 x2 x3 x4 x5 x6 x7 x8 : Vec Ideal S256x512 .f32) (x9 : Vec Ideal S256x1024 .f32) (x10 x11 : Vec Ideal S8x512 .f32) (x12 : Vec Ideal S3x512 .f32)

/-- The gated output. -/
theorem left13 (r : Fin 256) (l : Fin 1024) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 (ix2 r l)
      = uB (i 0).val x0 x1 x2 x3 x4 x5 x6 x7 x8 x9 x10 x11 x12 r l := by
  unfold out0_A_13
  rw [View.read_writes_junk_eq_canon]
  unfold kernelRun0_A
  dsimp only
  simp only [kernelRun0_A.sl.r, kernelRun0_A.sl.r_1, kernelRun0_A.sl.r_2, kernelRun0_A.sl.r_3, kernelRun0_A.sl.v65, kernelRun0_A.sl.v70, kernelRun0_A.sl.HS0_2, View.readCov_eq_canon', View.readAt_eq_ld, Memref.IsWhole.read_unread, ld_all, canon_all]
  refine (?_ : Before (Val := Elt Ideal) (e := .bf16) (a := 256) (N := 1024) 1024 _ (uB (i 0).val x0 x1 x2 x3 x4 x5 x6 x7 x8 x9 x10 x11 x12)) r l l.isLt
  refine before_more (o := 512) (b := 512) _ _ _ _ ?_ fun r l hl => ?_
  · refine before_more (o := 0) (b := 512) _ _ _ _ (before_none _ _) fun r l hl => ?_
    unfold uB
    rw [dif_pos (by show 0 + l.val < 512; omega)]
    pointwise [k0_pay16]
    simp only [oa_at, silu_at, zero_add]
  · unfold uB
    rw [dif_neg (by show ¬ 512 + l.val < 512; omega)]
    pointwise [k0_pay1, k0_pay20, k0_pay17]
    simp only [silu_at, canon_before]
    rfl

/-- The merged output. -/
theorem left14 (r : Fin 256) (l : Fin 512) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 (ix2 r l)
      = oaB x0 x1 x2 x3 x4 x5 r l := by
  unfold out0_A_14
  rw [View.read_writes_junk_eq_canon]
  unfold kernelRun0_A
  dsimp only
  simp only [kernelRun0_A.sl.r_1, kernelRun0_A.sl.r_2, View.readCov_eq_canon', View.readAt_eq_ld, Memref.IsWhole.read_unread, ld_all, canon_all]
  exact oa_at x0 x1 x2 x3 x4 x5 r l

/-- The merged log-sum. -/
theorem left15 (r : Fin 256) (l : Fin 512) :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 (ix2 r l)
      = lse (x3 (ix2 r l)) (x4 (ix2 r l)) (x5 (ix2 r l)) := by
  unfold out0_A_15
  rw [View.read_writes_junk_eq_canon]
  unfold kernelRun0_A
  dsimp only
  simp only [View.readCov_eq_canon', View.readAt_eq_ld, Memref.IsWhole.read_unread, ld_all, canon_all]
  exact lt_at x3 x4 x5 r l

end Cert.Kernel14Ideal.Merge

end
-- ==== Proof.MergeRun.lean ====
/- The even layer's merge and outer gate on the grid of 32 blocks of 256 rows: the three results, as the whole arrays of
   MergeSpec. -/
module

public import proofs.«01_k».proof.Proof.MergeBody
public import Idealize.ShloMosaic.Lib.StableHlo.RunRead

@[expose] public section

noncomputable section

namespace Cert.Kernel14Ideal.Merge

open Cert.Kernel14Ideal Cert.Kernel14Ideal.Gen Cert.Kernel14Ideal.Value
open Idealize.ShloMosaic Idealize.ShloMosaic.TcCoe Idealize.SL.Sem
open Idealize.ShloMosaic.Pipeline (Dat)
open Cert.Gate Cert.Conv Cert.Merge
open Cert.KernelIdeal.Gen (before)

variable (m : (ℓ : Loc nD τ sig) → Buf (Elt Ideal) ℓ) (c : Dev nD)

/-- The arguments at launch. -/
abbrev aO0 : Rows.Idx → EReal := m ((c : Thread nD τ).loc main_arg0)
abbrev aL0 : Heads.Idx → EReal := m ((c : Thread nD τ).loc main_arg1)
abbrev aO1 : Rows.Idx → EReal := m ((c : Thread nD τ).loc main_arg2)
abbrev aL1 : Heads.Idx → EReal := m ((c : Thread nD τ).loc main_arg3)
abbrev aO2 : Rows.Idx → EReal := m ((c : Thread nD τ).loc main_arg4)
abbrev aL2 : Heads.Idx → EReal := m ((c : Thread nD τ).loc main_arg5)
abbrev aP : Proj.Idx → EReal := m ((c : Thread nD τ).loc main_arg6)
abbrev aT : Taps.Idx → EReal := m ((c : Thread nD τ).loc main_arg7)

/-! ## The log-sums, spread over the lanes before the call -/

/-- A head's value at each of its lanes. -/
def lanes (A : FVec Ideal S8192x8 .f32) : FVec Ideal S8192x512 .f32 :=
  shapeCast S8192x512 (broadcastInDim S8192x8x64 ![0, 1, 2] bcast_S8192x8x1_S8192x8x64_0_1_2
    (broadcastInDim S8192x8x1 ![0, 1] bcast_S8192x8_S8192x8x1_0_1 A)) shapeCasts_S8192x8x64_S8192x512

theorem lanes_at (A : FVec Ideal S8192x8 .f32) (r : Fin 8192) (l : Fin 512) : lanes A (ix2 r l) = A (ix2 r (hd l)) := by
  unfold lanes
  refine (shapeCast_apply _ _ (ix2 r l) (ix3 r (⟨l.val / 64, by omega⟩ : Fin 8) (⟨l.val % 64, by omega⟩ : Fin 64)) ?_).trans ?_
  · rw [Shape.rowMajor_val_two, Shape.rowMajor_val_three]
    show (r.val * 8 + l.val / 64) * 64 + l.val % 64 = r.val * 512 + l.val
    omega
  · pointwise

theorem spread0 : V m c main_v2 = lanes (aL0 m c) := by
  unfold V
  after_reads_simp
  rfl

theorem spread1 : V m c main_v5 = lanes (aL1 m c) := by
  unfold V
  after_reads_simp
  rfl

theorem spread2 : V m c main_v8 = lanes (aL2 m c) := by
  unfold V
  after_reads_simp
  rfl

/-! ## Which block each window stages at a grid point -/

theorem point (t : Fin cfg0.N) : ((grid0.coords t) 0).val = t.val :=
  (by decide +kernel : ∀ t : Fin grid0.N, ((grid0.coords t) 0).val = t.val) t

theorem lt_N (t : Fin cfg0.N) : t.val < 32 := t.isLt

/-- Row `r` of block `t`. -/
abbrev row (t : Fin cfg0.N) (r : Fin 256) : Fin 8192 := ⟨256 * t.val + r.val, by have := lt_N t; omega⟩

theorem at0 (t : Fin cfg0.N) (r : Fin 256) (l : Fin 512) :
    iblk m c 0 t (ix2 r l) = aO0 m c (ix2 (row t r) l) := by
  have h0 := (by decide +kernel : ∀ t : Fin grid0.N, win0_0.index t 0 = t.val) t
  have h1 := (by decide +kernel : ∀ t : Fin grid0.N, win0_0.index t 1 = 0) t
  show V m c main_arg0 (((cfg0.win 0).blk t).view.emb (ix2 r l)) = _
  rw [V_main_arg0]
  refine congrArg (m ((c : Thread nD τ).loc main_arg0)) (funext fun a => ?_)
  match a with
  | ⟨0, _⟩ => exact Fin.ext (by show win0_0.index t 0 * 256 + 1 * r.val = 256 * t.val + r.val; omega)
  | ⟨1, _⟩ => exact Fin.ext (by show win0_0.index t 1 * 512 + 1 * l.val = l.val; omega)

theorem at1 (t : Fin cfg0.N) (r : Fin 256) (l : Fin 512) :
    iblk m c 1 t (ix2 r l) = aO1 m c (ix2 (row t r) l) := by
  have h0 := (by decide +kernel : ∀ t : Fin grid0.N, win0_1.index t 0 = t.val) t
  have h1 := (by decide +kernel : ∀ t : Fin grid0.N, win0_1.index t 1 = 0) t
  show V m c main_arg2 (((cfg0.win 1).blk t).view.emb (ix2 r l)) = _
  rw [V_main_arg2]
  refine congrArg (m ((c : Thread nD τ).loc main_arg2)) (funext fun a => ?_)
  match a with
  | ⟨0, _⟩ => exact Fin.ext (by show win0_1.index t 0 * 256 + 1 * r.val = 256 * t.val + r.val; omega)
  | ⟨1, _⟩ => exact Fin.ext (by show win0_1.index t 1 * 512 + 1 * l.val = l.val; omega)

theorem at2 (t : Fin cfg0.N) (r : Fin 256) (l : Fin 512) :
    iblk m c 2 t (ix2 r l) = aO2 m c (ix2 (row t r) l) := by
  have h0 := (by decide +kernel : ∀ t : Fin grid0.N, win0_2.index t 0 = t.val) t
  have h1 := (by decide +kernel : ∀ t : Fin grid0.N, win0_2.index t 1 = 0) t
  show V m c main_arg4 (((cfg0.win 2).blk t).view.emb (ix2 r l)) = _
  rw [V_main_arg4]
  refine congrArg (m ((c : Thread nD τ).loc main_arg4)) (funext fun a => ?_)
  match a with
  | ⟨0, _⟩ => exact Fin.ext (by show win0_2.index t 0 * 256 + 1 * r.val = 256 * t.val + r.val; omega)
  | ⟨1, _⟩ => exact Fin.ext (by show win0_2.index t 1 * 512 + 1 * l.val = l.val; omega)

theorem at3 (t : Fin cfg0.N) (r : Fin 256) (l : Fin 512) :
    iblk m c 3 t (ix2 r l) = aL0 m c (ix2 (row t r) (hd l)) := by
  have h0 := (by decide +kernel : ∀ t : Fin grid0.N, win0_3.index t 0 = t.val) t
  have h1 := (by decide +kernel : ∀ t : Fin grid0.N, win0_3.index t 1 = 0) t
  show V m c main_v2 (((cfg0.win 3).blk t).view.emb (ix2 r l)) = _
  rw [spread0]
  refine Eq.trans ?_ (lanes_at (aL0 m c) (row t r) l)
  refine congrArg (lanes (aL0 m c)) (funext fun a => ?_)
  match a with
  | ⟨0, _⟩ => exact Fin.ext (by show win0_3.index t 0 * 256 + 1 * r.val = 256 * t.val + r.val; omega)
  | ⟨1, _⟩ => exact Fin.ext (by show win0_3.index t 1 * 512 + 1 * l.val = l.val; omega)

theorem at4 (t : Fin cfg0.N) (r : Fin 256) (l : Fin 512) :
    iblk m c 4 t (ix2 r l) = aL1 m c (ix2 (row t r) (hd l)) := by
  have h0 := (by decide +kernel : ∀ t : Fin grid0.N, win0_4.index t 0 = t.val) t
  have h1 := (by decide +kernel : ∀ t : Fin grid0.N, win0_4.index t 1 = 0) t
  show V m c main_v5 (((cfg0.win 4).blk t).view.emb (ix2 r l)) = _
  rw [spread1]
  refine Eq.trans ?_ (lanes_at (aL1 m c) (row t r) l)
  refine congrArg (lanes (aL1 m c)) (funext fun a => ?_)
  match a with
  | ⟨0, _⟩ => exact Fin.ext (by show win0_4.index t 0 * 256 + 1 * r.val = 256 * t.val + r.val; omega)
  | ⟨1, _⟩ => exact Fin.ext (by show win0_4.index t 1 * 512 + 1 * l.val = l.val; omega)

theorem at5 (t : Fin cfg0.N) (r : Fin 256) (l : Fin 512) :
    iblk m c 5 t (ix2 r l) = aL2 m c (ix2 (row t r) (hd l)) := by
  have h0 := (by decide +kernel : ∀ t : Fin grid0.N, win0_5.index t 0 = t.val) t
  have h1 := (by decide +kernel : ∀ t : Fin grid0.N, win0_5.index t 1 = 0) t
  show V m c main_v8 (((cfg0.win 5).blk t).view.emb (ix2 r l)) = _
  rw [spread2]
  refine Eq.trans ?_ (lanes_at (aL2 m c) (row t r) l)
  refine congrArg (lanes (aL2 m c)) (funext fun a => ?_)
  match a with
  | ⟨0, _⟩ => exact Fin.ext (by show win0_5.index t 0 * 256 + 1 * r.val = 256 * t.val + r.val; omega)
  | ⟨1, _⟩ => exact Fin.ext (by show win0_5.index t 1 * 512 + 1 * l.val = l.val; omega)

theorem at6 (t : Fin cfg0.N) (r : Fin 256) (l : Fin 512) :
    iblk m c 6 t (ix2 r l) = bg (aP m c) (row t r) l := by
  have h0 := (by decide +kernel : ∀ t : Fin grid0.N, win0_6.index t 0 = t.val) t
  have h1 := (by decide +kernel : ∀ t : Fin grid0.N, win0_6.index t 1 = 9) t
  show V m c main_arg6 (((cfg0.win 6).blk t).view.emb (ix2 r l)) = _
  rw [V_main_arg6]
  refine congrArg (m ((c : Thread nD τ).loc main_arg6)) (funext fun a => ?_)
  match a with
  | ⟨0, _⟩ => exact Fin.ext (by show win0_6.index t 0 * 256 + 1 * r.val = 256 * t.val + r.val; omega)
  | ⟨1, _⟩ => exact Fin.ext (by show win0_6.index t 1 * 512 + 1 * l.val = 4608 + l.val; omega)

theorem at7 (t : Fin cfg0.N) (r : Fin 256) (l : Fin 512) :
    iblk m c 7 t (ix2 r l) = cg (aP m c) (row t r) l := by
  have h0 := (by decide +kernel : ∀ t : Fin grid0.N, win0_7.index t 0 = t.val) t
  have h1 := (by decide +kernel : ∀ t : Fin grid0.N, win0_7.index t 1 = 10) t
  show V m c main_arg6 (((cfg0.win 7).blk t).view.emb (ix2 r l)) = _
  rw [V_main_arg6]
  refine congrArg (m ((c : Thread nD τ).loc main_arg6)) (funext fun a => ?_)
  match a with
  | ⟨0, _⟩ => exact Fin.ext (by show win0_7.index t 0 * 256 + 1 * r.val = 256 * t.val + r.val; omega)
  | ⟨1, _⟩ => exact Fin.ext (by show win0_7.index t 1 * 512 + 1 * l.val = 5120 + l.val; omega)

theorem at8 (t : Fin cfg0.N) (r : Fin 256) (l : Fin 512) :
    iblk m c 8 t (ix2 r l) = hb (aP m c) (row t r) l := by
  have h0 := (by decide +kernel : ∀ t : Fin grid0.N, win0_8.index t 0 = t.val) t
  have h1 := (by decide +kernel : ∀ t : Fin grid0.N, win0_8.index t 1 = 11) t
  show V m c main_arg6 (((cfg0.win 8).blk t).view.emb (ix2 r l)) = _
  rw [V_main_arg6]
  refine congrArg (m ((c : Thread nD τ).loc main_arg6)) (funext fun a => ?_)
  match a with
  | ⟨0, _⟩ => exact Fin.ext (by show win0_8.index t 0 * 256 + 1 * r.val = 256 * t.val + r.val; omega)
  | ⟨1, _⟩ => exact Fin.ext (by show win0_8.index t 1 * 512 + 1 * l.val = 5632 + l.val; omega)

theorem at9 (t : Fin cfg0.N) (r : Fin 256) (l : Fin 1024) :
    iblk m c 9 t (ix2 r l) = z (aP m c) (row t r) l := by
  have h0 := (by decide +kernel : ∀ t : Fin grid0.N, win0_9.index t 0 = t.val) t
  have h1 := (by decide +kernel : ∀ t : Fin grid0.N, win0_9.index t 1 = 6) t
  show V m c main_arg6 (((cfg0.win 9).blk t).view.emb (ix2 r l)) = _
  rw [V_main_arg6]
  refine congrArg (m ((c : Thread nD τ).loc main_arg6)) (funext fun a => ?_)
  match a with
  | ⟨0, _⟩ => exact Fin.ext (by show win0_9.index t 0 * 256 + 1 * r.val = 256 * t.val + r.val; omega)
  | ⟨1, _⟩ => exact Fin.ext (by show win0_9.index t 1 * 1024 + 1 * l.val = 6144 + l.val; omega)

theorem at10 (t : Fin cfg0.N) (ht : 0 < t.val) (r : Fin 8) (l : Fin 512) (h : 256 * t.val + r.val - 8 < 8192) :
    iblk m c 10 t (ix2 r l) = cg (aP m c) ⟨256 * t.val + r.val - 8, h⟩ l := by
  have h0 := (by decide +kernel : ∀ t : Fin grid0.N, 0 < t.val → win0_10.index t 0 = t.val * 32 - 1) t ht
  have h1 := (by decide +kernel : ∀ t : Fin grid0.N, win0_10.index t 1 = 10) t
  show V m c main_arg6 (((cfg0.win 10).blk t).view.emb (ix2 r l)) = _
  rw [V_main_arg6]
  refine congrArg (m ((c : Thread nD τ).loc main_arg6)) (funext fun a => ?_)
  match a with
  | ⟨0, _⟩ => exact Fin.ext (by show win0_10.index t 0 * 8 + 1 * r.val = 256 * t.val + r.val - 8; omega)
  | ⟨1, _⟩ => exact Fin.ext (by show win0_10.index t 1 * 512 + 1 * l.val = 5120 + l.val; omega)

theorem at11 (t : Fin cfg0.N) (ht : 0 < t.val) (r : Fin 8) (l : Fin 512) (h : 256 * t.val + r.val - 8 < 8192) :
    iblk m c 11 t (ix2 r l) = hb (aP m c) ⟨256 * t.val + r.val - 8, h⟩ l := by
  have h0 := (by decide +kernel : ∀ t : Fin grid0.N, 0 < t.val → win0_11.index t 0 = t.val * 32 - 1) t ht
  have h1 := (by decide +kernel : ∀ t : Fin grid0.N, win0_11.index t 1 = 11) t
  show V m c main_arg6 (((cfg0.win 11).blk t).view.emb (ix2 r l)) = _
  rw [V_main_arg6]
  refine congrArg (m ((c : Thread nD τ).loc main_arg6)) (funext fun a => ?_)
  match a with
  | ⟨0, _⟩ => exact Fin.ext (by show win0_11.index t 0 * 8 + 1 * r.val = 256 * t.val + r.val - 8; omega)
  | ⟨1, _⟩ => exact Fin.ext (by show win0_11.index t 1 * 512 + 1 * l.val = 5632 + l.val; omega)

theorem at12 (t : Fin cfg0.N) (r : Fin 3) (l : Fin 512) :
    iblk m c 12 t (ix2 r l) = aT m c (ix2 r l) := by
  have h0 := (by decide +kernel : ∀ t : Fin grid0.N, win0_12.index t 0 = 0) t
  have h1 := (by decide +kernel : ∀ t : Fin grid0.N, win0_12.index t 1 = 0) t
  show V m c main_arg7 (((cfg0.win 12).blk t).view.emb (ix2 r l)) = _
  rw [V_main_arg7]
  refine congrArg (m ((c : Thread nD τ).loc main_arg7)) (funext fun a => ?_)
  match a with
  | ⟨0, _⟩ => exact Fin.ext (by show win0_12.index t 0 * 3 + 1 * r.val = r.val; omega)
  | ⟨1, _⟩ => exact Fin.ext (by show win0_12.index t 1 * 512 + 1 * l.val = l.val; omega)

/-! ## A block's values, as rows of the whole arrays -/

theorem before_eq (t : Fin cfg0.N) (r : Fin 264) (l : Fin 512) (j q : ℕ) (hr : r.val + j = q + 8) (hj : j ≤ 8) :
    before t.val (iblk m c 7 t) (iblk m c 8 t) (iblk m c 10 t) (iblk m c 11 t) r l = tBack (aP m c) j (256 * t.val + q) l := by
  have ht := lt_N t
  unfold before tBack
  by_cases h8 : 8 ≤ r.val
  · rw [dif_pos ⟨h8, by omega⟩, dif_pos (by omega), at7, at8]
    have e : row t ⟨r.val - 8, by omega⟩ = ⟨256 * t.val + q - j, by omega⟩ := Fin.ext (by show 256 * t.val + (r.val - 8) = 256 * t.val + q - j; omega)
    rw [e]
  · rw [dif_neg (by omega), dif_pos ⟨by omega, by omega⟩]
    by_cases h0 : 0 < t.val
    · rw [if_pos h0, dif_pos (by omega), at10 m c t h0 _ l (by dsimp only; omega), at11 m c t h0 _ l (by dsimp only; omega)]
      have e : 256 * t.val + (r.val - 0) - 8 = 256 * t.val + q - j := by omega
      simp only [e]
    · rw [if_neg h0, dif_neg (by omega)]

theorem cv_eq (t : Fin cfg0.N) (r : Fin 256) (l : Fin 512) :
    cvB t.val (iblk m c 7 t) (iblk m c 8 t) (iblk m c 10 t) (iblk m c 11 t) (iblk m c 12 t) r l
      = cv (aP m c) (aT m c) (256 * t.val + r.val) l := by
  have ht := lt_N t
  unfold cvB cv
  rw [at12, at12, at12, at7, at8, before_eq m c t _ l 1 r.val (by dsimp only; omega) (by omega),
    before_eq m c t _ l 2 r.val (by dsimp only; omega) (by omega)]
  have e : cg (aP m c) (row t r) l * hb (aP m c) (row t r) l = tBack (aP m c) 0 (256 * t.val + r.val) l := by
    unfold tBack
    rw [dif_pos ⟨Nat.zero_le _, by omega⟩]
    rfl
  rw [e]

theorem oa_eq (t : Fin cfg0.N) (r : Fin 256) (l : Fin 512) :
    oaB (iblk m c 0 t) (iblk m c 1 t) (iblk m c 2 t) (iblk m c 3 t) (iblk m c 4 t) (iblk m c 5 t) r l
      = oa (aO0 m c) (aL0 m c) (aO1 m c) (aL1 m c) (aO2 m c) (aL2 m c) (row t r) l := by
  unfold oaB oa
  rw [at0, at1, at2, at3, at4, at5]

theorem lt_eq (t : Fin cfg0.N) (r : Fin 256) (l : Fin 512) :
    lse (iblk m c 3 t (ix2 r l)) (iblk m c 4 t (ix2 r l)) (iblk m c 5 t (ix2 r l))
      = lt (aL0 m c) (aL1 m c) (aL2 m c) (row t r) l := by
  unfold lt
  rw [at3, at4, at5]

theorem u_eq (t : Fin cfg0.N) (r : Fin 256) (j : Fin 1024) :
    uB t.val (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r j
      = u (aO0 m c) (aL0 m c) (aO1 m c) (aL1 m c) (aO2 m c) (aL2 m c) (aP m c) (aT m c) (row t r) j := by
  unfold uB u
  rw [at9]
  by_cases h : j.val < 512
  · rw [dif_pos h, dif_pos h, oa_eq]
  · rw [dif_neg h, dif_neg h, at6, cv_eq]

/-! ## The three result arrays -/

theorem final13 : (dats m 0 c).arrAt 13 cfg0.N = wholeU (aO0 m c) (aL0 m c) (aO1 m c) (aL1 m c) (aO2 m c) (aL2 m c) (aP m c) (aT m c) := by
  refine (dats m 0 c).arrAt_eq_of_cover 13 (wholeU (aO0 m c) (aL0 m c) (aO1 m c) (aL1 m c) (aO2 m c) (aL2 m c) (aP m c) (aT m c)) (fun t _ => ?_) (fun i => ?_)
  · rw [flushed13_A]
    funext j
    obtain ⟨r, l, rfl⟩ : ∃ (r : Fin 256) (l : Fin 1024), j = ix2 r l := ⟨j 0, j 1, eq_ix2 j⟩
    have h0 := (by decide +kernel : ∀ t : Fin grid0.N, win0_13.index t 0 = t.val) t
    have h1 := (by decide +kernel : ∀ t : Fin grid0.N, win0_13.index t 1 = 0) t
    have ht := lt_N t
    refine (left13 c (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r l).trans ?_
    show _ = wholeU (aO0 m c) (aL0 m c) (aO1 m c) (aL1 m c) (aO2 m c) (aL2 m c) (aP m c) (aT m c) (((cfg0.win 13).blk t).view.emb (ix2 r l))
    have e : ((cfg0.win 13).blk t).view.emb (ix2 r l) = (ix2 (row t r) l : Full.Idx) := by
      funext a
      match a with
      | ⟨0, _⟩ => exact Fin.ext (by show win0_13.index t 0 * 256 + 1 * r.val = 256 * t.val + r.val; omega)
      | ⟨1, _⟩ => exact Fin.ext (by show win0_13.index t 1 * 1024 + 1 * l.val = l.val; omega)
    rw [e, point, u_eq]
    rfl
  · have hi : (i 0).val < 8192 := (i 0).isLt
    have hj : (i 1).val < 1024 := (i 1).isLt
    let t : Fin cfg0.N := ⟨(i 0).val / 256, show (i 0).val / 256 < 32 by omega⟩
    have ht : t.val = (i 0).val / 256 := rfl
    have h0 := (by decide +kernel : ∀ t : Fin grid0.N, win0_13.index t 0 = t.val) t
    have h1 := (by decide +kernel : ∀ t : Fin grid0.N, win0_13.index t 1 = 0) t
    refine ⟨t, flush0_13 t, ?_⟩
    show i ∈ ((View.whole main_v9_0).slice (win0_13.rect t)).set
    rw [View.set_slice_whole, Rect.mem_set_unit]
    intro a
    match a with
    | ⟨0, _⟩ => show win0_13.index t 0 * 256 ≤ (i 0).val ∧ (i 0).val < win0_13.index t 0 * 256 + 256; omega
    | ⟨1, _⟩ => show win0_13.index t 1 * 1024 ≤ (i 1).val ∧ (i 1).val < win0_13.index t 1 * 1024 + 1024; omega

theorem final14 : (dats m 0 c).arrAt 14 cfg0.N = wholeOa (aO0 m c) (aL0 m c) (aO1 m c) (aL1 m c) (aO2 m c) (aL2 m c) := by
  refine (dats m 0 c).arrAt_eq_of_cover 14 (wholeOa (aO0 m c) (aL0 m c) (aO1 m c) (aL1 m c) (aO2 m c) (aL2 m c)) (fun t _ => ?_) (fun i => ?_)
  · rw [flushed14_A]
    funext j
    obtain ⟨r, l, rfl⟩ : ∃ (r : Fin 256) (l : Fin 512), j = ix2 r l := ⟨j 0, j 1, eq_ix2 j⟩
    have h0 := (by decide +kernel : ∀ t : Fin grid0.N, win0_14.index t 0 = t.val) t
    have h1 := (by decide +kernel : ∀ t : Fin grid0.N, win0_14.index t 1 = 0) t
    have ht := lt_N t
    refine (left14 c (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r l).trans ?_
    show _ = wholeOa (aO0 m c) (aL0 m c) (aO1 m c) (aL1 m c) (aO2 m c) (aL2 m c) (((cfg0.win 14).blk t).view.emb (ix2 r l))
    have e : ((cfg0.win 14).blk t).view.emb (ix2 r l) = (ix2 (row t r) l : Rows.Idx) := by
      funext a
      match a with
      | ⟨0, _⟩ => exact Fin.ext (by show win0_14.index t 0 * 256 + 1 * r.val = 256 * t.val + r.val; omega)
      | ⟨1, _⟩ => exact Fin.ext (by show win0_14.index t 1 * 512 + 1 * l.val = l.val; omega)
    rw [e, oa_eq]
    rfl
  · have hi : (i 0).val < 8192 := (i 0).isLt
    have hj : (i 1).val < 512 := (i 1).isLt
    let t : Fin cfg0.N := ⟨(i 0).val / 256, show (i 0).val / 256 < 32 by omega⟩
    have ht : t.val = (i 0).val / 256 := rfl
    have h0 := (by decide +kernel : ∀ t : Fin grid0.N, win0_14.index t 0 = t.val) t
    have h1 := (by decide +kernel : ∀ t : Fin grid0.N, win0_14.index t 1 = 0) t
    refine ⟨t, flush0_14 t, ?_⟩
    show i ∈ ((View.whole main_v9_1).slice (win0_14.rect t)).set
    rw [View.set_slice_whole, Rect.mem_set_unit]
    intro a
    match a with
    | ⟨0, _⟩ => show win0_14.index t 0 * 256 ≤ (i 0).val ∧ (i 0).val < win0_14.index t 0 * 256 + 256; omega
    | ⟨1, _⟩ => show win0_14.index t 1 * 512 ≤ (i 1).val ∧ (i 1).val < win0_14.index t 1 * 512 + 512; omega

theorem final15 : (dats m 0 c).arrAt 15 cfg0.N = wholeLt (aL0 m c) (aL1 m c) (aL2 m c) := by
  refine (dats m 0 c).arrAt_eq_of_cover 15 (wholeLt (aL0 m c) (aL1 m c) (aL2 m c)) (fun t _ => ?_) (fun i => ?_)
  · rw [flushed15_A]
    funext j
    obtain ⟨r, l, rfl⟩ : ∃ (r : Fin 256) (l : Fin 512), j = ix2 r l := ⟨j 0, j 1, eq_ix2 j⟩
    have h0 := (by decide +kernel : ∀ t : Fin grid0.N, win0_15.index t 0 = t.val) t
    have h1 := (by decide +kernel : ∀ t : Fin grid0.N, win0_15.index t 1 = 0) t
    have ht := lt_N t
    refine (left15 c (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) r l).trans ?_
    show _ = wholeLt (aL0 m c) (aL1 m c) (aL2 m c) (((cfg0.win 15).blk t).view.emb (ix2 r l))
    have e : ((cfg0.win 15).blk t).view.emb (ix2 r l) = (ix2 (row t r) l : Rows.Idx) := by
      funext a
      match a with
      | ⟨0, _⟩ => exact Fin.ext (by show win0_15.index t 0 * 256 + 1 * r.val = 256 * t.val + r.val; omega)
      | ⟨1, _⟩ => exact Fin.ext (by show win0_15.index t 1 * 512 + 1 * l.val = l.val; omega)
    rw [e, lt_eq]
    rfl
  · have hi : (i 0).val < 8192 := (i 0).isLt
    have hj : (i 1).val < 512 := (i 1).isLt
    let t : Fin cfg0.N := ⟨(i 0).val / 256, show (i 0).val / 256 < 32 by omega⟩
    have ht : t.val = (i 0).val / 256 := rfl
    have h0 := (by decide +kernel : ∀ t : Fin grid0.N, win0_15.index t 0 = t.val) t
    have h1 := (by decide +kernel : ∀ t : Fin grid0.N, win0_15.index t 1 = 0) t
    refine ⟨t, flush0_15 t, ?_⟩
    show i ∈ ((View.whole main_v9_2).slice (win0_15.rect t)).set
    rw [View.set_slice_whole, Rect.mem_set_unit]
    intro a
    match a with
    | ⟨0, _⟩ => show win0_15.index t 0 * 256 ≤ (i 0).val ∧ (i 0).val < win0_15.index t 0 * 256 + 256; omega
    | ⟨1, _⟩ => show win0_15.index t 1 * 512 ≤ (i 1).val ∧ (i 1).val < win0_15.index t 1 * 512 + 512; omega

end Cert.Kernel14Ideal.Merge

end
-- ==== Proof.MergeRef.lean ====
/- The even layer's merge and outer gate: the reference's three results are the arrays of MergeSpec. -/
module

public import proofs.«01_k».proof.Proof.Gen.Reference14Ideal.Read
public import proofs.«01_k».proof.Proof.MergeSpec
public import Idealize.ShloMosaic.Lib.Pointwise

@[expose] public section

noncomputable section

namespace Cert.Reference14Ideal.Merge

open Cert.Reference14Ideal Cert.Reference14Ideal.Gen Cert.Reference14Ideal.Read
open Idealize.ShloMosaic Cert.Gate Cert.Conv Cert.Merge

variable (O0 : Rows.Idx → EReal) (L0 : Heads.Idx → EReal) (O1 : Rows.Idx → EReal) (L1 : Heads.Idx → EReal)
  (O2 : Rows.Idx → EReal) (L2 : Heads.Idx → EReal) (P : Proj.Idx → EReal) (T : Taps.Idx → EReal)

theorem bot_bits : Ideal.ofBits .f32 0xFF800000#32 = (⊥ : EReal) := by
  simp [Ideal.ofBits, Ideal.ieee]

/-- One of three. -/
def one3 (a b c : EReal) (g : Fin 3) : EReal := if g.val < 1 then a else if g.val - 1 < 1 then b else c

theorem stack_at (g : Fin 3) (r : Fin 8192) (H : Fin 8) :
    val_main_v13 (F := Ideal) L0 L1 L2 (ix3 g r H) = one3 (L0 (ix2 r H)) (L1 (ix2 r H)) (L2 (ix2 r H)) g := by
  unfold one3
  pointwise [val_main_v13, val_main_v12, val_main_v11, val_main_v10]
  rfl

theorem top_at (r : Fin 8192) (H : Fin 8) :
    val_main_v14 (F := Ideal) L0 L1 L2 (ix2 r H) = mx (L0 (ix2 r H)) (L1 (ix2 r H)) (L2 (ix2 r H)) := by
  have h := fun g => stack_at L0 L1 L2 g r H
  refine Eq.trans ?_ (fold_mx (one3 (L0 (ix2 r H)) (L1 (ix2 r H)) (L2 (ix2 r H))))
  simp only [← h]
  unfold val_main_v14
  generalize val_main_v13 (F := Ideal) L0 L1 L2 = y
  pointwise [val_main_cst]
  rw [bot_bits]

theorem exp_at (g : Fin 3) (r : Fin 8192) (H : Fin 8) :
    val_main_v20 (F := Ideal) L0 L1 L2 (ix3 g r H)
      = ex (L0 (ix2 r H)) (L1 (ix2 r H)) (L2 (ix2 r H)) (one3 (L0 (ix2 r H)) (L1 (ix2 r H)) (L2 (ix2 r H)) g) := by
  unfold ex
  rw [← top_at, ← stack_at]
  unfold val_main_v20 val_main_v19 val_main_v18 val_main_v17 val_main_v16
  generalize val_main_v13 (F := Ideal) L0 L1 L2 = y
  generalize val_main_v14 (F := Ideal) L0 L1 L2 = q
  pointwise [val_main_v15, val_main_cst_0]
  rw [bot_bits, max_bot_left]

theorem tot_at (r : Fin 8192) (H : Fin 8) :
    val_main_v21 (F := Ideal) L0 L1 L2 (ix2 r H) = tot (L0 (ix2 r H)) (L1 (ix2 r H)) (L2 (ix2 r H)) := by
  have h := fun g => exp_at L0 L1 L2 g r H
  have e : val_main_v21 (F := Ideal) L0 L1 L2 (ix2 r H) = ∑ g : Fin 3, val_main_v20 (F := Ideal) L0 L1 L2 (ix3 g r H) := by
    unfold val_main_v21
    generalize val_main_v20 (F := Ideal) L0 L1 L2 = y
    pointwise [val_main_cst_1]
  rw [e, Fin.sum_univ_three, h, h, h]
  rfl

/-- The merged log-sum. -/
theorem ref_lt : val_main_v78 (F := Ideal) L0 L1 L2 = wholeLt L0 L1 L2 := by
  funext i
  obtain ⟨r, l, rfl⟩ : ∃ (r : Fin 8192) (l : Fin 512), i = ix2 r l := ⟨i 0, i 1, eq_ix2 i⟩
  show val_main_v78 (F := Ideal) L0 L1 L2 (ix2 r l) = lt L0 L1 L2 r l
  have e : val_main_v72 (F := Ideal) L0 L1 L2 = val_main_v21 (F := Ideal) L0 L1 L2 := by
    unfold val_main_v72 val_main_v71 val_main_v70 val_main_v21 val_main_v20 val_main_v19
    refine congrArg (fun y => Host.reduceAdd (Host.exp (subf _ y)) _ _ _) ?_
    unfold val_main_v69 val_main_v18 val_main_v68 val_main_v17 val_main_v16
    refine congrArg (fun y => broadcastInDim _ _ _ (broadcastInDim _ _ _ y)) (funext fun j => ?_)
    generalize hq : val_main_v14 (F := Ideal) L0 L1 L2 = q
    have hq' : val_main_v67 (F := Ideal) L0 L1 L2 = q := hq
    rw [hq']
    pointwise [val_main_v15, val_main_cst_0]
    rw [bot_bits, max_bot_left]
  unfold lt lse
  rw [← tot_at, ← top_at, ← e]
  unfold val_main_v78 val_main_v77 val_main_v76 val_main_v74 val_main_v73
  have h67 : val_main_v67 (F := Ideal) L0 L1 L2 = val_main_v14 (F := Ideal) L0 L1 L2 := rfl
  rw [h67]
  generalize val_main_v72 (F := Ideal) L0 L1 L2 = y
  generalize val_main_v14 (F := Ideal) L0 L1 L2 = q
  pointwise []

theorem ref_sg (r : Fin 8192) (j : Fin 1024) : val_main_v61 (F := Ideal) P (ix2 r j) = silu (z P r j) := by
  unfold silu sg z
  pointwise [val_main_v61, val_main_call0_v5, val_main_call0_v4, val_main_call0_cst_0, val_main_call0_v3, val_main_call0_v2, val_main_call0_cst,
    val_main_call0_v1, val_main_call0_v0, val_main_v6]
  simp only [sub_eq_add_neg, zero_add]

theorem ref_cv (r : Fin 8192) (l : Fin 512) : val_main_v58 (F := Ideal) P T (ix2 r l) = cv P T r.val l := by
  pointwise [val_main_v58, val_main_v57, val_main_v56, val_main_v55, val_main_v54, val_main_v53, val_main_v52, val_main_v51,
    val_main_v50, val_main_v49, val_main_v48, val_main_v47, val_main_v46, val_main_v45, val_main_v44, val_main_v43,
    val_main_cst_4, val_main_v42, val_main_v41, val_main_v40, val_main_v39, val_main_v38, val_main_v37, val_main_v36,
    val_main_v35, val_main_cst_3, val_main_v34, val_main_v5, val_main_v4]
  unfold cv tBack cg hb
  have swap : ∀ a b c : EReal, a + b + c = c + b + a := fun a b c => by rw [add_comm a b, add_comm (b + a) c, ← add_assoc]
  refine (swap _ _ _).trans (congrArg₂ (· + ·) (congrArg₂ (· + ·) ?_ ?_) ?_)
  · refine congrArg (T (ix2 2 l) * ·) ?_
    rw [dif_pos ⟨Nat.zero_le _, by omega⟩]
    rfl
  · refine congrArg (T (ix2 1 l) * ·) ?_
    by_cases h : 1 + r.val < 2
    · rw [dif_pos h, dif_neg (by omega)]
    · rw [dif_neg h, dif_pos ⟨by omega, by omega⟩]
      have e : 1 + r.val - 2 = r.val - 1 := by omega
      simp only [e]
  · refine congrArg (T (ix2 0 l) * ·) ?_
    by_cases h : r.val < 2
    · rw [dif_pos h, dif_neg (by omega)]
    · rw [dif_neg h, dif_pos ⟨by omega, by omega⟩]

theorem outs_at (g : Fin 3) (r : Fin 8192) (H : Fin 8) (k : Fin 64) :
    val_main_v29 (F := Ideal) O0 O1 O2 (ix4 g r H k)
      = one3 (O0 (ix2 r ⟨64 * H.val + k.val, by omega⟩)) (O1 (ix2 r ⟨64 * H.val + k.val, by omega⟩)) (O2 (ix2 r ⟨64 * H.val + k.val, by omega⟩)) g := by
  have s : ∀ A : Rows.Idx → EReal, shapeCast S8192x8x64 A shapeCasts_S8192x512_S8192x8x64 (ix3 r H k) = A (ix2 r ⟨64 * H.val + k.val, by omega⟩) := fun A => by
    refine shapeCast_apply _ _ _ _ ?_
    rw [Shape.rowMajor_val_two, Shape.rowMajor_val_three]
    show r.val * 512 + (64 * H.val + k.val) = (r.val * 8 + H.val) * 64 + k.val
    omega
  rw [← s O0, ← s O1, ← s O2]
  unfold one3 val_main_v29 val_main_v28 val_main_v27 val_main_v26 val_main_v9 val_main_v8 val_main_v7
  generalize shapeCast S8192x8x64 O0 shapeCasts_S8192x512_S8192x8x64 = a
  generalize shapeCast S8192x8x64 O1 shapeCasts_S8192x512_S8192x8x64 = b
  generalize shapeCast S8192x8x64 O2 shapeCasts_S8192x512_S8192x8x64 = d
  pointwise []
  rfl

variable {L0 L1 L2} (h0 : ∀ i, IsReal (L0 i)) (h1 : ∀ i, IsReal (L1 i)) (h2 : ∀ i, IsReal (L2 i))
include h0 h1 h2

theorem part_at (g : Fin 3) (r : Fin 8192) (H : Fin 8) :
    val_main_v24 (F := Ideal) L0 L1 L2 (ix3 g r H)
      = ex (L0 (ix2 r H)) (L1 (ix2 r H)) (L2 (ix2 r H)) (one3 (L0 (ix2 r H)) (L1 (ix2 r H)) (L2 (ix2 r H)) g)
        * Ideal.div 1 (tot (L0 (ix2 r H)) (L1 (ix2 r H)) (L2 (ix2 r H))) := by
  have hr : IsReal (one3 (L0 (ix2 r H)) (L1 (ix2 r H)) (L2 (ix2 r H)) g) := by
    unfold one3
    split
    · exact h0 _
    · split
      · exact h1 _
      · exact h2 _
  rw [← part_eq (h0 _) (h1 _) (h2 _) _ hr, ← tot_at, ← exp_at]
  unfold val_main_v24 val_main_v23 val_main_v22
  generalize val_main_v21 (F := Ideal) L0 L1 L2 = y
  generalize val_main_v20 (F := Ideal) L0 L1 L2 = q
  pointwise []

theorem ref_oa_at (r : Fin 8192) (l : Fin 512) : val_main_v33 (F := Ideal) O0 L0 O1 L1 O2 L2 (ix2 r l) = oa O0 L0 O1 L1 O2 L2 r l := by
  have hs : val_main_v33 (F := Ideal) O0 L0 O1 L1 O2 L2 (ix2 r l)
      = ∑ g : Fin 3, val_main_v24 (F := Ideal) L0 L1 L2 (ix3 g r (hd l))
          * val_main_v29 (F := Ideal) O0 O1 O2 (ix4 g r (hd l) (⟨l.val % 64, by omega⟩ : Fin 64)) := by
    unfold val_main_v33 val_main_v32 val_main_v31 val_main_v30 val_main_v25
    generalize val_main_v24 (F := Ideal) L0 L1 L2 = a
    generalize val_main_v29 (F := Ideal) O0 O1 O2 = b
    refine (shapeCast_apply _ _ (ix2 r l) (ix3 r (hd l) (⟨l.val % 64, by omega⟩ : Fin 64)) ?_).trans ?_
    · rw [Shape.rowMajor_val_two, Shape.rowMajor_val_three]
      show (r.val * 8 + l.val / 64) * 64 + l.val % 64 = r.val * 512 + l.val
      omega
    · pointwise [val_main_cst_2]
  have e : (⟨64 * (hd l).val + l.val % 64, by omega⟩ : Fin 512) = l := Fin.ext (by show 64 * (l.val / 64) + l.val % 64 = l.val; omega)
  rw [hs, Fin.sum_univ_three, part_at h0 h1 h2, part_at h0 h1 h2, part_at h0 h1 h2, outs_at, outs_at, outs_at]
  simp only [e]
  unfold oa merged
  rfl

theorem ref_oa : val_main_v33 (F := Ideal) O0 L0 O1 L1 O2 L2 = wholeOa O0 L0 O1 L1 O2 L2 := by
  funext i
  obtain ⟨r, l, rfl⟩ : ∃ (r : Fin 8192) (l : Fin 512), i = ix2 r l := ⟨i 0, i 1, eq_ix2 i⟩
  exact ref_oa_at O0 O1 O2 h0 h1 h2 r l

theorem ref_u : val_main_v75 (F := Ideal) O0 L0 O1 L1 O2 L2 P T = wholeU O0 L0 O1 L1 O2 L2 P T := by
  funext i
  obtain ⟨r, j, rfl⟩ : ∃ (r : Fin 8192) (j : Fin 1024), i = ix2 r j := ⟨i 0, i 1, eq_ix2 i⟩
  show val_main_v75 (F := Ideal) O0 L0 O1 L1 O2 L2 P T (ix2 r j) = u O0 L0 O1 L1 O2 L2 P T r j
  have ho := ref_oa_at O0 O1 O2 h0 h1 h2 r
  have hc := ref_cv P T r
  unfold u bg
  rw [← ref_sg]
  simp only [← ho, ← hc]
  unfold val_main_v75 val_main_v62 val_main_v60 val_main_v59
  generalize val_main_v33 (F := Ideal) O0 L0 O1 L1 O2 L2 = a
  generalize val_main_v58 (F := Ideal) P T = q
  generalize val_main_v61 (F := Ideal) P = s
  pointwise [val_main_v3]

end Cert.Reference14Ideal.Merge

end
-- ==== Proof.MergeClaims.lean ====
/- The even layer's merge and outer gate: the reference's frame and the equality of the two programs. -/
module

public import proofs.«01_k».proof.Defs
public import proofs.«01_k».proof.Proof.MergeRun
public import proofs.«01_k».proof.Proof.MergeRef
public import proofs.«01_k».proof.Proof.GateClaims
public import proofs.«01_k».proof.Proof.Gen.Pre_finite14

@[expose] public section

noncomputable section

namespace Cert.Proof

open Idealize.ShloMosaic Idealize.ShloMosaic.TcCoe Idealize.SL.Sem

/-- The reference of `_mix0_fwd` halts with its arguments untouched. -/
theorem frame_reference14 : Cert.quiescent_Reference14Ideal := fun m g _ =>
  (θ_run _ _ _).mono (fun r h => ⟨fun c => (h c).2.2.2, sem_eq_zero_of_no_sems (by decide) r.2⟩)
    (Cert.Reference14Ideal.Value.run (F := Ideal) m g)

/-- `_mix0_fwd` leaves the gated output, the merged output and the merged log-sum. -/
theorem algebraic_mix0_fwd : Cert.algebraic_Kernel14Ideal_Reference14Ideal_pre_finite14 := fun m g m' g' hpre hargs => by
  refine ⟨fun c => Cert.Merge.wholeU (Cert.Kernel14Ideal.Merge.aO0 m c) (Cert.Kernel14Ideal.Merge.aL0 m c) (Cert.Kernel14Ideal.Merge.aO1 m c)
      (Cert.Kernel14Ideal.Merge.aL1 m c) (Cert.Kernel14Ideal.Merge.aO2 m c) (Cert.Kernel14Ideal.Merge.aL2 m c) (Cert.Kernel14Ideal.Merge.aP m c)
      (Cert.Kernel14Ideal.Merge.aT m c),
    fun c => Cert.Merge.wholeOa (Cert.Kernel14Ideal.Merge.aO0 m c) (Cert.Kernel14Ideal.Merge.aL0 m c) (Cert.Kernel14Ideal.Merge.aO1 m c)
      (Cert.Kernel14Ideal.Merge.aL1 m c) (Cert.Kernel14Ideal.Merge.aO2 m c) (Cert.Kernel14Ideal.Merge.aL2 m c),
    fun c => Cert.Merge.wholeLt (Cert.Kernel14Ideal.Merge.aL0 m c) (Cert.Kernel14Ideal.Merge.aL1 m c) (Cert.Kernel14Ideal.Merge.aL2 m c), ?_, ?_⟩
  · refine (θ_run _ _ _).mono (fun r h c => ?_) (Cert.Kernel14Ideal.Value.run_blocks m g)
    obtain ⟨h0, h1, h2, hk⟩ := h c
    exact ⟨h0.trans (Cert.Kernel14Ideal.Merge.final13 m c), h1.trans (Cert.Kernel14Ideal.Merge.final14 m c),
      h2.trans (Cert.Kernel14Ideal.Merge.final15 m c), hk⟩
  · refine (θ_run _ _ _).mono (fun r h c => ?_) (Cert.Reference14Ideal.Value.run (F := Ideal) m' g')
    obtain ⟨h0, h1, h2, hk⟩ := h c
    obtain ⟨e0, e1, e2, e3, e4, e5, e6, e7⟩ := hargs c
    obtain ⟨p0, p1, p2⟩ := hpre c
    have r0 : ∀ i, Cert.Gate.IsReal (Cert.Kernel14Ideal.Merge.aL0 m c i) := fun i => real_of_lt _ (congrFun p0 i)
    have r1 : ∀ i, Cert.Gate.IsReal (Cert.Kernel14Ideal.Merge.aL1 m c i) := fun i => real_of_lt _ (congrFun p1 i)
    have r2 : ∀ i, Cert.Gate.IsReal (Cert.Kernel14Ideal.Merge.aL2 m c i) := fun i => real_of_lt _ (congrFun p2 i)
    refine ⟨(h0.trans (Cert.Reference14Ideal.Read.val_main_v75_eq _ _)).trans ?_,
      (h1.trans (Cert.Reference14Ideal.Read.val_main_v33_eq _ _)).trans ?_,
      (h2.trans (Cert.Reference14Ideal.Read.val_main_v78_eq _ _ _)).trans ?_, hk⟩
    · rw [e0, e1, e2, e3, e4, e5, e6, e7]
      exact Cert.Reference14Ideal.Merge.ref_u _ _ _ _ _ r0 r1 r2
    · rw [e0, e1, e2, e3, e4, e5]
      exact Cert.Reference14Ideal.Merge.ref_oa _ _ _ r0 r1 r2
    · rw [e1, e3, e5]
      exact Cert.Reference14Ideal.Merge.ref_lt _ _ _

end Cert.Proof

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Read
public import proofs.«01_k».proof.Proof.Gen.Pre_finite
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Read
public import proofs.«01_k».proof.Proof.Gen.Pre_finite12
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Read
public import proofs.«01_k».proof.Proof.Gen.Pre_finite13
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Read
public import proofs.«01_k».proof.Proof.Gen.Pre_finite14
public import proofs.«01_k».proof.Proof.ConvValue
public import proofs.«01_k».proof.Proof.ConvRef
public import proofs.«01_k».proof.Proof.AttnPre
public import proofs.«01_k».proof.Proof.GradClaims
public import proofs.«01_k».proof.Proof.StepClaims
public import proofs.«01_k».proof.Proof.InProjClaims
public import proofs.«01_k».proof.Proof.GateClaims
public import proofs.«01_k».proof.Proof.MergeClaims
public import Idealize.ShloMosaic.Adequacy
public import Idealize.ShloMosaic.Init

@[expose] public section

noncomputable section

namespace Cert.Proof

open Idealize.ShloMosaic Idealize.SL.Sem Cert.Kernel

/-- The reference halts with its arguments untouched. -/
theorem frame_reference : Cert.quiescent_ReferenceIdeal := fun m g _ =>
  (θ_run _ _ _).mono (fun r h => ⟨fun c => (h c).2.2.2, sem_eq_zero_of_no_sems (by decide) r.2⟩)
    (Cert.ReferenceIdeal.Value.run (F := Ideal) m g)

/-- The convolution's backward call leaves what the gradient of the forward lines is. -/
theorem algebraic_conv : Cert.algebraic_KernelIdeal_ReferenceIdeal := fun m g m' g' _ hargs => by
  refine ⟨fun c => Cert.Conv.dcg (Cert.KernelIdeal.Conv.aD m c) (Cert.KernelIdeal.Conv.aP m c) (Cert.KernelIdeal.Conv.aW m c),
    fun c => Cert.Conv.dhb (Cert.KernelIdeal.Conv.aD m c) (Cert.KernelIdeal.Conv.aP m c) (Cert.KernelIdeal.Conv.aW m c),
    fun c => Cert.Conv.dwUpTo (Cert.KernelIdeal.Conv.aD m c) (Cert.KernelIdeal.Conv.aP m c) 8192, ?_, ?_⟩
  · refine (θ_run _ _ _).mono (fun r h c => ?_) (Cert.KernelIdeal.Value.run_blocks m g)
    obtain ⟨h7, h8, h9, hk⟩ := h c
    exact ⟨h7.trans (Cert.KernelIdeal.Conv.final7 m c), h8.trans (Cert.KernelIdeal.Conv.final8 m c),
      h9.trans (Cert.KernelIdeal.Conv.final9 m c), hk⟩
  · refine (θ_run _ _ _).mono (fun r h c => ?_) (Cert.ReferenceIdeal.Value.run (F := Ideal) m' g')
    obtain ⟨h70, h71, h73, hk⟩ := h c
    obtain ⟨e0, e1, e2⟩ := hargs c
    refine ⟨(h70.trans (Cert.ReferenceIdeal.Read.val_main_v70_eq _ _ _)).trans ?_,
      (h71.trans (Cert.ReferenceIdeal.Read.val_main_v71_eq _ _ _)).trans ?_,
      (h73.trans (Cert.ReferenceIdeal.Read.val_main_v73_eq _ _)).trans ?_, hk⟩
    · rw [e0, e1, e2]; exact Cert.ReferenceIdeal.Conv.dcg_eq _ _ _
    · rw [e0, e1, e2]; exact Cert.ReferenceIdeal.Conv.dhb_eq _ _ _
    · rw [e0, e1]; exact Cert.ReferenceIdeal.Conv.dw_eq _ _

/-- The attention gradient's reference halts with its arguments untouched. -/
theorem frame_reference2 : Cert.quiescent_Reference2Ideal := fun m g _ =>
  (θ_run _ _ _).mono (fun r h => ⟨fun c => (h c).2.2.2, sem_eq_zero_of_no_sems (by decide) r.2⟩)
    (Cert.Reference2Ideal.Value.run (F := Ideal) m g)

theorem congr4 {A B C D R : Type} (f : A → B → C → D → R) {a a' : A} {b b' : B} {c c' : C} {d d' : D}
    (ha : a = a') (hb : b = b') (hc : c = c') (hd : d = d') : f a b c d = f a' b' c' d' := by
  subst ha hb hc hd; rfl

theorem congr7 {A B C D E G H R : Type} (f : A → B → C → D → E → G → H → R) {a a' : A} {b b' : B} {c c' : C}
    {d d' : D} {e e' : E} {g g' : G} {h h' : H} (ha : a = a') (hb : b = b') (hc : c = c') (hd : d = d') (he : e = e')
    (hg : g = g') (hh : h = h') : f a b c d e g h = f a' b' c' d' e' g' h' := by
  subst ha hb hc hd he hg hh; rfl

/-- The attention's backward call leaves what the gradient of the forward lines is. -/
theorem algebraic_attn : Cert.algebraic_Kernel2Ideal_Reference2Ideal_pre_finite := fun m g m' g' hpre hargs => by
  refine ⟨fun c => Cert.Reference2Ideal.Read.val_main_v211 (F := Ideal) (Cert.Kernel2Ideal.Attn.insOf m hpre c).x0
      (Cert.Kernel2Ideal.Attn.insOf m hpre c).x1 (Cert.Kernel2Ideal.Attn.insOf m hpre c).x2
      (Cert.Kernel2Ideal.Attn.insOf m hpre c).x3 (Cert.Kernel2Ideal.Attn.insOf m hpre c).x4
      (Cert.Kernel2Ideal.Attn.insOf m hpre c).x5 (Cert.Kernel2Ideal.Attn.insOf m hpre c).x6,
    fun c => Cert.Reference2Ideal.Read.val_main_v212 (F := Ideal) (Cert.Kernel2Ideal.Attn.insOf m hpre c).x0
      (Cert.Kernel2Ideal.Attn.insOf m hpre c).x1 (Cert.Kernel2Ideal.Attn.insOf m hpre c).x2
      (Cert.Kernel2Ideal.Attn.insOf m hpre c).x3 (Cert.Kernel2Ideal.Attn.insOf m hpre c).x4
      (Cert.Kernel2Ideal.Attn.insOf m hpre c).x5 (Cert.Kernel2Ideal.Attn.insOf m hpre c).x6,
    fun c => Cert.Reference2Ideal.Read.val_main_v213 (F := Ideal) (Cert.Kernel2Ideal.Attn.insOf m hpre c).x0
      (Cert.Kernel2Ideal.Attn.insOf m hpre c).x3 (Cert.Kernel2Ideal.Attn.insOf m hpre c).x5
      (Cert.Kernel2Ideal.Attn.insOf m hpre c).x6, ?_, ?_⟩
  · refine (θ_run _ _ _).mono (fun r h c => ?_) (Cert.Kernel2Ideal.Value.run_blocks m g)
    obtain ⟨h12, h13, h14, hk⟩ := h c
    have hS := Cert.Kernel2Ideal.Attn.spread_of m hpre c
    have hE := Cert.Kernel2Ideal.Attn.same_of m hpre c
    exact ⟨h12.trans ((Cert.Kernel2Ideal.Attn.final_dq m c hS).trans
        (funext fun i => Cert.Kernel2Ideal.Attn.dq_same hE i)),
      h13.trans ((Cert.Kernel2Ideal.Attn.final_dk m c hS).trans
        (funext fun i => Cert.Kernel2Ideal.Attn.dk_same hE i)),
      h14.trans ((Cert.Kernel2Ideal.Attn.final_dv m c hS).trans
        (funext fun i => Cert.Kernel2Ideal.Attn.dv_same hE i)), hk⟩
  · refine (θ_run _ _ _).mono (fun r h c => ?_) (Cert.Reference2Ideal.Value.run (F := Ideal) m' g')
    obtain ⟨h1, h2, h3, hk⟩ := h c
    obtain ⟨e0, e1, e2, e3, e4, e5, e6⟩ := hargs c
    exact ⟨(h1.trans (Cert.Reference2Ideal.Read.val_main_v211_eq _)).trans
        (congr7 Cert.Reference2Ideal.Read.val_main_v211 e0 e1 e2 e3 e4 e5 e6),
      (h2.trans (Cert.Reference2Ideal.Read.val_main_v212_eq _)).trans
        (congr7 Cert.Reference2Ideal.Read.val_main_v212 e0 e1 e2 e3 e4 e5 e6),
      (h3.trans (Cert.Reference2Ideal.Read.val_main_v213_eq _)).trans
        (congr4 Cert.Reference2Ideal.Read.val_main_v213 e0 e3 e5 e6), hk⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Pre_finite.Gen.facts, Cert.Pre_finite12.Gen.facts, Cert.Pre_finite13.Gen.facts, Cert.Pre_finite14.Gen.facts,
  fun m ρ _ => Cert.Kernel.Gen.frame m ρ, fun m ρ _ => Cert.KernelIdeal.Gen.frame m ρ, frame_reference,
  fun m ρ _ => Cert.Kernel2.Gen.frame m ρ, fun m ρ _ => Cert.Kernel2Ideal.Gen.frame m ρ,
  fun m ρ _ => Cert.Kernel2Ideal.Gen.frame m ρ, frame_reference2, fun m ρ _ => frame_reference2 m ρ trivial,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, frame_reference10,
  fun m ρ _ => Cert.Kernel11.Gen.frame m ρ, fun m ρ _ => Cert.Kernel11Ideal.Gen.frame m ρ, frame_reference11,
  fun m ρ _ => Cert.Kernel12.Gen.frame m ρ, fun m ρ _ => Cert.Kernel12Ideal.Gen.frame m ρ,
  fun m ρ _ => Cert.Kernel12Ideal.Gen.frame m ρ, frame_reference12, fun m ρ _ => frame_reference12 m ρ trivial,
  fun m ρ _ => Cert.Kernel13.Gen.frame m ρ, fun m ρ _ => Cert.Kernel13Ideal.Gen.frame m ρ,
  fun m ρ _ => Cert.Kernel13Ideal.Gen.frame m ρ, frame_reference13, fun m ρ _ => frame_reference13 m ρ trivial,
  fun m ρ _ => Cert.Kernel14.Gen.frame m ρ, fun m ρ _ => Cert.Kernel14Ideal.Gen.frame m ρ,
  fun m ρ _ => Cert.Kernel14Ideal.Gen.frame m ρ, frame_reference14, fun m ρ _ => frame_reference14 m ρ trivial,
  trivial, algebraic_conv,
  IdealRules.named_const.statement Cert.Kernel2Ideal.κ "mask" .f32 0xF149F2CA#32 ⊥ rfl, algebraic_attn,
  trivial, algebraic_g_w_in0a, trivial, algebraic_g_w_in0b, trivial, algebraic_g_w_in1, trivial, algebraic_g_w_out1,
  trivial, algebraic_d_h1, trivial, algebraic_d_h0, trivial, algebraic_in_proj1, trivial, algebraic_out_proj0,
  trivial, algebraic_out_proj1_loss, trivial, algebraic_in_proj0, trivial, algebraic_mix0_bwd_a,
  trivial, algebraic_mix0_fwd⟩

end Cert.Proof

end
